-- ==== Defs.lean ====
def Pre_KernelIn (m : (ℓ : Loc Cert.KernelIn.nD Cert.KernelIn.τ Cert.KernelIn.sig) → Buf (Elt Bits) ℓ) : Prop :=
  True

def Pre_KernelInIdeal (m : (ℓ : Loc Cert.KernelInIdeal.nD Cert.KernelInIdeal.τ Cert.KernelInIdeal.sig) → Buf (Elt Ideal) ℓ) : Prop :=
  True

def Pre_ReferenceInIdeal (m : (ℓ : Loc Cert.ReferenceInIdeal.nD Cert.ReferenceInIdeal.τ Cert.ReferenceInIdeal.sig) → Buf (Elt Ideal) ℓ) : Prop :=
  True

def Pre_KernelFl (m : (ℓ : Loc Cert.KernelFl.nD Cert.KernelFl.τ Cert.KernelFl.sig) → Buf (Elt Bits) ℓ) : Prop :=
  True

def Pre_KernelFlIdeal (m : (ℓ : Loc Cert.KernelFlIdeal.nD Cert.KernelFlIdeal.τ Cert.KernelFlIdeal.sig) → Buf (Elt Ideal) ℓ) : Prop :=
  True

def Pre_KernelFlIdeal_finite_fl [hPre_finite_fl : Cert.Pre_finite_fl.Facts] (m : (ℓ : Loc Cert.KernelFlIdeal.nD Cert.KernelFlIdeal.τ Cert.KernelFlIdeal.sig) → Buf (Elt Ideal) ℓ) : Prop :=
  ∀ c : Dev Cert.KernelFlIdeal.nD,
    (Cert.Pre_finite_fl.fn (F := Ideal) (m ((c.tc : Thread Cert.KernelFlIdeal.nD Cert.KernelFlIdeal.τ).loc Cert.KernelFlIdeal.main_arg0)) (m ((c.tc : Thread Cert.KernelFlIdeal.nD Cert.KernelFlIdeal.τ).loc Cert.KernelFlIdeal.main_arg1)) (m ((c.tc : Thread Cert.KernelFlIdeal.nD Cert.KernelFlIdeal.τ).loc Cert.KernelFlIdeal.main_arg2)) (m ((c.tc : Thread Cert.KernelFlIdeal.nD Cert.KernelFlIdeal.τ).loc Cert.KernelFlIdeal.main_arg3))).1 = (fun _ => 1#1)
    ∧ (Cert.Pre_finite_fl.fn (F := Ideal) (m ((c.tc : Thread Cert.KernelFlIdeal.nD Cert.KernelFlIdeal.τ).loc Cert.KernelFlIdeal.main_arg0)) (m ((c.tc : Thread Cert.KernelFlIdeal.nD Cert.KernelFlIdeal.τ).loc Cert.KernelFlIdeal.main_arg1)) (m ((c.tc : Thread Cert.KernelFlIdeal.nD Cert.KernelFlIdeal.τ).loc Cert.KernelFlIdeal.main_arg2)) (m ((c.tc : Thread Cert.KernelFlIdeal.nD Cert.KernelFlIdeal.τ).loc Cert.KernelFlIdeal.main_arg3))).2.1 = (fun _ => 1#1)
    ∧ (Cert.Pre_finite_fl.fn (F := Ideal) (m ((c.tc : Thread Cert.KernelFlIdeal.nD Cert.KernelFlIdeal.τ).loc Cert.KernelFlIdeal.main_arg0)) (m ((c.tc : Thread Cert.KernelFlIdeal.nD Cert.KernelFlIdeal.τ).loc Cert.KernelFlIdeal.main_arg1)) (m ((c.tc : Thread Cert.KernelFlIdeal.nD Cert.KernelFlIdeal.τ).loc Cert.KernelFlIdeal.main_arg2)) (m ((c.tc : Thread Cert.KernelFlIdeal.nD Cert.KernelFlIdeal.τ).loc Cert.KernelFlIdeal.main_arg3))).2.2.1 = (fun _ => 1#1)
    ∧ (Cert.Pre_finite_fl.fn (F := Ideal) (m ((c.tc : Thread Cert.KernelFlIdeal.nD Cert.KernelFlIdeal.τ).loc Cert.KernelFlIdeal.main_arg0)) (m ((c.tc : Thread Cert.KernelFlIdeal.nD Cert.KernelFlIdeal.τ).loc Cert.KernelFlIdeal.main_arg1)) (m ((c.tc : Thread Cert.KernelFlIdeal.nD Cert.KernelFlIdeal.τ).loc Cert.KernelFlIdeal.main_arg2)) (m ((c.tc : Thread Cert.KernelFlIdeal.nD Cert.KernelFlIdeal.τ).loc Cert.KernelFlIdeal.main_arg3))).2.2.2 = (fun _ => 1#1)

def Pre_ReferenceFlIdeal (m : (ℓ : Loc Cert.ReferenceFlIdeal.nD Cert.ReferenceFlIdeal.τ Cert.ReferenceFlIdeal.sig) → Buf (Elt Ideal) ℓ) : Prop :=
  True

def Pre_ReferenceFlIdeal_finite_fl [hPre_finite_fl : Cert.Pre_finite_fl.Facts] (m : (ℓ : Loc Cert.ReferenceFlIdeal.nD Cert.ReferenceFlIdeal.τ Cert.ReferenceFlIdeal.sig) → Buf (Elt Ideal) ℓ) : Prop :=
  ∀ c : Dev Cert.ReferenceFlIdeal.nD,
    (Cert.Pre_finite_fl.fn (F := Ideal) (m ((c.tc : Thread Cert.ReferenceFlIdeal.nD Cert.ReferenceFlIdeal.τ).loc Cert.ReferenceFlIdeal.main_arg0)) (m ((c.tc : Thread Cert.ReferenceFlIdeal.nD Cert.ReferenceFlIdeal.τ).loc Cert.ReferenceFlIdeal.main_arg1)) (m ((c.tc : Thread Cert.ReferenceFlIdeal.nD Cert.ReferenceFlIdeal.τ).loc Cert.ReferenceFlIdeal.main_arg2)) (m ((c.tc : Thread Cert.ReferenceFlIdeal.nD Cert.ReferenceFlIdeal.τ).loc Cert.ReferenceFlIdeal.main_arg3))).1 = (fun _ => 1#1)
    ∧ (Cert.Pre_finite_fl.fn (F := Ideal) (m ((c.tc : Thread Cert.ReferenceFlIdeal.nD Cert.ReferenceFlIdeal.τ).loc Cert.ReferenceFlIdeal.main_arg0)) (m ((c.tc : Thread Cert.ReferenceFlIdeal.nD Cert.ReferenceFlIdeal.τ).loc Cert.ReferenceFlIdeal.main_arg1)) (m ((c.tc : Thread Cert.ReferenceFlIdeal.nD Cert.ReferenceFlIdeal.τ).loc Cert.ReferenceFlIdeal.main_arg2)) (m ((c.tc : Thread Cert.ReferenceFlIdeal.nD Cert.ReferenceFlIdeal.τ).loc Cert.ReferenceFlIdeal.main_arg3))).2.1 = (fun _ => 1#1)
    ∧ (Cert.Pre_finite_fl.fn (F := Ideal) (m ((c.tc : Thread Cert.ReferenceFlIdeal.nD Cert.ReferenceFlIdeal.τ).loc Cert.ReferenceFlIdeal.main_arg0)) (m ((c.tc : Thread Cert.ReferenceFlIdeal.nD Cert.ReferenceFlIdeal.τ).loc Cert.ReferenceFlIdeal.main_arg1)) (m ((c.tc : Thread Cert.ReferenceFlIdeal.nD Cert.ReferenceFlIdeal.τ).loc Cert.ReferenceFlIdeal.main_arg2)) (m ((c.tc : Thread Cert.ReferenceFlIdeal.nD Cert.ReferenceFlIdeal.τ).loc Cert.ReferenceFlIdeal.main_arg3))).2.2.1 = (fun _ => 1#1)
    ∧ (Cert.Pre_finite_fl.fn (F := Ideal) (m ((c.tc : Thread Cert.ReferenceFlIdeal.nD Cert.ReferenceFlIdeal.τ).loc Cert.ReferenceFlIdeal.main_arg0)) (m ((c.tc : Thread Cert.ReferenceFlIdeal.nD Cert.ReferenceFlIdeal.τ).loc Cert.ReferenceFlIdeal.main_arg1)) (m ((c.tc : Thread Cert.ReferenceFlIdeal.nD Cert.ReferenceFlIdeal.τ).loc Cert.ReferenceFlIdeal.main_arg2)) (m ((c.tc : Thread Cert.ReferenceFlIdeal.nD Cert.ReferenceFlIdeal.τ).loc Cert.ReferenceFlIdeal.main_arg3))).2.2.2 = (fun _ => 1#1)

def Pre_KernelFw (m : (ℓ : Loc Cert.KernelFw.nD Cert.KernelFw.τ Cert.KernelFw.sig) → Buf (Elt Bits) ℓ) : Prop :=
  True

def Pre_KernelFwIdeal (m : (ℓ : Loc Cert.KernelFwIdeal.nD Cert.KernelFwIdeal.τ Cert.KernelFwIdeal.sig) → Buf (Elt Ideal) ℓ) : Prop :=
  True

def Pre_ReferenceFwIdeal (m : (ℓ : Loc Cert.ReferenceFwIdeal.nD Cert.ReferenceFwIdeal.τ Cert.ReferenceFwIdeal.sig) → Buf (Elt Ideal) ℓ) : Prop :=
  True

def Pre_KernelFx (m : (ℓ : Loc Cert.KernelFx.nD Cert.KernelFx.τ Cert.KernelFx.sig) → Buf (Elt Bits) ℓ) : Prop :=
  True

def Pre_KernelFxIdeal (m : (ℓ : Loc Cert.KernelFxIdeal.nD Cert.KernelFxIdeal.τ Cert.KernelFxIdeal.sig) → Buf (Elt Ideal) ℓ) : Prop :=
  True

def Pre_ReferenceFxIdeal (m : (ℓ : Loc Cert.ReferenceFxIdeal.nD Cert.ReferenceFxIdeal.τ Cert.ReferenceFxIdeal.sig) → Buf (Elt Ideal) ℓ) : Prop :=
  True

def Pre_KernelFd (m : (ℓ : Loc Cert.KernelFd.nD Cert.KernelFd.τ Cert.KernelFd.sig) → Buf (Elt Bits) ℓ) : Prop :=
  True

def Pre_KernelFdIdeal (m : (ℓ : Loc Cert.KernelFdIdeal.nD Cert.KernelFdIdeal.τ Cert.KernelFdIdeal.sig) → Buf (Elt Ideal) ℓ) : Prop :=
  True

def Pre_KernelFdIdeal_finite_fd [hPre_finite_fd : Cert.Pre_finite_fd.Facts] (m : (ℓ : Loc Cert.KernelFdIdeal.nD Cert.KernelFdIdeal.τ Cert.KernelFdIdeal.sig) → Buf (Elt Ideal) ℓ) : Prop :=
  ∀ c : Dev Cert.KernelFdIdeal.nD,
    (Cert.Pre_finite_fd.fn (F := Ideal) (m ((c.tc : Thread Cert.KernelFdIdeal.nD Cert.KernelFdIdeal.τ).loc Cert.KernelFdIdeal.main_arg0)) (m ((c.tc : Thread Cert.KernelFdIdeal.nD Cert.KernelFdIdeal.τ).loc Cert.KernelFdIdeal.main_arg1)) (m ((c.tc : Thread Cert.KernelFdIdeal.nD Cert.KernelFdIdeal.τ).loc Cert.KernelFdIdeal.main_arg2)) (m ((c.tc : Thread Cert.KernelFdIdeal.nD Cert.KernelFdIdeal.τ).loc Cert.KernelFdIdeal.main_arg3)) (m ((c.tc : Thread Cert.KernelFdIdeal.nD Cert.KernelFdIdeal.τ).loc Cert.KernelFdIdeal.main_arg4))).1 = (fun _ => 1#1)
    ∧ (Cert.Pre_finite_fd.fn (F := Ideal) (m ((c.tc : Thread Cert.KernelFdIdeal.nD Cert.KernelFdIdeal.τ).loc Cert.KernelFdIdeal.main_arg0)) (m ((c.tc : Thread Cert.KernelFdIdeal.nD Cert.KernelFdIdeal.τ).loc Cert.KernelFdIdeal.main_arg1)) (m ((c.tc : Thread Cert.KernelFdIdeal.nD Cert.KernelFdIdeal.τ).loc Cert.KernelFdIdeal.main_arg2)) (m ((c.tc : Thread Cert.KernelFdIdeal.nD Cert.KernelFdIdeal.τ).loc Cert.KernelFdIdeal.main_arg3)) (m ((c.tc : Thread Cert.KernelFdIdeal.nD Cert.KernelFdIdeal.τ).loc Cert.KernelFdIdeal.main_arg4))).2.1 = (fun _ => 1#1)
    ∧ (Cert.Pre_finite_fd.fn (F := Ideal) (m ((c.tc : Thread Cert.KernelFdIdeal.nD Cert.KernelFdIdeal.τ).loc Cert.KernelFdIdeal.main_arg0)) (m ((c.tc : Thread Cert.KernelFdIdeal.nD Cert.KernelFdIdeal.τ).loc Cert.KernelFdIdeal.main_arg1)) (m ((c.tc : Thread Cert.KernelFdIdeal.nD Cert.KernelFdIdeal.τ).loc Cert.KernelFdIdeal.main_arg2)) (m ((c.tc : Thread Cert.KernelFdIdeal.nD Cert.KernelFdIdeal.τ).loc Cert.KernelFdIdeal.main_arg3)) (m ((c.tc : Thread Cert.KernelFdIdeal.nD Cert.KernelFdIdeal.τ).loc Cert.KernelFdIdeal.main_arg4))).2.2.1 = (fun _ => 1#1)
    ∧ (Cert.Pre_finite_fd.fn (F := Ideal) (m ((c.tc : Thread Cert.KernelFdIdeal.nD Cert.KernelFdIdeal.τ).loc Cert.KernelFdIdeal.main_arg0)) (m ((c.tc : Thread Cert.KernelFdIdeal.nD Cert.KernelFdIdeal.τ).loc Cert.KernelFdIdeal.main_arg1)) (m ((c.tc : Thread Cert.KernelFdIdeal.nD Cert.KernelFdIdeal.τ).loc Cert.KernelFdIdeal.main_arg2)) (m ((c.tc : Thread Cert.KernelFdIdeal.nD Cert.KernelFdIdeal.τ).loc Cert.KernelFdIdeal.main_arg3)) (m ((c.tc : Thread Cert.KernelFdIdeal.nD Cert.KernelFdIdeal.τ).loc Cert.KernelFdIdeal.main_arg4))).2.2.2.1 = (fun _ => 1#1)
    ∧ (Cert.Pre_finite_fd.fn (F := Ideal) (m ((c.tc : Thread Cert.KernelFdIdeal.nD Cert.KernelFdIdeal.τ).loc Cert.KernelFdIdeal.main_arg0)) (m ((c.tc : Thread Cert.KernelFdIdeal.nD Cert.KernelFdIdeal.τ).loc Cert.KernelFdIdeal.main_arg1)) (m ((c.tc : Thread Cert.KernelFdIdeal.nD Cert.KernelFdIdeal.τ).loc Cert.KernelFdIdeal.main_arg2)) (m ((c.tc : Thread Cert.KernelFdIdeal.nD Cert.KernelFdIdeal.τ).loc Cert.KernelFdIdeal.main_arg3)) (m ((c.tc : Thread Cert.KernelFdIdeal.nD Cert.KernelFdIdeal.τ).loc Cert.KernelFdIdeal.main_arg4))).2.2.2.2 = (fun _ => 1#1)

def Pre_ReferenceFdIdeal (m : (ℓ : Loc Cert.ReferenceFdIdeal.nD Cert.ReferenceFdIdeal.τ Cert.ReferenceFdIdeal.sig) → Buf (Elt Ideal) ℓ) : Prop :=
  True

def Pre_ReferenceFdIdeal_finite_fd [hPre_finite_fd : Cert.Pre_finite_fd.Facts] (m : (ℓ : Loc Cert.ReferenceFdIdeal.nD Cert.ReferenceFdIdeal.τ Cert.ReferenceFdIdeal.sig) → Buf (Elt Ideal) ℓ) : Prop :=
  ∀ c : Dev Cert.ReferenceFdIdeal.nD,
    (Cert.Pre_finite_fd.fn (F := Ideal) (m ((c.tc : Thread Cert.ReferenceFdIdeal.nD Cert.ReferenceFdIdeal.τ).loc Cert.ReferenceFdIdeal.main_arg0)) (m ((c.tc : Thread Cert.ReferenceFdIdeal.nD Cert.ReferenceFdIdeal.τ).loc Cert.ReferenceFdIdeal.main_arg1)) (m ((c.tc : Thread Cert.ReferenceFdIdeal.nD Cert.ReferenceFdIdeal.τ).loc Cert.ReferenceFdIdeal.main_arg2)) (m ((c.tc : Thread Cert.ReferenceFdIdeal.nD Cert.ReferenceFdIdeal.τ).loc Cert.ReferenceFdIdeal.main_arg3)) (m ((c.tc : Thread Cert.ReferenceFdIdeal.nD Cert.ReferenceFdIdeal.τ).loc Cert.ReferenceFdIdeal.main_arg4))).1 = (fun _ => 1#1)
    ∧ (Cert.Pre_finite_fd.fn (F := Ideal) (m ((c.tc : Thread Cert.ReferenceFdIdeal.nD Cert.ReferenceFdIdeal.τ).loc Cert.ReferenceFdIdeal.main_arg0)) (m ((c.tc : Thread Cert.ReferenceFdIdeal.nD Cert.ReferenceFdIdeal.τ).loc Cert.ReferenceFdIdeal.main_arg1)) (m ((c.tc : Thread Cert.ReferenceFdIdeal.nD Cert.ReferenceFdIdeal.τ).loc Cert.ReferenceFdIdeal.main_arg2)) (m ((c.tc : Thread Cert.ReferenceFdIdeal.nD Cert.ReferenceFdIdeal.τ).loc Cert.ReferenceFdIdeal.main_arg3)) (m ((c.tc : Thread Cert.ReferenceFdIdeal.nD Cert.ReferenceFdIdeal.τ).loc Cert.ReferenceFdIdeal.main_arg4))).2.1 = (fun _ => 1#1)
    ∧ (Cert.Pre_finite_fd.fn (F := Ideal) (m ((c.tc : Thread Cert.ReferenceFdIdeal.nD Cert.ReferenceFdIdeal.τ).loc Cert.ReferenceFdIdeal.main_arg0)) (m ((c.tc : Thread Cert.ReferenceFdIdeal.nD Cert.ReferenceFdIdeal.τ).loc Cert.ReferenceFdIdeal.main_arg1)) (m ((c.tc : Thread Cert.ReferenceFdIdeal.nD Cert.ReferenceFdIdeal.τ).loc Cert.ReferenceFdIdeal.main_arg2)) (m ((c.tc : Thread Cert.ReferenceFdIdeal.nD Cert.ReferenceFdIdeal.τ).loc Cert.ReferenceFdIdeal.main_arg3)) (m ((c.tc : Thread Cert.ReferenceFdIdeal.nD Cert.ReferenceFdIdeal.τ).loc Cert.ReferenceFdIdeal.main_arg4))).2.2.1 = (fun _ => 1#1)
    ∧ (Cert.Pre_finite_fd.fn (F := Ideal) (m ((c.tc : Thread Cert.ReferenceFdIdeal.nD Cert.ReferenceFdIdeal.τ).loc Cert.ReferenceFdIdeal.main_arg0)) (m ((c.tc : Thread Cert.ReferenceFdIdeal.nD Cert.ReferenceFdIdeal.τ).loc Cert.ReferenceFdIdeal.main_arg1)) (m ((c.tc : Thread Cert.ReferenceFdIdeal.nD Cert.ReferenceFdIdeal.τ).loc Cert.ReferenceFdIdeal.main_arg2)) (m ((c.tc : Thread Cert.ReferenceFdIdeal.nD Cert.ReferenceFdIdeal.τ).loc Cert.ReferenceFdIdeal.main_arg3)) (m ((c.tc : Thread Cert.ReferenceFdIdeal.nD Cert.ReferenceFdIdeal.τ).loc Cert.ReferenceFdIdeal.main_arg4))).2.2.2.1 = (fun _ => 1#1)
    ∧ (Cert.Pre_finite_fd.fn (F := Ideal) (m ((c.tc : Thread Cert.ReferenceFdIdeal.nD Cert.ReferenceFdIdeal.τ).loc Cert.ReferenceFdIdeal.main_arg0)) (m ((c.tc : Thread Cert.ReferenceFdIdeal.nD Cert.ReferenceFdIdeal.τ).loc Cert.ReferenceFdIdeal.main_arg1)) (m ((c.tc : Thread Cert.ReferenceFdIdeal.nD Cert.ReferenceFdIdeal.τ).loc Cert.ReferenceFdIdeal.main_arg2)) (m ((c.tc : Thread Cert.ReferenceFdIdeal.nD Cert.ReferenceFdIdeal.τ).loc Cert.ReferenceFdIdeal.main_arg3)) (m ((c.tc : Thread Cert.ReferenceFdIdeal.nD Cert.ReferenceFdIdeal.τ).loc Cert.ReferenceFdIdeal.main_arg4))).2.2.2.2 = (fun _ => 1#1)

def Pre_KernelMkv (m : (ℓ : Loc Cert.KernelMkv.nD Cert.KernelMkv.τ Cert.KernelMkv.sig) → Buf (Elt Bits) ℓ) : Prop :=
  True

def Pre_KernelMkvIdeal (m : (ℓ : Loc Cert.KernelMkvIdeal.nD Cert.KernelMkvIdeal.τ Cert.KernelMkvIdeal.sig) → Buf (Elt Ideal) ℓ) : Prop :=
  True

def Pre_ReferenceMkvIdeal (m : (ℓ : Loc Cert.ReferenceMkvIdeal.nD Cert.ReferenceMkvIdeal.τ Cert.ReferenceMkvIdeal.sig) → Buf (Elt Ideal) ℓ) : Prop :=
  True

def Pre_KernelMix (m : (ℓ : Loc Cert.KernelMix.nD Cert.KernelMix.τ Cert.KernelMix.sig) → Buf (Elt Bits) ℓ) : Prop :=
  True

def Pre_KernelMixIdeal (m : (ℓ : Loc Cert.KernelMixIdeal.nD Cert.KernelMixIdeal.τ Cert.KernelMixIdeal.sig) → Buf (Elt Ideal) ℓ) : Prop :=
  True

def Pre_ReferenceMixIdeal (m : (ℓ : Loc Cert.ReferenceMixIdeal.nD Cert.ReferenceMixIdeal.τ Cert.ReferenceMixIdeal.sig) → Buf (Elt Ideal) ℓ) : Prop :=
  True

def Pre_KernelMem (m : (ℓ : Loc Cert.KernelMem.nD Cert.KernelMem.τ Cert.KernelMem.sig) → Buf (Elt Bits) ℓ) : Prop :=
  True

def Pre_KernelMemIdeal (m : (ℓ : Loc Cert.KernelMemIdeal.nD Cert.KernelMemIdeal.τ Cert.KernelMemIdeal.sig) → Buf (Elt Ideal) ℓ) : Prop :=
  True

def Pre_ReferenceMemIdeal (m : (ℓ : Loc Cert.ReferenceMemIdeal.nD Cert.ReferenceMemIdeal.τ Cert.ReferenceMemIdeal.sig) → Buf (Elt Ideal) ℓ) : Prop :=
  True

def Pre_KernelMef (m : (ℓ : Loc Cert.KernelMef.nD Cert.KernelMef.τ Cert.KernelMef.sig) → Buf (Elt Bits) ℓ) : Prop :=
  True

def Pre_KernelMefIdeal (m : (ℓ : Loc Cert.KernelMefIdeal.nD Cert.KernelMefIdeal.τ Cert.KernelMefIdeal.sig) → Buf (Elt Ideal) ℓ) : Prop :=
  True

def Pre_ReferenceMefIdeal (m : (ℓ : Loc Cert.ReferenceMefIdeal.nD Cert.ReferenceMefIdeal.τ Cert.ReferenceMefIdeal.sig) → Buf (Elt Ideal) ℓ) : Prop :=
  True

def quiescent_KernelIn [hKernelIn : Cert.KernelIn.Facts] : Prop :=
  ∀ (m : (ℓ : Loc Cert.KernelIn.nD Cert.KernelIn.τ Cert.KernelIn.sig) → Buf (Elt Bits) ℓ) (g : Dev Cert.KernelIn.nD → PrngReg), Pre_KernelIn m →
    θ_run (Cert.KernelIn.defs (F := Bits)) (onTc (τ := Cert.KernelIn.τ) (Cert.KernelIn.main (F := Bits))) ⟨m, fun _ => 0, g⟩ (fun r => (∀ c : Dev Cert.KernelIn.nD,
      r.2.mem ((c.tc : Thread Cert.KernelIn.nD Cert.KernelIn.τ).loc Cert.KernelIn.main_arg0) = m ((c.tc : Thread Cert.KernelIn.nD Cert.KernelIn.τ).loc Cert.KernelIn.main_arg0)
      ∧ r.2.mem ((c.tc : Thread Cert.KernelIn.nD Cert.KernelIn.τ).loc Cert.KernelIn.main_arg1) = m ((c.tc : Thread Cert.KernelIn.nD Cert.KernelIn.τ).loc Cert.KernelIn.main_arg1)
      ∧ r.2.mem ((c.tc : Thread Cert.KernelIn.nD Cert.KernelIn.τ).loc Cert.KernelIn.main_arg2) = m ((c.tc : Thread Cert.KernelIn.nD Cert.KernelIn.τ).loc Cert.KernelIn.main_arg2)
      ∧ r.2.mem ((c.tc : Thread Cert.KernelIn.nD Cert.KernelIn.τ).loc Cert.KernelIn.main_arg3) = m ((c.tc : Thread Cert.KernelIn.nD Cert.KernelIn.τ).loc Cert.KernelIn.main_arg3)
      ∧ r.2.mem ((c.tc : Thread Cert.KernelIn.nD Cert.KernelIn.τ).loc Cert.KernelIn.main_arg4) = m ((c.tc : Thread Cert.KernelIn.nD Cert.KernelIn.τ).loc Cert.KernelIn.main_arg4)
      ∧ r.2.mem ((c.tc : Thread Cert.KernelIn.nD Cert.KernelIn.τ).loc Cert.KernelIn.main_arg5) = m ((c.tc : Thread Cert.KernelIn.nD Cert.KernelIn.τ).loc Cert.KernelIn.main_arg5)
      ∧ r.2.mem ((c.tc : Thread Cert.KernelIn.nD Cert.KernelIn.τ).loc Cert.KernelIn.main_arg6) = m ((c.tc : Thread Cert.KernelIn.nD Cert.KernelIn.τ).loc Cert.KernelIn.main_arg6)
      ∧ r.2.mem ((c.tc : Thread Cert.KernelIn.nD Cert.KernelIn.τ).loc Cert.KernelIn.main_arg7) = m ((c.tc : Thread Cert.KernelIn.nD Cert.KernelIn.τ).loc Cert.KernelIn.main_arg7))
      ∧ r.2.sem = fun _ => 0)

def quiescent_KernelInIdeal [hKernelInIdeal : Cert.KernelInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg), Pre_KernelInIdeal m →
    θ_run (Cert.KernelInIdeal.defs (F := Ideal)) (onTc (τ := Cert.KernelInIdeal.τ) (Cert.KernelInIdeal.main (F := Ideal))) ⟨m, fun _ => 0, g⟩ (fun r => (∀ c : Dev Cert.KernelInIdeal.nD,
      r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
      ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
      ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
      ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
      ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
      ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
      ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
      ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ r.2.sem = fun _ => 0)

def quiescent_ReferenceInIdeal [hReferenceInIdeal : Cert.ReferenceInIdeal.Facts] : Prop :=
  ∀ (m : (ℓ : Loc Cert.ReferenceInIdeal.nD Cert.ReferenceInIdeal.τ Cert.ReferenceInIdeal.sig) → Buf (Elt Ideal) ℓ) (g : Dev Cert.ReferenceInIdeal.nD → PrngReg), Pre_ReferenceInIdeal m →
    θ_run (Cert.ReferenceInIdeal.defs (F := Ideal)) (onTc (τ := Cert.ReferenceInIdeal.τ) (Cert.ReferenceInIdeal.main (F := Ideal))) ⟨m, fun _ => 0, g⟩ (fun r => (∀ c : Dev Cert.ReferenceInIdeal.nD,
      r.2.mem ((c.tc : Thread Cert.ReferenceInIdeal.nD Cert.ReferenceInIdeal.τ).loc Cert.ReferenceInIdeal.main_arg0) = m ((c.tc : Thread Cert.ReferenceInIdeal.nD Cert.ReferenceInIdeal.τ).loc Cert.ReferenceInIdeal.main_arg0)
      ∧ r.2.mem ((c.tc : Thread Cert.ReferenceInIdeal.nD Cert.ReferenceInIdeal.τ).loc Cert.ReferenceInIdeal.main_arg1) = m ((c.tc : Thread Cert.ReferenceInIdeal.nD Cert.ReferenceInIdeal.τ).loc Cert.ReferenceInIdeal.main_arg1)
      ∧ r.2.mem ((c.tc : Thread Cert.ReferenceInIdeal.nD Cert.ReferenceInIdeal.τ).loc Cert.ReferenceInIdeal.main_arg2) = m ((c.tc : Thread Cert.ReferenceInIdeal.nD Cert.ReferenceInIdeal.τ).loc Cert.ReferenceInIdeal.main_arg2)
      ∧ r.2.mem ((c.tc : Thread Cert.ReferenceInIdeal.nD Cert.ReferenceInIdeal.τ).loc Cert.ReferenceInIdeal.main_arg3) = m ((c.tc : Thread Cert.ReferenceInIdeal.nD Cert.ReferenceInIdeal.τ).loc Cert.ReferenceInIdeal.main_arg3)
      ∧ r.2.mem ((c.tc : Thread Cert.ReferenceInIdeal.nD Cert.ReferenceInIdeal.τ).loc Cert.ReferenceInIdeal.main_arg4) = m ((c.tc : Thread Cert.ReferenceInIdeal.nD Cert.ReferenceInIdeal.τ).loc Cert.ReferenceInIdeal.main_arg4)
      ∧ r.2.mem ((c.tc : Thread Cert.ReferenceInIdeal.nD Cert.ReferenceInIdeal.τ).loc Cert.ReferenceInIdeal.main_arg5) = m ((c.tc : Thread Cert.ReferenceInIdeal.nD Cert.ReferenceInIdeal.τ).loc Cert.ReferenceInIdeal.main_arg5)
      ∧ r.2.mem ((c.tc : Thread Cert.ReferenceInIdeal.nD Cert.ReferenceInIdeal.τ).loc Cert.ReferenceInIdeal.main_arg6) = m ((c.tc : Thread Cert.ReferenceInIdeal.nD Cert.ReferenceInIdeal.τ).loc Cert.ReferenceInIdeal.main_arg6)
      ∧ r.2.mem ((c.tc : Thread Cert.ReferenceInIdeal.nD Cert.ReferenceInIdeal.τ).loc Cert.ReferenceInIdeal.main_arg7) = m ((c.tc : Thread Cert.ReferenceInIdeal.nD Cert.ReferenceInIdeal.τ).loc Cert.ReferenceInIdeal.main_arg7))
      ∧ r.2.sem = fun _ => 0)

def quiescent_KernelFl [hKernelFl : Cert.KernelFl.Facts] : Prop :=
  ∀ (m : (ℓ : Loc Cert.KernelFl.nD Cert.KernelFl.τ Cert.KernelFl.sig) → Buf (Elt Bits) ℓ) (g : Dev Cert.KernelFl.nD → PrngReg), Pre_KernelFl m →
    θ_run (Cert.KernelFl.defs (F := Bits)) (onTc (τ := Cert.KernelFl.τ) (Cert.KernelFl.main (F := Bits))) ⟨m, fun _ => 0, g⟩ (fun r => (∀ c : Dev Cert.KernelFl.nD,
      r.2.mem ((c.tc : Thread Cert.KernelFl.nD Cert.KernelFl.τ).loc Cert.KernelFl.main_arg0) = m ((c.tc : Thread Cert.KernelFl.nD Cert.KernelFl.τ).loc Cert.KernelFl.main_arg0)
      ∧ r.2.mem ((c.tc : Thread Cert.KernelFl.nD Cert.KernelFl.τ).loc Cert.KernelFl.main_arg1) = m ((c.tc : Thread Cert.KernelFl.nD Cert.KernelFl.τ).loc Cert.KernelFl.main_arg1)
      ∧ r.2.mem ((c.tc : Thread Cert.KernelFl.nD Cert.KernelFl.τ).loc Cert.KernelFl.main_arg2) = m ((c.tc : Thread Cert.KernelFl.nD Cert.KernelFl.τ).loc Cert.KernelFl.main_arg2)
      ∧ r.2.mem ((c.tc : Thread Cert.KernelFl.nD Cert.KernelFl.τ).loc Cert.KernelFl.main_arg3) = m ((c.tc : Thread Cert.KernelFl.nD Cert.KernelFl.τ).loc Cert.KernelFl.main_arg3))
      ∧ r.2.sem = fun _ => 0)

def quiescent_KernelFlIdeal [hKernelFlIdeal : Cert.KernelFlIdeal.Facts] : Prop :=
  ∀ (m : (ℓ : Loc Cert.KernelFlIdeal.nD Cert.KernelFlIdeal.τ Cert.KernelFlIdeal.sig) → Buf (Elt Ideal) ℓ) (g : Dev Cert.KernelFlIdeal.nD → PrngReg), Pre_KernelFlIdeal m →
    θ_run (Cert.KernelFlIdeal.defs (F := Ideal)) (onTc (τ := Cert.KernelFlIdeal.τ) (Cert.KernelFlIdeal.main (F := Ideal))) ⟨m, fun _ => 0, g⟩ (fun r => (∀ c : Dev Cert.KernelFlIdeal.nD,
      r.2.mem ((c.tc : Thread Cert.KernelFlIdeal.nD Cert.KernelFlIdeal.τ).loc Cert.KernelFlIdeal.main_arg0) = m ((c.tc : Thread Cert.KernelFlIdeal.nD Cert.KernelFlIdeal.τ).loc Cert.KernelFlIdeal.main_arg0)
      ∧ r.2.mem ((c.tc : Thread Cert.KernelFlIdeal.nD Cert.KernelFlIdeal.τ).loc Cert.KernelFlIdeal.main_arg1) = m ((c.tc : Thread Cert.KernelFlIdeal.nD Cert.KernelFlIdeal.τ).loc Cert.KernelFlIdeal.main_arg1)
      ∧ r.2.mem ((c.tc : Thread Cert.KernelFlIdeal.nD Cert.KernelFlIdeal.τ).loc Cert.KernelFlIdeal.main_arg2) = m ((c.tc : Thread Cert.KernelFlIdeal.nD Cert.KernelFlIdeal.τ).loc Cert.KernelFlIdeal.main_arg2)
      ∧ r.2.mem ((c.tc : Thread Cert.KernelFlIdeal.nD Cert.KernelFlIdeal.τ).loc Cert.KernelFlIdeal.main_arg3) = m ((c.tc : Thread Cert.KernelFlIdeal.nD Cert.KernelFlIdeal.τ).loc Cert.KernelFlIdeal.main_arg3))
      ∧ r.2.sem = fun _ => 0)

def quiescent_KernelFlIdeal_pre_finite_fl [hKernelFlIdeal : Cert.KernelFlIdeal.Facts] [hPre_finite_fl : Cert.Pre_finite_fl.Facts] : Prop :=
  ∀ (m : (ℓ : Loc Cert.KernelFlIdeal.nD Cert.KernelFlIdeal.τ Cert.KernelFlIdeal.sig) → Buf (Elt Ideal) ℓ) (g : Dev Cert.KernelFlIdeal.nD → PrngReg), Pre_KernelFlIdeal_finite_fl m →
    θ_run (Cert.KernelFlIdeal.defs (F := Ideal)) (onTc (τ := Cert.KernelFlIdeal.τ) (Cert.KernelFlIdeal.main (F := Ideal))) ⟨m, fun _ => 0, g⟩ (fun r => (∀ c : Dev Cert.KernelFlIdeal.nD,
      r.2.mem ((c.tc : Thread Cert.KernelFlIdeal.nD Cert.KernelFlIdeal.τ).loc Cert.KernelFlIdeal.main_arg0) = m ((c.tc : Thread Cert.KernelFlIdeal.nD Cert.KernelFlIdeal.τ).loc Cert.KernelFlIdeal.main_arg0)
      ∧ r.2.mem ((c.tc : Thread Cert.KernelFlIdeal.nD Cert.KernelFlIdeal.τ).loc Cert.KernelFlIdeal.main_arg1) = m ((c.tc : Thread Cert.KernelFlIdeal.nD Cert.KernelFlIdeal.τ).loc Cert.KernelFlIdeal.main_arg1)
      ∧ r.2.mem ((c.tc : Thread Cert.KernelFlIdeal.nD Cert.KernelFlIdeal.τ).loc Cert.KernelFlIdeal.main_arg2) = m ((c.tc : Thread Cert.KernelFlIdeal.nD Cert.KernelFlIdeal.τ).loc Cert.KernelFlIdeal.main_arg2)
      ∧ r.2.mem ((c.tc : Thread Cert.KernelFlIdeal.nD Cert.KernelFlIdeal.τ).loc Cert.KernelFlIdeal.main_arg3) = m ((c.tc : Thread Cert.KernelFlIdeal.nD Cert.KernelFlIdeal.τ).loc Cert.KernelFlIdeal.main_arg3))
      ∧ r.2.sem = fun _ => 0)

def quiescent_ReferenceFlIdeal [hReferenceFlIdeal : Cert.ReferenceFlIdeal.Facts] : Prop :=
  ∀ (m : (ℓ : Loc Cert.ReferenceFlIdeal.nD Cert.ReferenceFlIdeal.τ Cert.ReferenceFlIdeal.sig) → Buf (Elt Ideal) ℓ) (g : Dev Cert.ReferenceFlIdeal.nD → PrngReg), Pre_ReferenceFlIdeal m →
    θ_run (Cert.ReferenceFlIdeal.defs (F := Ideal)) (onTc (τ := Cert.ReferenceFlIdeal.τ) (Cert.ReferenceFlIdeal.main (F := Ideal))) ⟨m, fun _ => 0, g⟩ (fun r => (∀ c : Dev Cert.ReferenceFlIdeal.nD,
      r.2.mem ((c.tc : Thread Cert.ReferenceFlIdeal.nD Cert.ReferenceFlIdeal.τ).loc Cert.ReferenceFlIdeal.main_arg0) = m ((c.tc : Thread Cert.ReferenceFlIdeal.nD Cert.ReferenceFlIdeal.τ).loc Cert.ReferenceFlIdeal.main_arg0)
      ∧ r.2.mem ((c.tc : Thread Cert.ReferenceFlIdeal.nD Cert.ReferenceFlIdeal.τ).loc Cert.ReferenceFlIdeal.main_arg1) = m ((c.tc : Thread Cert.ReferenceFlIdeal.nD Cert.ReferenceFlIdeal.τ).loc Cert.ReferenceFlIdeal.main_arg1)
      ∧ r.2.mem ((c.tc : Thread Cert.ReferenceFlIdeal.nD Cert.ReferenceFlIdeal.τ).loc Cert.ReferenceFlIdeal.main_arg2) = m ((c.tc : Thread Cert.ReferenceFlIdeal.nD Cert.ReferenceFlIdeal.τ).loc Cert.ReferenceFlIdeal.main_arg2)
      ∧ r.2.mem ((c.tc : Thread Cert.ReferenceFlIdeal.nD Cert.ReferenceFlIdeal.τ).loc Cert.ReferenceFlIdeal.main_arg3) = m ((c.tc : Thread Cert.ReferenceFlIdeal.nD Cert.ReferenceFlIdeal.τ).loc Cert.ReferenceFlIdeal.main_arg3))
      ∧ r.2.sem = fun _ => 0)

def quiescent_ReferenceFlIdeal_pre_finite_fl [hReferenceFlIdeal : Cert.ReferenceFlIdeal.Facts] [hPre_finite_fl : Cert.Pre_finite_fl.Facts] : Prop :=
  ∀ (m : (ℓ : Loc Cert.ReferenceFlIdeal.nD Cert.ReferenceFlIdeal.τ Cert.ReferenceFlIdeal.sig) → Buf (Elt Ideal) ℓ) (g : Dev Cert.ReferenceFlIdeal.nD → PrngReg), Pre_ReferenceFlIdeal_finite_fl m →
    θ_run (Cert.ReferenceFlIdeal.defs (F := Ideal)) (onTc (τ := Cert.ReferenceFlIdeal.τ) (Cert.ReferenceFlIdeal.main (F := Ideal))) ⟨m, fun _ => 0, g⟩ (fun r => (∀ c : Dev Cert.ReferenceFlIdeal.nD,
      r.2.mem ((c.tc : Thread Cert.ReferenceFlIdeal.nD Cert.ReferenceFlIdeal.τ).loc Cert.ReferenceFlIdeal.main_arg0) = m ((c.tc : Thread Cert.ReferenceFlIdeal.nD Cert.ReferenceFlIdeal.τ).loc Cert.ReferenceFlIdeal.main_arg0)
      ∧ r.2.mem ((c.tc : Thread Cert.ReferenceFlIdeal.nD Cert.ReferenceFlIdeal.τ).loc Cert.ReferenceFlIdeal.main_arg1) = m ((c.tc : Thread Cert.ReferenceFlIdeal.nD Cert.ReferenceFlIdeal.τ).loc Cert.ReferenceFlIdeal.main_arg1)
      ∧ r.2.mem ((c.tc : Thread Cert.ReferenceFlIdeal.nD Cert.ReferenceFlIdeal.τ).loc Cert.ReferenceFlIdeal.main_arg2) = m ((c.tc : Thread Cert.ReferenceFlIdeal.nD Cert.ReferenceFlIdeal.τ).loc Cert.ReferenceFlIdeal.main_arg2)
      ∧ r.2.mem ((c.tc : Thread Cert.ReferenceFlIdeal.nD Cert.ReferenceFlIdeal.τ).loc Cert.ReferenceFlIdeal.main_arg3) = m ((c.tc : Thread Cert.ReferenceFlIdeal.nD Cert.ReferenceFlIdeal.τ).loc Cert.ReferenceFlIdeal.main_arg3))
      ∧ r.2.sem = fun _ => 0)

def quiescent_KernelFw [hKernelFw : Cert.KernelFw.Facts] : Prop :=
  ∀ (m : (ℓ : Loc Cert.KernelFw.nD Cert.KernelFw.τ Cert.KernelFw.sig) → Buf (Elt Bits) ℓ) (g : Dev Cert.KernelFw.nD → PrngReg), Pre_KernelFw m →
    θ_run (Cert.KernelFw.defs (F := Bits)) (onTc (τ := Cert.KernelFw.τ) (Cert.KernelFw.main (F := Bits))) ⟨m, fun _ => 0, g⟩ (fun r => (∀ c : Dev Cert.KernelFw.nD,
      r.2.mem ((c.tc : Thread Cert.KernelFw.nD Cert.KernelFw.τ).loc Cert.KernelFw.main_arg0) = m ((c.tc : Thread Cert.KernelFw.nD Cert.KernelFw.τ).loc Cert.KernelFw.main_arg0)
      ∧ r.2.mem ((c.tc : Thread Cert.KernelFw.nD Cert.KernelFw.τ).loc Cert.KernelFw.main_arg1) = m ((c.tc : Thread Cert.KernelFw.nD Cert.KernelFw.τ).loc Cert.KernelFw.main_arg1)
      ∧ r.2.mem ((c.tc : Thread Cert.KernelFw.nD Cert.KernelFw.τ).loc Cert.KernelFw.main_arg2) = m ((c.tc : Thread Cert.KernelFw.nD Cert.KernelFw.τ).loc Cert.KernelFw.main_arg2))
      ∧ r.2.sem = fun _ => 0)

def quiescent_KernelFwIdeal [hKernelFwIdeal : Cert.KernelFwIdeal.Facts] : Prop :=
  ∀ (m : (ℓ : Loc Cert.KernelFwIdeal.nD Cert.KernelFwIdeal.τ Cert.KernelFwIdeal.sig) → Buf (Elt Ideal) ℓ) (g : Dev Cert.KernelFwIdeal.nD → PrngReg), Pre_KernelFwIdeal m →
    θ_run (Cert.KernelFwIdeal.defs (F := Ideal)) (onTc (τ := Cert.KernelFwIdeal.τ) (Cert.KernelFwIdeal.main (F := Ideal))) ⟨m, fun _ => 0, g⟩ (fun r => (∀ c : Dev Cert.KernelFwIdeal.nD,
      r.2.mem ((c.tc : Thread Cert.KernelFwIdeal.nD Cert.KernelFwIdeal.τ).loc Cert.KernelFwIdeal.main_arg0) = m ((c.tc : Thread Cert.KernelFwIdeal.nD Cert.KernelFwIdeal.τ).loc Cert.KernelFwIdeal.main_arg0)
      ∧ r.2.mem ((c.tc : Thread Cert.KernelFwIdeal.nD Cert.KernelFwIdeal.τ).loc Cert.KernelFwIdeal.main_arg1) = m ((c.tc : Thread Cert.KernelFwIdeal.nD Cert.KernelFwIdeal.τ).loc Cert.KernelFwIdeal.main_arg1)
      ∧ r.2.mem ((c.tc : Thread Cert.KernelFwIdeal.nD Cert.KernelFwIdeal.τ).loc Cert.KernelFwIdeal.main_arg2) = m ((c.tc : Thread Cert.KernelFwIdeal.nD Cert.KernelFwIdeal.τ).loc Cert.KernelFwIdeal.main_arg2))
      ∧ r.2.sem = fun _ => 0)

def quiescent_ReferenceFwIdeal [hReferenceFwIdeal : Cert.ReferenceFwIdeal.Facts] : Prop :=
  ∀ (m : (ℓ : Loc Cert.ReferenceFwIdeal.nD Cert.ReferenceFwIdeal.τ Cert.ReferenceFwIdeal.sig) → Buf (Elt Ideal) ℓ) (g : Dev Cert.ReferenceFwIdeal.nD → PrngReg), Pre_ReferenceFwIdeal m →
    θ_run (Cert.ReferenceFwIdeal.defs (F := Ideal)) (onTc (τ := Cert.ReferenceFwIdeal.τ) (Cert.ReferenceFwIdeal.main (F := Ideal))) ⟨m, fun _ => 0, g⟩ (fun r => (∀ c : Dev Cert.ReferenceFwIdeal.nD,
      r.2.mem ((c.tc : Thread Cert.ReferenceFwIdeal.nD Cert.ReferenceFwIdeal.τ).loc Cert.ReferenceFwIdeal.main_arg0) = m ((c.tc : Thread Cert.ReferenceFwIdeal.nD Cert.ReferenceFwIdeal.τ).loc Cert.ReferenceFwIdeal.main_arg0)
      ∧ r.2.mem ((c.tc : Thread Cert.ReferenceFwIdeal.nD Cert.ReferenceFwIdeal.τ).loc Cert.ReferenceFwIdeal.main_arg1) = m ((c.tc : Thread Cert.ReferenceFwIdeal.nD Cert.ReferenceFwIdeal.τ).loc Cert.ReferenceFwIdeal.main_arg1)
      ∧ r.2.mem ((c.tc : Thread Cert.ReferenceFwIdeal.nD Cert.ReferenceFwIdeal.τ).loc Cert.ReferenceFwIdeal.main_arg2) = m ((c.tc : Thread Cert.ReferenceFwIdeal.nD Cert.ReferenceFwIdeal.τ).loc Cert.ReferenceFwIdeal.main_arg2))
      ∧ r.2.sem = fun _ => 0)

def quiescent_KernelFx [hKernelFx : Cert.KernelFx.Facts] : Prop :=
  ∀ (m : (ℓ : Loc Cert.KernelFx.nD Cert.KernelFx.τ Cert.KernelFx.sig) → Buf (Elt Bits) ℓ) (g : Dev Cert.KernelFx.nD → PrngReg), Pre_KernelFx m →
    θ_run (Cert.KernelFx.defs (F := Bits)) (onTc (τ := Cert.KernelFx.τ) (Cert.KernelFx.main (F := Bits))) ⟨m, fun _ => 0, g⟩ (fun r => (∀ c : Dev Cert.KernelFx.nD,
      r.2.mem ((c.tc : Thread Cert.KernelFx.nD Cert.KernelFx.τ).loc Cert.KernelFx.main_arg0) = m ((c.tc : Thread Cert.KernelFx.nD Cert.KernelFx.τ).loc Cert.KernelFx.main_arg0)
      ∧ r.2.mem ((c.tc : Thread Cert.KernelFx.nD Cert.KernelFx.τ).loc Cert.KernelFx.main_arg1) = m ((c.tc : Thread Cert.KernelFx.nD Cert.KernelFx.τ).loc Cert.KernelFx.main_arg1)
      ∧ r.2.mem ((c.tc : Thread Cert.KernelFx.nD Cert.KernelFx.τ).loc Cert.KernelFx.main_arg2) = m ((c.tc : Thread Cert.KernelFx.nD Cert.KernelFx.τ).loc Cert.KernelFx.main_arg2)
      ∧ r.2.mem ((c.tc : Thread Cert.KernelFx.nD Cert.KernelFx.τ).loc Cert.KernelFx.main_arg3) = m ((c.tc : Thread Cert.KernelFx.nD Cert.KernelFx.τ).loc Cert.KernelFx.main_arg3)
      ∧ r.2.mem ((c.tc : Thread Cert.KernelFx.nD Cert.KernelFx.τ).loc Cert.KernelFx.main_arg4) = m ((c.tc : Thread Cert.KernelFx.nD Cert.KernelFx.τ).loc Cert.KernelFx.main_arg4)
      ∧ r.2.mem ((c.tc : Thread Cert.KernelFx.nD Cert.KernelFx.τ).loc Cert.KernelFx.main_arg5) = m ((c.tc : Thread Cert.KernelFx.nD Cert.KernelFx.τ).loc Cert.KernelFx.main_arg5))
      ∧ r.2.sem = fun _ => 0)

def quiescent_KernelFxIdeal [hKernelFxIdeal : Cert.KernelFxIdeal.Facts] : Prop :=
  ∀ (m : (ℓ : Loc Cert.KernelFxIdeal.nD Cert.KernelFxIdeal.τ Cert.KernelFxIdeal.sig) → Buf (Elt Ideal) ℓ) (g : Dev Cert.KernelFxIdeal.nD → PrngReg), Pre_KernelFxIdeal m →
    θ_run (Cert.KernelFxIdeal.defs (F := Ideal)) (onTc (τ := Cert.KernelFxIdeal.τ) (Cert.KernelFxIdeal.main (F := Ideal))) ⟨m, fun _ => 0, g⟩ (fun r => (∀ c : Dev Cert.KernelFxIdeal.nD,
      r.2.mem ((c.tc : Thread Cert.KernelFxIdeal.nD Cert.KernelFxIdeal.τ).loc Cert.KernelFxIdeal.main_arg0) = m ((c.tc : Thread Cert.KernelFxIdeal.nD Cert.KernelFxIdeal.τ).loc Cert.KernelFxIdeal.main_arg0)
      ∧ r.2.mem ((c.tc : Thread Cert.KernelFxIdeal.nD Cert.KernelFxIdeal.τ).loc Cert.KernelFxIdeal.main_arg1) = m ((c.tc : Thread Cert.KernelFxIdeal.nD Cert.KernelFxIdeal.τ).loc Cert.KernelFxIdeal.main_arg1)
      ∧ r.2.mem ((c.tc : Thread Cert.KernelFxIdeal.nD Cert.KernelFxIdeal.τ).loc Cert.KernelFxIdeal.main_arg2) = m ((c.tc : Thread Cert.KernelFxIdeal.nD Cert.KernelFxIdeal.τ).loc Cert.KernelFxIdeal.main_arg2)
      ∧ r.2.mem ((c.tc : Thread Cert.KernelFxIdeal.nD Cert.KernelFxIdeal.τ).loc Cert.KernelFxIdeal.main_arg3) = m ((c.tc : Thread Cert.KernelFxIdeal.nD Cert.KernelFxIdeal.τ).loc Cert.KernelFxIdeal.main_arg3)
      ∧ r.2.mem ((c.tc : Thread Cert.KernelFxIdeal.nD Cert.KernelFxIdeal.τ).loc Cert.KernelFxIdeal.main_arg4) = m ((c.tc : Thread Cert.KernelFxIdeal.nD Cert.KernelFxIdeal.τ).loc Cert.KernelFxIdeal.main_arg4)
      ∧ r.2.mem ((c.tc : Thread Cert.KernelFxIdeal.nD Cert.KernelFxIdeal.τ).loc Cert.KernelFxIdeal.main_arg5) = m ((c.tc : Thread Cert.KernelFxIdeal.nD Cert.KernelFxIdeal.τ).loc Cert.KernelFxIdeal.main_arg5))
      ∧ r.2.sem = fun _ => 0)

def quiescent_ReferenceFxIdeal [hReferenceFxIdeal : Cert.ReferenceFxIdeal.Facts] : Prop :=
  ∀ (m : (ℓ : Loc Cert.ReferenceFxIdeal.nD Cert.ReferenceFxIdeal.τ Cert.ReferenceFxIdeal.sig) → Buf (Elt Ideal) ℓ) (g : Dev Cert.ReferenceFxIdeal.nD → PrngReg), Pre_ReferenceFxIdeal m →
    θ_run (Cert.ReferenceFxIdeal.defs (F := Ideal)) (onTc (τ := Cert.ReferenceFxIdeal.τ) (Cert.ReferenceFxIdeal.main (F := Ideal))) ⟨m, fun _ => 0, g⟩ (fun r => (∀ c : Dev Cert.ReferenceFxIdeal.nD,
      r.2.mem ((c.tc : Thread Cert.ReferenceFxIdeal.nD Cert.ReferenceFxIdeal.τ).loc Cert.ReferenceFxIdeal.main_arg0) = m ((c.tc : Thread Cert.ReferenceFxIdeal.nD Cert.ReferenceFxIdeal.τ).loc Cert.ReferenceFxIdeal.main_arg0)
      ∧ r.2.mem ((c.tc : Thread Cert.ReferenceFxIdeal.nD Cert.ReferenceFxIdeal.τ).loc Cert.ReferenceFxIdeal.main_arg1) = m ((c.tc : Thread Cert.ReferenceFxIdeal.nD Cert.ReferenceFxIdeal.τ).loc Cert.ReferenceFxIdeal.main_arg1)
      ∧ r.2.mem ((c.tc : Thread Cert.ReferenceFxIdeal.nD Cert.ReferenceFxIdeal.τ).loc Cert.ReferenceFxIdeal.main_arg2) = m ((c.tc : Thread Cert.ReferenceFxIdeal.nD Cert.ReferenceFxIdeal.τ).loc Cert.ReferenceFxIdeal.main_arg2)
      ∧ r.2.mem ((c.tc : Thread Cert.ReferenceFxIdeal.nD Cert.ReferenceFxIdeal.τ).loc Cert.ReferenceFxIdeal.main_arg3) = m ((c.tc : Thread Cert.ReferenceFxIdeal.nD Cert.ReferenceFxIdeal.τ).loc Cert.ReferenceFxIdeal.main_arg3)
      ∧ r.2.mem ((c.tc : Thread Cert.ReferenceFxIdeal.nD Cert.ReferenceFxIdeal.τ).loc Cert.ReferenceFxIdeal.main_arg4) = m ((c.tc : Thread Cert.ReferenceFxIdeal.nD Cert.ReferenceFxIdeal.τ).loc Cert.ReferenceFxIdeal.main_arg4)
      ∧ r.2.mem ((c.tc : Thread Cert.ReferenceFxIdeal.nD Cert.ReferenceFxIdeal.τ).loc Cert.ReferenceFxIdeal.main_arg5) = m ((c.tc : Thread Cert.ReferenceFxIdeal.nD Cert.ReferenceFxIdeal.τ).loc Cert.ReferenceFxIdeal.main_arg5))
      ∧ r.2.sem = fun _ => 0)

def quiescent_KernelFd [hKernelFd : Cert.KernelFd.Facts] : Prop :=
  ∀ (m : (ℓ : Loc Cert.KernelFd.nD Cert.KernelFd.τ Cert.KernelFd.sig) → Buf (Elt Bits) ℓ) (g : Dev Cert.KernelFd.nD → PrngReg), Pre_KernelFd m →
    θ_run (Cert.KernelFd.defs (F := Bits)) (onTc (τ := Cert.KernelFd.τ) (Cert.KernelFd.main (F := Bits))) ⟨m, fun _ => 0, g⟩ (fun r => (∀ c : Dev Cert.KernelFd.nD,
      r.2.mem ((c.tc : Thread Cert.KernelFd.nD Cert.KernelFd.τ).loc Cert.KernelFd.main_arg0) = m ((c.tc : Thread Cert.KernelFd.nD Cert.KernelFd.τ).loc Cert.KernelFd.main_arg0)
      ∧ r.2.mem ((c.tc : Thread Cert.KernelFd.nD Cert.KernelFd.τ).loc Cert.KernelFd.main_arg1) = m ((c.tc : Thread Cert.KernelFd.nD Cert.KernelFd.τ).loc Cert.KernelFd.main_arg1)
      ∧ r.2.mem ((c.tc : Thread Cert.KernelFd.nD Cert.KernelFd.τ).loc Cert.KernelFd.main_arg2) = m ((c.tc : Thread Cert.KernelFd.nD Cert.KernelFd.τ).loc Cert.KernelFd.main_arg2)
      ∧ r.2.mem ((c.tc : Thread Cert.KernelFd.nD Cert.KernelFd.τ).loc Cert.KernelFd.main_arg3) = m ((c.tc : Thread Cert.KernelFd.nD Cert.KernelFd.τ).loc Cert.KernelFd.main_arg3)
      ∧ r.2.mem ((c.tc : Thread Cert.KernelFd.nD Cert.KernelFd.τ).loc Cert.KernelFd.main_arg4) = m ((c.tc : Thread Cert.KernelFd.nD Cert.KernelFd.τ).loc Cert.KernelFd.main_arg4))
      ∧ r.2.sem = fun _ => 0)

def quiescent_KernelFdIdeal [hKernelFdIdeal : Cert.KernelFdIdeal.Facts] : Prop :=
  ∀ (m : (ℓ : Loc Cert.KernelFdIdeal.nD Cert.KernelFdIdeal.τ Cert.KernelFdIdeal.sig) → Buf (Elt Ideal) ℓ) (g : Dev Cert.KernelFdIdeal.nD → PrngReg), Pre_KernelFdIdeal m →
    θ_run (Cert.KernelFdIdeal.defs (F := Ideal)) (onTc (τ := Cert.KernelFdIdeal.τ) (Cert.KernelFdIdeal.main (F := Ideal))) ⟨m, fun _ => 0, g⟩ (fun r => (∀ c : Dev Cert.KernelFdIdeal.nD,
      r.2.mem ((c.tc : Thread Cert.KernelFdIdeal.nD Cert.KernelFdIdeal.τ).loc Cert.KernelFdIdeal.main_arg0) = m ((c.tc : Thread Cert.KernelFdIdeal.nD Cert.KernelFdIdeal.τ).loc Cert.KernelFdIdeal.main_arg0)
      ∧ r.2.mem ((c.tc : Thread Cert.KernelFdIdeal.nD Cert.KernelFdIdeal.τ).loc Cert.KernelFdIdeal.main_arg1) = m ((c.tc : Thread Cert.KernelFdIdeal.nD Cert.KernelFdIdeal.τ).loc Cert.KernelFdIdeal.main_arg1)
      ∧ r.2.mem ((c.tc : Thread Cert.KernelFdIdeal.nD Cert.KernelFdIdeal.τ).loc Cert.KernelFdIdeal.main_arg2) = m ((c.tc : Thread Cert.KernelFdIdeal.nD Cert.KernelFdIdeal.τ).loc Cert.KernelFdIdeal.main_arg2)
      ∧ r.2.mem ((c.tc : Thread Cert.KernelFdIdeal.nD Cert.KernelFdIdeal.τ).loc Cert.KernelFdIdeal.main_arg3) = m ((c.tc : Thread Cert.KernelFdIdeal.nD Cert.KernelFdIdeal.τ).loc Cert.KernelFdIdeal.main_arg3)
      ∧ r.2.mem ((c.tc : Thread Cert.KernelFdIdeal.nD Cert.KernelFdIdeal.τ).loc Cert.KernelFdIdeal.main_arg4) = m ((c.tc : Thread Cert.KernelFdIdeal.nD Cert.KernelFdIdeal.τ).loc Cert.KernelFdIdeal.main_arg4))
      ∧ r.2.sem = fun _ => 0)

def quiescent_KernelFdIdeal_pre_finite_fd [hKernelFdIdeal : Cert.KernelFdIdeal.Facts] [hPre_finite_fd : Cert.Pre_finite_fd.Facts] : Prop :=
  ∀ (m : (ℓ : Loc Cert.KernelFdIdeal.nD Cert.KernelFdIdeal.τ Cert.KernelFdIdeal.sig) → Buf (Elt Ideal) ℓ) (g : Dev Cert.KernelFdIdeal.nD → PrngReg), Pre_KernelFdIdeal_finite_fd m →
    θ_run (Cert.KernelFdIdeal.defs (F := Ideal)) (onTc (τ := Cert.KernelFdIdeal.τ) (Cert.KernelFdIdeal.main (F := Ideal))) ⟨m, fun _ => 0, g⟩ (fun r => (∀ c : Dev Cert.KernelFdIdeal.nD,
      r.2.mem ((c.tc : Thread Cert.KernelFdIdeal.nD Cert.KernelFdIdeal.τ).loc Cert.KernelFdIdeal.main_arg0) = m ((c.tc : Thread Cert.KernelFdIdeal.nD Cert.KernelFdIdeal.τ).loc Cert.KernelFdIdeal.main_arg0)
      ∧ r.2.mem ((c.tc : Thread Cert.KernelFdIdeal.nD Cert.KernelFdIdeal.τ).loc Cert.KernelFdIdeal.main_arg1) = m ((c.tc : Thread Cert.KernelFdIdeal.nD Cert.KernelFdIdeal.τ).loc Cert.KernelFdIdeal.main_arg1)
      ∧ r.2.mem ((c.tc : Thread Cert.KernelFdIdeal.nD Cert.KernelFdIdeal.τ).loc Cert.KernelFdIdeal.main_arg2) = m ((c.tc : Thread Cert.KernelFdIdeal.nD Cert.KernelFdIdeal.τ).loc Cert.KernelFdIdeal.main_arg2)
      ∧ r.2.mem ((c.tc : Thread Cert.KernelFdIdeal.nD Cert.KernelFdIdeal.τ).loc Cert.KernelFdIdeal.main_arg3) = m ((c.tc : Thread Cert.KernelFdIdeal.nD Cert.KernelFdIdeal.τ).loc Cert.KernelFdIdeal.main_arg3)
      ∧ r.2.mem ((c.tc : Thread Cert.KernelFdIdeal.nD Cert.KernelFdIdeal.τ).loc Cert.KernelFdIdeal.main_arg4) = m ((c.tc : Thread Cert.KernelFdIdeal.nD Cert.KernelFdIdeal.τ).loc Cert.KernelFdIdeal.main_arg4))
      ∧ r.2.sem = fun _ => 0)

def quiescent_ReferenceFdIdeal [hReferenceFdIdeal : Cert.ReferenceFdIdeal.Facts] : Prop :=
  ∀ (m : (ℓ : Loc Cert.ReferenceFdIdeal.nD Cert.ReferenceFdIdeal.τ Cert.ReferenceFdIdeal.sig) → Buf (Elt Ideal) ℓ) (g : Dev Cert.ReferenceFdIdeal.nD → PrngReg), Pre_ReferenceFdIdeal m →
    θ_run (Cert.ReferenceFdIdeal.defs (F := Ideal)) (onTc (τ := Cert.ReferenceFdIdeal.τ) (Cert.ReferenceFdIdeal.main (F := Ideal))) ⟨m, fun _ => 0, g⟩ (fun r => (∀ c : Dev Cert.ReferenceFdIdeal.nD,
      r.2.mem ((c.tc : Thread Cert.ReferenceFdIdeal.nD Cert.ReferenceFdIdeal.τ).loc Cert.ReferenceFdIdeal.main_arg0) = m ((c.tc : Thread Cert.ReferenceFdIdeal.nD Cert.ReferenceFdIdeal.τ).loc Cert.ReferenceFdIdeal.main_arg0)
      ∧ r.2.mem ((c.tc : Thread Cert.ReferenceFdIdeal.nD Cert.ReferenceFdIdeal.τ).loc Cert.ReferenceFdIdeal.main_arg1) = m ((c.tc : Thread Cert.ReferenceFdIdeal.nD Cert.ReferenceFdIdeal.τ).loc Cert.ReferenceFdIdeal.main_arg1)
      ∧ r.2.mem ((c.tc : Thread Cert.ReferenceFdIdeal.nD Cert.ReferenceFdIdeal.τ).loc Cert.ReferenceFdIdeal.main_arg2) = m ((c.tc : Thread Cert.ReferenceFdIdeal.nD Cert.ReferenceFdIdeal.τ).loc Cert.ReferenceFdIdeal.main_arg2)
      ∧ r.2.mem ((c.tc : Thread Cert.ReferenceFdIdeal.nD Cert.ReferenceFdIdeal.τ).loc Cert.ReferenceFdIdeal.main_arg3) = m ((c.tc : Thread Cert.ReferenceFdIdeal.nD Cert.ReferenceFdIdeal.τ).loc Cert.ReferenceFdIdeal.main_arg3)
      ∧ r.2.mem ((c.tc : Thread Cert.ReferenceFdIdeal.nD Cert.ReferenceFdIdeal.τ).loc Cert.ReferenceFdIdeal.main_arg4) = m ((c.tc : Thread Cert.ReferenceFdIdeal.nD Cert.ReferenceFdIdeal.τ).loc Cert.ReferenceFdIdeal.main_arg4))
      ∧ r.2.sem = fun _ => 0)

def quiescent_ReferenceFdIdeal_pre_finite_fd [hReferenceFdIdeal : Cert.ReferenceFdIdeal.Facts] [hPre_finite_fd : Cert.Pre_finite_fd.Facts] : Prop :=
  ∀ (m : (ℓ : Loc Cert.ReferenceFdIdeal.nD Cert.ReferenceFdIdeal.τ Cert.ReferenceFdIdeal.sig) → Buf (Elt Ideal) ℓ) (g : Dev Cert.ReferenceFdIdeal.nD → PrngReg), Pre_ReferenceFdIdeal_finite_fd m →
    θ_run (Cert.ReferenceFdIdeal.defs (F := Ideal)) (onTc (τ := Cert.ReferenceFdIdeal.τ) (Cert.ReferenceFdIdeal.main (F := Ideal))) ⟨m, fun _ => 0, g⟩ (fun r => (∀ c : Dev Cert.ReferenceFdIdeal.nD,
      r.2.mem ((c.tc : Thread Cert.ReferenceFdIdeal.nD Cert.ReferenceFdIdeal.τ).loc Cert.ReferenceFdIdeal.main_arg0) = m ((c.tc : Thread Cert.ReferenceFdIdeal.nD Cert.ReferenceFdIdeal.τ).loc Cert.ReferenceFdIdeal.main_arg0)
      ∧ r.2.mem ((c.tc : Thread Cert.ReferenceFdIdeal.nD Cert.ReferenceFdIdeal.τ).loc Cert.ReferenceFdIdeal.main_arg1) = m ((c.tc : Thread Cert.ReferenceFdIdeal.nD Cert.ReferenceFdIdeal.τ).loc Cert.ReferenceFdIdeal.main_arg1)
      ∧ r.2.mem ((c.tc : Thread Cert.ReferenceFdIdeal.nD Cert.ReferenceFdIdeal.τ).loc Cert.ReferenceFdIdeal.main_arg2) = m ((c.tc : Thread Cert.ReferenceFdIdeal.nD Cert.ReferenceFdIdeal.τ).loc Cert.ReferenceFdIdeal.main_arg2)
      ∧ r.2.mem ((c.tc : Thread Cert.ReferenceFdIdeal.nD Cert.ReferenceFdIdeal.τ).loc Cert.ReferenceFdIdeal.main_arg3) = m ((c.tc : Thread Cert.ReferenceFdIdeal.nD Cert.ReferenceFdIdeal.τ).loc Cert.ReferenceFdIdeal.main_arg3)
      ∧ r.2.mem ((c.tc : Thread Cert.ReferenceFdIdeal.nD Cert.ReferenceFdIdeal.τ).loc Cert.ReferenceFdIdeal.main_arg4) = m ((c.tc : Thread Cert.ReferenceFdIdeal.nD Cert.ReferenceFdIdeal.τ).loc Cert.ReferenceFdIdeal.main_arg4))
      ∧ r.2.sem = fun _ => 0)

def quiescent_KernelMkv [hKernelMkv : Cert.KernelMkv.Facts] : Prop :=
  ∀ (m : (ℓ : Loc Cert.KernelMkv.nD Cert.KernelMkv.τ Cert.KernelMkv.sig) → Buf (Elt Bits) ℓ) (g : Dev Cert.KernelMkv.nD → PrngReg), Pre_KernelMkv m →
    θ_run (Cert.KernelMkv.defs (F := Bits)) (onTc (τ := Cert.KernelMkv.τ) (Cert.KernelMkv.main (F := Bits))) ⟨m, fun _ => 0, g⟩ (fun r => (∀ c : Dev Cert.KernelMkv.nD,
      r.2.mem ((c.tc : Thread Cert.KernelMkv.nD Cert.KernelMkv.τ).loc Cert.KernelMkv.main_arg0) = m ((c.tc : Thread Cert.KernelMkv.nD Cert.KernelMkv.τ).loc Cert.KernelMkv.main_arg0)
      ∧ r.2.mem ((c.tc : Thread Cert.KernelMkv.nD Cert.KernelMkv.τ).loc Cert.KernelMkv.main_arg1) = m ((c.tc : Thread Cert.KernelMkv.nD Cert.KernelMkv.τ).loc Cert.KernelMkv.main_arg1)
      ∧ r.2.mem ((c.tc : Thread Cert.KernelMkv.nD Cert.KernelMkv.τ).loc Cert.KernelMkv.main_arg2) = m ((c.tc : Thread Cert.KernelMkv.nD Cert.KernelMkv.τ).loc Cert.KernelMkv.main_arg2)
      ∧ r.2.mem ((c.tc : Thread Cert.KernelMkv.nD Cert.KernelMkv.τ).loc Cert.KernelMkv.main_arg3) = m ((c.tc : Thread Cert.KernelMkv.nD Cert.KernelMkv.τ).loc Cert.KernelMkv.main_arg3)
      ∧ r.2.mem ((c.tc : Thread Cert.KernelMkv.nD Cert.KernelMkv.τ).loc Cert.KernelMkv.main_arg4) = m ((c.tc : Thread Cert.KernelMkv.nD Cert.KernelMkv.τ).loc Cert.KernelMkv.main_arg4)
      ∧ r.2.mem ((c.tc : Thread Cert.KernelMkv.nD Cert.KernelMkv.τ).loc Cert.KernelMkv.main_arg5) = m ((c.tc : Thread Cert.KernelMkv.nD Cert.KernelMkv.τ).loc Cert.KernelMkv.main_arg5))
      ∧ r.2.sem = fun _ => 0)

def quiescent_KernelMkvIdeal [hKernelMkvIdeal : Cert.KernelMkvIdeal.Facts] : Prop :=
  ∀ (m : (ℓ : Loc Cert.KernelMkvIdeal.nD Cert.KernelMkvIdeal.τ Cert.KernelMkvIdeal.sig) → Buf (Elt Ideal) ℓ) (g : Dev Cert.KernelMkvIdeal.nD → PrngReg), Pre_KernelMkvIdeal m →
    θ_run (Cert.KernelMkvIdeal.defs (F := Ideal)) (onTc (τ := Cert.KernelMkvIdeal.τ) (Cert.KernelMkvIdeal.main (F := Ideal))) ⟨m, fun _ => 0, g⟩ (fun r => (∀ c : Dev Cert.KernelMkvIdeal.nD,
      r.2.mem ((c.tc : Thread Cert.KernelMkvIdeal.nD Cert.KernelMkvIdeal.τ).loc Cert.KernelMkvIdeal.main_arg0) = m ((c.tc : Thread Cert.KernelMkvIdeal.nD Cert.KernelMkvIdeal.τ).loc Cert.KernelMkvIdeal.main_arg0)
      ∧ r.2.mem ((c.tc : Thread Cert.KernelMkvIdeal.nD Cert.KernelMkvIdeal.τ).loc Cert.KernelMkvIdeal.main_arg1) = m ((c.tc : Thread Cert.KernelMkvIdeal.nD Cert.KernelMkvIdeal.τ).loc Cert.KernelMkvIdeal.main_arg1)
      ∧ r.2.mem ((c.tc : Thread Cert.KernelMkvIdeal.nD Cert.KernelMkvIdeal.τ).loc Cert.KernelMkvIdeal.main_arg2) = m ((c.tc : Thread Cert.KernelMkvIdeal.nD Cert.KernelMkvIdeal.τ).loc Cert.KernelMkvIdeal.main_arg2)
      ∧ r.2.mem ((c.tc : Thread Cert.KernelMkvIdeal.nD Cert.KernelMkvIdeal.τ).loc Cert.KernelMkvIdeal.main_arg3) = m ((c.tc : Thread Cert.KernelMkvIdeal.nD Cert.KernelMkvIdeal.τ).loc Cert.KernelMkvIdeal.main_arg3)
      ∧ r.2.mem ((c.tc : Thread Cert.KernelMkvIdeal.nD Cert.KernelMkvIdeal.τ).loc Cert.KernelMkvIdeal.main_arg4) = m ((c.tc : Thread Cert.KernelMkvIdeal.nD Cert.KernelMkvIdeal.τ).loc Cert.KernelMkvIdeal.main_arg4)
      ∧ r.2.mem ((c.tc : Thread Cert.KernelMkvIdeal.nD Cert.KernelMkvIdeal.τ).loc Cert.KernelMkvIdeal.main_arg5) = m ((c.tc : Thread Cert.KernelMkvIdeal.nD Cert.KernelMkvIdeal.τ).loc Cert.KernelMkvIdeal.main_arg5))
      ∧ r.2.sem = fun _ => 0)

def quiescent_ReferenceMkvIdeal [hReferenceMkvIdeal : Cert.ReferenceMkvIdeal.Facts] : Prop :=
  ∀ (m : (ℓ : Loc Cert.ReferenceMkvIdeal.nD Cert.ReferenceMkvIdeal.τ Cert.ReferenceMkvIdeal.sig) → Buf (Elt Ideal) ℓ) (g : Dev Cert.ReferenceMkvIdeal.nD → PrngReg), Pre_ReferenceMkvIdeal m →
    θ_run (Cert.ReferenceMkvIdeal.defs (F := Ideal)) (onTc (τ := Cert.ReferenceMkvIdeal.τ) (Cert.ReferenceMkvIdeal.main (F := Ideal))) ⟨m, fun _ => 0, g⟩ (fun r => (∀ c : Dev Cert.ReferenceMkvIdeal.nD,
      r.2.mem ((c.tc : Thread Cert.ReferenceMkvIdeal.nD Cert.ReferenceMkvIdeal.τ).loc Cert.ReferenceMkvIdeal.main_arg0) = m ((c.tc : Thread Cert.ReferenceMkvIdeal.nD Cert.ReferenceMkvIdeal.τ).loc Cert.ReferenceMkvIdeal.main_arg0)
      ∧ r.2.mem ((c.tc : Thread Cert.ReferenceMkvIdeal.nD Cert.ReferenceMkvIdeal.τ).loc Cert.ReferenceMkvIdeal.main_arg1) = m ((c.tc : Thread Cert.ReferenceMkvIdeal.nD Cert.ReferenceMkvIdeal.τ).loc Cert.ReferenceMkvIdeal.main_arg1)
      ∧ r.2.mem ((c.tc : Thread Cert.ReferenceMkvIdeal.nD Cert.ReferenceMkvIdeal.τ).loc Cert.ReferenceMkvIdeal.main_arg2) = m ((c.tc : Thread Cert.ReferenceMkvIdeal.nD Cert.ReferenceMkvIdeal.τ).loc Cert.ReferenceMkvIdeal.main_arg2)
      ∧ r.2.mem ((c.tc : Thread Cert.ReferenceMkvIdeal.nD Cert.ReferenceMkvIdeal.τ).loc Cert.ReferenceMkvIdeal.main_arg3) = m ((c.tc : Thread Cert.ReferenceMkvIdeal.nD Cert.ReferenceMkvIdeal.τ).loc Cert.ReferenceMkvIdeal.main_arg3)
      ∧ r.2.mem ((c.tc : Thread Cert.ReferenceMkvIdeal.nD Cert.ReferenceMkvIdeal.τ).loc Cert.ReferenceMkvIdeal.main_arg4) = m ((c.tc : Thread Cert.ReferenceMkvIdeal.nD Cert.ReferenceMkvIdeal.τ).loc Cert.ReferenceMkvIdeal.main_arg4)
      ∧ r.2.mem ((c.tc : Thread Cert.ReferenceMkvIdeal.nD Cert.ReferenceMkvIdeal.τ).loc Cert.ReferenceMkvIdeal.main_arg5) = m ((c.tc : Thread Cert.ReferenceMkvIdeal.nD Cert.ReferenceMkvIdeal.τ).loc Cert.ReferenceMkvIdeal.main_arg5))
      ∧ r.2.sem = fun _ => 0)

def quiescent_KernelMix [hKernelMix : Cert.KernelMix.Facts] : Prop :=
  ∀ (m : (ℓ : Loc Cert.KernelMix.nD Cert.KernelMix.τ Cert.KernelMix.sig) → Buf (Elt Bits) ℓ) (g : Dev Cert.KernelMix.nD → PrngReg), Pre_KernelMix m →
    θ_run (Cert.KernelMix.defs (F := Bits)) (onTc (τ := Cert.KernelMix.τ) (Cert.KernelMix.main (F := Bits))) ⟨m, fun _ => 0, g⟩ (fun r => (∀ c : Dev Cert.KernelMix.nD,
      r.2.mem ((c.tc : Thread Cert.KernelMix.nD Cert.KernelMix.τ).loc Cert.KernelMix.main_arg0) = m ((c.tc : Thread Cert.KernelMix.nD Cert.KernelMix.τ).loc Cert.KernelMix.main_arg0)
      ∧ r.2.mem ((c.tc : Thread Cert.KernelMix.nD Cert.KernelMix.τ).loc Cert.KernelMix.main_arg1) = m ((c.tc : Thread Cert.KernelMix.nD Cert.KernelMix.τ).loc Cert.KernelMix.main_arg1)
      ∧ r.2.mem ((c.tc : Thread Cert.KernelMix.nD Cert.KernelMix.τ).loc Cert.KernelMix.main_arg2) = m ((c.tc : Thread Cert.KernelMix.nD Cert.KernelMix.τ).loc Cert.KernelMix.main_arg2)
      ∧ r.2.mem ((c.tc : Thread Cert.KernelMix.nD Cert.KernelMix.τ).loc Cert.KernelMix.main_arg3) = m ((c.tc : Thread Cert.KernelMix.nD Cert.KernelMix.τ).loc Cert.KernelMix.main_arg3)
      ∧ r.2.mem ((c.tc : Thread Cert.KernelMix.nD Cert.KernelMix.τ).loc Cert.KernelMix.main_arg4) = m ((c.tc : Thread Cert.KernelMix.nD Cert.KernelMix.τ).loc Cert.KernelMix.main_arg4)
      ∧ r.2.mem ((c.tc : Thread Cert.KernelMix.nD Cert.KernelMix.τ).loc Cert.KernelMix.main_arg5) = m ((c.tc : Thread Cert.KernelMix.nD Cert.KernelMix.τ).loc Cert.KernelMix.main_arg5)
      ∧ r.2.mem ((c.tc : Thread Cert.KernelMix.nD Cert.KernelMix.τ).loc Cert.KernelMix.main_arg6) = m ((c.tc : Thread Cert.KernelMix.nD Cert.KernelMix.τ).loc Cert.KernelMix.main_arg6)
      ∧ r.2.mem ((c.tc : Thread Cert.KernelMix.nD Cert.KernelMix.τ).loc Cert.KernelMix.main_arg7) = m ((c.tc : Thread Cert.KernelMix.nD Cert.KernelMix.τ).loc Cert.KernelMix.main_arg7))
      ∧ r.2.sem = fun _ => 0)

def quiescent_KernelMixIdeal [hKernelMixIdeal : Cert.KernelMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg), Pre_KernelMixIdeal m →
    θ_run (Cert.KernelMixIdeal.defs (F := Ideal)) (onTc (τ := Cert.KernelMixIdeal.τ) (Cert.KernelMixIdeal.main (F := Ideal))) ⟨m, fun _ => 0, g⟩ (fun r => (∀ c : Dev Cert.KernelMixIdeal.nD,
      r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
      ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
      ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
      ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
      ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
      ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
      ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
      ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ r.2.sem = fun _ => 0)

def quiescent_ReferenceMixIdeal [hReferenceMixIdeal : Cert.ReferenceMixIdeal.Facts] : Prop :=
  ∀ (m : (ℓ : Loc Cert.ReferenceMixIdeal.nD Cert.ReferenceMixIdeal.τ Cert.ReferenceMixIdeal.sig) → Buf (Elt Ideal) ℓ) (g : Dev Cert.ReferenceMixIdeal.nD → PrngReg), Pre_ReferenceMixIdeal m →
    θ_run (Cert.ReferenceMixIdeal.defs (F := Ideal)) (onTc (τ := Cert.ReferenceMixIdeal.τ) (Cert.ReferenceMixIdeal.main (F := Ideal))) ⟨m, fun _ => 0, g⟩ (fun r => (∀ c : Dev Cert.ReferenceMixIdeal.nD,
      r.2.mem ((c.tc : Thread Cert.ReferenceMixIdeal.nD Cert.ReferenceMixIdeal.τ).loc Cert.ReferenceMixIdeal.main_arg0) = m ((c.tc : Thread Cert.ReferenceMixIdeal.nD Cert.ReferenceMixIdeal.τ).loc Cert.ReferenceMixIdeal.main_arg0)
      ∧ r.2.mem ((c.tc : Thread Cert.ReferenceMixIdeal.nD Cert.ReferenceMixIdeal.τ).loc Cert.ReferenceMixIdeal.main_arg1) = m ((c.tc : Thread Cert.ReferenceMixIdeal.nD Cert.ReferenceMixIdeal.τ).loc Cert.ReferenceMixIdeal.main_arg1)
      ∧ r.2.mem ((c.tc : Thread Cert.ReferenceMixIdeal.nD Cert.ReferenceMixIdeal.τ).loc Cert.ReferenceMixIdeal.main_arg2) = m ((c.tc : Thread Cert.ReferenceMixIdeal.nD Cert.ReferenceMixIdeal.τ).loc Cert.ReferenceMixIdeal.main_arg2)
      ∧ r.2.mem ((c.tc : Thread Cert.ReferenceMixIdeal.nD Cert.ReferenceMixIdeal.τ).loc Cert.ReferenceMixIdeal.main_arg3) = m ((c.tc : Thread Cert.ReferenceMixIdeal.nD Cert.ReferenceMixIdeal.τ).loc Cert.ReferenceMixIdeal.main_arg3)
      ∧ r.2.mem ((c.tc : Thread Cert.ReferenceMixIdeal.nD Cert.ReferenceMixIdeal.τ).loc Cert.ReferenceMixIdeal.main_arg4) = m ((c.tc : Thread Cert.ReferenceMixIdeal.nD Cert.ReferenceMixIdeal.τ).loc Cert.ReferenceMixIdeal.main_arg4)
      ∧ r.2.mem ((c.tc : Thread Cert.ReferenceMixIdeal.nD Cert.ReferenceMixIdeal.τ).loc Cert.ReferenceMixIdeal.main_arg5) = m ((c.tc : Thread Cert.ReferenceMixIdeal.nD Cert.ReferenceMixIdeal.τ).loc Cert.ReferenceMixIdeal.main_arg5)
      ∧ r.2.mem ((c.tc : Thread Cert.ReferenceMixIdeal.nD Cert.ReferenceMixIdeal.τ).loc Cert.ReferenceMixIdeal.main_arg6) = m ((c.tc : Thread Cert.ReferenceMixIdeal.nD Cert.ReferenceMixIdeal.τ).loc Cert.ReferenceMixIdeal.main_arg6)
      ∧ r.2.mem ((c.tc : Thread Cert.ReferenceMixIdeal.nD Cert.ReferenceMixIdeal.τ).loc Cert.ReferenceMixIdeal.main_arg7) = m ((c.tc : Thread Cert.ReferenceMixIdeal.nD Cert.ReferenceMixIdeal.τ).loc Cert.ReferenceMixIdeal.main_arg7))
      ∧ r.2.sem = fun _ => 0)

def quiescent_KernelMem [hKernelMem : Cert.KernelMem.Facts] : Prop :=
  ∀ (m : (ℓ : Loc Cert.KernelMem.nD Cert.KernelMem.τ Cert.KernelMem.sig) → Buf (Elt Bits) ℓ) (g : Dev Cert.KernelMem.nD → PrngReg), Pre_KernelMem m →
    θ_run (Cert.KernelMem.defs (F := Bits)) (onTc (τ := Cert.KernelMem.τ) (Cert.KernelMem.main (F := Bits))) ⟨m, fun _ => 0, g⟩ (fun r => (∀ c : Dev Cert.KernelMem.nD,
      r.2.mem ((c.tc : Thread Cert.KernelMem.nD Cert.KernelMem.τ).loc Cert.KernelMem.main_arg0) = m ((c.tc : Thread Cert.KernelMem.nD Cert.KernelMem.τ).loc Cert.KernelMem.main_arg0)
      ∧ r.2.mem ((c.tc : Thread Cert.KernelMem.nD Cert.KernelMem.τ).loc Cert.KernelMem.main_arg1) = m ((c.tc : Thread Cert.KernelMem.nD Cert.KernelMem.τ).loc Cert.KernelMem.main_arg1)
      ∧ r.2.mem ((c.tc : Thread Cert.KernelMem.nD Cert.KernelMem.τ).loc Cert.KernelMem.main_arg2) = m ((c.tc : Thread Cert.KernelMem.nD Cert.KernelMem.τ).loc Cert.KernelMem.main_arg2)
      ∧ r.2.mem ((c.tc : Thread Cert.KernelMem.nD Cert.KernelMem.τ).loc Cert.KernelMem.main_arg3) = m ((c.tc : Thread Cert.KernelMem.nD Cert.KernelMem.τ).loc Cert.KernelMem.main_arg3)
      ∧ r.2.mem ((c.tc : Thread Cert.KernelMem.nD Cert.KernelMem.τ).loc Cert.KernelMem.main_arg4) = m ((c.tc : Thread Cert.KernelMem.nD Cert.KernelMem.τ).loc Cert.KernelMem.main_arg4)
      ∧ r.2.mem ((c.tc : Thread Cert.KernelMem.nD Cert.KernelMem.τ).loc Cert.KernelMem.main_arg5) = m ((c.tc : Thread Cert.KernelMem.nD Cert.KernelMem.τ).loc Cert.KernelMem.main_arg5)
      ∧ r.2.mem ((c.tc : Thread Cert.KernelMem.nD Cert.KernelMem.τ).loc Cert.KernelMem.main_arg6) = m ((c.tc : Thread Cert.KernelMem.nD Cert.KernelMem.τ).loc Cert.KernelMem.main_arg6)
      ∧ r.2.mem ((c.tc : Thread Cert.KernelMem.nD Cert.KernelMem.τ).loc Cert.KernelMem.main_arg7) = m ((c.tc : Thread Cert.KernelMem.nD Cert.KernelMem.τ).loc Cert.KernelMem.main_arg7))
      ∧ r.2.sem = fun _ => 0)

def quiescent_KernelMemIdeal [hKernelMemIdeal : Cert.KernelMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg), Pre_KernelMemIdeal m →
    θ_run (Cert.KernelMemIdeal.defs (F := Ideal)) (onTc (τ := Cert.KernelMemIdeal.τ) (Cert.KernelMemIdeal.main (F := Ideal))) ⟨m, fun _ => 0, g⟩ (fun r => (∀ c : Dev Cert.KernelMemIdeal.nD,
      r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
      ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
      ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
      ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3)
      ∧ r.2.mem ((c.tc : Thread Cert.KernelMemIdeal.nD Cert.KernelMemIdeal.τ).loc Cert.KernelMemIdeal.main_arg4) = m ((c.tc : Thread Cert.KernelMemIdeal.nD Cert.KernelMemIdeal.τ).loc Cert.KernelMemIdeal.main_arg4)
      ∧ r.2.mem ((c.tc : Thread Cert.KernelMemIdeal.nD Cert.KernelMemIdeal.τ).loc Cert.KernelMemIdeal.main_arg5) = m ((c.tc : Thread Cert.KernelMemIdeal.nD Cert.KernelMemIdeal.τ).loc Cert.KernelMemIdeal.main_arg5)
      ∧ r.2.mem ((c.tc : Thread Cert.KernelMemIdeal.nD Cert.KernelMemIdeal.τ).loc Cert.KernelMemIdeal.main_arg6) = m ((c.tc : Thread Cert.KernelMemIdeal.nD Cert.KernelMemIdeal.τ).loc Cert.KernelMemIdeal.main_arg6)
      ∧ r.2.mem ((c.tc : Thread Cert.KernelMemIdeal.nD Cert.KernelMemIdeal.τ).loc Cert.KernelMemIdeal.main_arg7) = m ((c.tc : Thread Cert.KernelMemIdeal.nD Cert.KernelMemIdeal.τ).loc Cert.KernelMemIdeal.main_arg7))
      ∧ r.2.sem = fun _ => 0)

def quiescent_ReferenceMemIdeal [hReferenceMemIdeal : Cert.ReferenceMemIdeal.Facts] : Prop :=
  ∀ (m : (ℓ : Loc Cert.ReferenceMemIdeal.nD Cert.ReferenceMemIdeal.τ Cert.ReferenceMemIdeal.sig) → Buf (Elt Ideal) ℓ) (g : Dev Cert.ReferenceMemIdeal.nD → PrngReg), Pre_ReferenceMemIdeal m →
    θ_run (Cert.ReferenceMemIdeal.defs (F := Ideal)) (onTc (τ := Cert.ReferenceMemIdeal.τ) (Cert.ReferenceMemIdeal.main (F := Ideal))) ⟨m, fun _ => 0, g⟩ (fun r => (∀ c : Dev Cert.ReferenceMemIdeal.nD,
      r.2.mem ((c.tc : Thread Cert.ReferenceMemIdeal.nD Cert.ReferenceMemIdeal.τ).loc Cert.ReferenceMemIdeal.main_arg0) = m ((c.tc : Thread Cert.ReferenceMemIdeal.nD Cert.ReferenceMemIdeal.τ).loc Cert.ReferenceMemIdeal.main_arg0)
      ∧ r.2.mem ((c.tc : Thread Cert.ReferenceMemIdeal.nD Cert.ReferenceMemIdeal.τ).loc Cert.ReferenceMemIdeal.main_arg1) = m ((c.tc : Thread Cert.ReferenceMemIdeal.nD Cert.ReferenceMemIdeal.τ).loc Cert.ReferenceMemIdeal.main_arg1)
      ∧ r.2.mem ((c.tc : Thread Cert.ReferenceMemIdeal.nD Cert.ReferenceMemIdeal.τ).loc Cert.ReferenceMemIdeal.main_arg2) = m ((c.tc : Thread Cert.ReferenceMemIdeal.nD Cert.ReferenceMemIdeal.τ).loc Cert.ReferenceMemIdeal.main_arg2)
      ∧ r.2.mem ((c.tc : Thread Cert.ReferenceMemIdeal.nD Cert.ReferenceMemIdeal.τ).loc Cert.ReferenceMemIdeal.main_arg3) = m ((c.tc : Thread Cert.ReferenceMemIdeal.nD Cert.ReferenceMemIdeal.τ).loc Cert.ReferenceMemIdeal.main_arg3)
      ∧ r.2.mem ((c.tc : Thread Cert.ReferenceMemIdeal.nD Cert.ReferenceMemIdeal.τ).loc Cert.ReferenceMemIdeal.main_arg4) = m ((c.tc : Thread Cert.ReferenceMemIdeal.nD Cert.ReferenceMemIdeal.τ).loc Cert.ReferenceMemIdeal.main_arg4)
      ∧ r.2.mem ((c.tc : Thread Cert.ReferenceMemIdeal.nD Cert.ReferenceMemIdeal.τ).loc Cert.ReferenceMemIdeal.main_arg5) = m ((c.tc : Thread Cert.ReferenceMemIdeal.nD Cert.ReferenceMemIdeal.τ).loc Cert.ReferenceMemIdeal.main_arg5)
      ∧ r.2.mem ((c.tc : Thread Cert.ReferenceMemIdeal.nD Cert.ReferenceMemIdeal.τ).loc Cert.ReferenceMemIdeal.main_arg6) = m ((c.tc : Thread Cert.ReferenceMemIdeal.nD Cert.ReferenceMemIdeal.τ).loc Cert.ReferenceMemIdeal.main_arg6)
      ∧ r.2.mem ((c.tc : Thread Cert.ReferenceMemIdeal.nD Cert.ReferenceMemIdeal.τ).loc Cert.ReferenceMemIdeal.main_arg7) = m ((c.tc : Thread Cert.ReferenceMemIdeal.nD Cert.ReferenceMemIdeal.τ).loc Cert.ReferenceMemIdeal.main_arg7))
      ∧ r.2.sem = fun _ => 0)

def quiescent_KernelMef [hKernelMef : Cert.KernelMef.Facts] : Prop :=
  ∀ (m : (ℓ : Loc Cert.KernelMef.nD Cert.KernelMef.τ Cert.KernelMef.sig) → Buf (Elt Bits) ℓ) (g : Dev Cert.KernelMef.nD → PrngReg), Pre_KernelMef m →
    θ_run (Cert.KernelMef.defs (F := Bits)) (onTc (τ := Cert.KernelMef.τ) (Cert.KernelMef.main (F := Bits))) ⟨m, fun _ => 0, g⟩ (fun r => (∀ c : Dev Cert.KernelMef.nD,
      r.2.mem ((c.tc : Thread Cert.KernelMef.nD Cert.KernelMef.τ).loc Cert.KernelMef.main_arg0) = m ((c.tc : Thread Cert.KernelMef.nD Cert.KernelMef.τ).loc Cert.KernelMef.main_arg0)
      ∧ r.2.mem ((c.tc : Thread Cert.KernelMef.nD Cert.KernelMef.τ).loc Cert.KernelMef.main_arg1) = m ((c.tc : Thread Cert.KernelMef.nD Cert.KernelMef.τ).loc Cert.KernelMef.main_arg1)
      ∧ r.2.mem ((c.tc : Thread Cert.KernelMef.nD Cert.KernelMef.τ).loc Cert.KernelMef.main_arg2) = m ((c.tc : Thread Cert.KernelMef.nD Cert.KernelMef.τ).loc Cert.KernelMef.main_arg2)
      ∧ r.2.mem ((c.tc : Thread Cert.KernelMef.nD Cert.KernelMef.τ).loc Cert.KernelMef.main_arg3) = m ((c.tc : Thread Cert.KernelMef.nD Cert.KernelMef.τ).loc Cert.KernelMef.main_arg3)
      ∧ r.2.mem ((c.tc : Thread Cert.KernelMef.nD Cert.KernelMef.τ).loc Cert.KernelMef.main_arg4) = m ((c.tc : Thread Cert.KernelMef.nD Cert.KernelMef.τ).loc Cert.KernelMef.main_arg4)
      ∧ r.2.mem ((c.tc : Thread Cert.KernelMef.nD Cert.KernelMef.τ).loc Cert.KernelMef.main_arg5) = m ((c.tc : Thread Cert.KernelMef.nD Cert.KernelMef.τ).loc Cert.KernelMef.main_arg5)
      ∧ r.2.mem ((c.tc : Thread Cert.KernelMef.nD Cert.KernelMef.τ).loc Cert.KernelMef.main_arg6) = m ((c.tc : Thread Cert.KernelMef.nD Cert.KernelMef.τ).loc Cert.KernelMef.main_arg6))
      ∧ r.2.sem = fun _ => 0)

def quiescent_KernelMefIdeal [hKernelMefIdeal : Cert.KernelMefIdeal.Facts] : Prop :=
  ∀ (m : (ℓ : Loc Cert.KernelMefIdeal.nD Cert.KernelMefIdeal.τ Cert.KernelMefIdeal.sig) → Buf (Elt Ideal) ℓ) (g : Dev Cert.KernelMefIdeal.nD → PrngReg), Pre_KernelMefIdeal m →
    θ_run (Cert.KernelMefIdeal.defs (F := Ideal)) (onTc (τ := Cert.KernelMefIdeal.τ) (Cert.KernelMefIdeal.main (F := Ideal))) ⟨m, fun _ => 0, g⟩ (fun r => (∀ c : Dev Cert.KernelMefIdeal.nD,
      r.2.mem ((c.tc : Thread Cert.KernelMefIdeal.nD Cert.KernelMefIdeal.τ).loc Cert.KernelMefIdeal.main_arg0) = m ((c.tc : Thread Cert.KernelMefIdeal.nD Cert.KernelMefIdeal.τ).loc Cert.KernelMefIdeal.main_arg0)
      ∧ r.2.mem ((c.tc : Thread Cert.KernelMefIdeal.nD Cert.KernelMefIdeal.τ).loc Cert.KernelMefIdeal.main_arg1) = m ((c.tc : Thread Cert.KernelMefIdeal.nD Cert.KernelMefIdeal.τ).loc Cert.KernelMefIdeal.main_arg1)
      ∧ r.2.mem ((c.tc : Thread Cert.KernelMefIdeal.nD Cert.KernelMefIdeal.τ).loc Cert.KernelMefIdeal.main_arg2) = m ((c.tc : Thread Cert.KernelMefIdeal.nD Cert.KernelMefIdeal.τ).loc Cert.KernelMefIdeal.main_arg2)
      ∧ r.2.mem ((c.tc : Thread Cert.KernelMefIdeal.nD Cert.KernelMefIdeal.τ).loc Cert.KernelMefIdeal.main_arg3) = m ((c.tc : Thread Cert.KernelMefIdeal.nD Cert.KernelMefIdeal.τ).loc Cert.KernelMefIdeal.main_arg3)
      ∧ r.2.mem ((c.tc : Thread Cert.KernelMefIdeal.nD Cert.KernelMefIdeal.τ).loc Cert.KernelMefIdeal.main_arg4) = m ((c.tc : Thread Cert.KernelMefIdeal.nD Cert.KernelMefIdeal.τ).loc Cert.KernelMefIdeal.main_arg4)
      ∧ r.2.mem ((c.tc : Thread Cert.KernelMefIdeal.nD Cert.KernelMefIdeal.τ).loc Cert.KernelMefIdeal.main_arg5) = m ((c.tc : Thread Cert.KernelMefIdeal.nD Cert.KernelMefIdeal.τ).loc Cert.KernelMefIdeal.main_arg5)
      ∧ r.2.mem ((c.tc : Thread Cert.KernelMefIdeal.nD Cert.KernelMefIdeal.τ).loc Cert.KernelMefIdeal.main_arg6) = m ((c.tc : Thread Cert.KernelMefIdeal.nD Cert.KernelMefIdeal.τ).loc Cert.KernelMefIdeal.main_arg6))
      ∧ r.2.sem = fun _ => 0)

def quiescent_ReferenceMefIdeal [hReferenceMefIdeal : Cert.ReferenceMefIdeal.Facts] : Prop :=
  ∀ (m : (ℓ : Loc Cert.ReferenceMefIdeal.nD Cert.ReferenceMefIdeal.τ Cert.ReferenceMefIdeal.sig) → Buf (Elt Ideal) ℓ) (g : Dev Cert.ReferenceMefIdeal.nD → PrngReg), Pre_ReferenceMefIdeal m →
    θ_run (Cert.ReferenceMefIdeal.defs (F := Ideal)) (onTc (τ := Cert.ReferenceMefIdeal.τ) (Cert.ReferenceMefIdeal.main (F := Ideal))) ⟨m, fun _ => 0, g⟩ (fun r => (∀ c : Dev Cert.ReferenceMefIdeal.nD,
      r.2.mem ((c.tc : Thread Cert.ReferenceMefIdeal.nD Cert.ReferenceMefIdeal.τ).loc Cert.ReferenceMefIdeal.main_arg0) = m ((c.tc : Thread Cert.ReferenceMefIdeal.nD Cert.ReferenceMefIdeal.τ).loc Cert.ReferenceMefIdeal.main_arg0)
      ∧ r.2.mem ((c.tc : Thread Cert.ReferenceMefIdeal.nD Cert.ReferenceMefIdeal.τ).loc Cert.ReferenceMefIdeal.main_arg1) = m ((c.tc : Thread Cert.ReferenceMefIdeal.nD Cert.ReferenceMefIdeal.τ).loc Cert.ReferenceMefIdeal.main_arg1)
      ∧ r.2.mem ((c.tc : Thread Cert.ReferenceMefIdeal.nD Cert.ReferenceMefIdeal.τ).loc Cert.ReferenceMefIdeal.main_arg2) = m ((c.tc : Thread Cert.ReferenceMefIdeal.nD Cert.ReferenceMefIdeal.τ).loc Cert.ReferenceMefIdeal.main_arg2)
      ∧ r.2.mem ((c.tc : Thread Cert.ReferenceMefIdeal.nD Cert.ReferenceMefIdeal.τ).loc Cert.ReferenceMefIdeal.main_arg3) = m ((c.tc : Thread Cert.ReferenceMefIdeal.nD Cert.ReferenceMefIdeal.τ).loc Cert.ReferenceMefIdeal.main_arg3)
      ∧ r.2.mem ((c.tc : Thread Cert.ReferenceMefIdeal.nD Cert.ReferenceMefIdeal.τ).loc Cert.ReferenceMefIdeal.main_arg4) = m ((c.tc : Thread Cert.ReferenceMefIdeal.nD Cert.ReferenceMefIdeal.τ).loc Cert.ReferenceMefIdeal.main_arg4)
      ∧ r.2.mem ((c.tc : Thread Cert.ReferenceMefIdeal.nD Cert.ReferenceMefIdeal.τ).loc Cert.ReferenceMefIdeal.main_arg5) = m ((c.tc : Thread Cert.ReferenceMefIdeal.nD Cert.ReferenceMefIdeal.τ).loc Cert.ReferenceMefIdeal.main_arg5)
      ∧ r.2.mem ((c.tc : Thread Cert.ReferenceMefIdeal.nD Cert.ReferenceMefIdeal.τ).loc Cert.ReferenceMefIdeal.main_arg6) = m ((c.tc : Thread Cert.ReferenceMefIdeal.nD Cert.ReferenceMefIdeal.τ).loc Cert.ReferenceMefIdeal.main_arg6))
      ∧ r.2.sem = fun _ => 0)

def preserves_KernelIn_KernelInIdeal : Prop :=
  True

def algebraic_KernelInIdeal_ReferenceInIdeal [hKernelInIdeal : Cert.KernelInIdeal.Facts] [hReferenceInIdeal : Cert.ReferenceInIdeal.Facts] : Prop :=
  ∀ (m : (ℓ : Loc Cert.KernelInIdeal.nD Cert.KernelInIdeal.τ Cert.KernelInIdeal.sig) → Buf (Elt Ideal) ℓ) (g : Dev Cert.KernelInIdeal.nD → PrngReg)
    (m' : (ℓ : Loc Cert.ReferenceInIdeal.nD Cert.ReferenceInIdeal.τ Cert.ReferenceInIdeal.sig) → Buf (Elt Ideal) ℓ) (g' : Dev Cert.ReferenceInIdeal.nD → PrngReg), Pre_KernelInIdeal m →
    (∀ c : Dev Cert.KernelInIdeal.nD,
      m' ((c.tc : Thread Cert.ReferenceInIdeal.nD Cert.ReferenceInIdeal.τ).loc Cert.ReferenceInIdeal.main_arg0) = m ((c.tc : Thread Cert.KernelInIdeal.nD Cert.KernelInIdeal.τ).loc Cert.KernelInIdeal.main_arg0)
      ∧ m' ((c.tc : Thread Cert.ReferenceInIdeal.nD Cert.ReferenceInIdeal.τ).loc Cert.ReferenceInIdeal.main_arg1) = m ((c.tc : Thread Cert.KernelInIdeal.nD Cert.KernelInIdeal.τ).loc Cert.KernelInIdeal.main_arg1)
      ∧ m' ((c.tc : Thread Cert.ReferenceInIdeal.nD Cert.ReferenceInIdeal.τ).loc Cert.ReferenceInIdeal.main_arg2) = m ((c.tc : Thread Cert.KernelInIdeal.nD Cert.KernelInIdeal.τ).loc Cert.KernelInIdeal.main_arg2)
      ∧ m' ((c.tc : Thread Cert.ReferenceInIdeal.nD Cert.ReferenceInIdeal.τ).loc Cert.ReferenceInIdeal.main_arg3) = m ((c.tc : Thread Cert.KernelInIdeal.nD Cert.KernelInIdeal.τ).loc Cert.KernelInIdeal.main_arg3)
      ∧ m' ((c.tc : Thread Cert.ReferenceInIdeal.nD Cert.ReferenceInIdeal.τ).loc Cert.ReferenceInIdeal.main_arg4) = m ((c.tc : Thread Cert.KernelInIdeal.nD Cert.KernelInIdeal.τ).loc Cert.KernelInIdeal.main_arg4)
      ∧ m' ((c.tc : Thread Cert.ReferenceInIdeal.nD Cert.ReferenceInIdeal.τ).loc Cert.ReferenceInIdeal.main_arg5) = m ((c.tc : Thread Cert.KernelInIdeal.nD Cert.KernelInIdeal.τ).loc Cert.KernelInIdeal.main_arg5)
      ∧ m' ((c.tc : Thread Cert.ReferenceInIdeal.nD Cert.ReferenceInIdeal.τ).loc Cert.ReferenceInIdeal.main_arg6) = m ((c.tc : Thread Cert.KernelInIdeal.nD Cert.KernelInIdeal.τ).loc Cert.KernelInIdeal.main_arg6)
      ∧ m' ((c.tc : Thread Cert.ReferenceInIdeal.nD Cert.ReferenceInIdeal.τ).loc Cert.ReferenceInIdeal.main_arg7) = m ((c.tc : Thread Cert.KernelInIdeal.nD Cert.KernelInIdeal.τ).loc Cert.KernelInIdeal.main_arg7)) →
    ∃ (v0 : (c : Dev Cert.KernelInIdeal.nD) → Buf (Elt Ideal) ((c.tc : Thread Cert.KernelInIdeal.nD Cert.KernelInIdeal.τ).loc Cert.KernelInIdeal.main_v4_0)) (v1 : (c : Dev Cert.KernelInIdeal.nD) → Buf (Elt Ideal) ((c.tc : Thread Cert.KernelInIdeal.nD Cert.KernelInIdeal.τ).loc Cert.KernelInIdeal.main_v4_1)) (v2 : (c : Dev Cert.KernelInIdeal.nD) → Buf (Elt Ideal) ((c.tc : Thread Cert.KernelInIdeal.nD Cert.KernelInIdeal.τ).loc Cert.KernelInIdeal.main_v4_2)),
      θ_run (Cert.KernelInIdeal.defs (F := Ideal)) (onTc (τ := Cert.KernelInIdeal.τ) (Cert.KernelInIdeal.main (F := Ideal))) ⟨m, fun _ => 0, g⟩ (fun r => ∀ c : Dev Cert.KernelInIdeal.nD,
          r.2.mem ((c.tc : Thread Cert.KernelInIdeal.nD Cert.KernelInIdeal.τ).loc Cert.KernelInIdeal.main_v4_0) = v0 c
          ∧ r.2.mem ((c.tc : Thread Cert.KernelInIdeal.nD Cert.KernelInIdeal.τ).loc Cert.KernelInIdeal.main_v4_1) = v1 c
          ∧ r.2.mem ((c.tc : Thread Cert.KernelInIdeal.nD Cert.KernelInIdeal.τ).loc Cert.KernelInIdeal.main_v4_2) = v2 c
          ∧ r.2.mem ((c.tc : Thread Cert.KernelInIdeal.nD Cert.KernelInIdeal.τ).loc Cert.KernelInIdeal.main_arg0) = m ((c.tc : Thread Cert.KernelInIdeal.nD Cert.KernelInIdeal.τ).loc Cert.KernelInIdeal.main_arg0)
          ∧ r.2.mem ((c.tc : Thread Cert.KernelInIdeal.nD Cert.KernelInIdeal.τ).loc Cert.KernelInIdeal.main_arg1) = m ((c.tc : Thread Cert.KernelInIdeal.nD Cert.KernelInIdeal.τ).loc Cert.KernelInIdeal.main_arg1)
          ∧ r.2.mem ((c.tc : Thread Cert.KernelInIdeal.nD Cert.KernelInIdeal.τ).loc Cert.KernelInIdeal.main_arg2) = m ((c.tc : Thread Cert.KernelInIdeal.nD Cert.KernelInIdeal.τ).loc Cert.KernelInIdeal.main_arg2)
          ∧ r.2.mem ((c.tc : Thread Cert.KernelInIdeal.nD Cert.KernelInIdeal.τ).loc Cert.KernelInIdeal.main_arg3) = m ((c.tc : Thread Cert.KernelInIdeal.nD Cert.KernelInIdeal.τ).loc Cert.KernelInIdeal.main_arg3)
          ∧ r.2.mem ((c.tc : Thread Cert.KernelInIdeal.nD Cert.KernelInIdeal.τ).loc Cert.KernelInIdeal.main_arg4) = m ((c.tc : Thread Cert.KernelInIdeal.nD Cert.KernelInIdeal.τ).loc Cert.KernelInIdeal.main_arg4)
          ∧ r.2.mem ((c.tc : Thread Cert.KernelInIdeal.nD Cert.KernelInIdeal.τ).loc Cert.KernelInIdeal.main_arg5) = m ((c.tc : Thread Cert.KernelInIdeal.nD Cert.KernelInIdeal.τ).loc Cert.KernelInIdeal.main_arg5)
          ∧ r.2.mem ((c.tc : Thread Cert.KernelInIdeal.nD Cert.KernelInIdeal.τ).loc Cert.KernelInIdeal.main_arg6) = m ((c.tc : Thread Cert.KernelInIdeal.nD Cert.KernelInIdeal.τ).loc Cert.KernelInIdeal.main_arg6)
          ∧ r.2.mem ((c.tc : Thread Cert.KernelInIdeal.nD Cert.KernelInIdeal.τ).loc Cert.KernelInIdeal.main_arg7) = m ((c.tc : Thread Cert.KernelInIdeal.nD Cert.KernelInIdeal.τ).loc Cert.KernelInIdeal.main_arg7))
      ∧ θ_run (Cert.ReferenceInIdeal.defs (F := Ideal)) (onTc (τ := Cert.ReferenceInIdeal.τ) (Cert.ReferenceInIdeal.main (F := Ideal))) ⟨m', fun _ => 0, g'⟩ (fun r => ∀ c : Dev Cert.ReferenceInIdeal.nD,
          r.2.mem ((c.tc : Thread Cert.ReferenceInIdeal.nD Cert.ReferenceInIdeal.τ).loc Cert.ReferenceInIdeal.main_v51) = v0 c
          ∧ r.2.mem ((c.tc : Thread Cert.ReferenceInIdeal.nD Cert.ReferenceInIdeal.τ).loc Cert.ReferenceInIdeal.main_v52) = v1 c
          ∧ r.2.mem ((c.tc : Thread Cert.ReferenceInIdeal.nD Cert.ReferenceInIdeal.τ).loc Cert.ReferenceInIdeal.main_v53) = v2 c
          ∧ r.2.mem ((c.tc : Thread Cert.ReferenceInIdeal.nD Cert.ReferenceInIdeal.τ).loc Cert.ReferenceInIdeal.main_arg0) = m' ((c.tc : Thread Cert.ReferenceInIdeal.nD Cert.ReferenceInIdeal.τ).loc Cert.ReferenceInIdeal.main_arg0)
          ∧ r.2.mem ((c.tc : Thread Cert.ReferenceInIdeal.nD Cert.ReferenceInIdeal.τ).loc Cert.ReferenceInIdeal.main_arg1) = m' ((c.tc : Thread Cert.ReferenceInIdeal.nD Cert.ReferenceInIdeal.τ).loc Cert.ReferenceInIdeal.main_arg1)
          ∧ r.2.mem ((c.tc : Thread Cert.ReferenceInIdeal.nD Cert.ReferenceInIdeal.τ).loc Cert.ReferenceInIdeal.main_arg2) = m' ((c.tc : Thread Cert.ReferenceInIdeal.nD Cert.ReferenceInIdeal.τ).loc Cert.ReferenceInIdeal.main_arg2)
          ∧ r.2.mem ((c.tc : Thread Cert.ReferenceInIdeal.nD Cert.ReferenceInIdeal.τ).loc Cert.ReferenceInIdeal.main_arg3) = m' ((c.tc : Thread Cert.ReferenceInIdeal.nD Cert.ReferenceInIdeal.τ).loc Cert.ReferenceInIdeal.main_arg3)
          ∧ r.2.mem ((c.tc : Thread Cert.ReferenceInIdeal.nD Cert.ReferenceInIdeal.τ).loc Cert.ReferenceInIdeal.main_arg4) = m' ((c.tc : Thread Cert.ReferenceInIdeal.nD Cert.ReferenceInIdeal.τ).loc Cert.ReferenceInIdeal.main_arg4)
          ∧ r.2.mem ((c.tc : Thread Cert.ReferenceInIdeal.nD Cert.ReferenceInIdeal.τ).loc Cert.ReferenceInIdeal.main_arg5) = m' ((c.tc : Thread Cert.ReferenceInIdeal.nD Cert.ReferenceInIdeal.τ).loc Cert.ReferenceInIdeal.main_arg5)
          ∧ r.2.mem ((c.tc : Thread Cert.ReferenceInIdeal.nD Cert.ReferenceInIdeal.τ).loc Cert.ReferenceInIdeal.main_arg6) = m' ((c.tc : Thread Cert.ReferenceInIdeal.nD Cert.ReferenceInIdeal.τ).loc Cert.ReferenceInIdeal.main_arg6)
          ∧ r.2.mem ((c.tc : Thread Cert.ReferenceInIdeal.nD Cert.ReferenceInIdeal.τ).loc Cert.ReferenceInIdeal.main_arg7) = m' ((c.tc : Thread Cert.ReferenceInIdeal.nD Cert.ReferenceInIdeal.τ).loc Cert.ReferenceInIdeal.main_arg7))

def preserves_KernelFl_KernelFlIdeal : Prop :=
  IdealRules.named_const.Statement Cert.KernelFlIdeal.κ "smc" .f32 0x3E16C740#32 (((3424635 / 33554432) * (Real.log 2)⁻¹ : ℝ) : EReal)

def algebraic_KernelFlIdeal_ReferenceFlIdeal_pre_finite_fl [hKernelFlIdeal : Cert.KernelFlIdeal.Facts] [hReferenceFlIdeal : Cert.ReferenceFlIdeal.Facts] [hPre_finite_fl : Cert.Pre_finite_fl.Facts] : Prop :=
  ∀ (m : (ℓ : Loc Cert.KernelFlIdeal.nD Cert.KernelFlIdeal.τ Cert.KernelFlIdeal.sig) → Buf (Elt Ideal) ℓ) (g : Dev Cert.KernelFlIdeal.nD → PrngReg)
    (m' : (ℓ : Loc Cert.ReferenceFlIdeal.nD Cert.ReferenceFlIdeal.τ Cert.ReferenceFlIdeal.sig) → Buf (Elt Ideal) ℓ) (g' : Dev Cert.ReferenceFlIdeal.nD → PrngReg), Pre_KernelFlIdeal_finite_fl m →
    (∀ c : Dev Cert.KernelFlIdeal.nD,
      m' ((c.tc : Thread Cert.ReferenceFlIdeal.nD Cert.ReferenceFlIdeal.τ).loc Cert.ReferenceFlIdeal.main_arg0) = m ((c.tc : Thread Cert.KernelFlIdeal.nD Cert.KernelFlIdeal.τ).loc Cert.KernelFlIdeal.main_arg0)
      ∧ m' ((c.tc : Thread Cert.ReferenceFlIdeal.nD Cert.ReferenceFlIdeal.τ).loc Cert.ReferenceFlIdeal.main_arg1) = m ((c.tc : Thread Cert.KernelFlIdeal.nD Cert.KernelFlIdeal.τ).loc Cert.KernelFlIdeal.main_arg1)
      ∧ m' ((c.tc : Thread Cert.ReferenceFlIdeal.nD Cert.ReferenceFlIdeal.τ).loc Cert.ReferenceFlIdeal.main_arg2) = m ((c.tc : Thread Cert.KernelFlIdeal.nD Cert.KernelFlIdeal.τ).loc Cert.KernelFlIdeal.main_arg2)
      ∧ m' ((c.tc : Thread Cert.ReferenceFlIdeal.nD Cert.ReferenceFlIdeal.τ).loc Cert.ReferenceFlIdeal.main_arg3) = m ((c.tc : Thread Cert.KernelFlIdeal.nD Cert.KernelFlIdeal.τ).loc Cert.KernelFlIdeal.main_arg3)) →
    ∃ (v0 : (c : Dev Cert.KernelFlIdeal.nD) → Buf (Elt Ideal) ((c.tc : Thread Cert.KernelFlIdeal.nD Cert.KernelFlIdeal.τ).loc Cert.KernelFlIdeal.main_v35_0)) (v1 : (c : Dev Cert.KernelFlIdeal.nD) → Buf (Elt Ideal) ((c.tc : Thread Cert.KernelFlIdeal.nD Cert.KernelFlIdeal.τ).loc Cert.KernelFlIdeal.main_v35_1)) (v2 : (c : Dev Cert.KernelFlIdeal.nD) → Buf (Elt Ideal) ((c.tc : Thread Cert.KernelFlIdeal.nD Cert.KernelFlIdeal.τ).loc Cert.KernelFlIdeal.main_v35_2)),
      θ_run (Cert.KernelFlIdeal.defs (F := Ideal)) (onTc (τ := Cert.KernelFlIdeal.τ) (Cert.KernelFlIdeal.main (F := Ideal))) ⟨m, fun _ => 0, g⟩ (fun r => ∀ c : Dev Cert.KernelFlIdeal.nD,
          r.2.mem ((c.tc : Thread Cert.KernelFlIdeal.nD Cert.KernelFlIdeal.τ).loc Cert.KernelFlIdeal.main_v35_0) = v0 c
          ∧ r.2.mem ((c.tc : Thread Cert.KernelFlIdeal.nD Cert.KernelFlIdeal.τ).loc Cert.KernelFlIdeal.main_v35_1) = v1 c
          ∧ r.2.mem ((c.tc : Thread Cert.KernelFlIdeal.nD Cert.KernelFlIdeal.τ).loc Cert.KernelFlIdeal.main_v35_2) = v2 c
          ∧ r.2.mem ((c.tc : Thread Cert.KernelFlIdeal.nD Cert.KernelFlIdeal.τ).loc Cert.KernelFlIdeal.main_arg0) = m ((c.tc : Thread Cert.KernelFlIdeal.nD Cert.KernelFlIdeal.τ).loc Cert.KernelFlIdeal.main_arg0)
          ∧ r.2.mem ((c.tc : Thread Cert.KernelFlIdeal.nD Cert.KernelFlIdeal.τ).loc Cert.KernelFlIdeal.main_arg1) = m ((c.tc : Thread Cert.KernelFlIdeal.nD Cert.KernelFlIdeal.τ).loc Cert.KernelFlIdeal.main_arg1)
          ∧ r.2.mem ((c.tc : Thread Cert.KernelFlIdeal.nD Cert.KernelFlIdeal.τ).loc Cert.KernelFlIdeal.main_arg2) = m ((c.tc : Thread Cert.KernelFlIdeal.nD Cert.KernelFlIdeal.τ).loc Cert.KernelFlIdeal.main_arg2)
          ∧ r.2.mem ((c.tc : Thread Cert.KernelFlIdeal.nD Cert.KernelFlIdeal.τ).loc Cert.KernelFlIdeal.main_arg3) = m ((c.tc : Thread Cert.KernelFlIdeal.nD Cert.KernelFlIdeal.τ).loc Cert.KernelFlIdeal.main_arg3))
      ∧ θ_run (Cert.ReferenceFlIdeal.defs (F := Ideal)) (onTc (τ := Cert.ReferenceFlIdeal.τ) (Cert.ReferenceFlIdeal.main (F := Ideal))) ⟨m', fun _ => 0, g'⟩ (fun r => ∀ c : Dev Cert.ReferenceFlIdeal.nD,
          r.2.mem ((c.tc : Thread Cert.ReferenceFlIdeal.nD Cert.ReferenceFlIdeal.τ).loc Cert.ReferenceFlIdeal.main_v58) = v0 c
          ∧ r.2.mem ((c.tc : Thread Cert.ReferenceFlIdeal.nD Cert.ReferenceFlIdeal.τ).loc Cert.ReferenceFlIdeal.main_v60) = v1 c
          ∧ r.2.mem ((c.tc : Thread Cert.ReferenceFlIdeal.nD Cert.ReferenceFlIdeal.τ).loc Cert.ReferenceFlIdeal.main_v61) = v2 c
          ∧ r.2.mem ((c.tc : Thread Cert.ReferenceFlIdeal.nD Cert.ReferenceFlIdeal.τ).loc Cert.ReferenceFlIdeal.main_arg0) = m' ((c.tc : Thread Cert.ReferenceFlIdeal.nD Cert.ReferenceFlIdeal.τ).loc Cert.ReferenceFlIdeal.main_arg0)
          ∧ r.2.mem ((c.tc : Thread Cert.ReferenceFlIdeal.nD Cert.ReferenceFlIdeal.τ).loc Cert.ReferenceFlIdeal.main_arg1) = m' ((c.tc : Thread Cert.ReferenceFlIdeal.nD Cert.ReferenceFlIdeal.τ).loc Cert.ReferenceFlIdeal.main_arg1)
          ∧ r.2.mem ((c.tc : Thread Cert.ReferenceFlIdeal.nD Cert.ReferenceFlIdeal.τ).loc Cert.ReferenceFlIdeal.main_arg2) = m' ((c.tc : Thread Cert.ReferenceFlIdeal.nD Cert.ReferenceFlIdeal.τ).loc Cert.ReferenceFlIdeal.main_arg2)
          ∧ r.2.mem ((c.tc : Thread Cert.ReferenceFlIdeal.nD Cert.ReferenceFlIdeal.τ).loc Cert.ReferenceFlIdeal.main_arg3) = m' ((c.tc : Thread Cert.ReferenceFlIdeal.nD Cert.ReferenceFlIdeal.τ).loc Cert.ReferenceFlIdeal.main_arg3))

def preserves_KernelFw_KernelFwIdeal : Prop :=
  True

def algebraic_KernelFwIdeal_ReferenceFwIdeal [hKernelFwIdeal : Cert.KernelFwIdeal.Facts] [hReferenceFwIdeal : Cert.ReferenceFwIdeal.Facts] : Prop :=
  ∀ (m : (ℓ : Loc Cert.KernelFwIdeal.nD Cert.KernelFwIdeal.τ Cert.KernelFwIdeal.sig) → Buf (Elt Ideal) ℓ) (g : Dev Cert.KernelFwIdeal.nD → PrngReg)
    (m' : (ℓ : Loc Cert.ReferenceFwIdeal.nD Cert.ReferenceFwIdeal.τ Cert.ReferenceFwIdeal.sig) → Buf (Elt Ideal) ℓ) (g' : Dev Cert.ReferenceFwIdeal.nD → PrngReg), Pre_KernelFwIdeal m →
    (∀ c : Dev Cert.KernelFwIdeal.nD,
      m' ((c.tc : Thread Cert.ReferenceFwIdeal.nD Cert.ReferenceFwIdeal.τ).loc Cert.ReferenceFwIdeal.main_arg0) = m ((c.tc : Thread Cert.KernelFwIdeal.nD Cert.KernelFwIdeal.τ).loc Cert.KernelFwIdeal.main_arg0)
      ∧ m' ((c.tc : Thread Cert.ReferenceFwIdeal.nD Cert.ReferenceFwIdeal.τ).loc Cert.ReferenceFwIdeal.main_arg1) = m ((c.tc : Thread Cert.KernelFwIdeal.nD Cert.KernelFwIdeal.τ).loc Cert.KernelFwIdeal.main_arg1)
      ∧ m' ((c.tc : Thread Cert.ReferenceFwIdeal.nD Cert.ReferenceFwIdeal.τ).loc Cert.ReferenceFwIdeal.main_arg2) = m ((c.tc : Thread Cert.KernelFwIdeal.nD Cert.KernelFwIdeal.τ).loc Cert.KernelFwIdeal.main_arg2)) →
    ∃ (v0 : (c : Dev Cert.KernelFwIdeal.nD) → Buf (Elt Ideal) ((c.tc : Thread Cert.KernelFwIdeal.nD Cert.KernelFwIdeal.τ).loc Cert.KernelFwIdeal.main_v4)),
      θ_run (Cert.KernelFwIdeal.defs (F := Ideal)) (onTc (τ := Cert.KernelFwIdeal.τ) (Cert.KernelFwIdeal.main (F := Ideal))) ⟨m, fun _ => 0, g⟩ (fun r => ∀ c : Dev Cert.KernelFwIdeal.nD,
          r.2.mem ((c.tc : Thread Cert.KernelFwIdeal.nD Cert.KernelFwIdeal.τ).loc Cert.KernelFwIdeal.main_v4) = v0 c
          ∧ r.2.mem ((c.tc : Thread Cert.KernelFwIdeal.nD Cert.KernelFwIdeal.τ).loc Cert.KernelFwIdeal.main_arg0) = m ((c.tc : Thread Cert.KernelFwIdeal.nD Cert.KernelFwIdeal.τ).loc Cert.KernelFwIdeal.main_arg0)
          ∧ r.2.mem ((c.tc : Thread Cert.KernelFwIdeal.nD Cert.KernelFwIdeal.τ).loc Cert.KernelFwIdeal.main_arg1) = m ((c.tc : Thread Cert.KernelFwIdeal.nD Cert.KernelFwIdeal.τ).loc Cert.KernelFwIdeal.main_arg1)
          ∧ r.2.mem ((c.tc : Thread Cert.KernelFwIdeal.nD Cert.KernelFwIdeal.τ).loc Cert.KernelFwIdeal.main_arg2) = m ((c.tc : Thread Cert.KernelFwIdeal.nD Cert.KernelFwIdeal.τ).loc Cert.KernelFwIdeal.main_arg2))
      ∧ θ_run (Cert.ReferenceFwIdeal.defs (F := Ideal)) (onTc (τ := Cert.ReferenceFwIdeal.τ) (Cert.ReferenceFwIdeal.main (F := Ideal))) ⟨m', fun _ => 0, g'⟩ (fun r => ∀ c : Dev Cert.ReferenceFwIdeal.nD,
          r.2.mem ((c.tc : Thread Cert.ReferenceFwIdeal.nD Cert.ReferenceFwIdeal.τ).loc Cert.ReferenceFwIdeal.main_v18) = v0 c
          ∧ r.2.mem ((c.tc : Thread Cert.ReferenceFwIdeal.nD Cert.ReferenceFwIdeal.τ).loc Cert.ReferenceFwIdeal.main_arg0) = m' ((c.tc : Thread Cert.ReferenceFwIdeal.nD Cert.ReferenceFwIdeal.τ).loc Cert.ReferenceFwIdeal.main_arg0)
          ∧ r.2.mem ((c.tc : Thread Cert.ReferenceFwIdeal.nD Cert.ReferenceFwIdeal.τ).loc Cert.ReferenceFwIdeal.main_arg1) = m' ((c.tc : Thread Cert.ReferenceFwIdeal.nD Cert.ReferenceFwIdeal.τ).loc Cert.ReferenceFwIdeal.main_arg1)
          ∧ r.2.mem ((c.tc : Thread Cert.ReferenceFwIdeal.nD Cert.ReferenceFwIdeal.τ).loc Cert.ReferenceFwIdeal.main_arg2) = m' ((c.tc : Thread Cert.ReferenceFwIdeal.nD Cert.ReferenceFwIdeal.τ).loc Cert.ReferenceFwIdeal.main_arg2))

def preserves_KernelFx_KernelFxIdeal : Prop :=
  True

def algebraic_KernelFxIdeal_ReferenceFxIdeal [hKernelFxIdeal : Cert.KernelFxIdeal.Facts] [hReferenceFxIdeal : Cert.ReferenceFxIdeal.Facts] : Prop :=
  ∀ (m : (ℓ : Loc Cert.KernelFxIdeal.nD Cert.KernelFxIdeal.τ Cert.KernelFxIdeal.sig) → Buf (Elt Ideal) ℓ) (g : Dev Cert.KernelFxIdeal.nD → PrngReg)
    (m' : (ℓ : Loc Cert.ReferenceFxIdeal.nD Cert.ReferenceFxIdeal.τ Cert.ReferenceFxIdeal.sig) → Buf (Elt Ideal) ℓ) (g' : Dev Cert.ReferenceFxIdeal.nD → PrngReg), Pre_KernelFxIdeal m →
    (∀ c : Dev Cert.KernelFxIdeal.nD,
      m' ((c.tc : Thread Cert.ReferenceFxIdeal.nD Cert.ReferenceFxIdeal.τ).loc Cert.ReferenceFxIdeal.main_arg0) = m ((c.tc : Thread Cert.KernelFxIdeal.nD Cert.KernelFxIdeal.τ).loc Cert.KernelFxIdeal.main_arg0)
      ∧ m' ((c.tc : Thread Cert.ReferenceFxIdeal.nD Cert.ReferenceFxIdeal.τ).loc Cert.ReferenceFxIdeal.main_arg1) = m ((c.tc : Thread Cert.KernelFxIdeal.nD Cert.KernelFxIdeal.τ).loc Cert.KernelFxIdeal.main_arg1)
      ∧ m' ((c.tc : Thread Cert.ReferenceFxIdeal.nD Cert.ReferenceFxIdeal.τ).loc Cert.ReferenceFxIdeal.main_arg2) = m ((c.tc : Thread Cert.KernelFxIdeal.nD Cert.KernelFxIdeal.τ).loc Cert.KernelFxIdeal.main_arg2)
      ∧ m' ((c.tc : Thread Cert.ReferenceFxIdeal.nD Cert.ReferenceFxIdeal.τ).loc Cert.ReferenceFxIdeal.main_arg3) = m ((c.tc : Thread Cert.KernelFxIdeal.nD Cert.KernelFxIdeal.τ).loc Cert.KernelFxIdeal.main_arg3)
      ∧ m' ((c.tc : Thread Cert.ReferenceFxIdeal.nD Cert.ReferenceFxIdeal.τ).loc Cert.ReferenceFxIdeal.main_arg4) = m ((c.tc : Thread Cert.KernelFxIdeal.nD Cert.KernelFxIdeal.τ).loc Cert.KernelFxIdeal.main_arg4)
      ∧ m' ((c.tc : Thread Cert.ReferenceFxIdeal.nD Cert.ReferenceFxIdeal.τ).loc Cert.ReferenceFxIdeal.main_arg5) = m ((c.tc : Thread Cert.KernelFxIdeal.nD Cert.KernelFxIdeal.τ).loc Cert.KernelFxIdeal.main_arg5)) →
    ∃ (v0 : (c : Dev Cert.KernelFxIdeal.nD) → Buf (Elt Ideal) ((c.tc : Thread Cert.KernelFxIdeal.nD Cert.KernelFxIdeal.τ).loc Cert.KernelFxIdeal.main_v9_0)) (v1 : (c : Dev Cert.KernelFxIdeal.nD) → Buf (Elt Ideal) ((c.tc : Thread Cert.KernelFxIdeal.nD Cert.KernelFxIdeal.τ).loc Cert.KernelFxIdeal.main_v9_1)) (v2 : (c : Dev Cert.KernelFxIdeal.nD) → Buf (Elt Ideal) ((c.tc : Thread Cert.KernelFxIdeal.nD Cert.KernelFxIdeal.τ).loc Cert.KernelFxIdeal.main_v9_2)),
      θ_run (Cert.KernelFxIdeal.defs (F := Ideal)) (onTc (τ := Cert.KernelFxIdeal.τ) (Cert.KernelFxIdeal.main (F := Ideal))) ⟨m, fun _ => 0, g⟩ (fun r => ∀ c : Dev Cert.KernelFxIdeal.nD,
          r.2.mem ((c.tc : Thread Cert.KernelFxIdeal.nD Cert.KernelFxIdeal.τ).loc Cert.KernelFxIdeal.main_v9_0) = v0 c
          ∧ r.2.mem ((c.tc : Thread Cert.KernelFxIdeal.nD Cert.KernelFxIdeal.τ).loc Cert.KernelFxIdeal.main_v9_1) = v1 c
          ∧ r.2.mem ((c.tc : Thread Cert.KernelFxIdeal.nD Cert.KernelFxIdeal.τ).loc Cert.KernelFxIdeal.main_v9_2) = v2 c
          ∧ r.2.mem ((c.tc : Thread Cert.KernelFxIdeal.nD Cert.KernelFxIdeal.τ).loc Cert.KernelFxIdeal.main_arg0) = m ((c.tc : Thread Cert.KernelFxIdeal.nD Cert.KernelFxIdeal.τ).loc Cert.KernelFxIdeal.main_arg0)
          ∧ r.2.mem ((c.tc : Thread Cert.KernelFxIdeal.nD Cert.KernelFxIdeal.τ).loc Cert.KernelFxIdeal.main_arg1) = m ((c.tc : Thread Cert.KernelFxIdeal.nD Cert.KernelFxIdeal.τ).loc Cert.KernelFxIdeal.main_arg1)
          ∧ r.2.mem ((c.tc : Thread Cert.KernelFxIdeal.nD Cert.KernelFxIdeal.τ).loc Cert.KernelFxIdeal.main_arg2) = m ((c.tc : Thread Cert.KernelFxIdeal.nD Cert.KernelFxIdeal.τ).loc Cert.KernelFxIdeal.main_arg2)
          ∧ r.2.mem ((c.tc : Thread Cert.KernelFxIdeal.nD Cert.KernelFxIdeal.τ).loc Cert.KernelFxIdeal.main_arg3) = m ((c.tc : Thread Cert.KernelFxIdeal.nD Cert.KernelFxIdeal.τ).loc Cert.KernelFxIdeal.main_arg3)
          ∧ r.2.mem ((c.tc : Thread Cert.KernelFxIdeal.nD Cert.KernelFxIdeal.τ).loc Cert.KernelFxIdeal.main_arg4) = m ((c.tc : Thread Cert.KernelFxIdeal.nD Cert.KernelFxIdeal.τ).loc Cert.KernelFxIdeal.main_arg4)
          ∧ r.2.mem ((c.tc : Thread Cert.KernelFxIdeal.nD Cert.KernelFxIdeal.τ).loc Cert.KernelFxIdeal.main_arg5) = m ((c.tc : Thread Cert.KernelFxIdeal.nD Cert.KernelFxIdeal.τ).loc Cert.KernelFxIdeal.main_arg5))
      ∧ θ_run (Cert.ReferenceFxIdeal.defs (F := Ideal)) (onTc (τ := Cert.ReferenceFxIdeal.τ) (Cert.ReferenceFxIdeal.main (F := Ideal))) ⟨m', fun _ => 0, g'⟩ (fun r => ∀ c : Dev Cert.ReferenceFxIdeal.nD,
          r.2.mem ((c.tc : Thread Cert.ReferenceFxIdeal.nD Cert.ReferenceFxIdeal.τ).loc Cert.ReferenceFxIdeal.main_v88) = v0 c
          ∧ r.2.mem ((c.tc : Thread Cert.ReferenceFxIdeal.nD Cert.ReferenceFxIdeal.τ).loc Cert.ReferenceFxIdeal.main_v85) = v1 c
          ∧ r.2.mem ((c.tc : Thread Cert.ReferenceFxIdeal.nD Cert.ReferenceFxIdeal.τ).loc Cert.ReferenceFxIdeal.main_v89) = v2 c
          ∧ r.2.mem ((c.tc : Thread Cert.ReferenceFxIdeal.nD Cert.ReferenceFxIdeal.τ).loc Cert.ReferenceFxIdeal.main_arg0) = m' ((c.tc : Thread Cert.ReferenceFxIdeal.nD Cert.ReferenceFxIdeal.τ).loc Cert.ReferenceFxIdeal.main_arg0)
          ∧ r.2.mem ((c.tc : Thread Cert.ReferenceFxIdeal.nD Cert.ReferenceFxIdeal.τ).loc Cert.ReferenceFxIdeal.main_arg1) = m' ((c.tc : Thread Cert.ReferenceFxIdeal.nD Cert.ReferenceFxIdeal.τ).loc Cert.ReferenceFxIdeal.main_arg1)
          ∧ r.2.mem ((c.tc : Thread Cert.ReferenceFxIdeal.nD Cert.ReferenceFxIdeal.τ).loc Cert.ReferenceFxIdeal.main_arg2) = m' ((c.tc : Thread Cert.ReferenceFxIdeal.nD Cert.ReferenceFxIdeal.τ).loc Cert.ReferenceFxIdeal.main_arg2)
          ∧ r.2.mem ((c.tc : Thread Cert.ReferenceFxIdeal.nD Cert.ReferenceFxIdeal.τ).loc Cert.ReferenceFxIdeal.main_arg3) = m' ((c.tc : Thread Cert.ReferenceFxIdeal.nD Cert.ReferenceFxIdeal.τ).loc Cert.ReferenceFxIdeal.main_arg3)
          ∧ r.2.mem ((c.tc : Thread Cert.ReferenceFxIdeal.nD Cert.ReferenceFxIdeal.τ).loc Cert.ReferenceFxIdeal.main_arg4) = m' ((c.tc : Thread Cert.ReferenceFxIdeal.nD Cert.ReferenceFxIdeal.τ).loc Cert.ReferenceFxIdeal.main_arg4)
          ∧ r.2.mem ((c.tc : Thread Cert.ReferenceFxIdeal.nD Cert.ReferenceFxIdeal.τ).loc Cert.ReferenceFxIdeal.main_arg5) = m' ((c.tc : Thread Cert.ReferenceFxIdeal.nD Cert.ReferenceFxIdeal.τ).loc Cert.ReferenceFxIdeal.main_arg5))

def preserves_KernelFd_KernelFdIdeal : Prop :=
  True

def algebraic_KernelFdIdeal_ReferenceFdIdeal_pre_finite_fd [hKernelFdIdeal : Cert.KernelFdIdeal.Facts] [hReferenceFdIdeal : Cert.ReferenceFdIdeal.Facts] [hPre_finite_fd : Cert.Pre_finite_fd.Facts] : Prop :=
  ∀ (m : (ℓ : Loc Cert.KernelFdIdeal.nD Cert.KernelFdIdeal.τ Cert.KernelFdIdeal.sig) → Buf (Elt Ideal) ℓ) (g : Dev Cert.KernelFdIdeal.nD → PrngReg)
    (m' : (ℓ : Loc Cert.ReferenceFdIdeal.nD Cert.ReferenceFdIdeal.τ Cert.ReferenceFdIdeal.sig) → Buf (Elt Ideal) ℓ) (g' : Dev Cert.ReferenceFdIdeal.nD → PrngReg), Pre_KernelFdIdeal_finite_fd m →
    (∀ c : Dev Cert.KernelFdIdeal.nD,
      m' ((c.tc : Thread Cert.ReferenceFdIdeal.nD Cert.ReferenceFdIdeal.τ).loc Cert.ReferenceFdIdeal.main_arg0) = m ((c.tc : Thread Cert.KernelFdIdeal.nD Cert.KernelFdIdeal.τ).loc Cert.KernelFdIdeal.main_arg0)
      ∧ m' ((c.tc : Thread Cert.ReferenceFdIdeal.nD Cert.ReferenceFdIdeal.τ).loc Cert.ReferenceFdIdeal.main_arg1) = m ((c.tc : Thread Cert.KernelFdIdeal.nD Cert.KernelFdIdeal.τ).loc Cert.KernelFdIdeal.main_arg1)
      ∧ m' ((c.tc : Thread Cert.ReferenceFdIdeal.nD Cert.ReferenceFdIdeal.τ).loc Cert.ReferenceFdIdeal.main_arg2) = m ((c.tc : Thread Cert.KernelFdIdeal.nD Cert.KernelFdIdeal.τ).loc Cert.KernelFdIdeal.main_arg2)
      ∧ m' ((c.tc : Thread Cert.ReferenceFdIdeal.nD Cert.ReferenceFdIdeal.τ).loc Cert.ReferenceFdIdeal.main_arg3) = m ((c.tc : Thread Cert.KernelFdIdeal.nD Cert.KernelFdIdeal.τ).loc Cert.KernelFdIdeal.main_arg3)
      ∧ m' ((c.tc : Thread Cert.ReferenceFdIdeal.nD Cert.ReferenceFdIdeal.τ).loc Cert.ReferenceFdIdeal.main_arg4) = m ((c.tc : Thread Cert.KernelFdIdeal.nD Cert.KernelFdIdeal.τ).loc Cert.KernelFdIdeal.main_arg4)) →
    ∃ (v0 : (c : Dev Cert.KernelFdIdeal.nD) → Buf (Elt Ideal) ((c.tc : Thread Cert.KernelFdIdeal.nD Cert.KernelFdIdeal.τ).loc Cert.KernelFdIdeal.main_v7_0)) (v1 : (c : Dev Cert.KernelFdIdeal.nD) → Buf (Elt Ideal) ((c.tc : Thread Cert.KernelFdIdeal.nD Cert.KernelFdIdeal.τ).loc Cert.KernelFdIdeal.main_v7_1)) (v2 : (c : Dev Cert.KernelFdIdeal.nD) → Buf (Elt Ideal) ((c.tc : Thread Cert.KernelFdIdeal.nD Cert.KernelFdIdeal.τ).loc Cert.KernelFdIdeal.main_v7_2)) (v3 : (c : Dev Cert.KernelFdIdeal.nD) → Buf (Elt Ideal) ((c.tc : Thread Cert.KernelFdIdeal.nD Cert.KernelFdIdeal.τ).loc Cert.KernelFdIdeal.main_v7_3)),
      θ_run (Cert.KernelFdIdeal.defs (F := Ideal)) (onTc (τ := Cert.KernelFdIdeal.τ) (Cert.KernelFdIdeal.main (F := Ideal))) ⟨m, fun _ => 0, g⟩ (fun r => ∀ c : Dev Cert.KernelFdIdeal.nD,
          r.2.mem ((c.tc : Thread Cert.KernelFdIdeal.nD Cert.KernelFdIdeal.τ).loc Cert.KernelFdIdeal.main_v7_0) = v0 c
          ∧ r.2.mem ((c.tc : Thread Cert.KernelFdIdeal.nD Cert.KernelFdIdeal.τ).loc Cert.KernelFdIdeal.main_v7_1) = v1 c
          ∧ r.2.mem ((c.tc : Thread Cert.KernelFdIdeal.nD Cert.KernelFdIdeal.τ).loc Cert.KernelFdIdeal.main_v7_2) = v2 c
          ∧ r.2.mem ((c.tc : Thread Cert.KernelFdIdeal.nD Cert.KernelFdIdeal.τ).loc Cert.KernelFdIdeal.main_v7_3) = v3 c
          ∧ r.2.mem ((c.tc : Thread Cert.KernelFdIdeal.nD Cert.KernelFdIdeal.τ).loc Cert.KernelFdIdeal.main_arg0) = m ((c.tc : Thread Cert.KernelFdIdeal.nD Cert.KernelFdIdeal.τ).loc Cert.KernelFdIdeal.main_arg0)
          ∧ r.2.mem ((c.tc : Thread Cert.KernelFdIdeal.nD Cert.KernelFdIdeal.τ).loc Cert.KernelFdIdeal.main_arg1) = m ((c.tc : Thread Cert.KernelFdIdeal.nD Cert.KernelFdIdeal.τ).loc Cert.KernelFdIdeal.main_arg1)
          ∧ r.2.mem ((c.tc : Thread Cert.KernelFdIdeal.nD Cert.KernelFdIdeal.τ).loc Cert.KernelFdIdeal.main_arg2) = m ((c.tc : Thread Cert.KernelFdIdeal.nD Cert.KernelFdIdeal.τ).loc Cert.KernelFdIdeal.main_arg2)
          ∧ r.2.mem ((c.tc : Thread Cert.KernelFdIdeal.nD Cert.KernelFdIdeal.τ).loc Cert.KernelFdIdeal.main_arg3) = m ((c.tc : Thread Cert.KernelFdIdeal.nD Cert.KernelFdIdeal.τ).loc Cert.KernelFdIdeal.main_arg3)
          ∧ r.2.mem ((c.tc : Thread Cert.KernelFdIdeal.nD Cert.KernelFdIdeal.τ).loc Cert.KernelFdIdeal.main_arg4) = m ((c.tc : Thread Cert.KernelFdIdeal.nD Cert.KernelFdIdeal.τ).loc Cert.KernelFdIdeal.main_arg4))
      ∧ θ_run (Cert.ReferenceFdIdeal.defs (F := Ideal)) (onTc (τ := Cert.ReferenceFdIdeal.τ) (Cert.ReferenceFdIdeal.main (F := Ideal))) ⟨m', fun _ => 0, g'⟩ (fun r => ∀ c : Dev Cert.ReferenceFdIdeal.nD,
          r.2.mem ((c.tc : Thread Cert.ReferenceFdIdeal.nD Cert.ReferenceFdIdeal.τ).loc Cert.ReferenceFdIdeal.main_v66) = v0 c
          ∧ r.2.mem ((c.tc : Thread Cert.ReferenceFdIdeal.nD Cert.ReferenceFdIdeal.τ).loc Cert.ReferenceFdIdeal.main_v34) = v1 c
          ∧ r.2.mem ((c.tc : Thread Cert.ReferenceFdIdeal.nD Cert.ReferenceFdIdeal.τ).loc Cert.ReferenceFdIdeal.main_v69) = v2 c
          ∧ r.2.mem ((c.tc : Thread Cert.ReferenceFdIdeal.nD Cert.ReferenceFdIdeal.τ).loc Cert.ReferenceFdIdeal.main_v70) = v3 c
          ∧ r.2.mem ((c.tc : Thread Cert.ReferenceFdIdeal.nD Cert.ReferenceFdIdeal.τ).loc Cert.ReferenceFdIdeal.main_arg0) = m' ((c.tc : Thread Cert.ReferenceFdIdeal.nD Cert.ReferenceFdIdeal.τ).loc Cert.ReferenceFdIdeal.main_arg0)
          ∧ r.2.mem ((c.tc : Thread Cert.ReferenceFdIdeal.nD Cert.ReferenceFdIdeal.τ).loc Cert.ReferenceFdIdeal.main_arg1) = m' ((c.tc : Thread Cert.ReferenceFdIdeal.nD Cert.ReferenceFdIdeal.τ).loc Cert.ReferenceFdIdeal.main_arg1)
          ∧ r.2.mem ((c.tc : Thread Cert.ReferenceFdIdeal.nD Cert.ReferenceFdIdeal.τ).loc Cert.ReferenceFdIdeal.main_arg2) = m' ((c.tc : Thread Cert.ReferenceFdIdeal.nD Cert.ReferenceFdIdeal.τ).loc Cert.ReferenceFdIdeal.main_arg2)
          ∧ r.2.mem ((c.tc : Thread Cert.ReferenceFdIdeal.nD Cert.ReferenceFdIdeal.τ).loc Cert.ReferenceFdIdeal.main_arg3) = m' ((c.tc : Thread Cert.ReferenceFdIdeal.nD Cert.ReferenceFdIdeal.τ).loc Cert.ReferenceFdIdeal.main_arg3)
          ∧ r.2.mem ((c.tc : Thread Cert.ReferenceFdIdeal.nD Cert.ReferenceFdIdeal.τ).loc Cert.ReferenceFdIdeal.main_arg4) = m' ((c.tc : Thread Cert.ReferenceFdIdeal.nD Cert.ReferenceFdIdeal.τ).loc Cert.ReferenceFdIdeal.main_arg4))

def preserves_KernelMkv_KernelMkvIdeal : Prop :=
  True

def algebraic_KernelMkvIdeal_ReferenceMkvIdeal [hKernelMkvIdeal : Cert.KernelMkvIdeal.Facts] [hReferenceMkvIdeal : Cert.ReferenceMkvIdeal.Facts] : Prop :=
  ∀ (m : (ℓ : Loc Cert.KernelMkvIdeal.nD Cert.KernelMkvIdeal.τ Cert.KernelMkvIdeal.sig) → Buf (Elt Ideal) ℓ) (g : Dev Cert.KernelMkvIdeal.nD → PrngReg)
    (m' : (ℓ : Loc Cert.ReferenceMkvIdeal.nD Cert.ReferenceMkvIdeal.τ Cert.ReferenceMkvIdeal.sig) → Buf (Elt Ideal) ℓ) (g' : Dev Cert.ReferenceMkvIdeal.nD → PrngReg), Pre_KernelMkvIdeal m →
    (∀ c : Dev Cert.KernelMkvIdeal.nD,
      m' ((c.tc : Thread Cert.ReferenceMkvIdeal.nD Cert.ReferenceMkvIdeal.τ).loc Cert.ReferenceMkvIdeal.main_arg0) = m ((c.tc : Thread Cert.KernelMkvIdeal.nD Cert.KernelMkvIdeal.τ).loc Cert.KernelMkvIdeal.main_arg0)
      ∧ m' ((c.tc : Thread Cert.ReferenceMkvIdeal.nD Cert.ReferenceMkvIdeal.τ).loc Cert.ReferenceMkvIdeal.main_arg1) = m ((c.tc : Thread Cert.KernelMkvIdeal.nD Cert.KernelMkvIdeal.τ).loc Cert.KernelMkvIdeal.main_arg1)
      ∧ m' ((c.tc : Thread Cert.ReferenceMkvIdeal.nD Cert.ReferenceMkvIdeal.τ).loc Cert.ReferenceMkvIdeal.main_arg2) = m ((c.tc : Thread Cert.KernelMkvIdeal.nD Cert.KernelMkvIdeal.τ).loc Cert.KernelMkvIdeal.main_arg2)
      ∧ m' ((c.tc : Thread Cert.ReferenceMkvIdeal.nD Cert.ReferenceMkvIdeal.τ).loc Cert.ReferenceMkvIdeal.main_arg3) = m ((c.tc : Thread Cert.KernelMkvIdeal.nD Cert.KernelMkvIdeal.τ).loc Cert.KernelMkvIdeal.main_arg3)
      ∧ m' ((c.tc : Thread Cert.ReferenceMkvIdeal.nD Cert.ReferenceMkvIdeal.τ).loc Cert.ReferenceMkvIdeal.main_arg4) = m ((c.tc : Thread Cert.KernelMkvIdeal.nD Cert.KernelMkvIdeal.τ).loc Cert.KernelMkvIdeal.main_arg4)
      ∧ m' ((c.tc : Thread Cert.ReferenceMkvIdeal.nD Cert.ReferenceMkvIdeal.τ).loc Cert.ReferenceMkvIdeal.main_arg5) = m ((c.tc : Thread Cert.KernelMkvIdeal.nD Cert.KernelMkvIdeal.τ).loc Cert.KernelMkvIdeal.main_arg5)) →
    ∃ (v0 : (c : Dev Cert.KernelMkvIdeal.nD) → Buf (Elt Ideal) ((c.tc : Thread Cert.KernelMkvIdeal.nD Cert.KernelMkvIdeal.τ).loc Cert.KernelMkvIdeal.main_v3_0)) (v1 : (c : Dev Cert.KernelMkvIdeal.nD) → Buf (Elt Ideal) ((c.tc : Thread Cert.KernelMkvIdeal.nD Cert.KernelMkvIdeal.τ).loc Cert.KernelMkvIdeal.main_v3_1)) (v2 : (c : Dev Cert.KernelMkvIdeal.nD) → Buf (Elt Ideal) ((c.tc : Thread Cert.KernelMkvIdeal.nD Cert.KernelMkvIdeal.τ).loc Cert.KernelMkvIdeal.main_v3_2)),
      θ_run (Cert.KernelMkvIdeal.defs (F := Ideal)) (onTc (τ := Cert.KernelMkvIdeal.τ) (Cert.KernelMkvIdeal.main (F := Ideal))) ⟨m, fun _ => 0, g⟩ (fun r => ∀ c : Dev Cert.KernelMkvIdeal.nD,
          r.2.mem ((c.tc : Thread Cert.KernelMkvIdeal.nD Cert.KernelMkvIdeal.τ).loc Cert.KernelMkvIdeal.main_v3_0) = v0 c
          ∧ r.2.mem ((c.tc : Thread Cert.KernelMkvIdeal.nD Cert.KernelMkvIdeal.τ).loc Cert.KernelMkvIdeal.main_v3_1) = v1 c
          ∧ r.2.mem ((c.tc : Thread Cert.KernelMkvIdeal.nD Cert.KernelMkvIdeal.τ).loc Cert.KernelMkvIdeal.main_v3_2) = v2 c
          ∧ r.2.mem ((c.tc : Thread Cert.KernelMkvIdeal.nD Cert.KernelMkvIdeal.τ).loc Cert.KernelMkvIdeal.main_arg0) = m ((c.tc : Thread Cert.KernelMkvIdeal.nD Cert.KernelMkvIdeal.τ).loc Cert.KernelMkvIdeal.main_arg0)
          ∧ r.2.mem ((c.tc : Thread Cert.KernelMkvIdeal.nD Cert.KernelMkvIdeal.τ).loc Cert.KernelMkvIdeal.main_arg1) = m ((c.tc : Thread Cert.KernelMkvIdeal.nD Cert.KernelMkvIdeal.τ).loc Cert.KernelMkvIdeal.main_arg1)
          ∧ r.2.mem ((c.tc : Thread Cert.KernelMkvIdeal.nD Cert.KernelMkvIdeal.τ).loc Cert.KernelMkvIdeal.main_arg2) = m ((c.tc : Thread Cert.KernelMkvIdeal.nD Cert.KernelMkvIdeal.τ).loc Cert.KernelMkvIdeal.main_arg2)
          ∧ r.2.mem ((c.tc : Thread Cert.KernelMkvIdeal.nD Cert.KernelMkvIdeal.τ).loc Cert.KernelMkvIdeal.main_arg3) = m ((c.tc : Thread Cert.KernelMkvIdeal.nD Cert.KernelMkvIdeal.τ).loc Cert.KernelMkvIdeal.main_arg3)
          ∧ r.2.mem ((c.tc : Thread Cert.KernelMkvIdeal.nD Cert.KernelMkvIdeal.τ).loc Cert.KernelMkvIdeal.main_arg4) = m ((c.tc : Thread Cert.KernelMkvIdeal.nD Cert.KernelMkvIdeal.τ).loc Cert.KernelMkvIdeal.main_arg4)
          ∧ r.2.mem ((c.tc : Thread Cert.KernelMkvIdeal.nD Cert.KernelMkvIdeal.τ).loc Cert.KernelMkvIdeal.main_arg5) = m ((c.tc : Thread Cert.KernelMkvIdeal.nD Cert.KernelMkvIdeal.τ).loc Cert.KernelMkvIdeal.main_arg5))
      ∧ θ_run (Cert.ReferenceMkvIdeal.defs (F := Ideal)) (onTc (τ := Cert.ReferenceMkvIdeal.τ) (Cert.ReferenceMkvIdeal.main (F := Ideal))) ⟨m', fun _ => 0, g'⟩ (fun r => ∀ c : Dev Cert.ReferenceMkvIdeal.nD,
          r.2.mem ((c.tc : Thread Cert.ReferenceMkvIdeal.nD Cert.ReferenceMkvIdeal.τ).loc Cert.ReferenceMkvIdeal.main_v65) = v0 c
          ∧ r.2.mem ((c.tc : Thread Cert.ReferenceMkvIdeal.nD Cert.ReferenceMkvIdeal.τ).loc Cert.ReferenceMkvIdeal.main_v66) = v1 c
          ∧ r.2.mem ((c.tc : Thread Cert.ReferenceMkvIdeal.nD Cert.ReferenceMkvIdeal.τ).loc Cert.ReferenceMkvIdeal.main_v59) = v2 c
          ∧ r.2.mem ((c.tc : Thread Cert.ReferenceMkvIdeal.nD Cert.ReferenceMkvIdeal.τ).loc Cert.ReferenceMkvIdeal.main_arg0) = m' ((c.tc : Thread Cert.ReferenceMkvIdeal.nD Cert.ReferenceMkvIdeal.τ).loc Cert.ReferenceMkvIdeal.main_arg0)
          ∧ r.2.mem ((c.tc : Thread Cert.ReferenceMkvIdeal.nD Cert.ReferenceMkvIdeal.τ).loc Cert.ReferenceMkvIdeal.main_arg1) = m' ((c.tc : Thread Cert.ReferenceMkvIdeal.nD Cert.ReferenceMkvIdeal.τ).loc Cert.ReferenceMkvIdeal.main_arg1)
          ∧ r.2.mem ((c.tc : Thread Cert.ReferenceMkvIdeal.nD Cert.ReferenceMkvIdeal.τ).loc Cert.ReferenceMkvIdeal.main_arg2) = m' ((c.tc : Thread Cert.ReferenceMkvIdeal.nD Cert.ReferenceMkvIdeal.τ).loc Cert.ReferenceMkvIdeal.main_arg2)
          ∧ r.2.mem ((c.tc : Thread Cert.ReferenceMkvIdeal.nD Cert.ReferenceMkvIdeal.τ).loc Cert.ReferenceMkvIdeal.main_arg3) = m' ((c.tc : Thread Cert.ReferenceMkvIdeal.nD Cert.ReferenceMkvIdeal.τ).loc Cert.ReferenceMkvIdeal.main_arg3)
          ∧ r.2.mem ((c.tc : Thread Cert.ReferenceMkvIdeal.nD Cert.ReferenceMkvIdeal.τ).loc Cert.ReferenceMkvIdeal.main_arg4) = m' ((c.tc : Thread Cert.ReferenceMkvIdeal.nD Cert.ReferenceMkvIdeal.τ).loc Cert.ReferenceMkvIdeal.main_arg4)
          ∧ r.2.mem ((c.tc : Thread Cert.ReferenceMkvIdeal.nD Cert.ReferenceMkvIdeal.τ).loc Cert.ReferenceMkvIdeal.main_arg5) = m' ((c.tc : Thread Cert.ReferenceMkvIdeal.nD Cert.ReferenceMkvIdeal.τ).loc Cert.ReferenceMkvIdeal.main_arg5))

def preserves_KernelMix_KernelMixIdeal : Prop :=
  True

def algebraic_KernelMixIdeal_ReferenceMixIdeal [hKernelMixIdeal : Cert.KernelMixIdeal.Facts] [hReferenceMixIdeal : Cert.ReferenceMixIdeal.Facts] : Prop :=
  ∀ (m : (ℓ : Loc Cert.KernelMixIdeal.nD Cert.KernelMixIdeal.τ Cert.KernelMixIdeal.sig) → Buf (Elt Ideal) ℓ) (g : Dev Cert.KernelMixIdeal.nD → PrngReg)
    (m' : (ℓ : Loc Cert.ReferenceMixIdeal.nD Cert.ReferenceMixIdeal.τ Cert.ReferenceMixIdeal.sig) → Buf (Elt Ideal) ℓ) (g' : Dev Cert.ReferenceMixIdeal.nD → PrngReg), Pre_KernelMixIdeal m →
    (∀ c : Dev Cert.KernelMixIdeal.nD,
      m' ((c.tc : Thread Cert.ReferenceMixIdeal.nD Cert.ReferenceMixIdeal.τ).loc Cert.ReferenceMixIdeal.main_arg0) = m ((c.tc : Thread Cert.KernelMixIdeal.nD Cert.KernelMixIdeal.τ).loc Cert.KernelMixIdeal.main_arg0)
      ∧ m' ((c.tc : Thread Cert.ReferenceMixIdeal.nD Cert.ReferenceMixIdeal.τ).loc Cert.ReferenceMixIdeal.main_arg1) = m ((c.tc : Thread Cert.KernelMixIdeal.nD Cert.KernelMixIdeal.τ).loc Cert.KernelMixIdeal.main_arg1)
      ∧ m' ((c.tc : Thread Cert.ReferenceMixIdeal.nD Cert.ReferenceMixIdeal.τ).loc Cert.ReferenceMixIdeal.main_arg2) = m ((c.tc : Thread Cert.KernelMixIdeal.nD Cert.KernelMixIdeal.τ).loc Cert.KernelMixIdeal.main_arg2)
      ∧ m' ((c.tc : Thread Cert.ReferenceMixIdeal.nD Cert.ReferenceMixIdeal.τ).loc Cert.ReferenceMixIdeal.main_arg3) = m ((c.tc : Thread Cert.KernelMixIdeal.nD Cert.KernelMixIdeal.τ).loc Cert.KernelMixIdeal.main_arg3)
      ∧ m' ((c.tc : Thread Cert.ReferenceMixIdeal.nD Cert.ReferenceMixIdeal.τ).loc Cert.ReferenceMixIdeal.main_arg4) = m ((c.tc : Thread Cert.KernelMixIdeal.nD Cert.KernelMixIdeal.τ).loc Cert.KernelMixIdeal.main_arg4)
      ∧ m' ((c.tc : Thread Cert.ReferenceMixIdeal.nD Cert.ReferenceMixIdeal.τ).loc Cert.ReferenceMixIdeal.main_arg5) = m ((c.tc : Thread Cert.KernelMixIdeal.nD Cert.KernelMixIdeal.τ).loc Cert.KernelMixIdeal.main_arg5)
      ∧ m' ((c.tc : Thread Cert.ReferenceMixIdeal.nD Cert.ReferenceMixIdeal.τ).loc Cert.ReferenceMixIdeal.main_arg6) = m ((c.tc : Thread Cert.KernelMixIdeal.nD Cert.KernelMixIdeal.τ).loc Cert.KernelMixIdeal.main_arg6)
      ∧ m' ((c.tc : Thread Cert.ReferenceMixIdeal.nD Cert.ReferenceMixIdeal.τ).loc Cert.ReferenceMixIdeal.main_arg7) = m ((c.tc : Thread Cert.KernelMixIdeal.nD Cert.KernelMixIdeal.τ).loc Cert.KernelMixIdeal.main_arg7)) →
    ∃ (v0 : (c : Dev Cert.KernelMixIdeal.nD) → Buf (Elt Ideal) ((c.tc : Thread Cert.KernelMixIdeal.nD Cert.KernelMixIdeal.τ).loc Cert.KernelMixIdeal.main_v6_0)) (v1 : (c : Dev Cert.KernelMixIdeal.nD) → Buf (Elt Ideal) ((c.tc : Thread Cert.KernelMixIdeal.nD Cert.KernelMixIdeal.τ).loc Cert.KernelMixIdeal.main_v6_1)) (v2 : (c : Dev Cert.KernelMixIdeal.nD) → Buf (Elt Ideal) ((c.tc : Thread Cert.KernelMixIdeal.nD Cert.KernelMixIdeal.τ).loc Cert.KernelMixIdeal.main_v6_2)) (v3 : (c : Dev Cert.KernelMixIdeal.nD) → Buf (Elt Ideal) ((c.tc : Thread Cert.KernelMixIdeal.nD Cert.KernelMixIdeal.τ).loc Cert.KernelMixIdeal.main_v6_3)) (v4 : (c : Dev Cert.KernelMixIdeal.nD) → Buf (Elt Ideal) ((c.tc : Thread Cert.KernelMixIdeal.nD Cert.KernelMixIdeal.τ).loc Cert.KernelMixIdeal.main_v6_4)) (v5 : (c : Dev Cert.KernelMixIdeal.nD) → Buf (Elt Ideal) ((c.tc : Thread Cert.KernelMixIdeal.nD Cert.KernelMixIdeal.τ).loc Cert.KernelMixIdeal.main_v6_5)) (v6 : (c : Dev Cert.KernelMixIdeal.nD) → Buf (Elt Ideal) ((c.tc : Thread Cert.KernelMixIdeal.nD Cert.KernelMixIdeal.τ).loc Cert.KernelMixIdeal.main_v6_6)) (v7 : (c : Dev Cert.KernelMixIdeal.nD) → Buf (Elt Ideal) ((c.tc : Thread Cert.KernelMixIdeal.nD Cert.KernelMixIdeal.τ).loc Cert.KernelMixIdeal.main_v6_7)),
      θ_run (Cert.KernelMixIdeal.defs (F := Ideal)) (onTc (τ := Cert.KernelMixIdeal.τ) (Cert.KernelMixIdeal.main (F := Ideal))) ⟨m, fun _ => 0, g⟩ (fun r => ∀ c : Dev Cert.KernelMixIdeal.nD,
          r.2.mem ((c.tc : Thread Cert.KernelMixIdeal.nD Cert.KernelMixIdeal.τ).loc Cert.KernelMixIdeal.main_v6_0) = v0 c
          ∧ r.2.mem ((c.tc : Thread Cert.KernelMixIdeal.nD Cert.KernelMixIdeal.τ).loc Cert.KernelMixIdeal.main_v6_1) = v1 c
          ∧ r.2.mem ((c.tc : Thread Cert.KernelMixIdeal.nD Cert.KernelMixIdeal.τ).loc Cert.KernelMixIdeal.main_v6_2) = v2 c
          ∧ r.2.mem ((c.tc : Thread Cert.KernelMixIdeal.nD Cert.KernelMixIdeal.τ).loc Cert.KernelMixIdeal.main_v6_3) = v3 c
          ∧ r.2.mem ((c.tc : Thread Cert.KernelMixIdeal.nD Cert.KernelMixIdeal.τ).loc Cert.KernelMixIdeal.main_v6_4) = v4 c
          ∧ r.2.mem ((c.tc : Thread Cert.KernelMixIdeal.nD Cert.KernelMixIdeal.τ).loc Cert.KernelMixIdeal.main_v6_5) = v5 c
          ∧ r.2.mem ((c.tc : Thread Cert.KernelMixIdeal.nD Cert.KernelMixIdeal.τ).loc Cert.KernelMixIdeal.main_v6_6) = v6 c
          ∧ r.2.mem ((c.tc : Thread Cert.KernelMixIdeal.nD Cert.KernelMixIdeal.τ).loc Cert.KernelMixIdeal.main_v6_7) = v7 c
          ∧ r.2.mem ((c.tc : Thread Cert.KernelMixIdeal.nD Cert.KernelMixIdeal.τ).loc Cert.KernelMixIdeal.main_arg0) = m ((c.tc : Thread Cert.KernelMixIdeal.nD Cert.KernelMixIdeal.τ).loc Cert.KernelMixIdeal.main_arg0)
          ∧ r.2.mem ((c.tc : Thread Cert.KernelMixIdeal.nD Cert.KernelMixIdeal.τ).loc Cert.KernelMixIdeal.main_arg1) = m ((c.tc : Thread Cert.KernelMixIdeal.nD Cert.KernelMixIdeal.τ).loc Cert.KernelMixIdeal.main_arg1)
          ∧ r.2.mem ((c.tc : Thread Cert.KernelMixIdeal.nD Cert.KernelMixIdeal.τ).loc Cert.KernelMixIdeal.main_arg2) = m ((c.tc : Thread Cert.KernelMixIdeal.nD Cert.KernelMixIdeal.τ).loc Cert.KernelMixIdeal.main_arg2)
          ∧ r.2.mem ((c.tc : Thread Cert.KernelMixIdeal.nD Cert.KernelMixIdeal.τ).loc Cert.KernelMixIdeal.main_arg3) = m ((c.tc : Thread Cert.KernelMixIdeal.nD Cert.KernelMixIdeal.τ).loc Cert.KernelMixIdeal.main_arg3)
          ∧ r.2.mem ((c.tc : Thread Cert.KernelMixIdeal.nD Cert.KernelMixIdeal.τ).loc Cert.KernelMixIdeal.main_arg4) = m ((c.tc : Thread Cert.KernelMixIdeal.nD Cert.KernelMixIdeal.τ).loc Cert.KernelMixIdeal.main_arg4)
          ∧ r.2.mem ((c.tc : Thread Cert.KernelMixIdeal.nD Cert.KernelMixIdeal.τ).loc Cert.KernelMixIdeal.main_arg5) = m ((c.tc : Thread Cert.KernelMixIdeal.nD Cert.KernelMixIdeal.τ).loc Cert.KernelMixIdeal.main_arg5)
          ∧ r.2.mem ((c.tc : Thread Cert.KernelMixIdeal.nD Cert.KernelMixIdeal.τ).loc Cert.KernelMixIdeal.main_arg6) = m ((c.tc : Thread Cert.KernelMixIdeal.nD Cert.KernelMixIdeal.τ).loc Cert.KernelMixIdeal.main_arg6)
          ∧ r.2.mem ((c.tc : Thread Cert.KernelMixIdeal.nD Cert.KernelMixIdeal.τ).loc Cert.KernelMixIdeal.main_arg7) = m ((c.tc : Thread Cert.KernelMixIdeal.nD Cert.KernelMixIdeal.τ).loc Cert.KernelMixIdeal.main_arg7))
      ∧ θ_run (Cert.ReferenceMixIdeal.defs (F := Ideal)) (onTc (τ := Cert.ReferenceMixIdeal.τ) (Cert.ReferenceMixIdeal.main (F := Ideal))) ⟨m', fun _ => 0, g'⟩ (fun r => ∀ c : Dev Cert.ReferenceMixIdeal.nD,
          r.2.mem ((c.tc : Thread Cert.ReferenceMixIdeal.nD Cert.ReferenceMixIdeal.τ).loc Cert.ReferenceMixIdeal.main_v104) = v0 c
          ∧ r.2.mem ((c.tc : Thread Cert.ReferenceMixIdeal.nD Cert.ReferenceMixIdeal.τ).loc Cert.ReferenceMixIdeal.main_v116) = v1 c
          ∧ r.2.mem ((c.tc : Thread Cert.ReferenceMixIdeal.nD Cert.ReferenceMixIdeal.τ).loc Cert.ReferenceMixIdeal.main_v82) = v2 c
          ∧ r.2.mem ((c.tc : Thread Cert.ReferenceMixIdeal.nD Cert.ReferenceMixIdeal.τ).loc Cert.ReferenceMixIdeal.main_v120) = v3 c
          ∧ r.2.mem ((c.tc : Thread Cert.ReferenceMixIdeal.nD Cert.ReferenceMixIdeal.τ).loc Cert.ReferenceMixIdeal.main_v121) = v4 c
          ∧ r.2.mem ((c.tc : Thread Cert.ReferenceMixIdeal.nD Cert.ReferenceMixIdeal.τ).loc Cert.ReferenceMixIdeal.main_v122) = v5 c
          ∧ r.2.mem ((c.tc : Thread Cert.ReferenceMixIdeal.nD Cert.ReferenceMixIdeal.τ).loc Cert.ReferenceMixIdeal.main_v123) = v6 c
          ∧ r.2.mem ((c.tc : Thread Cert.ReferenceMixIdeal.nD Cert.ReferenceMixIdeal.τ).loc Cert.ReferenceMixIdeal.main_v124) = v7 c
          ∧ r.2.mem ((c.tc : Thread Cert.ReferenceMixIdeal.nD Cert.ReferenceMixIdeal.τ).loc Cert.ReferenceMixIdeal.main_arg0) = m' ((c.tc : Thread Cert.ReferenceMixIdeal.nD Cert.ReferenceMixIdeal.τ).loc Cert.ReferenceMixIdeal.main_arg0)
          ∧ r.2.mem ((c.tc : Thread Cert.ReferenceMixIdeal.nD Cert.ReferenceMixIdeal.τ).loc Cert.ReferenceMixIdeal.main_arg1) = m' ((c.tc : Thread Cert.ReferenceMixIdeal.nD Cert.ReferenceMixIdeal.τ).loc Cert.ReferenceMixIdeal.main_arg1)
          ∧ r.2.mem ((c.tc : Thread Cert.ReferenceMixIdeal.nD Cert.ReferenceMixIdeal.τ).loc Cert.ReferenceMixIdeal.main_arg2) = m' ((c.tc : Thread Cert.ReferenceMixIdeal.nD Cert.ReferenceMixIdeal.τ).loc Cert.ReferenceMixIdeal.main_arg2)
          ∧ r.2.mem ((c.tc : Thread Cert.ReferenceMixIdeal.nD Cert.ReferenceMixIdeal.τ).loc Cert.ReferenceMixIdeal.main_arg3) = m' ((c.tc : Thread Cert.ReferenceMixIdeal.nD Cert.ReferenceMixIdeal.τ).loc Cert.ReferenceMixIdeal.main_arg3)
          ∧ r.2.mem ((c.tc : Thread Cert.ReferenceMixIdeal.nD Cert.ReferenceMixIdeal.τ).loc Cert.ReferenceMixIdeal.main_arg4) = m' ((c.tc : Thread Cert.ReferenceMixIdeal.nD Cert.ReferenceMixIdeal.τ).loc Cert.ReferenceMixIdeal.main_arg4)
          ∧ r.2.mem ((c.tc : Thread Cert.ReferenceMixIdeal.nD Cert.ReferenceMixIdeal.τ).loc Cert.ReferenceMixIdeal.main_arg5) = m' ((c.tc : Thread Cert.ReferenceMixIdeal.nD Cert.ReferenceMixIdeal.τ).loc Cert.ReferenceMixIdeal.main_arg5)
          ∧ r.2.mem ((c.tc : Thread Cert.ReferenceMixIdeal.nD Cert.ReferenceMixIdeal.τ).loc Cert.ReferenceMixIdeal.main_arg6) = m' ((c.tc : Thread Cert.ReferenceMixIdeal.nD Cert.ReferenceMixIdeal.τ).loc Cert.ReferenceMixIdeal.main_arg6)
          ∧ r.2.mem ((c.tc : Thread Cert.ReferenceMixIdeal.nD Cert.ReferenceMixIdeal.τ).loc Cert.ReferenceMixIdeal.main_arg7) = m' ((c.tc : Thread Cert.ReferenceMixIdeal.nD Cert.ReferenceMixIdeal.τ).loc Cert.ReferenceMixIdeal.main_arg7))

def preserves_KernelMem_KernelMemIdeal : Prop :=
  True

def algebraic_KernelMemIdeal_ReferenceMemIdeal [hKernelMemIdeal : Cert.KernelMemIdeal.Facts] [hReferenceMemIdeal : Cert.ReferenceMemIdeal.Facts] : Prop :=
  ∀ (m : (ℓ : Loc Cert.KernelMemIdeal.nD Cert.KernelMemIdeal.τ Cert.KernelMemIdeal.sig) → Buf (Elt Ideal) ℓ) (g : Dev Cert.KernelMemIdeal.nD → PrngReg)
    (m' : (ℓ : Loc Cert.ReferenceMemIdeal.nD Cert.ReferenceMemIdeal.τ Cert.ReferenceMemIdeal.sig) → Buf (Elt Ideal) ℓ) (g' : Dev Cert.ReferenceMemIdeal.nD → PrngReg), Pre_KernelMemIdeal m →
    (∀ c : Dev Cert.KernelMemIdeal.nD,
      m' ((c.tc : Thread Cert.ReferenceMemIdeal.nD Cert.ReferenceMemIdeal.τ).loc Cert.ReferenceMemIdeal.main_arg0) = m ((c.tc : Thread Cert.KernelMemIdeal.nD Cert.KernelMemIdeal.τ).loc Cert.KernelMemIdeal.main_arg0)
      ∧ m' ((c.tc : Thread Cert.ReferenceMemIdeal.nD Cert.ReferenceMemIdeal.τ).loc Cert.ReferenceMemIdeal.main_arg1) = m ((c.tc : Thread Cert.KernelMemIdeal.nD Cert.KernelMemIdeal.τ).loc Cert.KernelMemIdeal.main_arg1)
      ∧ m' ((c.tc : Thread Cert.ReferenceMemIdeal.nD Cert.ReferenceMemIdeal.τ).loc Cert.ReferenceMemIdeal.main_arg2) = m ((c.tc : Thread Cert.KernelMemIdeal.nD Cert.KernelMemIdeal.τ).loc Cert.KernelMemIdeal.main_arg2)
      ∧ m' ((c.tc : Thread Cert.ReferenceMemIdeal.nD Cert.ReferenceMemIdeal.τ).loc Cert.ReferenceMemIdeal.main_arg3) = m ((c.tc : Thread Cert.KernelMemIdeal.nD Cert.KernelMemIdeal.τ).loc Cert.KernelMemIdeal.main_arg3)
      ∧ m' ((c.tc : Thread Cert.ReferenceMemIdeal.nD Cert.ReferenceMemIdeal.τ).loc Cert.ReferenceMemIdeal.main_arg4) = m ((c.tc : Thread Cert.KernelMemIdeal.nD Cert.KernelMemIdeal.τ).loc Cert.KernelMemIdeal.main_arg4)
      ∧ m' ((c.tc : Thread Cert.ReferenceMemIdeal.nD Cert.ReferenceMemIdeal.τ).loc Cert.ReferenceMemIdeal.main_arg5) = m ((c.tc : Thread Cert.KernelMemIdeal.nD Cert.KernelMemIdeal.τ).loc Cert.KernelMemIdeal.main_arg5)
      ∧ m' ((c.tc : Thread Cert.ReferenceMemIdeal.nD Cert.ReferenceMemIdeal.τ).loc Cert.ReferenceMemIdeal.main_arg6) = m ((c.tc : Thread Cert.KernelMemIdeal.nD Cert.KernelMemIdeal.τ).loc Cert.KernelMemIdeal.main_arg6)
      ∧ m' ((c.tc : Thread Cert.ReferenceMemIdeal.nD Cert.ReferenceMemIdeal.τ).loc Cert.ReferenceMemIdeal.main_arg7) = m ((c.tc : Thread Cert.KernelMemIdeal.nD Cert.KernelMemIdeal.τ).loc Cert.KernelMemIdeal.main_arg7)) →
    ∃ (v0 : (c : Dev Cert.KernelMemIdeal.nD) → Buf (Elt Ideal) ((c.tc : Thread Cert.KernelMemIdeal.nD Cert.KernelMemIdeal.τ).loc Cert.KernelMemIdeal.main_v4_0)) (v1 : (c : Dev Cert.KernelMemIdeal.nD) → Buf (Elt Ideal) ((c.tc : Thread Cert.KernelMemIdeal.nD Cert.KernelMemIdeal.τ).loc Cert.KernelMemIdeal.main_v4_1)) (v2 : (c : Dev Cert.KernelMemIdeal.nD) → Buf (Elt Ideal) ((c.tc : Thread Cert.KernelMemIdeal.nD Cert.KernelMemIdeal.τ).loc Cert.KernelMemIdeal.main_v4_2)) (v3 : (c : Dev Cert.KernelMemIdeal.nD) → Buf (Elt Ideal) ((c.tc : Thread Cert.KernelMemIdeal.nD Cert.KernelMemIdeal.τ).loc Cert.KernelMemIdeal.main_v4_3)) (v4 : (c : Dev Cert.KernelMemIdeal.nD) → Buf (Elt Ideal) ((c.tc : Thread Cert.KernelMemIdeal.nD Cert.KernelMemIdeal.τ).loc Cert.KernelMemIdeal.main_v4_4)) (v5 : (c : Dev Cert.KernelMemIdeal.nD) → Buf (Elt Ideal) ((c.tc : Thread Cert.KernelMemIdeal.nD Cert.KernelMemIdeal.τ).loc Cert.KernelMemIdeal.main_v4_5)) (v6 : (c : Dev Cert.KernelMemIdeal.nD) → Buf (Elt Ideal) ((c.tc : Thread Cert.KernelMemIdeal.nD Cert.KernelMemIdeal.τ).loc Cert.KernelMemIdeal.main_v4_6)),
      θ_run (Cert.KernelMemIdeal.defs (F := Ideal)) (onTc (τ := Cert.KernelMemIdeal.τ) (Cert.KernelMemIdeal.main (F := Ideal))) ⟨m, fun _ => 0, g⟩ (fun r => ∀ c : Dev Cert.KernelMemIdeal.nD,
          r.2.mem ((c.tc : Thread Cert.KernelMemIdeal.nD Cert.KernelMemIdeal.τ).loc Cert.KernelMemIdeal.main_v4_0) = v0 c
          ∧ r.2.mem ((c.tc : Thread Cert.KernelMemIdeal.nD Cert.KernelMemIdeal.τ).loc Cert.KernelMemIdeal.main_v4_1) = v1 c
          ∧ r.2.mem ((c.tc : Thread Cert.KernelMemIdeal.nD Cert.KernelMemIdeal.τ).loc Cert.KernelMemIdeal.main_v4_2) = v2 c
          ∧ r.2.mem ((c.tc : Thread Cert.KernelMemIdeal.nD Cert.KernelMemIdeal.τ).loc Cert.KernelMemIdeal.main_v4_3) = v3 c
          ∧ r.2.mem ((c.tc : Thread Cert.KernelMemIdeal.nD Cert.KernelMemIdeal.τ).loc Cert.KernelMemIdeal.main_v4_4) = v4 c
          ∧ r.2.mem ((c.tc : Thread Cert.KernelMemIdeal.nD Cert.KernelMemIdeal.τ).loc Cert.KernelMemIdeal.main_v4_5) = v5 c
          ∧ r.2.mem ((c.tc : Thread Cert.KernelMemIdeal.nD Cert.KernelMemIdeal.τ).loc Cert.KernelMemIdeal.main_v4_6) = v6 c
          ∧ r.2.mem ((c.tc : Thread Cert.KernelMemIdeal.nD Cert.KernelMemIdeal.τ).loc Cert.KernelMemIdeal.main_arg0) = m ((c.tc : Thread Cert.KernelMemIdeal.nD Cert.KernelMemIdeal.τ).loc Cert.KernelMemIdeal.main_arg0)
          ∧ r.2.mem ((c.tc : Thread Cert.KernelMemIdeal.nD Cert.KernelMemIdeal.τ).loc Cert.KernelMemIdeal.main_arg1) = m ((c.tc : Thread Cert.KernelMemIdeal.nD Cert.KernelMemIdeal.τ).loc Cert.KernelMemIdeal.main_arg1)
          ∧ r.2.mem ((c.tc : Thread Cert.KernelMemIdeal.nD Cert.KernelMemIdeal.τ).loc Cert.KernelMemIdeal.main_arg2) = m ((c.tc : Thread Cert.KernelMemIdeal.nD Cert.KernelMemIdeal.τ).loc Cert.KernelMemIdeal.main_arg2)
          ∧ r.2.mem ((c.tc : Thread Cert.KernelMemIdeal.nD Cert.KernelMemIdeal.τ).loc Cert.KernelMemIdeal.main_arg3) = m ((c.tc : Thread Cert.KernelMemIdeal.nD Cert.KernelMemIdeal.τ).loc Cert.KernelMemIdeal.main_arg3)
          ∧ r.2.mem ((c.tc : Thread Cert.KernelMemIdeal.nD Cert.KernelMemIdeal.τ).loc Cert.KernelMemIdeal.main_arg4) = m ((c.tc : Thread Cert.KernelMemIdeal.nD Cert.KernelMemIdeal.τ).loc Cert.KernelMemIdeal.main_arg4)
          ∧ r.2.mem ((c.tc : Thread Cert.KernelMemIdeal.nD Cert.KernelMemIdeal.τ).loc Cert.KernelMemIdeal.main_arg5) = m ((c.tc : Thread Cert.KernelMemIdeal.nD Cert.KernelMemIdeal.τ).loc Cert.KernelMemIdeal.main_arg5)
          ∧ r.2.mem ((c.tc : Thread Cert.KernelMemIdeal.nD Cert.KernelMemIdeal.τ).loc Cert.KernelMemIdeal.main_arg6) = m ((c.tc : Thread Cert.KernelMemIdeal.nD Cert.KernelMemIdeal.τ).loc Cert.KernelMemIdeal.main_arg6)
          ∧ r.2.mem ((c.tc : Thread Cert.KernelMemIdeal.nD Cert.KernelMemIdeal.τ).loc Cert.KernelMemIdeal.main_arg7) = m ((c.tc : Thread Cert.KernelMemIdeal.nD Cert.KernelMemIdeal.τ).loc Cert.KernelMemIdeal.main_arg7))
      ∧ θ_run (Cert.ReferenceMemIdeal.defs (F := Ideal)) (onTc (τ := Cert.ReferenceMemIdeal.τ) (Cert.ReferenceMemIdeal.main (F := Ideal))) ⟨m', fun _ => 0, g'⟩ (fun r => ∀ c : Dev Cert.ReferenceMemIdeal.nD,
          r.2.mem ((c.tc : Thread Cert.ReferenceMemIdeal.nD Cert.ReferenceMemIdeal.τ).loc Cert.ReferenceMemIdeal.main_v145) = v0 c
          ∧ r.2.mem ((c.tc : Thread Cert.ReferenceMemIdeal.nD Cert.ReferenceMemIdeal.τ).loc Cert.ReferenceMemIdeal.main_v146) = v1 c
          ∧ r.2.mem ((c.tc : Thread Cert.ReferenceMemIdeal.nD Cert.ReferenceMemIdeal.τ).loc Cert.ReferenceMemIdeal.main_v147) = v2 c
          ∧ r.2.mem ((c.tc : Thread Cert.ReferenceMemIdeal.nD Cert.ReferenceMemIdeal.τ).loc Cert.ReferenceMemIdeal.main_v100) = v3 c
          ∧ r.2.mem ((c.tc : Thread Cert.ReferenceMemIdeal.nD Cert.ReferenceMemIdeal.τ).loc Cert.ReferenceMemIdeal.main_v81) = v4 c
          ∧ r.2.mem ((c.tc : Thread Cert.ReferenceMemIdeal.nD Cert.ReferenceMemIdeal.τ).loc Cert.ReferenceMemIdeal.main_v123) = v5 c
          ∧ r.2.mem ((c.tc : Thread Cert.ReferenceMemIdeal.nD Cert.ReferenceMemIdeal.τ).loc Cert.ReferenceMemIdeal.main_v74) = v6 c
          ∧ r.2.mem ((c.tc : Thread Cert.ReferenceMemIdeal.nD Cert.ReferenceMemIdeal.τ).loc Cert.ReferenceMemIdeal.main_arg0) = m' ((c.tc : Thread Cert.ReferenceMemIdeal.nD Cert.ReferenceMemIdeal.τ).loc Cert.ReferenceMemIdeal.main_arg0)
          ∧ r.2.mem ((c.tc : Thread Cert.ReferenceMemIdeal.nD Cert.ReferenceMemIdeal.τ).loc Cert.ReferenceMemIdeal.main_arg1) = m' ((c.tc : Thread Cert.ReferenceMemIdeal.nD Cert.ReferenceMemIdeal.τ).loc Cert.ReferenceMemIdeal.main_arg1)
          ∧ r.2.mem ((c.tc : Thread Cert.ReferenceMemIdeal.nD Cert.ReferenceMemIdeal.τ).loc Cert.ReferenceMemIdeal.main_arg2) = m' ((c.tc : Thread Cert.ReferenceMemIdeal.nD Cert.ReferenceMemIdeal.τ).loc Cert.ReferenceMemIdeal.main_arg2)
          ∧ r.2.mem ((c.tc : Thread Cert.ReferenceMemIdeal.nD Cert.ReferenceMemIdeal.τ).loc Cert.ReferenceMemIdeal.main_arg3) = m' ((c.tc : Thread Cert.ReferenceMemIdeal.nD Cert.ReferenceMemIdeal.τ).loc Cert.ReferenceMemIdeal.main_arg3)
          ∧ r.2.mem ((c.tc : Thread Cert.ReferenceMemIdeal.nD Cert.ReferenceMemIdeal.τ).loc Cert.ReferenceMemIdeal.main_arg4) = m' ((c.tc : Thread Cert.ReferenceMemIdeal.nD Cert.ReferenceMemIdeal.τ).loc Cert.ReferenceMemIdeal.main_arg4)
          ∧ r.2.mem ((c.tc : Thread Cert.ReferenceMemIdeal.nD Cert.ReferenceMemIdeal.τ).loc Cert.ReferenceMemIdeal.main_arg5) = m' ((c.tc : Thread Cert.ReferenceMemIdeal.nD Cert.ReferenceMemIdeal.τ).loc Cert.ReferenceMemIdeal.main_arg5)
          ∧ r.2.mem ((c.tc : Thread Cert.ReferenceMemIdeal.nD Cert.ReferenceMemIdeal.τ).loc Cert.ReferenceMemIdeal.main_arg6) = m' ((c.tc : Thread Cert.ReferenceMemIdeal.nD Cert.ReferenceMemIdeal.τ).loc Cert.ReferenceMemIdeal.main_arg6)
          ∧ r.2.mem ((c.tc : Thread Cert.ReferenceMemIdeal.nD Cert.ReferenceMemIdeal.τ).loc Cert.ReferenceMemIdeal.main_arg7) = m' ((c.tc : Thread Cert.ReferenceMemIdeal.nD Cert.ReferenceMemIdeal.τ).loc Cert.ReferenceMemIdeal.main_arg7))

def preserves_KernelMef_KernelMefIdeal : Prop :=
  True

def algebraic_KernelMefIdeal_ReferenceMefIdeal [hKernelMefIdeal : Cert.KernelMefIdeal.Facts] [hReferenceMefIdeal : Cert.ReferenceMefIdeal.Facts] : Prop :=
  ∀ (m : (ℓ : Loc Cert.KernelMefIdeal.nD Cert.KernelMefIdeal.τ Cert.KernelMefIdeal.sig) → Buf (Elt Ideal) ℓ) (g : Dev Cert.KernelMefIdeal.nD → PrngReg)
    (m' : (ℓ : Loc Cert.ReferenceMefIdeal.nD Cert.ReferenceMefIdeal.τ Cert.ReferenceMefIdeal.sig) → Buf (Elt Ideal) ℓ) (g' : Dev Cert.ReferenceMefIdeal.nD → PrngReg), Pre_KernelMefIdeal m →
    (∀ c : Dev Cert.KernelMefIdeal.nD,
      m' ((c.tc : Thread Cert.ReferenceMefIdeal.nD Cert.ReferenceMefIdeal.τ).loc Cert.ReferenceMefIdeal.main_arg0) = m ((c.tc : Thread Cert.KernelMefIdeal.nD Cert.KernelMefIdeal.τ).loc Cert.KernelMefIdeal.main_arg0)
      ∧ m' ((c.tc : Thread Cert.ReferenceMefIdeal.nD Cert.ReferenceMefIdeal.τ).loc Cert.ReferenceMefIdeal.main_arg1) = m ((c.tc : Thread Cert.KernelMefIdeal.nD Cert.KernelMefIdeal.τ).loc Cert.KernelMefIdeal.main_arg1)
      ∧ m' ((c.tc : Thread Cert.ReferenceMefIdeal.nD Cert.ReferenceMefIdeal.τ).loc Cert.ReferenceMefIdeal.main_arg2) = m ((c.tc : Thread Cert.KernelMefIdeal.nD Cert.KernelMefIdeal.τ).loc Cert.KernelMefIdeal.main_arg2)
      ∧ m' ((c.tc : Thread Cert.ReferenceMefIdeal.nD Cert.ReferenceMefIdeal.τ).loc Cert.ReferenceMefIdeal.main_arg3) = m ((c.tc : Thread Cert.KernelMefIdeal.nD Cert.KernelMefIdeal.τ).loc Cert.KernelMefIdeal.main_arg3)
      ∧ m' ((c.tc : Thread Cert.ReferenceMefIdeal.nD Cert.ReferenceMefIdeal.τ).loc Cert.ReferenceMefIdeal.main_arg4) = m ((c.tc : Thread Cert.KernelMefIdeal.nD Cert.KernelMefIdeal.τ).loc Cert.KernelMefIdeal.main_arg4)
      ∧ m' ((c.tc : Thread Cert.ReferenceMefIdeal.nD Cert.ReferenceMefIdeal.τ).loc Cert.ReferenceMefIdeal.main_arg5) = m ((c.tc : Thread Cert.KernelMefIdeal.nD Cert.KernelMefIdeal.τ).loc Cert.KernelMefIdeal.main_arg5)
      ∧ m' ((c.tc : Thread Cert.ReferenceMefIdeal.nD Cert.ReferenceMefIdeal.τ).loc Cert.ReferenceMefIdeal.main_arg6) = m ((c.tc : Thread Cert.KernelMefIdeal.nD Cert.KernelMefIdeal.τ).loc Cert.KernelMefIdeal.main_arg6)) →
    ∃ (v0 : (c : Dev Cert.KernelMefIdeal.nD) → Buf (Elt Ideal) ((c.tc : Thread Cert.KernelMefIdeal.nD Cert.KernelMefIdeal.τ).loc Cert.KernelMefIdeal.main_v4)),
      θ_run (Cert.KernelMefIdeal.defs (F := Ideal)) (onTc (τ := Cert.KernelMefIdeal.τ) (Cert.KernelMefIdeal.main (F := Ideal))) ⟨m, fun _ => 0, g⟩ (fun r => ∀ c : Dev Cert.KernelMefIdeal.nD,
          r.2.mem ((c.tc : Thread Cert.KernelMefIdeal.nD Cert.KernelMefIdeal.τ).loc Cert.KernelMefIdeal.main_v4) = v0 c
          ∧ r.2.mem ((c.tc : Thread Cert.KernelMefIdeal.nD Cert.KernelMefIdeal.τ).loc Cert.KernelMefIdeal.main_arg0) = m ((c.tc : Thread Cert.KernelMefIdeal.nD Cert.KernelMefIdeal.τ).loc Cert.KernelMefIdeal.main_arg0)
          ∧ r.2.mem ((c.tc : Thread Cert.KernelMefIdeal.nD Cert.KernelMefIdeal.τ).loc Cert.KernelMefIdeal.main_arg1) = m ((c.tc : Thread Cert.KernelMefIdeal.nD Cert.KernelMefIdeal.τ).loc Cert.KernelMefIdeal.main_arg1)
          ∧ r.2.mem ((c.tc : Thread Cert.KernelMefIdeal.nD Cert.KernelMefIdeal.τ).loc Cert.KernelMefIdeal.main_arg2) = m ((c.tc : Thread Cert.KernelMefIdeal.nD Cert.KernelMefIdeal.τ).loc Cert.KernelMefIdeal.main_arg2)
          ∧ r.2.mem ((c.tc : Thread Cert.KernelMefIdeal.nD Cert.KernelMefIdeal.τ).loc Cert.KernelMefIdeal.main_arg3) = m ((c.tc : Thread Cert.KernelMefIdeal.nD Cert.KernelMefIdeal.τ).loc Cert.KernelMefIdeal.main_arg3)
          ∧ r.2.mem ((c.tc : Thread Cert.KernelMefIdeal.nD Cert.KernelMefIdeal.τ).loc Cert.KernelMefIdeal.main_arg4) = m ((c.tc : Thread Cert.KernelMefIdeal.nD Cert.KernelMefIdeal.τ).loc Cert.KernelMefIdeal.main_arg4)
          ∧ r.2.mem ((c.tc : Thread Cert.KernelMefIdeal.nD Cert.KernelMefIdeal.τ).loc Cert.KernelMefIdeal.main_arg5) = m ((c.tc : Thread Cert.KernelMefIdeal.nD Cert.KernelMefIdeal.τ).loc Cert.KernelMefIdeal.main_arg5)
          ∧ r.2.mem ((c.tc : Thread Cert.KernelMefIdeal.nD Cert.KernelMefIdeal.τ).loc Cert.KernelMefIdeal.main_arg6) = m ((c.tc : Thread Cert.KernelMefIdeal.nD Cert.KernelMefIdeal.τ).loc Cert.KernelMefIdeal.main_arg6))
      ∧ θ_run (Cert.ReferenceMefIdeal.defs (F := Ideal)) (onTc (τ := Cert.ReferenceMefIdeal.τ) (Cert.ReferenceMefIdeal.main (F := Ideal))) ⟨m', fun _ => 0, g'⟩ (fun r => ∀ c : Dev Cert.ReferenceMefIdeal.nD,
          r.2.mem ((c.tc : Thread Cert.ReferenceMefIdeal.nD Cert.ReferenceMefIdeal.τ).loc Cert.ReferenceMefIdeal.main_v48) = v0 c
          ∧ r.2.mem ((c.tc : Thread Cert.ReferenceMefIdeal.nD Cert.ReferenceMefIdeal.τ).loc Cert.ReferenceMefIdeal.main_arg0) = m' ((c.tc : Thread Cert.ReferenceMefIdeal.nD Cert.ReferenceMefIdeal.τ).loc Cert.ReferenceMefIdeal.main_arg0)
          ∧ r.2.mem ((c.tc : Thread Cert.ReferenceMefIdeal.nD Cert.ReferenceMefIdeal.τ).loc Cert.ReferenceMefIdeal.main_arg1) = m' ((c.tc : Thread Cert.ReferenceMefIdeal.nD Cert.ReferenceMefIdeal.τ).loc Cert.ReferenceMefIdeal.main_arg1)
          ∧ r.2.mem ((c.tc : Thread Cert.ReferenceMefIdeal.nD Cert.ReferenceMefIdeal.τ).loc Cert.ReferenceMefIdeal.main_arg2) = m' ((c.tc : Thread Cert.ReferenceMefIdeal.nD Cert.ReferenceMefIdeal.τ).loc Cert.ReferenceMefIdeal.main_arg2)
          ∧ r.2.mem ((c.tc : Thread Cert.ReferenceMefIdeal.nD Cert.ReferenceMefIdeal.τ).loc Cert.ReferenceMefIdeal.main_arg3) = m' ((c.tc : Thread Cert.ReferenceMefIdeal.nD Cert.ReferenceMefIdeal.τ).loc Cert.ReferenceMefIdeal.main_arg3)
          ∧ r.2.mem ((c.tc : Thread Cert.ReferenceMefIdeal.nD Cert.ReferenceMefIdeal.τ).loc Cert.ReferenceMefIdeal.main_arg4) = m' ((c.tc : Thread Cert.ReferenceMefIdeal.nD Cert.ReferenceMefIdeal.τ).loc Cert.ReferenceMefIdeal.main_arg4)
          ∧ r.2.mem ((c.tc : Thread Cert.ReferenceMefIdeal.nD Cert.ReferenceMefIdeal.τ).loc Cert.ReferenceMefIdeal.main_arg5) = m' ((c.tc : Thread Cert.ReferenceMefIdeal.nD Cert.ReferenceMefIdeal.τ).loc Cert.ReferenceMefIdeal.main_arg5)
          ∧ r.2.mem ((c.tc : Thread Cert.ReferenceMefIdeal.nD Cert.ReferenceMefIdeal.τ).loc Cert.ReferenceMefIdeal.main_arg6) = m' ((c.tc : Thread Cert.ReferenceMefIdeal.nD Cert.ReferenceMefIdeal.τ).loc Cert.ReferenceMefIdeal.main_arg6))

def Claim : Prop :=
  ∃ (hKernelIn : Cert.KernelIn.Facts) (hKernelInIdeal : Cert.KernelInIdeal.Facts) (hReferenceInIdeal : Cert.ReferenceInIdeal.Facts) (hKernelFl : Cert.KernelFl.Facts) (hKernelFlIdeal : Cert.KernelFlIdeal.Facts) (hReferenceFlIdeal : Cert.ReferenceFlIdeal.Facts) (hKernelFw : Cert.KernelFw.Facts) (hKernelFwIdeal : Cert.KernelFwIdeal.Facts) (hReferenceFwIdeal : Cert.ReferenceFwIdeal.Facts) (hKernelFx : Cert.KernelFx.Facts) (hKernelFxIdeal : Cert.KernelFxIdeal.Facts) (hReferenceFxIdeal : Cert.ReferenceFxIdeal.Facts) (hKernelFd : Cert.KernelFd.Facts) (hKernelFdIdeal : Cert.KernelFdIdeal.Facts) (hReferenceFdIdeal : Cert.ReferenceFdIdeal.Facts) (hKernelMkv : Cert.KernelMkv.Facts) (hKernelMkvIdeal : Cert.KernelMkvIdeal.Facts) (hReferenceMkvIdeal : Cert.ReferenceMkvIdeal.Facts) (hKernelMix : Cert.KernelMix.Facts) (hKernelMixIdeal : Cert.KernelMixIdeal.Facts) (hReferenceMixIdeal : Cert.ReferenceMixIdeal.Facts) (hKernelMem : Cert.KernelMem.Facts) (hKernelMemIdeal : Cert.KernelMemIdeal.Facts) (hReferenceMemIdeal : Cert.ReferenceMemIdeal.Facts) (hKernelMef : Cert.KernelMef.Facts) (hKernelMefIdeal : Cert.KernelMefIdeal.Facts) (hReferenceMefIdeal : Cert.ReferenceMefIdeal.Facts) (hPre_finite_fl : Cert.Pre_finite_fl.Facts) (hPre_finite_fd : Cert.Pre_finite_fd.Facts),
    quiescent_KernelIn (hKernelIn := hKernelIn)
    ∧ quiescent_KernelInIdeal (hKernelInIdeal := hKernelInIdeal)
    ∧ quiescent_ReferenceInIdeal (hReferenceInIdeal := hReferenceInIdeal)
    ∧ quiescent_KernelFl (hKernelFl := hKernelFl)
    ∧ quiescent_KernelFlIdeal (hKernelFlIdeal := hKernelFlIdeal)
    ∧ quiescent_KernelFlIdeal_pre_finite_fl (hKernelFlIdeal := hKernelFlIdeal) (hPre_finite_fl := hPre_finite_fl)
    ∧ quiescent_ReferenceFlIdeal (hReferenceFlIdeal := hReferenceFlIdeal)
    ∧ quiescent_ReferenceFlIdeal_pre_finite_fl (hReferenceFlIdeal := hReferenceFlIdeal) (hPre_finite_fl := hPre_finite_fl)
    ∧ quiescent_KernelFw (hKernelFw := hKernelFw)
    ∧ quiescent_KernelFwIdeal (hKernelFwIdeal := hKernelFwIdeal)
    ∧ quiescent_ReferenceFwIdeal (hReferenceFwIdeal := hReferenceFwIdeal)
    ∧ quiescent_KernelFx (hKernelFx := hKernelFx)
    ∧ quiescent_KernelFxIdeal (hKernelFxIdeal := hKernelFxIdeal)
    ∧ quiescent_ReferenceFxIdeal (hReferenceFxIdeal := hReferenceFxIdeal)
    ∧ quiescent_KernelFd (hKernelFd := hKernelFd)
    ∧ quiescent_KernelFdIdeal (hKernelFdIdeal := hKernelFdIdeal)
    ∧ quiescent_KernelFdIdeal_pre_finite_fd (hKernelFdIdeal := hKernelFdIdeal) (hPre_finite_fd := hPre_finite_fd)
    ∧ quiescent_ReferenceFdIdeal (hReferenceFdIdeal := hReferenceFdIdeal)
    ∧ quiescent_ReferenceFdIdeal_pre_finite_fd (hReferenceFdIdeal := hReferenceFdIdeal) (hPre_finite_fd := hPre_finite_fd)
    ∧ quiescent_KernelMkv (hKernelMkv := hKernelMkv)
    ∧ quiescent_KernelMkvIdeal (hKernelMkvIdeal := hKernelMkvIdeal)
    ∧ quiescent_ReferenceMkvIdeal (hReferenceMkvIdeal := hReferenceMkvIdeal)
    ∧ quiescent_KernelMix (hKernelMix := hKernelMix)
    ∧ quiescent_KernelMixIdeal (hKernelMixIdeal := hKernelMixIdeal)
    ∧ quiescent_ReferenceMixIdeal (hReferenceMixIdeal := hReferenceMixIdeal)
    ∧ quiescent_KernelMem (hKernelMem := hKernelMem)
    ∧ quiescent_KernelMemIdeal (hKernelMemIdeal := hKernelMemIdeal)
    ∧ quiescent_ReferenceMemIdeal (hReferenceMemIdeal := hReferenceMemIdeal)
    ∧ quiescent_KernelMef (hKernelMef := hKernelMef)
    ∧ quiescent_KernelMefIdeal (hKernelMefIdeal := hKernelMefIdeal)
    ∧ quiescent_ReferenceMefIdeal (hReferenceMefIdeal := hReferenceMefIdeal)
    ∧ preserves_KernelIn_KernelInIdeal
    ∧ algebraic_KernelInIdeal_ReferenceInIdeal (hKernelInIdeal := hKernelInIdeal) (hReferenceInIdeal := hReferenceInIdeal)
    ∧ preserves_KernelFl_KernelFlIdeal
    ∧ algebraic_KernelFlIdeal_ReferenceFlIdeal_pre_finite_fl (hKernelFlIdeal := hKernelFlIdeal) (hReferenceFlIdeal := hReferenceFlIdeal) (hPre_finite_fl := hPre_finite_fl)
    ∧ preserves_KernelFw_KernelFwIdeal
    ∧ algebraic_KernelFwIdeal_ReferenceFwIdeal (hKernelFwIdeal := hKernelFwIdeal) (hReferenceFwIdeal := hReferenceFwIdeal)
    ∧ preserves_KernelFx_KernelFxIdeal
    ∧ algebraic_KernelFxIdeal_ReferenceFxIdeal (hKernelFxIdeal := hKernelFxIdeal) (hReferenceFxIdeal := hReferenceFxIdeal)
    ∧ preserves_KernelFd_KernelFdIdeal
    ∧ algebraic_KernelFdIdeal_ReferenceFdIdeal_pre_finite_fd (hKernelFdIdeal := hKernelFdIdeal) (hReferenceFdIdeal := hReferenceFdIdeal) (hPre_finite_fd := hPre_finite_fd)
    ∧ preserves_KernelMkv_KernelMkvIdeal
    ∧ algebraic_KernelMkvIdeal_ReferenceMkvIdeal (hKernelMkvIdeal := hKernelMkvIdeal) (hReferenceMkvIdeal := hReferenceMkvIdeal)
    ∧ preserves_KernelMix_KernelMixIdeal
    ∧ algebraic_KernelMixIdeal_ReferenceMixIdeal (hKernelMixIdeal := hKernelMixIdeal) (hReferenceMixIdeal := hReferenceMixIdeal)
    ∧ preserves_KernelMem_KernelMemIdeal
    ∧ algebraic_KernelMemIdeal_ReferenceMemIdeal (hKernelMemIdeal := hKernelMemIdeal) (hReferenceMemIdeal := hReferenceMemIdeal)
    ∧ preserves_KernelMef_KernelMefIdeal
    ∧ algebraic_KernelMefIdeal_ReferenceMefIdeal (hKernelMefIdeal := hKernelMefIdeal) (hReferenceMefIdeal := hReferenceMefIdeal)
-- ==== Pre_finite_fd.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S_ : Shape := ⟨0, ![]⟩

class Facts : Prop where
  bcast_S_S8192x5632 : S_.BroadcastsInDim S8192x5632 (![] : Fin 0 → Fin S8192x5632.rank)
  bcast_S_S3x5632 : S_.BroadcastsInDim S3x5632 (![] : Fin 0 → Fin S3x5632.rank)
  bcast_S_S5632 : S_.BroadcastsInDim S5632 (![] : Fin 0 → Fin S5632.rank)
  bcast_S_S2816x1024 : S_.BroadcastsInDim S2816x1024 (![] : Fin 0 → Fin S2816x1024.rank)
  bcast_S_S8192x1024 : S_.BroadcastsInDim S8192x1024 (![] : Fin 0 → Fin S8192x1024.rank)

variable [Facts]

def fn {F : FTy → Type} [FloatOps F] (main_arg0 : FVec F S8192x5632 .f32) (main_arg1 : FVec F S3x5632 .f32) (main_arg2 : FVec F S5632 .f32) (main_arg3 : FVec F S2816x1024 .f32) (main_arg4 : FVec F S8192x1024 .f32) : IVec S8192x5632 1 × IVec S3x5632 1 × IVec S5632 1 × IVec S2816x1024 1 × IVec S8192x1024 1 :=
  let main_v0 : FVec F S8192x5632 .f32 := Host.absf main_arg0
  let main_cst : FVec F S_ .f32 := constant S_ .f32 0x7F800000#32
  let main_v1 : FVec F S8192x5632 .f32 := broadcastInDim S8192x5632 ![] bcast_S_S8192x5632 main_cst
  let main_v2 : IVec S8192x5632 1 := cmpf .olt main_v0 main_v1
  let main_v3 : FVec F S3x5632 .f32 := Host.absf main_arg1
  let main_cst_0 : FVec F S_ .f32 := constant S_ .f32 0x7F800000#32
  let main_v4 : FVec F S3x5632 .f32 := broadcastInDim S3x5632 ![] bcast_S_S3x5632 main_cst_0
  let main_v5 : IVec S3x5632 1 := cmpf .olt main_v3 main_v4
  let main_v6 : FVec F S5632 .f32 := Host.absf main_arg2
  let main_cst_1 : FVec F S_ .f32 := constant S_ .f32 0x7F800000#32
  let main_v7 : FVec F S5632 .f32 := broadcastInDim S5632 ![] bcast_S_S5632 main_cst_1
  let main_v8 : IVec S5632 1 := cmpf .olt main_v6 main_v7
  let main_v9 : FVec F S2816x1024 .f32 := Host.absf main_arg3
  let main_cst_2 : FVec F S_ .f32 := constant S_ .f32 0x7F800000#32
  let main_v10 : FVec F S2816x1024 .f32 := broadcastInDim S2816x1024 ![] bcast_S_S2816x1024 main_cst_2
  let main_v11 : IVec S2816x1024 1 := cmpf .olt main_v9 main_v10
  let main_v12 : FVec F S8192x1024 .f32 := Host.absf main_arg4
  let main_cst_3 : FVec F S_ .f32 := constant S_ .f32 0x7F800000#32
  let main_v13 : FVec F S8192x1024 .f32 := broadcastInDim S8192x1024 ![] bcast_S_S8192x1024 main_cst_3
  let main_v14 : IVec S8192x1024 1 := cmpf .olt main_v12 main_v13
  (main_v2, main_v5, main_v8, main_v11, main_v14)
-- ==== Pre_finite_fl.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩

class Facts : Prop where
  bcast_S_S8192x8x96 : S_.BroadcastsInDim S8192x8x96 (![] : Fin 0 → Fin S8192x8x96.rank)
  bcast_S_S8192x8x64 : S_.BroadcastsInDim S8192x8x64 (![] : Fin 0 → Fin S8192x8x64.rank)
  bcast_S_S8192x512 : S_.BroadcastsInDim S8192x512 (![] : Fin 0 → Fin S8192x512.rank)

variable [Facts]

def fn {F : FTy → Type} [FloatOps F] (main_arg0 : FVec F S8192x8x96 .f32) (main_arg1 : FVec F S8192x8x96 .f32) (main_arg2 : FVec F S8192x8x64 .f32) (main_arg3 : FVec F S8192x512 .f32) : IVec S8192x8x96 1 × IVec S8192x8x96 1 × IVec S8192x8x64 1 × IVec S8192x512 1 :=
  let main_v0 : FVec F S8192x8x96 .f32 := Host.absf main_arg0
  let main_cst : FVec F S_ .f32 := constant S_ .f32 0x7F800000#32
  let main_v1 : FVec F S8192x8x96 .f32 := broadcastInDim S8192x8x96 ![] bcast_S_S8192x8x96 main_cst
  let main_v2 : IVec S8192x8x96 1 := cmpf .olt main_v0 main_v1
  let main_v3 : FVec F S8192x8x96 .f32 := Host.absf main_arg1
  let main_cst_0 : FVec F S_ .f32 := constant S_ .f32 0x7F800000#32
  let main_v4 : FVec F S8192x8x96 .f32 := broadcastInDim S8192x8x96 ![] bcast_S_S8192x8x96 main_cst_0
  let main_v5 : IVec S8192x8x96 1 := cmpf .olt main_v3 main_v4
  let main_v6 : FVec F S8192x8x64 .f32 := Host.absf main_arg2
  let main_cst_1 : FVec F S_ .f32 := constant S_ .f32 0x7F800000#32
  let main_v7 : FVec F S8192x8x64 .f32 := broadcastInDim S8192x8x64 ![] bcast_S_S8192x8x64 main_cst_1
  let main_v8 : IVec S8192x8x64 1 := cmpf .olt main_v6 main_v7
  let main_v9 : FVec F S8192x512 .f32 := Host.absf main_arg3
  let main_cst_2 : FVec F S_ .f32 := constant S_ .f32 0x7F800000#32
  let main_v10 : FVec F S8192x512 .f32 := broadcastInDim S8192x512 ![] bcast_S_S8192x512 main_cst_2
  let main_v11 : IVec S8192x512 1 := cmpf .olt main_v9 main_v10
  (main_v2, main_v5, main_v8, main_v11)
-- ==== KernelIn.lean ====
abbrev S8192x1024 : Shape := ⟨2, ![8192, 1024]⟩
abbrev S1024 : Shape := ⟨1, ![1024]⟩
abbrev S1024x1440 : Shape := ⟨2, ![1024, 1440]⟩
abbrev S8192x512 : Shape := ⟨2, ![8192, 512]⟩
abbrev S8192x416 : Shape := ⟨2, ![8192, 416]⟩
abbrev S_ : Shape := ⟨0, ![]⟩
abbrev S1024x1536 : Shape := ⟨2, ![1024, 1536]⟩
abbrev S1x1024 : Shape := ⟨2, ![1, 1024]⟩
abbrev S512x1024 : Shape := ⟨2, ![512, 1024]⟩
abbrev S512x512 : Shape := ⟨2, ![512, 512]⟩
abbrev S512x1536 : Shape := ⟨2, ![512, 1536]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1440, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x416, .f32⟩
  | .hbm, ⟨8, _⟩ => ⟨S1024x1440, .bf16⟩
  | .hbm, ⟨9, _⟩ => ⟨S_, .i32⟩
  | .hbm, ⟨10, _⟩ => ⟨S_, .bf16⟩
  | .hbm, ⟨11, _⟩ => ⟨S1024x1536, .bf16⟩
  | .hbm, ⟨12, _⟩ => ⟨S_, .i32⟩
  | .hbm, ⟨13, _⟩ => ⟨S_, .f32⟩
  | .hbm, ⟨14, _⟩ => ⟨S8192x512, .f32⟩
  | .hbm, ⟨15, _⟩ => ⟨S1x1024, .f32⟩
  | .hbm, ⟨16, _⟩ => ⟨S8192x1024, .f32⟩
  | .hbm, ⟨17, _⟩ => ⟨S1024x1536, .f32⟩
  | .hbm, ⟨18, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x1536, .bf16⟩
  | .local _ .vmem, ⟨4, _⟩ => ⟨S512x1024, .f32⟩
  | .local _ .vmem, ⟨5, _⟩ => ⟨S512x1024, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | .local _ .vmem, ⟨13, _⟩ => ⟨S512x512, .f32⟩
  | .local _ .vmem, ⟨14, _⟩ => ⟨S512x1024, .f32⟩
  | .local _ .vmem, ⟨15, _⟩ => ⟨S512x1024, .f32⟩
  | .local _ .vmem, ⟨16, _⟩ => ⟨S1024x1536, .f32⟩
  | .local _ .vmem, ⟨17, _⟩ => ⟨S1x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_c_0 : Ref sig .tc := ⟨.hbm, 12, rfl⟩
abbrev main_call1_v0 : Ref sig .tc := ⟨.hbm, 13, rfl⟩
abbrev main_v2 : Ref sig .tc := ⟨.hbm, 14, rfl⟩
abbrev main_v3 : Ref sig .tc := ⟨.hbm, 15, rfl⟩
abbrev main_v4_0 : Ref sig .tc := ⟨.hbm, 16, rfl⟩
abbrev main_v4_1 : Ref sig .tc := ⟨.hbm, 17, rfl⟩
abbrev main_v4_2 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem10_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1536 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1024x1536 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== ReferenceInIdeal.lean ====
abbrev S8192x1024 : Shape := ⟨2, ![8192, 1024]⟩
abbrev S1024 : Shape := ⟨1, ![1024]⟩
abbrev S1024x1440 : Shape := ⟨2, ![1024, 1440]⟩
abbrev S8192x512 : Shape := ⟨2, ![8192, 512]⟩
abbrev S8192x416 : Shape := ⟨2, ![8192, 416]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x1440 : Shape := ⟨2, ![8192, 1440]⟩
abbrev S1440x1024 : Shape := ⟨2, ![1440, 1024]⟩
abbrev S1024x1536 : Shape := ⟨2, ![1024, 1536]⟩

abbrev nBuf : Space → Nat
  | .hbm => 77
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1440, .f32⟩
  | .hbm, ⟨3, _⟩ => ⟨S8192x1024, .f32⟩
  | .hbm, ⟨4, _⟩ => ⟨S8192x512, .f32⟩
  | .hbm, ⟨5, _⟩ => ⟨S8192x512, .f32⟩
  | .hbm, ⟨6, _⟩ => ⟨S8192x512, .f32⟩
  | .hbm, ⟨7, _⟩ => ⟨S8192x416, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x1440, .f32⟩
  | .hbm, ⟨29, _⟩ => ⟨S8192x512, .f32⟩
  | .hbm, ⟨30, _⟩ => ⟨S8192x512, .f32⟩
  | .hbm, ⟨31, _⟩ => ⟨S8192x512, .f32⟩
  | .hbm, ⟨32, _⟩ => ⟨S8192x416, .f32⟩
  | .hbm, ⟨33, _⟩ => ⟨S_, .f32⟩
  | .hbm, ⟨34, _⟩ => ⟨S8192x1440, .f32⟩
  | .hbm, ⟨35, _⟩ => ⟨S_, .f32⟩
  | .hbm, ⟨36, _⟩ => ⟨S8192x1440, .f32⟩
  | .hbm, ⟨37, _⟩ => ⟨S8192x1440, .f32⟩
  | .hbm, ⟨38, _⟩ => ⟨S_, .f32⟩
  | .hbm, ⟨39, _⟩ => ⟨S8192x1440, .f32⟩
  | .hbm, ⟨40, _⟩ => ⟨S8192x1440, .f32⟩
  | .hbm, ⟨41, _⟩ => ⟨S_, .f32⟩
  | .hbm, ⟨42, _⟩ => ⟨S8192x1440, .f32⟩
  | .hbm, ⟨43, _⟩ => ⟨S8192x1440, .f32⟩
  | .hbm, ⟨44, _⟩ => ⟨S1440x1024, .f32⟩
  | .hbm, ⟨45, _⟩ => ⟨S1024x1440, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S1024, .f32⟩
  | .hbm, ⟨50, _⟩ => ⟨S1x1024, .f32⟩
  | .hbm, ⟨51, _⟩ => ⟨S8192x1024, .f32⟩
  | .hbm, ⟨52, _⟩ => ⟨S8192x1024, .f32⟩
  | .hbm, ⟨53, _⟩ => ⟨S_, .f32⟩
  | .hbm, ⟨54, _⟩ => ⟨S1024, .f32⟩
  | .hbm, ⟨55, _⟩ => ⟨S8192x1024, .f32⟩
  | .hbm, ⟨56, _⟩ => ⟨S_, .f32⟩
  | .hbm, ⟨57, _⟩ => ⟨S8192, .f32⟩
  | .hbm, ⟨58, _⟩ => ⟨S8192x1, .f32⟩
  | .hbm, ⟨59, _⟩ => ⟨S8192x1024, .f32⟩
  | .hbm, ⟨60, _⟩ => ⟨S8192x1024, .f32⟩
  | .hbm, ⟨61, _⟩ => ⟨S8192x1024, .f32⟩
  | .hbm, ⟨62, _⟩ => ⟨S8192x1, .f32⟩
  | .hbm, ⟨63, _⟩ => ⟨S_, .f32⟩
  | .hbm, ⟨64, _⟩ => ⟨S8192x1, .f32⟩
  | .hbm, ⟨65, _⟩ => ⟨S8192x1, .f32⟩
  | .hbm, ⟨66, _⟩ => ⟨S_, .f32⟩
  | .hbm, ⟨67, _⟩ => ⟨S8192, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S8192x1024, .f32⟩
  | .hbm, ⟨72, _⟩ => ⟨S8192x1024, .f32⟩
  | .hbm, ⟨73, _⟩ => ⟨S_, .i32⟩
  | .hbm, ⟨74, _⟩ => ⟨S_, .f32⟩
  | .hbm, ⟨75, _⟩ => ⟨S1024x1536, .f32⟩
  | .hbm, ⟨76, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_3 : Ref sig .tc := ⟨.hbm, 33, rfl⟩
abbrev main_v21 : Ref sig .tc := ⟨.hbm, 34, rfl⟩
abbrev main_cst_4 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_cst_6 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_7 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_cst_9 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_c : Ref sig .tc := ⟨.hbm, 73, rfl⟩
abbrev main_call0_v0 : Ref sig .tc := ⟨.hbm, 74, rfl⟩
abbrev main_v52 : Ref sig .tc := ⟨.hbm, 75, rfl⟩
abbrev main_v53 : Ref sig .tc := ⟨.hbm, 76, rfl⟩

abbrev nD : Nat := 1
abbrev τ : Topo := Topo.v7x

variable {F : FTy → Type} [FloatOps F]
-- ==== KernelFl.lean ====
abbrev S8192x8x96 : Shape := ⟨3, ![8192, 8, 96]⟩
abbrev S8192x8x64 : Shape := ⟨3, ![8192, 8, 64]⟩
abbrev S8192x512 : Shape := ⟨2, ![8192, 512]⟩
abbrev S_ : Shape := ⟨0, ![]⟩
abbrev S8192x8x128 : Shape := ⟨3, ![8192, 8, 128]⟩
abbrev S8x8192x8192 : Shape := ⟨3, ![8, 8192, 8192]⟩
abbrev S8x8192 : Shape := ⟨2, ![8, 8192]⟩
abbrev S8x8192x1 : Shape := ⟨3, ![8, 8192, 1]⟩
abbrev S8x8192x64 : Shape := ⟨3, ![8, 8192, 64]⟩
abbrev S4x2x8192 : Shape := ⟨3, ![4, 2, 8192]⟩
abbrev S8192x4x2x64 : Shape := ⟨4, ![8192, 4, 2, 64]⟩
abbrev S8192x4x2 : Shape := ⟨3, ![8192, 4, 2]⟩
abbrev S8192x1024 : Shape := ⟨2, ![8192, 1024]⟩
abbrev S2048x256 : Shape := ⟨2, ![2048, 256]⟩
abbrev S1024x256 : Shape := ⟨2, ![1024, 256]⟩
abbrev S1024x128 : Shape := ⟨2, ![1024, 128]⟩
abbrev S2048x128 : Shape := ⟨2, ![2048, 128]⟩
abbrev S1x2x2048 : Shape := ⟨3, ![1, 2, 2048]⟩
abbrev S8192x256 : Shape := ⟨2, ![8192, 256]⟩
abbrev S2x2048 : Shape := ⟨2, ![2, 2048]⟩
abbrev S1024x2048 : Shape := ⟨2, ![1024, 2048]⟩
abbrev S1x2048 : Shape := ⟨2, ![1, 2048]⟩

abbrev nBuf : Space → Nat
  | .hbm => 52
  | .vmem => 18
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8192x8x96, .bf16⟩
  | .hbm, ⟨5, _⟩ => ⟨S_, .i32⟩
  | .hbm, ⟨6, _⟩ => ⟨S_, .bf16⟩
  | .hbm, ⟨7, _⟩ => ⟨S8192x8x128, .bf16⟩
  | .hbm, ⟨8, _⟩ => ⟨S8192x8x96, .bf16⟩
  | .hbm, ⟨9, _⟩ => ⟨S_, .i32⟩
  | .hbm, ⟨10, _⟩ => ⟨S_, .bf16⟩
  | .hbm, ⟨11, _⟩ => ⟨S8192x8x128, .bf16⟩
  | .hbm, ⟨12, _⟩ => ⟨S8192x8x64, .bf16⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S8x8192x1, .f32⟩
  | .hbm, ⟨17, _⟩ => ⟨S8x8192x8192, .f32⟩
  | .hbm, ⟨18, _⟩ => ⟨S8x8192x8192, .f32⟩
  | .hbm, ⟨19, _⟩ => ⟨S_, .f32⟩
  | .hbm, ⟨20, _⟩ => ⟨S8x8192x8192, .f32⟩
  | .hbm, ⟨21, _⟩ => ⟨S8x8192x8192, .f32⟩
  | .hbm, ⟨22, _⟩ => ⟨S8x8192x8192, .f32⟩
  | .hbm, ⟨23, _⟩ => ⟨S_, .f32⟩
  | .hbm, ⟨24, _⟩ => ⟨S8x8192, .f32⟩
  | .hbm, ⟨25, _⟩ => ⟨S8x8192x1, .f32⟩
  | .hbm, ⟨26, _⟩ => ⟨S8x8192x8192, .bf16⟩
  | .hbm, ⟨27, _⟩ => ⟨S8x8192x64, .f32⟩
  | .hbm, ⟨28, _⟩ => ⟨S_, .f32⟩
  | .hbm, ⟨29, _⟩ => ⟨S8x8192x1, .f32⟩
  | .hbm, ⟨30, _⟩ => ⟨S8x8192x1, .f32⟩
  | .hbm, ⟨31, _⟩ => ⟨S8x8192x64, .f32⟩
  | .hbm, ⟨32, _⟩ => ⟨S8x8192x64, .f32⟩
  | .hbm, ⟨33, _⟩ => ⟨S8x8192x1, .f32⟩
  | .hbm, ⟨34, _⟩ => ⟨S_, .f32⟩
  | .hbm, ⟨35, _⟩ => ⟨S8x8192x1, .f32⟩
  | .hbm, ⟨36, _⟩ => ⟨S8x8192x1, .f32⟩
  | .hbm, ⟨37, _⟩ => ⟨S8x8192x1, .f32⟩
  | .hbm, ⟨38, _⟩ => ⟨S4x2x8192, .f32⟩
  | .hbm, ⟨39, _⟩ => ⟨S8192x8x64, .f32⟩
  | .hbm, ⟨40, _⟩ => ⟨S8192x512, .f32⟩
  | .hbm, ⟨41, _⟩ => ⟨S8192x512, .f32⟩
  | .hbm, ⟨42, _⟩ => ⟨S8192x4x2x64, .f32⟩
  | .hbm, ⟨43, _⟩ => ⟨S_, .f32⟩
  | .hbm, ⟨44, _⟩ => ⟨S8192x4x2, .f32⟩
  | .hbm, ⟨45, _⟩ => ⟨S4x2x8192, .f32⟩
  | .hbm, ⟨46, _⟩ => ⟨S8192x1024, .bf16⟩
  | .hbm, ⟨47, _⟩ => ⟨S8192x1024, .bf16⟩
  | .hbm, ⟨48, _⟩ => ⟨S8192x512, .bf16⟩
  | .hbm, ⟨49, _⟩ => ⟨S8192x1024, .f32⟩
  | .hbm, ⟨50, _⟩ => ⟨S8192x1024, .f32⟩
  | .hbm, ⟨51, _⟩ => ⟨S8192x512, .f32⟩
  | .local _ .vmem, ⟨0, _⟩ => ⟨S2048x256, .bf16⟩
  | .local _ .vmem, ⟨1, _⟩ => ⟨S2048x256, .bf16⟩
  | .local _ .vmem, ⟨2, _⟩ => ⟨S1024x256, .bf16⟩
  | .local _ .vmem, ⟨3, _⟩ => ⟨S1024x256, .bf16⟩
  | .local _ .vmem, ⟨4, _⟩ => ⟨S1024x128, .bf16⟩
  | .local _ .vmem, ⟨5, _⟩ => ⟨S1024x128, .bf16⟩
  | .local _ .vmem, ⟨6, _⟩ => ⟨S2048x128, .f32⟩
  | .local _ .vmem, ⟨7, _⟩ => ⟨S2048x128, .f32⟩
  | .local _ .vmem, ⟨8, _⟩ => ⟨S1x2x2048, .f32⟩
  | .local _ .vmem, ⟨9, _⟩ => ⟨S1x2x2048, .f32⟩
  | .local _ .vmem, ⟨10, _⟩ => ⟨S1x2x2048, .f32⟩
  | .local _ .vmem, ⟨11, _⟩ => ⟨S1x2x2048, .f32⟩
  | .local _ .vmem, ⟨12, _⟩ => ⟨S8192x256, .f32⟩
  | .local _ .vmem, ⟨13, _⟩ => ⟨S8192x256, .f32⟩
  | .local _ .vmem, ⟨14, _⟩ => ⟨S1024x256, .f32⟩
  | .local _ .vmem, ⟨15, _⟩ => ⟨S1024x256, .f32⟩
  | .local _ .vmem, ⟨16, _⟩ => ⟨S1024x128, .f32⟩
  | .local _ .vmem, ⟨17, _⟩ => ⟨S1024x128, .f32⟩
  | _, _ => ⟨S8192x8x96, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_call1_v0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_4 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35_0 : Ref sig .tc := ⟨.hbm, 49, rfl⟩
abbrev main_v35_1 : Ref sig .tc := ⟨.hbm, 50, rfl⟩
abbrev main_v35_2 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![4, 8, 4], ![false, false, false]⟩

def k0_mult1 (i : grid0.Coords) : BitVec 32 :=
  let arg2 : BitVec 32 := BitVec.ofNat 32 (i 2).val
  let c2048_i32 : BitVec 32 := 2048#32
  let v0 : BitVec 32 := Scalar.muli arg2 c2048_i32
  v0
def k0_cond2 (i : grid0.Coords) : BitVec 1 :=
  let arg1 : BitVec 32 := BitVec.ofNat 32 (i 1).val
  let c0_i32_1 : BitVec 32 := 0#32
  let v5 : BitVec 1 := Scalar.cmpi .eq arg1 c0_i32_1
  let v6 : BitVec 32 := Scalar.extui v5
  let c0_i32_2 : BitVec 32 := 0#32
  let v7 : BitVec 1 := Scalar.cmpi .ne v6 c0_i32_2
  v7

def k0_off1 (i : grid0.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v106 : Index := Scalar.indexCast v1
  let c0_54 : Index := 0#32
  ![v106.toNat, 0]
def k0_off2 (i : grid0.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v52 : Index := Scalar.indexCast v1
  let c0_28 : Index := 0#32
  ![v52.toNat, 0]
def k0_off3 (i : grid0.Coords) : Fin 2 → Nat :=
  let arg2 : BitVec 32 := BitVec.ofNat 32 (i 2).val
  let c2048_i32 : BitVec 32 := 2048#32
  let v0 : BitVec 32 := Scalar.muli arg2 c2048_i32
  let v1 : BitVec 32 := v0
  let v94 : Index := Scalar.indexCast v1
  let c128_46 : Index := 128#32
  ![v94.toNat, 128]
def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

abbrev stage0_0 : Fin 2 → Memref sig .tc .vmem S2048x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1024x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x2x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x2x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false, false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== KernelFlIdeal.lean ====
variable {F : FTy → Type} [FloatOps F] [Named F]
def κ : String → Option EReal := fun
  | "smc" => some (((3424635 / 33554432) * (Real.log 2)⁻¹ : ℝ) : EReal)
  | _ => none
-- ==== ReferenceFlIdeal.lean ====
abbrev S8192x8x96 : Shape := ⟨3, ![8192, 8, 96]⟩
abbrev S8192x8x64 : Shape := ⟨3, ![8192, 8, 64]⟩
abbrev S8192x512 : Shape := ⟨2, ![8192, 512]⟩
abbrev S8x8192x8192 : Shape := ⟨3, ![8, 8192, 8192]⟩
abbrev S_ : Shape := ⟨0, ![]⟩
abbrev S8x8192 : Shape := ⟨2, ![8, 8192]⟩
abbrev S8x8192x1 : Shape := ⟨3, ![8, 8192, 1]⟩
abbrev S8x64x8192 : Shape := ⟨3, ![8, 64, 8192]⟩
abbrev S8x8192x96 : Shape := ⟨3, ![8, 8192, 96]⟩
abbrev S8192x8x128 : Shape := ⟨3, ![8192, 8, 128]⟩
abbrev S8192x1024 : Shape := ⟨2, ![8192, 1024]⟩

abbrev nBuf : Space → Nat
  | .hbm => 84
  | .vmem => 0
  | .smem => 0
  | _ => 0

abbrev bufTy : (tb : Table) → Fin (tcTables nBuf tb) → BufTy
  | .hbm, ⟨0, _⟩ => ⟨S8192x8x96, .f32⟩
  | .hbm, ⟨1, _⟩ => ⟨S8192x8x96, .f32⟩
  | .hbm, ⟨2, _⟩ => ⟨S8192x8x64, .f32⟩
  | .hbm, ⟨3, _⟩ => ⟨S8192x512, .f32⟩
  | .hbm, ⟨4, _⟩ => ⟨S8x8192x8192, .f32⟩
  | .hbm, ⟨5, _⟩ => ⟨S_, .f32⟩
  | .hbm, ⟨6, _⟩ => ⟨S8x8192x8192, .f32⟩
  | .hbm, ⟨7, _⟩ => ⟨S8x8192x8192, .f32⟩
  | .hbm, ⟨8, _⟩ => ⟨S_, .f32⟩
  | .hbm, ⟨9, _⟩ => ⟨S8x8192, .f32⟩
  | .hbm, ⟨10, _⟩ => ⟨S8x8192x1, .f32⟩
  | .hbm, ⟨11, _⟩ => ⟨S8x8192x8192, .f32⟩
  | .hbm, ⟨12, _⟩ => ⟨S8x8192x8192, .i1⟩
  | .hbm, ⟨13, _⟩ => ⟨S8x8192x8192, .f32⟩
  | .hbm, ⟨14, _⟩ => ⟨S_, .f32⟩
  | .hbm, ⟨15, _⟩ => ⟨S8x8192, .f32⟩
  | .hbm, ⟨16, _⟩ => ⟨S_, .f32⟩
  | .hbm, ⟨17, _⟩ => ⟨S8x8192, .f32⟩
  | .hbm, ⟨18, _⟩ => ⟨S8x8192, .f32⟩
  | .hbm, ⟨19, _⟩ => ⟨S_, .f32⟩
  | .hbm, ⟨20, _⟩ => ⟨S8x8192, .f32⟩
  | .hbm, ⟨21, _⟩ => ⟨S8x8192, .i1⟩
  | .hbm, ⟨22, _⟩ => ⟨S_, .f32⟩
  | .hbm, ⟨23, _⟩ => ⟨S8x8192, .f32⟩
  | .hbm, ⟨24, _⟩ => ⟨S8x8192, .i1⟩
  | .hbm, ⟨25, _⟩ => ⟨S_, .f32⟩
  | .hbm, ⟨26, _⟩ => ⟨S8x8192, .f32⟩
  | .hbm, ⟨27, _⟩ => ⟨S_, .f32⟩
  | .hbm, ⟨28, _⟩ => ⟨S8x8192, .f32⟩
  | .hbm, ⟨29, _⟩ => ⟨S_, .f32⟩
  | .hbm, ⟨30, _⟩ => ⟨S8x8192, .f32⟩
  | .hbm, ⟨31, _⟩ => ⟨S8x8192, .f32⟩
  | .hbm, ⟨32, _⟩ => ⟨S8x8192, .f32⟩
  | .hbm, ⟨33, _⟩ => ⟨S8x8192x1, .f32⟩
  | .hbm, ⟨34, _⟩ => ⟨S8x8192x8192, .f32⟩
  | .hbm, ⟨35, _⟩ => ⟨S8x8192x8192, .f32⟩
  | .hbm, ⟨36, _⟩ => ⟨S8x8192x8192, .f32⟩
  | .hbm, ⟨37, _⟩ => ⟨S_, .f32⟩
  | .hbm, ⟨38, _⟩ => ⟨S8x8192, .f32⟩
  | .hbm, ⟨39, _⟩ => ⟨S8x8192x1, .f32⟩
  | .hbm, ⟨40, _⟩ => ⟨S8x8192x8192, .f32⟩
  | .hbm, ⟨41, _⟩ => ⟨S8x8192x8192, .f32⟩
  | .hbm, ⟨42, _⟩ => ⟨S8x8192x1, .f32⟩
  | .hbm, ⟨43, _⟩ => ⟨S_, .f32⟩
  | .hbm, ⟨44, _⟩ => ⟨S8x8192x1, .f32⟩
  | .hbm, ⟨45, _⟩ => ⟨S8x8192x1, .f32⟩
  | .hbm, ⟨46, _⟩ => ⟨S8x64x8192, .f32⟩
  | .hbm, ⟨47, _⟩ => ⟨S8192x8x64, .f32⟩
  | .hbm, ⟨48, _⟩ => ⟨S8192x512, .f32⟩
  | .hbm, ⟨49, _⟩ => ⟨S8192x8x64, .f32⟩
  | .hbm, ⟨50, _⟩ => ⟨S8x64x8192, .f32⟩
  | .hbm, ⟨51, _⟩ => ⟨S8x8192x8192, .f32⟩
  | .hbm, ⟨52, _⟩ => ⟨S8x64x8192, .f32⟩
  | .hbm, ⟨53, _⟩ => ⟨S8192x8x64, .f32⟩
  | .hbm, ⟨54, _⟩ => ⟨S8x8192x8192, .f32⟩
  | .hbm, ⟨55, _⟩ => ⟨S8x8192x8192, .f32⟩
  | .hbm, ⟨56, _⟩ => ⟨S8x8192x8192, .f32⟩
  | .hbm, ⟨57, _⟩ => ⟨S_, .f32⟩
  | .hbm, ⟨58, _⟩ => ⟨S8x8192, .f32⟩
  | .hbm, ⟨59, _⟩ => ⟨S8x8192x1, .f32⟩
  | .hbm, ⟨60, _⟩ => ⟨S8x8192x1, .f32⟩
  | .hbm, ⟨61, _⟩ => ⟨S8x8192x8192, .f32⟩
  | .hbm, ⟨62, _⟩ => ⟨S8x8192x8192, .f32⟩
  | .hbm, ⟨63, _⟩ => ⟨S_, .f32⟩
  | .hbm, ⟨64, _⟩ => ⟨S8x8192, .f32⟩
  | .hbm, ⟨65, _⟩ => ⟨S8x8192x8192, .f32⟩
  | .hbm, ⟨66, _⟩ => ⟨S8x8192x8192, .f32⟩
  | .hbm, ⟨67, _⟩ => ⟨S8x8192x8192, .f32⟩
  | .hbm, ⟨68, _⟩ => ⟨S_, .f32⟩
  | .hbm, ⟨69, _⟩ => ⟨S8x8192x8192, .f32⟩
  | .hbm, ⟨70, _⟩ => ⟨S8x8192x8192, .f32⟩
  | .hbm, ⟨71, _⟩ => ⟨S8x8192x96, .f32⟩
  | .hbm, ⟨72, _⟩ => ⟨S8192x8x96, .f32⟩
  | .hbm, ⟨73, _⟩ => ⟨S8x8192x96, .f32⟩
  | .hbm, ⟨74, _⟩ => ⟨S8192x8x96, .f32⟩
  | .hbm, ⟨75, _⟩ => ⟨S_, .i32⟩
  | .hbm, ⟨76, _⟩ => ⟨S_, .f32⟩
  | .hbm, ⟨77, _⟩ => ⟨S8192x8x128, .f32⟩
  | .hbm, ⟨78, _⟩ => ⟨S8192x1024, .f32⟩
  | .hbm, ⟨79, _⟩ => ⟨S_, .i32⟩
  | .hbm, ⟨80, _⟩ => ⟨S_, .f32⟩
  | .hbm, ⟨81, _⟩ => ⟨S8192x8x128, .f32⟩
  | .hbm, ⟨82, _⟩ => ⟨S8192x1024, .f32⟩
  | .hbm, ⟨83, _⟩ => ⟨S8192x512, .f32⟩
  | _, _ => ⟨S8192x8x96, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_cst_2 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_cst_6 : Ref sig .tc := ⟨.hbm, 27, rfl⟩
abbrev main_v16 : Ref sig .tc := ⟨.hbm, 28, rfl⟩
abbrev main_cst_7 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_cst_9 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_10 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_11 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_12 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_c : Ref sig .tc := ⟨.hbm, 75, rfl⟩
abbrev main_call0_v0 : Ref sig .tc := ⟨.hbm, 76, rfl⟩
abbrev main_v57 : Ref sig .tc := ⟨.hbm, 77, rfl⟩
abbrev main_v58 : Ref sig .tc := ⟨.hbm, 78, rfl⟩
abbrev main_c_13 : Ref sig .tc := ⟨.hbm, 79, rfl⟩
abbrev main_call1_v0 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩

abbrev nD : Nat := 1
abbrev τ : Topo := Topo.v7x

variable {F : FTy → Type} [FloatOps F]
-- ==== KernelFw.lean ====
abbrev S8192x1024 : Shape := ⟨2, ![8192, 1024]⟩
abbrev S1024 : Shape := ⟨1, ![1024]⟩
abbrev S8192x5632 : Shape := ⟨2, ![8192, 5632]⟩
abbrev S8192x8x704 : Shape := ⟨3, ![8192, 8, 704]⟩
abbrev S8x8192x704 : Shape := ⟨3, ![8, 8192, 704]⟩
abbrev S1x1024 : Shape := ⟨2, ![1, 1024]⟩
abbrev S8x1024x704 : Shape := ⟨3, ![8, 1024, 704]⟩
abbrev S2048x1024 : Shape := ⟨2, ![2048, 1024]⟩
abbrev S1x2048x704 : Shape := ⟨3, ![1, 2048, 704]⟩
abbrev S1x1024x704 : Shape := ⟨3, ![1, 1024, 704]⟩
abbrev S1024x704 : Shape := ⟨2, ![1024, 704]⟩
abbrev S2048 : Shape := ⟨1, ![2048]⟩
abbrev S2048x1 : Shape := ⟨2, ![2048, 1]⟩
abbrev S2048x704 : Shape := ⟨2, ![2048, 704]⟩

abbrev nBuf : Space → Nat
  | .hbm => 8
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S8192x8x704, .f32⟩
  | .hbm, ⟨4, _⟩ => ⟨S8x8192x704, .f32⟩
  | .hbm, ⟨5, _⟩ => ⟨S8x8192x704, .bf16⟩
  | .hbm, ⟨6, _⟩ => ⟨S1x1024, .f32⟩
  | .hbm, ⟨7, _⟩ => ⟨S8x1024x704, .f32⟩
  | .local _ .vmem, ⟨0, _⟩ => ⟨S2048x1024, .f32⟩
  | .local _ .vmem, ⟨1, _⟩ => ⟨S2048x1024, .f32⟩
  | .local _ .vmem, ⟨2, _⟩ => ⟨S1x1024, .f32⟩
  | .local _ .vmem, ⟨3, _⟩ => ⟨S1x2048x704, .bf16⟩
  | .local _ .vmem, ⟨4, _⟩ => ⟨S1x2048x704, .bf16⟩
  | .local _ .vmem, ⟨5, _⟩ => ⟨S1x1024x704, .f32⟩
  | .local _ .vmem, ⟨6, _⟩ => ⟨S1x1024x704, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2048x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2048x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== ReferenceFwIdeal.lean ====
abbrev S8192x1024 : Shape := ⟨2, ![8192, 1024]⟩
abbrev S1024 : Shape := ⟨1, ![1024]⟩
abbrev S8192x5632 : Shape := ⟨2, ![8192, 5632]⟩
abbrev S_ : Shape := ⟨0, ![]⟩
abbrev S1024x5632 : Shape := ⟨2, ![1024, 5632]⟩
abbrev S8192 : Shape := ⟨1, ![8192]⟩
abbrev S8192x1 : Shape := ⟨2, ![8192, 1]⟩
abbrev S1x1024 : Shape := ⟨2, ![1, 1024]⟩
abbrev S5632x1024 : Shape := ⟨2, ![5632, 1024]⟩
abbrev S1024x8x704 : Shape := ⟨3, ![1024, 8, 704]⟩
abbrev S8x1024x704 : Shape := ⟨3, ![8, 1024, 704]⟩

abbrev nBuf : Space → Nat
  | .hbm => 26
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x5632, .f32⟩
  | .hbm, ⟨3, _⟩ => ⟨S_, .f32⟩
  | .hbm, ⟨4, _⟩ => ⟨S1024x5632, .f32⟩
  | .hbm, ⟨5, _⟩ => ⟨S8192x1024, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x1024, .f32⟩
  | .hbm, ⟨17, _⟩ => ⟨S8192x1024, .f32⟩
  | .hbm, ⟨18, _⟩ => ⟨S1x1024, .f32⟩
  | .hbm, ⟨19, _⟩ => ⟨S8192x1024, .f32⟩
  | .hbm, ⟨20, _⟩ => ⟨S8192x1024, .f32⟩
  | .hbm, ⟨21, _⟩ => ⟨S8192x5632, .f32⟩
  | .hbm, ⟨22, _⟩ => ⟨S5632x1024, .f32⟩
  | .hbm, ⟨23, _⟩ => ⟨S1024x5632, .f32⟩
  | .hbm, ⟨24, _⟩ => ⟨S1024x8x704, .f32⟩
  | .hbm, ⟨25, _⟩ => ⟨S8x1024x704, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_cst_2 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩

abbrev nD : Nat := 1
abbrev τ : Topo := Topo.v7x

variable {F : FTy → Type} [FloatOps F]
-- ==== KernelFx.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S8192x5632 : Shape := ⟨2, ![8192, 5632]⟩
abbrev S1024x8x704 : Shape := ⟨3, ![1024, 8, 704]⟩
abbrev S8x1024x704 : Shape := ⟨3, ![8, 1024, 704]⟩
abbrev S3x8x704 : Shape := ⟨3, ![3, 8, 704]⟩
abbrev S8x3x704 : Shape := ⟨3, ![8, 3, 704]⟩
abbrev S2x4x3x704 : Shape := ⟨4, ![2, 4, 3, 704]⟩
abbrev S8192x2x4x704 : Shape := ⟨4, ![8192, 2, 4, 704]⟩
abbrev S4x2x8192x704 : Shape := ⟨4, ![4, 2, 8192, 704]⟩
abbrev S1x1024 : Shape := ⟨2, ![1, 1024]⟩
abbrev S8x8192x704 : Shape := ⟨3, ![8, 8192, 704]⟩
abbrev S1x1x1024x704 : Shape := ⟨4, ![1, 1, 1024, 704]⟩
abbrev S1x1x8x704 : Shape := ⟨4, ![1, 1, 8, 704]⟩
abbrev S1x1x3x704 : Shape := ⟨4, ![1, 1, 3, 704]⟩
abbrev S1x1024x704 : Shape := ⟨3, ![1, 1024, 704]⟩
abbrev S1024x1024 : Shape := ⟨2, ![1024, 1024]⟩
abbrev S1024x704 : Shape := ⟨2, ![1024, 704]⟩
abbrev S8x704 : Shape := ⟨2, ![8, 704]⟩
abbrev S1x8x704 : Shape := ⟨3, ![1, 8, 704]⟩
abbrev S128x8x704 : Shape := ⟨3, ![128, 8, 704]⟩
abbrev S129x8x704 : Shape := ⟨3, ![129, 8, 704]⟩
abbrev S3x704 : Shape := ⟨2, ![3, 704]⟩
abbrev S1x704 : Shape := ⟨2, ![1, 704]⟩
abbrev S1024x1 : Shape := ⟨2, ![1024, 1]⟩

abbrev nBuf : Space → Nat
  | .hbm => 18
  | .vmem => 21
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S8192x1024, .f32⟩
  | .hbm, ⟨5, _⟩ => ⟨S8192x5632, .f32⟩
  | .hbm, ⟨6, _⟩ => ⟨S1024x8x704, .f32⟩
  | .hbm, ⟨7, _⟩ => ⟨S8x1024x704, .f32⟩
  | .hbm, ⟨8, _⟩ => ⟨S8x1024x704, .bf16⟩
  | .hbm, ⟨9, _⟩ => ⟨S3x8x704, .f32⟩
  | .hbm, ⟨10, _⟩ => ⟨S8x3x704, .f32⟩
  | .hbm, ⟨11, _⟩ => ⟨S2x4x3x704, .f32⟩
  | .hbm, ⟨12, _⟩ => ⟨S8192x2x4x704, .f32⟩
  | .hbm, ⟨13, _⟩ => ⟨S4x2x8192x704, .f32⟩
  | .hbm, ⟨14, _⟩ => ⟨S1x1024, .f32⟩
  | .hbm, ⟨15, _⟩ => ⟨S8x8192x704, .bf16⟩
  | .hbm, ⟨16, _⟩ => ⟨S8192x1024, .f32⟩
  | .hbm, ⟨17, _⟩ => ⟨S1x1024, .f32⟩
  | .local _ .vmem, ⟨0, _⟩ => ⟨S1x1x1024x704, .f32⟩
  | .local _ .vmem, ⟨1, _⟩ => ⟨S1x1x1024x704, .f32⟩
  | .local _ .vmem, ⟨2, _⟩ => ⟨S1x1x8x704, .f32⟩
  | .local _ .vmem, ⟨3, _⟩ => ⟨S1x1x8x704, .f32⟩
  | .local _ .vmem, ⟨4, _⟩ => ⟨S1x1x8x704, .f32⟩
  | .local _ .vmem, ⟨5, _⟩ => ⟨S1x1x8x704, .f32⟩
  | .local _ .vmem, ⟨6, _⟩ => ⟨S1x1x3x704, .f32⟩
  | .local _ .vmem, ⟨7, _⟩ => ⟨S1x1x3x704, .f32⟩
  | .local _ .vmem, ⟨8, _⟩ => ⟨S1x1024x704, .bf16⟩
  | .local _ .vmem, ⟨9, _⟩ => ⟨S1x1024x704, .bf16⟩
  | .local _ .vmem, ⟨10, _⟩ => ⟨S1024x1024, .f32⟩
  | .local _ .vmem, ⟨11, _⟩ => ⟨S1024x1024, .f32⟩
  | .local _ .vmem, ⟨12, _⟩ => ⟨S1x1024, .f32⟩
  | .local _ .vmem, ⟨13, _⟩ => ⟨S1024x1024, .f32⟩
  | .local _ .vmem, ⟨14, _⟩ => ⟨S1024x1024, .f32⟩
  | .local _ .vmem, ⟨15, _⟩ => ⟨S1x1024x704, .bf16⟩
  | .local _ .vmem, ⟨16, _⟩ => ⟨S1x1024x704, .bf16⟩
  | .local _ .vmem, ⟨17, _⟩ => ⟨S1024x1024, .f32⟩
  | .local _ .vmem, ⟨18, _⟩ => ⟨S1024x1024, .f32⟩
  | .local _ .vmem, ⟨19, _⟩ => ⟨S1x1024, .f32⟩
  | .local _ .vmem, ⟨20, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9_0 : Ref sig .tc := ⟨.hbm, 15, rfl⟩
abbrev main_v9_1 : Ref sig .tc := ⟨.hbm, 16, rfl⟩
abbrev main_v9_2 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_scratch0 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19

abbrev nD : Nat := 1
abbrev τ : Topo := Topo.v7x

variable {F : FTy → Type} [FloatOps F]

abbrev grid0 : Pipeline.Grid := ⟨2, ![8, 8], ![false, false]⟩

def k0_cond3 (i : grid0.Coords) : BitVec 1 :=
  let arg1 : BitVec 32 := BitVec.ofNat 32 (i 1).val
  let c7_i32_35 : BitVec 32 := 7#32
  let v68 : BitVec 1 := Scalar.cmpi .eq arg1 c7_i32_35
  let v69 : BitVec 32 := Scalar.extui v68
  let c0_i32_36 : BitVec 32 := 0#32
  let v70 : BitVec 1 := Scalar.cmpi .ne v69 c0_i32_36
  v70

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c0_i32_10 : BitVec 32 := 0#32
  let c0_i32_11 : BitVec 32 := 0#32
  ![v9.toNat, v26.toNat, arg0.toNat, c0_i32_10.toNat]

def cc0_transform_1 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c128_i32 : BitVec 32 := 128#32
  let v27 : BitVec 32 := Scalar.muli arg0 c128_i32
  let c1_i32_10 : BitVec 32 := 1#32
  let v28 : BitVec 32 := Scalar.subi v27 c1_i32_10
  let c0_i32_11 : BitVec 32 := 0#32
  let v29 : BitVec 32 := Scalar.maxsi v28 c0_i32_11
  let c0_i32_12 : BitVec 32 := 0#32
  let c0_i32_13 : BitVec 32 := 0#32
  ![v9.toNat, v26.toNat, v29.toNat, c0_i32_12.toNat]

def cc0_transform_2 (i : grid0.Coords) : Fin 4 → Nat :=
  let arg0 : BitVec 32 := BitVec.ofNat 32 (i 0).val
  let arg1 : BitVec 32 := BitVec.ofNat 32 (i 1).val
  let c4_i32 : BitVec 32 := 4#32
  let c0_i32 : BitVec 32 := 0#32
  let v0 : BitVec 1 := Scalar.cmpi .eq c4_i32 c0_i32
  let c1_i32 : BitVec 32 := 1#32
  let v1 : BitVec 32 := Scalar.select v0 c1_i32 c4_i32
  let v2 : BitVec 32 := Scalar.remsi arg1 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c4_i32_3 : BitVec 32 := 4#32
  let v10 : BitVec 32 := Scalar.divsi arg1 c4_i32_3
  let c0_i32_4 : BitVec 32 := 0#32
  let v11 : BitVec 1 := Scalar.cmpi .sgt arg1 c0_i32_4
  let v12 : BitVec 32 := Scalar.extui v11
  let c0_i32_5 : BitVec 32 := 0#32
  let v13 : BitVec 1 := Scalar.cmpi .slt arg1 c0_i32_5
  let v14 : BitVec 32 := Scalar.extui v13
  let v15 : BitVec 32 := Scalar.subi v12 v14
  let c0_i32_6 : BitVec 32 := 0#32
  let v16 : BitVec 1 := Scalar.cmpi .sgt c4_i32_3 c0_i32_6
  let v17 : BitVec 32 := Scalar.extui v16
  let c0_i32_7 : BitVec 32 := 0#32
  let v18 : BitVec 1 := Scalar.cmpi .slt c4_i32_3 c0_i32_7
  let v19 : BitVec 32 := Scalar.extui v18
  let v20 : BitVec 32 := Scalar.subi v17 v19
  let v21 : BitVec 1 := Scalar.cmpi .ne v15 v20
  let v22 : BitVec 32 := Scalar.remsi arg1 c4_i32_3
  let c0_i32_8 : BitVec 32 := 0#32
  let v23 : BitVec 1 := Scalar.cmpi .ne v22 c0_i32_8
  let v24 : BitVec 1 := Scalar.andi v21 v23
  let c1_i32_9 : BitVec 32 := 1#32
  let v25 : BitVec 32 := Scalar.subi v10 c1_i32_9
  let v26 : BitVec 32 := Scalar.select v24 v25 v10
  let c1_i32_10 : BitVec 32 := 1#32
  let v27 : BitVec 32 := Scalar.addi arg0 c1_i32_10
  let c128_i32 : BitVec 32 := 128#32
  let v28 : BitVec 32 := Scalar.muli v27 c128_i32
  let c1023_i32 : BitVec 32 := 1023#32
  let v29 : BitVec 32 := Scalar.minsi v28 c1023_i32
  let c0_i32_11 : BitVec 32 := 0#32
  let c0_i32_12 : BitVec 32 := 0#32
  ![v9.toNat, v26.toNat, v29.toNat, c0_i32_11.toNat]

def cc0_transform_3 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg1 c4_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg1 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, v26.toNat, c0_i32_10.toNat, c0_i32_11.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x1x1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x8x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x8x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024x704 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]
-- ==== ReferenceFxIdeal.lean ====
abbrev S8192x1024 : Shape := ⟨2, ![8192, 1024]⟩
abbrev S1024 : Shape := ⟨1, ![1024]⟩
abbrev S1024x5632 : Shape := ⟨2, ![1024, 5632]⟩
abbrev S3x5632 : Shape := ⟨2, ![3, 5632]⟩
abbrev S8192x5632 : Shape := ⟨2, ![8192, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S5632 : Shape := ⟨1, ![5632]⟩
abbrev S1x5632 : Shape := ⟨2, ![1, 5632]⟩
abbrev S8194x5632 : Shape := ⟨2, ![8194, 5632]⟩
abbrev S8192x8x704 : Shape := ⟨3, ![8192, 8, 704]⟩
abbrev S8x8192x704 : Shape := ⟨3, ![8, 8192, 704]⟩

abbrev nBuf : Space → Nat
  | .hbm => 114
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x5632, .f32⟩
  | .hbm, ⟨3, _⟩ => ⟨S3x5632, .f32⟩
  | .hbm, ⟨4, _⟩ => ⟨S8192x1024, .f32⟩
  | .hbm, ⟨5, _⟩ => ⟨S8192x5632, .f32⟩
  | .hbm, ⟨6, _⟩ => ⟨S_, .f32⟩
  | .hbm, ⟨7, _⟩ => ⟨S8192x5632, .f32⟩
  | .hbm, ⟨8, _⟩ => ⟨S8192x1024, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1024, .f32⟩
  | .hbm, ⟨24, _⟩ => ⟨S8192x1024, .f32⟩
  | .hbm, ⟨25, _⟩ => ⟨S1x1024, .f32⟩
  | .hbm, ⟨26, _⟩ => ⟨S8192x1024, .f32⟩
  | .hbm, ⟨27, _⟩ => ⟨S8192x1024, .f32⟩
  | .hbm, ⟨28, _⟩ => ⟨S8192x5632, .f32⟩
  | .hbm, ⟨29, _⟩ => ⟨S8192x5632, .f32⟩
  | .hbm, ⟨30, _⟩ => ⟨S_, .f32⟩
  | .hbm, ⟨31, _⟩ => ⟨S5632, .f32⟩
  | .hbm, ⟨32, _⟩ => ⟨S_, .f32⟩
  | .hbm, ⟨33, _⟩ => ⟨S1x5632, .f32⟩
  | .hbm, ⟨34, _⟩ => ⟨S_, .f32⟩
  | .hbm, ⟨35, _⟩ => ⟨S1x5632, .f32⟩
  | .hbm, ⟨36, _⟩ => ⟨S8194x5632, .f32⟩
  | .hbm, ⟨37, _⟩ => ⟨S_, .f32⟩
  | .hbm, ⟨38, _⟩ => ⟨S1x5632, .f32⟩
  | .hbm, ⟨39, _⟩ => ⟨S_, .f32⟩
  | .hbm, ⟨40, _⟩ => ⟨S1x5632, .f32⟩
  | .hbm, ⟨41, _⟩ => ⟨S8192x5632, .f32⟩
  | .hbm, ⟨42, _⟩ => ⟨S1x5632, .f32⟩
  | .hbm, ⟨43, _⟩ => ⟨S5632, .f32⟩
  | .hbm, ⟨44, _⟩ => ⟨S1x5632, .f32⟩
  | .hbm, ⟨45, _⟩ => ⟨S8192x5632, .f32⟩
  | .hbm, ⟨46, _⟩ => ⟨S8192x5632, .f32⟩
  | .hbm, ⟨47, _⟩ => ⟨S1x5632, .f32⟩
  | .hbm, ⟨48, _⟩ => ⟨S8192x5632, .f32⟩
  | .hbm, ⟨49, _⟩ => ⟨S8192x5632, .f32⟩
  | .hbm, ⟨50, _⟩ => ⟨S8192x5632, .f32⟩
  | .hbm, ⟨51, _⟩ => ⟨S1x5632, .f32⟩
  | .hbm, ⟨52, _⟩ => ⟨S5632, .f32⟩
  | .hbm, ⟨53, _⟩ => ⟨S1x5632, .f32⟩
  | .hbm, ⟨54, _⟩ => ⟨S8192x5632, .f32⟩
  | .hbm, ⟨55, _⟩ => ⟨S8192x5632, .f32⟩
  | .hbm, ⟨56, _⟩ => ⟨S8192x5632, .f32⟩
  | .hbm, ⟨57, _⟩ => ⟨S8192x5632, .f32⟩
  | .hbm, ⟨58, _⟩ => ⟨S1x5632, .f32⟩
  | .hbm, ⟨59, _⟩ => ⟨S5632, .f32⟩
  | .hbm, ⟨60, _⟩ => ⟨S1x5632, .f32⟩
  | .hbm, ⟨61, _⟩ => ⟨S8192x5632, .f32⟩
  | .hbm, ⟨62, _⟩ => ⟨S8192x5632, .f32⟩
  | .hbm, ⟨63, _⟩ => ⟨S8192x5632, .f32⟩
  | .hbm, ⟨64, _⟩ => ⟨S8192x5632, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S_, .f32⟩
  | .hbm, ⟨69, _⟩ => ⟨S8194x5632, .f32⟩
  | .hbm, ⟨70, _⟩ => ⟨S8192x5632, .f32⟩
  | .hbm, ⟨71, _⟩ => ⟨S8192x5632, .f32⟩
  | .hbm, ⟨72, _⟩ => ⟨S_, .f32⟩
  | .hbm, ⟨73, _⟩ => ⟨S8194x5632, .f32⟩
  | .hbm, ⟨74, _⟩ => ⟨S8194x5632, .f32⟩
  | .hbm, ⟨75, _⟩ => ⟨S8192x5632, .f32⟩
  | .hbm, ⟨76, _⟩ => ⟨S8192x5632, .f32⟩
  | .hbm, ⟨77, _⟩ => ⟨S_, .f32⟩
  | .hbm, ⟨78, _⟩ => ⟨S8194x5632, .f32⟩
  | .hbm, ⟨79, _⟩ => ⟨S8194x5632, .f32⟩
  | .hbm, ⟨80, _⟩ => ⟨S1x5632, .f32⟩
  | .hbm, ⟨81, _⟩ => ⟨S8192x5632, .f32⟩
  | .hbm, ⟨82, _⟩ => ⟨S1x5632, .f32⟩
  | .hbm, ⟨83, _⟩ => ⟨S8192x1024, .f32⟩
  | .hbm, ⟨84, _⟩ => ⟨S8192x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S8192x1024, .f32⟩
  | .hbm, ⟨89, _⟩ => ⟨S8192x1024, .f32⟩
  | .hbm, ⟨90, _⟩ => ⟨S_, .f32⟩
  | .hbm, ⟨91, _⟩ => ⟨S1024, .f32⟩
  | .hbm, ⟨92, _⟩ => ⟨S8192x1024, .f32⟩
  | .hbm, ⟨93, _⟩ => ⟨S_, .f32⟩
  | .hbm, ⟨94, _⟩ => ⟨S8192, .f32⟩
  | .hbm, ⟨95, _⟩ => ⟨S8192x1, .f32⟩
  | .hbm, ⟨96, _⟩ => ⟨S8192x1024, .f32⟩
  | .hbm, ⟨97, _⟩ => ⟨S8192x1024, .f32⟩
  | .hbm, ⟨98, _⟩ => ⟨S8192x1024, .f32⟩
  | .hbm, ⟨99, _⟩ => ⟨S8192x1, .f32⟩
  | .hbm, ⟨100, _⟩ => ⟨S_, .f32⟩
  | .hbm, ⟨101, _⟩ => ⟨S8192x1, .f32⟩
  | .hbm, ⟨102, _⟩ => ⟨S8192x1, .f32⟩
  | .hbm, ⟨103, _⟩ => ⟨S_, .f32⟩
  | .hbm, ⟨104, _⟩ => ⟨S8192, .f32⟩
  | .hbm, ⟨105, _⟩ => ⟨S8192x1024, .f32⟩
  | .hbm, ⟨106, _⟩ => ⟨S8192x1024, .f32⟩
  | .hbm, ⟨107, _⟩ => ⟨S8192x1024, .f32⟩
  | .hbm, ⟨108, _⟩ => ⟨S8192x1024, .f32⟩
  | .hbm, ⟨109, _⟩ => ⟨S8192x1024, .f32⟩
  | .hbm, ⟨110, _⟩ => ⟨S8192x8x704, .f32⟩
  | .hbm, ⟨111, _⟩ => ⟨S8x8192x704, .f32⟩
  | .hbm, ⟨112, _⟩ => ⟨S8x8192x704, .bf16⟩
  | .hbm, ⟨113, _⟩ => ⟨S1x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_cst_5 : Ref sig .tc := ⟨.hbm, 32, rfl⟩
abbrev main_v20 : Ref sig .tc := ⟨.hbm, 33, rfl⟩
abbrev main_cst_6 : Ref sig .tc := ⟨.hbm, 34, rfl⟩
abbrev main_v21 : Ref sig .tc := ⟨.hbm, 35, rfl⟩
abbrev main_v22 : Ref sig .tc := ⟨.hbm, 36, rfl⟩
abbrev main_cst_7 : Ref sig .tc := ⟨.hbm, 37, rfl⟩
abbrev main_v23 : Ref sig .tc := ⟨.hbm, 38, rfl⟩
abbrev main_cst_8 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_cst_9 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_10 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_cst_11 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_12 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_cst_13 : Ref sig .tc := ⟨.hbm, 90, rfl⟩
abbrev main_v70 : Ref sig .tc := ⟨.hbm, 91, rfl⟩
abbrev main_v71 : Ref sig .tc := ⟨.hbm, 92, rfl⟩
abbrev main_cst_14 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_15 : Ref sig .tc := ⟨.hbm, 100, rfl⟩
abbrev main_v78 : Ref sig .tc := ⟨.hbm, 101, rfl⟩
abbrev main_v79 : Ref sig .tc := ⟨.hbm, 102, rfl⟩
abbrev main_cst_16 : Ref sig .tc := ⟨.hbm, 103, rfl⟩
abbrev main_v80 : Ref sig .tc := ⟨.hbm, 104, rfl⟩
abbrev main_v81 : Ref sig .tc := ⟨.hbm, 105, rfl⟩
abbrev main_v82 : Ref sig .tc := ⟨.hbm, 106, rfl⟩
abbrev main_v83 : Ref sig .tc := ⟨.hbm, 107, rfl⟩
abbrev main_v84 : Ref sig .tc := ⟨.hbm, 108, rfl⟩
abbrev main_v85 : Ref sig .tc := ⟨.hbm, 109, rfl⟩
abbrev main_v86 : Ref sig .tc := ⟨.hbm, 110, rfl⟩
abbrev main_v87 : Ref sig .tc := ⟨.hbm, 111, rfl⟩
abbrev main_v88 : Ref sig .tc := ⟨.hbm, 112, rfl⟩
abbrev main_v89 : Ref sig .tc := ⟨.hbm, 113, rfl⟩

abbrev nD : Nat := 1
abbrev τ : Topo := Topo.v7x

variable {F : FTy → Type} [FloatOps F]
-- ==== KernelFd.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S8192x2x4x704 : Shape := ⟨4, ![8192, 2, 4, 704]⟩
abbrev S4x2x8192x704 : Shape := ⟨4, ![4, 2, 8192, 704]⟩
abbrev S3x8x704 : Shape := ⟨3, ![3, 8, 704]⟩
abbrev S8x3x704 : Shape := ⟨3, ![8, 3, 704]⟩
abbrev S2x4x3x704 : Shape := ⟨4, ![2, 4, 3, 704]⟩
abbrev S2x4x1x704 : Shape := ⟨4, ![2, 4, 1, 704]⟩
abbrev S1x2x1024x704 : Shape := ⟨4, ![1, 2, 1024, 704]⟩
abbrev S1x2x8x704 : Shape := ⟨4, ![1, 2, 8, 704]⟩
abbrev S2x1x3x704 : Shape := ⟨4, ![2, 1, 3, 704]⟩
abbrev S2x1x1x704 : Shape := ⟨4, ![2, 1, 1, 704]⟩
abbrev S704x1024 : Shape := ⟨2, ![704, 1024]⟩
abbrev S1024x1024 : Shape := ⟨2, ![1024, 1024]⟩
abbrev S2x3x704 : Shape := ⟨3, ![2, 3, 704]⟩
abbrev S2x1x704 : Shape := ⟨3, ![2, 1, 704]⟩
abbrev S1x1x1024x704 : Shape := ⟨4, ![1, 1, 1024, 704]⟩
abbrev S1024x704 : Shape := ⟨2, ![1024, 704]⟩
abbrev S1x1x8x704 : Shape := ⟨4, ![1, 1, 8, 704]⟩
abbrev S8x704 : Shape := ⟨2, ![8, 704]⟩
abbrev S1x8x704 : Shape := ⟨3, ![1, 8, 704]⟩
abbrev S128x8x704 : Shape := ⟨3, ![128, 8, 704]⟩
abbrev S129x8x704 : Shape := ⟨3, ![129, 8, 704]⟩
abbrev S1x1x3x704 : Shape := ⟨4, ![1, 1, 3, 704]⟩
abbrev S3x704 : Shape := ⟨2, ![3, 704]⟩
abbrev S1x1x1x704 : Shape := ⟨4, ![1, 1, 1, 704]⟩
abbrev S1x704 : Shape := ⟨2, ![1, 704]⟩
abbrev S704 : Shape := ⟨1, ![704]⟩

abbrev nBuf : Space → Nat
  | .hbm => 16
  | .vmem => 22
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S8192x1024, .f32⟩
  | .hbm, ⟨5, _⟩ => ⟨S8192x2x4x704, .f32⟩
  | .hbm, ⟨6, _⟩ => ⟨S4x2x8192x704, .f32⟩
  | .hbm, ⟨7, _⟩ => ⟨S3x8x704, .f32⟩
  | .hbm, ⟨8, _⟩ => ⟨S8x3x704, .f32⟩
  | .hbm, ⟨9, _⟩ => ⟨S2x4x3x704, .f32⟩
  | .hbm, ⟨10, _⟩ => ⟨S2x4x1x704, .f32⟩
  | .hbm, ⟨11, _⟩ => ⟨S2816x1024, .bf16⟩
  | .hbm, ⟨12, _⟩ => ⟨S4x2x8192x704, .f32⟩
  | .hbm, ⟨13, _⟩ => ⟨S2816x1024, .f32⟩
  | .hbm, ⟨14, _⟩ => ⟨S2x4x3x704, .f32⟩
  | .hbm, ⟨15, _⟩ => ⟨S2x4x1x704, .f32⟩
  | .local _ .vmem, ⟨0, _⟩ => ⟨S1x2x1024x704, .f32⟩
  | .local _ .vmem, ⟨1, _⟩ => ⟨S1x2x1024x704, .f32⟩
  | .local _ .vmem, ⟨2, _⟩ => ⟨S1x2x8x704, .f32⟩
  | .local _ .vmem, ⟨3, _⟩ => ⟨S1x2x8x704, .f32⟩
  | .local _ .vmem, ⟨4, _⟩ => ⟨S1x2x8x704, .f32⟩
  | .local _ .vmem, ⟨5, _⟩ => ⟨S1x2x8x704, .f32⟩
  | .local _ .vmem, ⟨6, _⟩ => ⟨S2x1x3x704, .f32⟩
  | .local _ .vmem, ⟨7, _⟩ => ⟨S2x1x3x704, .f32⟩
  | .local _ .vmem, ⟨8, _⟩ => ⟨S2x1x1x704, .f32⟩
  | .local _ .vmem, ⟨9, _⟩ => ⟨S2x1x1x704, .f32⟩
  | .local _ .vmem, ⟨10, _⟩ => ⟨S704x1024, .bf16⟩
  | .local _ .vmem, ⟨11, _⟩ => ⟨S704x1024, .bf16⟩
  | .local _ .vmem, ⟨12, _⟩ => ⟨S1024x1024, .f32⟩
  | .local _ .vmem, ⟨13, _⟩ => ⟨S1024x1024, .f32⟩
  | .local _ .vmem, ⟨14, _⟩ => ⟨S1x2x1024x704, .f32⟩
  | .local _ .vmem, ⟨15, _⟩ => ⟨S1x2x1024x704, .f32⟩
  | .local _ .vmem, ⟨16, _⟩ => ⟨S704x1024, .f32⟩
  | .local _ .vmem, ⟨17, _⟩ => ⟨S704x1024, .f32⟩
  | .local _ .vmem, ⟨18, _⟩ => ⟨S2x1x3x704, .f32⟩
  | .local _ .vmem, ⟨19, _⟩ => ⟨S2x1x3x704, .f32⟩
  | .local _ .vmem, ⟨20, _⟩ => ⟨S2x1x1x704, .f32⟩
  | .local _ .vmem, ⟨21, _⟩ => ⟨S2x1x1x704, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21

abbrev nD : Nat := 1
abbrev τ : Topo := Topo.v7x

variable {F : FTy → Type} [FloatOps F]

abbrev grid0 : Pipeline.Grid := ⟨2, ![4, 8], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c128_i32 : BitVec 32 := 128#32
  let v0 : BitVec 32 := Scalar.muli arg1 c128_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  let c0_i32_1 : BitVec 32 := 0#32
  let c0_i32_2 : BitVec 32 := 0#32
  ![arg0.toNat, c0_i32_0.toNat, v2.toNat, c0_i32_1.toNat]

def cc0_transform_2 (i : grid0.Coords) : Fin 4 → Nat :=
  let arg0 : BitVec 32 := BitVec.ofNat 32 (i 0).val
  let arg1 : BitVec 32 := BitVec.ofNat 32 (i 1).val
  let c1_i32 : BitVec 32 := 1#32
  let v0 : BitVec 32 := Scalar.addi arg1 c1_i32
  let c128_i32 : BitVec 32 := 128#32
  let v1 : BitVec 32 := Scalar.muli v0 c128_i32
  let c1023_i32 : BitVec 32 := 1023#32
  let v2 : BitVec 32 := Scalar.minsi v1 c1023_i32
  let c0_i32 : BitVec 32 := 0#32
  let c0_i32_0 : BitVec 32 := 0#32
  let c0_i32_1 : BitVec 32 := 0#32
  ![arg0.toNat, c0_i32.toNat, v2.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

abbrev stage0_0 : Fin 2 → Memref sig .tc .vmem S1x2x1024x704 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x8x704 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2x8x704 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S2x1x3x704 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x1x1x704 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S704x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1x2x1024x704 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1x3x704 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S2x1x1x704 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceFdIdeal.lean ====
abbrev S8192x5632 : Shape := ⟨2, ![8192, 5632]⟩
abbrev S3x5632 : Shape := ⟨2, ![3, 5632]⟩
abbrev S5632 : Shape := ⟨1, ![5632]⟩
abbrev S2816x1024 : Shape := ⟨2, ![2816, 1024]⟩
abbrev S8192x1024 : Shape := ⟨2, ![8192, 1024]⟩
abbrev S_ : Shape := ⟨0, ![]⟩
abbrev S1x5632 : Shape := ⟨2, ![1, 5632]⟩
abbrev S8194x5632 : Shape := ⟨2, ![8194, 5632]⟩
abbrev S8192x2816 : Shape := ⟨2, ![8192, 2816]⟩
abbrev S1024x2816 : Shape := ⟨2, ![1024, 2816]⟩
abbrev S8192x2x4x704 : Shape := ⟨4, ![8192, 2, 4, 704]⟩
abbrev S4x2x8192x704 : Shape := ⟨4, ![4, 2, 8192, 704]⟩
abbrev S3x8x704 : Shape := ⟨3, ![3, 8, 704]⟩
abbrev S8x3x704 : Shape := ⟨3, ![8, 3, 704]⟩
abbrev S2x4x3x704 : Shape := ⟨4, ![2, 4, 3, 704]⟩
abbrev S2x4x1x704 : Shape := ⟨4, ![2, 4, 1, 704]⟩

abbrev nBuf : Space → Nat
  | .hbm => 107
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S3x5632, .f32⟩
  | .hbm, ⟨2, _⟩ => ⟨S5632, .f32⟩
  | .hbm, ⟨3, _⟩ => ⟨S2816x1024, .f32⟩
  | .hbm, ⟨4, _⟩ => ⟨S8192x1024, .f32⟩
  | .hbm, ⟨5, _⟩ => ⟨S_, .f32⟩
  | .hbm, ⟨6, _⟩ => ⟨S8192x5632, .f32⟩
  | .hbm, ⟨7, _⟩ => ⟨S_, .f32⟩
  | .hbm, ⟨8, _⟩ => ⟨S1x5632, .f32⟩
  | .hbm, ⟨9, _⟩ => ⟨S_, .f32⟩
  | .hbm, ⟨10, _⟩ => ⟨S1x5632, .f32⟩
  | .hbm, ⟨11, _⟩ => ⟨S8194x5632, .f32⟩
  | .hbm, ⟨12, _⟩ => ⟨S8192x5632, .f32⟩
  | .hbm, ⟨13, _⟩ => ⟨S1x5632, .f32⟩
  | .hbm, ⟨14, _⟩ => ⟨S5632, .f32⟩
  | .hbm, ⟨15, _⟩ => ⟨S1x5632, .f32⟩
  | .hbm, ⟨16, _⟩ => ⟨S8192x5632, .f32⟩
  | .hbm, ⟨17, _⟩ => ⟨S8192x5632, .f32⟩
  | .hbm, ⟨18, _⟩ => ⟨S1x5632, .f32⟩
  | .hbm, ⟨19, _⟩ => ⟨S8192x5632, .f32⟩
  | .hbm, ⟨20, _⟩ => ⟨S8192x5632, .f32⟩
  | .hbm, ⟨21, _⟩ => ⟨S8192x5632, .f32⟩
  | .hbm, ⟨22, _⟩ => ⟨S1x5632, .f32⟩
  | .hbm, ⟨23, _⟩ => ⟨S5632, .f32⟩
  | .hbm, ⟨24, _⟩ => ⟨S1x5632, .f32⟩
  | .hbm, ⟨25, _⟩ => ⟨S8192x5632, .f32⟩
  | .hbm, ⟨26, _⟩ => ⟨S8192x5632, .f32⟩
  | .hbm, ⟨27, _⟩ => ⟨S8192x5632, .f32⟩
  | .hbm, ⟨28, _⟩ => ⟨S8192x5632, .f32⟩
  | .hbm, ⟨29, _⟩ => ⟨S1x5632, .f32⟩
  | .hbm, ⟨30, _⟩ => ⟨S5632, .f32⟩
  | .hbm, ⟨31, _⟩ => ⟨S1x5632, .f32⟩
  | .hbm, ⟨32, _⟩ => ⟨S8192x5632, .f32⟩
  | .hbm, ⟨33, _⟩ => ⟨S8192x5632, .f32⟩
  | .hbm, ⟨34, _⟩ => ⟨S8192x5632, .f32⟩
  | .hbm, ⟨35, _⟩ => ⟨S8192x5632, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S_, .f32⟩
  | .hbm, ⟨41, _⟩ => ⟨S8192x2816, .f32⟩
  | .hbm, ⟨42, _⟩ => ⟨S8192x2816, .f32⟩
  | .hbm, ⟨43, _⟩ => ⟨S_, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x1024, .f32⟩
  | .hbm, ⟨53, _⟩ => ⟨S1024x2816, .f32⟩
  | .hbm, ⟨54, _⟩ => ⟨S2816x1024, .f32⟩
  | .hbm, ⟨55, _⟩ => ⟨S8192x2816, .f32⟩
  | .hbm, ⟨56, _⟩ => ⟨S8192x2816, .f32⟩
  | .hbm, ⟨57, _⟩ => ⟨S8192x2816, .f32⟩
  | .hbm, ⟨58, _⟩ => ⟨S8192x2816, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S_, .f32⟩
  | .hbm, ⟨63, _⟩ => ⟨S8192x5632, .f32⟩
  | .hbm, ⟨64, _⟩ => ⟨S_, .f32⟩
  | .hbm, ⟨65, _⟩ => ⟨S8192x5632, .f32⟩
  | .hbm, ⟨66, _⟩ => ⟨S8192x5632, .f32⟩
  | .hbm, ⟨67, _⟩ => ⟨S8192x5632, .f32⟩
  | .hbm, ⟨68, _⟩ => ⟨S_, .f32⟩
  | .hbm, ⟨69, _⟩ => ⟨S5632, .f32⟩
  | .hbm, ⟨70, _⟩ => ⟨S1x5632, .f32⟩
  | .hbm, ⟨71, _⟩ => ⟨S_, .f32⟩
  | .hbm, ⟨72, _⟩ => ⟨S5632, .f32⟩
  | .hbm, ⟨73, _⟩ => ⟨S1x5632, .f32⟩
  | .hbm, ⟨74, _⟩ => ⟨S_, .f32⟩
  | .hbm, ⟨75, _⟩ => ⟨S3x5632, .f32⟩
  | .hbm, ⟨76, _⟩ => ⟨S8192x5632, .f32⟩
  | .hbm, ⟨77, _⟩ => ⟨S_, .f32⟩
  | .hbm, ⟨78, _⟩ => ⟨S5632, .f32⟩
  | .hbm, ⟨79, _⟩ => ⟨S1x5632, .f32⟩
  | .hbm, ⟨80, _⟩ => ⟨S_, .f32⟩
  | .hbm, ⟨81, _⟩ => ⟨S5632, .f32⟩
  | .hbm, ⟨82, _⟩ => ⟨S1x5632, .f32⟩
  | .hbm, ⟨83, _⟩ => ⟨S_, .f32⟩
  | .hbm, ⟨84, _⟩ => ⟨S3x5632, .f32⟩
  | .hbm, ⟨85, _⟩ => ⟨S3x5632, .f32⟩
  | .hbm, ⟨86, _⟩ => ⟨S_, .f32⟩
  | .hbm, ⟨87, _⟩ => ⟨S5632, .f32⟩
  | .hbm, ⟨88, _⟩ => ⟨S1x5632, .f32⟩
  | .hbm, ⟨89, _⟩ => ⟨S_, .f32⟩
  | .hbm, ⟨90, _⟩ => ⟨S5632, .f32⟩
  | .hbm, ⟨91, _⟩ => ⟨S8192x5632, .f32⟩
  | .hbm, ⟨92, _⟩ => ⟨S_, .f32⟩
  | .hbm, ⟨93, _⟩ => ⟨S5632, .f32⟩
  | .hbm, ⟨94, _⟩ => ⟨S1x5632, .f32⟩
  | .hbm, ⟨95, _⟩ => ⟨S_, .f32⟩
  | .hbm, ⟨96, _⟩ => ⟨S5632, .f32⟩
  | .hbm, ⟨97, _⟩ => ⟨S1x5632, .f32⟩
  | .hbm, ⟨98, _⟩ => ⟨S_, .f32⟩
  | .hbm, ⟨99, _⟩ => ⟨S3x5632, .f32⟩
  | .hbm, ⟨100, _⟩ => ⟨S3x5632, .f32⟩
  | .hbm, ⟨101, _⟩ => ⟨S8192x2x4x704, .f32⟩
  | .hbm, ⟨102, _⟩ => ⟨S4x2x8192x704, .f32⟩
  | .hbm, ⟨103, _⟩ => ⟨S3x8x704, .f32⟩
  | .hbm, ⟨104, _⟩ => ⟨S8x3x704, .f32⟩
  | .hbm, ⟨105, _⟩ => ⟨S2x4x3x704, .f32⟩
  | .hbm, ⟨106, _⟩ => ⟨S2x4x1x704, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_cst_1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_v30_2 : Ref sig .tc := ⟨.hbm, 45, rfl⟩
abbrev main_call0_cst_1 : Ref sig .tc := ⟨.hbm, 46, rfl⟩
abbrev main_call0_v6 : Ref sig .tc := ⟨.hbm, 47, rfl⟩
abbrev main_call0_v7 : Ref sig .tc := ⟨.hbm, 48, rfl⟩
abbrev main_v30_1 : Ref sig .tc := ⟨.hbm, 49, rfl⟩
abbrev main_v30_0 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v38 : Ref sig .tc := ⟨.hbm, 61, rfl⟩
abbrev main_cst_2 : Ref sig .tc := ⟨.hbm, 62, rfl⟩
abbrev main_v39 : Ref sig .tc := ⟨.hbm, 63, rfl⟩
abbrev main_cst_3 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_cst_4 : Ref sig .tc := ⟨.hbm, 68, rfl⟩
abbrev main_v43 : Ref sig .tc := ⟨.hbm, 69, rfl⟩
abbrev main_v44 : Ref sig .tc := ⟨.hbm, 70, rfl⟩
abbrev main_cst_5 : Ref sig .tc := ⟨.hbm, 71, rfl⟩
abbrev main_v45 : Ref sig .tc := ⟨.hbm, 72, rfl⟩
abbrev main_v46 : Ref sig .tc := ⟨.hbm, 73, rfl⟩
abbrev main_cst_6 : Ref sig .tc := ⟨.hbm, 74, rfl⟩
abbrev main_v47 : Ref sig .tc := ⟨.hbm, 75, rfl⟩
abbrev main_v48 : Ref sig .tc := ⟨.hbm, 76, rfl⟩
abbrev main_cst_7 : Ref sig .tc := ⟨.hbm, 77, rfl⟩
abbrev main_v49 : Ref sig .tc := ⟨.hbm, 78, rfl⟩
abbrev main_v50 : Ref sig .tc := ⟨.hbm, 79, rfl⟩
abbrev main_cst_8 : Ref sig .tc := ⟨.hbm, 80, rfl⟩
abbrev main_v51 : Ref sig .tc := ⟨.hbm, 81, rfl⟩
abbrev main_v52 : Ref sig .tc := ⟨.hbm, 82, rfl⟩
abbrev main_cst_9 : Ref sig .tc := ⟨.hbm, 83, rfl⟩
abbrev main_v53 : Ref sig .tc := ⟨.hbm, 84, rfl⟩
abbrev main_v54 : Ref sig .tc := ⟨.hbm, 85, rfl⟩
abbrev main_cst_10 : Ref sig .tc := ⟨.hbm, 86, rfl⟩
abbrev main_v55 : Ref sig .tc := ⟨.hbm, 87, rfl⟩
abbrev main_v56 : Ref sig .tc := ⟨.hbm, 88, rfl⟩
abbrev main_cst_11 : Ref sig .tc := ⟨.hbm, 89, rfl⟩
abbrev main_v57 : Ref sig .tc := ⟨.hbm, 90, rfl⟩
abbrev main_v58 : Ref sig .tc := ⟨.hbm, 91, rfl⟩
abbrev main_cst_12 : Ref sig .tc := ⟨.hbm, 92, rfl⟩
abbrev main_v59 : Ref sig .tc := ⟨.hbm, 93, rfl⟩
abbrev main_v60 : Ref sig .tc := ⟨.hbm, 94, rfl⟩
abbrev main_cst_13 : Ref sig .tc := ⟨.hbm, 95, rfl⟩
abbrev main_v61 : Ref sig .tc := ⟨.hbm, 96, rfl⟩
abbrev main_v62 : Ref sig .tc := ⟨.hbm, 97, rfl⟩
abbrev main_cst_14 : Ref sig .tc := ⟨.hbm, 98, rfl⟩
abbrev main_v63 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩

abbrev nD : Nat := 1
abbrev τ : Topo := Topo.v7x

variable {F : FTy → Type} [FloatOps F]
-- ==== KernelMkv.lean ====
abbrev S256x1024 : Shape := ⟨2, ![256, 1024]⟩
abbrev S1024 : Shape := ⟨1, ![1024]⟩
abbrev S128 : Shape := ⟨1, ![128]⟩
abbrev S1024x1024 : Shape := ⟨2, ![1024, 1024]⟩
abbrev S256x512 : Shape := ⟨2, ![256, 512]⟩
abbrev S1x1024 : Shape := ⟨2, ![1, 1024]⟩
abbrev S1x128 : Shape := ⟨2, ![1, 128]⟩
abbrev S256 : Shape := ⟨1, ![256]⟩
abbrev S256x1 : Shape := ⟨2, ![256, 1]⟩
abbrev S256x128 : Shape := ⟨2, ![256, 128]⟩
abbrev S256x384 : Shape := ⟨2, ![256, 384]⟩
abbrev S256x256 : Shape := ⟨2, ![256, 256]⟩
abbrev S256x640 : Shape := ⟨2, ![256, 640]⟩
abbrev S256x768 : Shape := ⟨2, ![256, 768]⟩
abbrev S256x896 : Shape := ⟨2, ![256, 896]⟩

abbrev nBuf : Space → Nat
  | .hbm => 12
  | .vmem => 9
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S128, .f32⟩
  | .hbm, ⟨3, _⟩ => ⟨S1024x1024, .f32⟩
  | .hbm, ⟨4, _⟩ => ⟨S256x512, .f32⟩
  | .hbm, ⟨5, _⟩ => ⟨S256x512, .f32⟩
  | .hbm, ⟨6, _⟩ => ⟨S1x1024, .f32⟩
  | .hbm, ⟨7, _⟩ => ⟨S1x128, .f32⟩
  | .hbm, ⟨8, _⟩ => ⟨S1024x1024, .bf16⟩
  | .hbm, ⟨9, _⟩ => ⟨S1x1024, .f32⟩
  | .hbm, ⟨10, _⟩ => ⟨S1x128, .f32⟩
  | .hbm, ⟨11, _⟩ => ⟨S1024x1024, .f32⟩
  | .local _ .vmem, ⟨0, _⟩ => ⟨S256x1024, .f32⟩
  | .local _ .vmem, ⟨1, _⟩ => ⟨S1x1024, .f32⟩
  | .local _ .vmem, ⟨2, _⟩ => ⟨S1x128, .f32⟩
  | .local _ .vmem, ⟨3, _⟩ => ⟨S1024x1024, .bf16⟩
  | .local _ .vmem, ⟨4, _⟩ => ⟨S256x512, .f32⟩
  | .local _ .vmem, ⟨5, _⟩ => ⟨S256x512, .f32⟩
  | .local _ .vmem, ⟨6, _⟩ => ⟨S1x1024, .f32⟩
  | .local _ .vmem, ⟨7, _⟩ => ⟨S1x128, .f32⟩
  | .local _ .vmem, ⟨8, _⟩ => ⟨S1024x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1024x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceMkvIdeal.lean ====
abbrev S256x1024 : Shape := ⟨2, ![256, 1024]⟩
abbrev S1024 : Shape := ⟨1, ![1024]⟩
abbrev S128 : Shape := ⟨1, ![128]⟩
abbrev S1024x1024 : Shape := ⟨2, ![1024, 1024]⟩
abbrev S256x512 : Shape := ⟨2, ![256, 512]⟩
abbrev S_ : Shape := ⟨0, ![]⟩
abbrev S256 : Shape := ⟨1, ![256]⟩
abbrev S256x1 : Shape := ⟨2, ![256, 1]⟩
abbrev S1x1024 : Shape := ⟨2, ![1, 1024]⟩
abbrev S256x4x128 : Shape := ⟨3, ![256, 4, 128]⟩
abbrev S256x4 : Shape := ⟨2, ![256, 4]⟩
abbrev S256x4x1 : Shape := ⟨3, ![256, 4, 1]⟩
abbrev S1x1x128 : Shape := ⟨3, ![1, 1, 128]⟩
abbrev S1x128 : Shape := ⟨2, ![1, 128]⟩

abbrev nBuf : Space → Nat
  | .hbm => 89
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S128, .f32⟩
  | .hbm, ⟨3, _⟩ => ⟨S1024x1024, .f32⟩
  | .hbm, ⟨4, _⟩ => ⟨S256x512, .f32⟩
  | .hbm, ⟨5, _⟩ => ⟨S256x512, .f32⟩
  | .hbm, ⟨6, _⟩ => ⟨S256x1024, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x1024, .f32⟩
  | .hbm, ⟨18, _⟩ => ⟨S256x1024, .f32⟩
  | .hbm, ⟨19, _⟩ => ⟨S1x1024, .f32⟩
  | .hbm, ⟨20, _⟩ => ⟨S256x1024, .f32⟩
  | .hbm, ⟨21, _⟩ => ⟨S256x1024, .f32⟩
  | .hbm, ⟨22, _⟩ => ⟨S256x1024, .f32⟩
  | .hbm, ⟨23, _⟩ => ⟨S256x512, .f32⟩
  | .hbm, ⟨24, _⟩ => ⟨S256x4x128, .f32⟩
  | .hbm, ⟨25, _⟩ => ⟨S256x4x128, .f32⟩
  | .hbm, ⟨26, _⟩ => ⟨S_, .f32⟩
  | .hbm, ⟨27, _⟩ => ⟨S256x4, .f32⟩
  | .hbm, ⟨28, _⟩ => ⟨S256x4x1, .f32⟩
  | .hbm, ⟨29, _⟩ => ⟨S_, .f32⟩
  | .hbm, ⟨30, _⟩ => ⟨S256x4x1, .f32⟩
  | .hbm, ⟨31, _⟩ => ⟨S256x4x1, .f32⟩
  | .hbm, ⟨32, _⟩ => ⟨S_, .f32⟩
  | .hbm, ⟨33, _⟩ => ⟨S256x4x1, .f32⟩
  | .hbm, ⟨34, _⟩ => ⟨S256x4x1, .f32⟩
  | .hbm, ⟨35, _⟩ => ⟨S256x4x1, .f32⟩
  | .hbm, ⟨36, _⟩ => ⟨S256x4x1, .f32⟩
  | .hbm, ⟨37, _⟩ => ⟨S_, .f32⟩
  | .hbm, ⟨38, _⟩ => ⟨S256x4x1, .f32⟩
  | .hbm, ⟨39, _⟩ => ⟨S256x4x1, .f32⟩
  | .hbm, ⟨40, _⟩ => ⟨S256x4x128, .f32⟩
  | .hbm, ⟨41, _⟩ => ⟨S256x4x128, .f32⟩
  | .hbm, ⟨42, _⟩ => ⟨S1x1x128, .f32⟩
  | .hbm, ⟨43, _⟩ => ⟨S256x4x128, .f32⟩
  | .hbm, ⟨44, _⟩ => ⟨S256x4x128, .f32⟩
  | .hbm, ⟨45, _⟩ => ⟨S256x512, .f32⟩
  | .hbm, ⟨46, _⟩ => ⟨S256x4x128, .f32⟩
  | .hbm, ⟨47, _⟩ => ⟨S_, .f32⟩
  | .hbm, ⟨48, _⟩ => ⟨S256x1024, .f32⟩
  | .hbm, ⟨49, _⟩ => ⟨S256x4x128, .f32⟩
  | .hbm, ⟨50, _⟩ => ⟨S_, .f32⟩
  | .hbm, ⟨51, _⟩ => ⟨S128, .f32⟩
  | .hbm, ⟨52, _⟩ => ⟨S1x1x128, .f32⟩
  | .hbm, ⟨53, _⟩ => ⟨S256x4x128, .f32⟩
  | .hbm, ⟨54, _⟩ => ⟨S256x4x128, .f32⟩
  | .hbm, ⟨55, _⟩ => ⟨S_, .f32⟩
  | .hbm, ⟨56, _⟩ => ⟨S128, .f32⟩
  | .hbm, ⟨57, _⟩ => ⟨S256x4x128, .f32⟩
  | .hbm, ⟨58, _⟩ => ⟨S_, .f32⟩
  | .hbm, ⟨59, _⟩ => ⟨S256x4, .f32⟩
  | .hbm, ⟨60, _⟩ => ⟨S256x4x1, .f32⟩
  | .hbm, ⟨61, _⟩ => ⟨S256x4x128, .f32⟩
  | .hbm, ⟨62, _⟩ => ⟨S256x4x128, .f32⟩
  | .hbm, ⟨63, _⟩ => ⟨S256x4x1, .f32⟩
  | .hbm, ⟨64, _⟩ => ⟨S_, .f32⟩
  | .hbm, ⟨65, _⟩ => ⟨S256x4x1, .f32⟩
  | .hbm, ⟨66, _⟩ => ⟨S256x4x1, .f32⟩
  | .hbm, ⟨67, _⟩ => ⟨S_, .f32⟩
  | .hbm, ⟨68, _⟩ => ⟨S256x4, .f32⟩
  | .hbm, ⟨69, _⟩ => ⟨S256x4x128, .f32⟩
  | .hbm, ⟨70, _⟩ => ⟨S256x4x128, .f32⟩
  | .hbm, ⟨71, _⟩ => ⟨S256x4x128, .f32⟩
  | .hbm, ⟨72, _⟩ => ⟨S256x4x128, .f32⟩
  | .hbm, ⟨73, _⟩ => ⟨S256x4x128, .f32⟩
  | .hbm, ⟨74, _⟩ => ⟨S256x512, .f32⟩
  | .hbm, ⟨75, _⟩ => ⟨S_, .f32⟩
  | .hbm, ⟨76, _⟩ => ⟨S256x1024, .f32⟩
  | .hbm, ⟨77, _⟩ => ⟨S256x1024, .f32⟩
  | .hbm, ⟨78, _⟩ => ⟨S1024x1024, .f32⟩
  | .hbm, ⟨79, _⟩ => ⟨S1024x1024, .f32⟩
  | .hbm, ⟨80, _⟩ => ⟨S256x1024, .f32⟩
  | .hbm, ⟨81, _⟩ => ⟨S256x1024, .f32⟩
  | .hbm, ⟨82, _⟩ => ⟨S_, .f32⟩
  | .hbm, ⟨83, _⟩ => ⟨S1024, .f32⟩
  | .hbm, ⟨84, _⟩ => ⟨S1x1024, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S1x128, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_2 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_cst_5 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_cst_11 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩

abbrev nD : Nat := 1
abbrev τ : Topo := Topo.v7x

variable {F : FTy → Type} [FloatOps F]
-- ==== KernelMix.lean ====
abbrev S8192x1024 : Shape := ⟨2, ![8192, 1024]⟩
abbrev S8192x512 : Shape := ⟨2, ![8192, 512]⟩
abbrev S8192x1440 : Shape := ⟨2, ![8192, 1440]⟩
abbrev S512 : Shape := ⟨1, ![512]⟩
abbrev S1024x1024 : Shape := ⟨2, ![1024, 1024]⟩
abbrev S_ : Shape := ⟨0, ![]⟩
abbrev S8192x1536 : Shape := ⟨2, ![8192, 1536]⟩
abbrev S1x512 : Shape := ⟨2, ![1, 512]⟩
abbrev S512x1024 : Shape := ⟨2, ![512, 1024]⟩
abbrev S4x2x8192 : Shape := ⟨3, ![4, 2, 8192]⟩
abbrev S512x512 : Shape := ⟨2, ![512, 512]⟩
abbrev S4x2x512 : Shape := ⟨3, ![4, 2, 512]⟩
abbrev S512x1 : Shape := ⟨2, ![512, 1]⟩
abbrev S512x128 : Shape := ⟨2, ![512, 128]⟩
abbrev S128x512 : Shape := ⟨2, ![128, 512]⟩
abbrev S64x512 : Shape := ⟨2, ![64, 512]⟩
abbrev S1x1x512 : Shape := ⟨3, ![1, 1, 512]⟩

abbrev nBuf : Space → Nat
  | .hbm => 24
  | .vmem => 26
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S8192x1440, .f32⟩
  | .hbm, ⟨4, _⟩ => ⟨S8192x512, .f32⟩
  | .hbm, ⟨5, _⟩ => ⟨S512, .f32⟩
  | .hbm, ⟨6, _⟩ => ⟨S512, .f32⟩
  | .hbm, ⟨7, _⟩ => ⟨S1024x1024, .f32⟩
  | .hbm, ⟨8, _⟩ => ⟨S_, .i32⟩
  | .hbm, ⟨9, _⟩ => ⟨S_, .f32⟩
  | .hbm, ⟨10, _⟩ => ⟨S8192x1536, .f32⟩
  | .hbm, ⟨11, _⟩ => ⟨S1024x1024, .bf16⟩
  | .hbm, ⟨12, _⟩ => ⟨S1x512, .f32⟩
  | .hbm, ⟨13, _⟩ => ⟨S1x512, .f32⟩
  | .hbm, ⟨14, _⟩ => ⟨S512x1024, .bf16⟩
  | .hbm, ⟨15, _⟩ => ⟨S512x1024, .bf16⟩
  | .hbm, ⟨16, _⟩ => ⟨S8192x512, .f32⟩
  | .hbm, ⟨17, _⟩ => ⟨S8192x512, .f32⟩
  | .hbm, ⟨18, _⟩ => ⟨S8192x512, .f32⟩
  | .hbm, ⟨19, _⟩ => ⟨S4x2x8192, .f32⟩
  | .hbm, ⟨20, _⟩ => ⟨S1x512, .f32⟩
  | .hbm, ⟨21, _⟩ => ⟨S1x512, .f32⟩
  | .hbm, ⟨22, _⟩ => ⟨S512x1024, .f32⟩
  | .hbm, ⟨23, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x512, .f32⟩
  | .local _ .vmem, ⟨7, _⟩ => ⟨S512x512, .f32⟩
  | .local _ .vmem, ⟨8, _⟩ => ⟨S512x512, .f32⟩
  | .local _ .vmem, ⟨9, _⟩ => ⟨S512x512, .f32⟩
  | .local _ .vmem, ⟨10, _⟩ => ⟨S1x512, .f32⟩
  | .local _ .vmem, ⟨11, _⟩ => ⟨S1x512, .f32⟩
  | .local _ .vmem, ⟨12, _⟩ => ⟨S512x1024, .bf16⟩
  | .local _ .vmem, ⟨13, _⟩ => ⟨S512x1024, .bf16⟩
  | .local _ .vmem, ⟨14, _⟩ => ⟨S512x512, .f32⟩
  | .local _ .vmem, ⟨15, _⟩ => ⟨S512x512, .f32⟩
  | .local _ .vmem, ⟨16, _⟩ => ⟨S512x512, .f32⟩
  | .local _ .vmem, ⟨17, _⟩ => ⟨S512x512, .f32⟩
  | .local _ .vmem, ⟨18, _⟩ => ⟨S512x512, .f32⟩
  | .local _ .vmem, ⟨19, _⟩ => ⟨S512x512, .f32⟩
  | .local _ .vmem, ⟨20, _⟩ => ⟨S4x2x512, .f32⟩
  | .local _ .vmem, ⟨21, _⟩ => ⟨S4x2x512, .f32⟩
  | .local _ .vmem, ⟨22, _⟩ => ⟨S1x512, .f32⟩
  | .local _ .vmem, ⟨23, _⟩ => ⟨S1x512, .f32⟩
  | .local _ .vmem, ⟨24, _⟩ => ⟨S512x1024, .f32⟩
  | .local _ .vmem, ⟨25, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_c : Ref sig .tc := ⟨.hbm, 8, rfl⟩
abbrev main_call0_v0 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev main_v6_4 : Ref sig .tc := ⟨.hbm, 20, rfl⟩
abbrev main_v6_5 : Ref sig .tc := ⟨.hbm, 21, rfl⟩
abbrev main_v6_6 : Ref sig .tc := ⟨.hbm, 22, rfl⟩
abbrev main_v6_7 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg12_0 : Ref sig .tc := ⟨.vmem, 20, rfl⟩
abbrev cc0_stg12_1 : Ref sig .tc := ⟨.vmem, 21, rfl⟩
abbrev cc0_stg13_0 : Ref sig .tc := ⟨.vmem, 22, rfl⟩
abbrev cc0_stg14_0 : Ref sig .tc := ⟨.vmem, 23, rfl⟩
abbrev cc0_stg15_0 : Ref sig .tc := ⟨.vmem, 24, rfl⟩
abbrev cc0_stg16_0 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21
abbrev cc0_sem13_0 : DmaSem sig := 22
abbrev cc0_sem14_0 : DmaSem sig := 23
abbrev cc0_sem15_0 : DmaSem sig := 24
abbrev cc0_sem16_0 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S512x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x512 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S4x2x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S1x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 1 → Memref sig .tc .vmem S512x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

abbrev stage0_16 : Fin 1 → Memref sig .tc .vmem S512x1024 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]
-- ==== ReferenceMixIdeal.lean ====
abbrev S8192x1024 : Shape := ⟨2, ![8192, 1024]⟩
abbrev S8192x512 : Shape := ⟨2, ![8192, 512]⟩
abbrev S8192x1440 : Shape := ⟨2, ![8192, 1440]⟩
abbrev S512 : Shape := ⟨1, ![512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x4x2x64 : Shape := ⟨4, ![8192, 4, 2, 64]⟩
abbrev S8192x4x2 : Shape := ⟨3, ![8192, 4, 2]⟩
abbrev S4x2x8192 : Shape := ⟨3, ![4, 2, 8192]⟩
abbrev S512x1024 : Shape := ⟨2, ![512, 1024]⟩

abbrev nBuf : Space → Nat
  | .hbm => 162
  | .vmem => 0
  | .smem => 0
  | _ => 0

abbrev hbmTy0_0 (i : Nat) : BufTy := match i % 128 with
  | 0 => ⟨S8192x1024, .f32⟩
  | 1 => ⟨S8192x512, .f32⟩
  | 2 => ⟨S8192x512, .f32⟩
  | 3 => ⟨S8192x1440, .f32⟩
  | 4 => ⟨S8192x512, .f32⟩
  | 5 => ⟨S512, .f32⟩
  | 6 => ⟨S512, .f32⟩
  | 7 => ⟨S1024x1024, .f32⟩
  | 8 => ⟨S8192x512, .f32⟩
  | 9 => ⟨S8192x512, .f32⟩
  | 10 => ⟨S8192x512, .f32⟩
  | 11 => ⟨S8192x512, .f32⟩
  | 12 => ⟨S8192x512, .f32⟩
  | 13 => ⟨S_, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S_, .f32⟩
  | 25 => ⟨S8192x512, .f32⟩
  | 26 => ⟨S8192x512, .f32⟩
  | 27 => ⟨S_, .f32⟩
  | 28 => ⟨S8192x512, .f32⟩
  | 29 => ⟨S8192x512, .f32⟩
  | 30 => ⟨S8192x512, .f32⟩
  | 31 => ⟨S_, .f32⟩
  | 32 => ⟨S8192x512, .f32⟩
  | 33 => ⟨S8192x512, .f32⟩
  | 34 => ⟨S_, .f32⟩
  | 35 => ⟨S8192x512, .f32⟩
  | 36 => ⟨S8192x512, .f32⟩
  | 37 => ⟨S8192x512, .f32⟩
  | 38 => ⟨S8192x512, .f32⟩
  | 39 => ⟨S8192x512, .f32⟩
  | 40 => ⟨S_, .f32⟩
  | 41 => ⟨S8192, .f32⟩
  | 42 => ⟨S8192x1, .f32⟩
  | 43 => ⟨S_, .f32⟩
  | 44 => ⟨S8192x1, .f32⟩
  | 45 => ⟨S8192x1, .f32⟩
  | 46 => ⟨S_, .f32⟩
  | 47 => ⟨S8192x1, .f32⟩
  | 48 => ⟨S8192x1, .f32⟩
  | 49 => ⟨S8192x1, .f32⟩
  | 50 => ⟨S8192x1, .f32⟩
  | 51 => ⟨S_, .f32⟩
  | 52 => ⟨S8192x1, .f32⟩
  | 53 => ⟨S8192x1, .f32⟩
  | 54 => ⟨S8192x512, .f32⟩
  | 55 => ⟨S8192x512, .f32⟩
  | 56 => ⟨S1x512, .f32⟩
  | 57 => ⟨S8192x512, .f32⟩
  | 58 => ⟨S8192x512, .f32⟩
  | 59 => ⟨S8192x512, .f32⟩
  | 60 => ⟨S_, .f32⟩
  | 61 => ⟨S8192, .f32⟩
  | 62 => ⟨S8192x1, .f32⟩
  | 63 => ⟨S_, .f32⟩
  | 64 => ⟨S8192x1, .f32⟩
  | 65 => ⟨S8192x1, .f32⟩
  | 66 => ⟨S_, .f32⟩
  | 67 => ⟨S8192x1, .f32⟩
  | 68 => ⟨S8192x1, .f32⟩
  | 69 => ⟨S8192x1, .f32⟩
  | 70 => ⟨S8192x1, .f32⟩
  | 71 => ⟨S_, .f32⟩
  | 72 => ⟨S8192x1, .f32⟩
  | 73 => ⟨S8192x1, .f32⟩
  | 74 => ⟨S8192x512, .f32⟩
  | 75 => ⟨S8192x512, .f32⟩
  | 76 => ⟨S1x512, .f32⟩
  | 77 => ⟨S8192x512, .f32⟩
  | 78 => ⟨S8192x512, .f32⟩
  | 79 => ⟨S8192x1024, .f32⟩
  | 80 => ⟨S8192x1024, .f32⟩
  | 81 => ⟨S1024x1024, .f32⟩
  | 82 => ⟨S1024x1024, .f32⟩
  | 83 => ⟨S8192x1024, .f32⟩
  | 84 => ⟨S8192x512, .f32⟩
  | 85 => ⟨S8192x512, .f32⟩
  | 86 => ⟨S8192x512, .f32⟩
  | 87 => ⟨S_, .f32⟩
  | 88 => ⟨S512, .f32⟩
  | 89 => ⟨S1x512, .f32⟩
  | 90 => ⟨S8192x512, .f32⟩
  | 91 => ⟨S8192x512, .f32⟩
  | 92 => ⟨S_, .f32⟩
  | 93 => ⟨S512, .f32⟩
  | 94 => ⟨S8192x512, .f32⟩
  | 95 => ⟨S_, .f32⟩
  | 96 => ⟨S8192, .f32⟩
  | 97 => ⟨S8192x1, .f32⟩
  | 98 => ⟨S8192x512, .f32⟩
  | 99 => ⟨S8192x512, .f32⟩
  | 100 => ⟨S8192x1, .f32⟩
  | 101 => ⟨S_, .f32⟩
  | 102 => ⟨S8192x1, .f32⟩
  | 103 => ⟨S8192x1, .f32⟩
  | 104 => ⟨S_, .f32⟩
  | 105 => ⟨S8192, .f32⟩
  | 106 => ⟨S8192x512, .f32⟩
  | 107 => ⟨S8192x512, .f32⟩
  | 108 => ⟨S8192x512, .f32⟩
  | 109 => ⟨S8192x512, .f32⟩
  | 110 => ⟨S8192x512, .f32⟩
  | 111 => ⟨S8192x512, .f32⟩
  | 112 => ⟨S_, .f32⟩
  | 113 => ⟨S512, .f32⟩
  | 114 => ⟨S1x512, .f32⟩
  | 115 => ⟨S8192x512, .f32⟩
  | 116 => ⟨S8192x512, .f32⟩
  | 117 => ⟨S_, .f32⟩
  | 118 => ⟨S512, .f32⟩
  | 119 => ⟨S8192x512, .f32⟩
  | 120 => ⟨S_, .f32⟩
  | 121 => ⟨S8192, .f32⟩
  | 122 => ⟨S8192x1, .f32⟩
  | 123 => ⟨S8192x512, .f32⟩
  | 124 => ⟨S8192x512, .f32⟩
  | 125 => ⟨S8192x1, .f32⟩
  | 126 => ⟨S_, .f32⟩
  | 127 => ⟨S8192x1, .f32⟩
  | _ => ⟨S8192x1024, .f32⟩

abbrev hbmTy0_1 (i : Nat) : BufTy := match i % 128 with
  | 0 => ⟨S8192x1, .f32⟩
  | 1 => ⟨S_, .f32⟩
  | 2 => ⟨S8192, .f32⟩
  | 3 => ⟨S8192x512, .f32⟩
  | 4 => ⟨S8192x512, .f32⟩
  | 5 => ⟨S8192x512, .f32⟩
  | 6 => ⟨S8192x512, .f32⟩
  | 7 => ⟨S8192x512, .f32⟩
  | 8 => ⟨S8192x512, .f32⟩
  | 9 => ⟨S8192x512, .f32⟩
  | 10 => ⟨S8192x512, .f32⟩
  | 11 => ⟨S8192x512, .f32⟩
  | 12 => ⟨S_, .f32⟩
  | 13 => ⟨S8192x512, .f32⟩
  | 14 => ⟨S8192x512, .f32⟩
  | 15 => ⟨S8192x512, .f32⟩
  | 16 => ⟨S_, .f32⟩
  | 17 => ⟨S8192x512, .f32⟩
  | 18 => ⟨S8192x512, .f32⟩
  | 19 => ⟨S8192x512, .f32⟩
  | 20 => ⟨S_, .f32⟩
  | 21 => ⟨S8192x512, .f32⟩
  | 22 => ⟨S8192x512, .f32⟩
  | 23 => ⟨S8192x512, .f32⟩
  | 24 => ⟨S8192x512, .f32⟩
  | 25 => ⟨S8192x512, .f32⟩
  | 26 => ⟨S8192x4x2x64, .f32⟩
  | 27 => ⟨S_, .f32⟩
  | 28 => ⟨S8192x4x2, .f32⟩
  | 29 => ⟨S4x2x8192, .f32⟩
  | 30 => ⟨S1x512, .f32⟩
  | 31 => ⟨S1x512, .f32⟩
  | 32 => ⟨S512x1024, .f32⟩
  | 33 => ⟨S512x1024, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_cst_3 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_4 : Ref sig .tc := ⟨.hbm, 31, rfl⟩
abbrev main_v18 : Ref sig .tc := ⟨.hbm, 32, rfl⟩
abbrev main_v19 : Ref sig .tc := ⟨.hbm, 33, rfl⟩
abbrev main_cst_5 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_6 : Ref sig .tc := ⟨.hbm, 40, rfl⟩
abbrev main_v25 : Ref sig .tc := ⟨.hbm, 41, rfl⟩
abbrev main_v26 : Ref sig .tc := ⟨.hbm, 42, rfl⟩
abbrev main_cst_7 : Ref sig .tc := ⟨.hbm, 43, rfl⟩
abbrev main_v27 : Ref sig .tc := ⟨.hbm, 44, rfl⟩
abbrev main_v28 : Ref sig .tc := ⟨.hbm, 45, rfl⟩
abbrev main_cst_8 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_cst_9 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_10 : Ref sig .tc := ⟨.hbm, 60, rfl⟩
abbrev main_v41 : Ref sig .tc := ⟨.hbm, 61, rfl⟩
abbrev main_v42 : Ref sig .tc := ⟨.hbm, 62, rfl⟩
abbrev main_cst_11 : Ref sig .tc := ⟨.hbm, 63, rfl⟩
abbrev main_v43 : Ref sig .tc := ⟨.hbm, 64, rfl⟩
abbrev main_v44 : Ref sig .tc := ⟨.hbm, 65, rfl⟩
abbrev main_cst_12 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_13 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_14 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_cst_15 : Ref sig .tc := ⟨.hbm, 92, rfl⟩
abbrev main_v68 : Ref sig .tc := ⟨.hbm, 93, rfl⟩
abbrev main_v69 : Ref sig .tc := ⟨.hbm, 94, rfl⟩
abbrev main_cst_16 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_cst_17 : Ref sig .tc := ⟨.hbm, 101, rfl⟩
abbrev main_v75 : Ref sig .tc := ⟨.hbm, 102, rfl⟩
abbrev main_v76 : Ref sig .tc := ⟨.hbm, 103, rfl⟩
abbrev main_cst_18 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_cst_19 : Ref sig .tc := ⟨.hbm, 112, rfl⟩
abbrev main_v84 : Ref sig .tc := ⟨.hbm, 113, rfl⟩
abbrev main_v85 : Ref sig .tc := ⟨.hbm, 114, rfl⟩
abbrev main_v86 : Ref sig .tc := ⟨.hbm, 115, rfl⟩
abbrev main_v87 : Ref sig .tc := ⟨.hbm, 116, rfl⟩
abbrev main_cst_20 : Ref sig .tc := ⟨.hbm, 117, rfl⟩
abbrev main_v88 : Ref sig .tc := ⟨.hbm, 118, rfl⟩
abbrev main_v89 : Ref sig .tc := ⟨.hbm, 119, rfl⟩
abbrev main_cst_21 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_cst_22 : Ref sig .tc := ⟨.hbm, 126, rfl⟩
abbrev main_v95 : Ref sig .tc := ⟨.hbm, 127, rfl⟩
abbrev main_v96 : Ref sig .tc := ⟨.hbm, 128, rfl⟩
abbrev main_cst_23 : Ref sig .tc := ⟨.hbm, 129, rfl⟩
abbrev main_v97 : Ref sig .tc := ⟨.hbm, 130, rfl⟩
abbrev main_v98 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_v105 : Ref sig .tc := ⟨.hbm, 138, rfl⟩
abbrev main_v106 : Ref sig .tc := ⟨.hbm, 139, rfl⟩
abbrev main_cst_24 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_cst_25 : Ref sig .tc := ⟨.hbm, 144, rfl⟩
abbrev main_v110 : Ref sig .tc := ⟨.hbm, 145, rfl⟩
abbrev main_v111 : Ref sig .tc := ⟨.hbm, 146, rfl⟩
abbrev main_v112 : Ref sig .tc := ⟨.hbm, 147, rfl⟩
abbrev main_cst_26 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_cst_27 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩

abbrev nD : Nat := 1
abbrev τ : Topo := Topo.v7x

variable {F : FTy → Type} [FloatOps F]
-- ==== KernelMem.lean ====
abbrev S8192x1024 : Shape := ⟨2, ![8192, 1024]⟩
abbrev S1024 : Shape := ⟨1, ![1024]⟩
abbrev S128 : Shape := ⟨1, ![128]⟩
abbrev S256x512 : Shape := ⟨2, ![256, 512]⟩
abbrev S1024x512 : Shape := ⟨2, ![1024, 512]⟩
abbrev S512x1024 : Shape := ⟨2, ![512, 1024]⟩
abbrev S1x1024 : Shape := ⟨2, ![1, 1024]⟩
abbrev S1x128 : Shape := ⟨2, ![1, 128]⟩
abbrev S512x512 : Shape := ⟨2, ![512, 512]⟩
abbrev S512 : Shape := ⟨1, ![512]⟩
abbrev S512x1 : Shape := ⟨2, ![512, 1]⟩
abbrev S512x128 : Shape := ⟨2, ![512, 128]⟩
abbrev S256x128 : Shape := ⟨2, ![256, 128]⟩
abbrev S512x256 : Shape := ⟨2, ![512, 256]⟩
abbrev S256x384 : Shape := ⟨2, ![256, 384]⟩
abbrev S512x384 : Shape := ⟨2, ![512, 384]⟩
abbrev S256x256 : Shape := ⟨2, ![256, 256]⟩

abbrev nBuf : Space → Nat
  | .hbm => 19
  | .vmem => 18
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S1024, .f32⟩
  | .hbm, ⟨3, _⟩ => ⟨S128, .f32⟩
  | .hbm, ⟨4, _⟩ => ⟨S256x512, .f32⟩
  | .hbm, ⟨5, _⟩ => ⟨S256x512, .f32⟩
  | .hbm, ⟨6, _⟩ => ⟨S1024x512, .f32⟩
  | .hbm, ⟨7, _⟩ => ⟨S512x1024, .f32⟩
  | .hbm, ⟨8, _⟩ => ⟨S1x1024, .f32⟩
  | .hbm, ⟨9, _⟩ => ⟨S1x128, .f32⟩
  | .hbm, ⟨10, _⟩ => ⟨S1024x512, .bf16⟩
  | .hbm, ⟨11, _⟩ => ⟨S512x1024, .bf16⟩
  | .hbm, ⟨12, _⟩ => ⟨S8192x1024, .f32⟩
  | .hbm, ⟨13, _⟩ => ⟨S1x1024, .f32⟩
  | .hbm, ⟨14, _⟩ => ⟨S1x128, .f32⟩
  | .hbm, ⟨15, _⟩ => ⟨S256x512, .f32⟩
  | .hbm, ⟨16, _⟩ => ⟨S256x512, .f32⟩
  | .hbm, ⟨17, _⟩ => ⟨S1024x512, .f32⟩
  | .hbm, ⟨18, _⟩ => ⟨S512x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S1x1024, .f32⟩
  | .local _ .vmem, ⟨5, _⟩ => ⟨S1x128, .f32⟩
  | .local _ .vmem, ⟨6, _⟩ => ⟨S256x512, .f32⟩
  | .local _ .vmem, ⟨7, _⟩ => ⟨S256x512, .f32⟩
  | .local _ .vmem, ⟨8, _⟩ => ⟨S1024x512, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S1x1024, .f32⟩
  | .local _ .vmem, ⟨13, _⟩ => ⟨S1x128, .f32⟩
  | .local _ .vmem, ⟨14, _⟩ => ⟨S256x512, .f32⟩
  | .local _ .vmem, ⟨15, _⟩ => ⟨S256x512, .f32⟩
  | .local _ .vmem, ⟨16, _⟩ => ⟨S1024x512, .f32⟩
  | .local _ .vmem, ⟨17, _⟩ => ⟨S512x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4_0 : Ref sig .tc := ⟨.hbm, 12, rfl⟩
abbrev main_v4_1 : Ref sig .tc := ⟨.hbm, 13, rfl⟩
abbrev main_v4_2 : Ref sig .tc := ⟨.hbm, 14, rfl⟩
abbrev main_v4_3 : Ref sig .tc := ⟨.hbm, 15, rfl⟩
abbrev main_v4_4 : Ref sig .tc := ⟨.hbm, 16, rfl⟩
abbrev main_v4_5 : Ref sig .tc := ⟨.hbm, 17, rfl⟩
abbrev main_v4_6 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S512x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1024x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S512x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceMemIdeal.lean ====
abbrev S8192x1024 : Shape := ⟨2, ![8192, 1024]⟩
abbrev S1024 : Shape := ⟨1, ![1024]⟩
abbrev S128 : Shape := ⟨1, ![128]⟩
abbrev S256x512 : Shape := ⟨2, ![256, 512]⟩
abbrev S1024x512 : Shape := ⟨2, ![1024, 512]⟩
abbrev S512x1024 : Shape := ⟨2, ![512, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x512 : Shape := ⟨2, ![8192, 512]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩
abbrev S4x128x256 : Shape := ⟨3, ![4, 128, 256]⟩
abbrev S4x256x128 : Shape := ⟨3, ![4, 256, 128]⟩
abbrev S4x8192x128 : Shape := ⟨3, ![4, 8192, 128]⟩
abbrev S1x128 : Shape := ⟨2, ![1, 128]⟩

abbrev nBuf : Space → Nat
  | .hbm => 188
  | .vmem => 0
  | .smem => 0
  | _ => 0

abbrev hbmTy0_0 (i : Nat) : BufTy := match i % 128 with
  | 0 => ⟨S8192x1024, .f32⟩
  | 1 => ⟨S8192x1024, .f32⟩
  | 2 => ⟨S1024, .f32⟩
  | 3 => ⟨S128, .f32⟩
  | 4 => ⟨S256x512, .f32⟩
  | 5 => ⟨S256x512, .f32⟩
  | 6 => ⟨S1024x512, .f32⟩
  | 7 => ⟨S512x1024, .f32⟩
  | 8 => ⟨S8192x1024, .f32⟩
  | 9 => ⟨S_, .f32⟩
  | 10 => ⟨S8192, .f32⟩
  | 11 => ⟨S8192x1, .f32⟩
  | 12 => ⟨S_, .f32⟩
  | 13 => ⟨S8192x1, .f32⟩
  | 14 => ⟨S8192x1, .f32⟩
  | 15 => ⟨S_, .f32⟩
  | 16 => ⟨S8192x1, .f32⟩
  | 17 => ⟨S8192x1, .f32⟩
  | 18 => ⟨S8192x1, .f32⟩
  | 19 => ⟨S8192x1, .f32⟩
  | 20 => ⟨S_, .f32⟩
  | 21 => ⟨S8192x1, .f32⟩
  | 22 => ⟨S8192x1, .f32⟩
  | 23 => ⟨S8192x1024, .f32⟩
  | 24 => ⟨S8192x1024, .f32⟩
  | 25 => ⟨S1x1024, .f32⟩
  | 26 => ⟨S8192x1024, .f32⟩
  | 27 => ⟨S8192x1024, .f32⟩
  | 28 => ⟨S8192x512, .f32⟩
  | 29 => ⟨S8192x4x128, .f32⟩
  | 30 => ⟨S8192x4x128, .f32⟩
  | 31 => ⟨S_, .f32⟩
  | 32 => ⟨S8192x4, .f32⟩
  | 33 => ⟨S8192x4x1, .f32⟩
  | 34 => ⟨S_, .f32⟩
  | 35 => ⟨S8192x4x1, .f32⟩
  | 36 => ⟨S8192x4x1, .f32⟩
  | 37 => ⟨S_, .f32⟩
  | 38 => ⟨S8192x4x1, .f32⟩
  | 39 => ⟨S8192x4x1, .f32⟩
  | 40 => ⟨S8192x4x1, .f32⟩
  | 41 => ⟨S8192x4x1, .f32⟩
  | 42 => ⟨S_, .f32⟩
  | 43 => ⟨S8192x4x1, .f32⟩
  | 44 => ⟨S8192x4x1, .f32⟩
  | 45 => ⟨S8192x4x128, .f32⟩
  | 46 => ⟨S8192x4x128, .f32⟩
  | 47 => ⟨S1x1x128, .f32⟩
  | 48 => ⟨S8192x4x128, .f32⟩
  | 49 => ⟨S8192x4x128, .f32⟩
  | 50 => ⟨S256x4x128, .f32⟩
  | 51 => ⟨S4x8192x256, .f32⟩
  | 52 => ⟨S_, .f32⟩
  | 53 => ⟨S4x8192x256, .f32⟩
  | 54 => ⟨S4x8192x256, .f32⟩
  | 55 => ⟨S_, .f32⟩
  | 56 => ⟨S4x8192, .f32⟩
  | 57 => ⟨S4x8192x1, .f32⟩
  | 58 => ⟨S4x8192x256, .f32⟩
  | 59 => ⟨S4x8192x256, .i1⟩
  | 60 => ⟨S4x8192x256, .f32⟩
  | 61 => ⟨S_, .f32⟩
  | 62 => ⟨S4x8192, .f32⟩
  | 63 => ⟨S_, .f32⟩
  | 64 => ⟨S4x8192, .f32⟩
  | 65 => ⟨S4x8192, .f32⟩
  | 66 => ⟨S_, .f32⟩
  | 67 => ⟨S4x8192, .f32⟩
  | 68 => ⟨S4x8192, .i1⟩
  | 69 => ⟨S_, .f32⟩
  | 70 => ⟨S4x8192, .f32⟩
  | 71 => ⟨S4x8192, .i1⟩
  | 72 => ⟨S_, .f32⟩
  | 73 => ⟨S4x8192, .f32⟩
  | 74 => ⟨S_, .f32⟩
  | 75 => ⟨S4x8192, .f32⟩
  | 76 => ⟨S_, .f32⟩
  | 77 => ⟨S4x8192, .f32⟩
  | 78 => ⟨S4x8192, .f32⟩
  | 79 => ⟨S4x8192, .f32⟩
  | 80 => ⟨S4x8192x1, .f32⟩
  | 81 => ⟨S4x8192x256, .f32⟩
  | 82 => ⟨S4x8192x256, .f32⟩
  | 83 => ⟨S4x8192x256, .f32⟩
  | 84 => ⟨S_, .f32⟩
  | 85 => ⟨S4x8192, .f32⟩
  | 86 => ⟨S4x8192x1, .f32⟩
  | 87 => ⟨S4x8192x256, .f32⟩
  | 88 => ⟨S4x8192x256, .f32⟩
  | 89 => ⟨S4x8192x1, .f32⟩
  | 90 => ⟨S_, .f32⟩
  | 91 => ⟨S4x8192x1, .f32⟩
  | 92 => ⟨S4x8192x1, .f32⟩
  | 93 => ⟨S256x4x128, .f32⟩
  | 94 => ⟨S4x128x8192, .f32⟩
  | 95 => ⟨S8192x4x128, .f32⟩
  | 96 => ⟨S8192x512, .f32⟩
  | 97 => ⟨S8192x1024, .f32⟩
  | 98 => ⟨S8192x1024, .f32⟩
  | 99 => ⟨S8192x1024, .f32⟩
  | 100 => ⟨S1024x512, .f32⟩
  | 101 => ⟨S512x1024, .f32⟩
  | 102 => ⟨S8192x512, .f32⟩
  | 103 => ⟨S8192x4x128, .f32⟩
  | 104 => ⟨S4x128x8192, .f32⟩
  | 105 => ⟨S4x8192x256, .f32⟩
  | 106 => ⟨S4x128x256, .f32⟩
  | 107 => ⟨S256x4x128, .f32⟩
  | 108 => ⟨S256x512, .f32⟩
  | 109 => ⟨S4x8192x256, .f32⟩
  | 110 => ⟨S4x8192x256, .f32⟩
  | 111 => ⟨S4x8192x256, .f32⟩
  | 112 => ⟨S_, .f32⟩
  | 113 => ⟨S4x8192, .f32⟩
  | 114 => ⟨S4x8192x1, .f32⟩
  | 115 => ⟨S4x8192x1, .f32⟩
  | 116 => ⟨S4x8192x256, .f32⟩
  | 117 => ⟨S4x8192x256, .f32⟩
  | 118 => ⟨S_, .f32⟩
  | 119 => ⟨S4x8192, .f32⟩
  | 120 => ⟨S4x8192x256, .f32⟩
  | 121 => ⟨S4x8192x256, .f32⟩
  | 122 => ⟨S4x8192x256, .f32⟩
  | 123 => ⟨S_, .f32⟩
  | 124 => ⟨S4x8192x256, .f32⟩
  | 125 => ⟨S4x8192x256, .f32⟩
  | 126 => ⟨S4x256x128, .f32⟩
  | 127 => ⟨S256x4x128, .f32⟩
  | _ => ⟨S8192x1024, .f32⟩

abbrev hbmTy0_1 (i : Nat) : BufTy := match i % 128 with
  | 0 => ⟨S4x8192x128, .f32⟩
  | 1 => ⟨S8192x4x128, .f32⟩
  | 2 => ⟨S256x512, .f32⟩
  | 3 => ⟨S8192x4x128, .f32⟩
  | 4 => ⟨S_, .f32⟩
  | 5 => ⟨S128, .f32⟩
  | 6 => ⟨S1x1x128, .f32⟩
  | 7 => ⟨S8192x4x128, .f32⟩
  | 8 => ⟨S8192x4x128, .f32⟩
  | 9 => ⟨S_, .f32⟩
  | 10 => ⟨S128, .f32⟩
  | 11 => ⟨S8192x4x128, .f32⟩
  | 12 => ⟨S_, .f32⟩
  | 13 => ⟨S8192x4, .f32⟩
  | 14 => ⟨S8192x4x1, .f32⟩
  | 15 => ⟨S8192x4x128, .f32⟩
  | 16 => ⟨S8192x4x128, .f32⟩
  | 17 => ⟨S8192x4x1, .f32⟩
  | 18 => ⟨S_, .f32⟩
  | 19 => ⟨S8192x4x1, .f32⟩
  | 20 => ⟨S8192x4x1, .f32⟩
  | 21 => ⟨S_, .f32⟩
  | 22 => ⟨S8192x4, .f32⟩
  | 23 => ⟨S8192x4x128, .f32⟩
  | 24 => ⟨S8192x4x128, .f32⟩
  | 25 => ⟨S8192x4x128, .f32⟩
  | 26 => ⟨S8192x4x128, .f32⟩
  | 27 => ⟨S8192x4x128, .f32⟩
  | 28 => ⟨S8192x512, .f32⟩
  | 29 => ⟨S512x1024, .f32⟩
  | 30 => ⟨S1024x512, .f32⟩
  | 31 => ⟨S8192x1024, .f32⟩
  | 32 => ⟨S8192x1024, .f32⟩
  | 33 => ⟨S_, .f32⟩
  | 34 => ⟨S1024, .f32⟩
  | 35 => ⟨S1x1024, .f32⟩
  | 36 => ⟨S8192x1024, .f32⟩
  | 37 => ⟨S8192x1024, .f32⟩
  | 38 => ⟨S_, .f32⟩
  | 39 => ⟨S1024, .f32⟩
  | 40 => ⟨S8192x1024, .f32⟩
  | 41 => ⟨S_, .f32⟩
  | 42 => ⟨S8192, .f32⟩
  | 43 => ⟨S8192x1, .f32⟩
  | 44 => ⟨S8192x1024, .f32⟩
  | 45 => ⟨S8192x1024, .f32⟩
  | 46 => ⟨S8192x1024, .f32⟩
  | 47 => ⟨S8192x1, .f32⟩
  | 48 => ⟨S_, .f32⟩
  | 49 => ⟨S8192x1, .f32⟩
  | 50 => ⟨S8192x1, .f32⟩
  | 51 => ⟨S_, .f32⟩
  | 52 => ⟨S8192, .f32⟩
  | 53 => ⟨S8192x1024, .f32⟩
  | 54 => ⟨S8192x1024, .f32⟩
  | 55 => ⟨S8192x1024, .f32⟩
  | 56 => ⟨S8192x1024, .f32⟩
  | 57 => ⟨S8192x1024, .f32⟩
  | 58 => ⟨S1x1024, .f32⟩
  | 59 => ⟨S1x128, .f32⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_cst_2 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_cst_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_v21 : Ref sig .tc := ⟨.hbm, 35, rfl⟩
abbrev main_v22 : Ref sig .tc := ⟨.hbm, 36, rfl⟩
abbrev main_cst_5 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_6 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_7 : Ref sig .tc := ⟨.hbm, 52, rfl⟩
abbrev main_v36 : Ref sig .tc := ⟨.hbm, 53, rfl⟩
abbrev main_v37 : Ref sig .tc := ⟨.hbm, 54, rfl⟩
abbrev main_cst_8 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_9 : Ref sig .tc := ⟨.hbm, 61, rfl⟩
abbrev main_v43 : Ref sig .tc := ⟨.hbm, 62, rfl⟩
abbrev main_cst_10 : Ref sig .tc := ⟨.hbm, 63, rfl⟩
abbrev main_v44 : Ref sig .tc := ⟨.hbm, 64, rfl⟩
abbrev main_v45 : Ref sig .tc := ⟨.hbm, 65, rfl⟩
abbrev main_cst_11 : Ref sig .tc := ⟨.hbm, 66, rfl⟩
abbrev main_v46 : Ref sig .tc := ⟨.hbm, 67, rfl⟩
abbrev main_v47 : Ref sig .tc := ⟨.hbm, 68, rfl⟩
abbrev main_cst_12 : Ref sig .tc := ⟨.hbm, 69, rfl⟩
abbrev main_v48 : Ref sig .tc := ⟨.hbm, 70, rfl⟩
abbrev main_v49 : Ref sig .tc := ⟨.hbm, 71, rfl⟩
abbrev main_cst_13 : Ref sig .tc := ⟨.hbm, 72, rfl⟩
abbrev main_v50 : Ref sig .tc := ⟨.hbm, 73, rfl⟩
abbrev main_cst_14 : Ref sig .tc := ⟨.hbm, 74, rfl⟩
abbrev main_v51 : Ref sig .tc := ⟨.hbm, 75, rfl⟩
abbrev main_cst_15 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_cst_17 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_cst_18 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_cst_19 : Ref sig .tc := ⟨.hbm, 118, rfl⟩
abbrev main_v90 : Ref sig .tc := ⟨.hbm, 119, rfl⟩
abbrev main_v91 : Ref sig .tc := ⟨.hbm, 120, rfl⟩
abbrev main_v92 : Ref sig .tc := ⟨.hbm, 121, rfl⟩
abbrev main_v93 : Ref sig .tc := ⟨.hbm, 122, rfl⟩
abbrev main_cst_20 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_cst_21 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_cst_22 : Ref sig .tc := ⟨.hbm, 137, rfl⟩
abbrev main_v106 : Ref sig .tc := ⟨.hbm, 138, rfl⟩
abbrev main_v107 : Ref sig .tc := ⟨.hbm, 139, rfl⟩
abbrev main_cst_23 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_v112 : Ref sig .tc := ⟨.hbm, 145, rfl⟩
abbrev main_cst_24 : Ref sig .tc := ⟨.hbm, 146, rfl⟩
abbrev main_v113 : Ref sig .tc := ⟨.hbm, 147, rfl⟩
abbrev main_v114 : Ref sig .tc := ⟨.hbm, 148, rfl⟩
abbrev main_cst_25 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_v123 : Ref sig .tc := ⟨.hbm, 158, rfl⟩
abbrev main_v124 : Ref sig .tc := ⟨.hbm, 159, rfl⟩
abbrev main_v125 : Ref sig .tc := ⟨.hbm, 160, rfl⟩
abbrev main_cst_26 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_cst_27 : Ref sig .tc := ⟨.hbm, 166, rfl⟩
abbrev main_v130 : Ref sig .tc := ⟨.hbm, 167, rfl⟩
abbrev main_v131 : Ref sig .tc := ⟨.hbm, 168, rfl⟩
abbrev main_cst_28 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_cst_29 : Ref sig .tc := ⟨.hbm, 176, rfl⟩
abbrev main_v138 : Ref sig .tc := ⟨.hbm, 177, rfl⟩
abbrev main_v139 : Ref sig .tc := ⟨.hbm, 178, rfl⟩
abbrev main_cst_30 : Ref sig .tc := ⟨.hbm, 179, rfl⟩
abbrev main_v140 : Ref sig .tc := ⟨.hbm, 180, rfl⟩
abbrev main_v141 : Ref sig .tc := ⟨.hbm, 181, rfl⟩
abbrev main_v142 : Ref sig .tc := ⟨.hbm, 182, rfl⟩
abbrev main_v143 : Ref sig .tc := ⟨.hbm, 183, rfl⟩
abbrev main_v144 : Ref sig .tc := ⟨.hbm, 184, rfl⟩
abbrev main_v145 : Ref sig .tc := ⟨.hbm, 185, rfl⟩
abbrev main_v146 : Ref sig .tc := ⟨.hbm, 186, rfl⟩
abbrev main_v147 : Ref sig .tc := ⟨.hbm, 187, rfl⟩

abbrev nD : Nat := 1
abbrev τ : Topo := Topo.v7x

variable {F : FTy → Type} [FloatOps F]
-- ==== KernelMef.lean ====
abbrev S8192x1024 : Shape := ⟨2, ![8192, 1024]⟩
abbrev S1024 : Shape := ⟨1, ![1024]⟩
abbrev S128 : Shape := ⟨1, ![128]⟩
abbrev S256x512 : Shape := ⟨2, ![256, 512]⟩
abbrev S1024x512 : Shape := ⟨2, ![1024, 512]⟩
abbrev S512x1024 : Shape := ⟨2, ![512, 1024]⟩
abbrev S1x1024 : Shape := ⟨2, ![1, 1024]⟩
abbrev S1x128 : Shape := ⟨2, ![1, 128]⟩
abbrev S1024x1024 : Shape := ⟨2, ![1024, 1024]⟩
abbrev S1024x1 : Shape := ⟨2, ![1024, 1]⟩
abbrev S1024x128 : Shape := ⟨2, ![1024, 128]⟩
abbrev S256x128 : Shape := ⟨2, ![256, 128]⟩
abbrev S1024x256 : Shape := ⟨2, ![1024, 256]⟩

abbrev nBuf : Space → Nat
  | .hbm => 12
  | .vmem => 10
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S128, .f32⟩
  | .hbm, ⟨3, _⟩ => ⟨S256x512, .f32⟩
  | .hbm, ⟨4, _⟩ => ⟨S256x512, .f32⟩
  | .hbm, ⟨5, _⟩ => ⟨S1024x512, .f32⟩
  | .hbm, ⟨6, _⟩ => ⟨S512x1024, .f32⟩
  | .hbm, ⟨7, _⟩ => ⟨S1x1024, .f32⟩
  | .hbm, ⟨8, _⟩ => ⟨S1x128, .f32⟩
  | .hbm, ⟨9, _⟩ => ⟨S1024x512, .bf16⟩
  | .hbm, ⟨10, _⟩ => ⟨S512x1024, .bf16⟩
  | .hbm, ⟨11, _⟩ => ⟨S8192x1024, .f32⟩
  | .local _ .vmem, ⟨0, _⟩ => ⟨S1024x1024, .f32⟩
  | .local _ .vmem, ⟨1, _⟩ => ⟨S1024x1024, .f32⟩
  | .local _ .vmem, ⟨2, _⟩ => ⟨S1x1024, .f32⟩
  | .local _ .vmem, ⟨3, _⟩ => ⟨S1x128, .f32⟩
  | .local _ .vmem, ⟨4, _⟩ => ⟨S256x512, .f32⟩
  | .local _ .vmem, ⟨5, _⟩ => ⟨S256x512, .f32⟩
  | .local _ .vmem, ⟨6, _⟩ => ⟨S1024x512, .bf16⟩
  | .local _ .vmem, ⟨7, _⟩ => ⟨S512x1024, .bf16⟩
  | .local _ .vmem, ⟨8, _⟩ => ⟨S1024x1024, .f32⟩
  | .local _ .vmem, ⟨9, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceMefIdeal.lean ====
abbrev S8192x1024 : Shape := ⟨2, ![8192, 1024]⟩
abbrev S1024 : Shape := ⟨1, ![1024]⟩
abbrev S128 : Shape := ⟨1, ![128]⟩
abbrev S256x512 : Shape := ⟨2, ![256, 512]⟩
abbrev S1024x512 : Shape := ⟨2, ![1024, 512]⟩
abbrev S512x1024 : Shape := ⟨2, ![512, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x512 : Shape := ⟨2, ![8192, 512]⟩
abbrev S8192x4x128 : Shape := ⟨3, ![8192, 4, 128]⟩
abbrev S8192x4 : Shape := ⟨2, ![8192, 4]⟩
abbrev S8192x4x1 : Shape := ⟨3, ![8192, 4, 1]⟩
abbrev S1x1x128 : Shape := ⟨3, ![1, 1, 128]⟩
abbrev S256x4x128 : Shape := ⟨3, ![256, 4, 128]⟩
abbrev S4x8192x256 : Shape := ⟨3, ![4, 8192, 256]⟩
abbrev S4x8192 : Shape := ⟨2, ![4, 8192]⟩
abbrev S4x8192x1 : Shape := ⟨3, ![4, 8192, 1]⟩
abbrev S4x128x8192 : Shape := ⟨3, ![4, 128, 8192]⟩

abbrev nBuf : Space → Nat
  | .hbm => 66
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S128, .f32⟩
  | .hbm, ⟨3, _⟩ => ⟨S256x512, .f32⟩
  | .hbm, ⟨4, _⟩ => ⟨S256x512, .f32⟩
  | .hbm, ⟨5, _⟩ => ⟨S1024x512, .f32⟩
  | .hbm, ⟨6, _⟩ => ⟨S512x1024, .f32⟩
  | .hbm, ⟨7, _⟩ => ⟨S8192x1024, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x512, .f32⟩
  | .hbm, ⟨24, _⟩ => ⟨S8192x4x128, .f32⟩
  | .hbm, ⟨25, _⟩ => ⟨S8192x4x128, .f32⟩
  | .hbm, ⟨26, _⟩ => ⟨S_, .f32⟩
  | .hbm, ⟨27, _⟩ => ⟨S8192x4, .f32⟩
  | .hbm, ⟨28, _⟩ => ⟨S8192x4x1, .f32⟩
  | .hbm, ⟨29, _⟩ => ⟨S_, .f32⟩
  | .hbm, ⟨30, _⟩ => ⟨S8192x4x1, .f32⟩
  | .hbm, ⟨31, _⟩ => ⟨S8192x4x1, .f32⟩
  | .hbm, ⟨32, _⟩ => ⟨S_, .f32⟩
  | .hbm, ⟨33, _⟩ => ⟨S8192x4x1, .f32⟩
  | .hbm, ⟨34, _⟩ => ⟨S8192x4x1, .f32⟩
  | .hbm, ⟨35, _⟩ => ⟨S8192x4x1, .f32⟩
  | .hbm, ⟨36, _⟩ => ⟨S8192x4x128, .f32⟩
  | .hbm, ⟨37, _⟩ => ⟨S8192x4x128, .f32⟩
  | .hbm, ⟨38, _⟩ => ⟨S1x1x128, .f32⟩
  | .hbm, ⟨39, _⟩ => ⟨S8192x4x128, .f32⟩
  | .hbm, ⟨40, _⟩ => ⟨S8192x4x128, .f32⟩
  | .hbm, ⟨41, _⟩ => ⟨S256x4x128, .f32⟩
  | .hbm, ⟨42, _⟩ => ⟨S4x8192x256, .f32⟩
  | .hbm, ⟨43, _⟩ => ⟨S_, .f32⟩
  | .hbm, ⟨44, _⟩ => ⟨S4x8192x256, .f32⟩
  | .hbm, ⟨45, _⟩ => ⟨S4x8192x256, .f32⟩
  | .hbm, ⟨46, _⟩ => ⟨S_, .f32⟩
  | .hbm, ⟨47, _⟩ => ⟨S4x8192, .f32⟩
  | .hbm, ⟨48, _⟩ => ⟨S_, .f32⟩
  | .hbm, ⟨49, _⟩ => ⟨S4x8192, .f32⟩
  | .hbm, ⟨50, _⟩ => ⟨S4x8192, .f32⟩
  | .hbm, ⟨51, _⟩ => ⟨S4x8192x1, .f32⟩
  | .hbm, ⟨52, _⟩ => ⟨S4x8192x256, .f32⟩
  | .hbm, ⟨53, _⟩ => ⟨S4x8192x256, .f32⟩
  | .hbm, ⟨54, _⟩ => ⟨S4x8192x256, .f32⟩
  | .hbm, ⟨55, _⟩ => ⟨S_, .f32⟩
  | .hbm, ⟨56, _⟩ => ⟨S4x8192, .f32⟩
  | .hbm, ⟨57, _⟩ => ⟨S4x8192x1, .f32⟩
  | .hbm, ⟨58, _⟩ => ⟨S4x8192x256, .f32⟩
  | .hbm, ⟨59, _⟩ => ⟨S4x8192x256, .f32⟩
  | .hbm, ⟨60, _⟩ => ⟨S256x4x128, .f32⟩
  | .hbm, ⟨61, _⟩ => ⟨S4x128x8192, .f32⟩
  | .hbm, ⟨62, _⟩ => ⟨S8192x4x128, .f32⟩
  | .hbm, ⟨63, _⟩ => ⟨S8192x512, .f32⟩
  | .hbm, ⟨64, _⟩ => ⟨S8192x1024, .f32⟩
  | .hbm, ⟨65, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_2 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_5 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_cst_7 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_cst_8 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩

abbrev nD : Nat := 1
abbrev τ : Topo := Topo.v7x

variable {F : FTy → Type} [FloatOps F]
-- ==== Proof.Rms.lean ====
module

public import Idealize.ShloMosaic.Lib.Pointwise
public import Idealize.ShloMosaic.PureOps.Ideal.Laws
public import Idealize.ShloMosaic.Lib.ValueIdx

@[expose] public section

noncomputable section

/-! The gradient of a root-mean-square norm over the extended reals: the step's formula
`r·d − x·r³·(S/n)` and the chain rule's `d·r + x·A + A·x` with `A = S·(−½·(r/(ms+ε)))/n` are equal at every
argument, infinite ones too. -/

namespace Cert.Rms

open Idealize.ShloMosaic

/-- The `f32` word of `1e-6`. -/
def epsR : ℝ := 8796093 / 8796093022208

theorem ofBits_eps : Ideal.ofBits .f32 0x358637BD#32 = (epsR : EReal) := by
  simp [Ideal.ofBits, Ideal.ieee, -EReal.coe_mul, epsR]; norm_num

theorem ofBits_inv1024 : Ideal.ofBits .f32 0x3A800000#32 = ((1 / 1024 : ℝ) : EReal) := by
  simp [Ideal.ofBits, Ideal.ieee, -EReal.coe_mul]; norm_num

theorem ofBits_1024 : Ideal.ofBits .f32 0x44800000#32 = ((1024 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- An index of an array of one row. -/
theorem eq_row {n : ℕ} (i : (⟨2, ![1, n]⟩ : Shape).Idx) : i = ix2 0 (i 1) := by
  refine (eq_ix2 i).trans (congrArg (fun k => ix2 k (i 1)) ?_)
  exact Fin.fin_one_eq_zero (i 0)

/-- The integer word of zero, as a float. -/
theorem sitofp_zero (φ : FTy) : (FloatOps.sitofp φ 0#32 : Ideal φ) = (0 : EReal) := by
  show (((0#32 : BitVec 32).toInt : ℝ) : EReal) = 0
  simp

theorem epsR_pos : 0 < epsR := by unfold epsR; norm_num

/-- Division by a nonzero real is multiplication by its inverse. -/
theorem div_coe' (x : EReal) {n : ℝ} (hn : n ≠ 0) : Ideal.div x (n : EReal) = x * ((1 / n : ℝ) : EReal) := by
  have h : (n : EReal) ≠ 0 := by exact_mod_cast hn
  rw [Ideal.div, if_neg h, one_div, EReal.coe_inv]

/-- A square is not negative. -/
theorem mul_self_nonneg (x : EReal) : 0 ≤ x * x := by
  induction x with
  | bot => simp
  | top => simp
  | coe r => exact_mod_cast _root_.mul_self_nonneg r

/-- A term taken twice. -/
theorem add_self_mul (a : EReal) (k : ℝ) : a * (k : EReal) + a * (k : EReal) = a * ((2 * k : ℝ) : EReal) := by
  induction a with
  | coe r => norm_cast; ring
  | top =>
    rcases lt_trichotomy k 0 with h | h | h
    · rw [EReal.top_mul_coe_of_neg h, EReal.top_mul_coe_of_neg (by linarith)]; simp
    · subst h; simp
    · rw [EReal.top_mul_coe_of_pos h, EReal.top_mul_coe_of_pos (by linarith)]; simp
  | bot =>
    rcases lt_trichotomy k 0 with h | h | h
    · rw [EReal.bot_mul_coe_of_neg h, EReal.bot_mul_coe_of_neg (by linarith)]; simp
    · subst h; simp
    · rw [EReal.bot_mul_coe_of_pos h, EReal.bot_mul_coe_of_pos (by linarith)]; simp

/-- The inverse root of a nonnegative number plus a positive real is a nonnegative real, zero at infinity. -/
theorem rsqrt_cases (M : EReal) (hM : 0 ≤ M) {e : ℝ} (he : 0 < e) :
    (M + (e : EReal) = ⊤ ∧ Ideal.rsqrt (M + (e : EReal)) = 0) ∨
    ∃ p : ℝ, 0 < p ∧ M + (e : EReal) = (p : EReal) ∧ Ideal.rsqrt (M + (e : EReal)) = (((Real.sqrt p)⁻¹ : ℝ) : EReal) := by
  induction M with
  | bot => simp at hM
  | top => left; simp
  | coe q =>
    right
    have hq : 0 ≤ q := by exact_mod_cast hM
    refine ⟨q + e, by linarith, by norm_cast, ?_⟩
    rw [← EReal.coe_add, Ideal.rsqrt_coe, if_neg (by linarith), if_neg (by linarith)]

/-- The two forms of the norm's input gradient agree. `M` is the mean square, `d` the output's gradient times the
gain, `S` the row's sum of `x·d`, `c` one over the width. -/
theorem bwd (x d S M : EReal) (hM : 0 ≤ M) {e : ℝ} (he : 0 < e) (c : ℝ) :
    Ideal.rsqrt (M + (e : EReal)) * d
        - x * (Ideal.rsqrt (M + (e : EReal)) * Ideal.rsqrt (M + (e : EReal)) * Ideal.rsqrt (M + (e : EReal))) * (S * (c : EReal))
      = d * Ideal.rsqrt (M + (e : EReal))
        + x * (S * (((-(1 / 2) : ℝ) : EReal) * Ideal.div (Ideal.rsqrt (M + (e : EReal))) (M + (e : EReal))) * (c : EReal))
        + S * (((-(1 / 2) : ℝ) : EReal) * Ideal.div (Ideal.rsqrt (M + (e : EReal))) (M + (e : EReal))) * (c : EReal) * x := by
  rcases rsqrt_cases M hM he with ⟨h1, h2⟩ | ⟨p, hp, h1, h2⟩
  · rw [h2, h1]
    simp [Ideal.div]
  · rw [h2, h1, div_coe' _ hp.ne']
    set r : ℝ := (Real.sqrt p)⁻¹ with hr
    have hr3 : r * (1 / p) = r * r * r := by
      have : r * r = 1 / p := by
        rw [hr, ← mul_inv, Real.mul_self_sqrt hp.le, one_div]
      rw [← this]; ring
    have e1 : ((-(1 / 2) : ℝ) : EReal) * ((r : EReal) * ((1 / p : ℝ) : EReal)) = ((-(1 / 2) * (r * r * r) : ℝ) : EReal) := by
      rw [← EReal.coe_mul, hr3, ← EReal.coe_mul]
    rw [e1, sub_eq_add_neg, mul_comm d, add_assoc]
    congr 1
    have e2 : x * (S * ((-(1 / 2) * (r * r * r) : ℝ) : EReal) * (c : EReal))
        = (x * S) * ((-(1 / 2) * (r * r * r) * c : ℝ) : EReal) := by
      rw [EReal.coe_mul (-(1 / 2) * (r * r * r)) c]; ac_rfl
    have e3 : S * ((-(1 / 2) * (r * r * r) : ℝ) : EReal) * (c : EReal) * x
        = (x * S) * ((-(1 / 2) * (r * r * r) * c : ℝ) : EReal) := by
      rw [EReal.coe_mul (-(1 / 2) * (r * r * r)) c]; ac_rfl
    rw [e2, e3, add_self_mul]
    have e4 : ((2 * (-(1 / 2) * (r * r * r) * c) : ℝ) : EReal) = -((r * r * r * c : ℝ) : EReal) := by
      rw [← EReal.coe_neg]; congr 1; ring
    rw [e4, mul_neg]
    congr 1
    rw [EReal.coe_mul, EReal.coe_mul, EReal.coe_mul]; ac_rfl

end Cert.Rms

end
-- ==== Proof.In.Closed.lean ====
module

public import proofs.«01_k».proof.Proof.Rms
public import Idealize.ShloMosaic.Lib.ValueIdx

@[expose] public section

noncomputable section

/-! What `_in_proj_bwd` computes, as sums over the eight argument arrays. -/

namespace Cert.In

open Idealize.ShloMosaic Cert.Rms

/-- A matrix over the extended reals. -/
abbrev T2 (a b : ℕ) := (⟨2, ![a, b]⟩ : Shape).Idx → EReal

/-- A vector over the extended reals. -/
abbrev T1 (a : ℕ) := (⟨1, ![a]⟩ : Shape).Idx → EReal

/-- The arguments: input, norm gain, weight, and the five cotangents. -/
structure Args where
  x : T2 8192 1024
  g : T1 1024
  w : T2 1024 1440
  dx1 : T2 8192 1024
  da : T2 8192 512
  db : T2 8192 512
  dyg : T2 8192 512
  dpc : T2 8192 416

variable (a : Args)

/-- A row's mean square. -/
def ms (s : Fin 8192) : EReal := (∑ k : Fin 1024, a.x (ix2 s k) * a.x (ix2 s k)) * ((1 / 1024 : ℝ) : EReal)

/-- A row's inverse root mean square. -/
def r (s : Fin 8192) : EReal := Ideal.rsqrt (ms a s + (epsR : EReal))

/-- The projection's gradient, with zeros in the 96 columns of padding. -/
def D (s : Fin 8192) (j : Fin 1536) : EReal :=
  if h : (j : ℕ) < 512 then a.da (ix2 s ⟨j, h⟩) + a.db (ix2 s ⟨j, h⟩)
  else if h : (j : ℕ) < 1024 then a.dyg (ix2 s ⟨j - 512, by omega⟩)
  else if h : (j : ℕ) < 1440 then a.dpc (ix2 s ⟨j - 1024, by omega⟩)
  else 0

/-- The weight with 96 columns of zeros. -/
def W (k : Fin 1024) (j : Fin 1536) : EReal := if h : (j : ℕ) < 1440 then a.w (ix2 k ⟨j, h⟩) else 0

/-- The gradient of the normed input. -/
def dn (s : Fin 8192) (k : Fin 1024) : EReal := ∑ j : Fin 1536, D a s j * W a k j

/-- The input's gradient. -/
def dx (s : Fin 8192) (k : Fin 1024) : EReal :=
  a.dx1 (ix2 s k) + (r a s * (dn a s k * a.g (ix1 k)) - a.x (ix2 s k) * (r a s * r a s * r a s) *
    ((∑ l : Fin 1024, dn a s l * a.g (ix1 l) * a.x (ix2 s l)) * ((1 / 1024 : ℝ) : EReal)))

/-- The weight's gradient. -/
def dw (k : Fin 1024) (j : Fin 1536) : EReal := ∑ s : Fin 8192, a.x (ix2 s k) * r a s * a.g (ix1 k) * D a s j

/-- The gain's gradient. -/
def dg (k : Fin 1024) : EReal := ∑ s : Fin 8192, dn a s k * a.x (ix2 s k) * r a s

theorem ms_nonneg (s : Fin 8192) : 0 ≤ ms a s :=
  mul_nonneg (Finset.sum_nonneg fun _ _ => mul_self_nonneg _) (by exact_mod_cast (by norm_num : (0 : ℝ) ≤ 1 / 1024))

/-- A sum over the padded columns in which the padding contributes nothing. -/
theorem sum_cols (f : Fin 1536 → EReal) (h : ∀ j : Fin 1536, 1440 ≤ (j : ℕ) → f j = 0) :
    ∑ j : Fin 1536, f j = ∑ j : Fin 1440, f ⟨j, by omega⟩ := by
  rw [← Fin.sum_congr' f (show 1440 + 96 = 1536 from rfl), Fin.sum_univ_add]
  conv_rhs => rw [← add_zero (∑ j : Fin 1440, f ⟨j, by omega⟩)]
  congr 1
  exact Finset.sum_eq_zero fun j _ => h _ (by simp)

theorem dn_cols (s : Fin 8192) (k : Fin 1024) :
    dn a s k = ∑ j : Fin 1440, D a s ⟨j, by omega⟩ * a.w (ix2 k j) := by
  rw [dn, sum_cols _ fun j hj => by rw [W, dif_neg (by omega), mul_zero]]
  exact Finset.sum_congr rfl fun j _ => by rw [W, dif_pos j.isLt]

end Cert.In

end
-- ==== Proof.In.Kernel.lean ====
module

public import proofs.«01_k».proof.Proof.Gen.KernelInIdeal.Value
public import proofs.«01_k».proof.Proof.In.Closed
public import Idealize.ShloMosaic.Lib.Pipeline.ValueKit
public import Idealize.ShloMosaic.Lib.Pointwise

@[expose] public section

set_option maxRecDepth 16384

noncomputable section

/-! What the kernel's three result arrays hold after the run. -/

namespace Cert.In

open Idealize.ShloMosaic Idealize.ShloMosaic.TcCoe Idealize.SL.Sem
open Idealize.ShloMosaic.Pipeline (Dat)
open Cert.KernelInIdeal Cert.KernelInIdeal.Gen Cert.Rms

variable (m : (ℓ : Loc nD τ sig) → Buf (Elt Ideal) ℓ)

/-- The kernel's arguments on device `c`. -/
def args (c : Dev nD) : Args where
  x := m ((c : Thread nD τ).loc main_arg0)
  g := m ((c : Thread nD τ).loc main_arg1)
  w := m ((c : Thread nD τ).loc main_arg2)
  dx1 := m ((c : Thread nD τ).loc main_arg3)
  da := m ((c : Thread nD τ).loc main_arg4)
  db := m ((c : Thread nD τ).loc main_arg5)
  dyg := m ((c : Thread nD τ).loc main_arg6)
  dpc := m ((c : Thread nD τ).loc main_arg7)

/-- The row of the whole array that row `r` of grid point `t` is. -/
def row (t : Fin cfg0.N) (r : Fin 512) : Fin 8192 := ⟨t.val * 512 + r.val, by have := t.isLt; have h : cfg0.N = 16 := N_0; omega⟩

section Points

variable (a : Args) (s : Fin 512 → Fin 8192)
variable (v3 : Vec Ideal S512x1024 .f32) (v4 v68 : Vec Ideal S1x1024 .f32) (v32 : Vec Ideal S1024x1536 .bf16)
variable (v6 v7 v9 v10 : Vec Ideal S512x512 .f32) (v65 : Vec Ideal S512x1024 .f32) (v13 : Vec Ideal S1024x1536 .f32)

/-- The blocks at a grid point whose rows are the rows `s` of the whole arrays. -/
structure Blocks : Prop where
  x : ∀ r k, v3 (ix2 r k) = a.x (ix2 (s r) k)
  g : ∀ k, v4 (ix2 0 k) = a.g (ix1 k)
  w : ∀ k j, v32 (ix2 k j) = W a k j
  da : ∀ r j, v6 (ix2 r j) = a.da (ix2 (s r) j)
  db : ∀ r j, v7 (ix2 r j) = a.db (ix2 (s r) j)
  dyg : ∀ r j, v9 (ix2 r j) = a.dyg (ix2 (s r) j)
  dpc : ∀ r (j : Fin 512), v10 (ix2 r j) = if h : (j : ℕ) < 416 then a.dpc (ix2 (s r) ⟨j, h⟩) else 0
  dx1 : ∀ r k, v65 (ix2 r k) = a.dx1 (ix2 (s r) k)

variable {a s v3 v4 v32 v6 v7 v9 v10 v65} (h : Blocks a s v3 v4 v32 v6 v7 v9 v10 v65)
include h

theorem pay8_at (r : Fin 512) (j : Fin 1536) : k0_pay8 v6 v7 v9 v10 (ix2 r j) = D a (s r) j := by
  pointwise [k0_pay8, h.da, h.db, h.dyg, h.dpc, D]
  by_cases h1 : (j : ℕ) < 512
  · simp only [dif_pos h1]
  by_cases h2 : (j : ℕ) < 1024
  · simp only [dif_neg h1, dif_pos h2, dif_pos (show (j : ℕ) - 512 < 512 by omega)]
  by_cases h3 : (j : ℕ) < 1440
  · simp only [dif_neg h1, dif_neg h2, dif_pos h3, dif_neg (show ¬(j : ℕ) - 512 < 512 by omega), dif_pos (show (j : ℕ) - 512 - 512 < 416 by omega)]
    exact congrArg a.dpc (congrArg (ix2 (s r)) (Fin.ext (by simp only [Nat.sub_sub])))
  · simp only [dif_neg h1, dif_neg h2, dif_neg h3, dif_neg (show ¬(j : ℕ) - 512 < 512 by omega), dif_neg (show ¬(j : ℕ) - 512 - 512 < 416 by omega)]

theorem pay1_at (r : Fin 512) (k : Fin 1024) : k0_pay1 (k0_pay8 v6 v7 v9 v10) v32 (ix2 r k) = dn a (s r) k := by
  pointwise [k0_pay1, pay8_at h, h.w, dn]

theorem pay2_at (r : Fin 512) : k0_pay2 v3 (ix2 r 0) = Cert.In.r a (s r) := by
  pointwise [k0_pay2, h.x, Cert.In.r, ms, ofBits_eps, ofBits_inv1024]

theorem pay3_at (r : Fin 512) (k : Fin 1024) :
    k0_pay3 v3 (k0_pay7 v4) (k0_pay8 v6 v7 v9 v10) v32 v65 (ix2 r k) = dx a (s r) k := by
  pointwise [k0_pay3, k0_pay7, h.x, h.g, h.dx1, pay1_at h, pay2_at h, dx, ofBits_inv1024]

theorem pay4_at (k : Fin 1024) :
    k0_pay4 v3 (k0_pay8 v6 v7 v9 v10) v32 v68 (ix2 0 k)
      = v68 (ix2 0 k) + ∑ r : Fin 512, dn a (s r) k * a.x (ix2 (s r) k) * Cert.In.r a (s r) := by
  pointwise [k0_pay4, h.x, pay1_at h, pay2_at h]

theorem pay9_at (k : Fin 1024) (j : Fin 1536) :
    k0_pay9 v3 v4 v6 v7 v9 v10 v13 (ix2 k j)
      = v13 (ix2 k j) + ∑ r : Fin 512, a.x (ix2 (s r) k) * Cert.In.r a (s r) * a.g (ix1 k) * D a (s r) j := by
  pointwise [k0_pay9, k0_pay7, h.x, h.g, pay8_at h, Cert.In.r, ms, ofBits_eps, ofBits_inv1024]

end Points

/-- The blocks of grid point `t`. -/
theorem idx : ∀ t : Fin cfg0.N, win0_0.index t = ![t.val, 0] ∧ win0_1.index t = ![0, 0] ∧ win0_2.index t = ![0, 0]
    ∧ win0_3.index t = ![t.val, 0] ∧ win0_4.index t = ![t.val, 0] ∧ win0_5.index t = ![t.val, 0]
    ∧ win0_6.index t = ![t.val, 0] ∧ win0_7.index t = ![t.val, 0] ∧ win0_8.index t = ![t.val, 0]
    ∧ win0_9.index t = ![0, 0] ∧ win0_10.index t = ![0, 0] := (by decide +kernel : ∀ t : Fin grid0.N, _)

/-- What the host hands over: the gain as a row, the weight and the last cotangent with columns of zeros. -/
theorem entry_g (c : Dev nD) (k : Fin 1024) : V m c main_v3 (ix2 0 k) = (args m c).g (ix1 k) := by
  unfold V
  simp only [hostOps0, hostOps0_1, hostOps0_2, hostOps0_3, hostOps0_4, List.flatten_cons, List.flatten_nil, List.cons_append, List.nil_append]
  after_results
  pointwise [args]

theorem entry_w (c : Dev nD) (k : Fin 1024) (j : Fin 1536) : V m c main_v1 (ix2 k j) = W (args m c) k j := by
  unfold V
  simp only [hostOps0, hostOps0_1, hostOps0_2, hostOps0_3, hostOps0_4, List.flatten_cons, List.flatten_nil, List.cons_append, List.nil_append]
  after_results
  change pad S1024x1536 ![0, 0] ![0, 96] ![0, 0] (truncf (F := Ideal) .bf16 (args m c).w bitsLt_bf16_f32)
    (sitofp (F := Ideal) .bf16 (constantI S_ 32 0#32)) pads_S1024x1440_S1024x1536_000_0960 h_S_ (ix2 k j) = _
  pointwise [W, sitofp_zero]

theorem entry_dpc (c : Dev nD) (s : Fin 8192) (j : Fin 512) :
    V m c main_v2 (ix2 s j) = if h : (j : ℕ) < 416 then (args m c).dpc (ix2 s ⟨j, h⟩) else 0 := by
  unfold V
  simp only [hostOps0, hostOps0_1, hostOps0_2, hostOps0_3, hostOps0_4, List.flatten_cons, List.flatten_nil, List.cons_append, List.nil_append]
  after_results
  change pad S8192x512 ![0, 0] ![0, 96] ![0, 0] (args m c).dpc (sitofp (F := Ideal) .f32 (constantI S_ 32 0#32))
    pads_S8192x416_S8192x512_000_0960 h_S_ (ix2 s j) = _
  pointwise [sitofp_zero]

theorem blocks (c : Dev nD) (t : Fin cfg0.N) :
    Blocks (args m c) (row t) (iblk m c 0 t) (iblk m c 1 t) (iblk m c 2 t) (iblk m c 4 t) (iblk m c 5 t)
      (iblk m c 6 t) (iblk m c 7 t) (iblk m c 3 t) where
  x r k := by blk_point [iblk, V, args, row, idx t]
  g k := by rw [← entry_g m c k]; blk_point [iblk, idx t]
  w k j := by rw [← entry_w m c k j]; blk_point [iblk, idx t]
  da r k := by blk_point [iblk, V, args, row, idx t]
  db r k := by blk_point [iblk, V, args, row, idx t]
  dyg r k := by blk_point [iblk, V, args, row, idx t]
  dpc r k := by rw [← entry_dpc m c (row t r) k]; blk_point [iblk, row, idx t]
  dx1 r k := by blk_point [iblk, V, args, row, idx t]

/-- Where grid point `t`'s block of the first result lies. -/
theorem emb8 (t : Fin cfg0.N) (y0 : Fin 512) (y1 : Fin 1024) :
    ((cfg0.win 8).blk t).view.emb (ix2 y0 y1) = ix2 (row t y0) y1 := by
  blk_ext [row, idx t]

theorem final_dx (c : Dev nD) : (dats m 0 c).arrAt 8 cfg0.N = fun i => dx (args m c) (i 0) (i 1) := by
  refine (dats m 0 c).arrAt_eq_of_covers 8 _ (by decide +kernel) fun t _ y => ?_
  idx_vars y
  rw [emb8 t y0 y1]
  blk_simp
  rw [after0_8]
  by_cases h : t.val % 16 = 0
  · rw [outsAt0_A m c t h]; frame_out
    exact pay3_at (blocks m c t) y0 y1
  · rw [outsAt0_B m c t h]; frame_out
    exact pay3_at (blocks m c t) y0 y1

/-- What grid point `t` adds to the weight's gradient. -/
def dwTerm (a : Args) (t : Fin cfg0.N) (i : S1024x1536.Idx) : EReal :=
  ∑ r : Fin 512, a.x (ix2 (row t r) (i 0)) * Cert.In.r a (row t r) * a.g (ix1 (i 0)) * D a (row t r) (i 1)

/-- What grid point `t` adds to the gain's gradient. -/
def dgTerm (a : Args) (t : Fin cfg0.N) (i : S1x1024.Idx) : EReal :=
  ∑ r : Fin 512, dn a (row t r) (i 1) * a.x (ix2 (row t r) (i 1)) * Cert.In.r a (row t r)

theorem dw_first (c : Dev nD) (t : Fin cfg0.N) (h : t.val % 16 = 0) (i : S1024x1536.Idx) :
    (show EReal from (outsAt0 m c t.val t.isLt).2.1 i) = 0 + dwTerm (args m c) t i := by
  idx_vars i
  rw [outsAt0_A m c t h]; frame_out
  refine (pay9_at _ (blocks m c t) i0 i1).trans ?_
  rw [dwTerm]; congr 1
  pointwise [k0_pay5]

theorem dw_next (c : Dev nD) (t : Fin cfg0.N) (h : ¬t.val % 16 = 0) (i : S1024x1536.Idx) :
    (show EReal from (outsAt0 m c t.val t.isLt).2.1 i)
      = (show EReal from (outsAt0 m c (t.val - 1) (Nat.lt_of_le_of_lt (Nat.sub_le _ _) t.isLt)).2.1 i) + dwTerm (args m c) t i := by
  idx_vars i
  rw [outsAt0_B m c t h]; frame_out
  exact pay9_at _ (blocks m c t) i0 i1

theorem dg_first (c : Dev nD) (t : Fin cfg0.N) (h : t.val % 16 = 0) (i : S1x1024.Idx) :
    (show EReal from (outsAt0 m c t.val t.isLt).2.2 i) = 0 + dgTerm (args m c) t i := by
  idx_vars i
  obtain rfl := Fin.fin_one_eq_zero i0
  rw [outsAt0_A m c t h]; frame_out
  refine (pay4_at _ (blocks m c t) i1).trans ?_
  rw [dgTerm]; congr 1
  pointwise [k0_pay6]

theorem dg_next (c : Dev nD) (t : Fin cfg0.N) (h : ¬t.val % 16 = 0) (i : S1x1024.Idx) :
    (show EReal from (outsAt0 m c t.val t.isLt).2.2 i)
      = (show EReal from (outsAt0 m c (t.val - 1) (Nat.lt_of_le_of_lt (Nat.sub_le _ _) t.isLt)).2.2 i) + dgTerm (args m c) t i := by
  idx_vars i
  obtain rfl := Fin.fin_one_eq_zero i0
  rw [outsAt0_B m c t h]; frame_out
  exact pay4_at _ (blocks m c t) i1

/-- The sum of a term over all rows, block by block. -/
theorem sum_rows (f : Fin 8192 → EReal) : ∑ t : Fin cfg0.N, ∑ r : Fin 512, f (row t r) = ∑ s : Fin 8192, f s :=
  Fin.sum_mul_add_fin cfg0.N 512 f (by decide +kernel)

theorem final_dw (c : Dev nD) : (dats m 0 c).arrAt 9 cfg0.N = fun i => dw (args m c) (i 0) (i 1) := by
  refine (dats m 0 c).arrAt_eq_of_after_last 9 t0_15 (by decide +kernel) _ fun j => ?_
  idx_vars j
  blk_simp
  rw [after0_9]
  refine (Pipeline.eq_sum_fin_of_reset_step_apply_last (f := fun n h i => (show EReal from (outsAt0 m c n h).2.1 i)) 16 (fun _ => 0)
      (dwTerm (args m c)) (dw_first m c) (dw_next m c) (le_of_eq N_0) t0_15 rfl (ix2 j0 j1)).trans ?_
  rw [zero_add]
  exact sum_rows fun s => (args m c).x (ix2 s j0) * Cert.In.r (args m c) s * (args m c).g (ix1 j0) * D (args m c) s j1

theorem final_dg (c : Dev nD) : (dats m 0 c).arrAt 10 cfg0.N = fun i => dg (args m c) (i 1) := by
  refine (dats m 0 c).arrAt_eq_of_after_last 10 t0_15 (by decide +kernel) _ fun j => ?_
  idx_vars j
  blk_simp
  rw [after0_10]
  refine (Pipeline.eq_sum_fin_of_reset_step_apply_last (f := fun n h i => (show EReal from (outsAt0 m c n h).2.2 i)) 16 (fun _ => 0)
      (dgTerm (args m c)) (dg_first m c) (dg_next m c) (le_of_eq N_0) t0_15 rfl (ix2 j0 j1)).trans ?_
  rw [zero_add]
  exact sum_rows fun s => dn (args m c) s j1 * (args m c).x (ix2 s j1) * Cert.In.r (args m c) s

end Cert.In
-- ==== Proof.In.Reference.lean ====
module

public import proofs.«01_k».proof.Proof.Gen.ReferenceInIdeal.Run
public import proofs.«01_k».proof.Proof.Gen.ReferenceInIdeal.Read
public import proofs.«01_k».proof.Proof.In.Closed
public import Idealize.ShloMosaic.Lib.Pipeline.ValueKit
public import Idealize.ShloMosaic.Lib.Pointwise

@[expose] public section

set_option maxRecDepth 16384

noncomputable section

/-! What the reference's three results are. -/

namespace Cert.In

open Idealize.ShloMosaic Idealize.ShloMosaic.TcCoe Idealize.SL.Sem
open Cert.ReferenceInIdeal Cert.ReferenceInIdeal.Read Cert.Rms

variable (a : Args)

theorem ref_ms (s : Fin 8192) : val_main_v6 (F := Ideal) a.x (ix2 s 0) = ms a s + (epsR : EReal) := by
  pointwise [val_main_v6, val_main_v5, val_main_v4, val_main_v3, val_main_v2, val_main_v1, val_main_v0, val_main_cst,
    val_main_cst_0, val_main_cst_1, ms, ofBits_eps, ofBits_1024]
  rw [div_coe' _ (by norm_num)]

theorem ref_r (s : Fin 8192) : val_main_v7 (F := Ideal) a.x (ix2 s 0) = r a s := by
  pointwise [val_main_v7, ref_ms, r]

theorem ref_D (s : Fin 8192) (j : Fin 1440) :
    val_main_v27 (F := Ideal) a.da a.db a.dyg a.dpc (ix2 s j) = D a s ⟨j, by omega⟩ := by
  pointwise [val_main_v27, val_main_v26, val_main_v25, val_main_v24, val_main_v23, val_main_v22, val_main_v21, val_main_cst_3,
    val_main_cst_4, val_main_cst_5, val_main_cst_6, D]
  by_cases h1 : (j : ℕ) < 512
  · simp only [h1, dif_pos, dif_neg (show ¬(1024 ≤ (j : ℕ) ∧ (j : ℕ) - 1024 < 416) by omega),
      dif_neg (show ¬(512 ≤ (j : ℕ) ∧ (j : ℕ) - 512 < 512) by omega), zero_add]
    exact add_comm _ _
  by_cases h2 : (j : ℕ) < 1024
  · simp only [h1, h2, dif_pos, dif_neg (show ¬(1024 ≤ (j : ℕ) ∧ (j : ℕ) - 1024 < 416) by omega),
      dif_pos (show 512 ≤ (j : ℕ) ∧ (j : ℕ) - 512 < 512 by omega), zero_add, add_zero, not_false_eq_true, dif_neg]
  · simp only [h1, h2, dif_pos (show 1024 ≤ (j : ℕ) ∧ (j : ℕ) - 1024 < 416 by omega),
      dif_neg (show ¬(512 ≤ (j : ℕ) ∧ (j : ℕ) - 512 < 512) by omega), add_zero, not_false_eq_true, dif_neg]

theorem ref_dn (s : Fin 8192) (k : Fin 1024) :
    val_main_v30 (F := Ideal) a.w a.da a.db a.dyg a.dpc (ix2 s k) = dn a s k := by
  rw [dn_cols]
  pointwise [val_main_v30, ref_D]

theorem ref_dx (s : Fin 8192) (k : Fin 1024) :
    val_main_v51 (F := Ideal) a.x a.g a.w a.dx1 a.da a.db a.dyg a.dpc (ix2 s k) = dx a s k := by
  pointwise [val_main_v51, val_main_v50, val_main_v49, val_main_v48, val_main_v47, val_main_v46, val_main_v45, val_main_v44,
    val_main_v43, val_main_v42, val_main_v41, val_main_v40, val_main_v39, val_main_v38, val_main_v37, val_main_v36, val_main_v35,
    val_main_v34, val_main_v10, val_main_v9, val_main_v8, val_main_v13, val_main_cst_2, val_main_cst_9, val_main_cst_10,
    val_main_cst_11, ref_ms, ref_r, ref_dn, ofBits_neg_half, ofBits_1024]
  simp only [Fin.sum_univ_one, ref_r, ref_ms]
  rw [dx, div_coe' _ (by norm_num), r, bwd _ _ _ _ (ms_nonneg a s) epsR_pos, ← add_assoc, ← add_assoc]
  have e : ∑ l : Fin 1024, dn a s l * a.g (ix1 l) * a.x (ix2 s l) = ∑ l : Fin 1024, a.x (ix2 s l) * (dn a s l * a.g (ix1 l)) :=
    Finset.sum_congr rfl fun _ _ => mul_comm _ _
  rw [e]

theorem ref_dw (k : Fin 1024) (j : Fin 1536) :
    val_main_v52 (F := Ideal) a.x a.g a.da a.db a.dyg a.dpc (ix2 k j) = dw a k j := by
  pointwise [val_main_v52, val_main_v29, val_main_v28, val_main_v15, val_main_v14, val_main_v13, val_main_v12, val_main_v11, val_main_call0_v0, val_main_c, sitofp_zero, ref_D, ref_r, dw]
  by_cases h : (j : ℕ) < 1440
  · simp only [h, dif_pos]
    exact Finset.sum_congr rfl fun _ _ => mul_comm _ _
  · simp only [h, dif_neg, not_false_eq_true]
    symm
    show (∑ s : Fin 8192, a.x (ix2 s k) * r a s * a.g (ix1 k) * D a s j) = 0
    refine Finset.sum_eq_zero fun s _ => ?_
    rw [D, dif_neg (by omega), dif_neg (by omega), dif_neg h, mul_zero]

theorem ref_dg (k : Fin 1024) :
    val_main_v53 (F := Ideal) a.x a.w a.da a.db a.dyg a.dpc (ix2 0 k) = dg a k := by
  pointwise [val_main_v53, val_main_v36, val_main_v33, val_main_v32, val_main_v31, val_main_v12, val_main_v11, val_main_cst_7, val_main_cst_8, ref_r, ref_dn, dg]
  simp only [Fin.sum_univ_one]
  exact Finset.sum_congr rfl fun _ _ => by ac_rfl

end Cert.In

end
-- ==== Proof.In.Claim.lean ====
module

public import proofs.«01_k».proof.Defs
public import proofs.«01_k».proof.Proof.In.Kernel
public import proofs.«01_k».proof.Proof.In.Reference
public import Idealize.ShloMosaic.Lib.Claim

@[expose] public section

noncomputable section

/-! The kernel and the reference of `_in_proj_bwd` compute the same three arrays. -/

namespace Cert.In

open Idealize.ShloMosaic Idealize.ShloMosaic.TcCoe Idealize.SL.Sem
open Cert.Rms

/-- The reference's arguments on device `c`. -/
def refArgs (m : (ℓ : Loc Cert.ReferenceInIdeal.nD Cert.ReferenceInIdeal.τ Cert.ReferenceInIdeal.sig) → Buf (Elt Ideal) ℓ)
    (c : Dev Cert.ReferenceInIdeal.nD) : Args where
  x := m ((c.tc : Thread _ _).loc Cert.ReferenceInIdeal.main_arg0)
  g := m ((c.tc : Thread _ _).loc Cert.ReferenceInIdeal.main_arg1)
  w := m ((c.tc : Thread _ _).loc Cert.ReferenceInIdeal.main_arg2)
  dx1 := m ((c.tc : Thread _ _).loc Cert.ReferenceInIdeal.main_arg3)
  da := m ((c.tc : Thread _ _).loc Cert.ReferenceInIdeal.main_arg4)
  db := m ((c.tc : Thread _ _).loc Cert.ReferenceInIdeal.main_arg5)
  dyg := m ((c.tc : Thread _ _).loc Cert.ReferenceInIdeal.main_arg6)
  dpc := m ((c.tc : Thread _ _).loc Cert.ReferenceInIdeal.main_arg7)

theorem frame_reference : Cert.quiescent_ReferenceInIdeal (hReferenceInIdeal := Cert.ReferenceInIdeal.Gen.facts) :=
  fun m ρ _ => (θ_run Cert.ReferenceInIdeal.defs _ _).mono (fun r h => ⟨fun c => (h c).2.2.2, sem_eq_zero_of_no_sems (by decide) r.2⟩)
    (Cert.ReferenceInIdeal.Value.run m ρ)

theorem algebraic : Cert.algebraic_KernelInIdeal_ReferenceInIdeal
    (hKernelInIdeal := Cert.KernelInIdeal.Gen.facts) (hReferenceInIdeal := Cert.ReferenceInIdeal.Gen.facts) := by
  intro m g m' g' _ h
  have ha : ∀ c, refArgs m' c = args m c := fun c => by
    obtain ⟨h0, h1, h2, h3, h4, h5, h6, h7⟩ := h c
    simp only [refArgs, args, h0, h1, h2, h3, h4, h5, h6, h7]
  refine ⟨fun c (i : Cert.KernelInIdeal.S8192x1024.Idx) => dx (args m c) (i 0) (i 1),
    fun c (i : Cert.KernelInIdeal.S1024x1536.Idx) => dw (args m c) (i 0) (i 1),
    fun c (i : Cert.KernelInIdeal.S1x1024.Idx) => dg (args m c) (i 1), ?_, ?_⟩
  · refine (θ_run _ _ _).mono (fun r hr c => ?_) (Cert.KernelInIdeal.Value.run_blocks m g)
    obtain ⟨h8, h9, h10, hargs⟩ := hr c
    exact ⟨h8.trans (final_dx m c), h9.trans (final_dw m c), h10.trans (final_dg m c), hargs⟩
  · refine (θ_run _ _ _).mono (fun r hr c => ?_) (Cert.ReferenceInIdeal.Value.run m' g')
    obtain ⟨h8, h9, h10, hargs⟩ := hr c
    refine ⟨h8.trans ?_, h9.trans ?_, h10.trans ?_, hargs⟩
    · refine (Cert.ReferenceInIdeal.Read.val_main_v51_eq m' c).trans ?_
      funext i
      exact ((congrArg _ (eq_ix2 i)).trans (ref_dx (refArgs m' c) (i 0) (i 1))).trans (congrArg (fun a => dx a (i 0) (i 1)) (ha c))
    · refine (Cert.ReferenceInIdeal.Read.val_main_v52_eq ..).trans ?_
      funext i
      exact ((congrArg _ (eq_ix2 i)).trans (ref_dw (refArgs m' c) (i 0) (i 1))).trans (congrArg (fun a => dw a (i 0) (i 1)) (ha c))
    · refine (Cert.ReferenceInIdeal.Read.val_main_v53_eq ..).trans ?_
      funext i
      exact ((congrArg _ (eq_row i)).trans (ref_dg (refArgs m' c) (i 1))).trans (congrArg (fun a => dg a (i 1)) (ha c))

end Cert.In

end
-- ==== Proof.Fl.Run.lean ====
/-
What one grid point of the flash attention backward kernel (`KernelFlIdeal`) does to its staging buffers: the body's
triple, found by running the skeleton, in the four cases of its two conditionals at once.
-/
module

public import proofs.«01_k».proof.Proof.Gen.KernelFlIdeal.Launch
public import proofs.«01_k».proof.Proof.Gen.KernelFlIdeal.Skeleton
public import proofs.«01_k».proof.Proof.Gen.KernelFlIdeal.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelFlIdeal.Hand

open Cert.KernelFlIdeal Cert.KernelFlIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MT nD τ sig Unit (Elt F) ℕ (UR sig nD τ) ℕ

/-- The tile of queries is the first one: the blocks of the gradients of `k` and `v` are zeroed here. -/
abbrev firstQ (i : grid0.Coords) : Prop :=
  (Scalar.cmpi .ne (Scalar.extui (Scalar.cmpi .eq (BitVec.ofNat 32 (i 2).val) 0#32)) 0#32) = 1#1
/-- The tile of keys is the first one: the tile's rows of the gradient of `q` are zeroed here. -/
abbrev firstK (i : grid0.Coords) : Prop := k0_cond2 i = 1#1

set_option maxHeartbeats 4000000 in
/-- What a grid point leaves in the three gradients' staging buffers, each a function of what it found there, with the
    proof that the body, run on whole staging buffers, ends with the inputs' as they were and the gradients' at that. -/
noncomputable def kernelRun (c : Dev nD) (i : grid0.Coords) (arg3 : Memref sig .tc .vmem S2048x256 .bf16) (harg3 : arg3.IsWhole) (arg4 : Memref sig .tc .vmem S1024x256 .bf16) (harg4 : arg4.IsWhole) (arg5 : Memref sig .tc .vmem S1024x128 .bf16) (harg5 : arg5.IsWhole) (arg6 : Memref sig .tc .vmem S2048x128 .f32) (harg6 : arg6.IsWhole) (arg7 : Memref sig .tc .vmem S1x2x2048 .f32) (harg7 : arg7.IsWhole) (arg8 : Memref sig .tc .vmem S1x2x2048 .f32) (harg8 : arg8.IsWhole) (arg9 : Memref sig .tc .vmem S8192x256 .f32) (harg9 : arg9.IsWhole) (arg10 : Memref sig .tc .vmem S1024x256 .f32) (harg10 : arg10.IsWhole) (arg11 : Memref sig .tc .vmem S1024x128 .f32) (harg11 : arg11.IsWhole)
    (x0 : Vec F S2048x256 .bf16) (x1 : Vec F S1024x256 .bf16) (x2 : Vec F S1024x128 .bf16) (x3 : Vec F S2048x128 .f32) (x4 : Vec F S1x2x2048 .f32) (x5 : Vec F S1x2x2048 .f32) :
    Σ' (O6 : Vec F S8192x256 .f32 → Vec F S8192x256 .f32) (O7 : Vec F S1024x256 .f32 → Vec F S1024x256 .f32),
      { O8 : Vec F S1024x128 .f32 → Vec F S1024x128 .f32 //
        ∀ (Y6 : Vec F S8192x256 .f32) (Y7 : Vec F S1024x256 .f32) (Y8 : Vec F S1024x128 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
            ∗ owns (c : Thread nD τ) arg9 fullShare Y6 ∗ owns (c : Thread nD τ) arg10 fullShare Y7 ∗ owns (c : Thread nD τ) arg11 fullShare Y8
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5
                ∗ owns (c : Thread nD τ) arg9 fullShare (O6 Y6) ∗ owns (c : Thread nD τ) arg10 fullShare (O7 Y7) ∗ owns (c : Thread nD τ) arg11 fullShare (O8 Y8)) -∗ K ⟨⟩))
          ⊢ wp frame (wpE (defs₀ (F := F)) Variants.none c none) E (cc0_flash_bwd i arg3 harg3 arg4 harg4 arg5 harg5 arg6 harg6 arg7 harg7 arg8 harg8 arg9 harg9 arg10 harg10 arg11 harg11) K } := by
  by_cases hc0 : firstQ i <;> by_cases hc1 : firstK i
  all_goals
    refine ⟨?_, ?_, ?_, fun Y6 Y7 Y8 E K => ?run⟩
    case run =>
      simp only [cc0_flash_bwd_eq_skeleton]; unfold cc0_flash_bwd_skel
      simp only [k0_part1_eq_skeleton, k0_part2_eq_skeleton]
      unfold owns
      iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, Hk⟩
      obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg10.eq_unread hf7; obtain rfl := harg11.eq_unread hf8
      sl_exec (disch := first | sl_exact hc0 | sl_exact hc1)
      sl_step
      iapply Hk
      isplitl [H0]
      · iexists _; isplitr; swap; · iexact H0
        ipureintro; exact harg3.read_unread _
      isplitl [H1]
      · iexists _; isplitr; swap; · iexact H1
        ipureintro; exact harg4.read_unread _
      isplitl [H2]
      · iexists _; isplitr; swap; · iexact H2
        ipureintro; exact harg5.read_unread _
      isplitl [H3]
      · iexists _; isplitr; swap; · iexact H3
        ipureintro; exact harg6.read_unread _
      isplitl [H4]
      · iexists _; isplitr; swap; · iexact H4
        ipureintro; exact harg7.read_unread _
      isplitl [H5]
      · iexists _; isplitr; swap; · iexact H5
        ipureintro; exact harg8.read_unread _
      isplitl [H6]
      · iexists _; isplitr; swap; · iexact H6
        ipureintro; rfl
      isplitl [H7]
      · iexists _; isplitr; swap; · iexact H7
        ipureintro; rfl
      iexists _; isplitr; swap; · iexact H8
      ipureintro; rfl

end Cert.KernelFlIdeal.Hand

end
-- ==== Proof.Fl.Frame.lean ====
/-
The frame of the flash attention backward kernel (`KernelFlIdeal`): the rows of the gradient of `q` that a grid point
does not store keep what they held, so the proof data is relational: each gradient's staging buffer ends a grid point at a
function of what the point found in it (`run`).
-/
module

public import proofs.«01_k».proof.Proof.Fl.Run
public import Idealize.ShloMosaic.Lib.Pipeline.Frame
public import Idealize.ShloMosaic.Lib.Claim

@[expose] public section

set_option maxRecDepth 16384

noncomputable section

namespace Cert.KernelFlIdeal.Hand

open Cert.KernelFlIdeal Cert.KernelFlIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Up to the region -/

/-- Core `c`'s buffers when the region is entered: after the host operations. -/
abbrev V (c : Dev nD) (b : Ref sig .tc) : Buf (Elt F) ((c : Thread nD τ).loc b) :=
  StableHlo.after (List.flatten [hostOps0, hostOps0_1, hostOps0_2, hostOps0_3, hostOps0_4]) (fun b => m (c, b)) b

set_option maxHeartbeats 800000 in
/-- The program up to the region: the host operations, then the region. -/
theorem hmain : Pipeline.HMain (Ix := Unit) (Name := ℕ) (U := UR sig nD τ) (Lvl := ℕ) cfgs 0 defs₀ Variants.none m (main (F := F)) (V m) :=
  Pipeline.hmain_prefixes cfgs 0 defs₀ Variants.none m main [hostOps0, hostOps0_1, hostOps0_2, hostOps0_3, hostOps0_4]
    (by simp only [List.Forall]; exact ⟨hostOps0_sub, hostOps0_1_sub, hostOps0_2_sub, hostOps0_3_sub, hostOps0_4_sub⟩)
    (by simp only [List.Forall]; repeat' constructor) main_chain

/-- No host operation writes an argument: the region finds them as launched. -/
theorem V_main_arg (c : Dev nD) (b : Ref sig .tc) (hb : b ∈ [main_arg0, main_arg1, main_arg2, main_arg3]) :
    V m c b = m ((c : Thread nD τ).loc b) :=
  StableHlo.after_of_forall_not_mem (b := Proc.devRef .tc b) _ _ (List.forall_iff_forall_mem.mp (by
    simp only [hostOps0, hostOps0_1, hostOps0_2, hostOps0_3, hostOps0_4, List.flatten_cons, List.flatten_nil, List.append_nil, List.cons_append,
      List.nil_append, List.Forall, StableHlo.nullary_writes, StableHlo.unary_writes, StableHlo.binary_writes, StableHlo.ternary_writes, StableHlo.reshape_writes, Finset.mem_singleton]
    simp only [List.mem_cons, List.not_mem_nil, or_false] at hb
    rcases hb with rfl | rfl | rfl | rfl <;> repeat' apply And.intro
    all_goals exact StableHlo.devRef_ne_of_ne (by decide)))

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0_0 (t : Fin cfg0.N) : Memref sig .tc .vmem S2048x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1024x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x128 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S2048x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x2x2048 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x2x2048 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S8192x256 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1024x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1024x128 .f32 := win0_8.stage (cfg0.slots t 8)
abbrev hs0_8 (t : Fin cfg0.N) : (ms0_8 t).IsWhole := hstage0_8 ((cfg0.slots t 8).cast nbuf0_8)

/-- The body's run at point `t`, on its staging buffers and input blocks. -/
abbrev run (c : Dev nD) (t : Fin cfg0.N) :=
  kernelRun (F := F) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t)
    (iblk m c 0 t) (iblk m c 1 t) (iblk m c 2 t) (iblk m c 3 t) (iblk m c 4 t) (iblk m c 5 t)

/-! ## The proof data -/

/-- The proof data: an input's buffer is left as found, a gradient's at what the run makes of what it found. -/
def rdat (c : Dev nD) : RDat τ (Elt F) Unit ℕ (UR sig nD τ) ℕ cfg0 c where
  A w := V m c (Pipeline.arrRef spec0 w)
  after w t := match w with
    | ⟨6, _⟩ => fun Y X => X = (run m c t).1 Y
    | ⟨7, _⟩ => fun Y X => X = (run m c t).2.1 Y
    | ⟨8, _⟩ => fun Y X => X = (run m c t).2.2.1 Y
    | ⟨0, _⟩ => fun Y X => X = Y
    | ⟨1, _⟩ => fun Y X => X = Y
    | ⟨2, _⟩ => fun Y X => X = Y
    | ⟨3, _⟩ => fun Y X => X = Y
    | ⟨4, _⟩ => fun Y X => X = Y
    | ⟨5, _⟩ => fun Y X => X = Y
  Φ _ := Pipeline.ΦA spec0 c
  q _ := fullShare
  owed _ := 0

theorem A_eq (c : Dev nD) (w : Fin cfg0.W) : (rdat m c).A w = V m c (Pipeline.arrRef spec0 w) := by dsimp only [rdat]

theorem after0_0 (c : Dev nD) (t : Fin cfg0.N) (Y X) : (rdat m c).after 0 t Y X = (X = Y) := rfl
theorem after0_1 (c : Dev nD) (t : Fin cfg0.N) (Y X) : (rdat m c).after 1 t Y X = (X = Y) := rfl
theorem after0_2 (c : Dev nD) (t : Fin cfg0.N) (Y X) : (rdat m c).after 2 t Y X = (X = Y) := rfl
theorem after0_3 (c : Dev nD) (t : Fin cfg0.N) (Y X) : (rdat m c).after 3 t Y X = (X = Y) := rfl
theorem after0_4 (c : Dev nD) (t : Fin cfg0.N) (Y X) : (rdat m c).after 4 t Y X = (X = Y) := rfl
theorem after0_5 (c : Dev nD) (t : Fin cfg0.N) (Y X) : (rdat m c).after 5 t Y X = (X = Y) := rfl
theorem after0_6 (c : Dev nD) (t : Fin cfg0.N) (Y X) : (rdat m c).after 6 t Y X = (X = (run m c t).1 Y) := rfl
theorem after0_7 (c : Dev nD) (t : Fin cfg0.N) (Y X) : (rdat m c).after 7 t Y X = (X = (run m c t).2.1 Y) := rfl
theorem after0_8 (c : Dev nD) (t : Fin cfg0.N) (Y X) : (rdat m c).after 8 t Y X = (X = (run m c t).2.2.1 Y) := rfl
/-- Input 0's staging buffer holds its block at every point, fetched there or not. -/
theorem finds0_0 (c : Dev nD) (t : Fin cfg0.N) (Y) (h : (rdat m c).Finds 0 t Y) : Y = iblk m c 0 t := by
  obtain ⟨d, rfl⟩ := (rdat m c).finds_in_eq_fetched 0 rfl (fun _ _ _ => rfl) (fun t Y X h => (after0_0 m c t Y X).mp h) t Y h
  unfold RDat.fetched RDat.blockOf iblk; rw [A_eq]; rfl
/-- Input 1's staging buffer holds its block at every point, fetched there or not. -/
theorem finds0_1 (c : Dev nD) (t : Fin cfg0.N) (Y) (h : (rdat m c).Finds 1 t Y) : Y = iblk m c 1 t := by
  obtain ⟨d, rfl⟩ := (rdat m c).finds_in_eq_fetched 1 rfl (fun _ _ _ => rfl) (fun t Y X h => (after0_1 m c t Y X).mp h) t Y h
  unfold RDat.fetched RDat.blockOf iblk; rw [A_eq]; rfl
/-- Input 2's staging buffer holds its block at every point, fetched there or not. -/
theorem finds0_2 (c : Dev nD) (t : Fin cfg0.N) (Y) (h : (rdat m c).Finds 2 t Y) : Y = iblk m c 2 t := by
  obtain ⟨d, rfl⟩ := (rdat m c).finds_in_eq_fetched 2 rfl (fun _ _ _ => rfl) (fun t Y X h => (after0_2 m c t Y X).mp h) t Y h
  unfold RDat.fetched RDat.blockOf iblk; rw [A_eq]; rfl
/-- Input 3's staging buffer holds its block at every point, fetched there or not. -/
theorem finds0_3 (c : Dev nD) (t : Fin cfg0.N) (Y) (h : (rdat m c).Finds 3 t Y) : Y = iblk m c 3 t := by
  obtain ⟨d, rfl⟩ := (rdat m c).finds_in_eq_fetched 3 rfl (fun _ _ _ => rfl) (fun t Y X h => (after0_3 m c t Y X).mp h) t Y h
  unfold RDat.fetched RDat.blockOf iblk; rw [A_eq]; rfl
/-- Input 4's staging buffer holds its block at every point, fetched there or not. -/
theorem finds0_4 (c : Dev nD) (t : Fin cfg0.N) (Y) (h : (rdat m c).Finds 4 t Y) : Y = iblk m c 4 t := by
  obtain ⟨d, rfl⟩ := (rdat m c).finds_in_eq_fetched 4 rfl (fun _ _ _ => rfl) (fun t Y X h => (after0_4 m c t Y X).mp h) t Y h
  unfold RDat.fetched RDat.blockOf iblk; rw [A_eq]; rfl
/-- Input 5's staging buffer holds its block at every point, fetched there or not. -/
theorem finds0_5 (c : Dev nD) (t : Fin cfg0.N) (Y) (h : (rdat m c).Finds 5 t Y) : Y = iblk m c 5 t := by
  obtain ⟨d, rfl⟩ := (rdat m c).finds_in_eq_fetched 5 rfl (fun _ _ _ => rfl) (fun t Y X h => (after0_5 m c t Y X).mp h) t Y h
  unfold RDat.fetched RDat.blockOf iblk; rw [A_eq]; rfl

/-! ## The body at a point -/

/-- What the body is called with at point `t`, with `Y` in the staging buffers, -/
def bodyPre (c : Dev nD) (t : Fin cfg0.N) (Y : (w : Fin cfg0.W) → (cfg0.win w).block.Idx → Elt F (cfg0.win w).elt) : sProp 𝕄 :=
  iprop((rdat m c).Φ t.castSucc ∗ (rdat m c).owesAt () t.castSucc
    ∗ owns (c : Thread nD τ) (ms0_0 t) fullShare (Y 0)
    ∗ owns (c : Thread nD τ) (ms0_1 t) fullShare (Y 1)
    ∗ owns (c : Thread nD τ) (ms0_2 t) fullShare (Y 2)
    ∗ owns (c : Thread nD τ) (ms0_3 t) fullShare (Y 3)
    ∗ owns (c : Thread nD τ) (ms0_4 t) fullShare (Y 4)
    ∗ owns (c : Thread nD τ) (ms0_5 t) fullShare (Y 5)
    ∗ owns (c : Thread nD τ) (ms0_6 t) fullShare (Y 6)
    ∗ owns (c : Thread nD τ) (ms0_7 t) fullShare (Y 7)
    ∗ owns (c : Thread nD τ) (ms0_8 t) fullShare (Y 8))

/-- and what it returns. -/
def bodyPost (c : Dev nD) (t : Fin cfg0.N) (Y : (w : Fin cfg0.W) → (cfg0.win w).block.Idx → Elt F (cfg0.win w).elt) : sProp 𝕄 :=
  iprop((rdat m c).Φ t.succ ∗ (rdat m c).owesAt () t.succ
    ∗ (∃ X, ⌜(rdat m c).after 0 t (Y 0) X⌝ ∗ owns (c : Thread nD τ) (ms0_0 t) fullShare X)
    ∗ (∃ X, ⌜(rdat m c).after 1 t (Y 1) X⌝ ∗ owns (c : Thread nD τ) (ms0_1 t) fullShare X)
    ∗ (∃ X, ⌜(rdat m c).after 2 t (Y 2) X⌝ ∗ owns (c : Thread nD τ) (ms0_2 t) fullShare X)
    ∗ (∃ X, ⌜(rdat m c).after 3 t (Y 3) X⌝ ∗ owns (c : Thread nD τ) (ms0_3 t) fullShare X)
    ∗ (∃ X, ⌜(rdat m c).after 4 t (Y 4) X⌝ ∗ owns (c : Thread nD τ) (ms0_4 t) fullShare X)
    ∗ (∃ X, ⌜(rdat m c).after 5 t (Y 5) X⌝ ∗ owns (c : Thread nD τ) (ms0_5 t) fullShare X)
    ∗ (∃ X, ⌜(rdat m c).after 6 t (Y 6) X⌝ ∗ owns (c : Thread nD τ) (ms0_6 t) fullShare X)
    ∗ (∃ X, ⌜(rdat m c).after 7 t (Y 7) X⌝ ∗ owns (c : Thread nD τ) (ms0_7 t) fullShare X)
    ∗ (∃ X, ⌜(rdat m c).after 8 t (Y 8) X⌝ ∗ owns (c : Thread nD τ) (ms0_8 t) fullShare X))

set_option maxHeartbeats 1600000 in
/-- The body at any point: the inputs' buffers hold their blocks, so the run applies. -/
theorem sound_body (c : Dev nD) (t : Fin cfg0.N) (Y : (w : Fin cfg0.W) → (cfg0.win w).block.Idx → Elt F (cfg0.win w).elt)
    (hY : ∀ w, (rdat m c).Finds w t (Y w)) :
    bodyPre m c t Y ⊢ wp frame (wpE (defs₀ (F := F)) Variants.none c none) Set.univ (bodyAt0 t) (fun _ => bodyPost m c t Y) := by
  unfold bodyPre bodyPost bodyAt0
  simp only [after0_0, after0_1, after0_2, after0_3, after0_4, after0_5, after0_6, after0_7, after0_8]
  rw [finds0_0 m c t _ (hY 0)]; rw [finds0_1 m c t _ (hY 1)]; rw [finds0_2 m c t _ (hY 2)]; rw [finds0_3 m c t _ (hY 3)]; rw [finds0_4 m c t _ (hY 4)]; rw [finds0_5 m c t _ (hY 5)]
  rw [show (rdat m c).Φ t.succ = (rdat m c).Φ t.castSucc from rfl,
    show (rdat m c).owesAt () t.succ = (rdat m c).owesAt () t.castSucc from rfl]
  iintro ⟨HΦ, Ho, H0, H1, H2, H3, H4, H5, H6, H7, H8⟩
  iapply ((run m c t).2.2.2 _ _ _ Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Ho]; · iexact Ho
  isplitl [H0]
  · iexists _; isplitr; swap; · iexact H0
    ipureintro; rfl
  isplitl [H1]
  · iexists _; isplitr; swap; · iexact H1
    ipureintro; rfl
  isplitl [H2]
  · iexists _; isplitr; swap; · iexact H2
    ipureintro; rfl
  isplitl [H3]
  · iexists _; isplitr; swap; · iexact H3
    ipureintro; rfl
  isplitl [H4]
  · iexists _; isplitr; swap; · iexact H4
    ipureintro; rfl
  isplitl [H5]
  · iexists _; isplitr; swap; · iexact H5
    ipureintro; rfl
  isplitl [H6]
  · iexists _; isplitr; swap; · iexact H6
    ipureintro; rfl
  isplitl [H7]
  · iexists _; isplitr; swap; · iexact H7
    ipureintro; rfl
  iexists _; isplitr; swap; · iexact H8
  ipureintro; rfl

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The library's body obligation. -/
theorem body_obligation (c : Dev nD) : (rdat (F := F) m c).BodyObligation (defs₀ (F := F)) Variants.none () Set.univ := fun t Y hY => by
  rw [bigSep_W0, bigSep_W0, defs₀_row]
  exact triple_restated (sound_body m c t Y hY) rfl .rfl fun _ => .rfl

/-! ## The run and the frame -/

set_option backward.isDefEq.respectTransparency.types false in
/-- The launch: every weakly fair execution terminates, with every array at something the proof data allows, every other
    unscoped buffer as the region found it, and every semaphore counter at zero. -/
theorem run_main : θ_run defs (onTc (τ := τ) (main (F := F))) (s₀ m ρ)
    (fun r => RDat.FramePost (cfgs 0) (rdat m) (V m) r ∧ r.2.sem = fun _ => 0) :=
  RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m) (hA := A_eq m) (hΦ := fun _ _ => rfl) (hQ' := fun _ h => h)

/-- The arguments after the run. -/
theorem unchanged {r : PUnit × MemSt nD τ sig (Elt F)} (h : RDat.FramePost (cfgs 0) (rdat m) (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg m c main_arg0 (by simp)),
    ((h c).2 main_arg1 (Pipeline.mem_restRefs_of main_arg1 (by decide) (by decide))).trans (V_main_arg m c main_arg1 (by simp)),
    ((h c).2 main_arg2 (Pipeline.mem_restRefs_of main_arg2 (by decide) (by decide))).trans (V_main_arg m c main_arg2 (by simp)),
    (h.arr_in c 3 rfl).trans ((A_eq m c 3).trans (V_main_arg m c main_arg3 (by simp)))⟩

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => unchanged m h.1 c, h.2⟩) (run_main m ρ)

end Cert.KernelFlIdeal.Hand

end
-- ==== Proof.Fl.Closed.lean ====
/-
The gradients of scaled dot-product attention over real numbers, head by head, and the equations by which the kernel and the
reference reach them.
-/
module

public import Idealize.ShloMosaic.PureOps.Ideal
public import Mathlib.Analysis.SpecialFunctions.Pow.Real

@[expose] public section

noncomputable section

namespace Cert.Fl

/-- The scale of the scores: the float word nearest `1 / √96`. -/
def scR : ℝ := 3424635 / 33554432

theorem scR_ne : scR ≠ 0 := by unfold scR; norm_num

/-- Queries, keys, values and the cotangent of the output: position, head, lane. -/
structure Args where
  q : Fin 8192 → Fin 8 → Fin 96 → ℝ
  k : Fin 8192 → Fin 8 → Fin 96 → ℝ
  v : Fin 8192 → Fin 8 → Fin 64 → ℝ
  o : Fin 8192 → Fin 8 → Fin 64 → ℝ

variable (a : Args)

/-- The score of query `s` and key `k` in head `h`. -/
def score (h : Fin 8) (s k : Fin 8192) : ℝ := ∑ e, a.q s h e * a.k k h e

/-- A row's exponentials and their sum, shifted by `M`. -/
def pow (M : ℝ) (h : Fin 8) (s k : Fin 8192) : ℝ := Real.exp ((score a h s k - M) * scR)
def total (M : ℝ) (h : Fin 8) (s : Fin 8192) : ℝ := ∑ k, pow a M h s k

/-- The weight of key `k` for query `s`. -/
def weight (h : Fin 8) (s k : Fin 8192) : ℝ := pow a 0 h s k / total a 0 h s

/-- The gradient at a weight. -/
def dweight (h : Fin 8) (s k : Fin 8192) : ℝ := ∑ d, a.o s h d * a.v k h d

/-- The gradient at a score, scale and all. -/
def dscore (h : Fin 8) (s k : Fin 8192) : ℝ := weight a h s k * (dweight a h s k - ∑ u, weight a h s u * dweight a h s u) * scR

def dq (s : Fin 8192) (h : Fin 8) (e : Fin 96) : ℝ := ∑ k, dscore a h s k * a.k k h e
def dk (k : Fin 8192) (h : Fin 8) (e : Fin 96) : ℝ := ∑ s, dscore a h s k * a.q s h e
def dv (k : Fin 8192) (h : Fin 8) (d : Fin 64) : ℝ := ∑ s, weight a h s k * a.o s h d

theorem pow_pos (M : ℝ) (h : Fin 8) (s k : Fin 8192) : 0 < pow a M h s k := Real.exp_pos _

theorem total_pos (M : ℝ) (h : Fin 8) (s : Fin 8192) : 0 < total a M h s :=
  Finset.sum_pos (fun k _ => pow_pos a M h s k) ⟨0, Finset.mem_univ _⟩

theorem pow_shift (M : ℝ) (h : Fin 8) (s k : Fin 8192) : pow a M h s k = Real.exp (-M * scR) * pow a 0 h s k := by
  unfold pow; rw [← Real.exp_add]; congr 1; ring

theorem total_shift (M : ℝ) (h : Fin 8) (s : Fin 8192) : total a M h s = Real.exp (-M * scR) * total a 0 h s := by
  unfold total; rw [Finset.mul_sum]; exact Finset.sum_congr rfl fun k _ => pow_shift a M h s k

/-- The shift makes no difference to a weight. -/
theorem weight_eq (M : ℝ) (h : Fin 8) (s k : Fin 8192) : pow a M h s k / total a M h s = weight a h s k := by
  rw [pow_shift, total_shift, mul_div_mul_left _ _ (Real.exp_pos _).ne', weight]

/-- The level of a row that the forward pass saves. -/
def level (M : ℝ) (h : Fin 8) (s : Fin 8192) : ℝ := M + Real.log (total a M h s) / scR

/-- A weight from the level of its row, as a power of two. -/
theorem weight_of_level (M : ℝ) (h : Fin 8) (s k : Fin 8192) :
    Real.rpow 2 ((score a h s k - level a M h s) * (scR * (Real.log 2)⁻¹)) = weight a h s k := by
  have h2 : Real.log 2 ≠ 0 := (Real.log_pos one_lt_two).ne'
  rw [← weight_eq a M, pow, Real.rpow_eq_pow, Real.rpow_def_of_pos two_pos, level]
  rw [show Real.log 2 * ((score a h s k - (M + Real.log (total a M h s) / scR)) * (scR * (Real.log 2)⁻¹))
      = (score a h s k - M) * scR - Real.log (total a M h s) by field_simp [scR_ne, h2]; ring]
  rw [Real.exp_sub, Real.exp_log (total_pos a M h s)]

/-- A row's sum of the cotangent times the output is its sum of weights times their gradients. -/
theorem delta_eq (M : ℝ) (h : Fin 8) (s : Fin 8192) :
    ∑ d, a.o s h d * ((∑ k, pow a M h s k * a.v k h d) * (1 / total a M h s)) = ∑ u, weight a h s u * dweight a h s u := by
  calc _ = ∑ d, ∑ k, weight a h s k * (a.o s h d * a.v k h d) := by
        refine Finset.sum_congr rfl fun d _ => ?_
        rw [Finset.sum_mul, Finset.mul_sum]
        refine Finset.sum_congr rfl fun k _ => ?_
        rw [← weight_eq a M]; ring
    _ = _ := by
        rw [Finset.sum_comm]
        refine Finset.sum_congr rfl fun k _ => ?_
        rw [dweight, Finset.mul_sum]

/-- The quotient rule's form of the gradient at a score. -/
theorem dscore_eq (M : ℝ) (h : Fin 8) (s k : Fin 8192) :
    (dweight a h s k / total a M h s + -(∑ u, dweight a h s u * (1 / (total a M h s * total a M h s)) * pow a M h s u)) * pow a M h s k * scR
      = dscore a h s k := by
  have hs : ∑ u, dweight a h s u * (1 / (total a M h s * total a M h s)) * pow a M h s u
      = (∑ u, weight a h s u * dweight a h s u) / total a M h s := by
    rw [Finset.sum_div]
    refine Finset.sum_congr rfl fun u _ => ?_
    rw [← weight_eq a M]
    field_simp [(total_pos a M h s).ne']
  rw [hs, dscore, ← weight_eq a M h s k]
  field_simp [(total_pos a M h s).ne']
  ring

/-- A lane of a head's 128, of which 96 are used. -/
def wide (f : Fin 96 → ℝ) (e : Fin 128) : ℝ := if h : e.val < 96 then f ⟨e.val, h⟩ else 0

theorem sum_wide (f g : Fin 96 → ℝ) : ∑ e, wide f e * wide g e = ∑ e, f e * g e := by
  rw [Fin.sum_univ_add (a := 96) (b := 32) (f := fun e => wide f e * wide g e)]
  refine (congrArg₂ (· + ·) (Finset.sum_congr rfl fun e _ => ?_) (Finset.sum_eq_zero fun e _ => ?_)).trans (add_zero _)
  · unfold wide
    rw [dif_pos (show (Fin.castAdd 32 e).val < 96 from e.isLt), dif_pos (show (Fin.castAdd 32 e).val < 96 from e.isLt)]; rfl
  · unfold wide
    rw [dif_neg (show ¬ (Fin.natAdd 96 e).val < 96 by simp), zero_mul]

/-- The sum over a pair of heads' 128 lanes, the lanes of one head only. -/
theorem sum_lanes (j : Fin 2) (f : Fin 2 → Fin 64 → ℝ) (g : Fin 2 → Fin 64 → ℝ) :
    ∑ e : Fin 128, f ⟨e.val / 64, by omega⟩ ⟨e.val % 64, Nat.mod_lt _ (by norm_num)⟩
        * (if e.val / 64 = j.val then g ⟨e.val / 64, by omega⟩ ⟨e.val % 64, Nat.mod_lt _ (by norm_num)⟩ else 0)
      = ∑ d : Fin 64, f j d * g j d := by
  rw [Fin.sum_univ_add (a := 64) (b := 64)]
  have h0 : ∀ d : Fin 64, (Fin.castAdd 64 d).val / 64 = 0 ∧ (Fin.castAdd 64 d).val % 64 = d.val := fun d => by
    simp only [Fin.val_castAdd]; omega
  have h1 : ∀ d : Fin 64, (Fin.natAdd 64 d).val / 64 = 1 ∧ (Fin.natAdd 64 d).val % 64 = d.val := fun d => by
    simp only [Fin.val_natAdd]; omega
  simp only [(h0 _).1, (h0 _).2, (h1 _).1, (h1 _).2]
  match j with
  | 0 => simp
  | 1 => simp

end Cert.Fl

end
-- ==== Proof.Fl.Point.lean ====
/-
One grid point of the flash attention backward kernel over the extended reals: what its payloads are at an index, for
either of the two heads whose lanes a block holds.
-/
module

public import proofs.«01_k».proof.Proof.Gen.KernelFlIdeal.Skeleton
public import proofs.«01_k».proof.Proof.Fl.Closed
public import Idealize.ShloMosaic.Lib.Pipeline.ValueKit
public import Idealize.ShloMosaic.Lib.Pointwise

@[expose] public section

set_option maxRecDepth 16384

noncomputable section

namespace Cert.Fl

open Idealize.ShloMosaic Idealize.ShloMosaic.TcCoe Idealize.SL.Sem
open Cert.KernelFlIdeal Cert.KernelFlIdeal.Gen

/-- The scale of the scores. -/
def sc : EReal := (scR : EReal)
/-- The scale of the scores in powers of two, by `1 / ln 2`. -/
def smc : EReal := ((scR * (Real.log 2)⁻¹ : ℝ) : EReal)

theorem ofBits_scale : Ideal.ofBits .f32 0x3DD105EC#32 = sc := by
  simp [Ideal.ofBits, Ideal.ieee, -EReal.coe_mul, sc, scR]; norm_num
theorem named_smc : Named.named (F := Ideal) κ "smc" (φ := .f32) 0x3E16C740#32 = smc :=
  IdealRules.named_const.ideal_named_scalar _ _ _ _ rfl

/-- One head's part of the blocks at a grid point, 2048 queries against 1024 keys: `q`, `k`, `v`, the cotangent `o` (zero
    in the other head's lanes), each query's level `l` and its sum `d` of the cotangent times the output. -/
structure Half where
  q : Fin 2048 → Fin 128 → EReal
  k : Fin 1024 → Fin 128 → EReal
  v : Fin 1024 → Fin 128 → EReal
  o : Fin 2048 → Fin 128 → EReal
  l : Fin 2048 → EReal
  d : Fin 2048 → EReal

/-- The weight of key `c` for query `r`, -/
def Half.p (h : Half) (c : Fin 1024) (r : Fin 2048) : EReal := Ideal.exp2 ((∑ e : Fin 128, h.k c e * h.q r e - h.l r) * smc)
/-- and the gradient of their score. -/
def Half.ds (h : Half) (c : Fin 1024) (r : Fin 2048) : EReal := h.p c r * (∑ e : Fin 128, h.v c e * h.o r e - h.d r) * sc

variable (h : Half)
variable (q0 : Vec Ideal S2048x128 .bf16) (k0 v : Vec Ideal S1024x128 .bf16) (o : Vec Ideal S2048x128 .f32) (l d : Vec Ideal S1x2x2048 .f32)

/-- The loaded vectors of the first head are its part of the blocks. -/
structure First : Prop where
  q : ∀ r e, q0 (ix2 r e) = h.q r e
  k : ∀ c e, k0 (ix2 c e) = h.k c e
  v : ∀ c e, v (ix2 c e) = h.v c e
  o : ∀ r (e : Fin 128), (if (e : ℕ) < 64 then o (ix2 r e) else 0) = h.o r e
  l : ∀ r, l (ix3 0 0 r) = h.l r
  d : ∀ r, d (ix3 0 0 r) = h.d r

/-- The loaded vectors of the second head are its part of the blocks. -/
structure Second : Prop where
  q : ∀ r e, q0 (ix2 r e) = h.q r e
  k : ∀ c e, k0 (ix2 c e) = h.k c e
  v : ∀ c e, v (ix2 c e) = h.v c e
  o : ∀ r (e : Fin 128), (if (e : ℕ) < 64 then 0 else o (ix2 r e)) = h.o r e
  l : ∀ r, l (ix3 0 1 r) = h.l r
  d : ∀ r, d (ix3 0 1 r) = h.d r

/-- Which lanes the masks keep. -/
theorem lane_first : ∀ e : Fin 128, IntOp.andi (IntOp.cmpi .sge (BitVec.ofNat 32 e.val) 0#32) (IntOp.cmpi .slt (BitVec.ofNat 32 e.val) 64#32)
    = if (e : ℕ) < 64 then 1#1 else 0#1 := by decide +kernel
theorem lane_second : ∀ e : Fin 128, IntOp.andi (IntOp.cmpi .sge (BitVec.ofNat 32 e.val) 64#32) (IntOp.cmpi .slt (BitVec.ofNat 32 e.val) 128#32)
    = if (e : ℕ) < 64 then 0#1 else 1#1 := by decide +kernel

theorem pay24_at (r : Fin 2048) (e : Fin 128) : k0_pay24 q0 (ix2 r e) = q0 (ix2 r e) := by pointwise [k0_pay24]
theorem pay25_at (c : Fin 1024) (e : Fin 128) : k0_pay25 k0 (ix2 c e) = k0 (ix2 c e) := by pointwise [k0_pay25]

section First

variable {h q0 k0 v o l d} (H : First h q0 k0 v o l d)
include H

theorem pay16_at (r : Fin 2048) (e : Fin 128) : k0_pay16 o (ix2 r e) = h.o r e := by
  pointwise [k0_pay16, ← H.o r e]
  rw [lane_first e]
  by_cases he : (e : ℕ) < 64 <;> simp [he, Scalar.select]

theorem pay19_at (c : Fin 1024) (r : Fin 2048) : k0_pay19 (k0_pay17 q0 k0) (k0_pay18 l) (ix2 c r) = h.p c r := by
  pointwise [k0_pay19, k0_pay17, k0_pay18, k0_pay11, k0_pay14, k0_pay15, H.q, H.k, H.l, Half.p, named_smc]
  rfl

theorem pay20_at (c : Fin 1024) (r : Fin 2048) :
    k0_pay20 (k0_pay10 v) (k0_pay12 d) (k0_pay16 o) (k0_pay17 q0 k0) (k0_pay18 l) (ix2 c r) = h.ds c r := by
  pointwise [k0_pay20, k0_pay10, k0_pay12, pay16_at H, pay19_at H, H.v, H.d, Half.ds, ofBits_scale]

theorem pay22_at (u : Vec Ideal S1024x128 .f32) (c : Fin 1024) (e : Fin 128) :
    k0_pay22 (k0_pay10 v) (k0_pay12 d) (k0_pay14 q0) (k0_pay16 o) (k0_pay17 q0 k0) (k0_pay18 l) u (ix2 c e)
      = u (ix2 c e) + ∑ r, h.ds c r * h.q r e := by
  pointwise [k0_pay22, k0_pay14, pay20_at H, H.q]

theorem pay23_at (u : Vec Ideal S2048x128 .f32) (r : Fin 2048) (e : Fin 128) :
    k0_pay23 (k0_pay10 v) (k0_pay12 d) (k0_pay15 k0) (k0_pay16 o) (k0_pay17 q0 k0) (k0_pay18 l) u (ix2 r e)
      = u (ix2 r e) + ∑ c, h.ds c r * h.k c e := by
  pointwise [k0_pay23, k0_pay15, pay20_at H, H.k]

theorem pay21_at (u : FVec Ideal S1024x128 .f32) (c : Fin 1024) (e : Fin 128) :
    k0_pay21 u (k0_pay16 o) (k0_pay17 q0 k0) (k0_pay18 l) (ix2 c e) = u (ix2 c e) + ∑ r, h.p c r * h.o r e := by
  pointwise [k0_pay21, pay19_at H, pay16_at H]

end First

section Second

variable {h q0 k0 v o l d} (H : Second h q0 k0 v o l d)
include H

theorem pay26_at (r : Fin 2048) (e : Fin 128) : k0_pay26 o (iota Kind.tc S2048x128 32 [1] iota_S2048x128_d1_w32) (ix2 r e) = h.o r e := by
  pointwise [k0_pay26, ← H.o r e]
  rw [lane_second e]
  by_cases he : (e : ℕ) < 64 <;> simp [he, Scalar.select]

theorem pay2_at (c : Fin 1024) (r : Fin 2048) : k0_pay2 (k0_pay11 l) (k0_pay24 q0) (k0_pay25 k0) (ix2 c r) = h.p c r := by
  pointwise [k0_pay2, k0_pay11, k0_pay24, k0_pay25, H.q, H.k, H.l, Half.p, named_smc]
  rfl

theorem pay3_at (c : Fin 1024) (r : Fin 2048) :
    k0_pay3 (k0_pay10 v) (k0_pay11 l) (k0_pay12 d) (k0_pay24 q0) (k0_pay25 k0) (k0_pay26 o (iota Kind.tc S2048x128 32 [1] iota_S2048x128_d1_w32)) (ix2 c r) = h.ds c r := by
  pointwise [k0_pay3, k0_pay10, k0_pay12, k0_pay1, pay26_at H, pay2_at H, H.v, H.d, Half.ds, ofBits_scale]

theorem pay4_at (u : Vec Ideal S1024x128 .f32) (c : Fin 1024) (e : Fin 128) :
    k0_pay4 (k0_pay10 v) (k0_pay11 l) (k0_pay12 d) (k0_pay24 q0) (k0_pay25 k0) (k0_pay26 o (iota Kind.tc S2048x128 32 [1] iota_S2048x128_d1_w32)) u (ix2 c e)
      = u (ix2 c e) + ∑ r, h.ds c r * h.q r e := by
  pointwise [k0_pay4, pay24_at, pay3_at H, H.q]

theorem pay5_at (u : Vec Ideal S2048x128 .f32) (r : Fin 2048) (e : Fin 128) :
    k0_pay5 (k0_pay10 v) (k0_pay11 l) (k0_pay12 d) (k0_pay24 q0) (k0_pay25 k0) (k0_pay26 o (iota Kind.tc S2048x128 32 [1] iota_S2048x128_d1_w32)) u (ix2 r e)
      = u (ix2 r e) + ∑ c, h.ds c r * h.k c e := by
  pointwise [k0_pay5, pay25_at, pay3_at H, H.k]

theorem pay6_at (w : FVec Ideal S1024x128 .f32) (u : Vec Ideal S1024x128 .f32) (c : Fin 1024) (e : Fin 128) :
    k0_pay6 (k0_pay11 l) w (k0_pay24 q0) (k0_pay25 k0) (k0_pay26 o (iota Kind.tc S2048x128 32 [1] iota_S2048x128_d1_w32)) u (ix2 c e)
      = u (ix2 c e) + (w (ix2 c e) + ∑ r, h.p c r * h.o r e) := by
  pointwise [k0_pay6, k0_pay1, pay2_at H, pay26_at H]

end Second

end Cert.Fl

end
-- ==== Proof.Fl.Step.lean ====
/-
What one grid point of the flash attention backward kernel makes of the three gradients' staging buffers, element by
element.
-/
module

public import proofs.«01_k».proof.Proof.Fl.Frame
public import proofs.«01_k».proof.Proof.Fl.Point
public import Idealize.ShloMosaic.Lib.VecWindow

@[expose] public section

set_option maxRecDepth 16384

noncomputable section

namespace Cert.Fl

open Idealize.ShloMosaic Idealize.ShloMosaic.TcCoe Idealize.SL.Sem
open Cert.KernelFlIdeal Cert.KernelFlIdeal.Gen Cert.KernelFlIdeal.Hand

/-- Lane `e` of head `j` of a block's pair of heads. -/
def lane (j : Fin 2) (e : Fin 128) : Fin 256 := ⟨128 * j.val + e.val, by omega⟩

/-- Head `j`'s part of six blocks. -/
def half (x0 : Vec Ideal S2048x256 .bf16) (x1 : Vec Ideal S1024x256 .bf16) (x2 : Vec Ideal S1024x128 .bf16) (x3 : Vec Ideal S2048x128 .f32)
    (x4 x5 : Vec Ideal S1x2x2048 .f32) (j : Fin 2) : Half where
  q r e := x0 (ix2 r (lane j e))
  k c e := x1 (ix2 c (lane j e))
  v c e := x2 (ix2 c e)
  o r e := if e.val / 64 = j.val then x3 (ix2 r e) else 0
  l r := x4 (ix3 0 j r)
  d r := x5 (ix3 0 j r)

/-- The tests and the offsets of a grid point, in its number. -/
theorem firstQ_iff : ∀ t : Fin cfg0.N, firstQ (grid0.coords t) ↔ t.val % 4 = 0 :=
  (by decide +kernel : ∀ t : Fin grid0.N, _)
theorem firstK_iff : ∀ t : Fin cfg0.N, firstK (grid0.coords t) ↔ t.val / 4 % 8 = 0 :=
  (by decide +kernel : ∀ t : Fin grid0.N, _)
theorem off1_eq : ∀ t : Fin cfg0.N, k0_off1 (grid0.coords t) = ![t.val % 4 * 2048, 0] :=
  (by decide +kernel : ∀ t : Fin grid0.N, _)
theorem off2_eq : ∀ t : Fin cfg0.N, k0_off2 (grid0.coords t) = ![t.val % 4 * 2048, 0] :=
  (by decide +kernel : ∀ t : Fin grid0.N, _)
theorem off3_eq : ∀ t : Fin cfg0.N, k0_off3 (grid0.coords t) = ![t.val % 4 * 2048, 128] :=
  (by decide +kernel : ∀ t : Fin grid0.N, _)

/-- The part of a block's lanes that a load at its first or its last 128 lanes reads. -/
theorem first_half (x0 : Vec Ideal S2048x256 .bf16) (x1 : Vec Ideal S1024x256 .bf16) (x2 : Vec Ideal S1024x128 .bf16) (x3 : Vec Ideal S2048x128 .f32)
    (x4 x5 : Vec Ideal S1x2x2048 .f32) (q0 : Vec Ideal S2048x128 .bf16) (k0 : Vec Ideal S1024x128 .bf16)
    (hq : ∀ r e, q0 (ix2 r e) = x0 (ix2 r (lane 0 e))) (hk : ∀ c e, k0 (ix2 c e) = x1 (ix2 c (lane 0 e))) :
    First (half x0 x1 x2 x3 x4 x5 0) q0 k0 x2 x3 x4 x5 where
  q := hq
  k := hk
  v _ _ := rfl
  o r e := by
    show _ = if e.val / 64 = 0 then _ else _
    by_cases he : (e : ℕ) < 64
    · rw [if_pos he, if_pos (by omega)]
    · rw [if_neg he, if_neg (by omega)]
  l _ := rfl
  d _ := rfl

theorem second_half (x0 : Vec Ideal S2048x256 .bf16) (x1 : Vec Ideal S1024x256 .bf16) (x2 : Vec Ideal S1024x128 .bf16) (x3 : Vec Ideal S2048x128 .f32)
    (x4 x5 : Vec Ideal S1x2x2048 .f32) (q1 : Vec Ideal S2048x128 .bf16) (k1 : Vec Ideal S1024x128 .bf16)
    (hq : ∀ r e, q1 (ix2 r e) = x0 (ix2 r (lane 1 e))) (hk : ∀ c e, k1 (ix2 c e) = x1 (ix2 c (lane 1 e))) :
    Second (half x0 x1 x2 x3 x4 x5 1) q1 k1 x2 x3 x4 x5 where
  q := hq
  k := hk
  v _ _ := rfl
  o r e := by
    show _ = if e.val / 64 = 1 then _ else _
    by_cases he : (e : ℕ) < 64
    · rw [if_pos he, if_neg (by omega)]
    · rw [if_neg he, if_pos (by omega)]
  l _ := rfl
  d _ := rfl

section Reads

variable {sig : RefSig} {κ : Kind} {sp : Space} {s : Shape} {e : EltTy} {Val : EltTy → Type}

/-- A load of a part of a buffer, read at a position, is the buffer at the offset plus the position. -/
theorem ld_at (X : s.Idx → Val e) {off size : Fin s.rank → ℕ} (inb : ∀ a, off a + size a ≤ s.size a)
    (x : (Rect.unit off size inb).shape.Idx) (y : s.Idx) (h : ∀ a, (y a).val = off a + (x a).val) :
    View.ld X (Rect.unit off size inb) x = X y :=
  congrArg X (funext fun a => Fin.ext ((congrArg (off a + ·) (Nat.one_mul _)).trans (h a).symm))

/-- The same of a load after stores into the buffer. -/
theorem cov_at [∀ e, Nonempty (Val e)] (v : View sig κ sp s e) (L : List (View.Piece Val s e)) {off size : Fin s.rank → ℕ}
    (inb : ∀ a, off a + size a ≤ s.size a) (x : (Rect.unit off size inb).shape.Idx) (y : s.Idx) (h : ∀ a, (y a).val = off a + (x a).val) :
    v.readCov L (Rect.unit off size inb).toLoadRect x = v.read Val (v.writes Val v.junk L) y :=
  ld_at (v.read Val (v.writes Val v.junk L)) inb x y h

/-- No store leaves a buffer as it was. -/
theorem unread_at {mem : Memref sig κ sp s e} (h : mem.IsWhole) (X : s.Idx → Val e) (y : s.Idx) :
    mem.view.read Val (mem.view.writes Val (h.unread X) []) y = X y := by
  rw [View.writes_nil, Memref.IsWhole.read_unread]

end Reads

variable (m : (ℓ : Loc nD τ sig) → Buf (Elt Ideal) ℓ)

/-- Head `j`'s part of the blocks of grid point `t`. -/
def part (c : Dev nD) (t : Fin cfg0.N) (j : Fin 2) : Half :=
  half (iblk m c 0 t) (iblk m c 1 t) (iblk m c 2 t) (iblk m c 3 t) (iblk m c 4 t) (iblk m c 5 t) j

/-- A row and a lane of a pair of heads, as an offset and a position. -/
theorem at_lane {N n o k : ℕ} (j : Fin 2) (s : Fin N) (r : Fin n) (e : Fin 128) (hs : s.val = o + r.val) (hk : k = 128 * j.val) :
    ∀ a : Fin 2, ((ix2 s (lane j e) : (⟨2, ![N, 256]⟩ : Shape).Idx) a).val = (![o, k] : Fin 2 → ℕ) a + ((ix2 r e : (⟨2, ![n, 128]⟩ : Shape).Idx) a).val :=
  Fin.forall_fin_two.mpr ⟨hs, by subst hk; rfl⟩

/-- The two halves that the body loads. -/
theorem fst (c : Dev nD) (t : Fin cfg0.N) : First (part m c t 0)
    (View.ld (Val := Elt Ideal) (S := S2048x256) (e' := .bf16) (iblk m c 0 t) (Rect.unit (s := S2048x256) ![0, 0] ![2048, 128] inb_S2048x256_S2048x128_0_0))
    (View.ld (Val := Elt Ideal) (S := S1024x256) (e' := .bf16) (iblk m c 1 t) (Rect.unit (s := S1024x256) ![0, 0] ![1024, 128] inb_S1024x256_S1024x128_0_0))
    (iblk m c 2 t) (iblk m c 3 t) (iblk m c 4 t) (iblk m c 5 t) :=
  first_half _ _ _ _ _ _ _ _ (fun r e => ld_at (s := S2048x256) _ _ (ix2 r e) _ (at_lane 0 r r e (Nat.zero_add _).symm rfl))
    (fun r e => ld_at (s := S1024x256) _ _ (ix2 r e) _ (at_lane 0 r r e (Nat.zero_add _).symm rfl))

theorem snd (c : Dev nD) (t : Fin cfg0.N) : Second (part m c t 1)
    (View.ld (Val := Elt Ideal) (S := S2048x256) (e' := .bf16) (iblk m c 0 t) (Rect.unit (s := S2048x256) ![0, 128] ![2048, 128] inb_S2048x256_S2048x128_0_128))
    (View.ld (Val := Elt Ideal) (S := S1024x256) (e' := .bf16) (iblk m c 1 t) (Rect.unit (s := S1024x256) ![0, 128] ![1024, 128] inb_S1024x256_S1024x128_0_128))
    (iblk m c 2 t) (iblk m c 3 t) (iblk m c 4 t) (iblk m c 5 t) :=
  second_half _ _ _ _ _ _ _ _ (fun r e => ld_at (s := S2048x256) _ _ (ix2 r e) _ (at_lane 1 r r e (Nat.zero_add _).symm rfl))
    (fun r e => ld_at (s := S1024x256) _ _ (ix2 r e) _ (at_lane 1 r r e (Nat.zero_add _).symm rfl))

theorem pay7_at (i) : k0_pay7 (F := Ideal) i = 0 := by pointwise [k0_pay7]
theorem pay8_at (i) : k0_pay8 (F := Ideal) i = 0 := by pointwise [k0_pay8]
theorem pay9_at (i) : k0_pay9 (F := Ideal) i = 0 := by pointwise [k0_pay9]
theorem pay13_at (i) : k0_pay13 (F := Ideal) i = 0 := by pointwise [k0_pay13]

/-- The block of the gradient of `k`, in the first head's lanes, -/
theorem dk_first (c : Dev nD) (t : Fin cfg0.N) (Y : Vec Ideal S1024x256 .f32) (r : Fin 1024) (e : Fin 128) :
    (run (F := Ideal) m c t).2.1 Y (ix2 r (lane 0 e))
      = (if t.val % 4 = 0 then 0 else Y (ix2 r (lane 0 e))) + ∑ s, (part m c t 0).ds r s * (part m c t 0).q s e := by
  have hl := at_lane 0 r r e (Nat.zero_add _).symm rfl
  unfold run kernelRun
  by_cases h0 : firstQ (grid0.coords t) <;> by_cases h1 : firstK (grid0.coords t)
  on_goal 1 => rw [dif_pos h0, dif_pos h1]
  on_goal 2 => rw [dif_pos h0, dif_neg h1]
  on_goal 3 => rw [dif_neg h0, dif_pos h1]
  on_goal 4 => rw [dif_neg h0, dif_neg h1]
  all_goals
    dsimp only
    frame_out
    refine (View.read_writes_cons_unit_of_not_mem _ _ _ _ _ _ rfl 1 (Or.inl (show 128 * 0 + e.val < 128 by omega))).trans ?_
    refine (View.read_writes_cons_unit_of_mem _ _ _ _ _ _ (ix2 r e) rfl hl).trans ?_
    refine (pay22_at (fst m c t) _ r e).trans ?_
    refine congrArg (· + _) ?_
    first
      | exact (ld_at _ _ _ _ hl).trans (if_neg (mt (firstQ_iff t).mpr h0)).symm
      | exact (cov_at _ _ _ _ _ hl).trans ((congrFun (View.read_writes_full _ _ _ _ _) _).trans ((pay7_at _).trans (if_pos ((firstQ_iff t).mp h0)).symm))

/-- and in the second's. -/
theorem dk_second (c : Dev nD) (t : Fin cfg0.N) (Y : Vec Ideal S1024x256 .f32) (r : Fin 1024) (e : Fin 128) :
    (run (F := Ideal) m c t).2.1 Y (ix2 r (lane 1 e))
      = (if t.val % 4 = 0 then 0 else Y (ix2 r (lane 1 e))) + ∑ s, (part m c t 1).ds r s * (part m c t 1).q s e := by
  have hl := at_lane 1 r r e (Nat.zero_add _).symm rfl
  unfold run kernelRun
  by_cases h0 : firstQ (grid0.coords t) <;> by_cases h1 : firstK (grid0.coords t)
  on_goal 1 => rw [dif_pos h0, dif_pos h1]
  on_goal 2 => rw [dif_pos h0, dif_neg h1]
  on_goal 3 => rw [dif_neg h0, dif_pos h1]
  on_goal 4 => rw [dif_neg h0, dif_neg h1]
  all_goals
    dsimp only
    frame_out
    refine (View.read_writes_cons_unit_of_mem _ _ _ _ _ _ (ix2 r e) rfl hl).trans ?_
    refine (pay4_at (snd m c t) _ r e).trans ?_
    refine congrArg (· + _) ?_
    first
      | exact (ld_at _ _ _ _ hl).trans (if_neg (mt (firstQ_iff t).mpr h0)).symm
      | exact (cov_at _ _ _ _ _ hl).trans ((View.read_writes_cons_unit_of_not_mem _ _ _ _ _ _ rfl 1
          (Or.inr (show 0 + 128 ≤ 128 * 1 + e.val by omega))).trans ((congrFun (View.read_writes_full _ _ _ _ _) _).trans ((pay7_at _).trans (if_pos ((firstQ_iff t).mp h0)).symm)))

set_option maxHeartbeats 1600000 in
/-- The block of the gradient of `v`. -/
theorem dv_step (c : Dev nD) (t : Fin cfg0.N) (Y : Vec Ideal S1024x128 .f32) (r : Fin 1024) (e : Fin 128) :
    (run (F := Ideal) m c t).2.2.1 Y (ix2 r e)
      = (if t.val % 4 = 0 then 0 else Y (ix2 r e))
        + (∑ s, (part m c t 0).p r s * (part m c t 0).o s e + ∑ s, (part m c t 1).p r s * (part m c t 1).o s e) := by
  unfold run kernelRun
  by_cases h0 : firstQ (grid0.coords t) <;> by_cases h1 : firstK (grid0.coords t)
  on_goal 1 => rw [dif_pos h0, dif_pos h1]
  on_goal 2 => rw [dif_pos h0, dif_neg h1]
  on_goal 3 => rw [dif_neg h0, dif_pos h1]
  on_goal 4 => rw [dif_neg h0, dif_neg h1]
  all_goals
    dsimp only
    frame_out
    refine (congrFun (View.read_writes_full _ _ _ _ _) _).trans ?_
    refine (pay6_at (snd m c t) _ _ r e).trans ?_
    refine congrArg₂ (· + ·) ?_ (congrArg (· + _) ((pay21_at (fst m c t) _ r e).trans ?_))
    · first | exact (pay8_at _).trans (if_pos ((firstQ_iff t).mp h0)).symm | exact (if_neg (mt (firstQ_iff t).mpr h0)).symm
    · exact (congrArg (· + _) (pay13_at _)).trans (zero_add _)

/-- The tile's rows of the gradient of `q`, in the first head's lanes, -/
theorem dq_first (c : Dev nD) (t : Fin cfg0.N) (Y : Vec Ideal S8192x256 .f32) (i : Fin 8192) (r : Fin 2048) (hi : i.val = t.val % 4 * 2048 + r.val) (e : Fin 128) :
    (run (F := Ideal) m c t).1 Y (ix2 i (lane 0 e))
      = (if t.val / 4 % 8 = 0 then 0 else Y (ix2 i (lane 0 e))) + ∑ s, (part m c t 0).ds s r * (part m c t 0).k s e := by
  have hl := at_lane 0 i r e hi rfl
  have hk : ∀ a : Fin 2, ((ix2 i (lane 0 e) : S8192x256.Idx) a).val = k0_off2 (grid0.coords t) a + ((ix2 r e : S2048x128.Idx) a).val := by
    rw [off2_eq t]; exact hl
  have hz : ∀ a : Fin 2, ((ix2 i (lane 0 e) : S8192x256.Idx) a).val = (![t.val % 4 * 2048, 0] : Fin 2 → ℕ) a + ((ix2 r (lane 0 e) : S2048x256.Idx) a).val :=
    Fin.forall_fin_two.mpr ⟨hi, (Nat.zero_add _).symm⟩
  unfold run kernelRun
  by_cases h0 : firstQ (grid0.coords t) <;> by_cases h1 : firstK (grid0.coords t)
  on_goal 1 => rw [dif_pos h0, dif_pos h1]
  on_goal 2 => rw [dif_pos h0, dif_neg h1]
  on_goal 3 => rw [dif_neg h0, dif_pos h1]
  on_goal 4 => rw [dif_neg h0, dif_neg h1]
  all_goals
    dsimp only
    frame_out
    refine (View.read_writes_cons_unit_of_not_mem _ _ _ _ _ _ (off3_eq t) 1 (Or.inl (show 128 * 0 + e.val < 128 by omega))).trans ?_
    refine (View.read_writes_cons_unit_of_mem _ _ _ _ _ _ (ix2 r e) (off2_eq t) hl).trans ?_
    refine (pay23_at (fst m c t) _ r e).trans ?_
    refine congrArg (· + _) ?_
    first
      | exact (ld_at _ _ _ _ hk).trans (if_neg (mt (firstK_iff t).mpr h1)).symm
      | exact (cov_at _ _ _ _ _ hk).trans ((View.read_writes_cons_unit_of_mem _ _ _ _ _ _ (ix2 r (lane 0 e)) (off1_eq t) hz).trans ((pay9_at _).trans (if_pos ((firstK_iff t).mp h1)).symm))

/-- in the second's, -/
theorem dq_second (c : Dev nD) (t : Fin cfg0.N) (Y : Vec Ideal S8192x256 .f32) (i : Fin 8192) (r : Fin 2048) (hi : i.val = t.val % 4 * 2048 + r.val) (e : Fin 128) :
    (run (F := Ideal) m c t).1 Y (ix2 i (lane 1 e))
      = (if t.val / 4 % 8 = 0 then 0 else Y (ix2 i (lane 1 e))) + ∑ s, (part m c t 1).ds s r * (part m c t 1).k s e := by
  have hl := at_lane 1 i r e hi rfl
  have hk : ∀ a : Fin 2, ((ix2 i (lane 1 e) : S8192x256.Idx) a).val = k0_off3 (grid0.coords t) a + ((ix2 r e : S2048x128.Idx) a).val := by
    rw [off3_eq t]; exact hl
  have hz : ∀ a : Fin 2, ((ix2 i (lane 1 e) : S8192x256.Idx) a).val = (![t.val % 4 * 2048, 0] : Fin 2 → ℕ) a + ((ix2 r (lane 1 e) : S2048x256.Idx) a).val :=
    Fin.forall_fin_two.mpr ⟨hi, (Nat.zero_add _).symm⟩
  unfold run kernelRun
  by_cases h0 : firstQ (grid0.coords t) <;> by_cases h1 : firstK (grid0.coords t)
  on_goal 1 => rw [dif_pos h0, dif_pos h1]
  on_goal 2 => rw [dif_pos h0, dif_neg h1]
  on_goal 3 => rw [dif_neg h0, dif_pos h1]
  on_goal 4 => rw [dif_neg h0, dif_neg h1]
  all_goals
    dsimp only
    frame_out
    refine (View.read_writes_cons_unit_of_mem _ _ _ _ _ _ (ix2 r e) (off3_eq t) hl).trans ?_
    refine (pay5_at (snd m c t) _ r e).trans ?_
    refine congrArg (· + _) ?_
    first
      | exact (ld_at _ _ _ _ hk).trans (if_neg (mt (firstK_iff t).mpr h1)).symm
      | exact (cov_at _ _ _ _ _ hk).trans ((View.read_writes_cons_unit_of_not_mem _ _ _ _ _ _ (off2_eq t) 1
          (Or.inr (show 0 + 128 ≤ 128 * 1 + e.val by omega))).trans ((View.read_writes_cons_unit_of_mem _ _ _ _ _ _ (ix2 r (lane 1 e)) (off1_eq t) hz).trans ((pay9_at _).trans (if_pos ((firstK_iff t).mp h1)).symm)))

/-- and the other rows, which stay. -/
theorem dq_other (c : Dev nD) (t : Fin cfg0.N) (Y : Vec Ideal S8192x256 .f32) (i : Fin 8192) (hi : i.val / 2048 ≠ t.val % 4) (e : Fin 256) :
    (run (F := Ideal) m c t).1 Y (ix2 i e) = Y (ix2 i e) := by
  have hr : i.val < t.val % 4 * 2048 ∨ t.val % 4 * 2048 + 2048 ≤ i.val := by omega
  unfold run kernelRun
  by_cases h0 : firstQ (grid0.coords t) <;> by_cases h1 : firstK (grid0.coords t)
  on_goal 1 => rw [dif_pos h0, dif_pos h1]
  on_goal 2 => rw [dif_pos h0, dif_neg h1]
  on_goal 3 => rw [dif_neg h0, dif_pos h1]
  on_goal 4 => rw [dif_neg h0, dif_neg h1]
  all_goals
    dsimp only
    frame_out
    refine (View.read_writes_cons_unit_of_not_mem _ _ _ _ _ _ (off3_eq t) 0 hr).trans ?_
    refine (View.read_writes_cons_unit_of_not_mem _ _ _ _ _ _ (off2_eq t) 0 hr).trans ?_
  · refine (View.read_writes_cons_unit_of_not_mem _ _ _ _ _ _ (off1_eq t) 0 hr).trans ?_
    rw [View.writes_nil, Memref.IsWhole.read_unread]
  · rw [View.writes_nil, Memref.IsWhole.read_unread]
  · refine (View.read_writes_cons_unit_of_not_mem _ _ _ _ _ _ (off1_eq t) 0 hr).trans ?_
    rw [View.writes_nil, Memref.IsWhole.read_unread]
  · rw [View.writes_nil, Memref.IsWhole.read_unread]

end Cert.Fl

end
-- ==== Proof.Fl.Sweep.lean ====
/-
What the flash attention backward kernel has in the staging buffers of its three gradients when it writes them back: the sums
of the grid points' shares.
-/
module

public import proofs.«01_k».proof.Proof.Fl.Step

@[expose] public section

set_option maxRecDepth 16384

noncomputable section

namespace Cert.Fl

open Idealize.ShloMosaic Idealize.ShloMosaic.TcCoe Idealize.SL.Sem
open Cert.KernelFlIdeal Cert.KernelFlIdeal.Gen Cert.KernelFlIdeal.Hand

variable (m : (ℓ : Loc nD τ sig) → Buf (Elt Ideal) ℓ) (c : Dev nD)

/-- The point before `t`. -/
abbrev before (t : Fin cfg0.N) : Fin cfg0.N := ⟨t.val - 1, Nat.lt_of_le_of_lt (Nat.sub_le _ _) t.isLt⟩

/-- A property that a point's body carries from what the point before left, holds of all that the body leaves. -/
theorem leaves_ind (w : Fin cfg0.W) (hfe : ∀ t, (cfg0.win w).fetch t = false)
    (P : Fin cfg0.N → ((cfg0.win w).block.Idx → Elt Ideal (cfg0.win w).elt) → Prop)
    (h : ∀ t Y X, (rdat m c).after w t Y X → (t.val ≠ 0 → (cfg0.win w).flush (before t) = false → P (before t) Y) → P t X) :
    ∀ (n : ℕ) (hn : n < cfg0.N) (X), (rdat m c).Leaves w ⟨n, hn⟩ X → P ⟨n, hn⟩ X := by
  intro n
  induction n with
  | zero =>
    rintro hn X ⟨Y, _, ha⟩
    exact h _ Y X ha fun h0 => absurd rfl h0
  | succ n ih =>
    rintro hn X ⟨Y, hY, ha⟩
    refine h _ Y X ha fun h0 hf => ?_
    rcases ((rdat m c).finds_of_pos (hfe _) h0 Y).mp hY with h1 | h1
    · exact absurd (hf.symm.trans h1) Bool.false_ne_true
    · exact ih _ Y h1

/-- The sum of the shares of the points of `t`'s run of four, up to `t`. -/
def sum4 (g : ℕ → EReal) (t : ℕ) : EReal := ∑ u ∈ Finset.range (t % 4 + 1), g (t / 4 * 4 + u)

theorem sum4_first (g : ℕ → EReal) (t : ℕ) (h : t % 4 = 0) : sum4 g t = 0 + g t := by
  unfold sum4
  rw [h, Finset.sum_range_one, zero_add]
  congr 1; omega

theorem sum4_next (g : ℕ → EReal) (t : ℕ) (h : ¬ t % 4 = 0) : sum4 g t = sum4 g (t - 1) + g t := by
  unfold sum4
  rw [Finset.sum_range_succ, show (t - 1) % 4 + 1 = t % 4 by omega, show (t - 1) / 4 = t / 4 by omega, show t / 4 * 4 + t % 4 = t by omega]

/-- One step of a sum over a run of four. -/
theorem sum4_step (g : ℕ → EReal) (t : ℕ) (y : EReal) (h : ¬ t % 4 = 0 → y = sum4 g (t - 1)) :
    (if t % 4 = 0 then 0 else y) + g t = sum4 g t := by
  by_cases h0 : t % 4 = 0
  · rw [if_pos h0, sum4_first g t h0]
  · rw [if_neg h0, sum4_next g t h0, h h0]

/-- How many tiles of the keys row tile `q` has met when point `t` is done. -/
def met (q t : ℕ) : ℕ := t / 4 % 8 + if q ≤ t % 4 then 1 else 0

/-- The sum of the shares of the points of `t`'s pair of heads that row tile `q` has met. -/
def sum8 (g : ℕ → EReal) (q t : ℕ) : EReal := ∑ u ∈ Finset.range (met q t), g (t / 32 * 32 + u * 4 + q)

theorem sum8_first (g : ℕ → EReal) (q t : ℕ) (h : t % 4 = q) (h0 : t / 4 % 8 = 0) : sum8 g q t = 0 + g t := by
  unfold sum8 met
  rw [if_pos (by omega), h0, Finset.sum_range_one, zero_add]
  congr 1; omega

theorem sum8_next (g : ℕ → EReal) (q t : ℕ) (h : t % 4 = q) (h0 : ¬ t / 4 % 8 = 0) : sum8 g q t = sum8 g q (t - 1) + g t := by
  unfold sum8
  rw [show met q t = met q (t - 1) + 1 by unfold met; split <;> split <;> omega, Finset.sum_range_succ,
    show (t - 1) / 32 = t / 32 by omega, show t / 32 * 32 + met q (t - 1) * 4 + q = t by unfold met; split <;> omega]

theorem sum8_other (g : ℕ → EReal) (q t : ℕ) (h : q ≠ t % 4) (hq : q < 4) (h0 : 0 < met q t) : sum8 g q t = sum8 g q (t - 1) := by
  unfold sum8
  have h1 : t % 32 ≠ 0 := by unfold met at h0; split at h0 <;> omega
  rw [show met q (t - 1) = met q t by unfold met; split <;> split <;> omega, show (t - 1) / 32 = t / 32 by omega]

/-- A function of grid points as one of their numbers. -/
def ofNum (f : Fin cfg0.N → EReal) (n : ℕ) : EReal := if h : n < cfg0.N then f ⟨n, h⟩ else 0

theorem ofNum_val (f : Fin cfg0.N → EReal) (t : Fin cfg0.N) : ofNum f t.val = f t := dif_pos t.isLt

/-- Point `t`'s share of the gradient of `k`, -/
def dkTerm (j : Fin 2) (r : Fin 1024) (e : Fin 128) (t : Fin cfg0.N) : EReal := ∑ s, (part m c t j).ds r s * (part m c t j).q s e
/-- of the gradient of `v` -/
def dvTerm (r : Fin 1024) (e : Fin 128) (t : Fin cfg0.N) : EReal :=
  ∑ s, (part m c t 0).p r s * (part m c t 0).o s e + ∑ s, (part m c t 1).p r s * (part m c t 1).o s e
/-- and of the gradient of `q`. -/
def dqTerm (j : Fin 2) (r : Fin 2048) (e : Fin 128) (t : Fin cfg0.N) : EReal := ∑ s, (part m c t j).ds s r * (part m c t j).k s e

theorem dk_step (t : Fin cfg0.N) (Y : Vec Ideal S1024x256 .f32) (j : Fin 2) (r : Fin 1024) (e : Fin 128) :
    (run (F := Ideal) m c t).2.1 Y (ix2 r (lane j e)) = (if t.val % 4 = 0 then 0 else Y (ix2 r (lane j e))) + dkTerm m c j r e t := by
  match j with
  | 0 => exact dk_first m c t Y r e
  | 1 => exact dk_second m c t Y r e

theorem dq_step (t : Fin cfg0.N) (Y : Vec Ideal S8192x256 .f32) (j : Fin 2) (i : Fin 8192) (r : Fin 2048) (hi : i.val = t.val % 4 * 2048 + r.val) (e : Fin 128) :
    (run (F := Ideal) m c t).1 Y (ix2 i (lane j e)) = (if t.val / 4 % 8 = 0 then 0 else Y (ix2 i (lane j e))) + dqTerm m c j r e t := by
  match j with
  | 0 => exact dq_first m c t Y i r hi e
  | 1 => exact dq_second m c t Y i r hi e

/-- What the buffer of the gradient of `k` holds. -/
theorem leaves_dk (j : Fin 2) (r : Fin 1024) (e : Fin 128) (t : Fin cfg0.N) (X) (h : (rdat m c).Leaves 7 t X) :
    (show EReal from X (ix2 r (lane j e))) = sum4 (ofNum (dkTerm m c j r e)) t.val := by
  refine leaves_ind m c 7 (fun _ => rfl) (fun t X => (show EReal from X (ix2 r (lane j e))) = sum4 (ofNum (dkTerm m c j r e)) t.val)
    (fun t Y X ha hp => ?_) t.val t.isLt X h
  rw [(after0_7 m c t Y X).mp ha]
  refine (dk_step m c t Y j r e).trans ?_
  rw [← ofNum_val (dkTerm m c j r e) t]
  refine sum4_step _ _ _ fun h4 => hp (by omega) ?_
  refine Bool.eq_false_iff.mpr fun hf => ?_
  have := (flush0_7 (before t)).mp hf
  have h5 : (t.val - 1) % 4 = 3 := this
  omega

/-- What the buffer of the gradient of `v` holds. -/
theorem leaves_dv (r : Fin 1024) (e : Fin 128) (t : Fin cfg0.N) (X) (h : (rdat m c).Leaves 8 t X) :
    (show EReal from X (ix2 r e)) = sum4 (ofNum (dvTerm m c r e)) t.val := by
  refine leaves_ind m c 8 (fun _ => rfl) (fun t X => (show EReal from X (ix2 r e)) = sum4 (ofNum (dvTerm m c r e)) t.val)
    (fun t Y X ha hp => ?_) t.val t.isLt X h
  rw [(after0_8 m c t Y X).mp ha]
  refine (dv_step m c t Y r e).trans ?_
  change _ + dvTerm m c r e t = _
  rw [← ofNum_val (dvTerm m c r e) t]
  refine sum4_step _ _ _ fun h4 => hp (by omega) ?_
  refine Bool.eq_false_iff.mpr fun hf => ?_
  have h5 : (t.val - 1) % 4 = 3 := (flush0_8 (before t)).mp hf
  omega

/-- What the buffer of the gradient of `q` holds in the rows that have met a tile of the keys. -/
theorem leaves_dq (j : Fin 2) (q : Fin 4) (r : Fin 2048) (i : Fin 8192) (hi : i.val = q.val * 2048 + r.val) (e : Fin 128) (t : Fin cfg0.N) (X)
    (h : (rdat m c).Leaves 6 t X) (h0 : 0 < met q t) :
    (show EReal from X (ix2 i (lane j e))) = sum8 (ofNum (dqTerm m c j r e)) q t.val := by
  refine leaves_ind m c 6 (fun _ => rfl) (fun t X => 0 < met q t → (show EReal from X (ix2 i (lane j e))) = sum8 (ofNum (dqTerm m c j r e)) q t.val)
    (fun t Y X ha hp => ?_) t.val t.isLt X h h0
  rw [(after0_6 m c t Y X).mp ha]
  intro h1
  have hprev : t.val % 32 ≠ 0 → 0 < met q (t.val - 1) → (show EReal from Y (ix2 i (lane j e))) = sum8 (ofNum (dqTerm m c j r e)) q (t.val - 1) := by
    intro h32 hm
    refine hp (by omega) (Bool.eq_false_iff.mpr fun hf => ?_) hm
    have h5 : (t.val - 1) % 32 = 31 := (flush0_6 (before t)).mp hf
    omega
  by_cases hq : t.val % 4 = q.val
  · refine (dq_step m c t Y j i r (by rw [hq]; exact hi) e).trans ?_
    rw [← ofNum_val (dqTerm m c j r e) t]
    by_cases hk : t.val / 4 % 8 = 0
    · rw [if_pos hk, sum8_first _ _ _ hq hk]
    · rw [if_neg hk, sum8_next _ _ _ hq hk]
      exact congrArg (· + _) (hprev (by omega) (by unfold met; split <;> omega))
  · refine (dq_other m c t Y i (by omega) (lane j e)).trans ?_
    rw [sum8_other _ _ _ (Ne.symm hq) q.isLt h1]
    have h32 : t.val % 32 ≠ 0 := by unfold met at h1; split at h1 <;> omega
    refine hprev h32 ?_
    unfold met at h1 ⊢; split at h1 <;> split <;> omega

end Cert.Fl

end
-- ==== Proof.Fl.Entry.lean ====
/-
What the host lines before the flash attention backward kernel hand to it, element by element over finite arguments: the
padded queries and keys, each row's level, and each row's sum of the cotangent times the output.
-/
module

public import proofs.«01_k».proof.Proof.Fl.Frame
public import proofs.«01_k».proof.Proof.Fl.Point
public import proofs.«01_k».proof.Proof.Rms

@[expose] public section

set_option maxRecDepth 16384

noncomputable section

namespace Cert.Fl

open Idealize.ShloMosaic Idealize.ShloMosaic.TcCoe Idealize.SL.Sem
open Cert.Rms

/-- Lane `e` of head `h` in a row of 8 heads of 128 lanes, -/
def lane128 (h : Fin 8) (e : Fin 128) : Fin 1024 := ⟨h.val * 128 + e.val, by omega⟩
/-- and of 64 lanes. -/
def lane64 (h : Fin 8) (d : Fin 64) : Fin 512 := ⟨h.val * 64 + d.val, by omega⟩

/-- The real numbers of finite arguments. -/
def realArgs (q k : (⟨3, ![8192, 8, 96]⟩ : Shape).Idx → EReal) (v : (⟨3, ![8192, 8, 64]⟩ : Shape).Idx → EReal) (o : (⟨2, ![8192, 512]⟩ : Shape).Idx → EReal) : Args where
  q s h e := (q (ix3 s h e)).toReal
  k s h e := (k (ix3 s h e)).toReal
  v s h d := (v (ix3 s h d)).toReal
  o s h d := (o (ix2 s (lane64 h d))).toReal

/-- The arguments are the real numbers `a`. -/
structure Reals (a : Args) (q k : (⟨3, ![8192, 8, 96]⟩ : Shape).Idx → EReal) (v : (⟨3, ![8192, 8, 64]⟩ : Shape).Idx → EReal) (o : (⟨2, ![8192, 512]⟩ : Shape).Idx → EReal) : Prop where
  q : ∀ s h e, q (ix3 s h e) = (a.q s h e : EReal)
  k : ∀ s h e, k (ix3 s h e) = (a.k s h e : EReal)
  v : ∀ s h d, v (ix3 s h d) = (a.v s h d : EReal)
  o : ∀ s h d, o (ix2 s (lane64 h d)) = (a.o s h d : EReal)

theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem ofBits_neg_top : Ideal.ofBits .f32 0xFF800000#32 = (⊥ : EReal) := by
  simp [Ideal.ofBits, Ideal.ieee]

theorem ofBits_zero : Ideal.ofBits .f32 0x00000000#32 = (0 : EReal) := by
  simp [Ideal.ofBits, Ideal.ieee]

theorem ofBits_one : Ideal.ofBits .f32 0x3F800000#32 = ((1 : ℝ) : EReal) := by
  simp [Ideal.ofBits, Ideal.ieee, -EReal.coe_mul]; norm_num

/-- The maximum of finitely many real numbers is one. -/
theorem fold_max_coe {n : ℕ} (hn : 0 < n) (f : Fin n → ℝ) :
    Finset.univ.fold max (⊥ : EReal) (fun k => (f k : EReal)) = (((Finset.univ.fold max (⊥ : EReal) fun k => (f k : EReal)).toReal : ℝ) : EReal) := by
  refine (EReal.coe_toReal ?_ ?_).symm
  · exact ne_of_lt (Finset.fold_max_lt _ |>.mpr ⟨bot_lt_top, fun k _ => EReal.coe_lt_top _⟩)
  · exact ne_of_gt (Finset.lt_fold_max _ |>.mpr (.inr ⟨⟨0, hn⟩, Finset.mem_univ _, EReal.bot_lt_coe _⟩))

section Host

open Cert.KernelFlIdeal Cert.KernelFlIdeal.Gen

variable (q k : FVec Ideal S8192x8x96 .f32) (v : FVec Ideal S8192x8x64 .f32) (o : FVec Ideal S8192x512 .f32)

/-- The host lines' arrays. -/
def hPad (q : FVec Ideal S8192x8x96 .f32) : FVec Ideal S8192x8x128 .bf16 :=
  pad S8192x8x128 ![0, 0, 0] ![0, 0, 32] ![0, 0, 0] (truncf .bf16 q bitsLt_bf16_f32) (sitofp .bf16 (constantI S_ 32 0#32)) pads_S8192x8x96_S8192x8x128_000_000_0320 h_S_
def hScore : FVec Ideal S8x8192x8192 .f32 := Host.dotGeneral dot_S8192x8x128_S8192x8x128_S8x8192x8192_2_2_0_0_1_1 none (hPad q) (hPad k)
def hTop : FVec Ideal S8x8192 .f32 := Host.reduce FloatOps.maximumf (hScore q k) (constant S_ .f32 0xFF800000#32) reducesTo_S8x8192x8192_S8x8192_d2 h_S_
def hTop1 : FVec Ideal S8x8192x1 .f32 := broadcastInDim S8x8192x1 ![0, 1] bcast_S8x8192_S8x8192x1_0_1 (hTop q k)
def hPow : FVec Ideal S8x8192x8192 .f32 :=
  Host.exp (mulf (subf (hScore q k) (broadcastInDim S8x8192x8192 ![0, 1, 2] bcast_S8x8192x1_S8x8192x8192_0_1_2 (hTop1 q k)))
    (broadcastInDim S8x8192x8192 ![] bcast_S_S8x8192x8192 (constant S_ .f32 0x3DD105EC#32)))
def hTotal : FVec Ideal S8x8192 .f32 := Host.reduceAdd (hPow q k) (constant S_ .f32 0x00000000#32) reducesTo_S8x8192x8192_S8x8192_d2 h_S_
def hTotal1 : FVec Ideal S8x8192x1 .f32 := broadcastInDim S8x8192x1 ![0, 1] bcast_S8x8192_S8x8192x1_0_1 (hTotal q k)
def hLog : FVec Ideal S8x8192x1 .f32 := Host.log (hTotal1 q k)
def hScale : FVec Ideal S8x8192x1 .f32 := broadcastInDim S8x8192x1 ![] bcast_S_S8x8192x1 (constant S_ .f32 0x3DD105EC#32)
def hLevel : FVec Ideal S8x8192x1 .f32 := addf (hTop1 q k) (Host.divf (hLog q k) hScale)
def hOut : FVec Ideal S8x8192x64 .f32 :=
  mulf (Host.dotGeneral dot_S8x8192x8192_S8192x8x64_S8x8192x64_2_0_1_2_0_1 none (truncf .bf16 (hPow q k) bitsLt_bf16_f32) (truncf .bf16 v bitsLt_bf16_f32 : FVec Ideal S8192x8x64 .bf16))
    (broadcastInDim S8x8192x64 ![0, 1, 2] bcast_S8x8192x1_S8x8192x64_0_1_2
      (Host.divf (broadcastInDim S8x8192x1 ![] bcast_S_S8x8192x1 (constant S_ .f32 0x3F800000#32)) (hTotal1 q k)))
def hProd : FVec Ideal S8192x512 .f32 :=
  mulf o (shapeCast S8192x512 (transpose S8192x8x64 [1, 0, 2] (hOut q k v) transposes_S8x8192x64_S8192x8x64_1_0_2) shapeCasts_S8192x8x64_S8192x512)
def hDelta : FVec Ideal S8192x4x2 .f32 :=
  Host.reduceAdd (shapeCast S8192x4x2x64 (hProd q k v o) shapeCasts_S8192x512_S8192x4x2x64) (constant S_ .f32 0x00000000#32) reducesTo_S8192x4x2x64_S8192x4x2_d3 h_S_

/-- A row's greatest score. -/
def rowTop (h : Fin 8) (s : Fin 8192) : ℝ := (show EReal from hTop q k (ix2 h s)).toReal

theorem addf_divf_at (x y z : FVec Ideal S8x8192x1 .f32) (h : Fin 8) (s : Fin 8192) :
    (addf x (Host.divf y z) : FVec Ideal S8x8192x1 .f32) (ix3 h s 0) = (x (ix3 h s 0) : EReal) + Ideal.div (y (ix3 h s 0)) (z (ix3 h s 0)) := by
  pointwise

theorem hScale_at (h : Fin 8) (s : Fin 8192) : hScale (ix3 h s 0) = sc := by pointwise [hScale, ofBits_scale]

variable {a : Args} {q k v o} (R : Reals a q k v o)
include R

theorem hPad_q (s : Fin 8192) (h : Fin 8) (e : Fin 128) : hPad q (ix3 s h e) = (wide (a.q s h) e : EReal) := by
  unfold wide
  by_cases he : (e : ℕ) < 96
  · pointwise [hPad, R.q, he]
  · pointwise [hPad, sitofp_zero, he, EReal.coe_zero]

theorem hPad_k (s : Fin 8192) (h : Fin 8) (e : Fin 128) : hPad k (ix3 s h e) = (wide (a.k s h) e : EReal) := by
  unfold wide
  by_cases he : (e : ℕ) < 96
  · pointwise [hPad, R.k, he]
  · pointwise [hPad, sitofp_zero, he, EReal.coe_zero]

theorem hScore_at (h : Fin 8) (s u : Fin 8192) : hScore q k (ix3 h s u) = (score a h s u : EReal) := by
  pointwise [hScore, hPad_q R, hPad_k R]
  rw [score, ← sum_wide, ← coe_sum]
  exact Finset.sum_congr rfl fun e _ => (EReal.coe_mul _ _).symm

theorem hTop_at (h : Fin 8) (s : Fin 8192) : hTop q k (ix2 h s) = (rowTop q k h s : EReal) := by
  have e : (show EReal from hTop q k (ix2 h s)) = Finset.univ.fold max (⊥ : EReal) fun u => (score a h s u : EReal) := by
    pointwise [hTop, hScore_at R, ofBits_neg_top]
  unfold rowTop
  rw [e]
  exact e.trans (fold_max_coe (by norm_num) _)

theorem hPow_at (h : Fin 8) (s u : Fin 8192) : hPow q k (ix3 h s u) = (pow a (rowTop q k h s) h s u : EReal) := by
  pointwise [hPow, hTop1, hTop_at R, hScore_at R, ofBits_scale, sc]
  rw [← EReal.coe_sub, ← EReal.coe_mul]; rfl

theorem hTotal_at (h : Fin 8) (s : Fin 8192) : hTotal q k (ix2 h s) = (total a (rowTop q k h s) h s : EReal) := by
  pointwise [hTotal, hPow_at R, ofBits_zero]
  exact coe_sum _

theorem hTop1_at (h : Fin 8) (s : Fin 8192) : hTop1 q k (ix3 h s 0) = (rowTop q k h s : EReal) := by
  pointwise [hTop1, hTop_at R]

theorem hTotal1_at (h : Fin 8) (s : Fin 8192) : hTotal1 q k (ix3 h s 0) = (total a (rowTop q k h s) h s : EReal) := by
  pointwise [hTotal1, hTotal_at R]

theorem hLog_at (h : Fin 8) (s : Fin 8192) : hLog q k (ix3 h s 0) = (Real.log (total a (rowTop q k h s) h s) : EReal) := by
  have e : hLog q k (ix3 h s 0) = Ideal.log (total a (rowTop q k h s) h s : EReal) := by pointwise [hLog, hTotal1_at R]
  rw [e, Ideal.log_coe, if_neg (not_le.mpr (total_pos a _ h s))]

theorem hLevel_at (h : Fin 8) (s : Fin 8192) : hLevel q k (ix3 h s 0) = (level a (rowTop q k h s) h s : EReal) := by
  refine (addf_divf_at (hTop1 q k) (hLog q k) hScale h s).trans ?_
  rw [hTop1_at R, hLog_at R, hScale_at, sc, div_coe' _ scR_ne, ← EReal.coe_mul, ← EReal.coe_add, level, mul_one_div]

theorem hOut_at (h : Fin 8) (s : Fin 8192) (d : Fin 64) : hOut q k v (ix3 h s d)
    = (((∑ u, pow a (rowTop q k h s) h s u * a.v u h d) * (1 / total a (rowTop q k h s) h s) : ℝ) : EReal) := by
  have e : hOut q k v (ix3 h s d) = (∑ u, (pow a (rowTop q k h s) h s u : EReal) * (a.v u h d : EReal))
      * Ideal.div ((1 : ℝ) : EReal) (total a (rowTop q k h s) h s : EReal) := by
    pointwise [hOut, hTotal1_at R, hPow_at R, R.v, ofBits_one]
  rw [e, div_coe' _ (total_pos a _ h s).ne', ← EReal.coe_mul, one_mul, EReal.coe_mul, ← coe_sum]
  congr 1

theorem hDelta_at (p : Fin 4) (j : Fin 2) (s : Fin 8192) (h : Fin 8) (hh : h.val = 2 * p.val + j.val) : hDelta q k v o (ix3 s p j)
    = ((∑ u, weight a h s u * dweight a h s u : ℝ) : EReal) := by
  pointwise [hDelta, hProd, ofBits_zero]
  rw [← delta_eq a (rowTop q k h s), ← coe_sum]
  refine Finset.sum_congr rfl fun d _ => ?_
  rw [EReal.coe_mul, ← hOut_at R, ← R.o]
  refine congrArg₂ (fun i h' => (o (ix2 s i) : EReal) * hOut q k v (ix3 h' s d)) (Fin.ext ?_) (Fin.ext ?_)
  · show p.val * 128 + j.val * 64 + d.val = h.val * 64 + d.val
    omega
  · show (p.val * 128 + j.val * 64 + d.val) / 64 = h.val
    omega

end Host

end Cert.Fl

end
-- ==== Proof.Fl.Kernel.lean ====
/-
What the flash attention backward kernel leaves in its three result arrays, over finite arguments.
-/
module

public import proofs.«01_k».proof.Proof.Fl.Sweep
public import proofs.«01_k».proof.Proof.Fl.Entry

@[expose] public section

set_option maxRecDepth 16384

noncomputable section

namespace Cert.Fl

open Idealize.ShloMosaic Idealize.ShloMosaic.TcCoe Idealize.SL.Sem
open Cert.Rms
open Cert.KernelFlIdeal Cert.KernelFlIdeal.Gen Cert.KernelFlIdeal.Hand

variable (m : (ℓ : Loc nD τ sig) → Buf (Elt Ideal) ℓ) (c : Dev nD)

/-- The kernel's arguments on device `c`. -/
abbrev argQ : FVec Ideal S8192x8x96 .f32 := m ((c : Thread nD τ).loc main_arg0)
abbrev argK : FVec Ideal S8192x8x96 .f32 := m ((c : Thread nD τ).loc main_arg1)
abbrev argV : FVec Ideal S8192x8x64 .f32 := m ((c : Thread nD τ).loc main_arg2)
abbrev argO : FVec Ideal S8192x512 .f32 := m ((c : Thread nD τ).loc main_arg3)

def args : Args := realArgs (argQ m c) (argK m c) (argV m c) (argO m c)

/-- The pair of heads, and the rows of the queries and the keys, of grid point `t`. -/
def head (t : Fin cfg0.N) (j : Fin 2) : Fin 8 := ⟨2 * (t.val / 32) + j.val, by have := t.isLt; have h : cfg0.N = 128 := N_0; omega⟩
def qrow (t : Fin cfg0.N) (r : Fin 2048) : Fin 8192 := ⟨t.val % 4 * 2048 + r.val, by omega⟩
def krow (t : Fin cfg0.N) (r : Fin 1024) : Fin 8192 := ⟨t.val / 4 % 8 * 1024 + r.val, by omega⟩

theorem idx : ∀ t : Fin cfg0.N, win0_0.index t = ![t.val % 4, t.val / 32] ∧ win0_1.index t = ![t.val / 4 % 8, t.val / 32]
    ∧ win0_2.index t = ![t.val / 4 % 8, t.val / 32] ∧ win0_3.index t = ![t.val % 4, t.val / 32]
    ∧ win0_4.index t = ![t.val / 32, 0, t.val % 4] ∧ win0_5.index t = ![t.val / 32, 0, t.val % 4]
    ∧ win0_6.index t = ![0, t.val / 32] ∧ win0_7.index t = ![t.val / 4 % 8, t.val / 32] ∧ win0_8.index t = ![t.val / 4 % 8, t.val / 32] :=
  (by decide +kernel : ∀ t : Fin grid0.N, _)

/-- The kernel's operands as the host lines' arrays. -/
theorem entry_q : V m c main_v32 = shapeCast S8192x1024 (hPad (argQ m c)) shapeCasts_S8192x8x128_S8192x1024 := by
  unfold V
  simp only [hostOps0, hostOps0_1, hostOps0_2, hostOps0_3, hostOps0_4, List.flatten_cons, List.flatten_nil, List.cons_append, List.nil_append]
  after_results
  rfl

theorem entry_k : V m c main_v33 = shapeCast S8192x1024 (hPad (argK m c)) shapeCasts_S8192x8x128_S8192x1024 := by
  unfold V
  simp only [hostOps0, hostOps0_1, hostOps0_2, hostOps0_3, hostOps0_4, List.flatten_cons, List.flatten_nil, List.cons_append, List.nil_append]
  after_results
  rfl

theorem entry_v : V m c main_v34 = shapeCast S8192x512 (truncf .bf16 (argV m c) bitsLt_bf16_f32) shapeCasts_S8192x8x64_S8192x512 := by
  unfold V
  simp only [hostOps0, hostOps0_1, hostOps0_2, hostOps0_3, hostOps0_4, List.flatten_cons, List.flatten_nil, List.cons_append, List.nil_append]
  after_results
  rfl

theorem entry_l : V m c main_v25 = shapeCast S4x2x8192 (hLevel (argQ m c) (argK m c)) shapeCasts_S8x8192x1_S4x2x8192 := by
  unfold V
  simp only [hostOps0, hostOps0_1, hostOps0_2, hostOps0_3, hostOps0_4, List.flatten_cons, List.flatten_nil, List.cons_append, List.nil_append]
  after_results
  rfl

theorem entry_d : V m c main_v31 = transpose S4x2x8192 [1, 2, 0] (hDelta (argQ m c) (argK m c) (argV m c) (argO m c)) transposes_S8192x4x2_S4x2x8192_1_2_0 := by
  unfold V
  simp only [hostOps0, hostOps0_1, hostOps0_2, hostOps0_3, hostOps0_4, List.flatten_cons, List.flatten_nil, List.cons_append, List.nil_append]
  after_results
  rfl

/-- A reshape between heads and lanes, element by element. -/
theorem cast_qk (x : FVec Ideal S8192x8x128 .bf16) (s : Fin 8192) (h : Fin 8) (e : Fin 128) :
    shapeCast S8192x1024 x shapeCasts_S8192x8x128_S8192x1024 (ix2 s (lane128 h e)) = x (ix3 s h e) := by
  pointwise [lane128]
theorem cast_v (x : FVec Ideal S8192x8x64 .bf16) (s : Fin 8192) (h : Fin 8) (d : Fin 64) :
    shapeCast S8192x512 x shapeCasts_S8192x8x64_S8192x512 (ix2 s (lane64 h d)) = x (ix3 s h d) := by
  pointwise [lane64]
theorem cast_l (x : FVec Ideal S8x8192x1 .f32) (f : Fin 8 → Fin 8192 → ℝ) (hx : ∀ h s, x (ix3 h s 0) = (f h s : EReal))
    (p : Fin 4) (j : Fin 2) (s : Fin 8192) (h : Fin 8) (hh : p.val * 2 + j.val = h.val) :
    shapeCast S4x2x8192 x shapeCasts_S8x8192x1_S4x2x8192 (ix3 p j s) = (f h s : EReal) := by
  rw [← hx, show h = ⟨p.val * 2 + j.val, by omega⟩ from Fin.ext hh.symm]
  pointwise
theorem turn_d (x : FVec Ideal S8192x4x2 .f32) (p : Fin 4) (j : Fin 2) (s : Fin 8192) :
    transpose S4x2x8192 [1, 2, 0] x transposes_S8192x4x2_S4x2x8192_1_2_0 (ix3 p j s) = x (ix3 s p j) := by
  pointwise

/-- Where the blocks of grid point `t` lie in their arrays. -/
def pair (t : Fin cfg0.N) : Fin 4 := ⟨t.val / 32, by have := t.isLt; have h : cfg0.N = 128 := N_0; omega⟩
/-- The head and the lane of position `e` of a pair of heads' values. -/
def vhead (t : Fin cfg0.N) (e : Fin 128) : Fin 8 := head t ⟨e.val / 64, by omega⟩
def vlane (e : Fin 128) : Fin 64 := ⟨e.val % 64, Nat.mod_lt _ (by norm_num)⟩

theorem emb0 (t : Fin cfg0.N) (j : Fin 2) (r : Fin 2048) (e : Fin 128) :
    ((cfg0.win 0).blk t).view.emb (ix2 r (lane j e)) = ix2 (qrow t r) (lane128 (head t j) e) := by
  blk_ext [qrow, head, lane, lane128, idx t]
theorem emb1 (t : Fin cfg0.N) (j : Fin 2) (r : Fin 1024) (e : Fin 128) :
    ((cfg0.win 1).blk t).view.emb (ix2 r (lane j e)) = ix2 (krow t r) (lane128 (head t j) e) := by
  blk_ext [krow, head, lane, lane128, idx t]
theorem emb2 (t : Fin cfg0.N) (r : Fin 1024) (e : Fin 128) :
    ((cfg0.win 2).blk t).view.emb (ix2 r e) = ix2 (krow t r) (lane64 (vhead t e) (vlane e)) := by
  blk_ext [krow, head, vhead, vlane, lane64, idx t]
theorem emb3 (t : Fin cfg0.N) (r : Fin 2048) (e : Fin 128) :
    ((cfg0.win 3).blk t).view.emb (ix2 r e) = ix2 (qrow t r) (lane64 (vhead t e) (vlane e)) := by
  blk_ext [qrow, head, vhead, vlane, lane64, idx t]
theorem emb4 (t : Fin cfg0.N) (j : Fin 2) (r : Fin 2048) :
    ((cfg0.win 4).blk t).view.emb (ix3 0 j r) = ix3 (pair t) j (qrow t r) := by
  blk_ext [qrow, pair, idx t]
theorem emb5 (t : Fin cfg0.N) (j : Fin 2) (r : Fin 2048) :
    ((cfg0.win 5).blk t).view.emb (ix3 0 j r) = ix3 (pair t) j (qrow t r) := by
  blk_ext [qrow, pair, idx t]

theorem ref4 : Pipeline.arrRef spec0 4 = main_v25 := rfl
theorem V4 (y : S4x2x8192.Idx) : V m c (Pipeline.arrRef spec0 4) y = V m c main_v25 y := by dsimp only [ref4]
theorem read4 (t : Fin cfg0.N) (X : S4x2x8192.Idx → EReal) (y) :
    ((cfg0.win 4).blk t).view.read (Elt Ideal) X y = X (((cfg0.win 4).blk t).view.emb y) := rfl
theorem iblk4 (t : Fin cfg0.N) (y) : iblk m c 4 t y = V m c (Pipeline.arrRef spec0 4) (((cfg0.win 4).blk t).view.emb y) := read4 t _ y

variable {m c} {a : Args} (R : Reals a (argQ m c) (argK m c) (argV m c) (argO m c))
include R

/-- Head `j`'s part of the blocks at grid point `t`. -/
theorem part_q (t : Fin cfg0.N) (j : Fin 2) (r : Fin 2048) (e : Fin 128) :
    (part m c t j).q r e = (wide (a.q (qrow t r) (head t j)) e : EReal) := by
  show V m c main_v32 (((cfg0.win 0).blk t).view.emb (ix2 r (lane j e))) = _
  rw [emb0, entry_q]
  exact (cast_qk _ _ _ _).trans (hPad_q R _ _ _)

theorem part_k (t : Fin cfg0.N) (j : Fin 2) (r : Fin 1024) (e : Fin 128) :
    (part m c t j).k r e = (wide (a.k (krow t r) (head t j)) e : EReal) := by
  show V m c main_v33 (((cfg0.win 1).blk t).view.emb (ix2 r (lane j e))) = _
  rw [emb1, entry_k]
  exact (cast_qk _ _ _ _).trans (hPad_k R _ _ _)

theorem part_v (t : Fin cfg0.N) (j : Fin 2) (r : Fin 1024) (e : Fin 128) :
    (part m c t j).v r e = (a.v (krow t r) (vhead t e) (vlane e) : EReal) := by
  show V m c main_v34 (((cfg0.win 2).blk t).view.emb (ix2 r e)) = _
  rw [emb2, entry_v]
  exact (cast_v _ _ _ _).trans (R.v _ _ _)

theorem part_o (t : Fin cfg0.N) (j : Fin 2) (r : Fin 2048) (e : Fin 128) :
    (part m c t j).o r e = ((if e.val / 64 = j.val then a.o (qrow t r) (vhead t e) (vlane e) else 0 : ℝ) : EReal) := by
  show (if e.val / 64 = j.val then (show EReal from V m c main_arg3 (((cfg0.win 3).blk t).view.emb (ix2 r e))) else 0) = _
  rw [emb3, V_main_arg m c main_arg3 (by simp)]
  split
  · exact R.o _ _ _
  · exact EReal.coe_zero.symm

theorem entry_l_at (p : Fin 4) (j : Fin 2) (s : Fin 8192) (h : Fin 8) (hh : p.val * 2 + j.val = h.val) :
    V m c main_v25 (ix3 p j s) = (level a (rowTop (argQ m c) (argK m c) h s) h s : EReal) := by
  rw [entry_l]
  exact cast_l _ (fun h s => level a (rowTop (argQ m c) (argK m c) h s) h s) (hLevel_at R) p j _ h hh

theorem part_d (t : Fin cfg0.N) (j : Fin 2) (r : Fin 2048) :
    (part m c t j).d r = ((∑ u, weight a (head t j) (qrow t r) u * dweight a (head t j) (qrow t r) u : ℝ) : EReal) := by
  show V m c main_v31 (((cfg0.win 5).blk t).view.emb (ix3 0 j r)) = _
  rw [emb5, entry_d]
  exact (turn_d _ _ _ _).trans (hDelta_at R (pair t) j _ (head t j) rfl)

theorem part_l (t : Fin cfg0.N) (j : Fin 2) (r : Fin 2048) :
    (part m c t j).l r = (level a (rowTop (argQ m c) (argK m c) (head t j) (qrow t r)) (head t j) (qrow t r) : EReal) := by
  refine (show (part m c t j).l r = iblk m c 4 t (ix3 0 j r) from rfl).trans ((iblk4 m c t _).trans ((V4 m c _).trans ?_))
  rw [emb4]
  exact entry_l_at R (pair t) j _ (head t j) (by show t.val / 32 * 2 + j.val = 2 * (t.val / 32) + j.val; omega)

/-- The weights and the gradients at the scores that the body computes. -/
theorem part_p (t : Fin cfg0.N) (j : Fin 2) (r : Fin 1024) (s : Fin 2048) :
    (part m c t j).p r s = (weight a (head t j) (qrow t s) (krow t r) : EReal) := by
  have hs : ∑ e : Fin 128, (part m c t j).k r e * (part m c t j).q s e = (score a (head t j) (qrow t s) (krow t r) : EReal) := by
    rw [score, ← sum_wide, ← coe_sum]
    refine Finset.sum_congr rfl fun e _ => ?_
    rw [part_k R, part_q R, ← EReal.coe_mul, mul_comm]
  rw [Half.p, hs, part_l R, smc, ← EReal.coe_sub, ← EReal.coe_mul, Ideal.exp2_coe, weight_of_level]

theorem part_ds (t : Fin cfg0.N) (j : Fin 2) (r : Fin 1024) (s : Fin 2048) :
    (part m c t j).ds r s = (dscore a (head t j) (qrow t s) (krow t r) : EReal) := by
  have hs : ∑ e : Fin 128, (part m c t j).v r e * (part m c t j).o s e = (dweight a (head t j) (qrow t s) (krow t r) : EReal) := by
    have e := sum_lanes j (fun i d => a.v (krow t r) (head t i) d) (fun i d => a.o (qrow t s) (head t i) d)
    rw [dweight, show ∑ d, a.o (qrow t s) (head t j) d * a.v (krow t r) (head t j) d = ∑ d, a.v (krow t r) (head t j) d * a.o (qrow t s) (head t j) d from
      Finset.sum_congr rfl fun d _ => mul_comm _ _, ← e, ← coe_sum]
    refine Finset.sum_congr rfl fun e _ => ?_
    rw [part_v R, part_o R, ← EReal.coe_mul]; rfl
  rw [Half.ds, part_p R, hs, part_d R, sc, ← EReal.coe_sub, ← EReal.coe_mul, ← EReal.coe_mul, dscore]

end Cert.Fl

end
-- ==== Proof.Fl.Final.lean ====
/-
The three result arrays of the flash attention backward kernel, over finite arguments.
-/
module

public import proofs.«01_k».proof.Proof.Fl.Kernel
public import Idealize.ShloMosaic.Lib.Pipeline.ArrRel

@[expose] public section

set_option maxRecDepth 16384

noncomputable section

namespace Cert.Fl

open Idealize.ShloMosaic Idealize.ShloMosaic.TcCoe Idealize.SL.Sem
open Idealize.ShloMosaic.Pipeline (Dat)
open Cert.KernelFlIdeal Cert.KernelFlIdeal.Gen Cert.KernelFlIdeal.Hand

/-- The three results: the gradients of `q` and `k`, each head in 128 lanes of which 96 are used, and of `v`. -/
def dqArr (a : Args) (i : S8192x1024.Idx) : EReal :=
  (wide (dq a (i 0) ⟨(i 1).val / 128, by have h : (i 1).val < 1024 := (i 1).isLt; omega⟩) ⟨(i 1).val % 128, Nat.mod_lt _ (by norm_num)⟩ : EReal)
def dkArr (a : Args) (i : S8192x1024.Idx) : EReal :=
  (wide (dk a (i 0) ⟨(i 1).val / 128, by have h : (i 1).val < 1024 := (i 1).isLt; omega⟩) ⟨(i 1).val % 128, Nat.mod_lt _ (by norm_num)⟩ : EReal)
def dvArr (a : Args) (i : S8192x512.Idx) : EReal :=
  (dv a (i 0) ⟨(i 1).val / 64, by have h : (i 1).val < 512 := (i 1).isLt; omega⟩ ⟨(i 1).val % 64, Nat.mod_lt _ (by norm_num)⟩ : EReal)

theorem lane128_div (h : Fin 8) (e : Fin 128) : (⟨(lane128 h e).val / 128, by have := (lane128 h e).isLt; omega⟩ : Fin 8) = h
    ∧ (⟨(lane128 h e).val % 128, Nat.mod_lt _ (by norm_num)⟩ : Fin 128) = e := by
  constructor <;> (refine Fin.ext ?_; simp only [lane128]; omega)

theorem lane64_div (h : Fin 8) (e : Fin 64) : (⟨(lane64 h e).val / 64, by have := (lane64 h e).isLt; omega⟩ : Fin 8) = h
    ∧ (⟨(lane64 h e).val % 64, Nat.mod_lt _ (by norm_num)⟩ : Fin 64) = e := by
  constructor <;> (refine Fin.ext ?_; simp only [lane64]; omega)

theorem dqArr_at (a : Args) (s : Fin 8192) (h : Fin 8) (e : Fin 128) : dqArr a (ix2 s (lane128 h e)) = (wide (dq a s h) e : EReal) :=
  congrArg₂ (fun h e => (wide (dq a s h) e : EReal)) (lane128_div h e).1 (lane128_div h e).2
theorem dkArr_at (a : Args) (s : Fin 8192) (h : Fin 8) (e : Fin 128) : dkArr a (ix2 s (lane128 h e)) = (wide (dk a s h) e : EReal) :=
  congrArg₂ (fun h e => (wide (dk a s h) e : EReal)) (lane128_div h e).1 (lane128_div h e).2
theorem dvArr_at (a : Args) (s : Fin 8192) (h : Fin 8) (e : Fin 64) : dvArr a (ix2 s (lane64 h e)) = (dv a s h e : EReal) :=
  congrArg₂ (fun h e => (dv a s h e : EReal)) (lane64_div h e).1 (lane64_div h e).2

/-- Row `s` of tile `u` of the queries, of the keys. -/
def qtile (u : Fin 4) (s : Fin 2048) : Fin 8192 := ⟨u.val * 2048 + s.val, by omega⟩
def ktile (u : Fin 8) (s : Fin 1024) : Fin 8192 := ⟨u.val * 1024 + s.val, by omega⟩

theorem sum_qtiles (f : Fin 8192 → ℝ) : ∑ u, ∑ s, f (qtile u s) = ∑ s, f s := Fin.sum_mul_add_fin 4 2048 f rfl
theorem sum_ktiles (f : Fin 8192 → ℝ) : ∑ u, ∑ s, f (ktile u s) = ∑ s, f s := Fin.sum_mul_add_fin 8 1024 f rfl

theorem sum4_coe (F : Fin cfg0.N → EReal) (t : Fin cfg0.N) (h : t.val % 4 = 3) (g : Fin 4 → ℝ)
    (hF : ∀ (t' : Fin cfg0.N) (u : Fin 4), t'.val = t.val / 4 * 4 + u.val → F t' = (g u : EReal)) :
    sum4 (ofNum F) t.val = ((∑ u, g u : ℝ) : EReal) := by
  unfold sum4
  rw [h, Finset.sum_range, ← coe_sum]
  refine Finset.sum_congr rfl fun u _ => ?_
  have hu : t.val / 4 * 4 + u.val < cfg0.N := by have := t.isLt; have h : cfg0.N = 128 := N_0; omega
  rw [ofNum, dif_pos hu]
  exact hF _ u rfl

theorem sum8_coe (F : Fin cfg0.N → EReal) (q : Fin 4) (t : Fin cfg0.N) (h : t.val % 32 = 31) (g : Fin 8 → ℝ)
    (hF : ∀ (t' : Fin cfg0.N) (u : Fin 8), t'.val = t.val / 32 * 32 + u.val * 4 + q.val → F t' = (g u : EReal)) :
    sum8 (ofNum F) q t.val = ((∑ u, g u : ℝ) : EReal) := by
  unfold sum8
  rw [show met q t.val = 8 by unfold met; rw [if_pos (by omega)]; omega, Finset.sum_range, ← coe_sum]
  refine Finset.sum_congr rfl fun u _ => ?_
  have hu : t.val / 32 * 32 + u.val * 4 + q.val < cfg0.N := by have := t.isLt; have h : cfg0.N = 128 := N_0; omega
  rw [ofNum, dif_pos hu]
  exact hF _ u rfl

theorem wide_sum {n : ℕ} (w : Fin n → ℝ) (f : Fin n → Fin 96 → ℝ) (e : Fin 128) : ∑ s, w s * wide (f s) e = wide (fun e => ∑ s, w s * f s e) e := by
  unfold wide
  split
  · rfl
  · simp

variable {m : (ℓ : Loc nD τ sig) → Buf (Elt Ideal) ℓ} {c : Dev nD} {a : Args} (R : Reals a (argQ m c) (argK m c) (argV m c) (argO m c))
include R

/-- The shares of a grid point. -/
theorem dkTerm_eq (j : Fin 2) (r : Fin 1024) (e : Fin 128) (t : Fin cfg0.N) : dkTerm m c j r e t
    = ((∑ s, dscore a (head t j) (qrow t s) (krow t r) * wide (a.q (qrow t s) (head t j)) e : ℝ) : EReal) := by
  rw [dkTerm, ← coe_sum]
  refine Finset.sum_congr rfl fun s _ => ?_
  rw [part_ds R, part_q R, ← EReal.coe_mul]

theorem dqTerm_eq (j : Fin 2) (r : Fin 2048) (e : Fin 128) (t : Fin cfg0.N) : dqTerm m c j r e t
    = ((∑ s, dscore a (head t j) (qrow t r) (krow t s) * wide (a.k (krow t s) (head t j)) e : ℝ) : EReal) := by
  rw [dqTerm, ← coe_sum]
  refine Finset.sum_congr rfl fun s _ => ?_
  rw [part_ds R, part_k R, ← EReal.coe_mul]

theorem dvTerm_eq (r : Fin 1024) (e : Fin 128) (t : Fin cfg0.N) : dvTerm m c r e t
    = ((∑ s, weight a (vhead t e) (qrow t s) (krow t r) * a.o (qrow t s) (vhead t e) (vlane e) : ℝ) : EReal) := by
  have hs : ∀ j, ∑ s, (part m c t j).p r s * (part m c t j).o s e
      = ((∑ s, weight a (head t j) (qrow t s) (krow t r) * (if e.val / 64 = j.val then a.o (qrow t s) (vhead t e) (vlane e) else 0) : ℝ) : EReal) := fun j => by
    rw [← coe_sum]
    refine Finset.sum_congr rfl fun s _ => ?_
    rw [part_p R, part_o R, ← EReal.coe_mul]
  rw [dvTerm, hs, hs, ← EReal.coe_add, ← Finset.sum_add_distrib]
  refine congrArg _ (Finset.sum_congr rfl fun s _ => ?_)
  unfold vhead
  have hc : e.val / 64 = 0 ∨ e.val / 64 = 1 := by omega
  rcases hc with hc | hc
  · rw [if_pos (show e.val / 64 = (0 : Fin 2).val from hc), if_neg (show ¬ e.val / 64 = (1 : Fin 2).val by rw [hc]; decide), mul_zero, add_zero,
      show (⟨e.val / 64, by omega⟩ : Fin 2) = 0 from Fin.ext hc]
  · rw [if_pos (show e.val / 64 = (1 : Fin 2).val from hc), if_neg (show ¬ e.val / 64 = (0 : Fin 2).val by rw [hc]; decide), mul_zero, zero_add,
      show (⟨e.val / 64, by omega⟩ : Fin 2) = 1 from Fin.ext hc]

/-- What is written back. -/
theorem flushed_dk (t : Fin cfg0.N) (h : t.val % 4 = 3) (j : Fin 2) (r : Fin 1024) (e : Fin 128) :
    sum4 (ofNum (dkTerm m c j r e)) t.val = (wide (dk a (krow t r) (head t j)) e : EReal) := by
  refine (sum4_coe _ t h (fun u => ∑ s, dscore a (head t j) (qtile u s) (krow t r) * wide (a.q (qtile u s) (head t j)) e) fun t' u ht => ?_).trans ?_
  · rw [dkTerm_eq R, show head t' j = head t j from Fin.ext (by show 2 * (t'.val / 32) + _ = 2 * (t.val / 32) + _; omega),
      show krow t' r = krow t r from Fin.ext (by show t'.val / 4 % 8 * 1024 + _ = t.val / 4 % 8 * 1024 + _; omega),
      show qrow t' = qtile u from funext fun s => Fin.ext (by show t'.val % 4 * 2048 + _ = u.val * 2048 + _; omega)]
  · rw [sum_qtiles fun s => dscore a (head t j) s (krow t r) * wide (a.q s (head t j)) e, wide_sum]; rfl

theorem flushed_dv (t : Fin cfg0.N) (h : t.val % 4 = 3) (r : Fin 1024) (e : Fin 128) :
    sum4 (ofNum (dvTerm m c r e)) t.val = (dv a (krow t r) (vhead t e) (vlane e) : EReal) := by
  refine (sum4_coe _ t h (fun u => ∑ s, weight a (vhead t e) (qtile u s) (krow t r) * a.o (qtile u s) (vhead t e) (vlane e)) fun t' u ht => ?_).trans ?_
  · rw [dvTerm_eq R, show vhead t' e = vhead t e from Fin.ext (by show 2 * (t'.val / 32) + _ = 2 * (t.val / 32) + _; omega),
      show krow t' r = krow t r from Fin.ext (by show t'.val / 4 % 8 * 1024 + _ = t.val / 4 % 8 * 1024 + _; omega),
      show qrow t' = qtile u from funext fun s => Fin.ext (by show t'.val % 4 * 2048 + _ = u.val * 2048 + _; omega)]
  · rw [sum_qtiles fun s => weight a (vhead t e) s (krow t r) * a.o s (vhead t e) (vlane e)]; rfl

theorem flushed_dq (t : Fin cfg0.N) (h : t.val % 32 = 31) (j : Fin 2) (q : Fin 4) (r : Fin 2048) (e : Fin 128) :
    sum8 (ofNum (dqTerm m c j r e)) q t.val = (wide (dq a (qtile q r) (head t j)) e : EReal) := by
  refine (sum8_coe _ q t h (fun u => ∑ s, dscore a (head t j) (qtile q r) (ktile u s) * wide (a.k (ktile u s) (head t j)) e) fun t' u ht => ?_).trans ?_
  · rw [dqTerm_eq R, show head t' j = head t j from Fin.ext (by show 2 * (t'.val / 32) + _ = 2 * (t.val / 32) + _; omega),
      show qrow t' r = qtile q r from Fin.ext (by show t'.val % 4 * 2048 + _ = q.val * 2048 + _; omega),
      show krow t' = ktile u from funext fun s => Fin.ext (by show t'.val / 4 % 8 * 1024 + _ = u.val * 1024 + _; omega)]
  · rw [sum_ktiles fun s => dscore a (head t j) (qtile q r) s * wide (a.k s (head t j)) e, wide_sum]; rfl

omit R in
theorem lane_cases (y : Fin 256) : ∃ j e, y = lane j e :=
  ⟨⟨y.val / 128, by omega⟩, ⟨y.val % 128, Nat.mod_lt _ (by norm_num)⟩, Fin.ext (by show y.val = 128 * (y.val / 128) + y.val % 128; omega)⟩

omit R in
theorem emb6 (t : Fin cfg0.N) (j : Fin 2) (i : Fin 8192) (e : Fin 128) :
    ((cfg0.win 6).blk t).view.emb (ix2 i (lane j e)) = ix2 i (lane128 (head t j) e) := by
  blk_ext [head, lane, lane128, idx t]
omit R in
theorem emb7 (t : Fin cfg0.N) (j : Fin 2) (r : Fin 1024) (e : Fin 128) :
    ((cfg0.win 7).blk t).view.emb (ix2 r (lane j e)) = ix2 (krow t r) (lane128 (head t j) e) := by
  blk_ext [krow, head, lane, lane128, idx t]
omit R in
theorem emb8 (t : Fin cfg0.N) (r : Fin 1024) (e : Fin 128) :
    ((cfg0.win 8).blk t).view.emb (ix2 r e) = ix2 (krow t r) (lane64 (vhead t e) (vlane e)) := by
  blk_ext [krow, head, vhead, vlane, lane64, idx t]

variable (after : (w : Fin cfg0.W) → Fin cfg0.N → (cfg0.win w).block.Idx → Elt Ideal (cfg0.win w).elt)
  (hL : ∀ (w : Fin cfg0.W) (u : Fin cfg0.N), (cfg0.win w).flush u = true → (rdat m c).Leaves w u (after w u))
include hL

/-- The arrays at the end. -/
theorem final_dk : ((rdat m c).withAfter after).arrAt 7 cfg0.N = dkArr a := by
  refine Dat.arrAt_eq_of_covers _ 7 _ (by decide +kernel) fun t hf y => ?_
  idx_vars y
  obtain ⟨j, e, rfl⟩ := lane_cases y1
  rw [emb7 t j y0 e, dkArr_at]
  blk_simp
  rw [Pipeline.RDat.withAfter_after]
  exact (leaves_dk m c j y0 e t _ (hL 7 t hf)).trans (flushed_dk R t ((flush0_7 t).mp hf) j y0 e)

theorem final_dv : ((rdat m c).withAfter after).arrAt 8 cfg0.N = dvArr a := by
  refine Dat.arrAt_eq_of_covers _ 8 _ (by decide +kernel) fun t hf y => ?_
  idx_vars y
  rw [emb8 t y0 y1, dvArr_at]
  blk_simp
  rw [Pipeline.RDat.withAfter_after]
  exact (leaves_dv m c y0 y1 t _ (hL 8 t hf)).trans (flushed_dv R t ((flush0_8 t).mp hf) y0 y1)

theorem final_dq : ((rdat m c).withAfter after).arrAt 6 cfg0.N = dqArr a := by
  refine Dat.arrAt_eq_of_covers _ 6 _ (by decide +kernel) fun t hf y => ?_
  idx_vars y
  obtain ⟨j, e, rfl⟩ := lane_cases y1
  rw [emb6 t j y0 e, dqArr_at]
  blk_simp
  rw [Pipeline.RDat.withAfter_after]
  have h31 : t.val % 32 = 31 := (flush0_6 t).mp hf
  obtain ⟨q, r, rfl⟩ : ∃ q r, y0 = qtile q r :=
    ⟨⟨y0.val / 2048, by omega⟩, ⟨y0.val % 2048, Nat.mod_lt _ (by norm_num)⟩, Fin.ext (by show y0.val = y0.val / 2048 * 2048 + y0.val % 2048; omega)⟩
  exact (leaves_dq m c j q r _ rfl e t _ (hL 6 t hf) (by unfold met; omega)).trans (flushed_dq R t h31 j q r e)

end Cert.Fl

end
-- ==== Proof.Fl.Reference.lean ====
/-
What the reference's three results are, over finite arguments.
-/
module

public import proofs.«01_k».proof.Proof.Gen.ReferenceFlIdeal.Run
public import proofs.«01_k».proof.Proof.Gen.ReferenceFlIdeal.Read
public import proofs.«01_k».proof.Proof.Fl.Final

@[expose] public section

set_option maxRecDepth 16384

noncomputable section

namespace Cert.Fl

open Idealize.ShloMosaic Idealize.ShloMosaic.TcCoe Idealize.SL.Sem
open Cert.ReferenceFlIdeal Cert.ReferenceFlIdeal.Read Cert.Rms

variable {a : Args} {q k : FVec Ideal S8192x8x96 .f32} {v : FVec Ideal S8192x8x64 .f32} {o : FVec Ideal S8192x512 .f32}
  (R : Reals a q k v o)
include R

theorem ref_score (h : Fin 8) (s u : Fin 8192) : val_main_v2 (F := Ideal) q k (ix3 h s u) = ((score a h s u * scR : ℝ) : EReal) := by
  pointwise [val_main_v2, val_main_v1, val_main_v0, val_main_cst, ofBits_scale, sc, R.q, R.k]
  rw [EReal.coe_mul, score, ← coe_sum]
  simp only [EReal.coe_mul]

theorem ref_fold (h : Fin 8) (s : Fin 8192) : (show EReal from val_main_v3 (F := Ideal) q k (ix2 h s))
    = Finset.univ.fold max (⊥ : EReal) fun u : Fin 8192 => ((score a h s u * scR : ℝ) : EReal) := by
  pointwise [val_main_v3, val_main_cst_0, ofBits_neg_top, ref_score R]

omit R in
theorem ref_max (h : Fin 8) (s : Fin 8192) (x : EReal) (hx : val_main_v3 (F := Ideal) q k (ix2 h s) = x) :
    val_main_v10 (F := Ideal) q k (ix2 h s) = x := by
  have h9 : val_main_v9 (F := Ideal) (ix2 h s) = (⊥ : EReal) := by
    pointwise [val_main_v9, val_main_cst_2, ofBits_neg_top]
  rw [val_main_v10_apply, h9, hx]
  exact max_eq_right (a := (⊥ : EReal)) bot_le

/-- A row's largest score is a real number. -/
theorem ref_top (h : Fin 8) (s : Fin 8192) : ∃ M : ℝ, val_main_v10 (F := Ideal) q k (ix2 h s) = ((M * scR : ℝ) : EReal) := by
  obtain ⟨x, hx⟩ : ∃ x : ℝ, Finset.univ.fold max (⊥ : EReal) (fun u : Fin 8192 => ((score a h s u * scR : ℝ) : EReal)) = (x : EReal) :=
    ⟨_, fold_max_coe (by norm_num) _⟩
  exact ⟨x / scR, (ref_max h s _ ((ref_fold R h s).trans hx)).trans (by rw [div_mul_cancel₀ _ scR_ne])⟩

variable {M : ℝ} {h : Fin 8} {s : Fin 8192} (hM : val_main_v10 (F := Ideal) q k (ix2 h s) = ((M * scR : ℝ) : EReal))
include hM

theorem ref_pow (u : Fin 8192) : val_main_v23 (F := Ideal) q k (ix3 h s u) = (pow a M h s u : EReal) := by
  pointwise [val_main_v23, val_main_v22, val_main_v21, val_main_v20, ref_score R, hM]
  rw [← EReal.coe_sub, ← sub_mul]; rfl

theorem ref_total : val_main_v24 (F := Ideal) q k (ix2 h s) = (total a M h s : EReal) := by
  pointwise [val_main_v24, val_main_cst_8, ref_pow R hM, ofBits_zero]
  rw [coe_sum]; simp [total]

theorem ref_weight (u : Fin 8192) : val_main_v27 (F := Ideal) q k (ix3 h s u) = (weight a h s u : EReal) := by
  pointwise [val_main_v27, val_main_v26, val_main_v25, ref_pow R hM, ref_total R hM]
  rw [div_coe' _ (total_pos a M h s).ne', ← EReal.coe_mul, mul_one_div, weight_eq]

omit hM in
theorem ref_dweight (h : Fin 8) (s u : Fin 8192) : val_main_v36 (F := Ideal) v o (ix3 h s u) = (dweight a h s u : EReal) := by
  have ho : ∀ d, val_main_v34 (F := Ideal) o (ix3 s h d) = (a.o s h d : EReal) := fun d => by
    refine Eq.trans ?_ (R.o s h d)
    pointwise [val_main_v34, lane64]
  pointwise [val_main_v36, val_main_v35, ho, R.v]
  rw [dweight, ← coe_sum]
  simp only [EReal.coe_mul]

theorem ref_inv : val_main_v30 (F := Ideal) q k (ix3 h s 0) = ((1 / (total a M h s * total a M h s) : ℝ) : EReal) := by
  have hp := (total_pos a M h s).ne'
  pointwise [val_main_v30, val_main_v29, val_main_v28, val_main_v25, val_main_cst_9, ref_total R hM, ofBits_one]
  rw [← EReal.coe_mul, div_coe' _ (mul_ne_zero hp hp), ← EReal.coe_mul, one_mul]

theorem ref_corr : val_main_v42 (F := Ideal) q k v o (ix2 h s)
    = ((∑ u, dweight a h s u * (1 / (total a M h s * total a M h s)) * pow a M h s u : ℝ) : EReal) := by
  pointwise [val_main_v42, val_main_v41, val_main_v40, val_main_v39, val_main_cst_10, ref_inv R hM, ref_pow R hM, ref_dweight R, ofBits_zero]
  rw [← coe_sum]
  simp only [EReal.coe_mul]

theorem ref_neg : val_main_v47 (F := Ideal) q k v o (ix2 h s)
    = ((-(∑ u, dweight a h s u * (1 / (total a M h s * total a M h s)) * pow a M h s u) : ℝ) : EReal) := by
  pointwise [val_main_v47, val_main_v44, val_main_v43, val_main_cst_11, ref_corr R hM, ofBits_zero]
  simp only [Fin.sum_univ_one, zero_add, EReal.coe_neg]

theorem ref_dscore (u : Fin 8192) : val_main_v52 (F := Ideal) q k v o (ix3 h s u) = (dscore a h s u : EReal) := by
  have hp := (total_pos a M h s).ne'
  pointwise [val_main_v52, val_main_v51, val_main_v50, val_main_v49, val_main_v48, val_main_v46, val_main_v45, val_main_v25, val_main_cst_12,
    ref_neg R hM, ref_pow R hM, ref_total R hM, ref_dweight R, ofBits_scale, sc]
  rw [div_coe' _ hp, ← EReal.coe_mul, ← EReal.coe_add, ← EReal.coe_mul, ← EReal.coe_mul, mul_one_div, dscore_eq]

omit hM

theorem ref_dscore' (h : Fin 8) (s u : Fin 8192) : val_main_v52 (F := Ideal) q k v o (ix3 h s u) = (dscore a h s u : EReal) :=
  (ref_top R h s).elim fun _ hM => ref_dscore R hM u

theorem ref_weight' (h : Fin 8) (s u : Fin 8192) : val_main_v27 (F := Ideal) q k (ix3 h s u) = (weight a h s u : EReal) :=
  (ref_top R h s).elim fun _ hM => ref_weight R hM u

theorem ref_dk (s : Fin 8192) (h : Fin 8) (e : Fin 96) : val_main_v54 (F := Ideal) q k v o (ix3 s h e) = (dk a s h e : EReal) := by
  pointwise [val_main_v54, val_main_v53, ref_dscore' R, R.q]
  rw [dk, ← coe_sum]
  simp only [EReal.coe_mul]

theorem ref_dq (s : Fin 8192) (h : Fin 8) (e : Fin 96) : val_main_v56 (F := Ideal) q k v o (ix3 s h e) = (dq a s h e : EReal) := by
  pointwise [val_main_v56, val_main_v55, ref_dscore' R, R.k]
  rw [dq, ← coe_sum]
  simp only [EReal.coe_mul]

theorem ref_dv (s : Fin 8192) (h : Fin 8) (d : Fin 64) : val_main_v38 (F := Ideal) q k o (ix3 s h d) = (dv a s h d : EReal) := by
  have ho : ∀ s d, val_main_v34 (F := Ideal) o (ix3 s h d) = (a.o s h d : EReal) := fun s d => by
    refine Eq.trans ?_ (R.o s h d)
    pointwise [val_main_v34, lane64]
  pointwise [val_main_v38, val_main_v37, val_main_v35, ref_weight' R, ho]
  rw [dv, ← coe_sum]
  refine Finset.sum_congr rfl fun u _ => ?_
  rw [EReal.coe_mul, mul_comm]

theorem final_v61 : val_main_v61 (F := Ideal) q k o = dvArr a := by
  funext i
  idx_vars i
  pointwise [val_main_v61]
  exact ref_dv R _ _ _

omit R in
theorem lane128_cases (y : Fin 1024) : ∃ h e, y = lane128 h e :=
  ⟨⟨y.val / 128, by omega⟩, ⟨y.val % 128, Nat.mod_lt _ (by norm_num)⟩, Fin.ext (by show y.val = y.val / 128 * 128 + y.val % 128; omega)⟩

theorem ref_v57 (s : Fin 8192) (h : Fin 8) (e : Fin 128) : val_main_v57 (F := Ideal) q k v o (ix3 s h e) = (wide (dq a s h) e : EReal) := by
  unfold wide
  by_cases he : (e : ℕ) < 96
  · pointwise [val_main_v57, ref_dq R, he]
  · pointwise [val_main_v57, val_main_call0_v0, val_main_c, sitofp_zero, he, EReal.coe_zero]

theorem ref_v59 (s : Fin 8192) (h : Fin 8) (e : Fin 128) : val_main_v59 (F := Ideal) q k v o (ix3 s h e) = (wide (dk a s h) e : EReal) := by
  unfold wide
  by_cases he : (e : ℕ) < 96
  · pointwise [val_main_v59, ref_dk R, he]
  · pointwise [val_main_v59, val_main_call1_v0, val_main_c_13, sitofp_zero, he, EReal.coe_zero]

theorem final_v58 : val_main_v58 (F := Ideal) q k v o = dqArr a := by
  funext i
  idx_vars i
  obtain ⟨h, e, rfl⟩ := lane128_cases i1
  rw [dqArr_at, ← ref_v57 R]
  pointwise [val_main_v58, lane128]

theorem final_v60 : val_main_v60 (F := Ideal) q k v o = dkArr a := by
  funext i
  idx_vars i
  obtain ⟨h, e, rfl⟩ := lane128_cases i1
  rw [dkArr_at, ← ref_v59 R]
  pointwise [val_main_v60, lane128]

end Cert.Fl

end
-- ==== Proof.Finite.lean ====
/-
Real numbers among the extended ones.
-/
module

public import Idealize.ShloMosaic.Lib.ValueIdx

@[expose] public section

noncomputable section

namespace Cert.Finite

open Idealize.ShloMosaic

/-- A number below infinity in size is a real number. -/
theorem real_of_abs (x : EReal) (h : Scalar.cmpf (F := Ideal) (φ := .f32) .olt (FloatOps.absf (F := Ideal) (φ := .f32) x) (FloatOps.ofBits (F := Ideal) .f32 0x7F800000#32) = 1#1) :
    x = ((x.toReal : ℝ) : EReal) := by
  have e : (FloatOps.ofBits (F := Ideal) .f32 0x7F800000#32 : EReal) = ⊤ := by
    show Ideal.ofBits .f32 0x7F800000#32 = ⊤
    simp [Ideal.ofBits, Ideal.ieee]
  rw [e] at h
  refine (EReal.coe_toReal ?_ ?_).symm
  · rintro rfl
    revert h
    show ¬ (Ideal.cmp .olt (max (⊤ : EReal) (-⊤)) ⊤ = 1#1)
    simp [Ideal.cmp]
  · rintro rfl
    revert h
    show ¬ (Ideal.cmp .olt (max (⊥ : EReal) (-⊥)) ⊤ = 1#1)
    simp [Ideal.cmp]

/-- A real number. -/
def IsReal (x : EReal) : Prop := ∃ r : ℝ, x = (r : EReal)

variable {x y : EReal}

theorem IsReal.zero : IsReal 0 := ⟨0, rfl⟩
theorem IsReal.add (hx : IsReal x) (hy : IsReal y) : IsReal (x + y) := by
  obtain ⟨r, rfl⟩ := hx
  obtain ⟨s, rfl⟩ := hy
  exact ⟨r + s, (EReal.coe_add r s).symm⟩
theorem IsReal.mul (hx : IsReal x) (hy : IsReal y) : IsReal (x * y) := by
  obtain ⟨r, rfl⟩ := hx
  obtain ⟨s, rfl⟩ := hy
  exact ⟨r * s, (EReal.coe_mul r s).symm⟩
theorem IsReal.sum {ι : Type} (t : Finset ι) (f : ι → EReal) (h : ∀ i, IsReal (f i)) : IsReal (∑ i ∈ t, f i) :=
  Finset.sum_induction f IsReal (fun _ _ => IsReal.add) IsReal.zero fun i _ => h i

/-- The logistic function of a real number is one. -/
theorem IsReal.logistic (hx : IsReal x) : IsReal (Ideal.div 1 (1 + Ideal.exp (0 - x))) := by
  obtain ⟨r, rfl⟩ := hx
  have e : (0 : EReal) - r = ((-r : ℝ) : EReal) := by rw [sub_eq_add_neg, zero_add, EReal.coe_neg]
  refine ⟨1 / (1 + Real.exp (-r)), ?_⟩
  rw [e, Ideal.exp_coe, ← EReal.coe_one, ← EReal.coe_add, Ideal.div_coe (ne_of_gt (by positivity)), EReal.coe_one, one_mul]

end Cert.Finite

end
-- ==== Proof.Fl.Claim.lean ====
/-
The kernel and the reference of `_flash_bwd` compute the same three arrays where the arguments are finite.
-/
module

public import proofs.«01_k».proof.Defs
public import proofs.«01_k».proof.Proof.Gen.Pre_finite_fl
public import proofs.«01_k».proof.Proof.Fl.Final
public import proofs.«01_k».proof.Proof.Fl.Reference
public import proofs.«01_k».proof.Proof.Finite
public import Idealize.ShloMosaic.Lib.Claim

@[expose] public section

set_option maxRecDepth 16384

noncomputable section

namespace Cert.Fl

open Idealize.ShloMosaic Idealize.ShloMosaic.TcCoe Idealize.SL.Sem
open Cert.KernelFlIdeal.Hand Cert.Finite

/-- Finite arguments are real numbers. -/
theorem reals (q k : FVec Ideal Cert.KernelFlIdeal.S8192x8x96 .f32) (v : FVec Ideal Cert.KernelFlIdeal.S8192x8x64 .f32)
    (o : FVec Ideal Cert.KernelFlIdeal.S8192x512 .f32)
    (hq : (Cert.Pre_finite_fl.fn (F := Ideal) q k v o).1 = fun _ => 1#1) (hk : (Cert.Pre_finite_fl.fn (F := Ideal) q k v o).2.1 = fun _ => 1#1)
    (hv : (Cert.Pre_finite_fl.fn (F := Ideal) q k v o).2.2.1 = fun _ => 1#1) (ho : (Cert.Pre_finite_fl.fn (F := Ideal) q k v o).2.2.2 = fun _ => 1#1) :
    Reals (realArgs q k v o) q k v o where
  q s h e := real_of_abs _ (congrFun hq (ix3 s h e))
  k s h e := real_of_abs _ (congrFun hk (ix3 s h e))
  v s h d := real_of_abs _ (congrFun hv (ix3 s h d))
  o s h d := real_of_abs _ (congrFun ho (ix2 s (lane64 h d)))

theorem frame_reference : Cert.quiescent_ReferenceFlIdeal (hReferenceFlIdeal := Cert.ReferenceFlIdeal.Gen.facts) :=
  fun m ρ _ => (θ_run Cert.ReferenceFlIdeal.defs _ _).mono (fun r h => ⟨fun c => (h c).2.2.2, sem_eq_zero_of_no_sems (by decide) r.2⟩)
    (Cert.ReferenceFlIdeal.Value.run m ρ)

theorem algebraic : Cert.algebraic_KernelFlIdeal_ReferenceFlIdeal_pre_finite_fl
    (hKernelFlIdeal := Cert.KernelFlIdeal.Gen.facts) (hReferenceFlIdeal := Cert.ReferenceFlIdeal.Gen.facts)
    (hPre_finite_fl := Cert.Pre_finite_fl.Gen.facts) := by
  intro m g m' g' hp h
  have R : ∀ c, Reals (args m c) (argQ m c) (argK m c) (argV m c) (argO m c) := fun c =>
    reals _ _ _ _ (hp c).1 (hp c).2.1 (hp c).2.2.1 (hp c).2.2.2
  refine ⟨fun c => dqArr (args m c), fun c => dkArr (args m c), fun c => dvArr (args m c), ?_, ?_⟩
  · refine (θ_run _ _ _).mono (fun r hr c => ?_) (run_main m g)
    obtain ⟨after, hL, hA⟩ := hr.1.exists_exact c
    exact ⟨(hA 6).trans (final_dq (R c) after hL), (hA 7).trans (final_dk (R c) after hL), (hA 8).trans (final_dv (R c) after hL), unchanged m hr.1 c⟩
  · refine (θ_run _ _ _).mono (fun r hr c => ?_) (Cert.ReferenceFlIdeal.Value.run m' g')
    obtain ⟨h6, h7, h8, hargs⟩ := hr c
    obtain ⟨e0, e1, e2, e3⟩ := h c
    have R' : Reals (args m c) (m' ((c.tc : Thread _ _).loc Cert.ReferenceFlIdeal.main_arg0)) (m' ((c.tc : Thread _ _).loc Cert.ReferenceFlIdeal.main_arg1))
        (m' ((c.tc : Thread _ _).loc Cert.ReferenceFlIdeal.main_arg2)) (m' ((c.tc : Thread _ _).loc Cert.ReferenceFlIdeal.main_arg3)) := by
      rw [e0, e1, e2, e3]; exact R c
    refine ⟨h6.trans ?_, h7.trans ?_, h8.trans ?_, hargs⟩
    · exact (Cert.ReferenceFlIdeal.Read.val_main_v58_eq m' c).trans (final_v58 R')
    · exact (Cert.ReferenceFlIdeal.Read.val_main_v60_eq m' c).trans (final_v60 R')
    · exact (Cert.ReferenceFlIdeal.Read.val_main_v61_eq ..).trans (final_v61 R')

end Cert.Fl

end
-- ==== Proof.Ffn.Base.lean ====
/-
The feed-forward part's common quantities: a row's norm, and the columns of the up projection in 8 blocks of 704.
-/
module

public import proofs.«01_k».proof.Proof.Rms
public import Idealize.ShloMosaic.Lib.ValueIdx

@[expose] public section

noncomputable section

namespace Cert.Ffn

open Idealize.ShloMosaic Cert.Rms

/-- A vector, a matrix over the extended reals. -/
abbrev T1 (a : ℕ) := (⟨1, ![a]⟩ : Shape).Idx → EReal
abbrev T2 (a b : ℕ) := (⟨2, ![a, b]⟩ : Shape).Idx → EReal

/-- A row's mean square and inverse root mean square. -/
def ms (x : T2 8192 1024) (s : Fin 8192) : EReal := (∑ k : Fin 1024, x (ix2 s k) * x (ix2 s k)) * ((1 / 1024 : ℝ) : EReal)
def rn (x : T2 8192 1024) (s : Fin 8192) : EReal := Ideal.rsqrt (ms x s + (epsR : EReal))

theorem ms_nonneg (x : T2 8192 1024) (s : Fin 8192) : 0 ≤ ms x s :=
  mul_nonneg (Finset.sum_nonneg fun _ _ => mul_self_nonneg _) (by exact_mod_cast (by norm_num : (0 : ℝ) ≤ 1 / 1024))

/-- Column `l` of block `b`. -/
def col (b : Fin 8) (l : Fin 704) : Fin 5632 := ⟨b.val * 704 + l.val, by omega⟩

end Cert.Ffn

end
-- ==== Proof.Fw.Kernel.lean ====
/-
What the up projection's weight gradient holds after the run of `_ffn_up_bwd_w`.
-/
module

public import proofs.«01_k».proof.Proof.Gen.KernelFwIdeal.Value
public import proofs.«01_k».proof.Proof.Ffn.Base
public import Idealize.ShloMosaic.Lib.Pipeline.ValueKit
public import Idealize.ShloMosaic.Lib.Pointwise

@[expose] public section

set_option maxRecDepth 16384

noncomputable section

namespace Cert.Fw

open Idealize.ShloMosaic Idealize.ShloMosaic.TcCoe Idealize.SL.Sem
open Idealize.ShloMosaic.Pipeline (Dat)
open Cert.KernelFwIdeal Cert.KernelFwIdeal.Gen Cert.Rms Cert.Ffn

/-- The arguments: input, norm gain, and the cotangent of the projection. -/
structure Args where
  x : T2 8192 1024
  g : T1 1024
  d : T2 8192 5632

/-- The weight's gradient, block `b`. -/
def dw (a : Args) (b : Fin 8) (k : Fin 1024) (l : Fin 704) : EReal :=
  ∑ s : Fin 8192, a.x (ix2 s k) * rn a.x s * a.g (ix1 k) * a.d (ix2 s (col b l))

variable (m : (ℓ : Loc nD τ sig) → Buf (Elt Ideal) ℓ)

/-- The kernel's arguments on device `c`. -/
def args (c : Dev nD) : Args where
  x := m ((c : Thread nD τ).loc main_arg0)
  g := m ((c : Thread nD τ).loc main_arg1)
  d := m ((c : Thread nD τ).loc main_arg2)

/-- The row of the whole array that row `r` of grid point `t` is, and the block of columns. -/
def row (t : Fin cfg0.N) (r : Fin 2048) : Fin 8192 := ⟨t.val % 4 * 2048 + r.val, by omega⟩
def blkc (t : Fin cfg0.N) : Fin 8 := ⟨t.val / 4, by have := t.isLt; have h : cfg0.N = 32 := N_0; omega⟩

theorem pay2_at (a : Args) (s : Fin 2048 → Fin 8192) (b : Fin 8) (v3 : Vec Ideal S1x1024x704 .f32) (v5 : Vec Ideal S2048x1024 .f32)
    (v6 : Vec Ideal S1x1024 .f32) (v20 : Vec Ideal S1x2048x704 .bf16) (hx : ∀ r k, v5 (ix2 r k) = a.x (ix2 (s r) k))
    (hg : ∀ k, v6 (ix2 0 k) = a.g (ix1 k)) (hd : ∀ r l, v20 (ix3 0 r l) = a.d (ix2 (s r) (col b l))) (k : Fin 1024) (l : Fin 704) :
    k0_pay2 v3 v5 v6 v20 (ix3 0 k l)
      = v3 (ix3 0 k l) + ∑ r : Fin 2048, a.x (ix2 (s r) k) * rn a.x (s r) * a.g (ix1 k) * a.d (ix2 (s r) (col b l)) := by
  pointwise [k0_pay2, hx, hg, hd, rn, ms, ofBits_eps, ofBits_inv1024]

theorem idx : ∀ t : Fin cfg0.N, win0_0.index t = ![t.val % 4, 0] ∧ win0_1.index t = ![0, 0] ∧ win0_2.index t = ![t.val / 4, t.val % 4, 0]
    ∧ win0_3.index t = ![t.val / 4, 0, 0] := (by decide +kernel : ∀ t : Fin grid0.N, _)

/-- What the host hands over: the gain as a row, the cotangent in blocks of columns. -/
theorem entry_g (c : Dev nD) (k : Fin 1024) : V m c main_v3 (ix2 0 k) = (args m c).g (ix1 k) := by
  unfold V
  simp only [hostOps0]
  after_results
  pointwise [args]

theorem entry_d (c : Dev nD) (b : Fin 8) (s : Fin 8192) (l : Fin 704) : V m c main_v2 (ix3 b s l) = (args m c).d (ix2 s (col b l)) := by
  unfold V
  simp only [hostOps0]
  after_results
  pointwise [args, col]

theorem block_x (c : Dev nD) (t : Fin cfg0.N) (r : Fin 2048) (k : Fin 1024) : iblk m c 0 t (ix2 r k) = (args m c).x (ix2 (row t r) k) := by
  blk_point [iblk, V, args, row, idx t]
theorem block_g (c : Dev nD) (t : Fin cfg0.N) (k : Fin 1024) : iblk m c 1 t (ix2 0 k) = (args m c).g (ix1 k) := by
  rw [← entry_g m c k]; blk_point [iblk, idx t]
theorem block_d (c : Dev nD) (t : Fin cfg0.N) (r : Fin 2048) (l : Fin 704) :
    iblk m c 2 t (ix3 0 r l) = (args m c).d (ix2 (row t r) (col (blkc t) l)) := by
  rw [← entry_d m c]; blk_point [iblk, row, blkc, idx t]

/-- Where grid point `t`'s block of the result lies. -/
theorem emb3 (t : Fin cfg0.N) (y1 : Fin 1024) (y2 : Fin 704) :
    ((cfg0.win 3).blk t).view.emb (ix3 0 y1 y2) = ix3 (blkc t) y1 y2 := by
  blk_ext [blkc, idx t]

/-- A grid point's share of the gradient. -/
def dwTerm (a : Args) (t : Fin cfg0.N) (i : S1x1024x704.Idx) : EReal :=
  ∑ r : Fin 2048, a.x (ix2 (row t r) (i 1)) * rn a.x (row t r) * a.g (ix1 (i 1)) * a.d (ix2 (row t r) (col (blkc t) (i 2)))

theorem dw_first (c : Dev nD) (t : Fin cfg0.N) (h : t.val % 4 = 0) (i : S1x1024x704.Idx) :
    (show EReal from outsAt0 m c t.val t.isLt i) = 0 + dwTerm (args m c) t i := by
  idx_vars i
  obtain rfl := Fin.fin_one_eq_zero i0
  rw [outsAt0_A m c t h]
  frame_out
  refine (pay2_at (args m c) (row t) (blkc t) _ _ _ _ (block_x m c t) (block_g m c t) (block_d m c t) i1 i2).trans ?_
  rw [dwTerm]
  congr 1
  pointwise [k0_pay1]

theorem dw_next (c : Dev nD) (t : Fin cfg0.N) (h : ¬t.val % 4 = 0) (i : S1x1024x704.Idx) :
    (show EReal from outsAt0 m c t.val t.isLt i)
      = (show EReal from outsAt0 m c (t.val - 1) (Nat.lt_of_le_of_lt (Nat.sub_le _ _) t.isLt) i) + dwTerm (args m c) t i := by
  idx_vars i
  obtain rfl := Fin.fin_one_eq_zero i0
  rw [outsAt0_B m c t h]
  frame_out
  exact pay2_at (args m c) (row t) (blkc t) _ _ _ _ (block_x m c t) (block_g m c t) (block_d m c t) i1 i2

theorem final_dw (c : Dev nD) : (dats m 0 c).arrAt 3 cfg0.N = fun i => dw (args m c) (i 0) (i 1) (i 2) := by
  refine (dats m 0 c).arrAt_eq_of_covers 3 _ (by decide +kernel) fun t hf y => ?_
  idx_vars y
  obtain rfl := Fin.fin_one_eq_zero y0
  rw [emb3 t y1 y2]
  blk_simp
  rw [after0_3]
  refine (Pipeline.eq_sum_fin_of_reset_step_apply_of_flush (f := fun n h i => (show EReal from outsAt0 m c n h i)) 4 (fun _ => 0)
    (dwTerm (args m c)) (dw_first m c) (dw_next m c) t ((flush0_3 t).mp hf) (ix3 0 y1 y2)).trans ?_
  rw [zero_add]
  refine Fin.sum_mul_add_congr (S := 4) fun u r hl => ?_
  have hb : blkc ⟨4 * (t.val / 4) + u.val, Pipeline.run_point_lt_of_flush t ((flush0_3 t).mp hf) u⟩ = blkc t :=
    Fin.ext (by show (4 * (t.val / 4) + u.val) / 4 = t.val / 4; omega)
  have hr : row ⟨4 * (t.val / 4) + u.val, Pipeline.run_point_lt_of_flush t ((flush0_3 t).mp hf) u⟩ r = ⟨u.val * 2048 + r.val, hl⟩ :=
    Fin.ext (by show (4 * (t.val / 4) + u.val) % 4 * 2048 + r.val = u.val * 2048 + r.val; omega)
  rw [hb, hr]
  rfl

end Cert.Fw

end
-- ==== Proof.Fw.Claim.lean ====
/-
The kernel and the reference of `_ffn_up_bwd_w` compute the same array.
-/
module

public import proofs.«01_k».proof.Defs
public import proofs.«01_k».proof.Proof.Fw.Kernel
public import proofs.«01_k».proof.Proof.Gen.ReferenceFwIdeal.Run
public import proofs.«01_k».proof.Proof.Gen.ReferenceFwIdeal.Read
public import Idealize.ShloMosaic.Lib.Claim

@[expose] public section

set_option maxRecDepth 16384

noncomputable section

namespace Cert.Fw

open Idealize.ShloMosaic Idealize.ShloMosaic.TcCoe Idealize.SL.Sem
open Cert.Rms Cert.Ffn
open Cert.ReferenceFwIdeal.Read

theorem ref_r (x : T2 8192 1024) (s : Fin 8192) : val_main_v8 (F := Ideal) x (ix2 s 0) = rn x s := by
  pointwise [val_main_v8, val_main_v7, val_main_v6, val_main_v5, val_main_v4, val_main_v3, val_main_v2, val_main_v1, val_main_cst_0,
    val_main_cst_1, val_main_cst_2, rn, ms, ofBits_eps, ofBits_1024]
  rw [div_coe' _ (by norm_num)]

theorem ref_dw (a : Args) (b : Fin 8) (k : Fin 1024) (l : Fin 704) : val_main_v18 (F := Ideal) a.x a.g a.d (ix3 b k l) = dw a b k l := by
  pointwise [val_main_v18, val_main_v17, val_main_v16, val_main_v15, val_main_v13, val_main_v12, val_main_v11, val_main_v10, val_main_v9,
    ref_r, dw, col]
  exact Finset.sum_congr rfl fun _ _ => mul_comm _ _

/-- The reference's arguments on device `c`. -/
def refArgs (m : (ℓ : Loc Cert.ReferenceFwIdeal.nD Cert.ReferenceFwIdeal.τ Cert.ReferenceFwIdeal.sig) → Buf (Elt Ideal) ℓ)
    (c : Dev Cert.ReferenceFwIdeal.nD) : Args where
  x := m ((c.tc : Thread _ _).loc Cert.ReferenceFwIdeal.main_arg0)
  g := m ((c.tc : Thread _ _).loc Cert.ReferenceFwIdeal.main_arg1)
  d := m ((c.tc : Thread _ _).loc Cert.ReferenceFwIdeal.main_arg2)

theorem frame_reference : Cert.quiescent_ReferenceFwIdeal (hReferenceFwIdeal := Cert.ReferenceFwIdeal.Gen.facts) :=
  fun m ρ _ => (θ_run Cert.ReferenceFwIdeal.defs _ _).mono (fun r h => ⟨fun c => (h c).2, sem_eq_zero_of_no_sems (by decide) r.2⟩)
    (Cert.ReferenceFwIdeal.Value.run m ρ)

theorem algebraic : Cert.algebraic_KernelFwIdeal_ReferenceFwIdeal
    (hKernelFwIdeal := Cert.KernelFwIdeal.Gen.facts) (hReferenceFwIdeal := Cert.ReferenceFwIdeal.Gen.facts) := by
  intro m g m' g' _ h
  have ha : ∀ c, refArgs m' c = args m c := fun c => by
    obtain ⟨h0, h1, h2⟩ := h c
    simp only [refArgs, args, h0, h1, h2]
  refine ⟨fun c (i : Cert.KernelFwIdeal.S8x1024x704.Idx) => dw (args m c) (i 0) (i 1) (i 2), ?_, ?_⟩
  · refine (θ_run _ _ _).mono (fun r hr c => ?_) (Cert.KernelFwIdeal.Value.run_blocks m g)
    obtain ⟨h3, hargs⟩ := hr c
    exact ⟨h3.trans (final_dw m c), hargs⟩
  · refine (θ_run _ _ _).mono (fun r hr c => ?_) (Cert.ReferenceFwIdeal.Value.run m' g')
    obtain ⟨h3, hargs⟩ := hr c
    refine ⟨h3.trans ?_, hargs⟩
    refine (val_main_v18_eq ..).trans ?_
    funext i
    exact ((congrArg _ (eq_ix3 i)).trans (ref_dw (refArgs m' c) (i 0) (i 1) (i 2))).trans (congrArg (fun a => dw a (i 0) (i 1) (i 2)) (ha c))

end Cert.Fw

end
-- ==== Proof.Shift.lean ====
/-
A tile of rows shifted by a few rows, read from the tile and the 8 rows beside it: rows turned within groups of 8, the group beside
taken for the rows that leave their group, and zeros outside the whole array.
-/
module

public import Idealize.ShloMosaic.Lib.ValueIdx
public import Idealize.ShloMosaic.Lib.WordCmp
public import Idealize.ShloMosaic.PureOps.Ideal

@[expose] public section

noncomputable section

namespace Cert.Shift

open Idealize.ShloMosaic Idealize.ShloMosaic.WordCmp

/-- A column read `k` rows before, and `k` rows after, with zeros outside. -/
def before {N : ℕ} (k : ℕ) (G : Fin N → EReal) (s : Fin N) : EReal := if s.val < k then 0 else G ⟨s.val - k, by omega⟩
def after {N : ℕ} (k : ℕ) (G : Fin N → EReal) (s : Fin N) : EReal := if h : s.val + k < N then G ⟨s.val + k, h⟩ else 0

theorem select_ofBool {α : Type} (p : Prop) [Decidable p] (x y : α) : Scalar.select (BitVec.ofBool (decide p)) x y = if p then x else y := by
  by_cases h : p <;> simp only [h, decide_true, decide_false, if_true, if_false] <;> rfl

/-- A padded product read back at a shifted row. -/
theorem mul_before {N : ℕ} (k : ℕ) (G : Fin N → EReal) (w : EReal) (s : Fin N) {p : Prop} [Decidable p] (hp : p ↔ k ≤ s.val) (j : p → Fin N)
    (hj : ∀ h, (j h).val = s.val - k) : (if h : p then G (j h) * w else 0) = w * before k G s := by
  rw [before]
  by_cases h : p
  · have := hp.mp h
    rw [dif_pos h, if_neg (by omega), mul_comm]
    exact congrArg (fun i => w * G i) (Fin.ext (hj h))
  · rw [dif_neg h, if_pos (by rw [hp] at h; omega), mul_zero]

theorem mul_after {N : ℕ} (k : ℕ) (G : Fin N → EReal) (w : EReal) (s : Fin N) {p : Prop} [Decidable p] (hp : p ↔ s.val + k < N) (j : p → Fin N)
    (hj : ∀ h, (j h).val = s.val + k) : (if h : p then G (j h) * w else 0) = w * after k G s := by
  rw [after]
  by_cases h : p
  · rw [dif_pos h, dif_pos (hp.mp h), mul_comm]
    exact congrArg (fun i => w * G i) (Fin.ext (hj h))
  · rw [dif_neg h, dif_neg fun e => h (hp.mpr e), mul_zero]

variable {T N : ℕ} (g k i b : ℕ) (f : Fin T → EReal) (q : Fin 8 → EReal) (G : Fin N → EReal) (s : Fin T → Fin N)

/-- Row `r` of tile `i`, whose first row is `b`, shifted down by `k`. -/
theorem down (hk : 1 ≤ k) (hk8 : k < 8) (hi : i < 4096) (hs : ∀ r, (s r).val = b + r.val) (h0 : i = 0 → b = 0) (hb : i ≠ 0 → 8 ≤ b)
    (hf : ∀ r, f r = G (s r)) (hq : i ≠ 0 → ∀ (z : Fin 8) (j : Fin N), j.val + 8 = b + z.val → q z = G j) (r : Fin T) (h1 h2) (h3 : ¬r.val / 8 < 1 → _) :
    Scalar.select (IntOp.cmpi CmpIPredicate.sge (BitVec.ofNat 32 (r.val % 8)) (BitVec.ofNat 32 k))
      (f ⟨r.val / 8 * 8 + (r.val % 8 + 8 - k) % 8, h1⟩)
      (if h : r.val / 8 < 1 then Scalar.select (Scalar.cmpi CmpIPredicate.eq (BitVec.ofNat 32 i) 0#32) (0 : EReal) (q ⟨(r.val % 8 + 8 - k) % 8, h2⟩)
        else f ⟨(r.val / 8 - 1) * 8 + (r.val % 8 + 8 - k) % 8, h3 h⟩)
      = before k G (s r) := by
  have hsr := hs r
  rw [cmpi_sge_ofNat (by omega) (by omega), select_ofBool, before]
  by_cases c1 : k ≤ r.val % 8
  · rw [if_pos c1, if_neg (by omega), hf]
    exact congrArg G (Fin.ext (by rw [hs]; show b + (r.val / 8 * 8 + (r.val % 8 + 8 - k) % 8) = (s r).val - k; omega))
  · rw [if_neg c1]
    by_cases c2 : r.val / 8 < 1
    · rw [dif_pos c2]
      have e : Scalar.cmpi CmpIPredicate.eq (BitVec.ofNat 32 i) 0#32 = BitVec.ofBool (decide (i = 0)) :=
        cmpi_eq_ofNat (w := 32) (b := 0) (by omega) (by omega)
      rw [e, select_ofBool]
      by_cases c3 : i = 0
      · have := h0 c3
        rw [if_pos c3, if_pos (by omega)]
      · have := hb c3
        rw [if_neg c3, if_neg (by omega)]
        exact hq c3 _ _ (by show (s r).val - k + 8 = b + (r.val % 8 + 8 - k) % 8; omega)
    · rw [dif_neg c2, if_neg (by omega), hf]
      exact congrArg G (Fin.ext (by rw [hs]; show b + ((r.val / 8 - 1) * 8 + (r.val % 8 + 8 - k) % 8) = (s r).val - k; omega))

/-- … and up by `k`, where the last tile is `e`. -/
theorem up (e : ℕ) (hk : 1 ≤ k) (hk8 : k < 8) (hi : i < 4096) (he : e < 4096) (hT : T = 8 * g) (hs : ∀ r, (s r).val = b + r.val)
    (h0 : i = e → b + T = N) (hb : i ≠ e → b + T + 8 ≤ N)
    (hf : ∀ r, f r = G (s r)) (hq : i ≠ e → ∀ (z : Fin 8) (j : Fin N), j.val = b + T + z.val → q z = G j) (r : Fin T) (h1 : r.val / 8 < g → _) (h2 h3)
    (h4 : 1 + r.val / 8 < g → _) :
    Scalar.select (IntOp.cmpi CmpIPredicate.slt (BitVec.ofNat 32 (r.val % 8)) (BitVec.ofNat 32 (8 - k)))
      (if h : r.val / 8 < g then f ⟨r.val / 8 * 8 + (r.val % 8 + 8 - (8 - k)) % 8, h1 h⟩
        else Scalar.select (Scalar.cmpi CmpIPredicate.eq (BitVec.ofNat 32 i) (BitVec.ofNat 32 e)) (0 : EReal) (q ⟨(r.val % 8 + 8 - (8 - k)) % 8, h2⟩))
      (if h : 1 + r.val / 8 < g then f ⟨(1 + r.val / 8) * 8 + (r.val % 8 + 8 - (8 - k)) % 8, h4 h⟩
        else Scalar.select (Scalar.cmpi CmpIPredicate.eq (BitVec.ofNat 32 i) (BitVec.ofNat 32 e)) (0 : EReal) (q ⟨(r.val % 8 + 8 - (8 - k)) % 8, h3⟩))
      = after k G (s r) := by
  have hsr := hs r
  have hr := r.isLt
  have hsN := (s r).isLt
  have ee : Scalar.cmpi CmpIPredicate.eq (BitVec.ofNat 32 i) (BitVec.ofNat 32 e) = BitVec.ofBool (decide (i = e)) :=
    cmpi_eq_ofNat (w := 32) (by omega) (by omega)
  rw [cmpi_slt_ofNat (by omega) (by omega), select_ofBool, ee, select_ofBool, after]
  by_cases c1 : r.val % 8 < 8 - k
  · have hN : (s r).val + k < N := by
      by_cases c3 : i = e
      · have := h0 c3; omega
      · have := hb c3; omega
    rw [if_pos c1, dif_pos (by omega), dif_pos hN, hf]
    exact congrArg G (Fin.ext (by rw [hs]; show b + (r.val / 8 * 8 + (r.val % 8 + 8 - (8 - k)) % 8) = (s r).val + k; omega))
  · rw [if_neg c1]
    by_cases c2 : 1 + r.val / 8 < g
    · have hN : (s r).val + k < N := by
        by_cases c3 : i = e
        · have := h0 c3; omega
        · have := hb c3; omega
      rw [dif_pos c2, dif_pos hN, hf]
      exact congrArg G (Fin.ext (by rw [hs]; show b + ((1 + r.val / 8) * 8 + (r.val % 8 + 8 - (8 - k)) % 8) = (s r).val + k; omega))
    · rw [dif_neg c2]
      by_cases c3 : i = e
      · have := h0 c3
        rw [if_pos c3, dif_neg (by omega)]
      · have := hb c3
        rw [if_neg c3, dif_pos (by omega)]
        exact hq c3 _ _ (by show (s r).val + k = b + T + (r.val % 8 + 8 - (8 - k)) % 8; omega)

end Cert.Shift

end
-- ==== Proof.Fx.Closed.lean ====
/-
The gradients through the feed-forward part's convolution, up projection and norm, as functions of the arguments.
-/
module

public import proofs.«01_k».proof.Proof.Ffn.Base
public import proofs.«01_k».proof.Proof.Shift
public import Idealize.ShloMosaic.Lib.Pipeline.ValueKit

@[expose] public section

noncomputable section

namespace Cert.Fx

open Idealize.ShloMosaic Cert.Rms Cert.Ffn Cert.Shift

/-- The arguments: input, norm gain, up projection, convolution taps, and the cotangents of the residual and of the convolution. -/
structure Args where
  x : T2 8192 1024
  g : T1 1024
  w : T2 1024 5632
  cw : T2 3 5632
  dy : T2 8192 1024
  d : T2 8192 5632

variable (a : Args)

/-- The gradient of the convolution's input. -/
def gr (s : Fin 8192) (n : Fin 5632) : EReal :=
  a.cw (ix2 0 n) * after 1 (fun j => a.d (ix2 j n)) s + a.cw (ix2 1 n) * a.d (ix2 s n) + a.cw (ix2 2 n) * before 1 (fun j => a.d (ix2 j n)) s

/-- The gradient of the normed input: of the columns of block `b`, and in all. -/
def dnb (b : Fin 8) (s : Fin 8192) (k : Fin 1024) : EReal := ∑ l : Fin 704, gr a s (col b l) * a.w (ix2 k (col b l))
def dn (s : Fin 8192) (k : Fin 1024) : EReal := ∑ n : Fin 5632, gr a s n * a.w (ix2 k n)

/-- The gradients of input and gain. -/
def dx (s : Fin 8192) (k : Fin 1024) : EReal :=
  a.dy (ix2 s k) + (rn a.x s * (dn a s k * a.g (ix1 k))
    - a.x (ix2 s k) * (rn a.x s * rn a.x s * rn a.x s) * ((∑ j : Fin 1024, dn a s j * a.g (ix1 j) * a.x (ix2 s j)) * ((1 / 1024 : ℝ) : EReal)))
def dg (k : Fin 1024) : EReal := ∑ s : Fin 8192, dn a s k * a.x (ix2 s k) * rn a.x s

theorem sum_dnb (s : Fin 8192) (k : Fin 1024) : ∑ b : Fin 8, dnb a b s k = dn a s k := by
  simp only [dnb, dn]
  exact Fin.sum_mul_add_congr fun u r hl => rfl

end Cert.Fx

end
-- ==== Proof.Fx.Kernel.lean ====
/-
What the results of `_ffn_up_bwd_x` hold after the run.
-/
module

public import proofs.«01_k».proof.Proof.Gen.KernelFxIdeal.Value
public import proofs.«01_k».proof.Proof.Fx.Closed
public import Idealize.ShloMosaic.Lib.Pipeline.ReadBack
public import Idealize.ShloMosaic.Lib.Pointwise

@[expose] public section

set_option maxRecDepth 16384

noncomputable section

namespace Cert.Fx

open Idealize.ShloMosaic Idealize.ShloMosaic.TcCoe Idealize.SL.Sem
open Idealize.ShloMosaic.Pipeline (Dat)
open Cert.KernelFxIdeal Cert.KernelFxIdeal.Gen Cert.Rms Cert.Ffn Cert.Shift

variable (m : (ℓ : Loc nD τ sig) → Buf (Elt Ideal) ℓ)

/-- The kernel's arguments on device `c`. -/
def args (c : Dev nD) : Args where
  x := m ((c : Thread nD τ).loc main_arg0)
  g := m ((c : Thread nD τ).loc main_arg1)
  w := m ((c : Thread nD τ).loc main_arg2)
  cw := m ((c : Thread nD τ).loc main_arg3)
  dy := m ((c : Thread nD τ).loc main_arg4)
  d := m ((c : Thread nD τ).loc main_arg5)

/-- The tile of rows and the block of columns of a grid point, and the row of the whole array that row `r` of a tile is. -/
def tile (t : Fin cfg0.N) : Fin 8 := ⟨t.val / 8, by have := t.isLt; have h : cfg0.N = 64 := N_0; omega⟩
def blkc (t : Fin cfg0.N) : Fin 8 := ⟨t.val % 8, by omega⟩
def row (i : Fin 8) (r : Fin 1024) : Fin 8192 := ⟨i.val * 1024 + r.val, by omega⟩

/-- The convolution's blocks at tile `i`, block of columns `b`: the tile, the rows before and after it, and the taps. -/
structure Conv (a : Args) (i b : Fin 8) (v8 : Vec Ideal S1x1x1024x704 .f32) (v10 v12 : Vec Ideal S1x1x8x704 .f32)
    (v42 : Vec Ideal S1x1x3x704 .f32) : Prop where
  cur : ∀ r l, v8 (ix4 0 0 r l) = a.d (ix2 (row i r) (col b l))
  prev : i.val ≠ 0 → ∀ (z : Fin 8) (l : Fin 704) (j : Fin 8192), j.val + 8 = i.val * 1024 + z.val → v10 (ix4 0 0 z l) = a.d (ix2 j (col b l))
  next : i.val ≠ 7 → ∀ (z : Fin 8) (l : Fin 704) (j : Fin 8192), j.val = i.val * 1024 + 1024 + z.val → v12 (ix4 0 0 z l) = a.d (ix2 j (col b l))
  tap : ∀ k l, v42 (ix4 0 0 k l) = a.cw (ix2 k (col b l))

section
variable {a : Args} {i b : Fin 8} {v8 : Vec Ideal S1x1x1024x704 .f32} {v10 v12 : Vec Ideal S1x1x8x704 .f32} {v42 : Vec Ideal S1x1x3x704 .f32}

theorem pay7_at (p : grid0.Coords) (hp : (p 0).val = i.val) (h : Conv a i b v8 v10 v12 v42) (r : Fin 1024) (l : Fin 704) :
    k0_pay7 p v8 v10 (ix2 r l) = before 1 (fun j => a.d (ix2 j (col b l))) (row i r) := by
  pointwise [k0_pay7, k0_pay6]
  exact down 1 (p 0).val (i.val * 1024) (fun r => v8 (ix4 0 0 r l)) (fun z => v10 (ix4 0 0 z l)) _ (row i) (by omega) (by omega) (by omega)
    (fun _ => rfl) (by omega) (by omega) (fun r => h.cur r l) (fun hi z j => h.prev (hp ▸ hi) z l j) r
    (by omega) (by omega) (fun _ => by omega)

theorem pay10_at (p : grid0.Coords) (hp : (p 0).val = i.val) (h : Conv a i b v8 v10 v12 v42) (r : Fin 1024) (l : Fin 704) :
    k0_pay10 (k0_pay6 v8) (k0_pay7 p v8 v10) (k0_pay8 v8) (k0_pay9 p v12) v42 (ix2 r l) = gr a (row i r) (col b l) := by
  pointwise [k0_pay10, k0_pay6, k0_pay8, k0_pay9, pay7_at p hp h, h.tap, h.cur, gr]
  congr 3
  exact up 128 1 (p 0).val (i.val * 1024) (fun r => a.d (ix2 (row i r) (col b l))) (fun z => v12 (ix4 0 0 z l)) _ (row i) 7 (by omega) (by omega) (by omega)
    (by omega) rfl (fun _ => rfl) (by omega) (by omega) (fun _ => rfl) (fun hi z j => h.next (hp ▸ hi) z l j) r
    (fun _ => by omega) (by omega) (by omega) (fun _ => by omega)

theorem pay11_at (p : grid0.Coords) (hp : (p 0).val = i.val) (h : Conv a i b v8 v10 v12 v42) (r : Fin 1024) (l : Fin 704) :
    k0_pay11 (k0_pay6 v8) (k0_pay7 p v8 v10) (k0_pay8 v8) (k0_pay9 p v12) v42 (ix3 0 r l) = gr a (row i r) (col b l) := by
  pointwise [k0_pay11, pay10_at p hp h]

theorem pay12_at (p : grid0.Coords) (hp : (p 0).val = i.val) (h : Conv a i b v8 v10 v12 v42) (v59 : Vec Ideal S1024x1024 .f32)
    (v60 : Vec Ideal S1x1024x704 .bf16) (hw : ∀ k l, v60 (ix3 0 k l) = a.w (ix2 k (col b l))) (r k : Fin 1024) :
    k0_pay12 (k0_pay6 v8) (k0_pay7 p v8 v10) (k0_pay8 v8) (k0_pay9 p v12) v42 v59 v60 (ix2 r k) = v59 (ix2 r k) + dnb a b (row i r) k := by
  pointwise [k0_pay12, pay10_at p hp h, hw, dnb]

/-- The norm's blocks at tile `i`. -/
structure Norm (a : Args) (i : Fin 8) (v71 : Vec Ideal S1024x1024 .f32) (v72 : Vec Ideal S1x1024 .f32) (v104 : Vec Ideal S1024x1024 .f32) : Prop where
  x : ∀ r k, v71 (ix2 r k) = a.x (ix2 (row i r) k)
  g : ∀ k, v72 (ix2 0 k) = a.g (ix1 k)
  dy : ∀ r k, v104 (ix2 r k) = a.dy (ix2 (row i r) k)

variable {v71 v104 v74 : Vec Ideal S1024x1024 .f32} {v72 : Vec Ideal S1x1024 .f32}

theorem pay1_at (h : Norm a i v71 v72 v104) (r : Fin 1024) : k0_pay1 v71 (ix2 r 0) = rn a.x (row i r) := by
  pointwise [k0_pay1, h.x, rn, ms, ofBits_eps, ofBits_inv1024]

theorem pay2_at (h : Norm a i v71 v72 v104) (hv : ∀ r k, v74 (ix2 r k) = dn a (row i r) k) (r k : Fin 1024) :
    k0_pay2 v71 v72 v74 v104 (ix2 r k) = dx a (row i r) k := by
  pointwise [k0_pay2, h.x, h.g, h.dy, hv, pay1_at h, dx, ofBits_inv1024]

theorem pay3_at (h : Norm a i v71 v72 v104) (hv : ∀ r k, v74 (ix2 r k) = dn a (row i r) k) (v107 : Vec Ideal S1x1024 .f32) (k : Fin 1024) :
    k0_pay3 v71 v74 v107 (ix2 0 k) = v107 (ix2 0 k) + ∑ r : Fin 1024, dn a (row i r) k * a.x (ix2 (row i r) k) * rn a.x (row i r) := by
  pointwise [k0_pay3, h.x, hv, pay1_at h]

end

theorem idx : ∀ t : Fin cfg0.N, win0_0.index t = ![t.val % 8 % 4, t.val % 8 / 4, t.val / 8, 0]
    ∧ win0_1.index t = ![t.val % 8 % 4, t.val % 8 / 4, t.val / 8 * 128 - 1, 0]
    ∧ win0_2.index t = ![t.val % 8 % 4, t.val % 8 / 4, min ((t.val / 8 + 1) * 128) 1023, 0]
    ∧ win0_3.index t = ![t.val % 8 / 4, t.val % 8 % 4, 0, 0] ∧ win0_4.index t = ![t.val % 8, 0, 0] ∧ win0_5.index t = ![t.val / 8, 0]
    ∧ win0_6.index t = ![0, 0] ∧ win0_7.index t = ![t.val / 8, 0] ∧ win0_8.index t = ![t.val % 8, t.val / 8, 0]
    ∧ win0_9.index t = ![t.val / 8, 0] ∧ win0_10.index t = ![0, 0] := (by decide +kernel : ∀ t : Fin grid0.N, _)

theorem coord : ∀ t : Fin cfg0.N, (grid0.coords t 0).val = (tile t).val := (by decide +kernel : ∀ t : Fin grid0.N, (grid0.coords t 0).val = t.val / 8)

/-- What the host hands over: cotangent, weights and taps in blocks of columns, the gain as a row. -/
theorem entry_d (c : Dev nD) (b : Fin 8) (s : Fin 8192) (l : Fin 704) :
    V m c main_v7 (ix4 ⟨b.val % 4, by omega⟩ ⟨b.val / 4, by omega⟩ s l) = (args m c).d (ix2 s (col b l)) := by
  unfold V
  simp only [hostOps0]
  after_results
  pointwise [args, col]
  refine congrArg (fun j => m (c.tc.loc main_arg5) (ix2 s j)) (Fin.ext ?_)
  show b.val / 4 * 2816 + b.val % 4 * 704 + l.val = b.val * 704 + l.val
  omega

theorem entry_w (c : Dev nD) (b : Fin 8) (k : Fin 1024) (l : Fin 704) : V m c main_v2 (ix3 b k l) = (args m c).w (ix2 k (col b l)) := by
  unfold V
  simp only [hostOps0]
  after_results
  pointwise [args, col]

theorem entry_cw (c : Dev nD) (b : Fin 8) (k : Fin 3) (l : Fin 704) :
    V m c main_v5 (ix4 ⟨b.val / 4, by omega⟩ ⟨b.val % 4, by omega⟩ k l) = (args m c).cw (ix2 k (col b l)) := by
  unfold V
  simp only [hostOps0]
  after_results
  pointwise [args, col]

theorem entry_g (c : Dev nD) (k : Fin 1024) : V m c main_v8 (ix2 0 k) = (args m c).g (ix1 k) := by
  unfold V
  simp only [hostOps0]
  after_results
  pointwise [args]

theorem conv (c : Dev nD) (t : Fin cfg0.N) :
    Conv (args m c) (tile t) (blkc t) (iblk m c 0 t) (iblk m c 1 t) (iblk m c 2 t) (iblk m c 3 t) where
  cur r l := by rw [← entry_d m c]; blk_point [iblk, row, tile, blkc, idx t]
  prev hi z l j hj := by
    have hi' : t.val / 8 ≠ 0 := hi
    have hj' : j.val + 8 = t.val / 8 * 1024 + z.val := hj
    rw [← entry_d m c]; blk_point [iblk, row, tile, blkc, idx t]
  next hi z l j hj := by
    have hi' : t.val / 8 ≠ 7 := hi
    have hj' : j.val = t.val / 8 * 1024 + 1024 + z.val := hj
    rw [← entry_d m c]; blk_point [iblk, row, tile, blkc, idx t]
  tap k l := by rw [← entry_cw m c]; blk_point [iblk, blkc, idx t]

theorem block_w (c : Dev nD) (t : Fin cfg0.N) (k : Fin 1024) (l : Fin 704) :
    iblk m c 4 t (ix3 0 k l) = (args m c).w (ix2 k (col (blkc t) l)) := by
  rw [← entry_w m c]; blk_point [iblk, blkc, idx t]

theorem norm (c : Dev nD) (t : Fin cfg0.N) : Norm (args m c) (tile t) (iblk m c 5 t) (iblk m c 6 t) (iblk m c 7 t) where
  x r k := by blk_point [iblk, V, args, row, tile, idx t]
  g k := by rw [← entry_g m c]; blk_point [iblk, idx t]
  dy r k := by blk_point [iblk, V, args, row, tile, idx t]

/-- Where the blocks of the results lie. -/
theorem emb8 (t : Fin cfg0.N) (y1 : Fin 1024) (y2 : Fin 704) : ((cfg0.win 8).blk t).view.emb (ix3 0 y1 y2) = ix3 (blkc t) (row (tile t) y1) y2 := by
  blk_ext [row, tile, blkc, idx t]
theorem emb9 (t : Fin cfg0.N) (y0 y1 : Fin 1024) : ((cfg0.win 9).blk t).view.emb (ix2 y0 y1) = ix2 (row (tile t) y0) y1 := by
  blk_ext [row, tile, idx t]

theorem final_gr (c : Dev nD) : (dats m 0 c).arrAt 8 cfg0.N = fun i => gr (args m c) (i 1) (col (i 0) (i 2)) := by
  refine (dats m 0 c).arrAt_eq_of_covers 8 _ (by decide +kernel) fun t _ y => ?_
  idx_vars y
  obtain rfl := Fin.fin_one_eq_zero y0
  rw [emb8 t y1 y2]
  blk_simp
  rw [after0_8]
  by_cases h1 : t.val % 8 = 0
  · by_cases h0 : t.val % 64 = 0
    · rw [outsAt0_A m c t h0 h1 (by omega)]
      frame_out
      exact pay11_at _ (coord t) (conv m c t) y1 y2
    · rw [outsAt0_D m c t h0 h1 (by omega)]
      frame_out
      exact pay11_at _ (coord t) (conv m c t) y1 y2
  · by_cases h2 : t.val % 8 = 7
    · rw [outsAt0_C m c t (by omega) h1 h2]
      frame_out
      exact pay11_at _ (coord t) (conv m c t) y1 y2
    · rw [outsAt0_B m c t (by omega) h1 h2]
      frame_out
      exact pay11_at _ (coord t) (conv m c t) y1 y2

/-- The scratch after a point: the blocks of columns so far. -/
def accTerm (a : Args) (t : Fin cfg0.N) (i : S1024x1024.Idx) : EReal := dnb a (blkc t) (row (tile t) (i 0)) (i 1)

theorem acc_first (c : Dev nD) (t : Fin cfg0.N) (h1 : t.val % 8 = 0) (i : S1024x1024.Idx) :
    (show EReal from (outsAt0 m c t.val t.isLt).2.2.2 i) = 0 + accTerm (args m c) t i := by
  idx_vars i
  by_cases h0 : t.val % 64 = 0
  · rw [outsAt0_A m c t h0 h1 (by omega)]
    frame_out
    refine (pay12_at _ (coord t) (conv m c t) _ _ (block_w m c t) i0 i1).trans ?_
    rw [accTerm]
    congr 1
    pointwise [k0_pay5]
  · rw [outsAt0_D m c t h0 h1 (by omega)]
    frame_out
    refine (pay12_at _ (coord t) (conv m c t) _ _ (block_w m c t) i0 i1).trans ?_
    rw [accTerm]
    congr 1
    pointwise [k0_pay5]

theorem acc_next (c : Dev nD) (t : Fin cfg0.N) (h1 : ¬t.val % 8 = 0) (i : S1024x1024.Idx) :
    (show EReal from (outsAt0 m c t.val t.isLt).2.2.2 i)
      = (show EReal from (outsAt0 m c (t.val - 1) (Nat.lt_of_le_of_lt (Nat.sub_le _ _) t.isLt)).2.2.2 i) + accTerm (args m c) t i := by
  idx_vars i
  by_cases h2 : t.val % 8 = 7
  · rw [outsAt0_C m c t (by omega) h1 h2]
    frame_out
    rw [read_unread_whole]
    exact pay12_at _ (coord t) (conv m c t) _ _ (block_w m c t) i0 i1
  · rw [outsAt0_B m c t (by omega) h1 h2]
    frame_out
    rw [read_unread_whole]
    exact pay12_at _ (coord t) (conv m c t) _ _ (block_w m c t) i0 i1

/-- At a tile's last point the scratch holds the gradient of the tile's normed rows. -/
theorem acc_last (c : Dev nD) (t : Fin cfg0.N) (h2 : t.val % 8 = 7) (r k : Fin 1024) :
    (show EReal from (outsAt0 m c t.val t.isLt).2.2.2 (ix2 r k)) = dn (args m c) (row (tile t) r) k := by
  refine (Pipeline.eq_sum_fin_of_reset_step_apply_of_flush (f := fun n h i => (show EReal from (outsAt0 m c n h).2.2.2 i)) 8 (fun _ => 0)
    (accTerm (args m c)) (acc_first m c) (acc_next m c) t h2 (ix2 r k)).trans ?_
  rw [zero_add, ← sum_dnb]
  refine Finset.sum_congr rfl fun u _ => ?_
  have hb : blkc ⟨8 * (t.val / 8) + u.val, Pipeline.run_point_lt_of_flush t h2 u⟩ = u :=
    Fin.ext (by show (8 * (t.val / 8) + u.val) % 8 = u.val; omega)
  have hr : tile ⟨8 * (t.val / 8) + u.val, Pipeline.run_point_lt_of_flush t h2 u⟩ = tile t :=
    Fin.ext (by show (8 * (t.val / 8) + u.val) / 8 = t.val / 8; omega)
  rw [accTerm, hb, hr]
  rfl

/-- … which is what the body reads there. -/
theorem acc_read (c : Dev nD) (t : Fin cfg0.N) (h2 : t.val % 8 = 7) (r k : Fin 1024) :
    k0_pay12 (k0_pay6 (iblk m c 0 t)) (k0_pay7 (grid0.coords t) (iblk m c 0 t) (iblk m c 1 t)) (k0_pay8 (iblk m c 0 t))
      (k0_pay9 (grid0.coords t) (iblk m c 2 t)) (iblk m c 3 t)
      (outsAt0 m c (t.val - 1) (Nat.lt_of_le_of_lt (Nat.sub_le _ _) t.isLt)).2.2.2 (iblk m c 4 t) (ix2 r k)
      = dn (args m c) (row (tile t) r) k := by
  rw [← acc_last m c t h2 r k, acc_next m c t (by omega)]
  exact pay12_at _ (coord t) (conv m c t) _ _ (block_w m c t) r k

theorem final_dx (c : Dev nD) : (dats m 0 c).arrAt 9 cfg0.N = fun i => dx (args m c) (i 0) (i 1) := by
  refine (dats m 0 c).arrAt_eq_of_covers 9 _ (by decide +kernel) fun t hf y => ?_
  idx_vars y
  rw [emb9 t y0 y1]
  blk_simp
  have h2 := (flush0_9 t).mp hf
  rw [after0_9, outsAt0_C m c t (by omega) (by omega) h2]
  frame_out
  rw [read_unread_whole]
  exact pay2_at (norm m c t) (acc_read m c t h2) y0 y1

/-- A grid point's share of the gain's gradient: its tile's, at the tile's last point. -/
def dgTerm (a : Args) (t : Fin cfg0.N) (i : S1x1024.Idx) : EReal :=
  if t.val % 8 = 7 then ∑ r : Fin 1024, dn a (row (tile t) r) (i 1) * a.x (ix2 (row (tile t) r) (i 1)) * rn a.x (row (tile t) r) else 0

theorem dg_first (c : Dev nD) (t : Fin cfg0.N) (h0 : t.val % 64 = 0) (i : S1x1024.Idx) :
    (show EReal from (outsAt0 m c t.val t.isLt).2.2.1 i) = 0 + dgTerm (args m c) t i := by
  idx_vars i
  obtain rfl := Fin.fin_one_eq_zero i0
  rw [dgTerm, if_neg (by omega), add_zero, outsAt0_A m c t h0 (by omega) (by omega)]
  frame_out
  pointwise [k0_pay4]

theorem dg_next (c : Dev nD) (t : Fin cfg0.N) (h0 : ¬t.val % 64 = 0) (i : S1x1024.Idx) :
    (show EReal from (outsAt0 m c t.val t.isLt).2.2.1 i)
      = (show EReal from (outsAt0 m c (t.val - 1) (Nat.lt_of_le_of_lt (Nat.sub_le _ _) t.isLt)).2.2.1 i) + dgTerm (args m c) t i := by
  idx_vars i
  obtain rfl := Fin.fin_one_eq_zero i0
  by_cases h2 : t.val % 8 = 7
  · rw [dgTerm, if_pos h2, outsAt0_C m c t h0 (by omega) h2]
    frame_out
    rw [read_unread_whole]
    exact pay3_at (norm m c t) (acc_read m c t h2) _ i1
  · rw [dgTerm, if_neg h2, add_zero]
    by_cases h1 : t.val % 8 = 0
    · rw [outsAt0_D m c t h0 h1 h2]
      frame_out
      rfl
    · rw [outsAt0_B m c t h0 h1 h2]
      frame_out
      rfl

/-- A sum over the grid whose terms are zero except at each tile's last point. -/
theorem sum_last {N : ℕ} (F : Fin N → EReal) (S : Fin 8 → EReal) (hN : N = 64)
    (h : ∀ t : Fin N, t.val % 8 = 7 → F t = S ⟨t.val / 8, by omega⟩) (h0 : ∀ t : Fin N, ¬t.val % 8 = 7 → F t = 0) : ∑ t, F t = ∑ i, S i := by
  rw [← Fin.sum_mul_add_fin 8 8 F hN]
  refine Finset.sum_congr rfl fun i _ => ?_
  refine (Finset.sum_eq_single (7 : Fin 8) (fun j _ hj => h0 _ fun e => hj (Fin.ext ?_)) (fun hn => absurd (Finset.mem_univ _) hn)).trans ?_
  · show j.val = 7
    have : (i.val * 8 + j.val) % 8 = 7 := e
    omega
  · refine (h _ ?_).trans (congrArg S (Fin.ext ?_))
    · show (i.val * 8 + 7) % 8 = 7
      omega
    · show (i.val * 8 + 7) / 8 = i.val
      omega

theorem last_point (t : Fin cfg0.N) (h : t.val % 64 = 63) : t.val + 1 = cfg0.N := by
  have := t.isLt; have h : cfg0.N = 64 := N_0; omega

theorem final_dg (c : Dev nD) : (dats m 0 c).arrAt 10 cfg0.N = fun i => dg (args m c) (i 1) := by
  refine (dats m 0 c).arrAt_eq_of_covers 10 _ (by decide +kernel) fun t hf y => ?_
  idx_vars y
  obtain rfl := Fin.fin_one_eq_zero y0
  have he : ((cfg0.win 10).blk t).view.emb (ix2 0 y1) = ix2 0 y1 := by blk_ext [idx t]
  rw [he]
  blk_simp
  rw [after0_10]
  refine (Pipeline.eq_sum_fin_of_reset_step_apply_last (f := fun n h i => (show EReal from (outsAt0 m c n h).2.2.1 i)) 64 (fun _ => 0)
    (dgTerm (args m c)) (dg_first m c) (dg_next m c) (le_of_eq N_0) t (last_point t ((flush0_10 t).mp hf)) (ix2 0 y1)).trans ?_
  rw [zero_add]
  refine (sum_last (fun t => dgTerm (args m c) t (ix2 0 y1)) (fun i => ∑ r : Fin 1024, dn (args m c) (row i r) y1 * (args m c).x (ix2 (row i r) y1)
    * rn (args m c).x (row i r)) N_0 (fun t h => if_pos h) (fun t h => if_neg h)).trans ?_
  exact Fin.sum_mul_add_congr fun u r hl => rfl

end Cert.Fx

end
-- ==== Proof.Fx.Claim.lean ====
/-
The kernel and the reference of `_ffn_up_bwd_x` compute the same arrays.
-/
module

public import proofs.«01_k».proof.Defs
public import proofs.«01_k».proof.Proof.Fx.Kernel
public import proofs.«01_k».proof.Proof.Gen.ReferenceFxIdeal.Run
public import proofs.«01_k».proof.Proof.Gen.ReferenceFxIdeal.Read
public import Idealize.ShloMosaic.Lib.Claim

@[expose] public section

set_option maxRecDepth 16384

noncomputable section

namespace Cert.Fx

open Idealize.ShloMosaic Idealize.ShloMosaic.TcCoe Idealize.SL.Sem
open Cert.Rms Cert.Ffn Cert.Shift
open Cert.ReferenceFxIdeal.Read

variable (a : Args)

theorem ref_ms (s : Fin 8192) : val_main_v7 (F := Ideal) a.x (ix2 s 0) = ms a.x s + (epsR : EReal) := by
  pointwise [val_main_v7, val_main_v6, val_main_v5, val_main_v4, val_main_v3, val_main_v2, val_main_v1, val_main_cst_0,
    val_main_cst_1, val_main_cst_2, ms, ofBits_eps, ofBits_1024]
  rw [div_coe' _ (by norm_num)]

theorem ref_r (s : Fin 8192) : val_main_v8 (F := Ideal) a.x (ix2 s 0) = rn a.x s := by
  pointwise [val_main_v8, ref_ms, rn]

/-- The convolution's transpose, from the three padded products. -/
theorem ref_gr (s : Fin 8192) (n : Fin 5632) : val_main_v62 (F := Ideal) a.cw a.d (ix2 s n) = gr a s n := by
  pointwise [val_main_v62, val_main_v60, val_main_v59, val_main_v58, val_main_v57, val_main_v56, val_main_v55, val_main_v54, val_main_v53,
    val_main_v52, val_main_v51, val_main_v50, val_main_v49, val_main_v48, val_main_v44, val_main_v43, val_main_v42, val_main_v37, val_main_v36,
    val_main_v35, val_main_v28, val_main_v27, val_main_v26, val_main_cst_9, val_main_cst_10, val_main_cst_11, gr]
  have e2 := mul_before 1 (fun j => a.d (ix2 j n)) (a.cw (ix2 2 n)) s (p := 2 ≤ 1 + s.val ∧ 1 + s.val - 2 < 8192) (by omega)
    (fun h => ⟨1 + s.val - 2, h.2⟩) (fun _ => by show 1 + s.val - 2 = _; omega)
  have e0 := mul_after 1 (fun j => a.d (ix2 j n)) (a.cw (ix2 0 n)) s (p := 1 + s.val < 8192) (by omega)
    (fun h => ⟨1 + s.val, h⟩) (fun _ => Nat.add_comm _ _)
  rw [e0, e2, mul_comm (a.d _), add_comm, add_comm (a.cw (ix2 2 n) * _), ← add_assoc]

theorem ref_dn (s : Fin 8192) (k : Fin 1024) : val_main_v64 (F := Ideal) a.w a.cw a.d (ix2 s k) = dn a s k := by
  pointwise [val_main_v64, ref_gr, dn]

theorem ref_grb (b : Fin 8) (s : Fin 8192) (l : Fin 704) : val_main_v88 (F := Ideal) a.cw a.d (ix3 b s l) = gr a s (col b l) := by
  pointwise [val_main_v88, val_main_v87, val_main_v86, ref_gr, col]

theorem ref_dg (k : Fin 1024) : val_main_v89 (F := Ideal) a.x a.w a.cw a.d (ix2 0 k) = dg a k := by
  pointwise [val_main_v89, val_main_v70, val_main_v67, val_main_v66, val_main_v65, val_main_v13, val_main_v12, val_main_cst_12, val_main_cst_13,
    ref_dn, ref_r, dg]
  simp only [Fin.sum_univ_one]
  refine Finset.sum_congr rfl fun s _ => ?_
  rw [mul_comm, mul_assoc]

theorem ref_dx (s : Fin 8192) (k : Fin 1024) : val_main_v85 (F := Ideal) a.x a.g a.w a.cw a.dy a.d (ix2 s k) = dx a s k := by
  pointwise [val_main_v85, val_main_v84, val_main_v83, val_main_v82, val_main_v81, val_main_v80, val_main_v79, val_main_v78, val_main_v77,
    val_main_v76, val_main_v75, val_main_v74, val_main_v73, val_main_v72, val_main_v71, val_main_v69, val_main_v68, val_main_v14,
    val_main_v11, val_main_v10, val_main_v9, val_main_cst_3, val_main_cst_14, val_main_cst_15, val_main_cst_16,
    ref_ms, ref_r, ref_dn, ofBits_neg_half, ofBits_1024]
  simp only [Fin.sum_univ_one, ref_r, ref_ms]
  rw [dx, div_coe' _ (by norm_num), rn, bwd _ _ _ _ (ms_nonneg a.x s) epsR_pos, ← add_assoc, ← add_assoc]
  have e : ∑ l : Fin 1024, dn a s l * a.g (ix1 l) * a.x (ix2 s l) = ∑ l : Fin 1024, a.x (ix2 s l) * (dn a s l * a.g (ix1 l)) :=
    Finset.sum_congr rfl fun _ _ => mul_comm _ _
  rw [e]

/-- The reference's arguments on device `c`. -/
def refArgs (m : (ℓ : Loc Cert.ReferenceFxIdeal.nD Cert.ReferenceFxIdeal.τ Cert.ReferenceFxIdeal.sig) → Buf (Elt Ideal) ℓ)
    (c : Dev Cert.ReferenceFxIdeal.nD) : Args where
  x := m ((c.tc : Thread _ _).loc Cert.ReferenceFxIdeal.main_arg0)
  g := m ((c.tc : Thread _ _).loc Cert.ReferenceFxIdeal.main_arg1)
  w := m ((c.tc : Thread _ _).loc Cert.ReferenceFxIdeal.main_arg2)
  cw := m ((c.tc : Thread _ _).loc Cert.ReferenceFxIdeal.main_arg3)
  dy := m ((c.tc : Thread _ _).loc Cert.ReferenceFxIdeal.main_arg4)
  d := m ((c.tc : Thread _ _).loc Cert.ReferenceFxIdeal.main_arg5)

theorem frame_reference : Cert.quiescent_ReferenceFxIdeal (hReferenceFxIdeal := Cert.ReferenceFxIdeal.Gen.facts) :=
  fun m ρ _ => (θ_run Cert.ReferenceFxIdeal.defs _ _).mono (fun r h => ⟨fun c => (h c).2.2.2, sem_eq_zero_of_no_sems (by decide) r.2⟩)
    (Cert.ReferenceFxIdeal.Value.run m ρ)

theorem algebraic : Cert.algebraic_KernelFxIdeal_ReferenceFxIdeal
    (hKernelFxIdeal := Cert.KernelFxIdeal.Gen.facts) (hReferenceFxIdeal := Cert.ReferenceFxIdeal.Gen.facts) := by
  intro m g m' g' _ h
  have ha : ∀ c, refArgs m' c = args m c := fun c => by
    obtain ⟨h0, h1, h2, h3, h4, h5⟩ := h c
    simp only [refArgs, args, h0, h1, h2, h3, h4, h5]
  refine ⟨fun c (i : Cert.KernelFxIdeal.S8x8192x704.Idx) => gr (args m c) (i 1) (col (i 0) (i 2)),
    fun c (i : Cert.KernelFxIdeal.S8192x1024.Idx) => dx (args m c) (i 0) (i 1),
    fun c (i : Cert.KernelFxIdeal.S1x1024.Idx) => dg (args m c) (i 1), ?_, ?_⟩
  · refine (θ_run _ _ _).mono (fun r hr c => ?_) (Cert.KernelFxIdeal.Value.run_blocks m g)
    obtain ⟨h8, h9, h10, hargs⟩ := hr c
    exact ⟨h8.trans (final_gr m c), h9.trans (final_dx m c), h10.trans (final_dg m c), hargs⟩
  · refine (θ_run _ _ _).mono (fun r hr c => ?_) (Cert.ReferenceFxIdeal.Value.run m' g')
    obtain ⟨h8, h9, h10, hargs⟩ := hr c
    refine ⟨h8.trans ?_, h9.trans ?_, h10.trans ?_, hargs⟩
    · refine (val_main_v88_eq ..).trans ?_
      funext i
      exact ((congrArg _ (eq_ix3 i)).trans (ref_grb (refArgs m' c) (i 0) (i 1) (i 2))).trans
        (congrArg (fun a => gr a (i 1) (col (i 0) (i 2))) (ha c))
    · refine (val_main_v85_eq m' c).trans ?_
      funext i
      exact ((congrArg _ (eq_ix2 i)).trans (ref_dx (refArgs m' c) (i 0) (i 1))).trans (congrArg (fun a => dx a (i 0) (i 1)) (ha c))
    · refine (val_main_v89_eq ..).trans ?_
      funext i
      exact ((congrArg _ (eq_row i)).trans (ref_dg (refArgs m' c) (i 1))).trans (congrArg (fun a => dg a (i 1)) (ha c))

end Cert.Fx

end
-- ==== Proof.Fd.Closed.lean ====
/-
The gradients of the feed-forward part's down projection and gate, as functions of the arguments.
-/
module

public import proofs.«01_k».proof.Proof.Ffn.Base
public import proofs.«01_k».proof.Proof.Shift
public import Idealize.ShloMosaic.Lib.Pipeline.ValueKit

@[expose] public section

noncomputable section

namespace Cert.Fd

open Idealize.ShloMosaic Cert.Rms Cert.Ffn Cert.Shift

/-- The arguments: the convolution's input, taps and bias, the down projection, and the cotangent of the output. -/
structure Args where
  gu : T2 8192 5632
  cw : T2 3 5632
  cb : T1 5632
  wd : T2 2816 1024
  dy : T2 8192 1024

variable (a : Args)

/-- Column `f` of half `z`: the gates' half and the values' half. -/
def half (z : Fin 2) (f : Fin 2816) : Fin 5632 := ⟨z.val * 2816 + f.val, by omega⟩

/-- The input of the convolution's three taps at row `s`. -/
def tap (k : Fin 3) (s : Fin 8192) (n : Fin 5632) : EReal :=
  match k with
  | 0 => before 1 (fun j => a.gu (ix2 j n)) s
  | 1 => a.gu (ix2 s n)
  | 2 => after 1 (fun j => a.gu (ix2 j n)) s

/-- The convolution with its bias. -/
def pre (s : Fin 8192) (n : Fin 5632) : EReal :=
  a.cb (ix1 n) + (a.cw (ix2 0 n) * tap a 0 s n + a.cw (ix2 1 n) * tap a 1 s n + a.cw (ix2 2 n) * tap a 2 s n)

/-- The logistic function, and the gate. -/
def sg (s : Fin 8192) (f : Fin 2816) : EReal := Ideal.div 1 (1 + Ideal.exp (0 - pre a s (half 0 f)))
def sil (s : Fin 8192) (f : Fin 2816) : EReal := pre a s (half 0 f) * sg a s f

/-- The gradient of the gated values, of the gates and values, and of both halves. -/
def da (s : Fin 8192) (f : Fin 2816) : EReal := ∑ k : Fin 1024, a.dy (ix2 s k) * a.wd (ix2 f k)
def dz (z : Fin 2) (s : Fin 8192) (f : Fin 2816) : EReal :=
  match z with
  | 0 => da a s f * pre a s (half 1 f) * sg a s f * (1 + pre a s (half 0 f) * (1 - sg a s f))
  | 1 => da a s f * sil a s f

/-- The gradients of down projection, taps and bias. -/
def dwd (f : Fin 2816) (k : Fin 1024) : EReal := ∑ s : Fin 8192, sil a s f * pre a s (half 1 f) * a.dy (ix2 s k)
def dcw (z : Fin 2) (k : Fin 3) (f : Fin 2816) : EReal := ∑ s : Fin 8192, dz a z s f * tap a k s (half z f)
def dcb (z : Fin 2) (f : Fin 2816) : EReal := ∑ s : Fin 8192, dz a z s f

end Cert.Fd

end
-- ==== Proof.Fd.Kernel.lean ====
/-
What the results of `_ffn_down_bwd` hold after the run.
-/
module

public import proofs.«01_k».proof.Proof.Gen.KernelFdIdeal.Value
public import proofs.«01_k».proof.Proof.Fd.Closed
public import Idealize.ShloMosaic.Lib.Pipeline.ReadBack
public import Idealize.ShloMosaic.Lib.Pointwise

@[expose] public section

set_option maxRecDepth 16384

noncomputable section

namespace Cert.Fd

open Idealize.ShloMosaic Idealize.ShloMosaic.TcCoe Idealize.SL.Sem
open Idealize.ShloMosaic.Pipeline (Dat)
open Cert.KernelFdIdeal Cert.KernelFdIdeal.Gen Cert.Rms Cert.Ffn Cert.Shift

variable (m : (ℓ : Loc nD τ sig) → Buf (Elt Ideal) ℓ)

/-- The kernel's arguments on device `c`. -/
def args (c : Dev nD) : Args where
  gu := m ((c : Thread nD τ).loc main_arg0)
  cw := m ((c : Thread nD τ).loc main_arg1)
  cb := m ((c : Thread nD τ).loc main_arg2)
  wd := m ((c : Thread nD τ).loc main_arg3)
  dy := m ((c : Thread nD τ).loc main_arg4)

/-- The chunk of columns and the tile of rows of a grid point; the row of the whole array that row `r` of a tile is, and likewise the column. -/
def chunk (t : Fin cfg0.N) : Fin 4 := ⟨t.val / 8, by have := t.isLt; have h : cfg0.N = 32 := N_0; omega⟩
def tile (t : Fin cfg0.N) : Fin 8 := ⟨t.val % 8, by omega⟩
def row (i : Fin 8) (r : Fin 1024) : Fin 8192 := ⟨i.val * 1024 + r.val, by omega⟩
def colm (b : Fin 4) (l : Fin 704) : Fin 2816 := ⟨b.val * 704 + l.val, by omega⟩

/-- One half's blocks at tile `i`, chunk `b`: the tile, the rows before and after it, the taps and the bias. -/
structure Conv (a : Args) (z : Fin 2) (i : Fin 8) (b : Fin 4) (v8 : Vec Ideal S1x1x1024x704 .f32) (v10 v12 : Vec Ideal S1x1x8x704 .f32)
    (v42 : Vec Ideal S1x1x3x704 .f32) (v44 : Vec Ideal S1x1x1x704 .f32) : Prop where
  cur : ∀ r l, v8 (ix4 0 0 r l) = a.gu (ix2 (row i r) (half z (colm b l)))
  prev : i.val ≠ 0 → ∀ (y : Fin 8) (l : Fin 704) (j : Fin 8192), j.val + 8 = i.val * 1024 + y.val → v10 (ix4 0 0 y l) = a.gu (ix2 j (half z (colm b l)))
  next : i.val ≠ 7 → ∀ (y : Fin 8) (l : Fin 704) (j : Fin 8192), j.val = i.val * 1024 + 1024 + y.val →
    v12 (ix4 0 0 y l) = a.gu (ix2 j (half z (colm b l)))
  tap : ∀ k l, v42 (ix4 0 0 k l) = a.cw (ix2 k (half z (colm b l)))
  bias : ∀ l, v44 (ix4 0 0 0 l) = a.cb (ix1 (half z (colm b l)))

section
variable {a : Args} {i : Fin 8} {b : Fin 4} {v8 : Vec Ideal S1x1x1024x704 .f32} {v10 v12 : Vec Ideal S1x1x8x704 .f32} {v42 : Vec Ideal S1x1x3x704 .f32}
  {v44 : Vec Ideal S1x1x1x704 .f32}

/-- The inputs of the taps: the rows shifted down, in place and shifted up, of the gates' half and of the values'. -/
theorem down0_at (p : grid0.Coords) (hp : (p 1).val = i.val) (h : Conv a 0 i b v8 v10 v12 v42 v44) (r : Fin 1024) (l : Fin 704) :
    k0_pay6 p v8 v10 (ix2 r l) = tap a 0 (row i r) (half 0 (colm b l)) := by
  pointwise [k0_pay6, k0_pay5]
  exact down 1 (p 1).val (i.val * 1024) (fun r => v8 (ix4 0 0 r l)) (fun z => v10 (ix4 0 0 z l)) (fun j => a.gu (ix2 j (half 0 (colm b l)))) (row i)
    (by omega) (by omega) (by omega)
    (fun _ => rfl) (by omega) (by omega) (fun r => h.cur r l) (fun hi z j => h.prev (hp ▸ hi) z l j) r
    (by omega) (by omega) (fun _ => by omega)

theorem down1_at (p : grid0.Coords) (hp : (p 1).val = i.val) (h : Conv a 1 i b v8 v10 v12 v42 v44) (r : Fin 1024) (l : Fin 704) :
    k0_pay13 (Scalar.cmpi .eq (BitVec.ofNat 32 (p 1).val) 0#32) v8 v10 (ix2 r l) = tap a 0 (row i r) (half 1 (colm b l)) := by
  pointwise [k0_pay13, k0_pay12]
  exact down 1 (p 1).val (i.val * 1024) (fun r => v8 (ix4 0 0 r l)) (fun z => v10 (ix4 0 0 z l)) (fun j => a.gu (ix2 j (half 1 (colm b l)))) (row i)
    (by omega) (by omega) (by omega)
    (fun _ => rfl) (by omega) (by omega) (fun r => h.cur r l) (fun hi z j => h.prev (hp ▸ hi) z l j) r
    (by omega) (by omega) (fun _ => by omega)

theorem up0_at (p : grid0.Coords) (hp : (p 1).val = i.val) (h : Conv a 0 i b v8 v10 v12 v42 v44) (r : Fin 1024) (l : Fin 704) :
    k0_pay11 k0_pay8 (k0_pay9 p v8 v12) (k0_pay10 p v8 v12) (ix2 r l) = tap a 2 (row i r) (half 0 (colm b l)) := by
  pointwise [k0_pay11, k0_pay8, k0_pay9, k0_pay10, k0_pay5, k0_pay7]
  exact up 128 1 (p 1).val (i.val * 1024) (fun r => v8 (ix4 0 0 r l)) (fun z => v12 (ix4 0 0 z l)) (fun j => a.gu (ix2 j (half 0 (colm b l)))) (row i) 7
    (by omega) (by omega) (by omega) (by omega) rfl (fun _ => rfl) (by omega) (by omega) (fun r => h.cur r l) (fun hi z j => h.next (hp ▸ hi) z l j) r
    (fun _ => by omega) (by omega) (by omega) (fun _ => by omega)

theorem up1_at (p : grid0.Coords) (hp : (p 1).val = i.val) (h : Conv a 1 i b v8 v10 v12 v42 v44) (r : Fin 1024) (l : Fin 704) :
    k0_pay14 (Scalar.cmpi .eq (BitVec.ofNat 32 (p 1).val) 7#32) v8 v12 (ix2 r l) = tap a 2 (row i r) (half 1 (colm b l)) := by
  pointwise [k0_pay14, k0_pay12]
  exact up 128 1 (p 1).val (i.val * 1024) (fun r => v8 (ix4 0 0 r l)) (fun z => v12 (ix4 0 0 z l)) (fun j => a.gu (ix2 j (half 1 (colm b l)))) (row i) 7
    (by omega) (by omega) (by omega) (by omega) rfl (fun _ => rfl) (by omega) (by omega) (fun r => h.cur r l) (fun hi z j => h.next (hp ▸ hi) z l j) r
    (fun _ => by omega) (by omega) (by omega) (fun _ => by omega)

theorem mid0_at (h : Conv a 0 i b v8 v10 v12 v42 v44) (r : Fin 1024) (l : Fin 704) : k0_pay5 v8 (ix2 r l) = tap a 1 (row i r) (half 0 (colm b l)) := by
  pointwise [k0_pay5, h.cur, tap]
theorem mid1_at (h : Conv a 1 i b v8 v10 v12 v42 v44) (r : Fin 1024) (l : Fin 704) : k0_pay12 v8 (ix2 r l) = tap a 1 (row i r) (half 1 (colm b l)) := by
  pointwise [k0_pay12, h.cur, tap]

variable {t0 t1 t2 : FVec Ideal S1024x704 .f32}

/-- The inputs of a half's three taps. -/
structure Taps (a : Args) (z : Fin 2) (i : Fin 8) (b : Fin 4) (t0 t1 t2 : FVec Ideal S1024x704 .f32) : Prop where
  t0 : ∀ r l, t0 (ix2 r l) = tap a 0 (row i r) (half z (colm b l))
  t1 : ∀ r l, t1 (ix2 r l) = tap a 1 (row i r) (half z (colm b l))
  t2 : ∀ r l, t2 (ix2 r l) = tap a 2 (row i r) (half z (colm b l))

theorem pay16_at (h : Conv a 0 i b v8 v10 v12 v42 v44) (ht : Taps a 0 i b t0 t1 t2) (r : Fin 1024) (l : Fin 704) :
    k0_pay16 t1 t0 t2 (k0_pay15 v42) v44 (ix2 r l) = pre a (row i r) (half 0 (colm b l)) := by
  pointwise [k0_pay16, k0_pay15, ht.t0, ht.t1, ht.t2, h.tap, h.bias, pre]

theorem pay17_at (h : Conv a 1 i b v8 v10 v12 v42 v44) (ht : Taps a 1 i b t0 t1 t2) (r : Fin 1024) (l : Fin 704) :
    k0_pay17 t1 t0 t2 v42 v44 (ix2 r l) = pre a (row i r) (half 1 (colm b l)) := by
  pointwise [k0_pay17, ht.t0, ht.t1, ht.t2, h.tap, h.bias, pre]

theorem pay18_at (h : Conv a 0 i b v8 v10 v12 v42 v44) (ht : Taps a 0 i b t0 t1 t2) (r : Fin 1024) (l : Fin 704) :
    k0_pay18 t1 t0 t2 (k0_pay15 v42) v44 (ix2 r l) = 1 + Ideal.exp (0 - pre a (row i r) (half 0 (colm b l))) := by
  pointwise [k0_pay18, pay16_at h ht]

/-- What the gates' part of the body reads: both pre-activations, the logistic function's denominator, cotangent and down projection. -/
structure Act (a : Args) (i : Fin 8) (b : Fin 4) (v87 v106 : FVec Ideal S1024x704 .f32) (v107 : Vec Ideal S1024x1024 .f32)
    (v112 : FVec Ideal S1024x704 .f32) (v116 : Vec Ideal S704x1024 .bf16) : Prop where
  g : ∀ r l, v87 (ix2 r l) = pre a (row i r) (half 0 (colm b l))
  u : ∀ r l, v106 (ix2 r l) = pre a (row i r) (half 1 (colm b l))
  dy : ∀ r k, v107 (ix2 r k) = a.dy (ix2 (row i r) k)
  den : ∀ r l, v112 (ix2 r l) = 1 + Ideal.exp (0 - pre a (row i r) (half 0 (colm b l)))
  wd : ∀ l k, v116 (ix2 l k) = a.wd (ix2 (colm b l) k)

variable {v87 v106 v112 : FVec Ideal S1024x704 .f32} {v107 : Vec Ideal S1024x1024 .f32} {v116 : Vec Ideal S704x1024 .bf16}

theorem pay20_at (h : Act a i b v87 v106 v107 v112 v116) (r : Fin 1024) (l : Fin 704) : k0_pay20 v112 k0_pay19 (ix2 r l) = sg a (row i r) (colm b l) := by
  pointwise [k0_pay20, k0_pay19, h.den, sg]

theorem pay21_at (h : Act a i b v87 v106 v107 v112 v116) (r : Fin 1024) (l : Fin 704) :
    k0_pay21 v87 v112 k0_pay19 (ix2 r l) = sil a (row i r) (colm b l) := by
  pointwise [k0_pay21, pay20_at h, h.g, sil]

theorem pay22_at (h : Act a i b v87 v106 v107 v112 v116) (r : Fin 1024) (l : Fin 704) : k0_pay22 v107 v116 (ix2 r l) = da a (row i r) (colm b l) := by
  pointwise [k0_pay22, h.dy, h.wd, da]

theorem pay23_at (h : Act a i b v87 v106 v107 v112 v116) (v120 : Vec Ideal S704x1024 .f32) (l : Fin 704) (k : Fin 1024) :
    k0_pay23 v87 v106 v107 v112 k0_pay19 v120 (ix2 l k) = v120 (ix2 l k)
      + ∑ r : Fin 1024, sil a (row i r) (colm b l) * pre a (row i r) (half 1 (colm b l)) * a.dy (ix2 (row i r) k) := by
  pointwise [k0_pay23, pay21_at h, h.dy, h.u]

theorem pay24_at (h : Act a i b v87 v106 v107 v112 v116) (r : Fin 1024) (l : Fin 704) :
    k0_pay24 v87 v106 v107 v112 k0_pay19 v116 (ix2 r l) = dz a 0 (row i r) (colm b l) := by
  pointwise [k0_pay24, pay20_at h, pay22_at h, h.g, h.u, dz]

theorem pay25_at (h : Act a i b v87 v106 v107 v112 v116) (r : Fin 1024) (l : Fin 704) :
    k0_pay25 v87 v107 v112 k0_pay19 v116 (ix2 r l) = dz a 1 (row i r) (colm b l) := by
  pointwise [k0_pay25, pay21_at h, pay22_at h, dz]

theorem pay26_at (h : Act a i b v87 v106 v107 v112 v116) (r : Fin 1024) (l : Fin 704) :
    k0_pay26 v87 v106 v107 v112 k0_pay19 v116 (ix4 0 0 r l) = dz a 0 (row i r) (colm b l) := by
  pointwise [k0_pay26, pay24_at h]

theorem pay27_at (h : Act a i b v87 v106 v107 v112 v116) (r : Fin 1024) (l : Fin 704) :
    k0_pay27 v87 v107 v112 k0_pay19 v116 (ix4 0 0 r l) = dz a 1 (row i r) (colm b l) := by
  pointwise [k0_pay27, pay25_at h]

/-- The bias rows: what was there plus the tile's sum. -/
theorem bias0_at (h : Act a i b v87 v106 v107 v112 v116) (v : Vec Ideal S1x1x1x704 .f32) (l : Fin 704) :
    k0_pay29 (k0_pay28 v87 v106 v107 v112 k0_pay19 v116 v) (ix4 0 0 0 l) = v (ix4 0 0 0 l) + ∑ r : Fin 1024, dz a 0 (row i r) (colm b l) := by
  pointwise [k0_pay28, k0_pay29, pay24_at h]

theorem bias1_at (h : Act a i b v87 v106 v107 v112 v116) (v : Vec Ideal S1x1x1x704 .f32) (l : Fin 704) :
    k0_pay34 (k0_pay25 v87 v107 v112 k0_pay19 v116) v (ix4 0 0 0 l) = v (ix4 0 0 0 l) + ∑ r : Fin 1024, dz a 1 (row i r) (colm b l) := by
  pointwise [k0_pay34, pay25_at h]

/-- The taps' rows: what was there plus the tile's sum. -/
theorem tap0_at (x y : FVec Ideal S1024x704 .f32) (v : Vec Ideal S1x1x1x704 .f32) (l : Fin 704) :
    k0_pay30 x y v (ix4 0 0 0 l) = v (ix4 0 0 0 l) + ∑ r : Fin 1024, y (ix2 r l) * x (ix2 r l) := by pointwise [k0_pay30]
theorem tap1_at (x y : FVec Ideal S1024x704 .f32) (v : Vec Ideal S1x1x1x704 .f32) (l : Fin 704) :
    k0_pay31 x y v (ix4 0 0 0 l) = v (ix4 0 0 0 l) + ∑ r : Fin 1024, y (ix2 r l) * x (ix2 r l) := by pointwise [k0_pay31]
theorem tap2_at (x y : FVec Ideal S1024x704 .f32) (v : Vec Ideal S1x1x1x704 .f32) (l : Fin 704) :
    k0_pay33 (k0_pay32 x y v) (ix4 0 0 0 l) = v (ix4 0 0 0 l) + ∑ r : Fin 1024, y (ix2 r l) * x (ix2 r l) := by pointwise [k0_pay33, k0_pay32]
theorem tap3_at (x y : FVec Ideal S1024x704 .f32) (v : Vec Ideal S1x1x1x704 .f32) (l : Fin 704) :
    k0_pay35 x y v (ix4 0 0 0 l) = v (ix4 0 0 0 l) + ∑ r : Fin 1024, y (ix2 r l) * x (ix2 r l) := by pointwise [k0_pay35]
theorem tap4_at (x y : FVec Ideal S1024x704 .f32) (v : Vec Ideal S1x1x1x704 .f32) (l : Fin 704) :
    k0_pay36 x y v (ix4 0 0 0 l) = v (ix4 0 0 0 l) + ∑ r : Fin 1024, y (ix2 r l) * x (ix2 r l) := by pointwise [k0_pay36]
theorem tap5_at (x y : FVec Ideal S1024x704 .f32) (v : Vec Ideal S1x1x1x704 .f32) (l : Fin 704) :
    k0_pay1 x y v (ix4 0 0 0 l) = v (ix4 0 0 0 l) + ∑ r : Fin 1024, y (ix2 r l) * x (ix2 r l) := by pointwise [k0_pay1]

end

theorem idx : ∀ t : Fin cfg0.N, win0_0.index t = ![t.val / 8, 0, t.val % 8, 0]
    ∧ win0_1.index t = ![t.val / 8, 0, t.val % 8 * 128 - 1, 0]
    ∧ win0_2.index t = ![t.val / 8, 0, min ((t.val % 8 + 1) * 128) 1023, 0]
    ∧ win0_3.index t = ![0, t.val / 8, 0, 0] ∧ win0_4.index t = ![0, t.val / 8, 0, 0] ∧ win0_5.index t = ![t.val / 8, 0]
    ∧ win0_6.index t = ![t.val % 8, 0] ∧ win0_7.index t = ![t.val / 8, 0, t.val % 8, 0] ∧ win0_8.index t = ![t.val / 8, 0]
    ∧ win0_9.index t = ![0, t.val / 8, 0, 0] ∧ win0_10.index t = ![0, t.val / 8, 0, 0] := (by decide +kernel : ∀ t : Fin grid0.N, _)

theorem coord : ∀ t : Fin cfg0.N, (grid0.coords t 1).val = (tile t).val := (by decide +kernel : ∀ t : Fin grid0.N, (grid0.coords t 1).val = t.val % 8)

/-- What the host hands over: the convolution's input, taps and bias by half and chunk, and the down projection. -/
theorem entry_gu (c : Dev nD) (z : Fin 2) (b : Fin 4) (s : Fin 8192) (l : Fin 704) : V m c main_v1 (ix4 b z s l) = (args m c).gu (ix2 s (half z (colm b l))) := by
  unfold V
  simp only [hostOps0]
  after_results
  pointwise [args, half, colm]
  refine congrArg (fun j => m (c.tc.loc main_arg0) (ix2 s j)) (Fin.ext ?_)
  show z.val * 2816 + b.val * 704 + l.val = z.val * 2816 + (b.val * 704 + l.val)
  omega

theorem entry_cw (c : Dev nD) (z : Fin 2) (b : Fin 4) (k : Fin 3) (l : Fin 704) : V m c main_v4 (ix4 z b k l) = (args m c).cw (ix2 k (half z (colm b l))) := by
  unfold V
  simp only [hostOps0]
  after_results
  pointwise [args, half, colm]
  refine congrArg (fun j => m (c.tc.loc main_arg1) (ix2 k j)) (Fin.ext ?_)
  show (z.val * 4 + b.val) * 704 + l.val = z.val * 2816 + (b.val * 704 + l.val)
  omega

theorem entry_cb (c : Dev nD) (z : Fin 2) (b : Fin 4) (l : Fin 704) : V m c main_v5 (ix4 z b 0 l) = (args m c).cb (ix1 (half z (colm b l))) := by
  unfold V
  simp only [hostOps0]
  after_results
  pointwise [args, half, colm]
  refine congrArg (fun j => m (c.tc.loc main_arg2) (ix1 j)) (Fin.ext ?_)
  show z.val * 2816 + b.val * 704 + l.val = z.val * 2816 + (b.val * 704 + l.val)
  omega

theorem entry_wd (c : Dev nD) (f : Fin 2816) (k : Fin 1024) : V m c main_v6 (ix2 f k) = (args m c).wd (ix2 f k) := by
  unfold V
  simp only [hostOps0]
  after_results
  pointwise [args]

/-- What the body loads of each half's blocks at a point. -/
def cur0 (c : Dev nD) (t : Fin cfg0.N) : Vec Ideal S1x1x1024x704 .f32 :=
  View.ld (iblk m c 0 t) (Rect.unit ![0, 0, 0, 0] ![1, 1, 1024, 704] inb_S1x2x1024x704_S1x1x1024x704_0_0_0_0)
def cur1 (c : Dev nD) (t : Fin cfg0.N) : Vec Ideal S1x1x1024x704 .f32 :=
  View.ld (iblk m c 0 t) (Rect.unit ![0, 1, 0, 0] ![1, 1, 1024, 704] inb_S1x2x1024x704_S1x1x1024x704_0_1_0_0)
def halo0 (X : Vec Ideal S1x2x8x704 .f32) : Vec Ideal S1x1x8x704 .f32 := View.ld X (Rect.unit ![0, 0, 0, 0] ![1, 1, 8, 704] inb_S1x2x8x704_S1x1x8x704_0_0_0_0)
def halo1 (X : Vec Ideal S1x2x8x704 .f32) : Vec Ideal S1x1x8x704 .f32 := View.ld X (Rect.unit ![0, 1, 0, 0] ![1, 1, 8, 704] inb_S1x2x8x704_S1x1x8x704_0_1_0_0)
def taps0 (c : Dev nD) (t : Fin cfg0.N) : Vec Ideal S1x1x3x704 .f32 :=
  View.ld (iblk m c 3 t) (Rect.unit ![0, 0, 0, 0] ![1, 1, 3, 704] inb_S2x1x3x704_S1x1x3x704_0_0_0_0)
def taps1 (c : Dev nD) (t : Fin cfg0.N) : Vec Ideal S1x1x3x704 .f32 :=
  View.ld (iblk m c 3 t) (Rect.unit ![1, 0, 0, 0] ![1, 1, 3, 704] inb_S2x1x3x704_S1x1x3x704_1_0_0_0)
def bias0 (c : Dev nD) (t : Fin cfg0.N) : Vec Ideal S1x1x1x704 .f32 :=
  View.ld (iblk m c 4 t) (Rect.unit ![0, 0, 0, 0] ![1, 1, 1, 704] inb_S2x1x1x704_S1x1x1x704_0_0_0_0)
def bias1 (c : Dev nD) (t : Fin cfg0.N) : Vec Ideal S1x1x1x704 .f32 :=
  View.ld (iblk m c 4 t) (Rect.unit ![1, 0, 0, 0] ![1, 1, 1, 704] inb_S2x1x1x704_S1x1x1x704_1_0_0_0)

/-- The blocks of the convolution's input before the halves are taken apart. -/
theorem prev_at (c : Dev nD) (t : Fin cfg0.N) (z : Fin 2) (hi : (tile t).val ≠ 0) (y : Fin 8) (l : Fin 704) (j : Fin 8192)
    (hj : j.val + 8 = (tile t).val * 1024 + y.val) : iblk m c 1 t (ix4 0 z y l) = (args m c).gu (ix2 j (half z (colm (chunk t) l))) := by
  have hi' : t.val % 8 ≠ 0 := hi
  have hj' : j.val + 8 = t.val % 8 * 1024 + y.val := hj
  rw [← entry_gu m c]
  blk_point [iblk, chunk, idx t]

theorem next_at (c : Dev nD) (t : Fin cfg0.N) (z : Fin 2) (hi : (tile t).val ≠ 7) (y : Fin 8) (l : Fin 704) (j : Fin 8192)
    (hj : j.val = (tile t).val * 1024 + 1024 + y.val) : iblk m c 2 t (ix4 0 z y l) = (args m c).gu (ix2 j (half z (colm (chunk t) l))) := by
  have hi' : t.val % 8 ≠ 7 := hi
  have hj' : j.val = t.val % 8 * 1024 + 1024 + y.val := hj
  rw [← entry_gu m c]
  blk_point [iblk, chunk, idx t]

theorem halo0_at (X : Vec Ideal S1x2x8x704 .f32) (y : Fin 8) (l : Fin 704) : halo0 X (ix4 0 0 y l) = X (ix4 0 0 y l) := by pointwise [halo0]
theorem halo1_at (X : Vec Ideal S1x2x8x704 .f32) (y : Fin 8) (l : Fin 704) : halo1 X (ix4 0 0 y l) = X (ix4 0 1 y l) := by pointwise [halo1]

theorem conv0 (c : Dev nD) (t : Fin cfg0.N) :
    Conv (args m c) 0 (tile t) (chunk t) (cur0 m c t) (halo0 (iblk m c 1 t)) (halo0 (iblk m c 2 t)) (taps0 m c t) (bias0 m c t) where
  cur r l := by rw [← entry_gu m c]; blk_point [cur0, iblk, row, tile, chunk, idx t]
  prev hi y l j hj := (halo0_at _ y l).trans (prev_at m c t 0 hi y l j hj)
  next hi y l j hj := (halo0_at _ y l).trans (next_at m c t 0 hi y l j hj)
  tap k l := by rw [← entry_cw m c]; blk_point [taps0, iblk, chunk, idx t]
  bias l := by rw [← entry_cb m c]; blk_point [bias0, iblk, chunk, idx t]

theorem conv1 (c : Dev nD) (t : Fin cfg0.N) :
    Conv (args m c) 1 (tile t) (chunk t) (cur1 m c t) (halo1 (iblk m c 1 t)) (halo1 (iblk m c 2 t)) (taps1 m c t) (bias1 m c t) where
  cur r l := by rw [← entry_gu m c]; blk_point [cur1, iblk, row, tile, chunk, idx t]
  prev hi y l j hj := (halo1_at _ y l).trans (prev_at m c t 1 hi y l j hj)
  next hi y l j hj := (halo1_at _ y l).trans (next_at m c t 1 hi y l j hj)
  tap k l := by rw [← entry_cw m c]; blk_point [taps1, iblk, chunk, idx t]
  bias l := by rw [← entry_cb m c]; blk_point [bias1, iblk, chunk, idx t]

/-- The taps' inputs at a point, by half, and the pre-activations and denominator over them. -/
def d0 (c : Dev nD) (t : Fin cfg0.N) : FVec Ideal S1024x704 .f32 := k0_pay6 (grid0.coords t) (cur0 m c t) (halo0 (iblk m c 1 t))
def d1 (c : Dev nD) (t : Fin cfg0.N) : FVec Ideal S1024x704 .f32 :=
  k0_pay13 (Scalar.cmpi .eq (BitVec.ofNat 32 (grid0.coords t 1).val) 0#32) (cur1 m c t) (halo1 (iblk m c 1 t))
def u0 (c : Dev nD) (t : Fin cfg0.N) : FVec Ideal S1024x704 .f32 :=
  k0_pay11 k0_pay8 (k0_pay9 (grid0.coords t) (cur0 m c t) (halo0 (iblk m c 2 t))) (k0_pay10 (grid0.coords t) (cur0 m c t) (halo0 (iblk m c 2 t)))
def u1 (c : Dev nD) (t : Fin cfg0.N) : FVec Ideal S1024x704 .f32 :=
  k0_pay14 (Scalar.cmpi .eq (BitVec.ofNat 32 (grid0.coords t 1).val) 7#32) (cur1 m c t) (halo1 (iblk m c 2 t))
def gate (c : Dev nD) (t : Fin cfg0.N) : FVec Ideal S1024x704 .f32 :=
  k0_pay16 (k0_pay5 (cur0 m c t)) (d0 m c t) (u0 m c t) (k0_pay15 (taps0 m c t)) (bias0 m c t)
def den (c : Dev nD) (t : Fin cfg0.N) : FVec Ideal S1024x704 .f32 :=
  k0_pay18 (k0_pay5 (cur0 m c t)) (d0 m c t) (u0 m c t) (k0_pay15 (taps0 m c t)) (bias0 m c t)
def value (c : Dev nD) (t : Fin cfg0.N) : FVec Ideal S1024x704 .f32 := k0_pay17 (k0_pay12 (cur1 m c t)) (d1 m c t) (u1 m c t) (taps1 m c t) (bias1 m c t)

theorem tapsA (c : Dev nD) (t : Fin cfg0.N) : Taps (args m c) 0 (tile t) (chunk t) (d0 m c t) (k0_pay5 (cur0 m c t)) (u0 m c t) where
  t0 := down0_at _ (coord t) (conv0 m c t)
  t1 := mid0_at (conv0 m c t)
  t2 := up0_at _ (coord t) (conv0 m c t)
theorem tapsB (c : Dev nD) (t : Fin cfg0.N) : Taps (args m c) 1 (tile t) (chunk t) (d1 m c t) (k0_pay12 (cur1 m c t)) (u1 m c t) where
  t0 := down1_at _ (coord t) (conv1 m c t)
  t1 := mid1_at (conv1 m c t)
  t2 := up1_at _ (coord t) (conv1 m c t)

theorem act (c : Dev nD) (t : Fin cfg0.N) :
    Act (args m c) (tile t) (chunk t) (gate m c t) (value m c t) (iblk m c 6 t) (den m c t) (iblk m c 5 t) where
  g := pay16_at (conv0 m c t) (tapsA m c t)
  u := pay17_at (conv1 m c t) (tapsB m c t)
  den := pay18_at (conv0 m c t) (tapsA m c t)
  dy r k := by blk_point [iblk, V, args, row, tile, idx t]
  wd l k := by rw [← entry_wd m c]; blk_point [iblk, colm, chunk, idx t]

/-- Where the blocks of the results lie. -/
theorem emb7 (t : Fin cfg0.N) (y1 : Fin 2) (y2 : Fin 1024) (y3 : Fin 704) :
    ((cfg0.win 7).blk t).view.emb (ix4 0 y1 y2 y3) = ix4 (chunk t) y1 (row (tile t) y2) y3 := by
  blk_ext [row, tile, chunk, idx t]
theorem emb8 (t : Fin cfg0.N) (y0 : Fin 704) (y1 : Fin 1024) : ((cfg0.win 8).blk t).view.emb (ix2 y0 y1) = ix2 (colm (chunk t) y0) y1 := by
  blk_ext [colm, chunk, idx t]
theorem emb9 (t : Fin cfg0.N) (y0 : Fin 2) (y2 : Fin 3) (y3 : Fin 704) : ((cfg0.win 9).blk t).view.emb (ix4 y0 0 y2 y3) = ix4 y0 (chunk t) y2 y3 := by
  blk_ext [chunk, idx t]
theorem emb10 (t : Fin cfg0.N) (y0 : Fin 2) (y3 : Fin 704) : ((cfg0.win 10).blk t).view.emb (ix4 y0 0 0 y3) = ix4 y0 (chunk t) 0 y3 := by
  blk_ext [chunk, idx t]

/-- The two halves' stores together are the block of the gradient. -/
theorem gu_tiles (c : Dev nD) (t : Fin cfg0.N) (y1 : Fin 2) (y2 : Fin 1024) (y3 : Fin 704) :
    View.canon (Val := Elt Ideal) (e := .f32) (s := S1x2x1024x704)
      [⟨Rect.unit ![0, 1, 0, 0] ![1, 1, 1024, 704] inb_S1x2x1024x704_S1x1x1024x704_0_1_0_0,
          k0_pay27 (gate m c t) (iblk m c 6 t) (den m c t) k0_pay19 (iblk m c 5 t)⟩,
        ⟨Rect.unit ![0, 0, 0, 0] ![1, 1, 1024, 704] inb_S1x2x1024x704_S1x1x1024x704_0_0_0_0,
          k0_pay26 (gate m c t) (value m c t) (iblk m c 6 t) (den m c t) k0_pay19 (iblk m c 5 t)⟩] (ix4 0 y1 y2 y3)
      = dz (args m c) y1 (row (tile t) y2) (colm (chunk t) y3) := by
  canon_tiles x h
  case piece0 =>
    idx_vars x
    obtain rfl := Fin.fin_one_eq_zero x0
    obtain rfl := Fin.fin_one_eq_zero x1
    obtain rfl : y1 = 1 := Fin.ext h1
    obtain rfl : y2 = x2 := Fin.ext h2
    obtain rfl : y3 = x3 := Fin.ext h3
    exact pay27_at (act m c t) y2 y3
  case piece1 =>
    idx_vars x
    obtain rfl := Fin.fin_one_eq_zero x0
    obtain rfl := Fin.fin_one_eq_zero x1
    obtain rfl : y1 = 0 := Fin.ext h1
    obtain rfl : y2 = x2 := Fin.ext h2
    obtain rfl : y3 = x3 := Fin.ext h3
    exact pay26_at (act m c t) y2 y3

theorem final_gu (c : Dev nD) : (dats m 0 c).arrAt 7 cfg0.N = fun i => dz (args m c) (i 1) (i 2) (colm (i 0) (i 3)) := by
  refine (dats m 0 c).arrAt_eq_of_covers 7 _ (by decide +kernel) fun t _ y => ?_
  idx_vars y
  obtain rfl := Fin.fin_one_eq_zero y0
  rw [emb7 t y1 y2 y3]
  blk_simp
  rw [after0_7]
  by_cases h0 : t.val % 8 = 0
  · rw [outsAt0_A m c t h0]
    frame_out
    exact gu_tiles m c t y1 y2 y3
  · rw [outsAt0_B m c t h0]
    frame_out
    exact gu_tiles m c t y1 y2 y3

/-- What a point adds to the gradients of taps, bias and down projection. -/
def cwTerm (a : Args) (t : Fin cfg0.N) (i : S2x1x3x704.Idx) : EReal :=
  ∑ r : Fin 1024, dz a (i 0) (row (tile t) r) (colm (chunk t) (i 3)) * tap a (i 2) (row (tile t) r) (half (i 0) (colm (chunk t) (i 3)))
def cbTerm (a : Args) (t : Fin cfg0.N) (i : S2x1x1x704.Idx) : EReal := ∑ r : Fin 1024, dz a (i 0) (row (tile t) r) (colm (chunk t) (i 3))
def wdTerm (a : Args) (t : Fin cfg0.N) (i : S704x1024.Idx) : EReal :=
  ∑ r : Fin 1024, sil a (row (tile t) r) (colm (chunk t) (i 0)) * pre a (row (tile t) r) (half 1 (colm (chunk t) (i 0))) * a.dy (ix2 (row (tile t) r) (i 1))

/-- Both halves' gradients at a point. -/
def dzA (c : Dev nD) (t : Fin cfg0.N) : FVec Ideal S1024x704 .f32 := k0_pay24 (gate m c t) (value m c t) (iblk m c 6 t) (den m c t) k0_pay19 (iblk m c 5 t)
def dzB (c : Dev nD) (t : Fin cfg0.N) : FVec Ideal S1024x704 .f32 := k0_pay25 (gate m c t) (iblk m c 6 t) (den m c t) k0_pay19 (iblk m c 5 t)

/-- One row's store: what was there plus the tile's sum. -/
theorem cw_row (c : Dev nD) (t : Fin cfg0.N) (P : Vec Ideal S2x1x3x704 .f32) (z : Fin 2) (k : Fin 3) (l : Fin 704) (A B : FVec Ideal S1024x704 .f32)
    (hA : ∀ r l, A (ix2 r l) = dz (args m c) z (row (tile t) r) (colm (chunk t) l))
    (hB : ∀ r l, B (ix2 r l) = tap (args m c) k (row (tile t) r) (half z (colm (chunk t) l))) (y : S2x1x3x704.Idx) (hy : y = ix4 z 0 k l) :
    P y + ∑ r : Fin 1024, A (ix2 r l) * B (ix2 r l) = P y + cwTerm (args m c) t y := by
  subst hy
  exact congrArg (P _ + ·) (Finset.sum_congr rfl fun r _ => by rw [hA, hB]; rfl)

/-- The six rows' stores, over any earlier ones. -/
def cwPieces (c : Dev nD) (t : Fin cfg0.N) (P : Vec Ideal S2x1x3x704 .f32) : List (View.Piece (Elt Ideal) S2x1x3x704 .f32) :=
  [⟨Rect.unit ![1, 0, 2, 0] ![1, 1, 1, 704] inb_S2x1x3x704_S1x1x1x704_1_0_2_0,
      k0_pay1 (u1 m c t) (dzB m c t) (View.ld P (Rect.unit ![1, 0, 2, 0] ![1, 1, 1, 704] inb_S2x1x3x704_S1x1x1x704_1_0_2_0))⟩,
    ⟨Rect.unit ![1, 0, 1, 0] ![1, 1, 1, 704] inb_S2x1x3x704_S1x1x1x704_1_0_1_0,
      k0_pay36 (k0_pay12 (cur1 m c t)) (dzB m c t) (View.ld P (Rect.unit ![1, 0, 1, 0] ![1, 1, 1, 704] inb_S2x1x3x704_S1x1x1x704_1_0_1_0))⟩,
    ⟨Rect.unit ![1, 0, 0, 0] ![1, 1, 1, 704] inb_S2x1x3x704_S1x1x1x704_1_0_0_0,
      k0_pay35 (d1 m c t) (dzB m c t) (View.ld P (Rect.unit ![1, 0, 0, 0] ![1, 1, 1, 704] inb_S2x1x3x704_S1x1x1x704_1_0_0_0))⟩,
    ⟨Rect.unit ![0, 0, 2, 0] ![1, 1, 1, 704] inb_S2x1x3x704_S1x1x1x704_0_0_2_0,
      k0_pay33 (k0_pay32 (u0 m c t) (dzA m c t) (View.ld P (Rect.unit ![0, 0, 2, 0] ![1, 1, 1, 704] inb_S2x1x3x704_S1x1x1x704_0_0_2_0)))⟩,
    ⟨Rect.unit ![0, 0, 1, 0] ![1, 1, 1, 704] inb_S2x1x3x704_S1x1x1x704_0_0_1_0,
      k0_pay31 (k0_pay5 (cur0 m c t)) (dzA m c t) (View.ld P (Rect.unit ![0, 0, 1, 0] ![1, 1, 1, 704] inb_S2x1x3x704_S1x1x1x704_0_0_1_0))⟩,
    ⟨Rect.unit ![0, 0, 0, 0] ![1, 1, 1, 704] inb_S2x1x3x704_S1x1x1x704_0_0_0_0,
      k0_pay30 (d0 m c t) (dzA m c t) (View.ld P (Rect.unit ![0, 0, 0, 0] ![1, 1, 1, 704] inb_S2x1x3x704_S1x1x1x704_0_0_0_0))⟩]

theorem one (x : S1x1x1x704.Idx) : x = ix4 0 0 0 (x 3) := by
  idx_vars x
  rw [Fin.fin_one_eq_zero x0, Fin.fin_one_eq_zero x1, Fin.fin_one_eq_zero x2]
  rfl

theorem row_emb (z : Fin 2) (k : Fin 3) (l : Fin 704) (inb) :
    (Rect.unit (s := S2x1x3x704) ![z.val, 0, k.val, 0] ![1, 1, 1, 704] inb).emb (ix4 0 0 0 l) = ix4 z 0 k l := by
  funext a
  refine Fin.ext ?_
  fin_cases a
  · show z.val + 1 * 0 = z.val; omega
  · rfl
  · show k.val + 1 * 0 = k.val; omega
  · show 0 + 1 * l.val = l.val; omega

theorem cw_pieces (c : Dev nD) (t : Fin cfg0.N) (P : Vec Ideal S2x1x3x704 .f32) :
    View.PiecesOf (fun y => P y + cwTerm (args m c) t y) (cwPieces m c t P) := by
  unfold cwPieces
  refine ⟨fun x => ?_, fun x => ?_, fun x => ?_, fun x => ?_, fun x => ?_, fun x => ?_, trivial⟩
  · rw [one x]
    exact (tap5_at _ _ _ _).trans (cw_row m c t P 1 2 _ _ _ (pay25_at (act m c t)) (tapsB m c t).t2 _ (row_emb 1 2 _ _))
  · rw [one x]
    exact (tap4_at _ _ _ _).trans (cw_row m c t P 1 1 _ _ _ (pay25_at (act m c t)) (tapsB m c t).t1 _ (row_emb 1 1 _ _))
  · rw [one x]
    exact (tap3_at _ _ _ _).trans (cw_row m c t P 1 0 _ _ _ (pay25_at (act m c t)) (tapsB m c t).t0 _ (row_emb 1 0 _ _))
  · rw [one x]
    exact (tap2_at _ _ _ _).trans (cw_row m c t P 0 2 _ _ _ (pay24_at (act m c t)) (tapsA m c t).t2 _ (row_emb 0 2 _ _))
  · rw [one x]
    exact (tap1_at _ _ _ _).trans (cw_row m c t P 0 1 _ _ _ (pay24_at (act m c t)) (tapsA m c t).t1 _ (row_emb 0 1 _ _))
  · rw [one x]
    exact (tap0_at _ _ _ _).trans (cw_row m c t P 0 0 _ _ _ (pay24_at (act m c t)) (tapsA m c t).t0 _ (row_emb 0 0 _ _))

theorem cw_tiles (c : Dev nD) (t : Fin cfg0.N) (P : Vec Ideal S2x1x3x704 .f32) (L : List (View.Piece (Elt Ideal) S2x1x3x704 .f32)) (y : S2x1x3x704.Idx) :
    View.canon (cwPieces m c t P ++ L) y = P y + cwTerm (args m c) t y := by
  refine View.canon_append_of_piecesOf (fun y => P y + cwTerm (args m c) t y) L _ (cw_pieces m c t P) y ?_
  idx_vars y
  obtain rfl := Fin.fin_one_eq_zero y1
  fin_cases y0 <;> fin_cases y2
  · exact ⟨_, .tail _ (.tail _ (.tail _ (.tail _ (.tail _ (.head _))))), row_emb 0 0 y3 inb_S2x1x3x704_S1x1x1x704_0_0_0_0 ▸ LoadRect.idx_mem _ _⟩
  · exact ⟨_, .tail _ (.tail _ (.tail _ (.tail _ (.head _)))), row_emb 0 1 y3 inb_S2x1x3x704_S1x1x1x704_0_0_1_0 ▸ LoadRect.idx_mem _ _⟩
  · exact ⟨_, .tail _ (.tail _ (.tail _ (.head _))), row_emb 0 2 y3 inb_S2x1x3x704_S1x1x1x704_0_0_2_0 ▸ LoadRect.idx_mem _ _⟩
  · exact ⟨_, .tail _ (.tail _ (.head _)), row_emb 1 0 y3 inb_S2x1x3x704_S1x1x1x704_1_0_0_0 ▸ LoadRect.idx_mem _ _⟩
  · exact ⟨_, .tail _ (.head _), row_emb 1 1 y3 inb_S2x1x3x704_S1x1x1x704_1_0_1_0 ▸ LoadRect.idx_mem _ _⟩
  · exact ⟨_, .head _, row_emb 1 2 y3 inb_S2x1x3x704_S1x1x1x704_1_0_2_0 ▸ LoadRect.idx_mem _ _⟩

theorem cw_first (c : Dev nD) (t : Fin cfg0.N) (h0 : t.val % 8 = 0) (y : S2x1x3x704.Idx) :
    (show EReal from (outsAt0 m c t.val t.isLt).2.2.1 y) = 0 + cwTerm (args m c) t y := by
  rw [outsAt0_A m c t h0]
  frame_open
  simp (disch := decide) only [↓ View.readCov_skip, ↓ View.readCov_cons_toLoadRect, ↓ View.readCov_fill]
  frame_out
  have e : k0_pay3 (F := Ideal) y = 0 := by pointwise [k0_pay3]
  exact (cw_tiles m c t (k0_pay3 (F := Ideal)) [⟨Rect.unit ![0, 0, 0, 0] ![2, 1, 3, 704] inb_S2x1x3x704_S2x1x3x704_0_0_0_0, k0_pay3 (F := Ideal)⟩] y).trans (by rw [e])

theorem cw_next (c : Dev nD) (t : Fin cfg0.N) (h0 : ¬t.val % 8 = 0) (y : S2x1x3x704.Idx) :
    (show EReal from (outsAt0 m c t.val t.isLt).2.2.1 y)
      = (show EReal from (outsAt0 m c (t.val - 1) (Nat.lt_of_le_of_lt (Nat.sub_le _ _) t.isLt)).2.2.1 y) + cwTerm (args m c) t y := by
  rw [outsAt0_B m c t h0]
  frame_out
  exact cw_tiles m c t _ [] y

theorem bias_emb (z : Fin 2) (l : Fin 704) (inb) :
    (Rect.unit (s := S2x1x1x704) ![z.val, 0, 0, 0] ![1, 1, 1, 704] inb).emb (ix4 0 0 0 l) = ix4 z 0 0 l := by
  funext a
  refine Fin.ext ?_
  fin_cases a
  · show z.val + 1 * 0 = z.val; omega
  · rfl
  · rfl
  · show 0 + 1 * l.val = l.val; omega

/-- The two bias rows' stores, over any earlier ones. -/
def cbPieces (c : Dev nD) (t : Fin cfg0.N) (P : Vec Ideal S2x1x1x704 .f32) : List (View.Piece (Elt Ideal) S2x1x1x704 .f32) :=
  [⟨Rect.unit ![1, 0, 0, 0] ![1, 1, 1, 704] inb_S2x1x1x704_S1x1x1x704_1_0_0_0,
      k0_pay34 (dzB m c t) (View.ld P (Rect.unit ![1, 0, 0, 0] ![1, 1, 1, 704] inb_S2x1x1x704_S1x1x1x704_1_0_0_0))⟩,
    ⟨Rect.unit ![0, 0, 0, 0] ![1, 1, 1, 704] inb_S2x1x1x704_S1x1x1x704_0_0_0_0,
      k0_pay29 (k0_pay28 (gate m c t) (value m c t) (iblk m c 6 t) (den m c t) k0_pay19 (iblk m c 5 t)
        (View.ld P (Rect.unit ![0, 0, 0, 0] ![1, 1, 1, 704] inb_S2x1x1x704_S1x1x1x704_0_0_0_0)))⟩]

theorem cb_row (c : Dev nD) (t : Fin cfg0.N) (P : Vec Ideal S2x1x1x704 .f32) (z : Fin 2) (l : Fin 704) (y : S2x1x1x704.Idx) (hy : y = ix4 z 0 0 l) :
    P y + ∑ r : Fin 1024, dz (args m c) z (row (tile t) r) (colm (chunk t) l) = P y + cbTerm (args m c) t y := by
  subst hy
  rfl

theorem cb_tiles (c : Dev nD) (t : Fin cfg0.N) (P : Vec Ideal S2x1x1x704 .f32) (L : List (View.Piece (Elt Ideal) S2x1x1x704 .f32)) (y : S2x1x1x704.Idx) :
    View.canon (cbPieces m c t P ++ L) y = P y + cbTerm (args m c) t y := by
  refine View.canon_append_of_piecesOf (fun y => P y + cbTerm (args m c) t y) L _ ?_ y ?_
  · unfold cbPieces
    refine ⟨fun x => ?_, fun x => ?_, trivial⟩
    · rw [one x]
      exact (bias1_at (act m c t) _ _).trans (cb_row m c t P 1 _ _ (bias_emb 1 _ _))
    · rw [one x]
      exact (bias0_at (act m c t) _ _).trans (cb_row m c t P 0 _ _ (bias_emb 0 _ _))
  · idx_vars y
    obtain rfl := Fin.fin_one_eq_zero y1
    obtain rfl := Fin.fin_one_eq_zero y2
    fin_cases y0
    · exact ⟨_, .tail _ (.head _), bias_emb 0 y3 inb_S2x1x1x704_S1x1x1x704_0_0_0_0 ▸ LoadRect.idx_mem _ _⟩
    · exact ⟨_, .head _, bias_emb 1 y3 inb_S2x1x1x704_S1x1x1x704_1_0_0_0 ▸ LoadRect.idx_mem _ _⟩

theorem cb_first (c : Dev nD) (t : Fin cfg0.N) (h0 : t.val % 8 = 0) (y : S2x1x1x704.Idx) :
    (show EReal from (outsAt0 m c t.val t.isLt).2.2.2 y) = 0 + cbTerm (args m c) t y := by
  rw [outsAt0_A m c t h0]
  frame_open
  simp (disch := decide) only [↓ View.readCov_skip, ↓ View.readCov_cons_toLoadRect, ↓ View.readCov_fill]
  frame_out
  have e : k0_pay4 (F := Ideal) y = 0 := by pointwise [k0_pay4]
  exact (cb_tiles m c t (k0_pay4 (F := Ideal)) [⟨Rect.unit ![0, 0, 0, 0] ![2, 1, 1, 704] inb_S2x1x1x704_S2x1x1x704_0_0_0_0, k0_pay4 (F := Ideal)⟩] y).trans (by rw [e])

theorem cb_next (c : Dev nD) (t : Fin cfg0.N) (h0 : ¬t.val % 8 = 0) (y : S2x1x1x704.Idx) :
    (show EReal from (outsAt0 m c t.val t.isLt).2.2.2 y)
      = (show EReal from (outsAt0 m c (t.val - 1) (Nat.lt_of_le_of_lt (Nat.sub_le _ _) t.isLt)).2.2.2 y) + cbTerm (args m c) t y := by
  rw [outsAt0_B m c t h0]
  frame_out
  exact cb_tiles m c t _ [] y

theorem wd_first (c : Dev nD) (t : Fin cfg0.N) (h0 : t.val % 8 = 0) (y : S704x1024.Idx) :
    (show EReal from (outsAt0 m c t.val t.isLt).2.1 y) = 0 + wdTerm (args m c) t y := by
  idx_vars y
  rw [outsAt0_A m c t h0]
  frame_out
  have e : k0_pay2 (F := Ideal) (ix2 y0 y1) = 0 := by pointwise [k0_pay2]
  exact (pay23_at (act m c t) (k0_pay2 (F := Ideal)) y0 y1).trans (by rw [e]; rfl)

theorem wd_next (c : Dev nD) (t : Fin cfg0.N) (h0 : ¬t.val % 8 = 0) (y : S704x1024.Idx) :
    (show EReal from (outsAt0 m c t.val t.isLt).2.1 y)
      = (show EReal from (outsAt0 m c (t.val - 1) (Nat.lt_of_le_of_lt (Nat.sub_le _ _) t.isLt)).2.1 y) + wdTerm (args m c) t y := by
  idx_vars y
  rw [outsAt0_B m c t h0]
  frame_out
  exact pay23_at (act m c t) _ y0 y1

/-- The points of a chunk's run, tile by tile. -/
theorem run_tile (t : Fin cfg0.N) (h : t.val % 8 = 7) (u : Fin 8) : tile ⟨8 * (t.val / 8) + u.val, Pipeline.run_point_lt_of_flush t h u⟩ = u :=
  Fin.ext (by show (8 * (t.val / 8) + u.val) % 8 = u.val; omega)
theorem run_chunk (t : Fin cfg0.N) (h : t.val % 8 = 7) (u : Fin 8) : chunk ⟨8 * (t.val / 8) + u.val, Pipeline.run_point_lt_of_flush t h u⟩ = chunk t :=
  Fin.ext (by show (8 * (t.val / 8) + u.val) / 8 = t.val / 8; omega)

theorem final_wd (c : Dev nD) : (dats m 0 c).arrAt 8 cfg0.N = fun i => dwd (args m c) (i 0) (i 1) := by
  refine (dats m 0 c).arrAt_eq_of_covers 8 _ (by decide +kernel) fun t hf y => ?_
  idx_vars y
  rw [emb8 t y0 y1]
  blk_simp
  have h := (flush0_8 t).mp hf
  rw [after0_8]
  refine (Pipeline.eq_sum_fin_of_reset_step_apply_of_flush (f := fun n h i => (show EReal from (outsAt0 m c n h).2.1 i)) 8 (fun _ => 0)
    (wdTerm (args m c)) (wd_first m c) (wd_next m c) t h (ix2 y0 y1)).trans ?_
  rw [zero_add]
  refine Fin.sum_mul_add_congr fun u r hl => ?_
  rw [run_tile t h u, run_chunk t h u]
  rfl

theorem final_cw (c : Dev nD) : (dats m 0 c).arrAt 9 cfg0.N = fun i => dcw (args m c) (i 0) (i 2) (colm (i 1) (i 3)) := by
  refine (dats m 0 c).arrAt_eq_of_covers 9 _ (by decide +kernel) fun t hf y => ?_
  idx_vars y
  obtain rfl := Fin.fin_one_eq_zero y1
  rw [emb9 t y0 y2 y3]
  blk_simp
  have h := (flush0_9 t).mp hf
  rw [after0_9]
  refine (Pipeline.eq_sum_fin_of_reset_step_apply_of_flush (f := fun n h i => (show EReal from (outsAt0 m c n h).2.2.1 i)) 8 (fun _ => 0)
    (cwTerm (args m c)) (cw_first m c) (cw_next m c) t h (ix4 y0 0 y2 y3)).trans ?_
  rw [zero_add]
  refine Fin.sum_mul_add_congr fun u r hl => ?_
  rw [run_tile t h u, run_chunk t h u]
  rfl

theorem final_cb (c : Dev nD) : (dats m 0 c).arrAt 10 cfg0.N = fun i => dcb (args m c) (i 0) (colm (i 1) (i 3)) := by
  refine (dats m 0 c).arrAt_eq_of_covers 10 _ (by decide +kernel) fun t hf y => ?_
  idx_vars y
  obtain rfl := Fin.fin_one_eq_zero y1
  obtain rfl := Fin.fin_one_eq_zero y2
  rw [emb10 t y0 y3]
  blk_simp
  have h := (flush0_10 t).mp hf
  rw [after0_10]
  refine (Pipeline.eq_sum_fin_of_reset_step_apply_of_flush (f := fun n h i => (show EReal from (outsAt0 m c n h).2.2.2 i)) 8 (fun _ => 0)
    (cbTerm (args m c)) (cb_first m c) (cb_next m c) t h (ix4 y0 0 0 y3)).trans ?_
  rw [zero_add]
  refine Fin.sum_mul_add_congr fun u r hl => ?_
  rw [run_tile t h u, run_chunk t h u]
  rfl

end Cert.Fd

end
-- ==== Proof.Fd.Claim.lean ====
/-
The kernel and the reference of `_ffn_down_bwd` compute the same arrays where the arguments are finite.
-/
module

public import proofs.«01_k».proof.Defs
public import proofs.«01_k».proof.Proof.Gen.Pre_finite_fd
public import proofs.«01_k».proof.Proof.Fd.Kernel
public import proofs.«01_k».proof.Proof.Gen.ReferenceFdIdeal.Run
public import proofs.«01_k».proof.Proof.Gen.ReferenceFdIdeal.Read
public import proofs.«01_k».proof.Proof.Finite
public import Idealize.ShloMosaic.Lib.Claim

@[expose] public section

set_option maxRecDepth 16384

noncomputable section

namespace Cert.Fd

open Idealize.ShloMosaic Idealize.ShloMosaic.TcCoe Idealize.SL.Sem
open Cert.Rms Cert.Ffn Cert.Shift Cert.Finite
open Cert.ReferenceFdIdeal.Read

variable (a : Args)

/-- The convolution's shifted inputs. -/
theorem ref_t0 (s : Fin 8192) (n : Fin 5632) : val_main_v4 (F := Ideal) a.gu (ix2 s n) = tap a 0 s n := by
  pointwise [val_main_v4, val_main_v3, val_main_v2, val_main_v1, val_main_cst_0, val_main_cst_1, tap, before]
  by_cases h : s.val < 1
  · rw [dif_pos h, if_pos h]
  · rw [dif_neg h, if_neg h, dif_pos (by omega)]
theorem ref_t1 (s : Fin 8192) (n : Fin 5632) : val_main_v13 (F := Ideal) a.gu (ix2 s n) = tap a 1 s n := by
  pointwise [val_main_v13, val_main_v3, val_main_v2, val_main_v1, val_main_cst_0, val_main_cst_1, tap]
theorem ref_t2 (s : Fin 8192) (n : Fin 5632) : val_main_v20 (F := Ideal) a.gu (ix2 s n) = tap a 2 s n := by
  pointwise [val_main_v20, val_main_v3, val_main_v2, val_main_v1, val_main_cst_0, val_main_cst_1, tap, after]
  rw [dif_neg (by omega)]
  by_cases h : s.val + 1 < 8192
  · rw [dif_pos h, dif_pos (by omega)]
    exact congrArg (fun j => a.gu (ix2 j n)) (Fin.ext (by show 2 + s.val - 1 = s.val + 1; omega))
  · rw [dif_neg h, dif_neg (by omega)]

theorem ref_pre (s : Fin 8192) (n : Fin 5632) : val_main_v27 (F := Ideal) a.gu a.cw a.cb (ix2 s n) = pre a s n := by
  pointwise [val_main_v27, val_main_v26, val_main_v25, val_main_v24, val_main_v23, val_main_v22, val_main_v21, val_main_v19, val_main_v18, val_main_v17,
    val_main_v16, val_main_v15, val_main_v14, val_main_v12, val_main_v11, val_main_v10, val_main_v9, val_main_v8, val_main_v7, val_main_v6, val_main_v5,
    val_main_v0, val_main_cst, ref_t0, ref_t1, ref_t2, pre]
  rw [mul_comm (a.cw (ix2 0 n)), mul_comm (a.cw (ix2 1 n)), mul_comm (a.cw (ix2 2 n)), add_comm (tap a 0 s n * _) (a.cb _), add_assoc, add_assoc,
    add_assoc]

theorem ref_g (s : Fin 8192) (f : Fin 2816) : val_main_v28 (F := Ideal) a.gu a.cw a.cb (ix2 s f) = pre a s (half 0 f) := by
  pointwise [val_main_v28, ref_pre, half]
theorem ref_u (s : Fin 8192) (f : Fin 2816) : val_main_v29 (F := Ideal) a.gu a.cw a.cb (ix2 s f) = pre a s (half 1 f) := by
  pointwise [val_main_v29, ref_pre, half]

theorem ref_sg (s : Fin 8192) (f : Fin 2816) : val_main_v30_2 (F := Ideal) a.gu a.cw a.cb (ix2 s f) = sg a s f := by
  pointwise [val_main_v30_2, val_main_call0_v4, val_main_call0_v3, val_main_call0_v2, val_main_call0_v1, val_main_call0_v0, val_main_call0_cst,
    val_main_call0_cst_0, ref_g, sg, zero_sub]

theorem ref_sil (s : Fin 8192) (f : Fin 2816) : val_main_v30_0 (F := Ideal) a.gu a.cw a.cb (ix2 s f) = sil a s f := by
  pointwise [val_main_v30_0, ref_g, ref_sg, sil]

theorem ref_dwd (f : Fin 2816) (k : Fin 1024) : val_main_v34 (F := Ideal) a.gu a.cw a.cb a.dy (ix2 f k) = dwd a f k := by
  pointwise [val_main_v34, val_main_v33, val_main_v31, ref_sil, ref_u, dwd]
  exact Finset.sum_congr rfl fun _ _ => mul_comm _ _

theorem ref_da (s : Fin 8192) (f : Fin 2816) : val_main_v35 (F := Ideal) a.wd a.dy (ix2 s f) = da a s f := by
  pointwise [val_main_v35, da]

/-- The gates' gradient as the reference has it. -/
theorem ref_dg (s : Fin 8192) (f : Fin 2816) : val_main_v38 (F := Ideal) a.gu a.cw a.cb a.wd a.dy (ix2 s f)
    = pre a s (half 0 f) * (da a s f * pre a s (half 1 f)) * (sg a s f * (1 - sg a s f)) + da a s f * pre a s (half 1 f) * sg a s f := by
  pointwise [val_main_v38, val_main_v37, val_main_call1_v0, val_main_call1_v1, val_main_call1_v2, val_main_v30_1, val_main_call0_v7, val_main_call0_v6,
    val_main_call0_cst_1, ref_da, ref_g, ref_u, ref_sg]
  rw [add_comm]

/-- The arguments are real numbers. -/
structure Reals (a : Args) : Prop where
  gu : ∀ i, IsReal (a.gu i)
  cw : ∀ i, IsReal (a.cw i)
  cb : ∀ i, IsReal (a.cb i)
  wd : ∀ i, IsReal (a.wd i)
  dy : ∀ i, IsReal (a.dy i)

variable {a} (R : Reals a)
include R

theorem real_tap (k : Fin 3) (s : Fin 8192) (n : Fin 5632) : IsReal (tap a k s n) := by
  match k with
  | 0 =>
    show IsReal (before 1 (fun j => a.gu (ix2 j n)) s)
    unfold before
    split
    · exact IsReal.zero
    · exact R.gu _
  | 1 => exact R.gu _
  | 2 =>
    show IsReal (after 1 (fun j => a.gu (ix2 j n)) s)
    unfold after
    split
    · exact R.gu _
    · exact IsReal.zero

theorem real_pre (s : Fin 8192) (n : Fin 5632) : IsReal (pre a s n) :=
  (R.cb _).add ((((R.cw _).mul (real_tap R 0 s n)).add ((R.cw _).mul (real_tap R 1 s n))).add ((R.cw _).mul (real_tap R 2 s n)))

theorem real_da (s : Fin 8192) (f : Fin 2816) : IsReal (da a s f) := IsReal.sum _ _ fun k => (R.dy _).mul (R.wd _)

theorem ref_dz0 (s : Fin 8192) (f : Fin 2816) : val_main_v38 (F := Ideal) a.gu a.cw a.cb a.wd a.dy (ix2 s f) = dz a 0 s f := by
  rw [ref_dg]
  obtain ⟨d, hd⟩ := (real_da R s f).mul (real_pre R s (half 1 f))
  obtain ⟨g, hg⟩ := real_pre R s (half 0 f)
  obtain ⟨σ, hσ⟩ : IsReal (sg a s f) := (real_pre R s (half 0 f)).logistic
  show _ = da a s f * pre a s (half 1 f) * sg a s f * (1 + pre a s (half 0 f) * (1 - sg a s f))
  rw [hd, hg, hσ, show (1 : EReal) - σ = ((1 - σ : ℝ) : EReal) from (EReal.coe_sub 1 σ).symm]
  have e : g * d * (σ * (1 - σ)) + d * σ = d * σ * (1 + g * (1 - σ)) := by ring
  rw [show (1 : EReal) = ((1 : ℝ) : EReal) from rfl]
  simp only [← EReal.coe_mul, ← EReal.coe_add]
  exact congrArg (fun r : ℝ => (r : EReal)) e

theorem ref_dz (z : Fin 2) (s : Fin 8192) (f : Fin 2816) : val_main_v41 (F := Ideal) a.gu a.cw a.cb a.wd a.dy (ix2 s (half z f)) = dz a z s f := by
  fin_cases z
  · pointwise [val_main_v41, val_main_v40, val_main_v39, val_main_cst_2, val_main_cst_3, half, ref_dz0 R]
    rw [dif_neg (fun h => h.1), zero_add]
  · pointwise [val_main_v41, val_main_v40, val_main_v39, val_main_v36, val_main_cst_2, val_main_cst_3, half, ref_sil, ref_da]
    exact mul_comm _ _

theorem ref_gu (b : Fin 4) (z : Fin 2) (s : Fin 8192) (l : Fin 704) :
    val_main_v66 (F := Ideal) a.gu a.cw a.cb a.wd a.dy (ix4 b z s l) = dz a z s (colm b l) := by
  rw [← ref_dz R]
  pointwise [val_main_v66, val_main_v65, half, colm]
  refine congrArg (fun n => val_main_v41 (F := Ideal) a.gu a.cw a.cb a.wd a.dy (ix2 s n)) (Fin.ext ?_)
  show z.val * 2816 + b.val * 704 + l.val = z.val * 2816 + (b.val * 704 + l.val)
  omega

theorem ref_dcb (z : Fin 2) (b : Fin 4) (l : Fin 704) :
    val_main_v70 (F := Ideal) a.gu a.cw a.cb a.wd a.dy (ix4 z b 0 l) = dcb a z (colm b l) := by
  unfold dcb
  simp only [← ref_dz R]
  pointwise [val_main_v70, val_main_v57, val_main_v56, val_main_v55, val_main_cst_10, val_main_cst_11, half, colm]
  simp only [Fin.sum_univ_one]
  refine Finset.sum_congr rfl fun s _ => congrArg (fun n => val_main_v41 (F := Ideal) a.gu a.cw a.cb a.wd a.dy (ix2 s n)) (Fin.ext ?_)
  show z.val * 2816 + b.val * 704 + l.val = z.val * 2816 + (b.val * 704 + l.val)
  omega

omit R in
theorem ref_cw (k : Fin 3) (n : Fin 5632) : val_main_v64 (F := Ideal) a.gu a.cw a.cb a.wd a.dy (ix2 k n)
    = ∑ s : Fin 8192, tap a k s n * val_main_v41 (F := Ideal) a.gu a.cw a.cb a.wd a.dy (ix2 s n) := by
  pointwise [val_main_v64, val_main_v63, val_main_v62, val_main_v61, val_main_v60, val_main_v59, val_main_v58, val_main_v54, val_main_v53, val_main_v52,
    val_main_v51, val_main_v50, val_main_v49, val_main_v48, val_main_v47, val_main_v46, val_main_v45, val_main_v44, val_main_v43, val_main_v42,
    val_main_cst_4, val_main_cst_5, val_main_cst_6, val_main_cst_7, val_main_cst_8, val_main_cst_9, val_main_cst_12, val_main_cst_13, val_main_cst_14,
    ref_t0, ref_t1, ref_t2]
  simp only [Fin.sum_univ_one]
  fin_cases k
  · rw [dif_neg (by simp), dif_neg (by simp), dif_pos (by simp), zero_add, zero_add]
    rfl
  · rw [dif_neg (by simp), dif_pos (by simp), dif_neg (by simp), zero_add, add_zero]
    rfl
  · rw [dif_pos (by simp), dif_neg (by simp), dif_neg (by simp), add_zero, add_zero]
    rfl

theorem ref_dcw (z : Fin 2) (b : Fin 4) (k : Fin 3) (l : Fin 704) :
    val_main_v69 (F := Ideal) a.gu a.cw a.cb a.wd a.dy (ix4 z b k l) = dcw a z k (colm b l) := by
  have e : val_main_v69 (F := Ideal) a.gu a.cw a.cb a.wd a.dy (ix4 z b k l)
      = val_main_v64 (F := Ideal) a.gu a.cw a.cb a.wd a.dy (ix2 k (half z (colm b l))) := by
    pointwise [val_main_v69, val_main_v68, val_main_v67, half, colm]
    refine congrArg (fun n => val_main_v64 (F := Ideal) a.gu a.cw a.cb a.wd a.dy (ix2 k n)) (Fin.ext ?_)
    show (z.val * 4 + b.val) * 704 + l.val = z.val * 2816 + (b.val * 704 + l.val)
    omega
  rw [e, ref_cw]
  refine Finset.sum_congr rfl fun s _ => ?_
  rw [ref_dz R, mul_comm]

omit R

/-- The reference's arguments on device `c`. -/
def refArgs (m : (ℓ : Loc Cert.ReferenceFdIdeal.nD Cert.ReferenceFdIdeal.τ Cert.ReferenceFdIdeal.sig) → Buf (Elt Ideal) ℓ)
    (c : Dev Cert.ReferenceFdIdeal.nD) : Args where
  gu := m ((c.tc : Thread _ _).loc Cert.ReferenceFdIdeal.main_arg0)
  cw := m ((c.tc : Thread _ _).loc Cert.ReferenceFdIdeal.main_arg1)
  cb := m ((c.tc : Thread _ _).loc Cert.ReferenceFdIdeal.main_arg2)
  wd := m ((c.tc : Thread _ _).loc Cert.ReferenceFdIdeal.main_arg3)
  dy := m ((c.tc : Thread _ _).loc Cert.ReferenceFdIdeal.main_arg4)

theorem frame_reference : Cert.quiescent_ReferenceFdIdeal (hReferenceFdIdeal := Cert.ReferenceFdIdeal.Gen.facts) :=
  fun m ρ _ => (θ_run Cert.ReferenceFdIdeal.defs _ _).mono (fun r h => ⟨fun c => (h c).2.2.2.2, sem_eq_zero_of_no_sems (by decide) r.2⟩)
    (Cert.ReferenceFdIdeal.Value.run m ρ)

theorem algebraic : Cert.algebraic_KernelFdIdeal_ReferenceFdIdeal_pre_finite_fd
    (hKernelFdIdeal := Cert.KernelFdIdeal.Gen.facts) (hReferenceFdIdeal := Cert.ReferenceFdIdeal.Gen.facts)
    (hPre_finite_fd := Cert.Pre_finite_fd.Gen.facts) := by
  intro m g m' g' hp h
  have ha : ∀ c, refArgs m' c = args m c := fun c => by
    obtain ⟨h0, h1, h2, h3, h4⟩ := h c
    simp only [refArgs, args, h0, h1, h2, h3, h4]
  have R : ∀ c, Reals (refArgs m' c) := fun c => by
    rw [ha c]
    obtain ⟨h0, h1, h2, h3, h4⟩ := hp c
    exact ⟨fun i => ⟨_, real_of_abs _ (congrFun h0 i)⟩, fun i => ⟨_, real_of_abs _ (congrFun h1 i)⟩, fun i => ⟨_, real_of_abs _ (congrFun h2 i)⟩,
      fun i => ⟨_, real_of_abs _ (congrFun h3 i)⟩, fun i => ⟨_, real_of_abs _ (congrFun h4 i)⟩⟩
  refine ⟨fun c (i : Cert.KernelFdIdeal.S4x2x8192x704.Idx) => dz (args m c) (i 1) (i 2) (colm (i 0) (i 3)),
    fun c (i : Cert.KernelFdIdeal.S2816x1024.Idx) => dwd (args m c) (i 0) (i 1),
    fun c (i : Cert.KernelFdIdeal.S2x4x3x704.Idx) => dcw (args m c) (i 0) (i 2) (colm (i 1) (i 3)),
    fun c (i : Cert.KernelFdIdeal.S2x4x1x704.Idx) => dcb (args m c) (i 0) (colm (i 1) (i 3)), ?_, ?_⟩
  · refine (θ_run _ _ _).mono (fun r hr c => ?_) (Cert.KernelFdIdeal.Value.run_blocks m g)
    obtain ⟨h7, h8, h9, h10, hargs⟩ := hr c
    exact ⟨h7.trans (final_gu m c), h8.trans (final_wd m c), h9.trans (final_cw m c), h10.trans (final_cb m c), hargs⟩
  · refine (θ_run _ _ _).mono (fun r hr c => ?_) (Cert.ReferenceFdIdeal.Value.run m' g')
    obtain ⟨h7, h8, h9, h10, hargs⟩ := hr c
    refine ⟨h7.trans ?_, h8.trans ?_, h9.trans ?_, h10.trans ?_, hargs⟩
    · refine (val_main_v66_eq ..).trans ?_
      funext i
      exact ((congrArg _ (eq_ix4 i)).trans (ref_gu (R c) (i 0) (i 1) (i 2) (i 3))).trans (congrArg (fun a => dz a (i 1) (i 2) (colm (i 0) (i 3))) (ha c))
    · refine (val_main_v34_eq ..).trans ?_
      funext i
      exact ((congrArg _ (eq_ix2 i)).trans (ref_dwd (refArgs m' c) (i 0) (i 1))).trans (congrArg (fun a => dwd a (i 0) (i 1)) (ha c))
    · refine (val_main_v69_eq ..).trans ?_
      funext i
      exact ((congrArg _ (eq_ix4 i)).trans (ref_dcw (R c) (i 0) (i 1) (i 2) (i 3))).trans (congrArg (fun a => dcw a (i 0) (i 2) (colm (i 1) (i 3))) (ha c))
    · refine (val_main_v70_eq ..).trans ?_
      funext i
      have e : i = ix4 (i 0) (i 1) 0 (i 3) := by
        idx_vars i
        rw [Fin.fin_one_eq_zero i2]
        rfl
      exact ((congrArg _ e).trans (ref_dcb (R c) (i 0) (i 1) (i 3))).trans (congrArg (fun a => dcb a (i 0) (colm (i 1) (i 3))) (ha c))

end Cert.Fd

end
-- ==== Proof.Norm.lean ====
/-
The root-mean-square norm of a row of any length, and its gradient by the chain rule.
-/
module

public import proofs.«01_k».proof.Proof.Rms
public import Idealize.ShloMosaic.Lib.ValueIdx
public import Idealize.ShloMosaic.Lib.Pointwise

@[expose] public section

noncomputable section

namespace Cert.Norm

open Idealize.ShloMosaic Cert.Rms

variable {n : ℕ}

/-- The mean square of a row plus epsilon (`q` is one over the row's length), its inverse root, and half its rate of change. -/
def var (q : ℝ) (x : Fin n → EReal) : EReal := (∑ k, x k * x k) * (q : EReal) + (epsR : EReal)
def rinv (q : ℝ) (x : Fin n → EReal) : EReal := Ideal.rsqrt (var q x)
def rate (q : ℝ) (x : Fin n → EReal) : EReal := ((-(1 / 2) : ℝ) : EReal) * Ideal.div (rinv q x) (var q x)

/-- What reaches each entry through the mean square: `d` is the cotangent of the normalised row. -/
def through (q : ℝ) (x d : Fin n → EReal) : EReal := (∑ k, x k * d k) * rate q x * (q : EReal)

/-- The gradient of the row. -/
def grad (q : ℝ) (x d : Fin n → EReal) (k : Fin n) : EReal := d k * rinv q x + x k * through q x d + through q x d * x k

theorem ofBits_inv128 : Ideal.ofBits .f32 0x3C000000#32 = ((1 / 128 : ℝ) : EReal) := by
  simp [Ideal.ofBits, Ideal.ieee, -EReal.coe_mul]; norm_num

theorem ofBits_128 : Ideal.ofBits .f32 0x43000000#32 = ((128 : ℝ) : EReal) := by
  simp [Ideal.ofBits, Ideal.ieee, -EReal.coe_mul]; norm_num

theorem ofBits_inv512 : Ideal.ofBits .f32 0x3B000000#32 = ((1 / 512 : ℝ) : EReal) := by
  simp [Ideal.ofBits, Ideal.ieee, -EReal.coe_mul]; norm_num

theorem ofBits_512 : Ideal.ofBits .f32 0x44000000#32 = ((512 : ℝ) : EReal) := by
  simp [Ideal.ofBits, Ideal.ieee, -EReal.coe_mul]; norm_num

/-- The host's sum over the first two of three axes. -/
theorem sum_two {n0 n1 n2 : ℕ} (h : (⟨3, ![n0, n1, n2]⟩ : Shape).ReducesTo [0, 1] ⟨1, ![n2]⟩) (v : (⟨3, ![n0, n1, n2]⟩ : Shape).Idx → EReal)
    (init : EReal) (l : Fin n2) : Ideal.hostReduceAdd h v init (ix1 l) = init + ∑ r : Fin n0, ∑ s : Fin n1, v (ix3 r s l) := by
  have hf : ∀ i, h.drop i = ix1 l ↔ ∃ p : Fin n0 × Fin n1, ix3 p.1 p.2 l = i := by
    intro i
    constructor
    · intro e
      refine ⟨(i 0, i 1), ?_⟩
      have e0 := congrArg Fin.val (congrFun e 0)
      funext a
      apply Fin.ext
      match a with
      | ⟨0, _⟩ => rfl
      | ⟨1, _⟩ => rfl
      | ⟨2, _⟩ => exact e0.symm
    · rintro ⟨p, rfl⟩
      funext b
      obtain rfl := Fin.fin_one_eq_zero b
      rfl
  refine congrArg (init + ·) ?_
  rw [Finset.sum_filter_eq_sum_of_fiber _ (fun p : Fin n0 × Fin n1 => ix3 p.1 p.2 l)
    (fun p q e => Prod.ext (congrFun e 0) (congrFun e 1)) hf v, Fintype.sum_prod_type]

end Cert.Norm

end
-- ==== Proof.Mkv.Closed.lean ====
/-
The gradients of the memory's norm gain, of the keys' norm gain and of the memory's projection, as functions of the arguments.
-/
module

public import proofs.«01_k».proof.Proof.Ffn.Base
public import proofs.«01_k».proof.Proof.Norm
public import Idealize.ShloMosaic.Lib.Pipeline.ValueKit

@[expose] public section

noncomputable section

namespace Cert.Mkv

open Idealize.ShloMosaic Cert.Rms Cert.Ffn Cert.Norm

/-- The arguments: the memory, its norm's gain, the keys' norm's gain, the projection, the cotangents of keys and values. -/
structure Args where
  mem : T2 256 1024
  mn : T1 1024
  kn : T1 128
  w : T2 1024 1024
  dk : T2 256 512
  dv : T2 256 512

variable (a : Args)

/-- Column `l` of head `h`, and the keys' and the values' columns of the projection. -/
def colh (h : Fin 4) (l : Fin 128) : Fin 512 := ⟨h.val * 128 + l.val, by omega⟩
def lo (j : Fin 512) : Fin 1024 := ⟨j.val, by omega⟩

/-- The memory's rows normalised, without and with the gain. -/
def hat (r : Fin 256) (k : Fin 1024) : EReal := a.mem (ix2 r k) * rinv (1 / 1024) (fun k => a.mem (ix2 r k))
def memn (r : Fin 256) (k : Fin 1024) : EReal := hat a r k * a.mn (ix1 k)

/-- The projection, a head's key, and the cotangent of the normalised key. -/
def kv (r : Fin 256) (n : Fin 1024) : EReal := ∑ k : Fin 1024, memn a r k * a.w (ix2 k n)
def key (h : Fin 4) (r : Fin 256) (l : Fin 128) : EReal := kv a r (lo (colh h l))
def ct (h : Fin 4) (r : Fin 256) (l : Fin 128) : EReal := a.dk (ix2 r (colh h l)) * a.kn (ix1 l)

/-- The gradient of the projection's result. -/
def gkv (r : Fin 256) (n : Fin 1024) : EReal :=
  if h : n.val < 512 then grad (1 / 128) (key a ⟨n.val / 128, by omega⟩ r) (ct a ⟨n.val / 128, by omega⟩ r) ⟨n.val % 128, by omega⟩
  else a.dv (ix2 r ⟨n.val - 512, by omega⟩)

theorem gkv_head (r : Fin 256) (h : Fin 4) (l : Fin 128) (n : Fin 1024) (e : n.val = h.val * 128 + l.val) :
    gkv a r n = grad (1 / 128) (key a h r) (ct a h r) l := by
  have h1 : (⟨n.val / 128, by omega⟩ : Fin 4) = h := Fin.ext (by show n.val / 128 = h.val; omega)
  have h2 : (⟨n.val % 128, by omega⟩ : Fin 128) = l := Fin.ext (by show n.val % 128 = l.val; omega)
  rw [gkv, dif_pos (by omega), h1, h2]

theorem gkv_val (r : Fin 256) (n : Fin 1024) (h : ¬n.val < 512) : gkv a r n = a.dv (ix2 r ⟨n.val - 512, by omega⟩) := by
  rw [gkv, dif_neg h]

/-- The three results. -/
def dmn (k : Fin 1024) : EReal := ∑ r : Fin 256, hat a r k * ∑ n : Fin 1024, gkv a r n * a.w (ix2 k n)
def dkn (l : Fin 128) : EReal :=
  ∑ r : Fin 256, ∑ h : Fin 4, key a h r l * rinv (1 / 128) (key a h r) * a.dk (ix2 r (colh h l))
def dw (k : Fin 1024) (n : Fin 1024) : EReal := ∑ r : Fin 256, memn a r k * gkv a r n

end Cert.Mkv

end
-- ==== Proof.Mkv.Kernel.lean ====
/-
What the three results hold after the run of `_memkv_bwd`.
-/
module

public import proofs.«01_k».proof.Proof.Gen.KernelMkvIdeal.Value
public import proofs.«01_k».proof.Proof.Mkv.Closed
public import Idealize.ShloMosaic.Lib.Pipeline.ReadBack
public import Idealize.ShloMosaic.Lib.Pointwise

@[expose] public section

set_option maxRecDepth 16384

noncomputable section

namespace Cert.Mkv

open Idealize.ShloMosaic Idealize.ShloMosaic.TcCoe Idealize.SL.Sem
open Idealize.ShloMosaic.Pipeline (Dat)
open Cert.KernelMkvIdeal Cert.KernelMkvIdeal.Gen Cert.Rms Cert.Ffn Cert.Norm

variable (m : (ℓ : Loc nD τ sig) → Buf (Elt Ideal) ℓ)

/-- The kernel's arguments on device `c`. -/
def args (c : Dev nD) : Args where
  mem := m ((c : Thread nD τ).loc main_arg0)
  mn := m ((c : Thread nD τ).loc main_arg1)
  kn := m ((c : Thread nD τ).loc main_arg2)
  w := m ((c : Thread nD τ).loc main_arg3)
  dk := m ((c : Thread nD τ).loc main_arg4)
  dv := m ((c : Thread nD τ).loc main_arg5)

/-- The blocks hold the arguments. -/
structure Blocks (a : Args) (x0 : Vec Ideal S256x1024 .f32) (x1 : Vec Ideal S1x1024 .f32) (x2 : Vec Ideal S1x128 .f32)
    (x3 : Vec Ideal S1024x1024 .bf16) (x4 x5 : Vec Ideal S256x512 .f32) : Prop where
  mem : ∀ r k, x0 (ix2 r k) = a.mem (ix2 r k)
  mn : ∀ k, x1 (ix2 0 k) = a.mn (ix1 k)
  kn : ∀ l, x2 (ix2 0 l) = a.kn (ix1 l)
  w : ∀ k n, x3 (ix2 k n) = a.w (ix2 k n)
  dk : ∀ r j, x4 (ix2 r j) = a.dk (ix2 r j)
  dv : ∀ r j, x5 (ix2 r j) = a.dv (ix2 r j)

variable {a : Args} {x0 : Vec Ideal S256x1024 .f32} {x1 : Vec Ideal S1x1024 .f32} {x2 : Vec Ideal S1x128 .f32}
  {x3 : Vec Ideal S1024x1024 .bf16} {x4 x5 : Vec Ideal S256x512 .f32} (b : Blocks a x0 x1 x2 x3 x4 x5)

/-! ## The body's common values -/

section
include b

theorem pay6_at (r : Fin 256) (k : Fin 1024) : k0_pay6 x0 (ix2 r k) = hat a r k := by
  pointwise [k0_pay6, b.mem, hat, rinv, var, ofBits_eps, ofBits_inv1024]
theorem pay7_at (r : Fin 256) (k : Fin 1024) : k0_pay7 x0 x1 (ix2 r k) = memn a r k := by
  pointwise [k0_pay7, pay6_at b, b.mn, memn]
theorem pay8_at (r : Fin 256) (n : Fin 1024) : k0_pay8 x3 x0 x1 (ix2 r n) = kv a r n := by
  pointwise [k0_pay8, k0_pay4, pay7_at b, b.w, kv]
theorem pay5_at (l : Fin 128) : k0_pay5 x2 (ix2 0 l) = a.kn (ix1 l) := by
  pointwise [k0_pay5, b.kn]

end

/-! ## One head: the key, its inverse norm, the rate, and the normalised key, from each head's own values -/

section
variable (x : Fin 128 → EReal) (r : Fin 256)

theorem pay10_at (v0 : Vec Ideal S1024x1024 .bf16) (v2 : Vec Ideal S256x1024 .f32) (v3 : Vec Ideal S1x1024 .f32)
    (h : ∀ l, k0_pay9 v0 v2 v3 (ix2 r l) = x l) : k0_pay10 v0 v2 v3 (ix2 r 0) = var (1 / 128) x := by
  pointwise [k0_pay10, h, var, ofBits_eps, ofBits_inv128]
theorem pay11_at (v0 : Vec Ideal S1024x1024 .bf16) (v2 : Vec Ideal S256x1024 .f32) (v3 : Vec Ideal S1x1024 .f32)
    (h : ∀ l, k0_pay9 v0 v2 v3 (ix2 r l) = x l) : k0_pay11 v0 v2 v3 (ix2 r 0) = rinv (1 / 128) x := by
  pointwise [k0_pay11, pay10_at x r v0 v2 v3 h, rinv]
theorem pay12_at (v0 : Vec Ideal S1024x1024 .bf16) (v2 : Vec Ideal S256x1024 .f32) (v3 : Vec Ideal S1x1024 .f32)
    (h : ∀ l, k0_pay9 v0 v2 v3 (ix2 r l) = x l) : k0_pay12 v0 v2 v3 (ix2 r 0) = rate (1 / 128) x := by
  pointwise [k0_pay12, pay10_at x r v0 v2 v3 h, pay11_at x r v0 v2 v3 h, rate, ofBits_neg_half]

theorem pay16_at (v40 : FVec Ideal S256x1 .f32) (q : Ideal .f32) (hq : q = ((1 / 128 : ℝ) : EReal))
    (h : v40 (ix2 r 0) = ∑ l, x l * x l) :
    k0_pay16 v40 q (ix2 r 0) = var (1 / 128) x := by
  pointwise [k0_pay16, h, hq, var, ofBits_eps]
theorem pay17_at (v40 : FVec Ideal S256x1 .f32) (q : Ideal .f32) (hq : q = ((1 / 128 : ℝ) : EReal))
    (h : v40 (ix2 r 0) = ∑ l, x l * x l) :
    k0_pay17 v40 q (ix2 r 0) = rinv (1 / 128) x := by
  pointwise [k0_pay17, pay16_at x r v40 q hq h, rinv]
theorem pay18_at (v40 : FVec Ideal S256x1 .f32) (q : Ideal .f32) (hq : q = ((1 / 128 : ℝ) : EReal))
    (h : v40 (ix2 r 0) = ∑ l, x l * x l) :
    k0_pay18 v40 q (ix2 r 0) = rate (1 / 128) x := by
  pointwise [k0_pay18, pay16_at x r v40 q hq h, pay17_at x r v40 q hq h, rate, ofBits_neg_half]

theorem pay21_at (v22 : FVec Ideal S256x1024 .f32) (h : ∀ l, k0_pay20 v22 (ix2 r l) = x l) : k0_pay21 v22 (ix2 r 0) = var (1 / 128) x := by
  pointwise [k0_pay21, h, var, ofBits_eps, ofBits_inv128]
theorem pay22_at (v22 : FVec Ideal S256x1024 .f32) (h : ∀ l, k0_pay20 v22 (ix2 r l) = x l) : k0_pay22 v22 (ix2 r 0) = rinv (1 / 128) x := by
  pointwise [k0_pay22, pay21_at x r v22 h, rinv]
theorem pay23_at (v22 : FVec Ideal S256x1024 .f32) (h : ∀ l, k0_pay20 v22 (ix2 r l) = x l) : k0_pay23 v22 (ix2 r 0) = rate (1 / 128) x := by
  pointwise [k0_pay23, pay21_at x r v22 h, pay22_at x r v22 h, rate, ofBits_neg_half]
theorem pay26_at (v22 : FVec Ideal S256x1024 .f32) (h : ∀ l, k0_pay25 v22 (ix2 r l) = x l) : k0_pay26 v22 (ix2 r 0) = var (1 / 128) x := by
  pointwise [k0_pay26, h, var, ofBits_eps, ofBits_inv128]
theorem pay27_at (v22 : FVec Ideal S256x1024 .f32) (h : ∀ l, k0_pay25 v22 (ix2 r l) = x l) : k0_pay27 v22 (ix2 r 0) = rinv (1 / 128) x := by
  pointwise [k0_pay27, pay26_at x r v22 h, rinv]
theorem pay28_at (v22 : FVec Ideal S256x1024 .f32) (h : ∀ l, k0_pay25 v22 (ix2 r l) = x l) : k0_pay28 v22 (ix2 r 0) = rate (1 / 128) x := by
  pointwise [k0_pay28, pay26_at x r v22 h, pay27_at x r v22 h, rate, ofBits_neg_half]

end

/-! ## The heads' keys and cotangents -/

section
include b

theorem val43 (l : Fin 128) : k0_pay43 x0 x1 x2 x3 x4 x5 (ix2 0 l) = a.kn (ix1 l) := by
  unfold k0_pay43
  simp (disch := decide) only [View.ld_unit_lit]
  exact pay5_at b l
theorem val44 (r : Fin 256) (n : Fin 1024) : k0_pay44 x0 x1 x2 x3 x4 x5 (ix2 r n) = kv a r n := by
  unfold k0_pay44
  simp (disch := decide) only [View.ld_unit_lit]
  exact pay8_at b r n

theorem key0 (r : Fin 256) (l : Fin 128) : k0_pay9 x3 x0 x1 (ix2 r l) = key a 0 r l := by
  pointwise [k0_pay9, pay8_at b, key, lo, colh]
theorem key1 (r : Fin 256) (l : Fin 128) : k0_pay45 x0 x1 x2 x3 x4 x5 (ix2 r l) = key a 1 r l := by
  unfold k0_pay45
  simp (disch := decide) only [View.ld_unit_lit]
  pointwise [k0_pay14, pay8_at b, key, lo, colh]
theorem key2 (r : Fin 256) (l : Fin 128) : k0_pay20 (k0_pay44 x0 x1 x2 x3 x4 x5) (ix2 r l) = key a 2 r l := by
  pointwise [k0_pay20, val44 b, key, lo, colh]
theorem key3 (r : Fin 256) (l : Fin 128) : k0_pay25 (k0_pay44 x0 x1 x2 x3 x4 x5) (ix2 r l) = key a 3 r l := by
  pointwise [k0_pay25, val44 b, key, lo, colh]
theorem sq1 (r : Fin 256) : k0_pay46 x0 x1 x2 x3 x4 x5 (ix2 r 0) = ∑ l, key a 1 r l * key a 1 r l := by
  unfold k0_pay46
  simp (disch := decide) only [View.ld_unit_lit]
  pointwise [k0_pay15, k0_pay14, pay8_at b, key, lo, colh]

theorem dk0 (r : Fin 256) (l : Fin 128) : k0_pay47 x0 x1 x2 x3 x4 x5 (ix2 r l) = a.dk (ix2 r (colh 0 l)) := by
  unfold k0_pay47
  simp (disch := decide) only [View.ld_unit_lit]
  pointwise [k0_pay31, b.dk, colh]
theorem dk1 (r : Fin 256) (l : Fin 128) : k0_pay48 x0 x1 x2 x3 x4 x5 (ix2 r l) = a.dk (ix2 r (colh 1 l)) := by
  unfold k0_pay48
  simp (disch := decide) only [View.ld_unit_lit]
  pointwise [k0_pay32, b.dk, colh]
theorem dk2 (r : Fin 256) (l : Fin 128) : k0_pay49 x0 x1 x2 x3 x4 x5 (ix2 r l) = a.dk (ix2 r (colh 2 l)) := by
  unfold k0_pay49
  simp (disch := decide) only [View.ld_unit_lit]
  pointwise [k0_pay33, b.dk, colh]
theorem dk3 (r : Fin 256) (l : Fin 128) : k0_pay34 x4 (ix2 r l) = a.dk (ix2 r (colh 3 l)) := by
  pointwise [k0_pay34, b.dk, colh]

end

/-! ## One head's gradient, from the head's own values; the heads set side by side -/

section
variable (x d : Fin 128 → EReal) (r : Fin 256) (g : Fin 128 → EReal)

theorem pay41_at (v6 : FVec Ideal S1x128 .f32) (v23 : FVec Ideal S256x128 .f32) (v31 v34 : FVec Ideal S256x1 .f32) (v83 : FVec Ideal S256x128 .f32)
    (hg : ∀ l, v6 (ix2 0 l) = g l) (hx : ∀ l, v23 (ix2 r l) = x l) (hr : v31 (ix2 r 0) = rinv (1 / 128) x) (hq : v34 (ix2 r 0) = rate (1 / 128) x)
    (hd : ∀ l, v83 (ix2 r l) = d l) (l : Fin 128) : k0_pay41 v6 v23 v31 v34 v83 (ix2 r l) = grad (1 / 128) x (fun l => d l * g l) l := by
  pointwise [k0_pay41, hg, hx, hr, hq, hd, grad, through, ofBits_inv128]
  simp only [Fin.sum_univ_one, hq]

theorem pay37_at (v6 : FVec Ideal S1x128 .f32) (v51 : FVec Ideal S256x128 .f32) (v59 v62 : FVec Ideal S256x1 .f32) (v85 : FVec Ideal S256x128 .f32)
    (hg : ∀ l, v6 (ix2 0 l) = g l) (hx : ∀ l, v51 (ix2 r l) = x l) (hr : v59 (ix2 r 0) = rinv (1 / 128) x) (hq : v62 (ix2 r 0) = rate (1 / 128) x)
    (hd : ∀ l, v85 (ix2 r l) = d l) (n : Fin 384) : k0_pay37 v6 v51 v59 v62 v85 (ix2 r n)
      = if h : n.val < 256 then 0 else grad (1 / 128) x (fun l => d l * g l) ⟨n.val - 256, by omega⟩ := by
  pointwise [k0_pay37, hg, hx, hr, hq, hd, grad, through, ofBits_inv128]
  simp only [Fin.sum_univ_one, hq]

theorem pay39_at (v6 : FVec Ideal S1x128 .f32) (v37 : FVec Ideal S256x128 .f32) (v45 v48 : FVec Ideal S256x1 .f32) (v84 : FVec Ideal S256x128 .f32)
    (v111 : FVec Ideal S256x1024 .f32) (v134 : FVec Ideal S256x384 .f32) (v135 : FVec Ideal S256x640 .f32) (y : Fin 384 → EReal)
    (hg : ∀ l, v6 (ix2 0 l) = g l) (hx : ∀ l, v37 (ix2 r l) = x l) (hr : v45 (ix2 r 0) = rinv (1 / 128) x) (hq : v48 (ix2 r 0) = rate (1 / 128) x)
    (hd : ∀ l, v84 (ix2 r l) = d l) (h0 : ∀ n, v134 (ix2 r n) = y n) (h1 : ∀ n, v135 (ix2 r n) = 0) (n : Fin 1024) :
    k0_pay39 v6 v37 v45 v48 v84 v111 v134 v135 (ix2 r n)
      = v111 (ix2 r n) + (if h : n.val < 384 then y ⟨n.val, h⟩ else 0)
        + (if h : n.val < 256 then if h' : n.val < 128 then 0 else grad (1 / 128) x (fun l => d l * g l) ⟨n.val - 128, by omega⟩ else 0) := by
  pointwise [k0_pay39, hg, hx, hr, hq, hd, h0, h1, grad, through, ofBits_inv128]
  simp only [Fin.sum_univ_one, hq]

theorem pay35_at (v6 : FVec Ideal S1x128 .f32) (v65 : FVec Ideal S256x128 .f32) (v73 v76 : FVec Ideal S256x1 .f32) (v79 : Vec Ideal S256x512 .f32)
    (v82 : FVec Ideal S256x1024 .f32)
    (hg : ∀ l, v6 (ix2 0 l) = g l) (hx : ∀ l, v65 (ix2 r l) = x l) (hr : v73 (ix2 r 0) = rinv (1 / 128) x) (hq : v76 (ix2 r 0) = rate (1 / 128) x)
    (hd : ∀ l, k0_pay34 v79 (ix2 r l) = d l) (n : Fin 1024) : k0_pay35 v6 v65 v73 v76 v79 v82 (ix2 r n)
      = v82 (ix2 r n) + (if h : n.val < 512 then if h' : n.val < 384 then 0 else grad (1 / 128) x (fun l => d l * g l) ⟨n.val - 384, by omega⟩ else 0) := by
  pointwise [k0_pay35, hg, hx, hr, hq, hd, grad, through, ofBits_inv128]
  simp only [Fin.sum_univ_one, hq]

end

section
include b

theorem val51 (r : Fin 256) (l : Fin 128) : k0_pay51 x0 x1 x2 x3 x4 x5 (ix2 r l) = grad (1 / 128) (key a 0 r) (ct a 0 r) l := by
  unfold k0_pay51
  simp (disch := decide) only [View.ld_unit_lit]
  exact pay41_at (key a 0 r) _ r (fun l => a.kn (ix1 l)) _ _ _ _ _ (val43 b) (key0 b r) (pay11_at _ r _ _ _ (key0 b r)) (pay12_at _ r _ _ _ (key0 b r))
    (dk0 b r) l

theorem val30 (r : Fin 256) (n : Fin 1024) : k0_pay30 x5 (ix2 r n) = if h : n.val < 512 then 0 else a.dv (ix2 r ⟨n.val - 512, by omega⟩) := by
  pointwise [k0_pay30, b.dv]

theorem val50 (r : Fin 256) (n : Fin 1024) : k0_pay1 (k0_pay50 x0 x1 x2 x3 x4 x5) (k0_pay51 x0 x1 x2 x3 x4 x5) (k0_pay52 x0 x1 x2 x3 x4 x5) (ix2 r n)
    = gkv a r n := by
  have e52 : ∀ n, k0_pay52 x0 x1 x2 x3 x4 x5 (ix2 r n) = (0 : EReal) := fun n => by
    unfold k0_pay52
    pointwise [k0_pay42]
  have e50 : k0_pay50 x0 x1 x2 x3 x4 x5 (ix2 r n) =
      (if h : n.val < 512 then 0 else a.dv (ix2 r ⟨n.val - 512, by omega⟩))
        + (if h : n.val < 512 then if h' : n.val < 384 then 0 else grad (1 / 128) (key a 3 r) (ct a 3 r) ⟨n.val - 384, by omega⟩ else 0)
        + (if h : n.val < 384 then if h' : n.val < 256 then 0 else grad (1 / 128) (key a 2 r) (ct a 2 r) ⟨n.val - 256, by omega⟩ else 0)
        + (if h : n.val < 256 then if h' : n.val < 128 then 0 else grad (1 / 128) (key a 1 r) (ct a 1 r) ⟨n.val - 128, by omega⟩ else 0) := by
    unfold k0_pay50
    simp (disch := decide) only [View.ld_unit_lit]
    refine (pay39_at (key a 1 r) _ r (fun l => a.kn (ix1 l)) _ _ _ _ _ _ _ _ _ (val43 b) (key1 b r) (pay17_at _ r _ _ ofBits_inv128 (sq1 b r))
      (pay18_at _ r _ _ ofBits_inv128 (sq1 b r)) (dk1 b r)
      (pay37_at (key a 2 r) _ r (fun l => a.kn (ix1 l)) _ _ _ _ _ (val43 b) (key2 b r) (pay22_at _ r _ (key2 b r)) (pay23_at _ r _ (key2 b r)) (dk2 b r))
      (fun n => by pointwise [k0_pay38]) n).trans ?_
    rw [pay35_at (key a 3 r) _ r (fun l => a.kn (ix1 l)) _ _ _ _ x4 (k0_pay30 x5) (val43 b) (key3 b r) (pay27_at _ r _ (key3 b r))
      (pay28_at _ r _ (key3 b r)) (dk3 b r) n, val30 b]
    rfl
  pointwise [k0_pay1, e50, e52, val51 b]
  by_cases h5 : n.val < 512
  · by_cases h4 : n.val < 384
    · by_cases h3 : n.val < 256
      · by_cases h2 : n.val < 128
        · simp only [h5, h4, h3, h2, dif_pos, add_zero, zero_add]
          exact (gkv_head a r 0 ⟨n.val, h2⟩ n (by show n.val = 0 * 128 + n.val; omega)).symm
        · simp only [h5, h4, h3, h2, dif_pos, dif_neg, not_false_eq_true, add_zero, zero_add]
          exact (gkv_head a r 1 ⟨n.val - 128, by omega⟩ n (by show n.val = 1 * 128 + (n.val - 128); omega)).symm
      · simp only [h5, h4, h3, dif_pos, dif_neg, not_false_eq_true, add_zero, zero_add, dif_neg (show ¬n.val < 128 by omega)]
        exact (gkv_head a r 2 ⟨n.val - 256, by omega⟩ n (by show n.val = 2 * 128 + (n.val - 256); omega)).symm
    · simp only [h5, h4, dif_pos, dif_neg, not_false_eq_true, add_zero, zero_add, dif_neg (show ¬n.val < 128 by omega), dif_neg (show ¬n.val < 256 by omega)]
      exact (gkv_head a r 3 ⟨n.val - 384, by omega⟩ n (by show n.val = 3 * 128 + (n.val - 384); omega)).symm
  · simp only [h5, dif_neg, not_false_eq_true, add_zero, dif_neg (show ¬n.val < 128 by omega), dif_neg (show ¬n.val < 256 by omega),
      dif_neg (show ¬n.val < 384 by omega)]
    exact (gkv_val a r n h5).symm

/-! ## The three results' payloads -/

theorem pay2_at (k : Fin 1024) : k0_pay2 (k0_pay4 x3) (k0_pay6 x0) (k0_pay50 x0 x1 x2 x3 x4 x5) (k0_pay51 x0 x1 x2 x3 x4 x5) (k0_pay52 x0 x1 x2 x3 x4 x5)
    (ix2 0 k) = dmn a k := by
  pointwise [k0_pay2, k0_pay4, pay6_at b, val50 b, b.w, dmn]

theorem pay3_at (k n : Fin 1024) : k0_pay3 (k0_pay7 x0 x1) (k0_pay50 x0 x1 x2 x3 x4 x5) (k0_pay51 x0 x1 x2 x3 x4 x5) (k0_pay52 x0 x1 x2 x3 x4 x5)
    (ix2 k n) = dw a k n := by
  pointwise [k0_pay3, pay7_at b, val50 b, dw]

theorem pay36_at (l : Fin 128) : k0_pay36 (k0_pay24 (k0_pay44 x0 x1 x2 x3 x4 x5)) (k0_pay29 (k0_pay44 x0 x1 x2 x3 x4 x5)) x4 (k0_pay49 x0 x1 x2 x3 x4 x5) (ix2 0 l)
    = (∑ r : Fin 256, key a 3 r l * rinv (1 / 128) (key a 3 r) * a.dk (ix2 r (colh 3 l)))
      + ∑ r : Fin 256, key a 2 r l * rinv (1 / 128) (key a 2 r) * a.dk (ix2 r (colh 2 l)) := by
  have e2 : ∀ r, k0_pay22 (k0_pay44 x0 x1 x2 x3 x4 x5) (ix2 r 0) = rinv (1 / 128) (key a 2 r) := fun r => pay22_at _ r _ (key2 b r)
  have e3 : ∀ r, k0_pay27 (k0_pay44 x0 x1 x2 x3 x4 x5) (ix2 r 0) = rinv (1 / 128) (key a 3 r) := fun r => pay27_at _ r _ (key3 b r)
  pointwise [k0_pay36, k0_pay24, k0_pay29, key2 b, key3 b, e2, e3, dk2 b, dk3 b]

theorem pay40_at (l : Fin 128) : k0_pay40 (k0_pay13 x3 x0 x1) (k0_pay19 (k0_pay45 x0 x1 x2 x3 x4 x5) (k0_pay46 x0 x1 x2 x3 x4 x5) (Scalar.ofBits .f32 0x3C000000#32))
    (k0_pay47 x0 x1 x2 x3 x4 x5) (k0_pay48 x0 x1 x2 x3 x4 x5)
    (k0_pay36 (k0_pay24 (k0_pay44 x0 x1 x2 x3 x4 x5)) (k0_pay29 (k0_pay44 x0 x1 x2 x3 x4 x5)) x4 (k0_pay49 x0 x1 x2 x3 x4 x5)) (ix2 0 l) = dkn a l := by
  have e0 : ∀ r, k0_pay11 x3 x0 x1 (ix2 r 0) = rinv (1 / 128) (key a 0 r) := fun r => pay11_at _ r _ _ _ (key0 b r)
  have e1 : ∀ r, k0_pay17 (k0_pay46 x0 x1 x2 x3 x4 x5) (Ideal.ofBits .f32 0x3C000000#32) (ix2 r 0) = rinv (1 / 128) (key a 1 r) :=
    fun r => pay17_at _ r _ _ ofBits_inv128 (sq1 b r)
  pointwise [k0_pay40, k0_pay13, k0_pay19, key0 b, key1 b, e0, e1, dk0 b, dk1 b, pay36_at b, dkn]
  rw [Finset.sum_comm, Fin.sum_univ_four]
  abel

end

/-! ## The run -/

theorem idx : ∀ t : Fin cfg0.N, win0_0.index t = ![0, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![0, 0] ∧ win0_8.index t = ![0, 0] :=
  (by decide +kernel : ∀ t : Fin grid0.N, _)

theorem entry_mn (c : Dev nD) (k : Fin 1024) : V m c main_v0 (ix2 0 k) = (args m c).mn (ix1 k) := by
  unfold V
  simp only [hostOps0]
  after_results
  pointwise [args]
theorem entry_kn (c : Dev nD) (l : Fin 128) : V m c main_v1 (ix2 0 l) = (args m c).kn (ix1 l) := by
  unfold V
  simp only [hostOps0]
  after_results
  pointwise [args]
theorem entry_w (c : Dev nD) (k n : Fin 1024) : V m c main_v2 (ix2 k n) = (args m c).w (ix2 k n) := by
  unfold V
  simp only [hostOps0]
  after_results
  pointwise [args]

theorem blocks (c : Dev nD) (t : Fin cfg0.N) : Blocks (args m c) (iblk m c 0 t) (iblk m c 1 t) (iblk m c 2 t) (iblk m c 3 t) (iblk m c 4 t) (iblk m c 5 t) where
  mem r k := by blk_point [iblk, V, args, idx t]
  mn k := by rw [← entry_mn m c k]; blk_point [iblk, idx t]
  kn l := by rw [← entry_kn m c l]; blk_point [iblk, idx t]
  w k n := by rw [← entry_w m c k n]; blk_point [iblk, idx t]
  dk r j := by blk_point [iblk, V, args, idx t]
  dv r j := by blk_point [iblk, V, args, idx t]

theorem emb6 (t : Fin cfg0.N) (y : Fin 1024) : ((cfg0.win 6).blk t).view.emb (ix2 0 y) = ix2 0 y := by
  blk_ext [idx t]
theorem emb7 (t : Fin cfg0.N) (y : Fin 128) : ((cfg0.win 7).blk t).view.emb (ix2 0 y) = ix2 0 y := by
  blk_ext [idx t]
theorem emb8 (t : Fin cfg0.N) (y0 y1 : Fin 1024) : ((cfg0.win 8).blk t).view.emb (ix2 y0 y1) = ix2 y0 y1 := by
  blk_ext [idx t]

theorem final_mn (c : Dev nD) : (dats m 0 c).arrAt 6 cfg0.N = fun i => dmn (args m c) (i 1) := by
  refine (dats m 0 c).arrAt_eq_of_covers 6 _ (by decide +kernel) fun t hf y => ?_
  idx_vars y
  obtain rfl := Fin.fin_one_eq_zero y0
  rw [emb6 t y1]
  blk_simp
  rw [after0_6]
  frame_out
  exact pay2_at (blocks m c t) y1

theorem final_kn (c : Dev nD) : (dats m 0 c).arrAt 7 cfg0.N = fun i => dkn (args m c) (i 1) := by
  refine (dats m 0 c).arrAt_eq_of_covers 7 _ (by decide +kernel) fun t hf y => ?_
  idx_vars y
  obtain rfl := Fin.fin_one_eq_zero y0
  rw [emb7 t y1]
  blk_simp
  rw [after0_7]
  frame_out
  exact pay40_at (blocks m c t) y1

theorem final_w (c : Dev nD) : (dats m 0 c).arrAt 8 cfg0.N = fun i => dw (args m c) (i 0) (i 1) := by
  refine (dats m 0 c).arrAt_eq_of_covers 8 _ (by decide +kernel) fun t hf y => ?_
  idx_vars y
  rw [emb8 t y0 y1]
  blk_simp
  rw [after0_8]
  frame_out
  exact pay3_at (blocks m c t) y0 y1

end Cert.Mkv

end
-- ==== Proof.Mkv.Claim.lean ====
/-
The kernel and the reference of `_memkv_bwd` compute the same arrays.
-/
module

public import proofs.«01_k».proof.Defs
public import proofs.«01_k».proof.Proof.Mkv.Kernel
public import proofs.«01_k».proof.Proof.Gen.ReferenceMkvIdeal.Run
public import proofs.«01_k».proof.Proof.Gen.ReferenceMkvIdeal.Read
public import Idealize.ShloMosaic.Lib.Claim

@[expose] public section

set_option maxRecDepth 16384

noncomputable section

namespace Cert.Mkv

open Idealize.ShloMosaic Idealize.ShloMosaic.TcCoe Idealize.SL.Sem
open Cert.Rms Cert.Ffn Cert.Norm
open Cert.ReferenceMkvIdeal.Read

variable (a : Args)

theorem ref_hat (r : Fin 256) (k : Fin 1024) : val_main_v9 (F := Ideal) a.mem (ix2 r k) = hat a r k := by
  pointwise [val_main_v9, val_main_v8, val_main_v7, val_main_v6, val_main_v5, val_main_v4, val_main_v3, val_main_v2, val_main_v1, val_main_v0,
    val_main_cst, val_main_cst_0, val_main_cst_1, hat, rinv, var, ofBits_eps, ofBits_1024]
  rw [div_coe' _ (by norm_num)]

theorem ref_memn (r : Fin 256) (k : Fin 1024) : val_main_v12 (F := Ideal) a.mem a.mn (ix2 r k) = memn a r k := by
  pointwise [val_main_v12, val_main_v11, val_main_v10, ref_hat, memn]

theorem ref_kv (r : Fin 256) (n : Fin 1024) : val_main_v13 (F := Ideal) a.mem a.mn a.w (ix2 r n) = kv a r n := by
  pointwise [val_main_v13, ref_memn, kv]

theorem ref_key (r : Fin 256) (h : Fin 4) (l : Fin 128) : val_main_v15 (F := Ideal) a.mem a.mn a.w (ix3 r h l) = key a h r l := by
  pointwise [val_main_v15, val_main_v14, ref_kv, key, lo, colh]

theorem ref_var (r : Fin 256) (h : Fin 4) : val_main_v22 (F := Ideal) a.mem a.mn a.w (ix3 r h 0) = var (1 / 128) (key a h r) := by
  pointwise [val_main_v22, val_main_v21, val_main_v20, val_main_v19, val_main_v18, val_main_v17, val_main_v16, val_main_cst_2, val_main_cst_3,
    val_main_cst_4, ref_key, var, ofBits_eps, ofBits_128]
  rw [div_coe' _ (by norm_num)]

theorem ref_inv (r : Fin 256) (h : Fin 4) : val_main_v23 (F := Ideal) a.mem a.mn a.w (ix3 r h 0) = rinv (1 / 128) (key a h r) := by
  pointwise [val_main_v23, ref_var, rinv]

theorem ref_rate (r : Fin 256) (h : Fin 4) : val_main_v26 (F := Ideal) a.mem a.mn a.w (ix3 r h 0) = rate (1 / 128) (key a h r) := by
  pointwise [val_main_v26, val_main_v25, val_main_v24, val_main_cst_5, ref_inv, ref_var, rate, ofBits_neg_half]

theorem ref_dk (r : Fin 256) (h : Fin 4) (l : Fin 128) : val_main_v33 (F := Ideal) a.dk (ix3 r h l) = a.dk (ix2 r (colh h l)) := by
  pointwise [val_main_v33, colh]

theorem ref_ct (r : Fin 256) (h : Fin 4) (l : Fin 128) : val_main_v39 (F := Ideal) a.kn a.dk (ix3 r h l) = ct a h r l := by
  pointwise [val_main_v39, val_main_v38, val_main_v29, ref_dk, ct]

theorem ref_through (r : Fin 256) (h : Fin 4) :
    val_main_v49 (F := Ideal) a.mem a.mn a.kn a.w a.dk (ix2 r h) = through (1 / 128) (key a h r) (ct a h r) := by
  pointwise [val_main_v49, val_main_v48, val_main_v47, val_main_v46, val_main_v43, val_main_v42, val_main_v41, val_main_cst_9, val_main_cst_10,
    val_main_cst_11, ref_key, ref_ct, through, ofBits_128]
  simp only [Fin.sum_univ_one, ref_rate]
  rw [div_coe' _ (by norm_num)]

theorem ref_grad (r : Fin 256) (h : Fin 4) (l : Fin 128) :
    val_main_v54 (F := Ideal) a.mem a.mn a.kn a.w a.dk (ix3 r h l) = grad (1 / 128) (key a h r) (ct a h r) l := by
  pointwise [val_main_v54, val_main_v53, val_main_v52, val_main_v51, val_main_v50, val_main_v45, val_main_v44, ref_key, ref_ct, ref_through, ref_inv,
    grad]

theorem ref_gkv (r : Fin 256) (n : Fin 1024) : val_main_v57 (F := Ideal) a.mem a.mn a.kn a.w a.dk a.dv (ix2 r n) = gkv a r n := by
  pointwise [val_main_v57, val_main_v56, val_main_v55, val_main_v34, val_main_cst_6, val_main_cst_12, ref_grad, gkv]
  by_cases h : n.val < 512
  · simp only [h, dif_pos, dif_neg (show ¬(512 ≤ n.val ∧ n.val - 512 < 512) by omega), zero_add]
  · simp only [h, dif_neg, not_false_eq_true, add_zero, dif_pos (show 512 ≤ n.val ∧ n.val - 512 < 512 by omega)]

theorem ref_dw (k n : Fin 1024) : val_main_v59 (F := Ideal) a.mem a.mn a.kn a.w a.dk a.dv (ix2 k n) = dw a k n := by
  pointwise [val_main_v59, val_main_v58, ref_memn, ref_gkv, dw]
  exact Finset.sum_congr rfl fun _ _ => mul_comm _ _

theorem ref_dmn (k : Fin 1024) : val_main_v65 (F := Ideal) a.mem a.mn a.kn a.w a.dk a.dv (ix2 0 k) = dmn a k := by
  pointwise [val_main_v65, val_main_v64, val_main_v63, val_main_v62, val_main_v61, val_main_v60, val_main_cst_13, val_main_cst_14, ref_hat, ref_gkv, dmn]
  simp only [Fin.sum_univ_one]

theorem ref_keys (l : Fin 128) : val_main_v36 (F := Ideal) a.mem a.mn a.w a.dk (ix1 l) = dkn a l := by
  pointwise [val_main_v36, val_main_v35, val_main_v28, val_main_v27, val_main_cst_7, ref_key, ref_inv, ref_dk, dkn, sum_two]

theorem ref_dkn (l : Fin 128) : val_main_v66 (F := Ideal) a.mem a.mn a.w a.dk (ix2 0 l) = dkn a l := by
  pointwise [val_main_v66, val_main_v40, val_main_v37, val_main_cst_8, ref_keys, sum_two]
  simp only [Fin.sum_univ_one]

/-- The reference's arguments on device `c`. -/
def refArgs (m : (ℓ : Loc Cert.ReferenceMkvIdeal.nD Cert.ReferenceMkvIdeal.τ Cert.ReferenceMkvIdeal.sig) → Buf (Elt Ideal) ℓ)
    (c : Dev Cert.ReferenceMkvIdeal.nD) : Args where
  mem := m ((c.tc : Thread _ _).loc Cert.ReferenceMkvIdeal.main_arg0)
  mn := m ((c.tc : Thread _ _).loc Cert.ReferenceMkvIdeal.main_arg1)
  kn := m ((c.tc : Thread _ _).loc Cert.ReferenceMkvIdeal.main_arg2)
  w := m ((c.tc : Thread _ _).loc Cert.ReferenceMkvIdeal.main_arg3)
  dk := m ((c.tc : Thread _ _).loc Cert.ReferenceMkvIdeal.main_arg4)
  dv := m ((c.tc : Thread _ _).loc Cert.ReferenceMkvIdeal.main_arg5)

theorem frame_reference : Cert.quiescent_ReferenceMkvIdeal (hReferenceMkvIdeal := Cert.ReferenceMkvIdeal.Gen.facts) :=
  fun m ρ _ => (θ_run Cert.ReferenceMkvIdeal.defs _ _).mono (fun r h => ⟨fun c => (h c).2.2.2, sem_eq_zero_of_no_sems (by decide) r.2⟩)
    (Cert.ReferenceMkvIdeal.Value.run m ρ)

theorem algebraic : Cert.algebraic_KernelMkvIdeal_ReferenceMkvIdeal
    (hKernelMkvIdeal := Cert.KernelMkvIdeal.Gen.facts) (hReferenceMkvIdeal := Cert.ReferenceMkvIdeal.Gen.facts) := by
  intro m g m' g' _ h
  have ha : ∀ c, refArgs m' c = args m c := fun c => by
    obtain ⟨h0, h1, h2, h3, h4, h5⟩ := h c
    simp only [refArgs, args, h0, h1, h2, h3, h4, h5]
  refine ⟨fun c (i : Cert.KernelMkvIdeal.S1x1024.Idx) => dmn (args m c) (i 1), fun c (i : Cert.KernelMkvIdeal.S1x128.Idx) => dkn (args m c) (i 1),
    fun c (i : Cert.KernelMkvIdeal.S1024x1024.Idx) => dw (args m c) (i 0) (i 1), ?_, ?_⟩
  · refine (θ_run _ _ _).mono (fun r hr c => ?_) (Cert.KernelMkvIdeal.Value.run_blocks m g)
    obtain ⟨h7, h8, h9, hargs⟩ := hr c
    exact ⟨h7.trans (final_mn m c), h8.trans (final_kn m c), h9.trans (final_w m c), hargs⟩
  · refine (θ_run _ _ _).mono (fun r hr c => ?_) (Cert.ReferenceMkvIdeal.Value.run m' g')
    obtain ⟨h7, h8, h9, hargs⟩ := hr c
    refine ⟨h7.trans ?_, h8.trans ?_, h9.trans ?_, hargs⟩
    · refine (val_main_v65_eq ..).trans ?_
      funext i
      exact ((congrArg _ (eq_row i)).trans (ref_dmn (refArgs m' c) (i 1))).trans (congrArg (fun a => dmn a (i 1)) (ha c))
    · refine (val_main_v66_eq ..).trans ?_
      funext i
      exact ((congrArg _ (eq_row i)).trans (ref_dkn (refArgs m' c) (i 1))).trans (congrArg (fun a => dkn a (i 1)) (ha c))
    · refine (val_main_v59_eq ..).trans ?_
      funext i
      exact ((congrArg _ (eq_ix2 i)).trans (ref_dw (refArgs m' c) (i 0) (i 1))).trans (congrArg (fun a => dw a (i 0) (i 1)) (ha c))

end Cert.Mkv

end
-- ==== Proof.Mix.Closed.lean ====
/-
The gradient of the gelu gate, the two output norms and the output projection, entry by entry.
-/
module

public import proofs.«01_k».proof.Proof.Norm
public import proofs.«01_k».proof.Proof.Ffn.Base

@[expose] public section

noncomputable section

namespace Cert.Mix

open Idealize.ShloMosaic Cert.Rms Cert.Ffn Cert.Norm

/-- The call's arguments: the cotangent, the two directions' states, the input projection, the attention's output, the two gains, the weight. -/
structure Args where
  dx1 : T2 8192 1024
  hf : T2 8192 512
  hb : T2 8192 512
  proj : T2 8192 1440
  mo : T2 8192 512
  ln : T1 512
  mn : T1 512
  w : T2 1024 1024

/-- The constants of the gate: a half, one, and the two of the tanh form. -/
def half : EReal := Ideal.ofBits .f32 0x3F000000#32
def one : EReal := Ideal.ofBits .f32 0x3F800000#32
def cub : EReal := Ideal.ofBits .f32 0x3D372713#32
def slope : EReal := Ideal.ofBits .f32 0x3F4C422A#32

theorem ofBits_three : Ideal.ofBits .f32 0x40400000#32 = ((3 : ℝ) : EReal) := by
  simp [Ideal.ofBits, Ideal.ieee, -EReal.coe_mul]; norm_num

variable (a : Args)

/-- The state, and the gate's input. -/
def st (s : Fin 8192) (j : Fin 512) : EReal := a.hf (ix2 s j) + a.hb (ix2 s j)
def y (s : Fin 8192) (j : Fin 512) : EReal := a.proj (ix2 s ⟨512 + j.val, by omega⟩)

/-- The gate's tanh, the gate, the gated state. -/
def th (s : Fin 8192) (j : Fin 512) : EReal := Ideal.tanh (slope * (y a s j + cub * y a s j * y a s j * y a s j))
def gel (s : Fin 8192) (j : Fin 512) : EReal := half * y a s j * (one + th a s j)
def X (s : Fin 8192) (j : Fin 512) : EReal := st a s j * gel a s j
def M (s : Fin 8192) (j : Fin 512) : EReal := a.mo (ix2 s j)

/-- The cotangents of the two normed rows. -/
def lo (j : Fin 512) : Fin 1024 := ⟨j.val, by omega⟩
def hi (j : Fin 512) : Fin 1024 := ⟨512 + j.val, by omega⟩
def g1 (s : Fin 8192) (j : Fin 512) : EReal := ∑ k : Fin 1024, a.dx1 (ix2 s k) * a.w (ix2 (lo j) k)
def g2 (s : Fin 8192) (j : Fin 512) : EReal := ∑ k : Fin 1024, a.dx1 (ix2 s k) * a.w (ix2 (hi j) k)
def c1 (s : Fin 8192) (j : Fin 512) : EReal := g1 a s j * a.ln (ix1 j)
def c2 (s : Fin 8192) (j : Fin 512) : EReal := g2 a s j * a.mn (ix1 j)

/-- The gradients of the attention's output, of the gated state, of the state, of the gate. -/
def dmo (s : Fin 8192) (j : Fin 512) : EReal := grad (1 / 512) (M a s) (c2 a s) j
def dX (s : Fin 8192) (j : Fin 512) : EReal := grad (1 / 512) (X a s) (c1 a s) j
def dh (s : Fin 8192) (j : Fin 512) : EReal := dX a s j * gel a s j
def dgel (s : Fin 8192) (j : Fin 512) : EReal := st a s j * dX a s j

/-- What reaches the tanh's argument, and the gradient of the gate's input. -/
def B (s : Fin 8192) (j : Fin 512) : EReal := slope * (half * y a s j * dgel a s j * ((one + th a s j) * (one - th a s j)))
def dy (s : Fin 8192) (j : Fin 512) : EReal :=
  B a s j + cub * y a s j * y a s j * B a s j + cub * y a s j * (B a s j * y a s j) + cub * (B a s j * y a s j * y a s j)
    + half * (dgel a s j * (one + th a s j))

/-- Per head and row the sum of do·o. -/
def headcol (p : Fin 4) (z : Fin 2) (l : Fin 64) : Fin 512 := ⟨p.val * 128 + z.val * 64 + l.val, by omega⟩
def delta (p : Fin 4) (z : Fin 2) (s : Fin 8192) : EReal := ∑ l : Fin 64, dmo a s (headcol p z l) * M a s (headcol p z l)

/-- The gradients of the gains and of the two halves of the weight. -/
def dlnTerm (s : Fin 8192) (j : Fin 512) : EReal := X a s j * rinv (1 / 512) (X a s) * g1 a s j
def dmnTerm (s : Fin 8192) (j : Fin 512) : EReal := M a s j * rinv (1 / 512) (M a s) * g2 a s j
def dwaTerm (s : Fin 8192) (j : Fin 512) (k : Fin 1024) : EReal := X a s j * rinv (1 / 512) (X a s) * a.ln (ix1 j) * a.dx1 (ix2 s k)
def dwbTerm (s : Fin 8192) (j : Fin 512) (k : Fin 1024) : EReal := M a s j * rinv (1 / 512) (M a s) * a.mn (ix1 j) * a.dx1 (ix2 s k)
def dln (j : Fin 512) : EReal := ∑ s : Fin 8192, dlnTerm a s j
def dmn (j : Fin 512) : EReal := ∑ s : Fin 8192, dmnTerm a s j
def dwa (j : Fin 512) (k : Fin 1024) : EReal := ∑ s : Fin 8192, dwaTerm a s j k
def dwb (j : Fin 512) (k : Fin 1024) : EReal := ∑ s : Fin 8192, dwbTerm a s j k

/-- Three equal summands are the summand times three, infinite ones too. -/
theorem three (u : EReal) : u + u + u = ((3 : ℝ) : EReal) * u := by
  have h3 : ((3 : ℝ) : EReal) = 1 + 1 + 1 := by
    rw [show (1 : EReal) = ((1 : ℝ) : EReal) from rfl, ← EReal.coe_add, ← EReal.coe_add]; norm_num
  rw [h3, EReal.right_distrib_of_nonneg (by norm_num) (by norm_num), EReal.right_distrib_of_nonneg (by norm_num) (by norm_num), one_mul]

/-- The cube's derivative by the product rule is three times the square. -/
theorem cube (b y : EReal) : b + cub * y * y * b + cub * y * (b * y) + cub * (b * y * y) = b + cub * b * (((3 : ℝ) : EReal) * (y * y)) := by
  have e1 : cub * y * (b * y) = cub * y * y * b := by rw [mul_comm b y, mul_assoc (cub * y)]
  have e2 : cub * (b * y * y) = cub * y * y * b := by rw [mul_assoc b, mul_comm b, ← mul_assoc, ← mul_assoc]
  have e3 : cub * b * (((3 : ℝ) : EReal) * (y * y)) = ((3 : ℝ) : EReal) * (cub * y * y * b) := by
    rw [mul_assoc cub, mul_left_comm b, mul_left_comm cub, mul_comm b, ← mul_assoc cub, ← mul_assoc cub]
  rw [e1, e2, e3, ← three, add_assoc, add_assoc, add_assoc]

end Cert.Mix

end
-- ==== Proof.Mix.Point.lean ====
/-
What the body of `_mix_bwd` computes at a grid point, from blocks that hold the arguments.
-/
module

public import proofs.«01_k».proof.Proof.Gen.KernelMixIdeal.Skeleton
public import proofs.«01_k».proof.Proof.Mix.Closed
public import Idealize.ShloMosaic.Lib.Pointwise

@[expose] public section

set_option maxRecDepth 16384

noncomputable section

namespace Cert.Mix

open Idealize.ShloMosaic Idealize.ShloMosaic.TcCoe Idealize.SL.Sem
open Cert.KernelMixIdeal Cert.KernelMixIdeal.Gen Cert.Rms Cert.Ffn Cert.Norm

/-- The blocks hold the arguments: row `r` of the block is row `s r`. -/
structure Blocks (a : Args) (s : Fin 512 → Fin 8192) (x0 : Vec Ideal S512x1024 .f32) (x1 x2 x3 x4 : Vec Ideal S512x512 .f32)
    (x5 x6 : Vec Ideal S1x512 .f32) (x7 x8 : Vec Ideal S512x1024 .bf16) : Prop where
  dx : ∀ r k, x0 (ix2 r k) = a.dx1 (ix2 (s r) k)
  hf : ∀ r j, x1 (ix2 r j) = a.hf (ix2 (s r) j)
  hb : ∀ r j, x2 (ix2 r j) = a.hb (ix2 (s r) j)
  yg : ∀ r j, x3 (ix2 r j) = y a (s r) j
  mo : ∀ r j, x4 (ix2 r j) = M a (s r) j
  ln : ∀ j, x5 (ix2 0 j) = a.ln (ix1 j)
  mn : ∀ j, x6 (ix2 0 j) = a.mn (ix1 j)
  wa : ∀ j k, x7 (ix2 j k) = a.w (ix2 (lo j) k)
  wb : ∀ j k, x8 (ix2 j k) = a.w (ix2 (hi j) k)

variable {a : Args} {s : Fin 512 → Fin 8192} {x0 : Vec Ideal S512x1024 .f32} {x1 x2 x3 x4 : Vec Ideal S512x512 .f32}
  {x5 x6 : Vec Ideal S1x512 .f32} {x7 x8 : Vec Ideal S512x1024 .bf16} (h : Blocks a s x0 x1 x2 x3 x4 x5 x6 x7 x8)

section
include h

/-! ## The gate and the gated state's norm -/

theorem pay14_at (r : Fin 512) (j : Fin 512) : k0_pay14 x1 x2 (ix2 r j) = st a (s r) j := by
  pointwise [k0_pay14, h.hf, h.hb, st]
theorem pay15_at (r : Fin 512) (j : Fin 512) : k0_pay15 x3 (ix2 r j) = half * y a (s r) j := by
  pointwise [k0_pay15, k0_pay11, h.yg, half]
theorem pay16_at (r : Fin 512) (j : Fin 512) : k0_pay16 x3 (ix2 r j) = cub * y a (s r) j := by
  pointwise [k0_pay16, k0_pay11, h.yg, cub]
theorem pay17_at (r : Fin 512) (j : Fin 512) : k0_pay17 x3 (ix2 r j) = cub * y a (s r) j * y a (s r) j := by
  pointwise [k0_pay17, k0_pay11, pay16_at h, h.yg]
theorem pay18_at (r : Fin 512) (j : Fin 512) : k0_pay18 x3 (ix2 r j) = th a (s r) j := by
  pointwise [k0_pay18, k0_pay11, pay17_at h, h.yg, th, slope]
theorem pay19_at (r : Fin 512) (j : Fin 512) : k0_pay19 x3 (ix2 r j) = (one + th a (s r) j) * (one - th a (s r) j) := by
  pointwise [k0_pay19, pay18_at h, one]
theorem pay20_at (r : Fin 512) (j : Fin 512) : k0_pay20 (k0_pay18 x3) (ix2 r j) = one + th a (s r) j := by
  pointwise [k0_pay20, pay18_at h, one]
theorem pay21_at (r : Fin 512) (j : Fin 512) : k0_pay21 (k0_pay15 x3) (k0_pay18 x3) (ix2 r j) = gel a (s r) j := by
  pointwise [k0_pay21, pay15_at h, pay20_at h, gel]
theorem pay22_at (r : Fin 512) (j : Fin 512) : k0_pay22 (k0_pay14 x1 x2) (k0_pay15 x3) (k0_pay18 x3) (ix2 r j) = X a (s r) j := by
  pointwise [k0_pay22, pay14_at h, pay21_at h, X]
theorem pay23_at (r : Fin 512) : k0_pay23 (k0_pay14 x1 x2) (k0_pay15 x3) (k0_pay18 x3) (ix2 r 0) = var (1 / 512) (X a (s r)) := by
  pointwise [k0_pay23, pay22_at h, var, ofBits_eps, ofBits_inv512]
theorem pay24_at (r : Fin 512) : k0_pay24 (k0_pay14 x1 x2) (k0_pay15 x3) (k0_pay18 x3) (ix2 r 0) = rinv (1 / 512) (X a (s r)) := by
  pointwise [k0_pay24, pay23_at h, rinv]
theorem pay25_at (r : Fin 512) : k0_pay25 (k0_pay14 x1 x2) (k0_pay15 x3) (k0_pay18 x3) (ix2 r 0) = rate (1 / 512) (X a (s r)) := by
  pointwise [k0_pay25, pay23_at h, pay24_at h, rate, ofBits_neg_half]
theorem pay26_at (r : Fin 512) (j : Fin 512) :
    k0_pay26 (k0_pay14 x1 x2) (k0_pay15 x3) (k0_pay18 x3) (ix2 r j) = X a (s r) j * rinv (1 / 512) (X a (s r)) := by
  pointwise [k0_pay26, pay22_at h, pay24_at h]
theorem pay27_at (r : Fin 512) (j : Fin 512) : k0_pay27 (k0_pay12 x5) (k0_pay14 x1 x2) (k0_pay15 x3) (k0_pay18 x3) (ix2 r j)
    = X a (s r) j * rinv (1 / 512) (X a (s r)) * a.ln (ix1 j) := by
  pointwise [k0_pay27, k0_pay12, pay26_at h, h.ln]

/-! ## The attention's output's norm -/

theorem pay28_at (r : Fin 512) : k0_pay28 x4 (ix2 r 0) = var (1 / 512) (M a (s r)) := by
  pointwise [k0_pay28, h.mo, var, ofBits_eps, ofBits_inv512]
theorem pay29_at (r : Fin 512) : k0_pay29 x4 (ix2 r 0) = rinv (1 / 512) (M a (s r)) := by
  pointwise [k0_pay29, pay28_at h, rinv]
theorem pay30_at (r : Fin 512) : k0_pay30 x4 (ix2 r 0) = rate (1 / 512) (M a (s r)) := by
  pointwise [k0_pay30, pay28_at h, pay29_at h, rate, ofBits_neg_half]
theorem pay31_at (r : Fin 512) (j : Fin 512) : k0_pay31 x4 (ix2 r j) = M a (s r) j * rinv (1 / 512) (M a (s r)) := by
  pointwise [k0_pay31, h.mo, pay29_at h]
theorem pay32_at (r : Fin 512) (j : Fin 512) : k0_pay32 x4 (k0_pay13 x6) (ix2 r j) = M a (s r) j * rinv (1 / 512) (M a (s r)) * a.mn (ix1 j) := by
  pointwise [k0_pay32, k0_pay13, pay31_at h, h.mn]

/-! ## The cotangents through the projection -/

theorem pay33_at (r : Fin 512) (j : Fin 512) : k0_pay33 x0 (k0_pay10 x8) (ix2 r j) = g2 a (s r) j := by
  pointwise [k0_pay33, k0_pay10, h.dx, h.wb, g2]
theorem pay34_at (r : Fin 512) (j : Fin 512) : k0_pay34 x0 (k0_pay9 x7) (ix2 r j) = g1 a (s r) j := by
  pointwise [k0_pay34, k0_pay9, h.dx, h.wa, g1]
theorem pay35_at (j : Fin 512) : k0_pay35 x0 x4 (k0_pay10 x8) (ix2 0 j) = ∑ r : Fin 512, dmnTerm a (s r) j := by
  pointwise [k0_pay35, pay31_at h, pay33_at h, dmnTerm]
theorem pay36_at (r : Fin 512) (j : Fin 512) : k0_pay36 x0 (k0_pay10 x8) (k0_pay13 x6) (ix2 r j) = c2 a (s r) j := by
  pointwise [k0_pay36, k0_pay13, pay33_at h, h.mn, c2]
theorem pay37_at (r : Fin 512) :
    k0_pay37 x0 x4 (k0_pay10 x8) (k0_pay13 x6) (ix1 r) = ∑ j : Fin 512, M a (s r) j * c2 a (s r) j := by
  pointwise [k0_pay37, pay36_at h, h.mo]
theorem pay38_at (r : Fin 512) (j : Fin 512) :
    k0_pay38 x4 (k0_pay29 x4) (k0_pay30 x4) (k0_pay36 x0 (k0_pay10 x8) (k0_pay13 x6)) (k0_pay37 x0 x4 (k0_pay10 x8) (k0_pay13 x6)) (ix2 r j)
      = dmo a (s r) j := by
  pointwise [k0_pay38, pay29_at h, pay30_at h, pay36_at h, pay37_at h, h.mo, dmo, grad, through, ofBits_inv512]
  simp only [Fin.sum_univ_one, pay30_at h]
theorem pay39_at (j : Fin 512) : k0_pay39 (k0_pay26 (k0_pay14 x1 x2) (k0_pay15 x3) (k0_pay18 x3)) (k0_pay34 x0 (k0_pay9 x7)) (ix2 0 j)
    = ∑ r : Fin 512, dlnTerm a (s r) j := by
  pointwise [k0_pay39, pay26_at h, pay34_at h, dlnTerm]
theorem pay40_at (r : Fin 512) (j : Fin 512) :
    k0_pay40 (k0_pay12 x5) (k0_pay22 (k0_pay14 x1 x2) (k0_pay15 x3) (k0_pay18 x3)) (k0_pay24 (k0_pay14 x1 x2) (k0_pay15 x3) (k0_pay18 x3))
      (k0_pay25 (k0_pay14 x1 x2) (k0_pay15 x3) (k0_pay18 x3)) (k0_pay34 x0 (k0_pay9 x7)) (ix2 r j) = dX a (s r) j := by
  pointwise [k0_pay40, k0_pay12, pay22_at h, pay24_at h, pay25_at h, pay34_at h, h.ln, dX, grad, through, c1, ofBits_inv512]
  simp only [Fin.sum_univ_one, pay25_at h]

/-! ## What is stored -/

theorem dh_at (r : Fin 512) (j : Fin 512) :
    k0_pay42 (k0_pay12 x5) (k0_pay21 (k0_pay15 x3) (k0_pay18 x3)) (k0_pay22 (k0_pay14 x1 x2) (k0_pay15 x3) (k0_pay18 x3))
      (k0_pay24 (k0_pay14 x1 x2) (k0_pay15 x3) (k0_pay18 x3)) (k0_pay25 (k0_pay14 x1 x2) (k0_pay15 x3) (k0_pay18 x3))
      (k0_pay34 x0 (k0_pay9 x7)) (ix2 r j) = dh a (s r) j := by
  pointwise [k0_pay42, pay40_at h, pay21_at h, dh]
theorem pay41_at (r : Fin 512) (j : Fin 512) :
    k0_pay41 (k0_pay12 x5) (k0_pay14 x1 x2) (k0_pay22 (k0_pay14 x1 x2) (k0_pay15 x3) (k0_pay18 x3))
      (k0_pay24 (k0_pay14 x1 x2) (k0_pay15 x3) (k0_pay18 x3)) (k0_pay25 (k0_pay14 x1 x2) (k0_pay15 x3) (k0_pay18 x3))
      (k0_pay34 x0 (k0_pay9 x7)) (ix2 r j) = dgel a (s r) j := by
  pointwise [k0_pay41, pay40_at h, pay14_at h, dgel]
theorem dy_at (r : Fin 512) (j : Fin 512) :
    k0_pay45
      (k0_pay43 (k0_pay11 x3) (k0_pay12 x5) (k0_pay14 x1 x2) (k0_pay15 x3) (k0_pay16 x3) (k0_pay17 x3) (k0_pay19 x3)
        (k0_pay22 (k0_pay14 x1 x2) (k0_pay15 x3) (k0_pay18 x3)) (k0_pay24 (k0_pay14 x1 x2) (k0_pay15 x3) (k0_pay18 x3))
        (k0_pay25 (k0_pay14 x1 x2) (k0_pay15 x3) (k0_pay18 x3)) (k0_pay34 x0 (k0_pay9 x7)))
      (k0_pay44 (k0_pay12 x5) (k0_pay14 x1 x2) (k0_pay20 (k0_pay18 x3)) (k0_pay22 (k0_pay14 x1 x2) (k0_pay15 x3) (k0_pay18 x3))
        (k0_pay24 (k0_pay14 x1 x2) (k0_pay15 x3) (k0_pay18 x3)) (k0_pay25 (k0_pay14 x1 x2) (k0_pay15 x3) (k0_pay18 x3))
        (k0_pay34 x0 (k0_pay9 x7))) (ix2 r j) = dy a (s r) j := by
  pointwise [k0_pay45, k0_pay43, k0_pay44, k0_pay11, pay41_at h, pay15_at h, pay16_at h, pay17_at h, pay19_at h, pay20_at h, h.yg, dy, B, slope, cub, half]
theorem dln_at (v : Vec Ideal S1x512 .f32) (j : Fin 512) :
    k0_pay46 (k0_pay39 (k0_pay26 (k0_pay14 x1 x2) (k0_pay15 x3) (k0_pay18 x3)) (k0_pay34 x0 (k0_pay9 x7))) v (ix2 0 j)
      = v (ix2 0 j) + ∑ r : Fin 512, dlnTerm a (s r) j := by
  pointwise [k0_pay46, pay39_at h]
theorem dmn_at (v : Vec Ideal S1x512 .f32) (j : Fin 512) :
    k0_pay47 (k0_pay35 x0 x4 (k0_pay10 x8)) v (ix2 0 j) = v (ix2 0 j) + ∑ r : Fin 512, dmnTerm a (s r) j := by
  pointwise [k0_pay47, pay35_at h]
theorem dwa_at (v : Vec Ideal S512x1024 .f32) (j : Fin 512) (k : Fin 1024) :
    k0_pay48 x0 (k0_pay27 (k0_pay12 x5) (k0_pay14 x1 x2) (k0_pay15 x3) (k0_pay18 x3)) v (ix2 j k)
      = v (ix2 j k) + ∑ r : Fin 512, dwaTerm a (s r) j k := by
  pointwise [k0_pay48, pay27_at h, h.dx, dwaTerm]
theorem dwb_at (v : Vec Ideal S512x1024 .f32) (j : Fin 512) (k : Fin 1024) :
    k0_pay49 x0 (k0_pay32 x4 (k0_pay13 x6)) v (ix2 j k) = v (ix2 j k) + ∑ r : Fin 512, dwbTerm a (s r) j k := by
  pointwise [k0_pay49, pay32_at h, h.dx, dwbTerm]

end

/-! ## The sums of do·o, per head -/

section
variable {v92 : FVec Ideal S512x512 .f32} (hd : ∀ r j, v92 (ix2 r j) = dmo a (s r) j) (hm : ∀ r j, x4 (ix2 r j) = M a (s r) j)
include hd hm

theorem pay50_at (r : Fin 512) (j : Fin 512) : k0_pay50 x4 v92 (ix2 r j) = dmo a (s r) j * M a (s r) j := by
  pointwise [k0_pay50, hd, hm]
theorem pay52_at (r : Fin 512) : k0_pay52 (k0_pay51 x4 v92) (ix3 0 0 r) = delta a 0 0 (s r) := by
  pointwise [k0_pay52, k0_pay51, pay50_at hd hm, delta, headcol]
theorem pay53_at (r : Fin 512) : k0_pay53 (k0_pay51 x4 v92) (ix3 0 0 r) = delta a 0 1 (s r) := by
  pointwise [k0_pay53, k0_pay51, pay50_at hd hm, delta, headcol]
theorem pay55_at (r : Fin 512) : k0_pay55 (k0_pay50 x4 v92) (ix3 0 0 r) = delta a 1 0 (s r) := by
  pointwise [k0_pay55, k0_pay54, pay50_at hd hm, delta, headcol]
theorem pay56_at (r : Fin 512) : k0_pay56 (k0_pay50 x4 v92) (ix3 0 0 r) = delta a 1 1 (s r) := by
  pointwise [k0_pay56, k0_pay54, pay50_at hd hm, delta, headcol]
  simp only [← Nat.add_assoc, Nat.reduceAdd]
theorem pay58_at (r : Fin 512) : k0_pay58 (k0_pay50 x4 v92) (ix3 0 0 r) = delta a 2 0 (s r) := by
  pointwise [k0_pay58, k0_pay57, pay50_at hd hm, delta, headcol]
theorem pay1_at (r : Fin 512) : k0_pay1 (k0_pay59 (k0_pay50 x4 v92)) (ix3 0 0 r) = delta a 2 1 (s r) := by
  pointwise [k0_pay1, k0_pay59, k0_pay57, pay50_at hd hm, delta, headcol]
  simp only [← Nat.add_assoc, Nat.reduceAdd]
theorem pay3_at (r : Fin 512) : k0_pay3 (k0_pay50 x4 v92) (ix3 0 0 r) = delta a 3 0 (s r) := by
  pointwise [k0_pay3, k0_pay2, pay50_at hd hm, delta, headcol]
theorem pay4_at (r : Fin 512) : k0_pay4 (k0_pay50 x4 v92) (ix3 0 0 r) = delta a 3 1 (s r) := by
  pointwise [k0_pay4, k0_pay2, pay50_at hd hm, delta, headcol]
  simp only [← Nat.add_assoc, Nat.reduceAdd]

end

end Cert.Mix

end
-- ==== Proof.Mix.Kernel.lean ====
/-
What the eight results hold after the run of `_mix_bwd`.
-/
module

public import proofs.«01_k».proof.Proof.Gen.KernelMixIdeal.Value
public import proofs.«01_k».proof.Proof.Mix.Point
public import Idealize.ShloMosaic.Lib.Pipeline.ReadBack
public import Idealize.ShloMosaic.Lib.Pipeline.ValueKit

@[expose] public section

set_option maxRecDepth 16384

noncomputable section

namespace Cert.Mix

open Idealize.ShloMosaic Idealize.ShloMosaic.TcCoe Idealize.SL.Sem
open Idealize.ShloMosaic.Pipeline (Dat)
open Cert.KernelMixIdeal Cert.KernelMixIdeal.Gen Cert.Rms Cert.Ffn Cert.Norm

variable (m : (ℓ : Loc nD τ sig) → Buf (Elt Ideal) ℓ)

/-- The kernel's arguments on device `c`. -/
def args (c : Dev nD) : Args where
  dx1 := m ((c : Thread nD τ).loc main_arg0)
  hf := m ((c : Thread nD τ).loc main_arg1)
  hb := m ((c : Thread nD τ).loc main_arg2)
  proj := m ((c : Thread nD τ).loc main_arg3)
  mo := m ((c : Thread nD τ).loc main_arg4)
  ln := m ((c : Thread nD τ).loc main_arg5)
  mn := m ((c : Thread nD τ).loc main_arg6)
  w := m ((c : Thread nD τ).loc main_arg7)

theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![0, 0] ∧ win0_6.index t = ![0, 0]
    ∧ win0_7.index t = ![0, 0] ∧ win0_8.index t = ![0, 0] ∧ win0_9.index t = ![t.val, 0] ∧ win0_10.index t = ![t.val, 0]
    ∧ win0_11.index t = ![t.val, 0] ∧ win0_12.index t = ![0, 0, t.val] ∧ win0_13.index t = ![0, 0] ∧ win0_14.index t = ![0, 0]
    ∧ win0_15.index t = ![0, 0] ∧ win0_16.index t = ![0, 0] := (by decide +kernel : ∀ t : Fin grid0.N, _)

/-- Row `r` of grid point `t`'s block. -/
def row (t : Fin cfg0.N) (r : Fin 512) : Fin 8192 := ⟨t.val * 512 + r.val, by have := lt_of_lt_of_eq t.isLt N_0; omega⟩

/-- What the host hands over: the projection with columns of zeros, the gains as rows, the weight's halves. -/
theorem entry_proj (c : Dev nD) (s : Fin 8192) (j : Fin 512) :
    V m c main_v0 (ix2 s ⟨512 + j.val, by omega⟩) = y (args m c) s j := by
  unfold V
  simp only [hostOps0, hostOps0_1, hostOps0_2, List.flatten_cons, List.flatten_nil, List.cons_append, List.nil_append]
  after_results
  change pad S8192x1536 ![0, 0] ![0, 96] ![0, 0] (args m c).proj (sitofp (F := Ideal) .f32 (constantI S_ 32 0#32))
    pads_S8192x1440_S8192x1536_000_0960 h_S_ (ix2 s ⟨512 + j.val, by omega⟩) = _
  pointwise [y]
  exact dif_pos (by omega)

theorem entry_ln (c : Dev nD) (j : Fin 512) : V m c main_v2 (ix2 0 j) = (args m c).ln (ix1 j) := by
  unfold V
  simp only [hostOps0, hostOps0_1, hostOps0_2, List.flatten_cons, List.flatten_nil, List.cons_append, List.nil_append]
  after_results
  pointwise [args]

theorem entry_mn (c : Dev nD) (j : Fin 512) : V m c main_v3 (ix2 0 j) = (args m c).mn (ix1 j) := by
  unfold V
  simp only [hostOps0, hostOps0_1, hostOps0_2, List.flatten_cons, List.flatten_nil, List.cons_append, List.nil_append]
  after_results
  pointwise [args]

theorem entry_wa (c : Dev nD) (j : Fin 512) (k : Fin 1024) : V m c main_v4 (ix2 j k) = (args m c).w (ix2 (lo j) k) := by
  unfold V
  simp only [hostOps0, hostOps0_1, hostOps0_2, List.flatten_cons, List.flatten_nil, List.cons_append, List.nil_append]
  after_results
  pointwise [args, lo]

theorem entry_wb (c : Dev nD) (j : Fin 512) (k : Fin 1024) : V m c main_v5 (ix2 j k) = (args m c).w (ix2 (hi j) k) := by
  unfold V
  simp only [hostOps0, hostOps0_1, hostOps0_2, List.flatten_cons, List.flatten_nil, List.cons_append, List.nil_append]
  after_results
  pointwise [args, hi]

theorem blocks (c : Dev nD) (t : Fin cfg0.N) :
    Blocks (args m c) (row t) (iblk m c 0 t) (iblk m c 1 t) (iblk m c 2 t) (iblk m c 3 t) (iblk m c 4 t) (iblk m c 5 t)
      (iblk m c 6 t) (iblk m c 7 t) (iblk m c 8 t) where
  dx r k := by blk_point [iblk, V, args, row, idx t]
  hf r j := by blk_point [iblk, V, args, row, idx t]
  hb r j := by blk_point [iblk, V, args, row, idx t]
  yg r j := by rw [← entry_proj m c (row t r) j]; blk_point [iblk, row, idx t]
  mo r j := by unfold M; blk_point [iblk, V, args, row, idx t]
  ln j := by rw [← entry_ln m c j]; blk_point [iblk, idx t]
  mn j := by rw [← entry_mn m c j]; blk_point [iblk, idx t]
  wa j k := by rw [← entry_wa m c j k]; blk_point [iblk, idx t]
  wb j k := by rw [← entry_wb m c j k]; blk_point [iblk, idx t]

/-- Where grid point `t`'s blocks of the results by rows lie. -/
theorem emb9 (t : Fin cfg0.N) (y0 y1 : Fin 512) : ((cfg0.win 9).blk t).view.emb (ix2 y0 y1) = ix2 (row t y0) y1 := by blk_ext [row, idx t]
theorem emb10 (t : Fin cfg0.N) (y0 y1 : Fin 512) : ((cfg0.win 10).blk t).view.emb (ix2 y0 y1) = ix2 (row t y0) y1 := by blk_ext [row, idx t]
theorem emb11 (t : Fin cfg0.N) (y0 y1 : Fin 512) : ((cfg0.win 11).blk t).view.emb (ix2 y0 y1) = ix2 (row t y0) y1 := by blk_ext [row, idx t]
theorem emb12 (t : Fin cfg0.N) (p : Fin 4) (z : Fin 2) (r : Fin 512) : ((cfg0.win 12).blk t).view.emb (ix3 p z r) = ix3 p z (row t r) := by
  blk_ext [row, idx t]

theorem final_dh (c : Dev nD) : (dats m 0 c).arrAt 9 cfg0.N = fun i => dh (args m c) (i 0) (i 1) := by
  refine (dats m 0 c).arrAt_eq_of_covers 9 _ (by decide +kernel) fun t _ y => ?_
  idx_vars y
  rw [emb9 t y0 y1]
  blk_simp
  rw [after0_9]
  by_cases h : t.val % 16 = 0
  · rw [outsAt0_A m c t h]; frame_out
    exact dh_at (blocks m c t) y0 y1
  · rw [outsAt0_B m c t h]; frame_out
    exact dh_at (blocks m c t) y0 y1

theorem final_dy (c : Dev nD) : (dats m 0 c).arrAt 10 cfg0.N = fun i => dy (args m c) (i 0) (i 1) := by
  refine (dats m 0 c).arrAt_eq_of_covers 10 _ (by decide +kernel) fun t _ y => ?_
  idx_vars y
  rw [emb10 t y0 y1]
  blk_simp
  rw [after0_10]
  by_cases h : t.val % 16 = 0
  · rw [outsAt0_A m c t h]; frame_out
    exact dy_at (blocks m c t) y0 y1
  · rw [outsAt0_B m c t h]; frame_out
    exact dy_at (blocks m c t) y0 y1

theorem final_dmo (c : Dev nD) : (dats m 0 c).arrAt 11 cfg0.N = fun i => dmo (args m c) (i 0) (i 1) := by
  refine (dats m 0 c).arrAt_eq_of_covers 11 _ (by decide +kernel) fun t _ y => ?_
  idx_vars y
  rw [emb11 t y0 y1]
  blk_simp
  rw [after0_11]
  by_cases h : t.val % 16 = 0
  · rw [outsAt0_A m c t h]; frame_out
    exact pay38_at (blocks m c t) y0 y1
  · rw [outsAt0_B m c t h]; frame_out
    exact pay38_at (blocks m c t) y0 y1

/-- The attention output's gradient at a point. -/
def dmoV (c : Dev nD) (t : Fin cfg0.N) : FVec Ideal S512x512 .f32 :=
  k0_pay38 (iblk m c 4 t) (k0_pay29 (iblk m c 4 t)) (k0_pay30 (iblk m c 4 t)) (k0_pay36 (iblk m c 0 t) (k0_pay10 (iblk m c 8 t)) (k0_pay13 (iblk m c 6 t)))
    (k0_pay37 (iblk m c 0 t) (iblk m c 4 t) (k0_pay10 (iblk m c 8 t)) (k0_pay13 (iblk m c 6 t)))

theorem hd (c : Dev nD) (t : Fin cfg0.N) (r j : Fin 512) : dmoV m c t (ix2 r j) = dmo (args m c) (row t r) j := pay38_at (blocks m c t) r j

/-- The eight rows stored by a point: one for each head. -/
theorem delta_tiles (c : Dev nD) (t : Fin cfg0.N) (p : Fin 4) (z : Fin 2) (r : Fin 512) :
    View.canon (Val := Elt Ideal) (e := .f32) (s := S4x2x512)
      [⟨Rect.unit ![3, 1, 0] ![1, 1, 512] inb_S4x2x512_S1x1x512_3_1_0, k0_pay4 (k0_pay50 (iblk m c 4 t) (dmoV m c t))⟩,
        ⟨Rect.unit ![3, 0, 0] ![1, 1, 512] inb_S4x2x512_S1x1x512_3_0_0, k0_pay3 (k0_pay50 (iblk m c 4 t) (dmoV m c t))⟩,
        ⟨Rect.unit ![2, 1, 0] ![1, 1, 512] inb_S4x2x512_S1x1x512_2_1_0, k0_pay1 (k0_pay59 (k0_pay50 (iblk m c 4 t) (dmoV m c t)))⟩,
        ⟨Rect.unit ![2, 0, 0] ![1, 1, 512] inb_S4x2x512_S1x1x512_2_0_0, k0_pay58 (k0_pay50 (iblk m c 4 t) (dmoV m c t))⟩,
        ⟨Rect.unit ![1, 1, 0] ![1, 1, 512] inb_S4x2x512_S1x1x512_1_1_0, k0_pay56 (k0_pay50 (iblk m c 4 t) (dmoV m c t))⟩,
        ⟨Rect.unit ![1, 0, 0] ![1, 1, 512] inb_S4x2x512_S1x1x512_1_0_0, k0_pay55 (k0_pay50 (iblk m c 4 t) (dmoV m c t))⟩,
        ⟨Rect.unit ![0, 1, 0] ![1, 1, 512] inb_S4x2x512_S1x1x512_0_1_0, k0_pay53 (k0_pay51 (iblk m c 4 t) (dmoV m c t))⟩,
        ⟨Rect.unit ![0, 0, 0] ![1, 1, 512] inb_S4x2x512_S1x1x512_0_0_0, k0_pay52 (k0_pay51 (iblk m c 4 t) (dmoV m c t))⟩] (ix3 p z r) = delta (args m c) p z (row t r) := by
  canon_tiles x h
  case piece0 =>
    idx_vars x
    obtain rfl := Fin.fin_one_eq_zero x0
    obtain rfl := Fin.fin_one_eq_zero x1
    obtain rfl : p = 3 := Fin.ext h0
    obtain rfl : z = 1 := Fin.ext h1
    obtain rfl : r = x2 := Fin.ext h2
    exact pay4_at (hd m c t) (blocks m c t).mo r
  case piece1 =>
    idx_vars x
    obtain rfl := Fin.fin_one_eq_zero x0
    obtain rfl := Fin.fin_one_eq_zero x1
    obtain rfl : p = 3 := Fin.ext h0
    obtain rfl : z = 0 := Fin.ext h1
    obtain rfl : r = x2 := Fin.ext h2
    exact pay3_at (hd m c t) (blocks m c t).mo r
  case piece2 =>
    idx_vars x
    obtain rfl := Fin.fin_one_eq_zero x0
    obtain rfl := Fin.fin_one_eq_zero x1
    obtain rfl : p = 2 := Fin.ext h0
    obtain rfl : z = 1 := Fin.ext h1
    obtain rfl : r = x2 := Fin.ext h2
    exact pay1_at (hd m c t) (blocks m c t).mo r
  case piece3 =>
    idx_vars x
    obtain rfl := Fin.fin_one_eq_zero x0
    obtain rfl := Fin.fin_one_eq_zero x1
    obtain rfl : p = 2 := Fin.ext h0
    obtain rfl : z = 0 := Fin.ext h1
    obtain rfl : r = x2 := Fin.ext h2
    exact pay58_at (hd m c t) (blocks m c t).mo r
  case piece4 =>
    idx_vars x
    obtain rfl := Fin.fin_one_eq_zero x0
    obtain rfl := Fin.fin_one_eq_zero x1
    obtain rfl : p = 1 := Fin.ext h0
    obtain rfl : z = 1 := Fin.ext h1
    obtain rfl : r = x2 := Fin.ext h2
    exact pay56_at (hd m c t) (blocks m c t).mo r
  case piece5 =>
    idx_vars x
    obtain rfl := Fin.fin_one_eq_zero x0
    obtain rfl := Fin.fin_one_eq_zero x1
    obtain rfl : p = 1 := Fin.ext h0
    obtain rfl : z = 0 := Fin.ext h1
    obtain rfl : r = x2 := Fin.ext h2
    exact pay55_at (hd m c t) (blocks m c t).mo r
  case piece6 =>
    idx_vars x
    obtain rfl := Fin.fin_one_eq_zero x0
    obtain rfl := Fin.fin_one_eq_zero x1
    obtain rfl : p = 0 := Fin.ext h0
    obtain rfl : z = 1 := Fin.ext h1
    obtain rfl : r = x2 := Fin.ext h2
    exact pay53_at (hd m c t) (blocks m c t).mo r
  case piece7 =>
    idx_vars x
    obtain rfl := Fin.fin_one_eq_zero x0
    obtain rfl := Fin.fin_one_eq_zero x1
    obtain rfl : p = 0 := Fin.ext h0
    obtain rfl : z = 0 := Fin.ext h1
    obtain rfl : r = x2 := Fin.ext h2
    exact pay52_at (hd m c t) (blocks m c t).mo r

theorem final_delta (c : Dev nD) : (dats m 0 c).arrAt 12 cfg0.N = fun i => delta (args m c) (i 0) (i 1) (i 2) := by
  refine (dats m 0 c).arrAt_eq_of_covers 12 _ (by decide +kernel) fun t _ y => ?_
  idx_vars y
  rw [emb12 t y0 y1 y2]
  blk_simp
  rw [after0_12]
  by_cases h : t.val % 16 = 0
  · rw [outsAt0_A m c t h]; frame_out
    exact delta_tiles m c t y0 y1 y2
  · rw [outsAt0_B m c t h]; frame_out
    exact delta_tiles m c t y0 y1 y2

/-- What a grid point adds to the gains' and the weight's gradients. -/
def lnTerm (a : Args) (t : Fin cfg0.N) (i : S1x512.Idx) : EReal := ∑ r : Fin 512, dlnTerm a (row t r) (i 1)
def mnTerm (a : Args) (t : Fin cfg0.N) (i : S1x512.Idx) : EReal := ∑ r : Fin 512, dmnTerm a (row t r) (i 1)
def waTerm (a : Args) (t : Fin cfg0.N) (i : S512x1024.Idx) : EReal := ∑ r : Fin 512, dwaTerm a (row t r) (i 0) (i 1)
def wbTerm (a : Args) (t : Fin cfg0.N) (i : S512x1024.Idx) : EReal := ∑ r : Fin 512, dwbTerm a (row t r) (i 0) (i 1)

theorem ln_first (c : Dev nD) (t : Fin cfg0.N) (h : t.val % 16 = 0) (i : S1x512.Idx) :
    (show EReal from (outsAt0 m c t.val t.isLt).2.2.2.2.1 i) = 0 + lnTerm (args m c) t i := by
  idx_vars i
  obtain rfl := Fin.fin_one_eq_zero i0
  rw [outsAt0_A m c t h]; frame_out
  refine (dln_at (blocks m c t) _ i1).trans ?_
  rw [lnTerm]; congr 1
  pointwise [k0_pay5]

theorem ln_next (c : Dev nD) (t : Fin cfg0.N) (h : ¬t.val % 16 = 0) (i : S1x512.Idx) :
    (show EReal from (outsAt0 m c t.val t.isLt).2.2.2.2.1 i)
      = (show EReal from (outsAt0 m c (t.val - 1) (Nat.lt_of_le_of_lt (Nat.sub_le _ _) t.isLt)).2.2.2.2.1 i) + lnTerm (args m c) t i := by
  idx_vars i
  obtain rfl := Fin.fin_one_eq_zero i0
  rw [outsAt0_B m c t h]; frame_out
  exact dln_at (blocks m c t) _ i1

theorem mn_first (c : Dev nD) (t : Fin cfg0.N) (h : t.val % 16 = 0) (i : S1x512.Idx) :
    (show EReal from (outsAt0 m c t.val t.isLt).2.2.2.2.2.1 i) = 0 + mnTerm (args m c) t i := by
  idx_vars i
  obtain rfl := Fin.fin_one_eq_zero i0
  rw [outsAt0_A m c t h]; frame_out
  refine (dmn_at (blocks m c t) _ i1).trans ?_
  rw [mnTerm]; congr 1
  pointwise [k0_pay6]

theorem mn_next (c : Dev nD) (t : Fin cfg0.N) (h : ¬t.val % 16 = 0) (i : S1x512.Idx) :
    (show EReal from (outsAt0 m c t.val t.isLt).2.2.2.2.2.1 i)
      = (show EReal from (outsAt0 m c (t.val - 1) (Nat.lt_of_le_of_lt (Nat.sub_le _ _) t.isLt)).2.2.2.2.2.1 i) + mnTerm (args m c) t i := by
  idx_vars i
  obtain rfl := Fin.fin_one_eq_zero i0
  rw [outsAt0_B m c t h]; frame_out
  exact dmn_at (blocks m c t) _ i1

theorem wa_first (c : Dev nD) (t : Fin cfg0.N) (h : t.val % 16 = 0) (i : S512x1024.Idx) :
    (show EReal from (outsAt0 m c t.val t.isLt).2.2.2.2.2.2.1 i) = 0 + waTerm (args m c) t i := by
  idx_vars i
  rw [outsAt0_A m c t h]; frame_out
  refine (dwa_at (blocks m c t) _ i0 i1).trans ?_
  rw [waTerm]; congr 1
  pointwise [k0_pay7]

theorem wa_next (c : Dev nD) (t : Fin cfg0.N) (h : ¬t.val % 16 = 0) (i : S512x1024.Idx) :
    (show EReal from (outsAt0 m c t.val t.isLt).2.2.2.2.2.2.1 i)
      = (show EReal from (outsAt0 m c (t.val - 1) (Nat.lt_of_le_of_lt (Nat.sub_le _ _) t.isLt)).2.2.2.2.2.2.1 i) + waTerm (args m c) t i := by
  idx_vars i
  rw [outsAt0_B m c t h]; frame_out
  exact dwa_at (blocks m c t) _ i0 i1

theorem wb_first (c : Dev nD) (t : Fin cfg0.N) (h : t.val % 16 = 0) (i : S512x1024.Idx) :
    (show EReal from (outsAt0 m c t.val t.isLt).2.2.2.2.2.2.2 i) = 0 + wbTerm (args m c) t i := by
  idx_vars i
  rw [outsAt0_A m c t h]; frame_out
  refine (dwb_at (blocks m c t) _ i0 i1).trans ?_
  rw [wbTerm]; congr 1
  pointwise [k0_pay8]

theorem wb_next (c : Dev nD) (t : Fin cfg0.N) (h : ¬t.val % 16 = 0) (i : S512x1024.Idx) :
    (show EReal from (outsAt0 m c t.val t.isLt).2.2.2.2.2.2.2 i)
      = (show EReal from (outsAt0 m c (t.val - 1) (Nat.lt_of_le_of_lt (Nat.sub_le _ _) t.isLt)).2.2.2.2.2.2.2 i) + wbTerm (args m c) t i := by
  idx_vars i
  rw [outsAt0_B m c t h]; frame_out
  exact dwb_at (blocks m c t) _ i0 i1

/-- The sum of a term over all rows, block by block. -/
theorem sum_rows (f : Fin 8192 → EReal) : ∑ t : Fin cfg0.N, ∑ r : Fin 512, f (row t r) = ∑ s : Fin 8192, f s :=
  Fin.sum_mul_add_fin cfg0.N 512 f (by decide +kernel)

theorem final_ln (c : Dev nD) : (dats m 0 c).arrAt 13 cfg0.N = fun i => dln (args m c) (i 1) := by
  refine (dats m 0 c).arrAt_eq_of_after_last 13 t0_15 (by decide +kernel) _ fun j => ?_
  idx_vars j
  blk_simp
  rw [after0_13]
  refine (Pipeline.eq_sum_fin_of_reset_step_apply_last (f := fun n h i => (show EReal from (outsAt0 m c n h).2.2.2.2.1 i)) 16 (fun _ => 0)
      (lnTerm (args m c)) (ln_first m c) (ln_next m c) (le_of_eq N_0) t0_15 rfl (ix2 j0 j1)).trans ?_
  rw [zero_add]
  exact sum_rows fun s => dlnTerm (args m c) s j1

theorem final_mn (c : Dev nD) : (dats m 0 c).arrAt 14 cfg0.N = fun i => dmn (args m c) (i 1) := by
  refine (dats m 0 c).arrAt_eq_of_after_last 14 t0_15 (by decide +kernel) _ fun j => ?_
  idx_vars j
  blk_simp
  rw [after0_14]
  refine (Pipeline.eq_sum_fin_of_reset_step_apply_last (f := fun n h i => (show EReal from (outsAt0 m c n h).2.2.2.2.2.1 i)) 16 (fun _ => 0)
      (mnTerm (args m c)) (mn_first m c) (mn_next m c) (le_of_eq N_0) t0_15 rfl (ix2 j0 j1)).trans ?_
  rw [zero_add]
  exact sum_rows fun s => dmnTerm (args m c) s j1

theorem final_wa (c : Dev nD) : (dats m 0 c).arrAt 15 cfg0.N = fun i => dwa (args m c) (i 0) (i 1) := by
  refine (dats m 0 c).arrAt_eq_of_after_last 15 t0_15 (by decide +kernel) _ fun j => ?_
  idx_vars j
  blk_simp
  rw [after0_15]
  refine (Pipeline.eq_sum_fin_of_reset_step_apply_last (f := fun n h i => (show EReal from (outsAt0 m c n h).2.2.2.2.2.2.1 i)) 16 (fun _ => 0)
      (waTerm (args m c)) (wa_first m c) (wa_next m c) (le_of_eq N_0) t0_15 rfl (ix2 j0 j1)).trans ?_
  rw [zero_add]
  exact sum_rows fun s => dwaTerm (args m c) s j0 j1

theorem final_wb (c : Dev nD) : (dats m 0 c).arrAt 16 cfg0.N = fun i => dwb (args m c) (i 0) (i 1) := by
  refine (dats m 0 c).arrAt_eq_of_after_last 16 t0_15 (by decide +kernel) _ fun j => ?_
  idx_vars j
  blk_simp
  rw [after0_16]
  refine (Pipeline.eq_sum_fin_of_reset_step_apply_last (f := fun n h i => (show EReal from (outsAt0 m c n h).2.2.2.2.2.2.2 i)) 16 (fun _ => 0)
      (wbTerm (args m c)) (wb_first m c) (wb_next m c) (le_of_eq N_0) t0_15 rfl (ix2 j0 j1)).trans ?_
  rw [zero_add]
  exact sum_rows fun s => dwbTerm (args m c) s j0 j1

end Cert.Mix

end
-- ==== Proof.Mix.Reference.lean ====
/-
The reference's results, entry by entry.
-/
module

public import proofs.«01_k».proof.Proof.Mix.Closed
public import proofs.«01_k».proof.Proof.Gen.ReferenceMixIdeal.Read
public import Idealize.ShloMosaic.Lib.Pointwise

@[expose] public section

set_option maxRecDepth 16384

noncomputable section

namespace Cert.Mix

open Idealize.ShloMosaic Idealize.ShloMosaic.TcCoe Idealize.SL.Sem
open Cert.Rms Cert.Ffn Cert.Norm
open Cert.ReferenceMixIdeal.Read

variable (a : Args)

theorem ref_st (s : Fin 8192) (j : Fin 512) : val_main_v0 (F := Ideal) a.hf a.hb (ix2 s j) = st a s j := by pointwise [val_main_v0, st]
theorem ref_y (s : Fin 8192) (j : Fin 512) : val_main_v1 (F := Ideal) a.proj (ix2 s j) = y a s j := by pointwise [val_main_v1, y]

theorem ref_th (s : Fin 8192) (j : Fin 512) : val_main_v12 (F := Ideal) a.proj (ix2 s j) = th a s j := by
  pointwise [val_main_v12, val_main_v11, val_main_v10, val_main_v9, val_main_v8, val_main_v7, val_main_v3, val_main_v2, val_main_cst_0,
    val_main_cst_1, ref_y, th, slope, cub]
  simp only [mul_assoc]

theorem ref_half (s : Fin 8192) (j : Fin 512) : val_main_v21 (F := Ideal) a.proj (ix2 s j) = half * (one + th a s j) := by
  pointwise [val_main_v21, val_main_v20, val_main_v19, val_main_v18, val_main_cst_4, val_main_cst_5, ref_th, half, one]

theorem ref_gel (s : Fin 8192) (j : Fin 512) : val_main_v22 (F := Ideal) a.proj (ix2 s j) = gel a s j := by
  pointwise [val_main_v22, ref_half, ref_y, gel]
  rw [mul_left_comm, ← mul_assoc]

theorem ref_X (s : Fin 8192) (j : Fin 512) : val_main_v23 (F := Ideal) a.hf a.hb a.proj (ix2 s j) = X a s j := by
  pointwise [val_main_v23, ref_st, ref_gel, X]

theorem ref_var (s : Fin 8192) : val_main_v30 (F := Ideal) a.hf a.hb a.proj (ix2 s 0) = var (1 / 512) (X a s) := by
  pointwise [val_main_v30, val_main_v29, val_main_v28, val_main_v27, val_main_v26, val_main_v25, val_main_v24, val_main_cst_6, val_main_cst_7,
    val_main_cst_8, ref_X, var, ofBits_eps, ofBits_512]
  rw [div_coe' _ (by norm_num)]
theorem ref_inv (s : Fin 8192) : val_main_v31 (F := Ideal) a.hf a.hb a.proj (ix2 s 0) = rinv (1 / 512) (X a s) := by
  pointwise [val_main_v31, ref_var, rinv]
theorem ref_rate (s : Fin 8192) : val_main_v34 (F := Ideal) a.hf a.hb a.proj (ix2 s 0) = rate (1 / 512) (X a s) := by
  pointwise [val_main_v34, val_main_v33, val_main_v32, val_main_cst_9, ref_inv, ref_var, rate, ofBits_neg_half]
theorem ref_hat (s : Fin 8192) (j : Fin 512) : val_main_v36 (F := Ideal) a.hf a.hb a.proj (ix2 s j) = X a s j * rinv (1 / 512) (X a s) := by
  pointwise [val_main_v36, val_main_v35, ref_X, ref_inv]
theorem ref_n1 (s : Fin 8192) (j : Fin 512) :
    val_main_v39 (F := Ideal) a.hf a.hb a.proj a.ln (ix2 s j) = X a s j * rinv (1 / 512) (X a s) * a.ln (ix1 j) := by
  pointwise [val_main_v39, val_main_v38, val_main_v37, ref_hat]

theorem ref_var' (s : Fin 8192) : val_main_v46 (F := Ideal) a.mo (ix2 s 0) = var (1 / 512) (M a s) := by
  pointwise [val_main_v46, val_main_v45, val_main_v44, val_main_v43, val_main_v42, val_main_v41, val_main_v40, val_main_cst_10, val_main_cst_11,
    val_main_cst_12, var, M, ofBits_eps, ofBits_512]
  rw [div_coe' _ (by norm_num)]
theorem ref_inv' (s : Fin 8192) : val_main_v47 (F := Ideal) a.mo (ix2 s 0) = rinv (1 / 512) (M a s) := by
  pointwise [val_main_v47, ref_var', rinv]
theorem ref_rate' (s : Fin 8192) : val_main_v50 (F := Ideal) a.mo (ix2 s 0) = rate (1 / 512) (M a s) := by
  pointwise [val_main_v50, val_main_v49, val_main_v48, val_main_cst_13, ref_inv', ref_var', rate, ofBits_neg_half]
theorem ref_hat' (s : Fin 8192) (j : Fin 512) : val_main_v52 (F := Ideal) a.mo (ix2 s j) = M a s j * rinv (1 / 512) (M a s) := by
  pointwise [val_main_v52, val_main_v51, ref_inv', M]
theorem ref_n2 (s : Fin 8192) (j : Fin 512) :
    val_main_v55 (F := Ideal) a.mo a.mn (ix2 s j) = M a s j * rinv (1 / 512) (M a s) * a.mn (ix1 j) := by
  pointwise [val_main_v55, val_main_v54, val_main_v53, ref_hat']

theorem ref_dwa (j : Fin 512) (k : Fin 1024) :
    val_main_v123 (F := Ideal) a.dx1 a.hf a.hb a.proj a.mo a.ln a.mn (ix2 j k) = dwa a j k := by
  pointwise [val_main_v123, val_main_v59, val_main_v58, val_main_v56, ref_n1, dwa, dwaTerm]
  refine Finset.sum_congr rfl fun s _ => ?_
  exact mul_comm _ _

theorem ref_dwb (j : Fin 512) (k : Fin 1024) :
    val_main_v124 (F := Ideal) a.dx1 a.hf a.hb a.proj a.mo a.ln a.mn (ix2 j k) = dwb a j k := by
  pointwise [val_main_v124, val_main_v59, val_main_v58, val_main_v56, ref_n2, dwb, dwbTerm]
  refine Finset.sum_congr rfl fun s _ => ?_
  exact mul_comm _ _

theorem ref_g1 (s : Fin 8192) (j : Fin 512) : val_main_v61 (F := Ideal) a.dx1 a.w (ix2 s j) = g1 a s j := by
  pointwise [val_main_v61, val_main_v60, g1, lo]
theorem ref_g2 (s : Fin 8192) (j : Fin 512) : val_main_v62 (F := Ideal) a.dx1 a.w (ix2 s j) = g2 a s j := by
  pointwise [val_main_v62, val_main_v60, g2, hi]
theorem ref_c1 (s : Fin 8192) (j : Fin 512) : val_main_v87 (F := Ideal) a.dx1 a.ln a.w (ix2 s j) = c1 a s j := by
  pointwise [val_main_v87, val_main_v86, val_main_v37, ref_g1, c1]
theorem ref_c2 (s : Fin 8192) (j : Fin 512) : val_main_v67 (F := Ideal) a.dx1 a.mn a.w (ix2 s j) = c2 a s j := by
  pointwise [val_main_v67, val_main_v66, val_main_v53, ref_g2, c2]

theorem ref_dmn (j : Fin 512) : val_main_v122 (F := Ideal) a.dx1 a.mo a.w (ix2 0 j) = dmn a j := by
  pointwise [val_main_v122, val_main_v68, val_main_v65, val_main_v64, val_main_v63, val_main_cst_14, val_main_cst_15, ref_hat', ref_g2, dmn, dmnTerm]
  simp only [Fin.sum_univ_one]
theorem ref_dln (j : Fin 512) : val_main_v121 (F := Ideal) a.dx1 a.hf a.hb a.proj a.w (ix2 0 j) = dln a j := by
  pointwise [val_main_v121, val_main_v88, val_main_v85, val_main_v84, val_main_v83, val_main_cst_19, val_main_cst_20, ref_hat, ref_g1, dln, dlnTerm]
  simp only [Fin.sum_univ_one]

theorem ref_through' (s : Fin 8192) : val_main_v77 (F := Ideal) a.dx1 a.mo a.mn a.w (ix1 s) = through (1 / 512) (M a s) (c2 a s) := by
  pointwise [val_main_v77, val_main_v76, val_main_v75, val_main_v74, val_main_v71, val_main_v70, val_main_v69, val_main_cst_16, val_main_cst_17,
    val_main_cst_18, ref_c2, ref_rate', through, M, ofBits_512]
  simp only [Fin.sum_univ_one, ref_rate']
  rw [div_coe' _ (by norm_num)]
theorem ref_dmo (s : Fin 8192) (j : Fin 512) : val_main_v82 (F := Ideal) a.dx1 a.mo a.mn a.w (ix2 s j) = dmo a s j := by
  pointwise [val_main_v82, val_main_v81, val_main_v80, val_main_v79, val_main_v78, val_main_v73, val_main_v72, ref_c2, ref_inv', ref_through', dmo, grad, M]
  try rfl

theorem ref_through (s : Fin 8192) : val_main_v97 (F := Ideal) a.dx1 a.hf a.hb a.proj a.ln a.w (ix1 s) = through (1 / 512) (X a s) (c1 a s) := by
  pointwise [val_main_v97, val_main_v96, val_main_v95, val_main_v94, val_main_v91, val_main_v90, val_main_v89, val_main_cst_21, val_main_cst_22,
    val_main_cst_23, ref_X, ref_c1, ref_rate, through, ofBits_512]
  simp only [Fin.sum_univ_one, ref_rate]
  rw [div_coe' _ (by norm_num)]
theorem ref_dX (s : Fin 8192) (j : Fin 512) : val_main_v102 (F := Ideal) a.dx1 a.hf a.hb a.proj a.ln a.w (ix2 s j) = dX a s j := by
  pointwise [val_main_v102, val_main_v101, val_main_v100, val_main_v99, val_main_v98, val_main_v93, val_main_v92, ref_X, ref_c1, ref_inv, ref_through, dX, grad]

theorem ref_dh (s : Fin 8192) (j : Fin 512) : val_main_v104 (F := Ideal) a.dx1 a.hf a.hb a.proj a.ln a.w (ix2 s j) = dh a s j := by
  pointwise [val_main_v104, ref_dX, ref_gel, dh]
theorem ref_dgel (s : Fin 8192) (j : Fin 512) : val_main_v103 (F := Ideal) a.dx1 a.hf a.hb a.proj a.ln a.w (ix2 s j) = dgel a s j := by
  pointwise [val_main_v103, ref_dX, ref_st, dgel]
theorem ref_B (s : Fin 8192) (j : Fin 512) : val_main_v111 (F := Ideal) a.dx1 a.hf a.hb a.proj a.ln a.w (ix2 s j) = B a s j := by
  pointwise [val_main_v111, val_main_v110, val_main_v109, val_main_v108, val_main_v107, val_main_v105, val_main_v17, val_main_v16, val_main_v15,
    val_main_v14, val_main_v13, val_main_cst_2, val_main_cst_3, val_main_cst_24, val_main_cst_25, ref_y, ref_dgel, ref_th, B, slope, half, one]
  simp only [mul_assoc]
theorem ref_dy (s : Fin 8192) (j : Fin 512) : val_main_v116 (F := Ideal) a.dx1 a.hf a.hb a.proj a.ln a.w (ix2 s j) = dy a s j := by
  pointwise [val_main_v116, val_main_v115, val_main_v114, val_main_v113, val_main_v112, val_main_v106, val_main_v6, val_main_v5, val_main_v4,
    val_main_cst, val_main_cst_26, ref_y, ref_dgel, ref_half, ref_B, dy, ofBits_three]
  rw [cube, mul_left_comm half, add_right_comm, add_comm (B a s j), add_assoc, add_comm]
  unfold cub
  rfl

theorem ref_delta (p : Fin 4) (z : Fin 2) (s : Fin 8192) : val_main_v120 (F := Ideal) a.dx1 a.mo a.mn a.w (ix3 p z s) = delta a p z s := by
  pointwise [val_main_v120, val_main_v119, val_main_v118, val_main_v117, val_main_cst_27, ref_dmo, delta, M, headcol]

end Cert.Mix

end
-- ==== Proof.Mix.Claim.lean ====
/-
The kernel and the reference of `_mix_bwd` compute the same arrays.
-/
module

public import proofs.«01_k».proof.Defs
public import proofs.«01_k».proof.Proof.Mix.Kernel
public import proofs.«01_k».proof.Proof.Mix.Reference
public import proofs.«01_k».proof.Proof.Gen.ReferenceMixIdeal.Run
public import Idealize.ShloMosaic.Lib.Claim

@[expose] public section

set_option maxRecDepth 16384

noncomputable section

namespace Cert.Mix

open Idealize.ShloMosaic Idealize.ShloMosaic.TcCoe Idealize.SL.Sem
open Cert.Rms Cert.Ffn Cert.Norm
open Cert.ReferenceMixIdeal.Read

/-- The reference's arguments on device `c`. -/
def refArgs (m : (ℓ : Loc Cert.ReferenceMixIdeal.nD Cert.ReferenceMixIdeal.τ Cert.ReferenceMixIdeal.sig) → Buf (Elt Ideal) ℓ) (c : Dev Cert.ReferenceMixIdeal.nD) : Args where
  dx1 := m ((c.tc : Thread _ _).loc Cert.ReferenceMixIdeal.main_arg0)
  hf := m ((c.tc : Thread _ _).loc Cert.ReferenceMixIdeal.main_arg1)
  hb := m ((c.tc : Thread _ _).loc Cert.ReferenceMixIdeal.main_arg2)
  proj := m ((c.tc : Thread _ _).loc Cert.ReferenceMixIdeal.main_arg3)
  mo := m ((c.tc : Thread _ _).loc Cert.ReferenceMixIdeal.main_arg4)
  ln := m ((c.tc : Thread _ _).loc Cert.ReferenceMixIdeal.main_arg5)
  mn := m ((c.tc : Thread _ _).loc Cert.ReferenceMixIdeal.main_arg6)
  w := m ((c.tc : Thread _ _).loc Cert.ReferenceMixIdeal.main_arg7)

theorem frame_reference : Cert.quiescent_ReferenceMixIdeal (hReferenceMixIdeal := Cert.ReferenceMixIdeal.Gen.facts) :=
  fun m ρ _ => (θ_run Cert.ReferenceMixIdeal.defs _ _).mono (fun r h => ⟨fun c => (h c).2.2.2.2.2.2.2.2, sem_eq_zero_of_no_sems (by decide) r.2⟩)
    (Cert.ReferenceMixIdeal.Value.run m ρ)

theorem algebraic : Cert.algebraic_KernelMixIdeal_ReferenceMixIdeal
    (hKernelMixIdeal := Cert.KernelMixIdeal.Gen.facts) (hReferenceMixIdeal := Cert.ReferenceMixIdeal.Gen.facts) := by
  intro m g m' g' _ h
  have ha : ∀ c, refArgs m' c = args m c := fun c => by
    obtain ⟨h0, h1, h2, h3, h4, h5, h6, h7⟩ := h c
    simp only [refArgs, args, h0, h1, h2, h3, h4, h5, h6, h7]
  refine ⟨fun c (i : Cert.KernelMixIdeal.S8192x512.Idx) => dh (args m c) (i 0) (i 1),
    fun c (i : Cert.KernelMixIdeal.S8192x512.Idx) => dy (args m c) (i 0) (i 1),
    fun c (i : Cert.KernelMixIdeal.S8192x512.Idx) => dmo (args m c) (i 0) (i 1),
    fun c (i : Cert.KernelMixIdeal.S4x2x8192.Idx) => delta (args m c) (i 0) (i 1) (i 2),
    fun c (i : Cert.KernelMixIdeal.S1x512.Idx) => dln (args m c) (i 1),
    fun c (i : Cert.KernelMixIdeal.S1x512.Idx) => dmn (args m c) (i 1),
    fun c (i : Cert.KernelMixIdeal.S512x1024.Idx) => dwa (args m c) (i 0) (i 1),
    fun c (i : Cert.KernelMixIdeal.S512x1024.Idx) => dwb (args m c) (i 0) (i 1), ?_, ?_⟩
  · refine (θ_run _ _ _).mono (fun r hr c => ?_) (Cert.KernelMixIdeal.Value.run_blocks m g)
    obtain ⟨r0, r1, r2, r3, r4, r5, r6, r7, hargs⟩ := hr c
    exact ⟨r0.trans (final_dh m c), r1.trans (final_dy m c), r2.trans (final_dmo m c), r3.trans (final_delta m c), r4.trans (final_ln m c), r5.trans (final_mn m c), r6.trans (final_wa m c), r7.trans (final_wb m c), hargs⟩
  · refine (θ_run _ _ _).mono (fun r hr c => ?_) (Cert.ReferenceMixIdeal.Value.run m' g')
    obtain ⟨r0, r1, r2, r3, r4, r5, r6, r7, hargs⟩ := hr c
    refine ⟨r0.trans ?_, r1.trans ?_, r2.trans ?_, r3.trans ?_, r4.trans ?_, r5.trans ?_, r6.trans ?_, r7.trans ?_, hargs⟩
    · refine (val_main_v104_eq ..).trans ?_
      funext i
      exact ((congrArg _ (eq_ix2 i)).trans (ref_dh (refArgs m' c) (i 0) (i 1))).trans (congrArg (fun a => dh a (i 0) (i 1)) (ha c))
    · refine (val_main_v116_eq ..).trans ?_
      funext i
      exact ((congrArg _ (eq_ix2 i)).trans (ref_dy (refArgs m' c) (i 0) (i 1))).trans (congrArg (fun a => dy a (i 0) (i 1)) (ha c))
    · refine (val_main_v82_eq ..).trans ?_
      funext i
      exact ((congrArg _ (eq_ix2 i)).trans (ref_dmo (refArgs m' c) (i 0) (i 1))).trans (congrArg (fun a => dmo a (i 0) (i 1)) (ha c))
    · refine (val_main_v120_eq ..).trans ?_
      funext i
      exact ((congrArg _ (eq_ix3 i)).trans (ref_delta (refArgs m' c) (i 0) (i 1) (i 2))).trans (congrArg (fun a => delta a (i 0) (i 1) (i 2)) (ha c))
    · refine (val_main_v121_eq ..).trans ?_
      funext i
      exact ((congrArg _ (eq_row i)).trans (ref_dln (refArgs m' c) (i 1))).trans (congrArg (fun a => dln a (i 1)) (ha c))
    · refine (val_main_v122_eq ..).trans ?_
      funext i
      exact ((congrArg _ (eq_row i)).trans (ref_dmn (refArgs m' c) (i 1))).trans (congrArg (fun a => dmn a (i 1)) (ha c))
    · refine (val_main_v123_eq ..).trans ?_
      funext i
      exact ((congrArg _ (eq_ix2 i)).trans (ref_dwa (refArgs m' c) (i 0) (i 1))).trans (congrArg (fun a => dwa a (i 0) (i 1)) (ha c))
    · refine (val_main_v124_eq ..).trans ?_
      funext i
      exact ((congrArg _ (eq_ix2 i)).trans (ref_dwb (refArgs m' c) (i 0) (i 1))).trans (congrArg (fun a => dwb a (i 0) (i 1)) (ha c))

end Cert.Mix

end
-- ==== Proof.Mem.Closed.lean ====
/-
The gradient of the memory attention in closed form: each row's query heads, scores against the memory's keys, weights and output,
and the derivative through the weights, the heads' norm, the projection and the row's norm.
-/
module

public import proofs.«01_k».proof.Proof.Ffn.Base
public import proofs.«01_k».proof.Proof.Norm
public import Idealize.ShloMosaic.Lib.Pipeline.ValueKit

@[expose] public section

noncomputable section

namespace Cert.Mem

open Idealize.ShloMosaic Cert.Rms Cert.Ffn Cert.Norm

/-- The arguments: the rows, the cotangent, the norm's gain, the query heads' norm's gain, the memory's keys and values, the query and
the output projections. -/
structure Args where
  x : T2 8192 1024
  g : T2 8192 1024
  man : T1 1024
  qn : T1 128
  k : T2 256 512
  v : T2 256 512
  wq : T2 1024 512
  wo : T2 512 1024

variable (a : Args)

/-- Column `l` of head `h`; a column's head and its place there. -/
def colh (h : Fin 4) (l : Fin 128) : Fin 512 := ⟨h.val * 128 + l.val, by omega⟩
def hd (j : Fin 512) : Fin 4 := ⟨j.val / 128, by omega⟩
def ln (j : Fin 512) : Fin 128 := ⟨j.val % 128, by omega⟩

theorem colh_hd (j : Fin 512) : colh (hd j) (ln j) = j := Fin.ext (by show j.val / 128 * 128 + j.val % 128 = j.val; omega)
theorem hd_colh (h : Fin 4) (l : Fin 128) : hd (colh h l) = h := Fin.ext (by show (h.val * 128 + l.val) / 128 = h.val; omega)
theorem ln_colh (h : Fin 4) (l : Fin 128) : ln (colh h l) = l := Fin.ext (by show (h.val * 128 + l.val) % 128 = l.val; omega)

def scale : EReal := Ideal.ofBits .f32 0x3DB504F3#32
def one : EReal := Ideal.ofBits .f32 0x3F800000#32

/-- The normalised rows, without and with the gain; the queries; a head's query, normalised without and with the gain. -/
def X (s : Fin 8192) (c : Fin 1024) : EReal := a.x (ix2 s c)
def hat (s : Fin 8192) (c : Fin 1024) : EReal := X a s c * rinv (1 / 1024) (X a s)
def h2 (s : Fin 8192) (c : Fin 1024) : EReal := hat a s c * a.man (ix1 c)
def qa (s : Fin 8192) (j : Fin 512) : EReal := ∑ c : Fin 1024, h2 a s c * a.wq (ix2 c j)
def q (h : Fin 4) (s : Fin 8192) (l : Fin 128) : EReal := qa a s (colh h l)
def qhat (h : Fin 4) (s : Fin 8192) (l : Fin 128) : EReal := q a h s l * rinv (1 / 128) (q a h s)
def qg (h : Fin 4) (s : Fin 8192) (l : Fin 128) : EReal := qhat a h s l * a.qn (ix1 l)

/-- A head's scores, their greatest, the powers, their sum, the weights, the output. -/
def sc (h : Fin 4) (s : Fin 8192) (t : Fin 256) : EReal := (∑ l : Fin 128, qg a h s l * a.k (ix2 t (colh h l))) * scale
def top (h : Fin 4) (s : Fin 8192) : EReal := Finset.univ.fold max (⊥ : EReal) fun t : Fin 256 => sc a h s t
def pw (h : Fin 4) (s : Fin 8192) (t : Fin 256) : EReal := Ideal.exp (sc a h s t - top a h s)
def tot (h : Fin 4) (s : Fin 8192) : EReal := ∑ t : Fin 256, pw a h s t
def pr (h : Fin 4) (s : Fin 8192) (t : Fin 256) : EReal := Ideal.div (pw a h s t) (tot a h s)
def isq (h : Fin 4) (s : Fin 8192) : EReal := Ideal.div one (tot a h s * tot a h s)
def om (h : Fin 4) (s : Fin 8192) (l : Fin 128) : EReal := ∑ t : Fin 256, pr a h s t * a.v (ix2 t (colh h l))

/-- The output's cotangent, the weights', the scores', the query heads', the queries', the normalised rows'. -/
def dom (s : Fin 8192) (j : Fin 512) : EReal := ∑ c : Fin 1024, a.g (ix2 s c) * a.wo (ix2 j c)
def dp (h : Fin 4) (s : Fin 8192) (t : Fin 256) : EReal := ∑ l : Fin 128, dom a s (colh h l) * a.v (ix2 t (colh h l))
def fall (h : Fin 4) (s : Fin 8192) : EReal := -∑ t : Fin 256, dp a h s t * isq a h s * pw a h s t
def ds (h : Fin 4) (s : Fin 8192) (t : Fin 256) : EReal := (Ideal.div (dp a h s t) (tot a h s) + fall a h s) * pw a h s t * scale
def dqn (h : Fin 4) (s : Fin 8192) (l : Fin 128) : EReal := ∑ t : Fin 256, ds a h s t * a.k (ix2 t (colh h l))
def ct (h : Fin 4) (s : Fin 8192) (l : Fin 128) : EReal := dqn a h s l * a.qn (ix1 l)
def gh (h : Fin 4) (s : Fin 8192) (l : Fin 128) : EReal := grad (1 / 128) (q a h s) (ct a h s) l
def gq (s : Fin 8192) (j : Fin 512) : EReal := gh a (hd j) s (ln j)
def dh2 (s : Fin 8192) (c : Fin 1024) : EReal := ∑ j : Fin 512, gq a s j * a.wq (ix2 c j)

/-- What one row adds to the gradients of gains, keys, values and weights. -/
def dmanTerm (s : Fin 8192) (c : Fin 1024) : EReal := hat a s c * dh2 a s c
def dqnTerm (s : Fin 8192) (l : Fin 128) : EReal := ∑ h : Fin 4, qhat a h s l * dqn a h s l
def dkTerm (s : Fin 8192) (t : Fin 256) (j : Fin 512) : EReal := ds a (hd j) s t * qg a (hd j) s (ln j)
def dvTerm (s : Fin 8192) (t : Fin 256) (j : Fin 512) : EReal := pr a (hd j) s t * dom a s j
def dwqTerm (s : Fin 8192) (c : Fin 1024) (j : Fin 512) : EReal := h2 a s c * gq a s j
def dwoTerm (s : Fin 8192) (j : Fin 512) (c : Fin 1024) : EReal := om a (hd j) s (ln j) * a.g (ix2 s c)

/-- The seven results. -/
def dx (s : Fin 8192) (c : Fin 1024) : EReal := a.g (ix2 s c) + grad (1 / 1024) (X a s) (fun c => dh2 a s c * a.man (ix1 c)) c
def dman (c : Fin 1024) : EReal := ∑ s : Fin 8192, dmanTerm a s c
def dmqn (l : Fin 128) : EReal := ∑ s : Fin 8192, dqnTerm a s l
def dk (t : Fin 256) (j : Fin 512) : EReal := ∑ s : Fin 8192, dkTerm a s t j
def dv (t : Fin 256) (j : Fin 512) : EReal := ∑ s : Fin 8192, dvTerm a s t j
def dwq (c : Fin 1024) (j : Fin 512) : EReal := ∑ s : Fin 8192, dwqTerm a s c j
def dwo (j : Fin 512) (c : Fin 1024) : EReal := ∑ s : Fin 8192, dwoTerm a s j c

/-- The four heads' values set side by side, each beside zeros, add up to the head's value at its columns. -/
theorem stack (y : Fin 4 → Fin 128 → EReal) (n : Fin 512) :
    (if h : n.val < 384 then 0 else y 3 ⟨n.val - 384, by omega⟩)
      + (if h : n.val < 384 then if h' : n.val < 256 then 0 else y 2 ⟨n.val - 256, by omega⟩ else 0)
      + (if h : n.val < 256 then if h' : n.val < 128 then 0 else y 1 ⟨n.val - 128, by omega⟩ else 0)
      + (if h : n.val < 128 then y 0 ⟨n.val, h⟩ else 0) = y (hd n) (ln n) := by
  obtain ⟨h, l, rfl⟩ : ∃ h l, n = colh h l := ⟨hd n, ln n, (colh_hd n).symm⟩
  rw [hd_colh, ln_colh]
  have hl := l.isLt
  match h with
  | 0 =>
    have e : (colh 0 l).val = l.val := by show 0 * 128 + l.val = _; omega
    simp only [e, dif_pos hl, dif_pos (show l.val < 384 by omega), dif_pos (show l.val < 256 by omega), zero_add]
  | 1 =>
    have e : (colh 1 l).val = 128 + l.val := by show 1 * 128 + l.val = _; omega
    simp only [e, dif_pos (show 128 + l.val < 384 by omega), dif_pos (show 128 + l.val < 256 by omega), dif_neg (show ¬128 + l.val < 128 by omega),
      zero_add, add_zero, Nat.add_sub_cancel_left]
  | 2 =>
    have e : (colh 2 l).val = 256 + l.val := by show 2 * 128 + l.val = _; omega
    simp only [e, dif_pos (show 256 + l.val < 384 by omega), dif_neg (show ¬256 + l.val < 256 by omega), dif_neg (show ¬256 + l.val < 128 by omega),
      zero_add, add_zero, Nat.add_sub_cancel_left]
  | 3 =>
    have e : (colh 3 l).val = 384 + l.val := by show 3 * 128 + l.val = _; omega
    simp only [e, dif_neg (show ¬384 + l.val < 384 by omega), dif_neg (show ¬384 + l.val < 256 by omega), dif_neg (show ¬384 + l.val < 128 by omega),
      add_zero, Nat.add_sub_cancel_left]

/-- The four heads' values set side by side. -/
theorem beside (y : Fin 4 → Fin 128 → EReal) (n : Fin 512) :
    (if h : n.val < 128 then y 0 ⟨n.val, h⟩ else if h' : n.val - 128 < 128 then y 1 ⟨n.val - 128, h'⟩
      else if h'' : n.val - 128 - 128 < 128 then y 2 ⟨n.val - 128 - 128, h''⟩
      else y 3 ⟨n.val - 128 - 128 - 128, by omega⟩) = y (hd n) (ln n) := by
  have e : ∀ (i : Fin 4) (l : Fin 128), n.val = i.val * 128 + l.val → y i l = y (hd n) (ln n) := fun i l e => by
    obtain rfl : n = colh i l := Fin.ext e
    rw [hd_colh, ln_colh]
  split_ifs with h0 h1 h2
  · exact e 0 _ (by show n.val = 0 * 128 + n.val; omega)
  · exact e 1 _ (by show n.val = 1 * 128 + (n.val - 128); omega)
  · exact e 2 _ (by show n.val = 2 * 128 + (n.val - 128 - 128); omega)
  · exact e 3 _ (by show n.val = 3 * 128 + (n.val - 128 - 128 - 128); omega)

end Cert.Mem

end
-- ==== Proof.Mem.Point.lean ====
/-
What one block of the memory attention's gradient computes: the body's values by name, and each of them read off at a row.
-/
module

public import proofs.«01_k».proof.Proof.Gen.KernelMemIdeal.Skeleton
public import proofs.«01_k».proof.Proof.Mem.Closed
public import proofs.«01_k».proof.Proof.Fl.Entry
public import Idealize.ShloMosaic.Lib.Pointwise

@[expose] public section

set_option maxRecDepth 16384

noncomputable section

namespace Cert.Mem

open Idealize.ShloMosaic Cert.KernelMemIdeal Cert.KernelMemIdeal.Gen Cert.Rms Cert.Ffn Cert.Norm
open Cert.Fl (ofBits_neg_top)

/-- The blocks a grid point reads. -/
structure Blk where
  x : Vec Ideal S512x1024 .f32
  g : Vec Ideal S512x1024 .f32
  man : Vec Ideal S1x1024 .f32
  qn : Vec Ideal S1x128 .f32
  k : Vec Ideal S256x512 .f32
  v : Vec Ideal S256x512 .f32
  wq : Vec Ideal S1024x512 .bf16
  wo : Vec Ideal S512x1024 .bf16

/-- They hold the arguments, the rows `s`. -/
structure Blocks (a : Args) (s : Fin 512 → Fin 8192) (b : Blk) : Prop where
  x : ∀ r c, b.x (ix2 r c) = a.x (ix2 (s r) c)
  g : ∀ r c, b.g (ix2 r c) = a.g (ix2 (s r) c)
  man : ∀ c, b.man (ix2 0 c) = a.man (ix1 c)
  qn : ∀ l, b.qn (ix2 0 l) = a.qn (ix1 l)
  k : ∀ t j, b.k (ix2 t j) = a.k (ix2 t j)
  v : ∀ t j, b.v (ix2 t j) = a.v (ix2 t j)
  wq : ∀ c j, b.wq (ix2 c j) = a.wq (ix2 c j)
  wo : ∀ j c, b.wo (ix2 j c) = a.wo (ix2 j c)

/-! ## The values the body passes on, numbered as it numbers them -/

section
variable (b : Blk)

def v5 := k0_pay7 b.wq
def v7 := k0_pay8 b.wo
def v10 := k0_pay9 b.man
def v12 := k0_pay10 b.qn
def v23 := k0_pay12 b.x
def v26 := k0_pay13 b.x
def v28 := k0_pay14 b.x
def v30 := k0_pay15 b.x b.man
def v33 := k0_pay16 b.wq b.x b.man
def v34 := k0_pay17 (v33 b)
def v42 := k0_pay19 (v33 b)
def v45 := k0_pay20 (v33 b)
def v47 := k0_pay21 (v33 b)
def v49 := k0_pay22 (v12 b) (v33 b)
def v50 := k0_pay23 b.k
def v60 := k0_pay24 (v12 b) b.k (v33 b)
def v62 := k0_pay25 (v12 b) b.k (v33 b)
def v64 := k0_pay26 (v12 b) b.k (v33 b)
def v67 := k0_pay27 (v12 b) b.k (v33 b)
def v68 := k0_pay28 b.v
def v71 := k0_pay29 (v12 b) b.k b.v (v33 b)
def v72 := k0_pay30 (v33 b)
def v79 := k0_pay31 (v33 b)
def v80 := k0_pay32 (v33 b)
def v83 := k0_pay33 (v79 b) (v80 b)
def v85 := k0_pay34 (v72 b) (v80 b)
def v87 := k0_pay35 (v12 b) (v72 b) (v80 b)
def v88 := k0_pay36 b.k
def v98 := k0_pay37 (v12 b) b.k (v72 b) (v80 b)
def v100 := k0_pay38 (v12 b) b.k (v72 b) (v80 b)
def v102 := k0_pay39 (v12 b) b.k (v72 b) (v80 b)
def v105 := k0_pay40 (v12 b) b.k (v72 b) (v80 b)
def v106 := k0_pay41 b.v
def v109 := k0_pay42 (v12 b) b.k b.v (v72 b) (v80 b)
def v110 := k0_pay43 (v33 b)
def v118 := k0_pay45 (v33 b)
def v121 := k0_pay46 (v33 b)
def v123 := k0_pay47 (v33 b)
def v125 := k0_pay48 (v12 b) (v33 b)
def v126 := k0_pay49 b.k
def v127 := k0_pay50 (v12 b) (v33 b)
def v128 := k0_pay51 b.k
def v136 := k0_pay52 (v127 b) (v128 b) (constant S512x256 .f32 0x00000000#32)
def v138 := k0_pay53 (v127 b) (v128 b) (constant S512x256 .f32 0x00000000#32)
def v140 := k0_pay54 (v127 b) (v128 b) (constant S512x256 .f32 0x00000000#32)
def v143 := k0_pay55 (v127 b) (v128 b) (constant S512x256 .f32 0x00000000#32)
def v144 := k0_pay56 b.v
def v147 := k0_pay57 b.v (v127 b) (v128 b) (constant S512x256 .f32 0x00000000#32)
def v148 := k0_pay58 (v33 b)
def v156 := k0_pay60 (v33 b)
def v159 := k0_pay61 (v33 b)
def v161 := k0_pay62 (v33 b)
def v163 := k0_pay63 (v12 b) (v33 b)
def v164 := k0_pay64 b.k
def v174 := k0_pay65 (v12 b) b.k (v33 b)
def v175 := k0_pay66 (v12 b) b.k (v33 b)
def v186 := k0_pay70 b.v (v71 b) (v109 b) (v147 b) (v174 b) (v175 b)
def v189 := k0_pay72 b.g (v7 b)
def v190 := k0_pay73 b.g (v7 b)
def v191 := k0_pay74 b.g (v7 b)
def v200 := k0_pay76 b.g (v7 b) (v174 b) (v175 b)
def v219 := k0_pay78 b.g (v7 b) b.v (v164 b) (v174 b) (v175 b)
def v222 := k0_pay79 b.g (v7 b) b.v (v163 b) (v174 b) (v175 b)
def v224 := k0_pay80 (v222 b) (Scalar.ofBits .f32 0x00000000#32)
def v227 := k0_pay81 (v161 b) (v219 b)
def v246 := k0_pay82 (v12 b) (v148 b) (v156 b) (v159 b) (v219 b)
def v257 := k0_pay83 (v140 b) (v191 b) (v200 b)
def v271 := k0_pay84 (v136 b) (v138 b) (v143 b) (v144 b) (v191 b)
def v284 := k0_pay87 (v125 b) (v224 b) (v271 b)
def v288 := k0_pay88 (v123 b) (v126 b) (v227 b) (v271 b)
def v310 := k0_pay89 (v12 b) (v110 b) (v118 b) (v121 b) (v126 b) (v246 b) (v271 b)
def v313 := k0_pay90 (v106 b) (v190 b)
def v318 := k0_pay91 (v102 b) (v190 b)
def v319 := k0_pay92 (F := Ideal)
def v321 := k0_pay93 (v257 b) (v318 b) v319
def v348 := k0_pay96 (v87 b) (v98 b) (v100 b) (v105 b) (v284 b) (v313 b)
def v352 := k0_pay97 (v85 b) (v88 b) (v98 b) (v100 b) (v105 b) (v288 b) (v313 b)
def v367 := k0_pay100 (v12 b) (v72 b) (v80 b) (v83 b) (v88 b) (v98 b) (v100 b) (v105 b) (v313 b)
def v368 := k0_pay101 (v12 b) (v72 b) (v83 b) (v88 b) (v98 b) (v100 b) (v105 b) (v313 b)
def v374 := k0_pay102 (v310 b) (v367 b) (v368 b)
def v383 := k0_pay103 (v64 b) (v189 b) (v321 b)
def v408 := k0_pay106 (v49 b) (v60 b) (v62 b) (v67 b) (v68 b) (v189 b) (v348 b)
def v412 := k0_pay107 (v47 b) (v50 b) (v60 b) (v62 b) (v67 b) (v68 b) (v189 b) (v352 b)
def v414 := k0_pay108 (v12 b) (v50 b) (v60 b) (v62 b) (v67 b) (v68 b) (v189 b)
def v415 := k0_pay109 (v12 b) (v34 b) (v50 b) (v60 b) (v62 b) (v67 b) (v68 b) (v189 b)
def v432 := k0_pay110 (v34 b) (v42 b) (v45 b) (v374 b) (v414 b) (v415 b)
end

variable {a : Args} {s : Fin 512 → Fin 8192} {b : Blk} (h : Blocks a s b)
include h

/-! ## The row's norm and the queries -/

theorem pay7_at (c : Fin 1024) (j : Fin 512) : k0_pay7 b.wq (ix2 c j) = a.wq (ix2 c j) := by
  pointwise [k0_pay7, h.wq]
theorem v5_at (c : Fin 1024) (j : Fin 512) : v5 b (ix2 c j) = a.wq (ix2 c j) := pay7_at h c j
theorem pay8_at (j : Fin 512) (c : Fin 1024) : k0_pay8 b.wo (ix2 j c) = a.wo (ix2 j c) := by
  pointwise [k0_pay8, h.wo]
theorem v7_at (j : Fin 512) (c : Fin 1024) : v7 b (ix2 j c) = a.wo (ix2 j c) := pay8_at h j c
theorem pay9_at (c : Fin 1024) : k0_pay9 b.man (ix2 0 c) = a.man (ix1 c) := by
  pointwise [k0_pay9, h.man]
theorem v10_at (c : Fin 1024) : v10 b (ix2 0 c) = a.man (ix1 c) := pay9_at h c
theorem pay10_at (l : Fin 128) : k0_pay10 b.qn (ix2 0 l) = a.qn (ix1 l) := by
  pointwise [k0_pay10, h.qn]
theorem v12_at (l : Fin 128) : v12 b (ix2 0 l) = a.qn (ix1 l) := pay10_at h l
theorem pay11_at (r : Fin 512) : k0_pay11 b.x (ix2 r 0) = var (1 / 1024) (X a (s r)) := by
  pointwise [k0_pay11, h.x, X, var, ofBits_eps, ofBits_inv1024]
theorem pay12_at (r : Fin 512) : k0_pay12 b.x (ix2 r 0) = rinv (1 / 1024) (X a (s r)) := by
  pointwise [k0_pay12, pay11_at h, rinv]
theorem v23_at (r : Fin 512) : v23 b (ix2 r 0) = rinv (1 / 1024) (X a (s r)) := pay12_at h r
theorem pay13_at (r : Fin 512) : k0_pay13 b.x (ix2 r 0) = rate (1 / 1024) (X a (s r)) := by
  pointwise [k0_pay13, pay11_at h, pay12_at h, rate, ofBits_neg_half]
theorem v26_at (r : Fin 512) : v26 b (ix2 r 0) = rate (1 / 1024) (X a (s r)) := pay13_at h r
theorem pay14_at (r : Fin 512) (c : Fin 1024) : k0_pay14 b.x (ix2 r c) = hat a (s r) c := by
  pointwise [k0_pay14, pay12_at h, h.x, hat, X]
theorem v28_at (r : Fin 512) (c : Fin 1024) : v28 b (ix2 r c) = hat a (s r) c := pay14_at h r c
theorem pay15_at (r : Fin 512) (c : Fin 1024) : k0_pay15 b.x b.man (ix2 r c) = h2 a (s r) c := by
  pointwise [k0_pay15, pay14_at h, pay9_at h, h2]
theorem v30_at (r : Fin 512) (c : Fin 1024) : v30 b (ix2 r c) = h2 a (s r) c := pay15_at h r c
theorem pay16_at (r j : Fin 512) : k0_pay16 b.wq b.x b.man (ix2 r j) = qa a (s r) j := by
  pointwise [k0_pay16, pay15_at h, pay7_at h, qa]
theorem v33_at (r j : Fin 512) : v33 b (ix2 r j) = qa a (s r) j := pay16_at h r j
/-! ## Head 0: its query, the weights, the output -/

theorem pay17_at (r : Fin 512) (l : Fin 128) : k0_pay17 (v33 b) (ix2 r l) = q a 0 (s r) l := by
  pointwise [k0_pay17, v33_at h, q, colh]
theorem v34_at (r : Fin 512) (l : Fin 128) : v34 b (ix2 r l) = q a 0 (s r) l := pay17_at h r l
theorem pay18_at (r : Fin 512) : k0_pay18 (v33 b) (ix2 r 0) = var (1 / 128) (q a 0 (s r)) := by
  pointwise [k0_pay18, pay17_at h, var, ofBits_eps, ofBits_inv128]
theorem pay19_at (r : Fin 512) : k0_pay19 (v33 b) (ix2 r 0) = rinv (1 / 128) (q a 0 (s r)) := by
  pointwise [k0_pay19, pay18_at h, rinv]
theorem v42_at (r : Fin 512) : v42 b (ix2 r 0) = rinv (1 / 128) (q a 0 (s r)) := pay19_at h r
theorem pay20_at (r : Fin 512) : k0_pay20 (v33 b) (ix2 r 0) = rate (1 / 128) (q a 0 (s r)) := by
  pointwise [k0_pay20, pay18_at h, pay19_at h, rate, ofBits_neg_half]
theorem v45_at (r : Fin 512) : v45 b (ix2 r 0) = rate (1 / 128) (q a 0 (s r)) := pay20_at h r
theorem pay21_at (r : Fin 512) (l : Fin 128) : k0_pay21 (v33 b) (ix2 r l) = qhat a 0 (s r) l := by
  pointwise [k0_pay21, pay17_at h, pay19_at h, qhat]
theorem v47_at (r : Fin 512) (l : Fin 128) : v47 b (ix2 r l) = qhat a 0 (s r) l := pay21_at h r l
theorem pay22_at (r : Fin 512) (l : Fin 128) : k0_pay22 (v12 b) (v33 b) (ix2 r l) = qg a 0 (s r) l := by
  pointwise [k0_pay22, pay21_at h, v12_at h, qg]
theorem v49_at (r : Fin 512) (l : Fin 128) : v49 b (ix2 r l) = qg a 0 (s r) l := pay22_at h r l
theorem pay23_at (t : Fin 256) (l : Fin 128) : k0_pay23 b.k (ix2 t l) = a.k (ix2 t (colh 0 l)) := by
  pointwise [k0_pay23, h.k, colh]
theorem v50_at (t : Fin 256) (l : Fin 128) : v50 b (ix2 t l) = a.k (ix2 t (colh 0 l)) := pay23_at h t l
theorem pay24_at (r : Fin 512) (t : Fin 256) : k0_pay24 (v12 b) b.k (v33 b) (ix2 r t) = pw a 0 (s r) t := by
  pointwise [k0_pay24, pay22_at h, pay23_at h, pw, top, sc, scale, ofBits_neg_top]
theorem v60_at (r : Fin 512) (t : Fin 256) : v60 b (ix2 r t) = pw a 0 (s r) t := pay24_at h r t
theorem pay25_at (r : Fin 512) : k0_pay25 (v12 b) b.k (v33 b) (ix2 r 0) = tot a 0 (s r) := by
  pointwise [k0_pay25, pay24_at h, tot]
theorem v62_at (r : Fin 512) : v62 b (ix2 r 0) = tot a 0 (s r) := pay25_at h r
theorem pay26_at (r : Fin 512) (t : Fin 256) : k0_pay26 (v12 b) b.k (v33 b) (ix2 r t) = pr a 0 (s r) t := by
  pointwise [k0_pay26, pay24_at h, pay25_at h, pr]
theorem v64_at (r : Fin 512) (t : Fin 256) : v64 b (ix2 r t) = pr a 0 (s r) t := pay26_at h r t
theorem pay27_at (r : Fin 512) : k0_pay27 (v12 b) b.k (v33 b) (ix2 r 0) = isq a 0 (s r) := by
  pointwise [k0_pay27, pay25_at h, isq, one]
theorem v67_at (r : Fin 512) : v67 b (ix2 r 0) = isq a 0 (s r) := pay27_at h r
theorem pay28_at (t : Fin 256) (l : Fin 128) : k0_pay28 b.v (ix2 t l) = a.v (ix2 t (colh 0 l)) := by
  pointwise [k0_pay28, h.v, colh]
theorem v68_at (t : Fin 256) (l : Fin 128) : v68 b (ix2 t l) = a.v (ix2 t (colh 0 l)) := pay28_at h t l
theorem pay29_at (r : Fin 512) (l : Fin 128) : k0_pay29 (v12 b) b.k b.v (v33 b) (ix2 r l) = om a 0 (s r) l := by
  pointwise [k0_pay29, pay26_at h, pay28_at h, om]
theorem v71_at (r : Fin 512) (l : Fin 128) : v71 b (ix2 r l) = om a 0 (s r) l := pay29_at h r l
/-! ## Head 1: its query, the weights, the output -/

theorem pay30_at (r : Fin 512) (l : Fin 128) : k0_pay30 (v33 b) (ix2 r l) = q a 1 (s r) l := by
  pointwise [k0_pay30, v33_at h, q, colh]
theorem v72_at (r : Fin 512) (l : Fin 128) : v72 b (ix2 r l) = q a 1 (s r) l := pay30_at h r l
theorem pay31_at (r : Fin 512) : k0_pay31 (v33 b) (ix2 r 0) = var (1 / 128) (q a 1 (s r)) := by
  pointwise [k0_pay31, pay30_at h, var, ofBits_eps, ofBits_inv128]
theorem v79_at (r : Fin 512) : v79 b (ix2 r 0) = var (1 / 128) (q a 1 (s r)) := pay31_at h r
theorem pay32_at (r : Fin 512) : k0_pay32 (v33 b) (ix2 r 0) = rinv (1 / 128) (q a 1 (s r)) := by
  pointwise [k0_pay32, pay31_at h, rinv]
theorem v80_at (r : Fin 512) : v80 b (ix2 r 0) = rinv (1 / 128) (q a 1 (s r)) := pay32_at h r
theorem pay33_at (r : Fin 512) : k0_pay33 (v79 b) (v80 b) (ix2 r 0) = rate (1 / 128) (q a 1 (s r)) := by
  pointwise [k0_pay33, v79_at h, v80_at h, rate, ofBits_neg_half]
theorem v83_at (r : Fin 512) : v83 b (ix2 r 0) = rate (1 / 128) (q a 1 (s r)) := pay33_at h r
theorem pay34_at (r : Fin 512) (l : Fin 128) : k0_pay34 (v72 b) (v80 b) (ix2 r l) = qhat a 1 (s r) l := by
  pointwise [k0_pay34, v72_at h, v80_at h, qhat]
theorem v85_at (r : Fin 512) (l : Fin 128) : v85 b (ix2 r l) = qhat a 1 (s r) l := pay34_at h r l
theorem pay35_at (r : Fin 512) (l : Fin 128) : k0_pay35 (v12 b) (v72 b) (v80 b) (ix2 r l) = qg a 1 (s r) l := by
  pointwise [k0_pay35, pay34_at h, v12_at h, qg]
theorem v87_at (r : Fin 512) (l : Fin 128) : v87 b (ix2 r l) = qg a 1 (s r) l := pay35_at h r l
theorem pay36_at (t : Fin 256) (l : Fin 128) : k0_pay36 b.k (ix2 t l) = a.k (ix2 t (colh 1 l)) := by
  pointwise [k0_pay36, h.k, colh]
theorem v88_at (t : Fin 256) (l : Fin 128) : v88 b (ix2 t l) = a.k (ix2 t (colh 1 l)) := pay36_at h t l
theorem pay37_at (r : Fin 512) (t : Fin 256) : k0_pay37 (v12 b) b.k (v72 b) (v80 b) (ix2 r t) = pw a 1 (s r) t := by
  pointwise [k0_pay37, pay35_at h, pay36_at h, pw, top, sc, scale, ofBits_neg_top]
theorem v98_at (r : Fin 512) (t : Fin 256) : v98 b (ix2 r t) = pw a 1 (s r) t := pay37_at h r t
theorem pay38_at (r : Fin 512) : k0_pay38 (v12 b) b.k (v72 b) (v80 b) (ix2 r 0) = tot a 1 (s r) := by
  pointwise [k0_pay38, pay37_at h, tot]
theorem v100_at (r : Fin 512) : v100 b (ix2 r 0) = tot a 1 (s r) := pay38_at h r
theorem pay39_at (r : Fin 512) (t : Fin 256) : k0_pay39 (v12 b) b.k (v72 b) (v80 b) (ix2 r t) = pr a 1 (s r) t := by
  pointwise [k0_pay39, pay37_at h, pay38_at h, pr]
theorem v102_at (r : Fin 512) (t : Fin 256) : v102 b (ix2 r t) = pr a 1 (s r) t := pay39_at h r t
theorem pay40_at (r : Fin 512) : k0_pay40 (v12 b) b.k (v72 b) (v80 b) (ix2 r 0) = isq a 1 (s r) := by
  pointwise [k0_pay40, pay38_at h, isq, one]
theorem v105_at (r : Fin 512) : v105 b (ix2 r 0) = isq a 1 (s r) := pay40_at h r
theorem pay41_at (t : Fin 256) (l : Fin 128) : k0_pay41 b.v (ix2 t l) = a.v (ix2 t (colh 1 l)) := by
  pointwise [k0_pay41, h.v, colh]
theorem v106_at (t : Fin 256) (l : Fin 128) : v106 b (ix2 t l) = a.v (ix2 t (colh 1 l)) := pay41_at h t l
theorem pay42_at (r : Fin 512) (l : Fin 128) : k0_pay42 (v12 b) b.k b.v (v72 b) (v80 b) (ix2 r l) = om a 1 (s r) l := by
  pointwise [k0_pay42, pay39_at h, pay41_at h, om]
theorem v109_at (r : Fin 512) (l : Fin 128) : v109 b (ix2 r l) = om a 1 (s r) l := pay42_at h r l
/-! ## Head 2: its query, the weights, the output -/

theorem pay43_at (r : Fin 512) (l : Fin 128) : k0_pay43 (v33 b) (ix2 r l) = q a 2 (s r) l := by
  pointwise [k0_pay43, v33_at h, q, colh]
theorem v110_at (r : Fin 512) (l : Fin 128) : v110 b (ix2 r l) = q a 2 (s r) l := pay43_at h r l
theorem pay44_at (r : Fin 512) : k0_pay44 (v33 b) (ix2 r 0) = var (1 / 128) (q a 2 (s r)) := by
  pointwise [k0_pay44, pay43_at h, var, ofBits_eps, ofBits_inv128]
theorem pay45_at (r : Fin 512) : k0_pay45 (v33 b) (ix2 r 0) = rinv (1 / 128) (q a 2 (s r)) := by
  pointwise [k0_pay45, pay44_at h, rinv]
theorem v118_at (r : Fin 512) : v118 b (ix2 r 0) = rinv (1 / 128) (q a 2 (s r)) := pay45_at h r
theorem pay46_at (r : Fin 512) : k0_pay46 (v33 b) (ix2 r 0) = rate (1 / 128) (q a 2 (s r)) := by
  pointwise [k0_pay46, pay44_at h, pay45_at h, rate, ofBits_neg_half]
theorem v121_at (r : Fin 512) : v121 b (ix2 r 0) = rate (1 / 128) (q a 2 (s r)) := pay46_at h r
theorem pay47_at (r : Fin 512) (l : Fin 128) : k0_pay47 (v33 b) (ix2 r l) = qhat a 2 (s r) l := by
  pointwise [k0_pay47, pay43_at h, pay45_at h, qhat]
theorem v123_at (r : Fin 512) (l : Fin 128) : v123 b (ix2 r l) = qhat a 2 (s r) l := pay47_at h r l
theorem pay48_at (r : Fin 512) (l : Fin 128) : k0_pay48 (v12 b) (v33 b) (ix2 r l) = qg a 2 (s r) l := by
  pointwise [k0_pay48, pay47_at h, v12_at h, qg]
theorem v125_at (r : Fin 512) (l : Fin 128) : v125 b (ix2 r l) = qg a 2 (s r) l := pay48_at h r l
theorem pay49_at (t : Fin 256) (l : Fin 128) : k0_pay49 b.k (ix2 t l) = a.k (ix2 t (colh 2 l)) := by
  pointwise [k0_pay49, h.k, colh]
theorem v126_at (t : Fin 256) (l : Fin 128) : v126 b (ix2 t l) = a.k (ix2 t (colh 2 l)) := pay49_at h t l
theorem pay50_at (r : Fin 512) (l : Fin 128) : k0_pay50 (v12 b) (v33 b) (ix2 r l) = qg a 2 (s r) l := by
  pointwise [k0_pay50, pay48_at h]
theorem v127_at (r : Fin 512) (l : Fin 128) : v127 b (ix2 r l) = qg a 2 (s r) l := pay50_at h r l
theorem pay51_at (t : Fin 256) (l : Fin 128) : k0_pay51 b.k (ix2 t l) = a.k (ix2 t (colh 2 l)) := by
  pointwise [k0_pay51, pay49_at h]
theorem v128_at (t : Fin 256) (l : Fin 128) : v128 b (ix2 t l) = a.k (ix2 t (colh 2 l)) := pay51_at h t l
theorem pay52_at (r : Fin 512) (t : Fin 256) : k0_pay52 (v127 b) (v128 b) (constant S512x256 .f32 0x00000000#32) (ix2 r t) = pw a 2 (s r) t := by
  pointwise [k0_pay52, v127_at h, v128_at h, pw, top, sc, scale, ofBits_neg_top]
theorem v136_at (r : Fin 512) (t : Fin 256) : v136 b (ix2 r t) = pw a 2 (s r) t := pay52_at h r t
theorem pay53_at (r : Fin 512) : k0_pay53 (v127 b) (v128 b) (constant S512x256 .f32 0x00000000#32) (ix2 r 0) = tot a 2 (s r) := by
  pointwise [k0_pay53, pay52_at h, tot]
theorem v138_at (r : Fin 512) : v138 b (ix2 r 0) = tot a 2 (s r) := pay53_at h r
theorem pay54_at (r : Fin 512) (t : Fin 256) : k0_pay54 (v127 b) (v128 b) (constant S512x256 .f32 0x00000000#32) (ix2 r t) = pr a 2 (s r) t := by
  pointwise [k0_pay54, pay52_at h, pay53_at h, pr]
theorem v140_at (r : Fin 512) (t : Fin 256) : v140 b (ix2 r t) = pr a 2 (s r) t := pay54_at h r t
theorem pay55_at (r : Fin 512) : k0_pay55 (v127 b) (v128 b) (constant S512x256 .f32 0x00000000#32) (ix2 r 0) = isq a 2 (s r) := by
  pointwise [k0_pay55, pay53_at h, isq, one]
theorem v143_at (r : Fin 512) : v143 b (ix2 r 0) = isq a 2 (s r) := pay55_at h r
theorem pay56_at (t : Fin 256) (l : Fin 128) : k0_pay56 b.v (ix2 t l) = a.v (ix2 t (colh 2 l)) := by
  pointwise [k0_pay56, h.v, colh]
theorem v144_at (t : Fin 256) (l : Fin 128) : v144 b (ix2 t l) = a.v (ix2 t (colh 2 l)) := pay56_at h t l
theorem pay57_at (r : Fin 512) (l : Fin 128) : k0_pay57 b.v (v127 b) (v128 b) (constant S512x256 .f32 0x00000000#32) (ix2 r l) = om a 2 (s r) l := by
  pointwise [k0_pay57, pay54_at h, pay56_at h, om]
theorem v147_at (r : Fin 512) (l : Fin 128) : v147 b (ix2 r l) = om a 2 (s r) l := pay57_at h r l
/-! ## Head 3: its query, the weights, the output -/

theorem pay58_at (r : Fin 512) (l : Fin 128) : k0_pay58 (v33 b) (ix2 r l) = q a 3 (s r) l := by
  pointwise [k0_pay58, v33_at h, q, colh]
theorem v148_at (r : Fin 512) (l : Fin 128) : v148 b (ix2 r l) = q a 3 (s r) l := pay58_at h r l
theorem pay59_at (r : Fin 512) : k0_pay59 (v33 b) (ix2 r 0) = var (1 / 128) (q a 3 (s r)) := by
  pointwise [k0_pay59, pay58_at h, var, ofBits_eps, ofBits_inv128]
theorem pay60_at (r : Fin 512) : k0_pay60 (v33 b) (ix2 r 0) = rinv (1 / 128) (q a 3 (s r)) := by
  pointwise [k0_pay60, pay59_at h, rinv]
theorem v156_at (r : Fin 512) : v156 b (ix2 r 0) = rinv (1 / 128) (q a 3 (s r)) := pay60_at h r
theorem pay61_at (r : Fin 512) : k0_pay61 (v33 b) (ix2 r 0) = rate (1 / 128) (q a 3 (s r)) := by
  pointwise [k0_pay61, pay59_at h, pay60_at h, rate, ofBits_neg_half]
theorem v159_at (r : Fin 512) : v159 b (ix2 r 0) = rate (1 / 128) (q a 3 (s r)) := pay61_at h r
theorem pay62_at (r : Fin 512) (l : Fin 128) : k0_pay62 (v33 b) (ix2 r l) = qhat a 3 (s r) l := by
  pointwise [k0_pay62, pay58_at h, pay60_at h, qhat]
theorem v161_at (r : Fin 512) (l : Fin 128) : v161 b (ix2 r l) = qhat a 3 (s r) l := pay62_at h r l
theorem pay63_at (r : Fin 512) (l : Fin 128) : k0_pay63 (v12 b) (v33 b) (ix2 r l) = qg a 3 (s r) l := by
  pointwise [k0_pay63, pay62_at h, v12_at h, qg]
theorem v163_at (r : Fin 512) (l : Fin 128) : v163 b (ix2 r l) = qg a 3 (s r) l := pay63_at h r l
theorem pay64_at (t : Fin 256) (l : Fin 128) : k0_pay64 b.k (ix2 t l) = a.k (ix2 t (colh 3 l)) := by
  pointwise [k0_pay64, h.k, colh]
theorem v164_at (t : Fin 256) (l : Fin 128) : v164 b (ix2 t l) = a.k (ix2 t (colh 3 l)) := pay64_at h t l
theorem pay65_at (r : Fin 512) (t : Fin 256) : k0_pay65 (v12 b) b.k (v33 b) (ix2 r t) = pw a 3 (s r) t := by
  pointwise [k0_pay65, pay63_at h, pay64_at h, pw, top, sc, scale, ofBits_neg_top]
theorem v174_at (r : Fin 512) (t : Fin 256) : v174 b (ix2 r t) = pw a 3 (s r) t := pay65_at h r t
theorem pay66_at (r : Fin 512) : k0_pay66 (v12 b) b.k (v33 b) (ix1 r) = tot a 3 (s r) := by
  pointwise [k0_pay66, pay65_at h, tot]
theorem v175_at (r : Fin 512) : v175 b (ix1 r) = tot a 3 (s r) := pay66_at h r
theorem pay67_at (r : Fin 512) : k0_pay67 (v175 b) (ix2 r 0) = tot a 3 (s r) := by
  pointwise [k0_pay67, v175_at h]
theorem pay68_at (r : Fin 512) (t : Fin 256) : k0_pay68 (v174 b) (v175 b) (ix2 r t) = pr a 3 (s r) t := by
  pointwise [k0_pay68, pay67_at h, v174_at h, pr]
theorem pay69_at (t : Fin 256) (l : Fin 128) : k0_pay69 b.v (ix2 t l) = a.v (ix2 t (colh 3 l)) := by
  pointwise [k0_pay69, h.v, colh]
/-! ## The heads' outputs side by side, and their cotangent -/

theorem pay70_at (r j : Fin 512) : k0_pay70 b.v (v71 b) (v109 b) (v147 b) (v174 b) (v175 b) (ix2 r j) = om a (hd j) (s r) (ln j) := by
  pointwise [k0_pay70, v71_at h, v109_at h, v147_at h, pay68_at h, pay69_at h]
  exact beside (fun i l => om a i (s r) l) j
theorem v186_at (r j : Fin 512) : v186 b (ix2 r j) = om a (hd j) (s r) (ln j) := pay70_at h r j

theorem pay71_at (r j : Fin 512) : k0_pay71 b.g (v7 b) (ix2 r j) = dom a (s r) j := by
  pointwise [k0_pay71, h.g, v7_at h, dom]
theorem pay72_at (r : Fin 512) (l : Fin 128) : k0_pay72 b.g (v7 b) (ix2 r l) = dom a (s r) (colh 0 l) := by
  pointwise [k0_pay72, pay71_at h, colh]
theorem v189_at (r : Fin 512) (l : Fin 128) : v189 b (ix2 r l) = dom a (s r) (colh 0 l) := pay72_at h r l
theorem pay73_at (r : Fin 512) (l : Fin 128) : k0_pay73 b.g (v7 b) (ix2 r l) = dom a (s r) (colh 1 l) := by
  pointwise [k0_pay73, pay71_at h, colh]
theorem v190_at (r : Fin 512) (l : Fin 128) : v190 b (ix2 r l) = dom a (s r) (colh 1 l) := pay73_at h r l
theorem pay74_at (r : Fin 512) (l : Fin 128) : k0_pay74 b.g (v7 b) (ix2 r l) = dom a (s r) (colh 2 l) := by
  pointwise [k0_pay74, pay71_at h, colh]
theorem v191_at (r : Fin 512) (l : Fin 128) : v191 b (ix2 r l) = dom a (s r) (colh 2 l) := pay74_at h r l
theorem pay75_at (r : Fin 512) (l : Fin 128) : k0_pay75 b.g (v7 b) (ix2 r l) = dom a (s r) (colh 3 l) := by
  pointwise [k0_pay75, pay71_at h, colh]
/-! ## The gradients, head after head -/

theorem pay76_at (t : Fin 256) (n : Fin 512) : k0_pay76 b.g (v7 b) (v174 b) (v175 b) (ix2 t n) = if h : n.val < 384 then 0 else ∑ r : Fin 512, pr a 3 (s r) t * dom a (s r) (colh 3 ⟨n.val - 384, by omega⟩) := by
  pointwise [k0_pay76, pay68_at h, pay75_at h]
theorem v200_at (t : Fin 256) (n : Fin 512) : v200 b (ix2 t n) = if h : n.val < 384 then 0 else ∑ r : Fin 512, pr a 3 (s r) t * dom a (s r) (colh 3 ⟨n.val - 384, by omega⟩) := pay76_at h t n
theorem pay77_at (r : Fin 512) (t : Fin 256) : k0_pay77 b.g (v7 b) b.v (v174 b) (v175 b) (ix2 r t) = ds a 3 (s r) t := by
  pointwise [k0_pay77, pay67_at h, v174_at h, pay75_at h, pay69_at h, ds, fall, dp, isq, one, scale]
  simp only [Fin.sum_univ_one, zero_sub]
theorem pay78_at (r : Fin 512) (l : Fin 128) : k0_pay78 b.g (v7 b) b.v (v164 b) (v174 b) (v175 b) (ix2 r l) = dqn a 3 (s r) l := by
  pointwise [k0_pay78, pay77_at h, v164_at h, dqn]
theorem v219_at (r : Fin 512) (l : Fin 128) : v219 b (ix2 r l) = dqn a 3 (s r) l := pay78_at h r l
theorem pay79_at (t : Fin 256) (l : Fin 128) : k0_pay79 b.g (v7 b) b.v (v163 b) (v174 b) (v175 b) (ix2 t l) = ∑ r : Fin 512, ds a 3 (s r) t * qg a 3 (s r) l := by
  pointwise [k0_pay79, pay77_at h, v163_at h]
theorem v222_at (t : Fin 256) (l : Fin 128) : v222 b (ix2 t l) = ∑ r : Fin 512, ds a 3 (s r) t * qg a 3 (s r) l := pay79_at h t l
theorem pay80_at (t : Fin 256) (n : Fin 512) : k0_pay80 (v222 b) (Scalar.ofBits .f32 0x00000000#32) (ix2 t n) = if h : n.val < 384 then 0 else ∑ r : Fin 512, ds a 3 (s r) t * qg a 3 (s r) ⟨n.val - 384, by omega⟩ := by
  pointwise [k0_pay80, v222_at h]
theorem v224_at (t : Fin 256) (n : Fin 512) : v224 b (ix2 t n) = if h : n.val < 384 then 0 else ∑ r : Fin 512, ds a 3 (s r) t * qg a 3 (s r) ⟨n.val - 384, by omega⟩ := pay80_at h t n
theorem pay81_at (l : Fin 128) : k0_pay81 (v161 b) (v219 b) (ix2 0 l) = ∑ r : Fin 512, qhat a 3 (s r) l * dqn a 3 (s r) l := by
  pointwise [k0_pay81, v161_at h, v219_at h]
theorem v227_at (l : Fin 128) : v227 b (ix2 0 l) = ∑ r : Fin 512, qhat a 3 (s r) l * dqn a 3 (s r) l := pay81_at h l
theorem pay82_at (r n : Fin 512) : k0_pay82 (v12 b) (v148 b) (v156 b) (v159 b) (v219 b) (ix2 r n) = if h : n.val < 384 then 0 else gh a 3 (s r) ⟨n.val - 384, by omega⟩ := by
  pointwise [k0_pay82, v12_at h, v148_at h, v156_at h, v159_at h, v219_at h, gh, ct, grad, through, ofBits_inv128]
  simp only [Fin.sum_univ_one, v159_at h]
theorem v246_at (r n : Fin 512) : v246 b (ix2 r n) = if h : n.val < 384 then 0 else gh a 3 (s r) ⟨n.val - 384, by omega⟩ := pay82_at h r n
theorem pay83_at (t : Fin 256) (n : Fin 512) : k0_pay83 (v140 b) (v191 b) (v200 b) (ix2 t n) = v200 b (ix2 t n) + (if h : n.val < 384 then if h' : n.val < 256 then 0 else ∑ r : Fin 512, pr a 2 (s r) t * dom a (s r) (colh 2 ⟨n.val - 256, by omega⟩) else 0) := by
  pointwise [k0_pay83, v140_at h, v191_at h]
theorem v257_at (t : Fin 256) (n : Fin 512) : v257 b (ix2 t n) = v200 b (ix2 t n) + (if h : n.val < 384 then if h' : n.val < 256 then 0 else ∑ r : Fin 512, pr a 2 (s r) t * dom a (s r) (colh 2 ⟨n.val - 256, by omega⟩) else 0) := pay83_at h t n
theorem pay84_at (r : Fin 512) (t : Fin 256) : k0_pay84 (v136 b) (v138 b) (v143 b) (v144 b) (v191 b) (ix2 r t) = (Ideal.div (dp a 2 (s r) t) (tot a 2 (s r)) + fall a 2 (s r)) * pw a 2 (s r) t := by
  pointwise [k0_pay84, v136_at h, v138_at h, v143_at h, v144_at h, v191_at h, fall, dp]
  simp only [Fin.sum_univ_one, zero_sub]
theorem v271_at (r : Fin 512) (t : Fin 256) : v271 b (ix2 r t) = (Ideal.div (dp a 2 (s r) t) (tot a 2 (s r)) + fall a 2 (s r)) * pw a 2 (s r) t := pay84_at h r t
theorem pay85_at (r : Fin 512) (t : Fin 256) : k0_pay85 (v271 b) (ix2 r t) = ds a 2 (s r) t := by
  pointwise [k0_pay85, v271_at h, ds, scale]
theorem pay86_at (r : Fin 512) (l : Fin 128) : k0_pay86 (v126 b) (v271 b) (ix2 r l) = dqn a 2 (s r) l := by
  pointwise [k0_pay86, pay85_at h, v126_at h, dqn]
theorem pay87_at (t : Fin 256) (n : Fin 512) : k0_pay87 (v125 b) (v224 b) (v271 b) (ix2 t n) = v224 b (ix2 t n) + (if h : n.val < 384 then if h' : n.val < 256 then 0 else ∑ r : Fin 512, ds a 2 (s r) t * qg a 2 (s r) ⟨n.val - 256, by omega⟩ else 0) := by
  pointwise [k0_pay87, pay85_at h, v125_at h]
theorem v284_at (t : Fin 256) (n : Fin 512) : v284 b (ix2 t n) = v224 b (ix2 t n) + (if h : n.val < 384 then if h' : n.val < 256 then 0 else ∑ r : Fin 512, ds a 2 (s r) t * qg a 2 (s r) ⟨n.val - 256, by omega⟩ else 0) := pay87_at h t n
theorem pay88_at (l : Fin 128) : k0_pay88 (v123 b) (v126 b) (v227 b) (v271 b) (ix2 0 l) = v227 b (ix2 0 l) + ∑ r : Fin 512, qhat a 2 (s r) l * dqn a 2 (s r) l := by
  pointwise [k0_pay88, v123_at h, pay86_at h]
theorem v288_at (l : Fin 128) : v288 b (ix2 0 l) = v227 b (ix2 0 l) + ∑ r : Fin 512, qhat a 2 (s r) l * dqn a 2 (s r) l := pay88_at h l
theorem pay89_at (r n : Fin 512) : k0_pay89 (v12 b) (v110 b) (v118 b) (v121 b) (v126 b) (v246 b) (v271 b) (ix2 r n) = v246 b (ix2 r n) + (if h : n.val < 384 then if h' : n.val < 256 then 0 else gh a 2 (s r) ⟨n.val - 256, by omega⟩ else 0) := by
  pointwise [k0_pay89, v12_at h, v110_at h, v118_at h, v121_at h, pay86_at h, gh, ct, grad, through, ofBits_inv128]
  simp only [Fin.sum_univ_one, v121_at h]
theorem v310_at (r n : Fin 512) : v310 b (ix2 r n) = v246 b (ix2 r n) + (if h : n.val < 384 then if h' : n.val < 256 then 0 else gh a 2 (s r) ⟨n.val - 256, by omega⟩ else 0) := pay89_at h r n
theorem pay90_at (r : Fin 512) (t : Fin 256) : k0_pay90 (v106 b) (v190 b) (ix2 r t) = dp a 1 (s r) t := by
  pointwise [k0_pay90, v190_at h, v106_at h, dp]
theorem v313_at (r : Fin 512) (t : Fin 256) : v313 b (ix2 r t) = dp a 1 (s r) t := pay90_at h r t
theorem pay91_at (t n : Fin 256) : k0_pay91 (v102 b) (v190 b) (ix2 t n) = if h : n.val < 128 then 0 else ∑ r : Fin 512, pr a 1 (s r) t * dom a (s r) (colh 1 ⟨n.val - 128, by omega⟩) := by
  pointwise [k0_pay91, v102_at h, v190_at h]
theorem v318_at (t n : Fin 256) : v318 b (ix2 t n) = if h : n.val < 128 then 0 else ∑ r : Fin 512, pr a 1 (s r) t * dom a (s r) (colh 1 ⟨n.val - 128, by omega⟩) := pay91_at h t n
omit h in
theorem v319_at (t n : Fin 256) : v319 (ix2 t n) = 0 := by
  unfold v319
  pointwise [k0_pay92]
theorem pay93_at (t : Fin 256) (n : Fin 512) : k0_pay93 (v257 b) (v318 b) v319 (ix2 t n) = v257 b (ix2 t n) + (if h : n.val < 256 then if h' : n.val < 128 then 0 else ∑ r : Fin 512, pr a 1 (s r) t * dom a (s r) (colh 1 ⟨n.val - 128, by omega⟩) else 0) := by
  pointwise [k0_pay93, v318_at h, v319_at]
theorem v321_at (t : Fin 256) (n : Fin 512) : v321 b (ix2 t n) = v257 b (ix2 t n) + (if h : n.val < 256 then if h' : n.val < 128 then 0 else ∑ r : Fin 512, pr a 1 (s r) t * dom a (s r) (colh 1 ⟨n.val - 128, by omega⟩) else 0) := pay93_at h t n
theorem pay94_at (r : Fin 512) (t : Fin 256) : k0_pay94 (v98 b) (v100 b) (v105 b) (v313 b) (ix2 r t) = ds a 1 (s r) t := by
  pointwise [k0_pay94, v98_at h, v100_at h, v105_at h, v313_at h, ds, fall, scale]
  simp only [Fin.sum_univ_one, zero_sub]
theorem pay95_at (r : Fin 512) (l : Fin 128) : k0_pay95 (v88 b) (v98 b) (v100 b) (v105 b) (v313 b) (ix2 r l) = dqn a 1 (s r) l := by
  pointwise [k0_pay95, pay94_at h, v88_at h, dqn]
theorem pay96_at (t : Fin 256) (n : Fin 512) : k0_pay96 (v87 b) (v98 b) (v100 b) (v105 b) (v284 b) (v313 b) (ix2 t n) = v284 b (ix2 t n) + (if h : n.val < 256 then if h' : n.val < 128 then 0 else ∑ r : Fin 512, ds a 1 (s r) t * qg a 1 (s r) ⟨n.val - 128, by omega⟩ else 0) := by
  pointwise [k0_pay96, pay94_at h, v87_at h]
theorem v348_at (t : Fin 256) (n : Fin 512) : v348 b (ix2 t n) = v284 b (ix2 t n) + (if h : n.val < 256 then if h' : n.val < 128 then 0 else ∑ r : Fin 512, ds a 1 (s r) t * qg a 1 (s r) ⟨n.val - 128, by omega⟩ else 0) := pay96_at h t n
theorem pay97_at (l : Fin 128) : k0_pay97 (v85 b) (v88 b) (v98 b) (v100 b) (v105 b) (v288 b) (v313 b) (ix2 0 l) = v288 b (ix2 0 l) + ∑ r : Fin 512, qhat a 1 (s r) l * dqn a 1 (s r) l := by
  pointwise [k0_pay97, v85_at h, pay95_at h]
theorem v352_at (l : Fin 128) : v352 b (ix2 0 l) = v288 b (ix2 0 l) + ∑ r : Fin 512, qhat a 1 (s r) l * dqn a 1 (s r) l := pay97_at h l
theorem pay98_at (r : Fin 512) (l : Fin 128) : k0_pay98 (v12 b) (v88 b) (v98 b) (v100 b) (v105 b) (v313 b) (ix2 r l) = ct a 1 (s r) l := by
  pointwise [k0_pay98, pay95_at h, v12_at h, ct]
theorem pay99_at (r : Fin 512) (l : Fin 128) : k0_pay99 (v12 b) (v72 b) (v83 b) (v88 b) (v98 b) (v100 b) (v105 b) (v313 b) (ix2 r l) = through (1 / 128) (q a 1 (s r)) (ct a 1 (s r)) := by
  pointwise [k0_pay99, pay98_at h, v72_at h, v83_at h, through, ofBits_inv128]
  simp only [Fin.sum_univ_one, v83_at h]
theorem pay100_at (r : Fin 512) (l : Fin 128) : k0_pay100 (v12 b) (v72 b) (v80 b) (v83 b) (v88 b) (v98 b) (v100 b) (v105 b) (v313 b) (ix2 r l) = ct a 1 (s r) l * rinv (1 / 128) (q a 1 (s r)) + q a 1 (s r) l * through (1 / 128) (q a 1 (s r)) (ct a 1 (s r)) := by
  pointwise [k0_pay100, pay98_at h, pay99_at h, v72_at h, v80_at h]
theorem v367_at (r : Fin 512) (l : Fin 128) : v367 b (ix2 r l) = ct a 1 (s r) l * rinv (1 / 128) (q a 1 (s r)) + q a 1 (s r) l * through (1 / 128) (q a 1 (s r)) (ct a 1 (s r)) := pay100_at h r l
theorem pay101_at (r : Fin 512) (l : Fin 128) : k0_pay101 (v12 b) (v72 b) (v83 b) (v88 b) (v98 b) (v100 b) (v105 b) (v313 b) (ix2 r l) = through (1 / 128) (q a 1 (s r)) (ct a 1 (s r)) * q a 1 (s r) l := by
  pointwise [k0_pay101, pay99_at h, v72_at h]
theorem v368_at (r : Fin 512) (l : Fin 128) : v368 b (ix2 r l) = through (1 / 128) (q a 1 (s r)) (ct a 1 (s r)) * q a 1 (s r) l := pay101_at h r l
theorem pay102_at (r n : Fin 512) : k0_pay102 (v310 b) (v367 b) (v368 b) (ix2 r n) = v310 b (ix2 r n) + (if h : n.val < 256 then if h' : n.val < 128 then 0 else gh a 1 (s r) ⟨n.val - 128, by omega⟩ else 0) := by
  pointwise [k0_pay102, v367_at h, v368_at h, gh, grad]
theorem v374_at (r n : Fin 512) : v374 b (ix2 r n) = v310 b (ix2 r n) + (if h : n.val < 256 then if h' : n.val < 128 then 0 else gh a 1 (s r) ⟨n.val - 128, by omega⟩ else 0) := pay102_at h r n
theorem pay103_at (t : Fin 256) (n : Fin 512) : k0_pay103 (v64 b) (v189 b) (v321 b) (ix2 t n) = v321 b (ix2 t n) + (if h : n.val < 128 then ∑ r : Fin 512, pr a 0 (s r) t * dom a (s r) (colh 0 ⟨n.val, h⟩) else 0) := by
  pointwise [k0_pay103, v64_at h, v189_at h]
theorem v383_at (t : Fin 256) (n : Fin 512) : v383 b (ix2 t n) = v321 b (ix2 t n) + (if h : n.val < 128 then ∑ r : Fin 512, pr a 0 (s r) t * dom a (s r) (colh 0 ⟨n.val, h⟩) else 0) := pay103_at h t n
theorem pay104_at (r : Fin 512) (t : Fin 256) : k0_pay104 (v60 b) (v62 b) (v67 b) (v68 b) (v189 b) (ix2 r t) = ds a 0 (s r) t := by
  pointwise [k0_pay104, v60_at h, v62_at h, v67_at h, v68_at h, v189_at h, ds, fall, dp, scale]
  simp only [Fin.sum_univ_one, zero_sub]
theorem pay105_at (r : Fin 512) (l : Fin 128) : k0_pay105 (v50 b) (v60 b) (v62 b) (v67 b) (v68 b) (v189 b) (ix2 r l) = dqn a 0 (s r) l := by
  pointwise [k0_pay105, pay104_at h, v50_at h, dqn]
theorem pay106_at (t : Fin 256) (n : Fin 512) : k0_pay106 (v49 b) (v60 b) (v62 b) (v67 b) (v68 b) (v189 b) (v348 b) (ix2 t n) = v348 b (ix2 t n) + (if h : n.val < 128 then ∑ r : Fin 512, ds a 0 (s r) t * qg a 0 (s r) ⟨n.val, h⟩ else 0) := by
  pointwise [k0_pay106, pay104_at h, v49_at h]
theorem v408_at (t : Fin 256) (n : Fin 512) : v408 b (ix2 t n) = v348 b (ix2 t n) + (if h : n.val < 128 then ∑ r : Fin 512, ds a 0 (s r) t * qg a 0 (s r) ⟨n.val, h⟩ else 0) := pay106_at h t n
theorem pay107_at (l : Fin 128) : k0_pay107 (v47 b) (v50 b) (v60 b) (v62 b) (v67 b) (v68 b) (v189 b) (v352 b) (ix2 0 l) = v352 b (ix2 0 l) + ∑ r : Fin 512, qhat a 0 (s r) l * dqn a 0 (s r) l := by
  pointwise [k0_pay107, v47_at h, pay105_at h]
theorem v412_at (l : Fin 128) : v412 b (ix2 0 l) = v352 b (ix2 0 l) + ∑ r : Fin 512, qhat a 0 (s r) l * dqn a 0 (s r) l := pay107_at h l
theorem pay108_at (r : Fin 512) (l : Fin 128) : k0_pay108 (v12 b) (v50 b) (v60 b) (v62 b) (v67 b) (v68 b) (v189 b) (ix2 r l) = ct a 0 (s r) l := by
  pointwise [k0_pay108, pay105_at h, v12_at h, ct]
theorem v414_at (r : Fin 512) (l : Fin 128) : v414 b (ix2 r l) = ct a 0 (s r) l := pay108_at h r l
theorem pay109_at (r : Fin 512) (l : Fin 128) : k0_pay109 (v12 b) (v34 b) (v50 b) (v60 b) (v62 b) (v67 b) (v68 b) (v189 b) (ix2 r l) = q a 0 (s r) l * ct a 0 (s r) l := by
  pointwise [k0_pay109, pay108_at h, v34_at h]
theorem v415_at (r : Fin 512) (l : Fin 128) : v415 b (ix2 r l) = q a 0 (s r) l * ct a 0 (s r) l := pay109_at h r l
theorem pay110_at (r n : Fin 512) : k0_pay110 (v34 b) (v42 b) (v45 b) (v374 b) (v414 b) (v415 b) (ix2 r n) = gq a (s r) n := by
  pointwise [k0_pay110, v34_at h, v42_at h, v45_at h, v374_at h, v310_at h, v246_at h, v414_at h, v415_at h, ofBits_inv128]
  simp only [Fin.sum_univ_one, v45_at h]
  exact stack (fun i l => gh a i (s r) l) n
theorem v432_at (r n : Fin 512) : v432 b (ix2 r n) = gq a (s r) n := pay110_at h r n

/-! ## What a block adds to each result -/

theorem dv_at (t : Fin 256) (n : Fin 512) : v383 b (ix2 t n) = ∑ r : Fin 512, dvTerm a (s r) t n := by
  rw [v383_at h, v321_at h, v257_at h, v200_at h]
  refine (stack (fun i l => ∑ r : Fin 512, pr a i (s r) t * dom a (s r) (colh i l)) n).trans ?_
  simp only [colh_hd, dvTerm]
theorem dk_at (t : Fin 256) (n : Fin 512) : v408 b (ix2 t n) = ∑ r : Fin 512, dkTerm a (s r) t n := by
  rw [v408_at h, v348_at h, v284_at h, v224_at h]
  exact stack (fun i l => ∑ r : Fin 512, ds a i (s r) t * qg a i (s r) l) n
theorem dmqn_at (l : Fin 128) : v412 b (ix2 0 l) = ∑ r : Fin 512, dqnTerm a (s r) l := by
  rw [v412_at h, v352_at h, v288_at h, v227_at h]
  simp only [dqnTerm, Fin.sum_univ_four, Finset.sum_add_distrib]
  ac_rfl

theorem pay111_at (r : Fin 512) (c : Fin 1024) : k0_pay111 (v5 b) (v34 b) (v42 b) (v45 b) (v374 b) (v414 b) (v415 b) (ix2 r c) = dh2 a (s r) c := by
  pointwise [k0_pay111, pay110_at h, v5_at h, dh2]
theorem pay112_at (r : Fin 512) (c : Fin 1024) : k0_pay112 b.g (v5 b) b.x (v10 b) (v23 b) (v26 b) (v34 b) (v42 b) (v45 b) (v374 b) (v414 b) (v415 b) (ix2 r c) = dx a (s r) c := by
  pointwise [k0_pay112, pay111_at h, h.g, h.x, v10_at h, v23_at h, v26_at h, dx, X, grad, through, ofBits_inv1024]
  simp only [Fin.sum_univ_one, v26_at h]
theorem pay113_at (v457 : Vec Ideal S1x1024 .f32) (c : Fin 1024) : k0_pay113 (v5 b) (v28 b) (v34 b) (v42 b) (v45 b) (v374 b) (v414 b) (v415 b) v457 (ix2 0 c) = v457 (ix2 0 c) + ∑ r : Fin 512, dmanTerm a (s r) c := by
  pointwise [k0_pay113, pay111_at h, v28_at h, dmanTerm]
theorem pay114_at (v461 : Vec Ideal S1x128 .f32) (l : Fin 128) : k0_pay114 (v412 b) v461 (ix2 0 l) = v461 (ix2 0 l) + ∑ r : Fin 512, dqnTerm a (s r) l := by
  pointwise [k0_pay114, dmqn_at h]
theorem pay115_at (v465 : Vec Ideal S256x512 .f32) (t : Fin 256) (n : Fin 512) : k0_pay115 (v408 b) v465 (ix2 t n) = v465 (ix2 t n) + ∑ r : Fin 512, dkTerm a (s r) t n := by
  pointwise [k0_pay115, dk_at h]
theorem pay116_at (v469 : Vec Ideal S256x512 .f32) (t : Fin 256) (n : Fin 512) : k0_pay116 (v383 b) v469 (ix2 t n) = v469 (ix2 t n) + ∑ r : Fin 512, dvTerm a (s r) t n := by
  pointwise [k0_pay116, dv_at h]
theorem pay117_at (v473 : Vec Ideal S1024x512 .f32) (c : Fin 1024) (j : Fin 512) : k0_pay117 (v30 b) (v432 b) v473 (ix2 c j) = v473 (ix2 c j) + ∑ r : Fin 512, dwqTerm a (s r) c j := by
  pointwise [k0_pay117, v30_at h, v432_at h, dwqTerm]
theorem pay118_at (v480 : Vec Ideal S512x1024 .f32) (j : Fin 512) (c : Fin 1024) : k0_pay118 b.g (v186 b) v480 (ix2 j c) = v480 (ix2 j c) + ∑ r : Fin 512, dwoTerm a (s r) j c := by
  pointwise [k0_pay118, h.g, v186_at h, dwoTerm]

end Cert.Mem

end
-- ==== Proof.Mem.Kernel.lean ====
/-
What the seven results hold after the run of `_mem_bwd`.
-/
module

public import proofs.«01_k».proof.Proof.Gen.KernelMemIdeal.Value
public import proofs.«01_k».proof.Proof.Mem.Point
public import Idealize.ShloMosaic.Lib.Pipeline.ReadBack
public import Idealize.ShloMosaic.Lib.Pipeline.ValueKit

@[expose] public section

set_option maxRecDepth 16384

noncomputable section

namespace Cert.Mem

open Idealize.ShloMosaic Idealize.ShloMosaic.TcCoe Idealize.SL.Sem
open Idealize.ShloMosaic.Pipeline (Dat)
open Cert.KernelMemIdeal Cert.KernelMemIdeal.Gen Cert.Rms Cert.Ffn Cert.Norm

variable (m : (ℓ : Loc nD τ sig) → Buf (Elt Ideal) ℓ)

/-- The kernel's arguments on device `c`. -/
def args (c : Dev nD) : Args where
  x := m ((c : Thread nD τ).loc main_arg0)
  g := m ((c : Thread nD τ).loc main_arg1)
  man := m ((c : Thread nD τ).loc main_arg2)
  qn := m ((c : Thread nD τ).loc main_arg3)
  k := m ((c : Thread nD τ).loc main_arg4)
  v := m ((c : Thread nD τ).loc main_arg5)
  wq := m ((c : Thread nD τ).loc main_arg6)
  wo := m ((c : Thread nD τ).loc main_arg7)

theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0] ∧ win0_6.index t = ![0, 0]
    ∧ win0_7.index t = ![0, 0] ∧ win0_8.index t = ![t.val, 0] ∧ win0_9.index t = ![0, 0] ∧ win0_10.index t = ![0, 0]
    ∧ win0_11.index t = ![0, 0] ∧ win0_12.index t = ![0, 0] ∧ win0_13.index t = ![0, 0] ∧ win0_14.index t = ![0, 0] :=
  (by decide +kernel : ∀ t : Fin grid0.N, _)

/-- Row `r` of grid point `t`'s block. -/
def row (t : Fin cfg0.N) (r : Fin 512) : Fin 8192 := ⟨t.val * 512 + r.val, by have := lt_of_lt_of_eq t.isLt N_0; omega⟩

/-- What the host hands over: the gains as rows, the weights. -/
theorem entry_man (c : Dev nD) (j : Fin 1024) : V m c main_v0 (ix2 0 j) = (args m c).man (ix1 j) := by
  unfold V; simp only [hostOps0]; after_results; pointwise [args]
theorem entry_qn (c : Dev nD) (l : Fin 128) : V m c main_v1 (ix2 0 l) = (args m c).qn (ix1 l) := by
  unfold V; simp only [hostOps0]; after_results; pointwise [args]
theorem entry_wq (c : Dev nD) (k : Fin 1024) (j : Fin 512) : V m c main_v2 (ix2 k j) = (args m c).wq (ix2 k j) := by
  unfold V; simp only [hostOps0]; after_results; pointwise [args]
theorem entry_wo (c : Dev nD) (j : Fin 512) (k : Fin 1024) : V m c main_v3 (ix2 j k) = (args m c).wo (ix2 j k) := by
  unfold V; simp only [hostOps0]; after_results; pointwise [args]

theorem blocks (c : Dev nD) (t : Fin cfg0.N) : Blocks (args m c) (row t)
    ⟨iblk m c 0 t, iblk m c 1 t, iblk m c 2 t, iblk m c 3 t, iblk m c 4 t, iblk m c 5 t, iblk m c 6 t, iblk m c 7 t⟩ where
  x r k := by show iblk m c 0 t (ix2 r k) = _; blk_point [iblk, V, args, row, idx t]
  g r k := by show iblk m c 1 t (ix2 r k) = _; blk_point [iblk, V, args, row, idx t]
  man j := by rw [← entry_man m c j]; show iblk m c 2 t (ix2 0 j) = _; blk_point [iblk, idx t]
  qn j := by rw [← entry_qn m c j]; show iblk m c 3 t (ix2 0 j) = _; blk_point [iblk, idx t]
  k t' j := by show iblk m c 4 t (ix2 t' j) = _; blk_point [iblk, V, args, idx t]
  v t' j := by show iblk m c 5 t (ix2 t' j) = _; blk_point [iblk, V, args, idx t]
  wq k j := by rw [← entry_wq m c k j]; show iblk m c 6 t (ix2 k j) = _; blk_point [iblk, idx t]
  wo j k := by rw [← entry_wo m c j k]; show iblk m c 7 t (ix2 j k) = _; blk_point [iblk, idx t]

/-- … by name: a point's blocks, all at once. -/
theorem point (c : Dev nD) (t : Fin cfg0.N) : ∃ b : Blk, Blocks (args m c) (row t) b ∧ iblk m c 0 t = b.x ∧ iblk m c 1 t = b.g
    ∧ iblk m c 2 t = b.man ∧ iblk m c 3 t = b.qn ∧ iblk m c 4 t = b.k ∧ iblk m c 5 t = b.v ∧ iblk m c 6 t = b.wq ∧ iblk m c 7 t = b.wo :=
  ⟨_, blocks m c t, rfl, rfl, rfl, rfl, rfl, rfl, rfl, rfl⟩

theorem emb8 (t : Fin cfg0.N) (y0 : Fin 512) (y1 : Fin 1024) : ((cfg0.win 8).blk t).view.emb (ix2 y0 y1) = ix2 (row t y0) y1 := by
  blk_ext [row, idx t]

theorem final_dx (c : Dev nD) : (dats m 0 c).arrAt 8 cfg0.N = fun i => dx (args m c) (i 0) (i 1) := by
  refine (dats m 0 c).arrAt_eq_of_covers 8 _ (by decide +kernel) fun t _ y => ?_
  idx_vars y
  rw [emb8 t y0 y1]
  blk_simp
  rw [after0_8]
  obtain ⟨b, hb, e0, e1, e2, e3, e4, e5, e6, e7⟩ := point m c t
  by_cases h : t.val % 16 = 0
  · rw [outsAt0_A m c t h]; frame_out
    simp only [e0, e1, e2, e3, e4, e5, e6, e7]
    exact pay112_at hb y0 y1
  · rw [outsAt0_B m c t h]; frame_out
    simp only [e0, e1, e2, e3, e4, e5, e6, e7]
    exact pay112_at hb y0 y1

/-- The sum of a term over all rows, block by block. -/
theorem sum_rows (f : Fin 8192 → EReal) : ∑ t : Fin cfg0.N, ∑ r : Fin 512, f (row t r) = ∑ s : Fin 8192, f s :=
  Fin.sum_mul_add_fin cfg0.N 512 f (by decide +kernel)

/-- What a grid point adds to the gradients of gains, keys, values and weights. -/
def dmanAt (a : Args) (t : Fin cfg0.N) (i : S1x1024.Idx) : EReal := ∑ r : Fin 512, dmanTerm a (row t r) (i 1)
def dmqnAt (a : Args) (t : Fin cfg0.N) (i : S1x128.Idx) : EReal := ∑ r : Fin 512, dqnTerm a (row t r) (i 1)
def dkAt (a : Args) (t : Fin cfg0.N) (i : S256x512.Idx) : EReal := ∑ r : Fin 512, dkTerm a (row t r) (i 0) (i 1)
def dvAt (a : Args) (t : Fin cfg0.N) (i : S256x512.Idx) : EReal := ∑ r : Fin 512, dvTerm a (row t r) (i 0) (i 1)
def dwqAt (a : Args) (t : Fin cfg0.N) (i : S1024x512.Idx) : EReal := ∑ r : Fin 512, dwqTerm a (row t r) (i 0) (i 1)
def dwoAt (a : Args) (t : Fin cfg0.N) (i : S512x1024.Idx) : EReal := ∑ r : Fin 512, dwoTerm a (row t r) (i 0) (i 1)

theorem dman_first (c : Dev nD) (t : Fin cfg0.N) (h : t.val % 16 = 0) (i : S1x1024.Idx) :
    (show EReal from (outsAt0 m c t.val t.isLt).2.1 i) = 0 + dmanAt (args m c) t i := by
  idx_vars i
  obtain rfl := Fin.fin_one_eq_zero i0
  rw [outsAt0_A m c t h]; frame_out
  obtain ⟨b, hb, e0, e1, e2, e3, e4, e5, e6, e7⟩ := point m c t
  simp only [e0, e1, e2, e3, e4, e5, e6, e7]
  refine (pay113_at hb _ i1).trans ?_
  rw [dmanAt]; congr 1
  pointwise [k0_pay1]

theorem dman_next (c : Dev nD) (t : Fin cfg0.N) (h : ¬t.val % 16 = 0) (i : S1x1024.Idx) :
    (show EReal from (outsAt0 m c t.val t.isLt).2.1 i)
      = (show EReal from (outsAt0 m c (t.val - 1) (Nat.lt_of_le_of_lt (Nat.sub_le _ _) t.isLt)).2.1 i) + dmanAt (args m c) t i := by
  idx_vars i
  obtain rfl := Fin.fin_one_eq_zero i0
  rw [outsAt0_B m c t h]; frame_out
  obtain ⟨b, hb, e0, e1, e2, e3, e4, e5, e6, e7⟩ := point m c t
  simp only [e0, e1, e2, e3, e4, e5, e6, e7]
  exact pay113_at hb _ i1

theorem final_dman (c : Dev nD) : (dats m 0 c).arrAt 9 cfg0.N = fun i => dman (args m c) (i 1) := by
  refine (dats m 0 c).arrAt_eq_of_after_last 9 t0_15 (by decide +kernel) _ fun j => ?_
  idx_vars j
  blk_simp
  rw [after0_9]
  refine (Pipeline.eq_sum_fin_of_reset_step_apply_last (f := fun n h i => (show EReal from (outsAt0 m c n h).2.1 i)) 16 (fun _ => 0)
      (dmanAt (args m c)) (dman_first m c) (dman_next m c) (le_of_eq N_0) t0_15 rfl (ix2 j0 j1)).trans ?_
  rw [zero_add]
  exact sum_rows fun s => dmanTerm (args m c) s j1

theorem dmqn_first (c : Dev nD) (t : Fin cfg0.N) (h : t.val % 16 = 0) (i : S1x128.Idx) :
    (show EReal from (outsAt0 m c t.val t.isLt).2.2.1 i) = 0 + dmqnAt (args m c) t i := by
  idx_vars i
  obtain rfl := Fin.fin_one_eq_zero i0
  rw [outsAt0_A m c t h]; frame_out
  obtain ⟨b, hb, e0, e1, e2, e3, e4, e5, e6, e7⟩ := point m c t
  simp only [e0, e1, e2, e3, e4, e5, e6, e7]
  refine (pay114_at hb _ i1).trans ?_
  rw [dmqnAt]; congr 1
  pointwise [k0_pay2]

theorem dmqn_next (c : Dev nD) (t : Fin cfg0.N) (h : ¬t.val % 16 = 0) (i : S1x128.Idx) :
    (show EReal from (outsAt0 m c t.val t.isLt).2.2.1 i)
      = (show EReal from (outsAt0 m c (t.val - 1) (Nat.lt_of_le_of_lt (Nat.sub_le _ _) t.isLt)).2.2.1 i) + dmqnAt (args m c) t i := by
  idx_vars i
  obtain rfl := Fin.fin_one_eq_zero i0
  rw [outsAt0_B m c t h]; frame_out
  obtain ⟨b, hb, e0, e1, e2, e3, e4, e5, e6, e7⟩ := point m c t
  simp only [e0, e1, e2, e3, e4, e5, e6, e7]
  exact pay114_at hb _ i1

theorem final_dmqn (c : Dev nD) : (dats m 0 c).arrAt 10 cfg0.N = fun i => dmqn (args m c) (i 1) := by
  refine (dats m 0 c).arrAt_eq_of_after_last 10 t0_15 (by decide +kernel) _ fun j => ?_
  idx_vars j
  blk_simp
  rw [after0_10]
  refine (Pipeline.eq_sum_fin_of_reset_step_apply_last (f := fun n h i => (show EReal from (outsAt0 m c n h).2.2.1 i)) 16 (fun _ => 0)
      (dmqnAt (args m c)) (dmqn_first m c) (dmqn_next m c) (le_of_eq N_0) t0_15 rfl (ix2 j0 j1)).trans ?_
  rw [zero_add]
  exact sum_rows fun s => dqnTerm (args m c) s j1

theorem dk_first (c : Dev nD) (t : Fin cfg0.N) (h : t.val % 16 = 0) (i : S256x512.Idx) :
    (show EReal from (outsAt0 m c t.val t.isLt).2.2.2.1 i) = 0 + dkAt (args m c) t i := by
  idx_vars i
  rw [outsAt0_A m c t h]; frame_out
  obtain ⟨b, hb, e0, e1, e2, e3, e4, e5, e6, e7⟩ := point m c t
  simp only [e0, e1, e2, e3, e4, e5, e6, e7]
  refine (pay115_at hb _ i0 i1).trans ?_
  rw [dkAt]; congr 1
  pointwise [k0_pay3]

theorem dk_next (c : Dev nD) (t : Fin cfg0.N) (h : ¬t.val % 16 = 0) (i : S256x512.Idx) :
    (show EReal from (outsAt0 m c t.val t.isLt).2.2.2.1 i)
      = (show EReal from (outsAt0 m c (t.val - 1) (Nat.lt_of_le_of_lt (Nat.sub_le _ _) t.isLt)).2.2.2.1 i) + dkAt (args m c) t i := by
  idx_vars i
  rw [outsAt0_B m c t h]; frame_out
  obtain ⟨b, hb, e0, e1, e2, e3, e4, e5, e6, e7⟩ := point m c t
  simp only [e0, e1, e2, e3, e4, e5, e6, e7]
  exact pay115_at hb _ i0 i1

theorem final_dk (c : Dev nD) : (dats m 0 c).arrAt 11 cfg0.N = fun i => dk (args m c) (i 0) (i 1) := by
  refine (dats m 0 c).arrAt_eq_of_after_last 11 t0_15 (by decide +kernel) _ fun j => ?_
  idx_vars j
  blk_simp
  rw [after0_11]
  refine (Pipeline.eq_sum_fin_of_reset_step_apply_last (f := fun n h i => (show EReal from (outsAt0 m c n h).2.2.2.1 i)) 16 (fun _ => 0)
      (dkAt (args m c)) (dk_first m c) (dk_next m c) (le_of_eq N_0) t0_15 rfl (ix2 j0 j1)).trans ?_
  rw [zero_add]
  exact sum_rows fun s => dkTerm (args m c) s j0 j1

theorem dv_first (c : Dev nD) (t : Fin cfg0.N) (h : t.val % 16 = 0) (i : S256x512.Idx) :
    (show EReal from (outsAt0 m c t.val t.isLt).2.2.2.2.1 i) = 0 + dvAt (args m c) t i := by
  idx_vars i
  rw [outsAt0_A m c t h]; frame_out
  obtain ⟨b, hb, e0, e1, e2, e3, e4, e5, e6, e7⟩ := point m c t
  simp only [e0, e1, e2, e3, e4, e5, e6, e7]
  refine (pay116_at hb _ i0 i1).trans ?_
  rw [dvAt]; congr 1
  pointwise [k0_pay4]

theorem dv_next (c : Dev nD) (t : Fin cfg0.N) (h : ¬t.val % 16 = 0) (i : S256x512.Idx) :
    (show EReal from (outsAt0 m c t.val t.isLt).2.2.2.2.1 i)
      = (show EReal from (outsAt0 m c (t.val - 1) (Nat.lt_of_le_of_lt (Nat.sub_le _ _) t.isLt)).2.2.2.2.1 i) + dvAt (args m c) t i := by
  idx_vars i
  rw [outsAt0_B m c t h]; frame_out
  obtain ⟨b, hb, e0, e1, e2, e3, e4, e5, e6, e7⟩ := point m c t
  simp only [e0, e1, e2, e3, e4, e5, e6, e7]
  exact pay116_at hb _ i0 i1

theorem final_dv (c : Dev nD) : (dats m 0 c).arrAt 12 cfg0.N = fun i => dv (args m c) (i 0) (i 1) := by
  refine (dats m 0 c).arrAt_eq_of_after_last 12 t0_15 (by decide +kernel) _ fun j => ?_
  idx_vars j
  blk_simp
  rw [after0_12]
  refine (Pipeline.eq_sum_fin_of_reset_step_apply_last (f := fun n h i => (show EReal from (outsAt0 m c n h).2.2.2.2.1 i)) 16 (fun _ => 0)
      (dvAt (args m c)) (dv_first m c) (dv_next m c) (le_of_eq N_0) t0_15 rfl (ix2 j0 j1)).trans ?_
  rw [zero_add]
  exact sum_rows fun s => dvTerm (args m c) s j0 j1

theorem dwq_first (c : Dev nD) (t : Fin cfg0.N) (h : t.val % 16 = 0) (i : S1024x512.Idx) :
    (show EReal from (outsAt0 m c t.val t.isLt).2.2.2.2.2.1 i) = 0 + dwqAt (args m c) t i := by
  idx_vars i
  rw [outsAt0_A m c t h]; frame_out
  obtain ⟨b, hb, e0, e1, e2, e3, e4, e5, e6, e7⟩ := point m c t
  simp only [e0, e1, e2, e3, e4, e5, e6, e7]
  refine (pay117_at hb _ i0 i1).trans ?_
  rw [dwqAt]; congr 1
  pointwise [k0_pay5]

theorem dwq_next (c : Dev nD) (t : Fin cfg0.N) (h : ¬t.val % 16 = 0) (i : S1024x512.Idx) :
    (show EReal from (outsAt0 m c t.val t.isLt).2.2.2.2.2.1 i)
      = (show EReal from (outsAt0 m c (t.val - 1) (Nat.lt_of_le_of_lt (Nat.sub_le _ _) t.isLt)).2.2.2.2.2.1 i) + dwqAt (args m c) t i := by
  idx_vars i
  rw [outsAt0_B m c t h]; frame_out
  obtain ⟨b, hb, e0, e1, e2, e3, e4, e5, e6, e7⟩ := point m c t
  simp only [e0, e1, e2, e3, e4, e5, e6, e7]
  exact pay117_at hb _ i0 i1

theorem final_dwq (c : Dev nD) : (dats m 0 c).arrAt 13 cfg0.N = fun i => dwq (args m c) (i 0) (i 1) := by
  refine (dats m 0 c).arrAt_eq_of_after_last 13 t0_15 (by decide +kernel) _ fun j => ?_
  idx_vars j
  blk_simp
  rw [after0_13]
  refine (Pipeline.eq_sum_fin_of_reset_step_apply_last (f := fun n h i => (show EReal from (outsAt0 m c n h).2.2.2.2.2.1 i)) 16 (fun _ => 0)
      (dwqAt (args m c)) (dwq_first m c) (dwq_next m c) (le_of_eq N_0) t0_15 rfl (ix2 j0 j1)).trans ?_
  rw [zero_add]
  exact sum_rows fun s => dwqTerm (args m c) s j0 j1

theorem dwo_first (c : Dev nD) (t : Fin cfg0.N) (h : t.val % 16 = 0) (i : S512x1024.Idx) :
    (show EReal from (outsAt0 m c t.val t.isLt).2.2.2.2.2.2 i) = 0 + dwoAt (args m c) t i := by
  idx_vars i
  rw [outsAt0_A m c t h]; frame_out
  obtain ⟨b, hb, e0, e1, e2, e3, e4, e5, e6, e7⟩ := point m c t
  simp only [e0, e1, e2, e3, e4, e5, e6, e7]
  refine (pay118_at hb _ i0 i1).trans ?_
  rw [dwoAt]; congr 1
  pointwise [k0_pay6]

theorem dwo_next (c : Dev nD) (t : Fin cfg0.N) (h : ¬t.val % 16 = 0) (i : S512x1024.Idx) :
    (show EReal from (outsAt0 m c t.val t.isLt).2.2.2.2.2.2 i)
      = (show EReal from (outsAt0 m c (t.val - 1) (Nat.lt_of_le_of_lt (Nat.sub_le _ _) t.isLt)).2.2.2.2.2.2 i) + dwoAt (args m c) t i := by
  idx_vars i
  rw [outsAt0_B m c t h]; frame_out
  obtain ⟨b, hb, e0, e1, e2, e3, e4, e5, e6, e7⟩ := point m c t
  simp only [e0, e1, e2, e3, e4, e5, e6, e7]
  exact pay118_at hb _ i0 i1

theorem final_dwo (c : Dev nD) : (dats m 0 c).arrAt 14 cfg0.N = fun i => dwo (args m c) (i 0) (i 1) := by
  refine (dats m 0 c).arrAt_eq_of_after_last 14 t0_15 (by decide +kernel) _ fun j => ?_
  idx_vars j
  blk_simp
  rw [after0_14]
  refine (Pipeline.eq_sum_fin_of_reset_step_apply_last (f := fun n h i => (show EReal from (outsAt0 m c n h).2.2.2.2.2.2 i)) 16 (fun _ => 0)
      (dwoAt (args m c)) (dwo_first m c) (dwo_next m c) (le_of_eq N_0) t0_15 rfl (ix2 j0 j1)).trans ?_
  rw [zero_add]
  exact sum_rows fun s => dwoTerm (args m c) s j0 j1

end Cert.Mem

end
-- ==== Proof.Mem.Reference.lean ====
/-
The reference's results, entry by entry.
-/
module

public import proofs.«01_k».proof.Proof.Mem.Closed
public import proofs.«01_k».proof.Proof.Fl.Entry
public import proofs.«01_k».proof.Proof.Gen.ReferenceMemIdeal.Read
public import Idealize.ShloMosaic.Lib.Pointwise

@[expose] public section

set_option maxRecDepth 16384

noncomputable section

namespace Cert.Mem

open Idealize.ShloMosaic Idealize.ShloMosaic.TcCoe Idealize.SL.Sem
open Cert.Rms Cert.Ffn Cert.Norm
open Cert.Fl (ofBits_neg_top)
open Cert.ReferenceMemIdeal.Read

variable (a : Args)

theorem ref_var (s : Fin 8192) : val_main_v6 (F := Ideal) a.x (ix2 s 0) = var (1 / 1024) (X a s) := by
  pointwise [val_main_v6, val_main_v5, val_main_v4, val_main_v3, val_main_v2, val_main_v1, val_main_v0, val_main_cst, val_main_cst_0, val_main_cst_1, X, var, ofBits_eps, ofBits_1024]
  rw [div_coe' _ (by norm_num)]
theorem ref_inv (s : Fin 8192) : val_main_v7 (F := Ideal) a.x (ix2 s 0) = rinv (1 / 1024) (X a s) := by
  pointwise [val_main_v7, ref_var, rinv]
theorem ref_rate (s : Fin 8192) : val_main_v10 (F := Ideal) a.x (ix2 s 0) = rate (1 / 1024) (X a s) := by
  pointwise [val_main_v10, val_main_v9, val_main_v8, val_main_cst_2, ref_inv, ref_var, rate, ofBits_neg_half]
theorem ref_hat (s : Fin 8192) (c : Fin 1024) : val_main_v12 (F := Ideal) a.x (ix2 s c) = hat a s c := by
  pointwise [val_main_v12, val_main_v11, ref_inv, hat, X]
theorem ref_h2 (s : Fin 8192) (c : Fin 1024) : val_main_v15 (F := Ideal) a.x a.man (ix2 s c) = h2 a s c := by
  pointwise [val_main_v15, val_main_v14, val_main_v13, ref_hat, h2]
theorem ref_q (s : Fin 8192) (h : Fin 4) (l : Fin 128) : val_main_v17 (F := Ideal) a.x a.man a.wq (ix3 s h l) = q a h s l := by
  pointwise [val_main_v17, val_main_v16, ref_h2, q, qa, colh]
theorem ref_qvar (s : Fin 8192) (h : Fin 4) : val_main_v24 (F := Ideal) a.x a.man a.wq (ix3 s h 0) = var (1 / 128) (q a h s) := by
  pointwise [val_main_v24, val_main_v23, val_main_v22, val_main_v21, val_main_v20, val_main_v19, val_main_v18, val_main_cst_3, val_main_cst_4, val_main_cst_5, ref_q, var, ofBits_eps, ofBits_128]
  rw [div_coe' _ (by norm_num)]
theorem ref_qinv (s : Fin 8192) (h : Fin 4) : val_main_v25 (F := Ideal) a.x a.man a.wq (ix3 s h 0) = rinv (1 / 128) (q a h s) := by
  pointwise [val_main_v25, ref_qvar, rinv]
theorem ref_qrate (s : Fin 8192) (h : Fin 4) : val_main_v28 (F := Ideal) a.x a.man a.wq (ix3 s h 0) = rate (1 / 128) (q a h s) := by
  pointwise [val_main_v28, val_main_v27, val_main_v26, val_main_cst_6, ref_qinv, ref_qvar, rate, ofBits_neg_half]
theorem ref_qhat (s : Fin 8192) (h : Fin 4) (l : Fin 128) : val_main_v30 (F := Ideal) a.x a.man a.wq (ix3 s h l) = qhat a h s l := by
  pointwise [val_main_v30, val_main_v29, ref_q, ref_qinv, qhat]
theorem ref_qg (s : Fin 8192) (h : Fin 4) (l : Fin 128) : val_main_v33 (F := Ideal) a.x a.man a.qn a.wq (ix3 s h l) = qg a h s l := by
  pointwise [val_main_v33, val_main_v32, val_main_v31, ref_qhat, qg]
theorem ref_k (t : Fin 256) (h : Fin 4) (l : Fin 128) : val_main_v34 (F := Ideal) a.k (ix3 t h l) = a.k (ix2 t (colh h l)) := by
  pointwise [val_main_v34, colh]
theorem ref_v (t : Fin 256) (h : Fin 4) (l : Fin 128) : val_main_v66 (F := Ideal) a.v (ix3 t h l) = a.v (ix2 t (colh h l)) := by
  pointwise [val_main_v66, colh]
theorem ref_sc (h : Fin 4) (s : Fin 8192) (t : Fin 256) : val_main_v37 (F := Ideal) a.x a.man a.qn a.k a.wq (ix3 h s t) = sc a h s t := by
  pointwise [val_main_v37, val_main_v36, val_main_v35, val_main_cst_7, ref_qg, ref_k, sc, scale]
theorem ref_fold (h : Fin 4) (s : Fin 8192) : val_main_v38 (F := Ideal) a.x a.man a.qn a.k a.wq (ix2 h s) = top a h s := by
  pointwise [val_main_v38, val_main_cst_8, ref_sc, top, ofBits_neg_top]
theorem ref_top (h : Fin 4) (s : Fin 8192) : val_main_v45 (F := Ideal) a.x a.man a.qn a.k a.wq (ix2 h s) = top a h s := by
  have h44 : val_main_v44 (F := Ideal) (ix2 h s) = (⊥ : EReal) := by
    pointwise [val_main_v44, val_main_cst_10, ofBits_neg_top]
  rw [val_main_v45_apply, h44, ref_fold]
  exact max_eq_right (a := (⊥ : EReal)) bot_le
theorem ref_pw (h : Fin 4) (s : Fin 8192) (t : Fin 256) : val_main_v58 (F := Ideal) a.x a.man a.qn a.k a.wq (ix3 h s t) = pw a h s t := by
  pointwise [val_main_v58, val_main_v57, val_main_v56, val_main_v55, ref_sc, ref_top, pw]
theorem ref_tot (h : Fin 4) (s : Fin 8192) : val_main_v60 (F := Ideal) a.x a.man a.qn a.k a.wq (ix3 h s 0) = tot a h s := by
  pointwise [val_main_v60, val_main_v59, val_main_cst_16, ref_pw, tot]
theorem ref_pr (h : Fin 4) (s : Fin 8192) (t : Fin 256) : val_main_v62 (F := Ideal) a.x a.man a.qn a.k a.wq (ix3 h s t) = pr a h s t := by
  pointwise [val_main_v62, val_main_v61, ref_pw, ref_tot, pr]
theorem ref_isq (h : Fin 4) (s : Fin 8192) : val_main_v65 (F := Ideal) a.x a.man a.qn a.k a.wq (ix3 h s 0) = isq a h s := by
  pointwise [val_main_v65, val_main_v64, val_main_v63, val_main_cst_17, ref_tot, isq, one]
theorem ref_om (s : Fin 8192) (j : Fin 512) : val_main_v69 (F := Ideal) a.x a.man a.qn a.k a.v a.wq (ix2 s j) = om a (hd j) s (ln j) := by
  pointwise [val_main_v69, val_main_v68, val_main_v67, ref_v, ref_pr, om, hd, ln]
  exact Finset.sum_congr rfl fun _ _ => mul_comm _ _
theorem ref_dwo (j : Fin 512) (c : Fin 1024) : val_main_v74 (F := Ideal) a.x a.g a.man a.qn a.k a.v a.wq (ix2 j c) = dwo a j c := by
  pointwise [val_main_v74, val_main_v73, val_main_v72, ref_om, dwo, dwoTerm]
  exact Finset.sum_congr rfl fun _ _ => mul_comm _ _
theorem ref_dom (s : Fin 8192) (h : Fin 4) (l : Fin 128) : val_main_v76 (F := Ideal) a.g a.wo (ix3 s h l) = dom a s (colh h l) := by
  pointwise [val_main_v76, val_main_v75, val_main_v72, dom, colh]
theorem ref_dp (h : Fin 4) (s : Fin 8192) (t : Fin 256) : val_main_v78 (F := Ideal) a.g a.v a.wo (ix3 h s t) = dp a h s t := by
  pointwise [val_main_v78, val_main_v77, ref_dom, ref_v, dp]
theorem ref_dv (t : Fin 256) (j : Fin 512) : val_main_v81 (F := Ideal) a.x a.g a.man a.qn a.k a.wq a.wo (ix2 t j) = dv a t j := by
  pointwise [val_main_v81, val_main_v80, val_main_v79, val_main_v77, ref_dom, ref_pr, dv, dvTerm, hd, ln]
  exact Finset.sum_congr rfl fun s _ => (congrArg (fun i => dom a s i * _) (colh_hd j)).trans (mul_comm _ _)
theorem ref_fall (h : Fin 4) (s : Fin 8192) : val_main_v90 (F := Ideal) a.x a.g a.man a.qn a.k a.v a.wq a.wo (ix2 h s) = fall a h s := by
  pointwise [val_main_v90, val_main_v87, val_main_v86, val_main_v85, val_main_v84, val_main_v83, val_main_v82, val_main_cst_18, val_main_cst_19, ref_dp, ref_isq, ref_pw, fall]
  simp only [Fin.sum_univ_one]
theorem ref_ds (h : Fin 4) (s : Fin 8192) (t : Fin 256) : val_main_v95 (F := Ideal) a.x a.g a.man a.qn a.k a.v a.wq a.wo (ix3 h s t) = ds a h s t := by
  pointwise [val_main_v95, val_main_v94, val_main_v93, val_main_v92, val_main_v91, val_main_v89, val_main_v88, val_main_cst_20, ref_dp, ref_tot, ref_fall, ref_pw, ds, scale]
theorem ref_dqn (s : Fin 8192) (h : Fin 4) (l : Fin 128) : val_main_v99 (F := Ideal) a.x a.g a.man a.qn a.k a.v a.wq a.wo (ix3 s h l) = dqn a h s l := by
  pointwise [val_main_v99, val_main_v98, ref_ds, ref_k, dqn]
theorem ref_dk (t : Fin 256) (j : Fin 512) : val_main_v100 (F := Ideal) a.x a.g a.man a.qn a.k a.v a.wq a.wo (ix2 t j) = dk a t j := by
  pointwise [val_main_v100, val_main_v97, val_main_v96, ref_ds, ref_qg, dk, dkTerm, hd, ln]
theorem ref_ct (s : Fin 8192) (h : Fin 4) (l : Fin 128) : val_main_v105 (F := Ideal) a.x a.g a.man a.qn a.k a.v a.wq a.wo (ix3 s h l) = ct a h s l := by
  pointwise [val_main_v105, val_main_v104, val_main_v31, ref_dqn, ct]
theorem ref_sum (l : Fin 128) : val_main_v102 (F := Ideal) a.x a.g a.man a.qn a.k a.v a.wq a.wo (ix1 l) = dmqn a l := by
  pointwise [val_main_v102, val_main_v101, val_main_cst_21, ref_qhat, ref_dqn, dmqn, dqnTerm, sum_two]
theorem ref_dmqn (l : Fin 128) : val_main_v147 (F := Ideal) a.x a.g a.man a.qn a.k a.v a.wq a.wo (ix2 0 l) = dmqn a l := by
  pointwise [val_main_v147, val_main_v106, val_main_v103, val_main_cst_22, ref_sum, sum_two]
  simp only [Fin.sum_univ_one]
theorem ref_through (s : Fin 8192) (h : Fin 4) : val_main_v115 (F := Ideal) a.x a.g a.man a.qn a.k a.v a.wq a.wo (ix2 s h) = through (1 / 128) (q a h s) (ct a h s) := by
  pointwise [val_main_v115, val_main_v114, val_main_v113, val_main_v112, val_main_v109, val_main_v108, val_main_v107, val_main_cst_23, val_main_cst_24, val_main_cst_25, ref_q, ref_ct, ref_qrate, through, ofBits_128]
  simp only [Fin.sum_univ_one, ref_qrate]
  rw [div_coe' _ (by norm_num)]
theorem ref_gh (s : Fin 8192) (h : Fin 4) (l : Fin 128) : val_main_v120 (F := Ideal) a.x a.g a.man a.qn a.k a.v a.wq a.wo (ix3 s h l) = gh a h s l := by
  pointwise [val_main_v120, val_main_v119, val_main_v118, val_main_v117, val_main_v116, val_main_v111, val_main_v110, ref_q, ref_ct, ref_qinv, ref_through, gh, grad]
theorem ref_gq (s : Fin 8192) (j : Fin 512) : val_main_v121 (F := Ideal) a.x a.g a.man a.qn a.k a.v a.wq a.wo (ix2 s j) = gq a s j := by
  pointwise [val_main_v121, ref_gh, gq, hd, ln]
theorem ref_dwq (c : Fin 1024) (j : Fin 512) : val_main_v123 (F := Ideal) a.x a.g a.man a.qn a.k a.v a.wq a.wo (ix2 c j) = dwq a c j := by
  pointwise [val_main_v123, val_main_v122, ref_gq, ref_h2, dwq, dwqTerm]
  exact Finset.sum_congr rfl fun _ _ => mul_comm _ _
theorem ref_dh2 (s : Fin 8192) (c : Fin 1024) : val_main_v124 (F := Ideal) a.x a.g a.man a.qn a.k a.v a.wq a.wo (ix2 s c) = dh2 a s c := by
  pointwise [val_main_v124, ref_gq, dh2]
theorem ref_dman (c : Fin 1024) : val_main_v146 (F := Ideal) a.x a.g a.man a.qn a.k a.v a.wq a.wo (ix2 0 c) = dman a c := by
  pointwise [val_main_v146, val_main_v130, val_main_v127, val_main_v126, val_main_v125, val_main_cst_26, val_main_cst_27, ref_hat, ref_dh2, dman, dmanTerm]
  simp only [Fin.sum_univ_one]
theorem ref_last (s : Fin 8192) : val_main_v140 (F := Ideal) a.x a.g a.man a.qn a.k a.v a.wq a.wo (ix1 s) = through (1 / 1024) (X a s) (fun c => dh2 a s c * a.man (ix1 c)) := by
  pointwise [val_main_v140, val_main_v139, val_main_v138, val_main_v137, val_main_v133, val_main_v132, val_main_v131, val_main_v129, val_main_v128, val_main_v13, val_main_cst_28, val_main_cst_29, val_main_cst_30, ref_dh2, ref_rate, through, X, ofBits_1024]
  simp only [Fin.sum_univ_one, ref_rate]
  rw [div_coe' _ (by norm_num)]
theorem ref_dx (s : Fin 8192) (c : Fin 1024) : val_main_v145 (F := Ideal) a.x a.g a.man a.qn a.k a.v a.wq a.wo (ix2 s c) = dx a s c := by
  pointwise [val_main_v145, val_main_v144, val_main_v143, val_main_v142, val_main_v141, val_main_v136, val_main_v135, val_main_v134, val_main_v129, val_main_v128, val_main_v13, ref_last, ref_inv, ref_dh2, dx, grad, X]
  simp only [add_assoc]

end Cert.Mem

end
-- ==== Proof.Mem.Claim.lean ====
/-
The claim of `_mem_bwd`: its seven results are the derivative of the memory attention with respect to the rows, both gains, the keys, the values
and both weights.
-/
module

public import proofs.«01_k».proof.Defs
public import proofs.«01_k».proof.Proof.Mem.Kernel
public import proofs.«01_k».proof.Proof.Mem.Reference
public import proofs.«01_k».proof.Proof.Gen.ReferenceMemIdeal.Run
public import Idealize.ShloMosaic.Lib.Claim

@[expose] public section

set_option maxRecDepth 16384

noncomputable section

namespace Cert.Mem

open Idealize.ShloMosaic Idealize.ShloMosaic.TcCoe Idealize.SL.Sem
open Cert.Rms Cert.Ffn Cert.Norm
open Cert.ReferenceMemIdeal.Read

/-- The reference's arguments on device `c`. -/
def refArgs (m : (ℓ : Loc Cert.ReferenceMemIdeal.nD Cert.ReferenceMemIdeal.τ Cert.ReferenceMemIdeal.sig) → Buf (Elt Ideal) ℓ) (c : Dev Cert.ReferenceMemIdeal.nD) : Args where
  x := m ((c.tc : Thread _ _).loc Cert.ReferenceMemIdeal.main_arg0)
  g := m ((c.tc : Thread _ _).loc Cert.ReferenceMemIdeal.main_arg1)
  man := m ((c.tc : Thread _ _).loc Cert.ReferenceMemIdeal.main_arg2)
  qn := m ((c.tc : Thread _ _).loc Cert.ReferenceMemIdeal.main_arg3)
  k := m ((c.tc : Thread _ _).loc Cert.ReferenceMemIdeal.main_arg4)
  v := m ((c.tc : Thread _ _).loc Cert.ReferenceMemIdeal.main_arg5)
  wq := m ((c.tc : Thread _ _).loc Cert.ReferenceMemIdeal.main_arg6)
  wo := m ((c.tc : Thread _ _).loc Cert.ReferenceMemIdeal.main_arg7)

theorem frame_reference : Cert.quiescent_ReferenceMemIdeal (hReferenceMemIdeal := Cert.ReferenceMemIdeal.Gen.facts) :=
  fun m ρ _ => (θ_run Cert.ReferenceMemIdeal.defs _ _).mono (fun r h => ⟨fun c => (h c).2.2.2.2.2.2.2, sem_eq_zero_of_no_sems (by decide) r.2⟩)
    (Cert.ReferenceMemIdeal.Value.run m ρ)

theorem algebraic : Cert.algebraic_KernelMemIdeal_ReferenceMemIdeal
    (hKernelMemIdeal := Cert.KernelMemIdeal.Gen.facts) (hReferenceMemIdeal := Cert.ReferenceMemIdeal.Gen.facts) := by
  intro m g m' g' _ h
  have ha : ∀ c, refArgs m' c = args m c := fun c => by
    obtain ⟨h0, h1, h2, h3, h4, h5, h6, h7⟩ := h c
    simp only [refArgs, args, h0, h1, h2, h3, h4, h5, h6, h7]
  refine ⟨fun c (i : Cert.KernelMemIdeal.S8192x1024.Idx) => dx (args m c) (i 0) (i 1),
    fun c (i : Cert.KernelMemIdeal.S1x1024.Idx) => dman (args m c) (i 1),
    fun c (i : Cert.KernelMemIdeal.S1x128.Idx) => dmqn (args m c) (i 1),
    fun c (i : Cert.KernelMemIdeal.S256x512.Idx) => dk (args m c) (i 0) (i 1),
    fun c (i : Cert.KernelMemIdeal.S256x512.Idx) => dv (args m c) (i 0) (i 1),
    fun c (i : Cert.KernelMemIdeal.S1024x512.Idx) => dwq (args m c) (i 0) (i 1),
    fun c (i : Cert.KernelMemIdeal.S512x1024.Idx) => dwo (args m c) (i 0) (i 1), ?_, ?_⟩
  · refine (θ_run _ _ _).mono (fun r hr c => ?_) (Cert.KernelMemIdeal.Value.run_blocks m g)
    obtain ⟨r0, r1, r2, r3, r4, r5, r6, hargs⟩ := hr c
    exact ⟨r0.trans (final_dx m c), r1.trans (final_dman m c), r2.trans (final_dmqn m c), r3.trans (final_dk m c), r4.trans (final_dv m c), r5.trans (final_dwq m c), r6.trans (final_dwo m c), hargs⟩
  · refine (θ_run _ _ _).mono (fun r hr c => ?_) (Cert.ReferenceMemIdeal.Value.run m' g')
    obtain ⟨r0, r1, r2, r3, r4, r5, r6, hargs⟩ := hr c
    refine ⟨r0.trans ?_, r1.trans ?_, r2.trans ?_, r3.trans ?_, r4.trans ?_, r5.trans ?_, r6.trans ?_, hargs⟩
    · refine (val_main_v145_eq ..).trans ?_
      funext i
      exact ((congrArg _ (eq_ix2 i)).trans (ref_dx (refArgs m' c) (i 0) (i 1))).trans (congrArg (fun a => dx a (i 0) (i 1)) (ha c))
    · refine (val_main_v146_eq ..).trans ?_
      funext i
      exact ((congrArg _ (eq_row i)).trans (ref_dman (refArgs m' c) (i 1))).trans (congrArg (fun a => dman a (i 1)) (ha c))
    · refine (val_main_v147_eq ..).trans ?_
      funext i
      exact ((congrArg _ (eq_row i)).trans (ref_dmqn (refArgs m' c) (i 1))).trans (congrArg (fun a => dmqn a (i 1)) (ha c))
    · refine (val_main_v100_eq ..).trans ?_
      funext i
      exact ((congrArg _ (eq_ix2 i)).trans (ref_dk (refArgs m' c) (i 0) (i 1))).trans (congrArg (fun a => dk a (i 0) (i 1)) (ha c))
    · refine (val_main_v81_eq ..).trans ?_
      funext i
      exact ((congrArg _ (eq_ix2 i)).trans (ref_dv (refArgs m' c) (i 0) (i 1))).trans (congrArg (fun a => dv a (i 0) (i 1)) (ha c))
    · refine (val_main_v123_eq ..).trans ?_
      funext i
      exact ((congrArg _ (eq_ix2 i)).trans (ref_dwq (refArgs m' c) (i 0) (i 1))).trans (congrArg (fun a => dwq a (i 0) (i 1)) (ha c))
    · refine (val_main_v74_eq ..).trans ?_
      funext i
      exact ((congrArg _ (eq_ix2 i)).trans (ref_dwo (refArgs m' c) (i 0) (i 1))).trans (congrArg (fun a => dwo a (i 0) (i 1)) (ha c))

end Cert.Mem

end
-- ==== Proof.Mef.Point.lean ====
/-
What one block of the memory attention computes: the body's values by name, and each of them read off at a row.
-/
module

public import proofs.«01_k».proof.Proof.Gen.KernelMefIdeal.Skeleton
public import proofs.«01_k».proof.Proof.Mem.Closed
public import proofs.«01_k».proof.Proof.Fl.Entry
public import Idealize.ShloMosaic.Lib.Pointwise

@[expose] public section

set_option maxRecDepth 16384

noncomputable section

namespace Cert.Mef

open Idealize.ShloMosaic Cert.KernelMefIdeal Cert.KernelMefIdeal.Gen Cert.Rms Cert.Ffn Cert.Norm Cert.Mem
open Cert.Fl (ofBits_neg_top)

/-- The layer's result: the row plus its heads' outputs through the output projection. -/
def out (a : Args) (s : Fin 8192) (c : Fin 1024) : EReal := X a s c + ∑ j : Fin 512, om a (hd j) s (ln j) * a.wo (ix2 j c)

/-- The blocks a grid point reads. -/
structure Blk where
  x : Vec Ideal S1024x1024 .f32
  man : Vec Ideal S1x1024 .f32
  qn : Vec Ideal S1x128 .f32
  k : Vec Ideal S256x512 .f32
  v : Vec Ideal S256x512 .f32
  wq : Vec Ideal S1024x512 .bf16
  wo : Vec Ideal S512x1024 .bf16

/-- They hold the arguments, the rows `s`. -/
structure Blocks (a : Args) (s : Fin 1024 → Fin 8192) (b : Blk) : Prop where
  x : ∀ r c, b.x (ix2 r c) = a.x (ix2 (s r) c)
  man : ∀ c, b.man (ix2 0 c) = a.man (ix1 c)
  qn : ∀ l, b.qn (ix2 0 l) = a.qn (ix1 l)
  k : ∀ t j, b.k (ix2 t j) = a.k (ix2 t j)
  v : ∀ t j, b.v (ix2 t j) = a.v (ix2 t j)
  wq : ∀ c j, b.wq (ix2 c j) = a.wq (ix2 c j)
  wo : ∀ j c, b.wo (ix2 j c) = a.wo (ix2 j c)

/-! ## The values the body passes on, numbered as it numbers them -/

section
variable (b : Blk)

def v4 := k0_pay2 b.qn
def v10 := k0_pay3 b.wo
def v26 := k0_pay4 b.x b.man b.wq
def v27 := k0_pay5 b.x b.man b.wq
def v36 := k0_pay6 b.x b.man b.wq
def v58 := k0_pay7 (v4 b) b.k b.v (v27 b) (v36 b)
def v82 := k0_pay8 (v4 b) b.k (v26 b)
def v84 := k0_pay9 (v4 b) b.k (v26 b)
def v90 := k0_pay10 b.v (v82 b) (v84 b)
def v122 := k0_pay11 (v4 b) b.k b.v (v26 b)
def v123 := k0_pay12 (v26 b)
def v132 := k0_pay13 (v26 b)

end

variable {a : Args} {s : Fin 1024 → Fin 8192} {b : Blk} (h : Blocks a s b)
include h

theorem v4_at (l : Fin 128) : v4 b (ix2 0 l) = a.qn (ix1 l) := by
  pointwise [v4, k0_pay2, h.qn]
theorem v10_at (j : Fin 512) (c : Fin 1024) : v10 b (ix2 j c) = a.wo (ix2 j c) := by
  pointwise [v10, k0_pay3, h.wo]
theorem v26_at (r : Fin 1024) (j : Fin 512) : v26 b (ix2 r j) = qa a (s r) j := by
  pointwise [v26, k0_pay4, h.x, h.man, h.wq, qa, h2, hat, rinv, var, X, ofBits_eps, ofBits_inv1024]

/-! ## Head 0 -/

theorem v27_at (r : Fin 1024) (l : Fin 128) : v27 b (ix2 r l) = q a 0 (s r) l := by
  have e := fun j => v26_at h r j
  unfold v26 at e
  pointwise [v27, k0_pay5, e, q, colh]
theorem v36_at (r : Fin 1024) (l : Fin 128) : v36 b (ix2 r l) = rinv (1 / 128) (q a 0 (s r)) := by
  have e := fun l => v27_at h r l
  unfold v27 at e
  pointwise [v36, k0_pay6, e, rinv, var, ofBits_eps, ofBits_inv128]
theorem v58_at (r : Fin 1024) (l : Fin 128) : v58 b (ix2 r l) = om a 0 (s r) l := by
  pointwise [v58, k0_pay7, v4_at h, v27_at h, v36_at h, h.k, h.v, om, pr, tot, pw, top, sc, scale, qg, qhat, colh, ofBits_neg_top]

/-! ## Head 1 -/

theorem v82_at (r : Fin 1024) (t : Fin 256) : v82 b (ix2 r t) = pw a 1 (s r) t := by
  pointwise [v82, k0_pay8, v4_at h, v26_at h, h.k, pw, top, sc, scale, qg, qhat, rinv, var, q, colh, ofBits_eps, ofBits_inv128, ofBits_neg_top]
theorem v84_at (r : Fin 1024) : v84 b (ix2 r 0) = tot a 1 (s r) := by
  have e := fun t => v82_at h r t
  unfold v82 at e
  pointwise [v84, k0_pay9, e, tot]
theorem v90_at (r : Fin 1024) (l : Fin 128) : v90 b (ix2 r l) = om a 1 (s r) l := by
  pointwise [v90, k0_pay10, v82_at h, v84_at h, h.v, om, pr, colh]

/-! ## Head 2 -/

theorem v122_at (r : Fin 1024) (l : Fin 128) : v122 b (ix2 r l) = om a 2 (s r) l := by
  pointwise [v122, k0_pay11, v4_at h, v26_at h, h.k, h.v, om, pr, tot, pw, top, sc, scale, qg, qhat, rinv, var, q, colh, ofBits_eps,
    ofBits_inv128, ofBits_neg_top]

/-! ## Head 3, and the heads' outputs through the projection -/

theorem v123_at (r : Fin 1024) (l : Fin 128) : v123 b (ix2 r l) = q a 3 (s r) l := by
  pointwise [v123, k0_pay12, v26_at h, q, colh]
theorem v132_at (r : Fin 1024) (l : Fin 128) : v132 b (ix2 r l) = rinv (1 / 128) (q a 3 (s r)) := by
  have e := fun l => v123_at h r l
  unfold v123 at e
  pointwise [v132, k0_pay13, e, rinv, var, ofBits_eps, ofBits_inv128]

omit h in
/-- The last head's steps, each in terms of the one before. -/
theorem head (a : Args) (s : Fin 8192) :
    (∀ l, om a 3 s l = ∑ t : Fin 256, pr a 3 s t * a.v (ix2 t (colh 3 l)))
    ∧ (∀ t, pr a 3 s t = Ideal.div (pw a 3 s t) (∑ t : Fin 256, pw a 3 s t))
    ∧ (∀ t, pw a 3 s t = Ideal.exp (sc a 3 s t - Finset.univ.fold max (⊥ : EReal) fun t : Fin 256 => sc a 3 s t))
    ∧ ∀ t, sc a 3 s t = (∑ l : Fin 128, q a 3 s l * rinv (1 / 128) (q a 3 s) * a.qn (ix1 l) * a.k (ix2 t (colh 3 l))) * scale :=
  ⟨fun _ => rfl, fun _ => rfl, fun _ => rfl, fun _ => rfl⟩

theorem pay1_at (r c : Fin 1024) :
    k0_pay1 b.x (v4 b) b.k b.v (v10 b) (v58 b) (v90 b) (v122 b) (v123 b) (v132 b) (ix2 r c) = out a (s r) c := by
  obtain ⟨e0, e1, e2, e3⟩ := head a (s r)
  have e : ∀ j : Fin 512, om a (hd j) (s r) (ln j) = _ := fun j => (beside (fun i l => om a i (s r) l) j).symm
  unfold out
  simp only [e]
  pointwise [k0_pay1, h.x, X, v4_at h, v10_at h, v58_at h, v90_at h, v122_at h, v123_at h, v132_at h, h.k, h.v, e0, e1, e2, e3, scale, colh,
    ofBits_neg_top]

end Cert.Mef

end
-- ==== Proof.Mef.Kernel.lean ====
/-
What the result holds after the run of `_mem_fwd`.
-/
module

public import proofs.«01_k».proof.Proof.Gen.KernelMefIdeal.Value
public import proofs.«01_k».proof.Proof.Mef.Point
public import Idealize.ShloMosaic.Lib.Pipeline.ReadBack
public import Idealize.ShloMosaic.Lib.Pipeline.ValueKit

@[expose] public section

set_option maxRecDepth 16384

noncomputable section

namespace Cert.Mef

open Idealize.ShloMosaic Idealize.ShloMosaic.TcCoe Idealize.SL.Sem
open Idealize.ShloMosaic.Pipeline (Dat)
open Cert.KernelMefIdeal Cert.KernelMefIdeal.Gen Cert.Rms Cert.Ffn Cert.Norm Cert.Mem

variable (m : (ℓ : Loc nD τ sig) → Buf (Elt Ideal) ℓ)

/-- The kernel's arguments on device `c`; there is no cotangent. -/
def args (c : Dev nD) : Args where
  x := m ((c : Thread nD τ).loc main_arg0)
  g := fun _ => 0
  man := m ((c : Thread nD τ).loc main_arg1)
  qn := m ((c : Thread nD τ).loc main_arg2)
  k := m ((c : Thread nD τ).loc main_arg3)
  v := m ((c : Thread nD τ).loc main_arg4)
  wq := m ((c : Thread nD τ).loc main_arg5)
  wo := m ((c : Thread nD τ).loc main_arg6)

theorem idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![0, 0] ∧ win0_6.index t = ![0, 0]
    ∧ win0_7.index t = ![t.val, 0] := (by decide +kernel : ∀ t : Fin grid0.N, _)

/-- Row `r` of grid point `t`'s block. -/
def row (t : Fin cfg0.N) (r : Fin 1024) : Fin 8192 := ⟨t.val * 1024 + r.val, by have := lt_of_lt_of_eq t.isLt N_0; omega⟩

/-- What the host hands over: the gains as rows, the weights. -/
theorem entry_man (c : Dev nD) (j : Fin 1024) : V m c main_v0 (ix2 0 j) = (args m c).man (ix1 j) := by
  unfold V; simp only [hostOps0]; after_results; pointwise [args]
theorem entry_qn (c : Dev nD) (l : Fin 128) : V m c main_v1 (ix2 0 l) = (args m c).qn (ix1 l) := by
  unfold V; simp only [hostOps0]; after_results; pointwise [args]
theorem entry_wq (c : Dev nD) (k : Fin 1024) (j : Fin 512) : V m c main_v2 (ix2 k j) = (args m c).wq (ix2 k j) := by
  unfold V; simp only [hostOps0]; after_results; pointwise [args]
theorem entry_wo (c : Dev nD) (j : Fin 512) (k : Fin 1024) : V m c main_v3 (ix2 j k) = (args m c).wo (ix2 j k) := by
  unfold V; simp only [hostOps0]; after_results; pointwise [args]

theorem blocks (c : Dev nD) (t : Fin cfg0.N) : Blocks (args m c) (row t)
    ⟨iblk m c 0 t, iblk m c 1 t, iblk m c 2 t, iblk m c 3 t, iblk m c 4 t, iblk m c 5 t, iblk m c 6 t⟩ where
  x r k := by show iblk m c 0 t (ix2 r k) = _; blk_point [iblk, V, args, row, idx t]
  man j := by rw [← entry_man m c j]; show iblk m c 1 t (ix2 0 j) = _; blk_point [iblk, idx t]
  qn j := by rw [← entry_qn m c j]; show iblk m c 2 t (ix2 0 j) = _; blk_point [iblk, idx t]
  k t' j := by show iblk m c 3 t (ix2 t' j) = _; blk_point [iblk, V, args, idx t]
  v t' j := by show iblk m c 4 t (ix2 t' j) = _; blk_point [iblk, V, args, idx t]
  wq k j := by rw [← entry_wq m c k j]; show iblk m c 5 t (ix2 k j) = _; blk_point [iblk, idx t]
  wo j k := by rw [← entry_wo m c j k]; show iblk m c 6 t (ix2 j k) = _; blk_point [iblk, idx t]

/-- … by name: a point's blocks, all at once. -/
theorem point (c : Dev nD) (t : Fin cfg0.N) : ∃ b : Blk, Blocks (args m c) (row t) b ∧ iblk m c 0 t = b.x ∧ iblk m c 1 t = b.man
    ∧ iblk m c 2 t = b.qn ∧ iblk m c 3 t = b.k ∧ iblk m c 4 t = b.v ∧ iblk m c 5 t = b.wq ∧ iblk m c 6 t = b.wo :=
  ⟨_, blocks m c t, rfl, rfl, rfl, rfl, rfl, rfl, rfl⟩

theorem emb7 (t : Fin cfg0.N) (y0 y1 : Fin 1024) : ((cfg0.win 7).blk t).view.emb (ix2 y0 y1) = ix2 (row t y0) y1 := by
  blk_ext [row, idx t]

/-- What a point leaves in the result's window. -/
theorem out_at {a : Args} {s : Fin 1024 → Fin 8192} {b : Blk} (h : Blocks a s b) (r c : Fin 1024) :
    out0_7 b.x b.man b.qn b.k b.v b.wq b.wo (ix2 r c) = out a (s r) c := by
  have e := pay1_at h r c
  simp only [v4, v10, v26, v27, v36, v58, v82, v84, v90, v122, v123, v132] at e
  unfold_out out0_7
  frame_out
  exact e

theorem final_out (c : Dev nD) : (dats m 0 c).arrAt 7 cfg0.N = fun i => out (args m c) (i 0) (i 1) := by
  refine (dats m 0 c).arrAt_eq_of_covers 7 _ (by decide +kernel) fun t _ y => ?_
  idx_vars y
  rw [emb7 t y0 y1]
  blk_simp
  rw [after0_7]
  obtain ⟨b, hb, e0, e1, e2, e3, e4, e5, e6⟩ := point m c t
  rw [e0, e1, e2, e3, e4, e5, e6]
  exact out_at hb y0 y1

end Cert.Mef

end
-- ==== Proof.Mef.Reference.lean ====
/-
The reference's result, entry by entry.
-/
module

public import proofs.«01_k».proof.Proof.Mef.Point
public import proofs.«01_k».proof.Proof.Gen.ReferenceMefIdeal.Read

@[expose] public section

set_option maxRecDepth 16384

noncomputable section

namespace Cert.Mef

open Idealize.ShloMosaic Idealize.ShloMosaic.TcCoe Idealize.SL.Sem
open Cert.Rms Cert.Ffn Cert.Norm Cert.Mem
open Cert.Fl (ofBits_neg_top)
open Cert.ReferenceMefIdeal.Read

variable (a : Args)

theorem ref_inv (s : Fin 8192) : val_main_v7 (F := Ideal) a.x (ix2 s 0) = rinv (1 / 1024) (X a s) := by
  pointwise [val_main_v7, val_main_v6, val_main_v5, val_main_v4, val_main_v3, val_main_v2, val_main_v1, val_main_v0, val_main_cst, val_main_cst_0,
    val_main_cst_1, X, rinv, var, ofBits_eps, ofBits_1024]
  rw [div_coe' _ (by norm_num)]
theorem ref_q (s : Fin 8192) (h : Fin 4) (l : Fin 128) : val_main_v14 (F := Ideal) a.x a.man a.wq (ix3 s h l) = q a h s l := by
  pointwise [val_main_v14, val_main_v13, val_main_v12, val_main_v11, val_main_v10, val_main_v9, val_main_v8, ref_inv, q, qa, h2, hat, X, colh]
theorem ref_qinv (s : Fin 8192) (h : Fin 4) : val_main_v22 (F := Ideal) a.x a.man a.wq (ix3 s h 0) = rinv (1 / 128) (q a h s) := by
  pointwise [val_main_v22, val_main_v21, val_main_v20, val_main_v19, val_main_v18, val_main_v17, val_main_v16, val_main_v15, val_main_cst_2,
    val_main_cst_3, val_main_cst_4, ref_q, rinv, var, ofBits_eps, ofBits_128]
  rw [div_coe' _ (by norm_num)]
theorem ref_qg (s : Fin 8192) (h : Fin 4) (l : Fin 128) : val_main_v27 (F := Ideal) a.x a.man a.qn a.wq (ix3 s h l) = qg a h s l := by
  pointwise [val_main_v27, val_main_v26, val_main_v25, val_main_v24, val_main_v23, ref_q, ref_qinv, qg, qhat]
theorem ref_sc (h : Fin 4) (s : Fin 8192) (t : Fin 256) : val_main_v31 (F := Ideal) a.x a.man a.qn a.k a.wq (ix3 h s t) = sc a h s t := by
  pointwise [val_main_v31, val_main_v30, val_main_v29, val_main_v28, val_main_cst_5, ref_qg, sc, scale, colh]
theorem ref_fold (h : Fin 4) (s : Fin 8192) : val_main_v32 (F := Ideal) a.x a.man a.qn a.k a.wq (ix2 h s) = top a h s := by
  pointwise [val_main_v32, val_main_cst_6, ref_sc, top, ofBits_neg_top]
theorem ref_top (h : Fin 4) (s : Fin 8192) : val_main_v34 (F := Ideal) a.x a.man a.qn a.k a.wq (ix2 h s) = top a h s := by
  have e : val_main_v33 (F := Ideal) (ix2 h s) = (⊥ : EReal) := by
    pointwise [val_main_v33, val_main_cst_7, ofBits_neg_top]
  rw [val_main_v34_apply, e, ref_fold]
  exact max_eq_right (a := (⊥ : EReal)) bot_le
theorem ref_pw (h : Fin 4) (s : Fin 8192) (t : Fin 256) : val_main_v38 (F := Ideal) a.x a.man a.qn a.k a.wq (ix3 h s t) = pw a h s t := by
  pointwise [val_main_v38, val_main_v37, val_main_v36, val_main_v35, ref_sc, ref_top, pw]
theorem ref_pr (h : Fin 4) (s : Fin 8192) (t : Fin 256) : val_main_v42 (F := Ideal) a.x a.man a.qn a.k a.wq (ix3 h s t) = pr a h s t := by
  pointwise [val_main_v42, val_main_v41, val_main_v40, val_main_v39, val_main_cst_8, ref_pw, pr, tot]
theorem ref_v (t : Fin 256) (h : Fin 4) (l : Fin 128) : val_main_v43 (F := Ideal) a.v (ix3 t h l) = a.v (ix2 t (colh h l)) := by
  pointwise [val_main_v43, colh]
theorem ref_om (s : Fin 8192) (j : Fin 512) : val_main_v46 (F := Ideal) a.x a.man a.qn a.k a.v a.wq (ix2 s j) = om a (hd j) s (ln j) := by
  pointwise [val_main_v46, val_main_v45, val_main_v44, ref_v, ref_pr, om, hd, ln]
  exact Finset.sum_congr rfl fun _ _ => mul_comm _ _
theorem ref_out (s : Fin 8192) (c : Fin 1024) : val_main_v48 (F := Ideal) a.x a.man a.qn a.k a.v a.wq a.wo (ix2 s c) = out a s c := by
  pointwise [val_main_v48, val_main_v47, ref_om, out, X]

end Cert.Mef

end
-- ==== Proof.Mef.Claim.lean ====
/-
The claim of `_mem_fwd`: its result is the memory attention.
-/
module

public import proofs.«01_k».proof.Defs
public import proofs.«01_k».proof.Proof.Mef.Kernel
public import proofs.«01_k».proof.Proof.Mef.Reference
public import proofs.«01_k».proof.Proof.Gen.ReferenceMefIdeal.Run
public import Idealize.ShloMosaic.Lib.Claim

@[expose] public section

set_option maxRecDepth 16384

noncomputable section

namespace Cert.Mef

open Idealize.ShloMosaic Idealize.ShloMosaic.TcCoe Idealize.SL.Sem
open Cert.Rms Cert.Ffn Cert.Norm Cert.Mem
open Cert.ReferenceMefIdeal.Read

/-- The reference's arguments on device `c`. -/
def refArgs (m : (ℓ : Loc Cert.ReferenceMefIdeal.nD Cert.ReferenceMefIdeal.τ Cert.ReferenceMefIdeal.sig) → Buf (Elt Ideal) ℓ) (c : Dev Cert.ReferenceMefIdeal.nD) : Args where
  x := m ((c.tc : Thread _ _).loc Cert.ReferenceMefIdeal.main_arg0)
  g := fun _ => 0
  man := m ((c.tc : Thread _ _).loc Cert.ReferenceMefIdeal.main_arg1)
  qn := m ((c.tc : Thread _ _).loc Cert.ReferenceMefIdeal.main_arg2)
  k := m ((c.tc : Thread _ _).loc Cert.ReferenceMefIdeal.main_arg3)
  v := m ((c.tc : Thread _ _).loc Cert.ReferenceMefIdeal.main_arg4)
  wq := m ((c.tc : Thread _ _).loc Cert.ReferenceMefIdeal.main_arg5)
  wo := m ((c.tc : Thread _ _).loc Cert.ReferenceMefIdeal.main_arg6)

theorem frame_reference : Cert.quiescent_ReferenceMefIdeal (hReferenceMefIdeal := Cert.ReferenceMefIdeal.Gen.facts) :=
  fun m ρ _ => (θ_run Cert.ReferenceMefIdeal.defs _ _).mono (fun r h => ⟨fun c => (h c).2, sem_eq_zero_of_no_sems (by decide) r.2⟩)
    (Cert.ReferenceMefIdeal.Value.run m ρ)

theorem algebraic : Cert.algebraic_KernelMefIdeal_ReferenceMefIdeal
    (hKernelMefIdeal := Cert.KernelMefIdeal.Gen.facts) (hReferenceMefIdeal := Cert.ReferenceMefIdeal.Gen.facts) := by
  intro m g m' g' _ h
  have ha : ∀ c, refArgs m' c = args m c := fun c => by
    obtain ⟨h0, h1, h2, h3, h4, h5, h6⟩ := h c
    simp only [refArgs, args, h0, h1, h2, h3, h4, h5, h6]
  refine ⟨fun c (i : Cert.KernelMefIdeal.S8192x1024.Idx) => out (args m c) (i 0) (i 1), ?_, ?_⟩
  · refine (θ_run _ _ _).mono (fun r hr c => ?_) (Cert.KernelMefIdeal.Value.run_blocks m g)
    obtain ⟨r0, hargs⟩ := hr c
    exact ⟨r0.trans (final_out m c), hargs⟩
  · refine (θ_run _ _ _).mono (fun r hr c => ?_) (Cert.ReferenceMefIdeal.Value.run m' g')
    obtain ⟨r0, hargs⟩ := hr c
    refine ⟨r0.trans ?_, hargs⟩
    · refine (val_main_v48_eq ..).trans ?_
      funext i
      exact ((congrArg _ (eq_ix2 i)).trans (ref_out (refArgs m' c) (i 0) (i 1))).trans (congrArg (fun a => out a (i 0) (i 1)) (ha c))

end Cert.Mef

end
-- ==== Proof.lean ====
module

public import proofs.«01_k».proof.Defs
public import proofs.«01_k».proof.Proof.Gen.KernelIn
public import proofs.«01_k».proof.Proof.Gen.KernelIn.Skeleton
public import proofs.«01_k».proof.Proof.Gen.KernelIn.Launch
public import proofs.«01_k».proof.Proof.Gen.KernelIn.Points
public import proofs.«01_k».proof.Proof.Gen.KernelIn.Frame
public import proofs.«01_k».proof.Proof.Gen.KernelInIdeal
public import proofs.«01_k».proof.Proof.Gen.KernelInIdeal.Skeleton
public import proofs.«01_k».proof.Proof.Gen.KernelInIdeal.Launch
public import proofs.«01_k».proof.Proof.Gen.KernelInIdeal.Points
public import proofs.«01_k».proof.Proof.Gen.KernelInIdeal.Frame
public import proofs.«01_k».proof.Proof.Gen.ReferenceInIdeal
public import proofs.«01_k».proof.Proof.Gen.KernelInIdeal.Value
public import proofs.«01_k».proof.Proof.Gen.ReferenceInIdeal.Run
public import proofs.«01_k».proof.Proof.Gen.ReferenceInIdeal.Read
public import proofs.«01_k».proof.Proof.In.Claim
public import proofs.«01_k».proof.Proof.Gen.KernelFl
public import proofs.«01_k».proof.Proof.Gen.KernelFl.Skeleton
public import proofs.«01_k».proof.Proof.Gen.KernelFl.Launch
public import proofs.«01_k».proof.Proof.Gen.KernelFl.Points
public import proofs.«01_k».proof.Proof.Gen.KernelFlIdeal
public import proofs.«01_k».proof.Proof.Gen.KernelFlIdeal.Skeleton
public import proofs.«01_k».proof.Proof.Gen.KernelFlIdeal.Launch
public import proofs.«01_k».proof.Proof.Gen.KernelFlIdeal.Points
public import proofs.«01_k».proof.Proof.Gen.ReferenceFlIdeal
public import proofs.«01_k».proof.Proof.Gen.ReferenceFlIdeal.Run
public import proofs.«01_k».proof.Proof.Gen.ReferenceFlIdeal.Read
public import proofs.«01_k».proof.Proof.Fl.Claim
public import proofs.«01_k».proof.Proof.Gen.Pre_finite_fl
public import proofs.«01_k».proof.Proof.Fl.FrameBits
public import proofs.«01_k».proof.Proof.Fl.Frame
public import proofs.«01_k».proof.Proof.Gen.KernelFw
public import proofs.«01_k».proof.Proof.Gen.KernelFw.Skeleton
public import proofs.«01_k».proof.Proof.Gen.KernelFw.Launch
public import proofs.«01_k».proof.Proof.Gen.KernelFw.Points
public import proofs.«01_k».proof.Proof.Gen.KernelFw.Frame
public import proofs.«01_k».proof.Proof.Gen.KernelFwIdeal
public import proofs.«01_k».proof.Proof.Gen.KernelFwIdeal.Skeleton
public import proofs.«01_k».proof.Proof.Gen.KernelFwIdeal.Launch
public import proofs.«01_k».proof.Proof.Gen.KernelFwIdeal.Points
public import proofs.«01_k».proof.Proof.Gen.KernelFwIdeal.Frame
public import proofs.«01_k».proof.Proof.Gen.ReferenceFwIdeal
public import proofs.«01_k».proof.Proof.Gen.KernelFwIdeal.Value
public import proofs.«01_k».proof.Proof.Gen.ReferenceFwIdeal.Run
public import proofs.«01_k».proof.Proof.Gen.ReferenceFwIdeal.Read
public import proofs.«01_k».proof.Proof.Fw.Claim
public import proofs.«01_k».proof.Proof.Gen.KernelFx
public import proofs.«01_k».proof.Proof.Gen.KernelFx.Skeleton
public import proofs.«01_k».proof.Proof.Gen.KernelFx.Launch
public import proofs.«01_k».proof.Proof.Gen.KernelFx.Points
public import proofs.«01_k».proof.Proof.Gen.KernelFx.Frame
public import proofs.«01_k».proof.Proof.Gen.KernelFxIdeal
public import proofs.«01_k».proof.Proof.Gen.KernelFxIdeal.Skeleton
public import proofs.«01_k».proof.Proof.Gen.KernelFxIdeal.Launch
public import proofs.«01_k».proof.Proof.Gen.KernelFxIdeal.Points
public import proofs.«01_k».proof.Proof.Gen.KernelFxIdeal.Frame
public import proofs.«01_k».proof.Proof.Gen.ReferenceFxIdeal
public import proofs.«01_k».proof.Proof.Gen.KernelFxIdeal.Value
public import proofs.«01_k».proof.Proof.Gen.ReferenceFxIdeal.Run
public import proofs.«01_k».proof.Proof.Gen.ReferenceFxIdeal.Read
public import proofs.«01_k».proof.Proof.Fx.Claim
public import proofs.«01_k».proof.Proof.Gen.KernelFd
public import proofs.«01_k».proof.Proof.Gen.KernelFd.Skeleton
public import proofs.«01_k».proof.Proof.Gen.KernelFd.Launch
public import proofs.«01_k».proof.Proof.Gen.KernelFd.Points
public import proofs.«01_k».proof.Proof.Gen.KernelFd.Frame
public import proofs.«01_k».proof.Proof.Gen.KernelFdIdeal
public import proofs.«01_k».proof.Proof.Gen.KernelFdIdeal.Skeleton
public import proofs.«01_k».proof.Proof.Gen.KernelFdIdeal.Launch
public import proofs.«01_k».proof.Proof.Gen.KernelFdIdeal.Points
public import proofs.«01_k».proof.Proof.Gen.KernelFdIdeal.Frame
public import proofs.«01_k».proof.Proof.Gen.ReferenceFdIdeal
public import proofs.«01_k».proof.Proof.Gen.KernelFdIdeal.Value
public import proofs.«01_k».proof.Proof.Gen.ReferenceFdIdeal.Run
public import proofs.«01_k».proof.Proof.Gen.ReferenceFdIdeal.Read
public import proofs.«01_k».proof.Proof.Fd.Claim
public import proofs.«01_k».proof.Proof.Gen.Pre_finite_fd
public import proofs.«01_k».proof.Proof.Gen.KernelMkv
public import proofs.«01_k».proof.Proof.Gen.KernelMkv.Skeleton
public import proofs.«01_k».proof.Proof.Gen.KernelMkv.Launch
public import proofs.«01_k».proof.Proof.Gen.KernelMkv.Points
public import proofs.«01_k».proof.Proof.Gen.KernelMkv.Frame
public import proofs.«01_k».proof.Proof.Gen.KernelMkvIdeal
public import proofs.«01_k».proof.Proof.Gen.KernelMkvIdeal.Skeleton
public import proofs.«01_k».proof.Proof.Gen.KernelMkvIdeal.Launch
public import proofs.«01_k».proof.Proof.Gen.KernelMkvIdeal.Points
public import proofs.«01_k».proof.Proof.Gen.KernelMkvIdeal.Frame
public import proofs.«01_k».proof.Proof.Gen.ReferenceMkvIdeal
public import proofs.«01_k».proof.Proof.Gen.KernelMkvIdeal.Value
public import proofs.«01_k».proof.Proof.Gen.ReferenceMkvIdeal.Run
public import proofs.«01_k».proof.Proof.Gen.ReferenceMkvIdeal.Read
public import proofs.«01_k».proof.Proof.Mkv.Claim
public import proofs.«01_k».proof.Proof.Gen.KernelMix
public import proofs.«01_k».proof.Proof.Gen.KernelMix.Skeleton
public import proofs.«01_k».proof.Proof.Gen.KernelMix.Launch
public import proofs.«01_k».proof.Proof.Gen.KernelMix.Points
public import proofs.«01_k».proof.Proof.Gen.KernelMix.Frame
public import proofs.«01_k».proof.Proof.Gen.KernelMixIdeal
public import proofs.«01_k».proof.Proof.Gen.KernelMixIdeal.Skeleton
public import proofs.«01_k».proof.Proof.Gen.KernelMixIdeal.Launch
public import proofs.«01_k».proof.Proof.Gen.KernelMixIdeal.Points
public import proofs.«01_k».proof.Proof.Gen.KernelMixIdeal.Frame
public import proofs.«01_k».proof.Proof.Gen.ReferenceMixIdeal
public import proofs.«01_k».proof.Proof.Gen.KernelMixIdeal.Value
public import proofs.«01_k».proof.Proof.Gen.ReferenceMixIdeal.Run
public import proofs.«01_k».proof.Proof.Gen.ReferenceMixIdeal.Read
public import proofs.«01_k».proof.Proof.Mix.Claim
public import proofs.«01_k».proof.Proof.Gen.KernelMem
public import proofs.«01_k».proof.Proof.Gen.KernelMem.Skeleton
public import proofs.«01_k».proof.Proof.Gen.KernelMem.Launch
public import proofs.«01_k».proof.Proof.Gen.KernelMem.Points
public import proofs.«01_k».proof.Proof.Gen.KernelMem.Frame
public import proofs.«01_k».proof.Proof.Gen.KernelMemIdeal
public import proofs.«01_k».proof.Proof.Gen.KernelMemIdeal.Skeleton
public import proofs.«01_k».proof.Proof.Gen.KernelMemIdeal.Launch
public import proofs.«01_k».proof.Proof.Gen.KernelMemIdeal.Points
public import proofs.«01_k».proof.Proof.Gen.KernelMemIdeal.Frame
public import proofs.«01_k».proof.Proof.Gen.ReferenceMemIdeal
public import proofs.«01_k».proof.Proof.Gen.KernelMemIdeal.Value
public import proofs.«01_k».proof.Proof.Gen.ReferenceMemIdeal.Run
public import proofs.«01_k».proof.Proof.Gen.ReferenceMemIdeal.Read
public import proofs.«01_k».proof.Proof.Mem.Claim
public import proofs.«01_k».proof.Proof.Gen.KernelMef
public import proofs.«01_k».proof.Proof.Gen.KernelMef.Skeleton
public import proofs.«01_k».proof.Proof.Gen.KernelMef.Launch
public import proofs.«01_k».proof.Proof.Gen.KernelMef.Points
public import proofs.«01_k».proof.Proof.Gen.KernelMef.Frame
public import proofs.«01_k».proof.Proof.Gen.KernelMefIdeal
public import proofs.«01_k».proof.Proof.Gen.KernelMefIdeal.Skeleton
public import proofs.«01_k».proof.Proof.Gen.KernelMefIdeal.Launch
public import proofs.«01_k».proof.Proof.Gen.KernelMefIdeal.Points
public import proofs.«01_k».proof.Proof.Gen.KernelMefIdeal.Frame
public import proofs.«01_k».proof.Proof.Gen.ReferenceMefIdeal
public import proofs.«01_k».proof.Proof.Gen.KernelMefIdeal.Value
public import proofs.«01_k».proof.Proof.Gen.ReferenceMefIdeal.Run
public import proofs.«01_k».proof.Proof.Gen.ReferenceMefIdeal.Read
public import proofs.«01_k».proof.Proof.Mef.Claim
public import Idealize.ShloMosaic.Adequacy
public import Idealize.ShloMosaic.Init

@[expose] public section

noncomputable section

namespace Cert.Proof

open Idealize.ShloMosaic Idealize.SL.Sem

/-- Every program's side conditions, then every program's frame, then per call: the ideal program is the kernel over
    the extended reals, and it computes the reference's results. -/
theorem claim : Cert.Claim := ⟨
  Cert.KernelIn.Gen.facts,
  Cert.KernelInIdeal.Gen.facts,
  Cert.ReferenceInIdeal.Gen.facts,
  Cert.KernelFl.Gen.facts,
  Cert.KernelFlIdeal.Gen.facts,
  Cert.ReferenceFlIdeal.Gen.facts,
  Cert.KernelFw.Gen.facts,
  Cert.KernelFwIdeal.Gen.facts,
  Cert.ReferenceFwIdeal.Gen.facts,
  Cert.KernelFx.Gen.facts,
  Cert.KernelFxIdeal.Gen.facts,
  Cert.ReferenceFxIdeal.Gen.facts,
  Cert.KernelFd.Gen.facts,
  Cert.KernelFdIdeal.Gen.facts,
  Cert.ReferenceFdIdeal.Gen.facts,
  Cert.KernelMkv.Gen.facts,
  Cert.KernelMkvIdeal.Gen.facts,
  Cert.ReferenceMkvIdeal.Gen.facts,
  Cert.KernelMix.Gen.facts,
  Cert.KernelMixIdeal.Gen.facts,
  Cert.ReferenceMixIdeal.Gen.facts,
  Cert.KernelMem.Gen.facts,
  Cert.KernelMemIdeal.Gen.facts,
  Cert.ReferenceMemIdeal.Gen.facts,
  Cert.KernelMef.Gen.facts,
  Cert.KernelMefIdeal.Gen.facts,
  Cert.ReferenceMefIdeal.Gen.facts,
  Cert.Pre_finite_fl.Gen.facts,
  Cert.Pre_finite_fd.Gen.facts,
  fun m ρ _ => Cert.KernelIn.Gen.frame m ρ,
  fun m ρ _ => Cert.KernelInIdeal.Gen.frame m ρ,
  Cert.In.frame_reference,
  fun m ρ _ => Cert.KernelFl.Hand.frame m ρ,
  fun m ρ _ => Cert.KernelFlIdeal.Hand.frame m ρ,
  fun m ρ _ => Cert.KernelFlIdeal.Hand.frame m ρ,
  Cert.Fl.frame_reference,
  fun m ρ _ => Cert.Fl.frame_reference m ρ trivial,
  fun m ρ _ => Cert.KernelFw.Gen.frame m ρ,
  fun m ρ _ => Cert.KernelFwIdeal.Gen.frame m ρ,
  Cert.Fw.frame_reference,
  fun m ρ _ => Cert.KernelFx.Gen.frame m ρ,
  fun m ρ _ => Cert.KernelFxIdeal.Gen.frame m ρ,
  Cert.Fx.frame_reference,
  fun m ρ _ => Cert.KernelFd.Gen.frame m ρ,
  fun m ρ _ => Cert.KernelFdIdeal.Gen.frame m ρ,
  fun m ρ _ => Cert.KernelFdIdeal.Gen.frame m ρ,
  Cert.Fd.frame_reference,
  fun m ρ _ => Cert.Fd.frame_reference m ρ trivial,
  fun m ρ _ => Cert.KernelMkv.Gen.frame m ρ,
  fun m ρ _ => Cert.KernelMkvIdeal.Gen.frame m ρ,
  Cert.Mkv.frame_reference,
  fun m ρ _ => Cert.KernelMix.Gen.frame m ρ,
  fun m ρ _ => Cert.KernelMixIdeal.Gen.frame m ρ,
  Cert.Mix.frame_reference,
  fun m ρ _ => Cert.KernelMem.Gen.frame m ρ,
  fun m ρ _ => Cert.KernelMemIdeal.Gen.frame m ρ,
  Cert.Mem.frame_reference,
  fun m ρ _ => Cert.KernelMef.Gen.frame m ρ,
  fun m ρ _ => Cert.KernelMefIdeal.Gen.frame m ρ,
  Cert.Mef.frame_reference,
  trivial, Cert.In.algebraic, IdealRules.named_const.statement _ _ _ _ _ rfl, Cert.Fl.algebraic, trivial, Cert.Fw.algebraic, trivial, Cert.Fx.algebraic, trivial, Cert.Fd.algebraic, trivial, Cert.Mkv.algebraic, trivial, Cert.Mix.algebraic, trivial, Cert.Mem.algebraic, trivial, Cert.Mef.algebraic⟩

end Cert.Proof

end
